-- ==== Defs.lean ====
def Pre_Kernel [hPre_segment_numbers : Cert.Pre_segment_numbers.Facts] (m : (ℓ : Loc Cert.Kernel.nD Cert.Kernel.τ Cert.Kernel.sig) → Buf (Elt Bits) ℓ) : Prop :=
  ∀ c : Dev Cert.Kernel.nD,
    (Cert.Pre_segment_numbers.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_segment_numbers : Cert.Pre_segment_numbers.Facts] (m : (ℓ : Loc Cert.KernelIdeal.nD Cert.KernelIdeal.τ Cert.KernelIdeal.sig) → Buf (Elt Ideal) ℓ) : Prop :=
  ∀ c : Dev Cert.KernelIdeal.nD,
    (Cert.Pre_segment_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_segment_numbers [hPre_segment_numbers : Cert.Pre_segment_numbers.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_segment_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Boundaries (m : (ℓ : Loc Cert.Boundaries.nD Cert.Boundaries.τ Cert.Boundaries.sig) → Buf (Elt Bits) ℓ) : Prop :=
  True

def Pre_BoundariesIdeal (m : (ℓ : Loc Cert.BoundariesIdeal.nD Cert.BoundariesIdeal.τ Cert.BoundariesIdeal.sig) → Buf (Elt Ideal) ℓ) : Prop :=
  True

def Pre_BoundariesReferenceIdeal (m : (ℓ : Loc Cert.BoundariesReferenceIdeal.nD Cert.BoundariesReferenceIdeal.τ Cert.BoundariesReferenceIdeal.sig) → Buf (Elt Ideal) ℓ) : Prop :=
  True

def Pre_Counts (m : (ℓ : Loc Cert.Counts.nD Cert.Counts.τ Cert.Counts.sig) → Buf (Elt Bits) ℓ) : Prop :=
  True

def Pre_CountsIdeal (m : (ℓ : Loc Cert.CountsIdeal.nD Cert.CountsIdeal.τ Cert.CountsIdeal.sig) → Buf (Elt Ideal) ℓ) : Prop :=
  True

def Pre_CountsReferenceIdeal (m : (ℓ : Loc Cert.CountsReferenceIdeal.nD Cert.CountsReferenceIdeal.τ Cert.CountsReferenceIdeal.sig) → Buf (Elt Ideal) ℓ) : Prop :=
  True

def quiescent_Kernel [hKernel : Cert.Kernel.Facts] [hPre_segment_numbers : Cert.Pre_segment_numbers.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_segment_numbers : Cert.Pre_segment_numbers.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_segment_numbers [hReferenceIdeal : Cert.ReferenceIdeal.Facts] [hPre_segment_numbers : Cert.Pre_segment_numbers.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_segment_numbers m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Boundaries [hBoundaries : Cert.Boundaries.Facts] : Prop :=
  ∀ (m : (ℓ : Loc Cert.Boundaries.nD Cert.Boundaries.τ Cert.Boundaries.sig) → Buf (Elt Bits) ℓ) (g : Dev Cert.Boundaries.nD → PrngReg), Pre_Boundaries m →
    θ_run (Cert.Boundaries.defs (F := Bits)) (onTc (τ := Cert.Boundaries.τ) (Cert.Boundaries.main (F := Bits))) ⟨m, fun _ => 0, g⟩ (fun r => (∀ c : Dev Cert.Boundaries.nD,
      r.2.mem ((c.tc : Thread Cert.Boundaries.nD Cert.Boundaries.τ).loc Cert.Boundaries.main_arg0) = m ((c.tc : Thread Cert.Boundaries.nD Cert.Boundaries.τ).loc Cert.Boundaries.main_arg0)
      ∧ r.2.mem ((c.tc : Thread Cert.Boundaries.nD Cert.Boundaries.τ).loc Cert.Boundaries.main_arg1) = m ((c.tc : Thread Cert.Boundaries.nD Cert.Boundaries.τ).loc Cert.Boundaries.main_arg1)
      ∧ r.2.mem ((c.tc : Thread Cert.Boundaries.nD Cert.Boundaries.τ).loc Cert.Boundaries.main_arg2) = m ((c.tc : Thread Cert.Boundaries.nD Cert.Boundaries.τ).loc Cert.Boundaries.main_arg2)
      ∧ r.2.mem ((c.tc : Thread Cert.Boundaries.nD Cert.Boundaries.τ).loc Cert.Boundaries.main_arg3) = m ((c.tc : Thread Cert.Boundaries.nD Cert.Boundaries.τ).loc Cert.Boundaries.main_arg3)
      ∧ r.2.mem ((c.tc : Thread Cert.Boundaries.nD Cert.Boundaries.τ).loc Cert.Boundaries.main_arg4) = m ((c.tc : Thread Cert.Boundaries.nD Cert.Boundaries.τ).loc Cert.Boundaries.main_arg4)
      ∧ r.2.mem ((c.tc : Thread Cert.Boundaries.nD Cert.Boundaries.τ).loc Cert.Boundaries.main_arg5) = m ((c.tc : Thread Cert.Boundaries.nD Cert.Boundaries.τ).loc Cert.Boundaries.main_arg5)
      ∧ r.2.mem ((c.tc : Thread Cert.Boundaries.nD Cert.Boundaries.τ).loc Cert.Boundaries.main_arg6) = m ((c.tc : Thread Cert.Boundaries.nD Cert.Boundaries.τ).loc Cert.Boundaries.main_arg6))
      ∧ r.2.sem = fun _ => 0)

def quiescent_BoundariesIdeal [hBoundariesIdeal : Cert.BoundariesIdeal.Facts] : Prop :=
  ∀ (m : (ℓ : Loc Cert.BoundariesIdeal.nD Cert.BoundariesIdeal.τ Cert.BoundariesIdeal.sig) → Buf (Elt Ideal) ℓ) (g : Dev Cert.BoundariesIdeal.nD → PrngReg), Pre_BoundariesIdeal m →
    θ_run (Cert.BoundariesIdeal.defs (F := Ideal)) (onTc (τ := Cert.BoundariesIdeal.τ) (Cert.BoundariesIdeal.main (F := Ideal))) ⟨m, fun _ => 0, g⟩ (fun r => (∀ c : Dev Cert.BoundariesIdeal.nD,
      r.2.mem ((c.tc : Thread Cert.BoundariesIdeal.nD Cert.BoundariesIdeal.τ).loc Cert.BoundariesIdeal.main_arg0) = m ((c.tc : Thread Cert.BoundariesIdeal.nD Cert.BoundariesIdeal.τ).loc Cert.BoundariesIdeal.main_arg0)
      ∧ r.2.mem ((c.tc : Thread Cert.BoundariesIdeal.nD Cert.BoundariesIdeal.τ).loc Cert.BoundariesIdeal.main_arg1) = m ((c.tc : Thread Cert.BoundariesIdeal.nD Cert.BoundariesIdeal.τ).loc Cert.BoundariesIdeal.main_arg1)
      ∧ r.2.mem ((c.tc : Thread Cert.BoundariesIdeal.nD Cert.BoundariesIdeal.τ).loc Cert.BoundariesIdeal.main_arg2) = m ((c.tc : Thread Cert.BoundariesIdeal.nD Cert.BoundariesIdeal.τ).loc Cert.BoundariesIdeal.main_arg2)
      ∧ r.2.mem ((c.tc : Thread Cert.BoundariesIdeal.nD Cert.BoundariesIdeal.τ).loc Cert.BoundariesIdeal.main_arg3) = m ((c.tc : Thread Cert.BoundariesIdeal.nD Cert.BoundariesIdeal.τ).loc Cert.BoundariesIdeal.main_arg3)
      ∧ r.2.mem ((c.tc : Thread Cert.BoundariesIdeal.nD Cert.BoundariesIdeal.τ).loc Cert.BoundariesIdeal.main_arg4) = m ((c.tc : Thread Cert.BoundariesIdeal.nD Cert.BoundariesIdeal.τ).loc Cert.BoundariesIdeal.main_arg4)
      ∧ r.2.mem ((c.tc : Thread Cert.BoundariesIdeal.nD Cert.BoundariesIdeal.τ).loc Cert.BoundariesIdeal.main_arg5) = m ((c.tc : Thread Cert.BoundariesIdeal.nD Cert.BoundariesIdeal.τ).loc Cert.BoundariesIdeal.main_arg5)
      ∧ r.2.mem ((c.tc : Thread Cert.BoundariesIdeal.nD Cert.BoundariesIdeal.τ).loc Cert.BoundariesIdeal.main_arg6) = m ((c.tc : Thread Cert.BoundariesIdeal.nD Cert.BoundariesIdeal.τ).loc Cert.BoundariesIdeal.main_arg6))
      ∧ r.2.sem = fun _ => 0)

def quiescent_BoundariesReferenceIdeal [hBoundariesReferenceIdeal : Cert.BoundariesReferenceIdeal.Facts] : Prop :=
  ∀ (m : (ℓ : Loc Cert.BoundariesReferenceIdeal.nD Cert.BoundariesReferenceIdeal.τ Cert.BoundariesReferenceIdeal.sig) → Buf (Elt Ideal) ℓ) (g : Dev Cert.BoundariesReferenceIdeal.nD → PrngReg), Pre_BoundariesReferenceIdeal m →
    θ_run (Cert.BoundariesReferenceIdeal.defs (F := Ideal)) (onTc (τ := Cert.BoundariesReferenceIdeal.τ) (Cert.BoundariesReferenceIdeal.main (F := Ideal))) ⟨m, fun _ => 0, g⟩ (fun r => (∀ c : Dev Cert.BoundariesReferenceIdeal.nD,
      r.2.mem ((c.tc : Thread Cert.BoundariesReferenceIdeal.nD Cert.BoundariesReferenceIdeal.τ).loc Cert.BoundariesReferenceIdeal.main_arg0) = m ((c.tc : Thread Cert.BoundariesReferenceIdeal.nD Cert.BoundariesReferenceIdeal.τ).loc Cert.BoundariesReferenceIdeal.main_arg0)
      ∧ r.2.mem ((c.tc : Thread Cert.BoundariesReferenceIdeal.nD Cert.BoundariesReferenceIdeal.τ).loc Cert.BoundariesReferenceIdeal.main_arg1) = m ((c.tc : Thread Cert.BoundariesReferenceIdeal.nD Cert.BoundariesReferenceIdeal.τ).loc Cert.BoundariesReferenceIdeal.main_arg1)
      ∧ r.2.mem ((c.tc : Thread Cert.BoundariesReferenceIdeal.nD Cert.BoundariesReferenceIdeal.τ).loc Cert.BoundariesReferenceIdeal.main_arg2) = m ((c.tc : Thread Cert.BoundariesReferenceIdeal.nD Cert.BoundariesReferenceIdeal.τ).loc Cert.BoundariesReferenceIdeal.main_arg2)
      ∧ r.2.mem ((c.tc : Thread Cert.BoundariesReferenceIdeal.nD Cert.BoundariesReferenceIdeal.τ).loc Cert.BoundariesReferenceIdeal.main_arg3) = m ((c.tc : Thread Cert.BoundariesReferenceIdeal.nD Cert.BoundariesReferenceIdeal.τ).loc Cert.BoundariesReferenceIdeal.main_arg3)
      ∧ r.2.mem ((c.tc : Thread Cert.BoundariesReferenceIdeal.nD Cert.BoundariesReferenceIdeal.τ).loc Cert.BoundariesReferenceIdeal.main_arg4) = m ((c.tc : Thread Cert.BoundariesReferenceIdeal.nD Cert.BoundariesReferenceIdeal.τ).loc Cert.BoundariesReferenceIdeal.main_arg4)
      ∧ r.2.mem ((c.tc : Thread Cert.BoundariesReferenceIdeal.nD Cert.BoundariesReferenceIdeal.τ).loc Cert.BoundariesReferenceIdeal.main_arg5) = m ((c.tc : Thread Cert.BoundariesReferenceIdeal.nD Cert.BoundariesReferenceIdeal.τ).loc Cert.BoundariesReferenceIdeal.main_arg5)
      ∧ r.2.mem ((c.tc : Thread Cert.BoundariesReferenceIdeal.nD Cert.BoundariesReferenceIdeal.τ).loc Cert.BoundariesReferenceIdeal.main_arg6) = m ((c.tc : Thread Cert.BoundariesReferenceIdeal.nD Cert.BoundariesReferenceIdeal.τ).loc Cert.BoundariesReferenceIdeal.main_arg6))
      ∧ r.2.sem = fun _ => 0)

def quiescent_Counts [hCounts : Cert.Counts.Facts] : Prop :=
  ∀ (m : (ℓ : Loc Cert.Counts.nD Cert.Counts.τ Cert.Counts.sig) → Buf (Elt Bits) ℓ) (g : Dev Cert.Counts.nD → PrngReg), Pre_Counts m →
    θ_run (Cert.Counts.defs (F := Bits)) (onTc (τ := Cert.Counts.τ) (Cert.Counts.main (F := Bits))) ⟨m, fun _ => 0, g⟩ (fun r => (∀ c : Dev Cert.Counts.nD,
      r.2.mem ((c.tc : Thread Cert.Counts.nD Cert.Counts.τ).loc Cert.Counts.main_arg0) = m ((c.tc : Thread Cert.Counts.nD Cert.Counts.τ).loc Cert.Counts.main_arg0)
      ∧ r.2.mem ((c.tc : Thread Cert.Counts.nD Cert.Counts.τ).loc Cert.Counts.main_arg1) = m ((c.tc : Thread Cert.Counts.nD Cert.Counts.τ).loc Cert.Counts.main_arg1)
      ∧ r.2.mem ((c.tc : Thread Cert.Counts.nD Cert.Counts.τ).loc Cert.Counts.main_arg2) = m ((c.tc : Thread Cert.Counts.nD Cert.Counts.τ).loc Cert.Counts.main_arg2))
      ∧ r.2.sem = fun _ => 0)

def quiescent_CountsIdeal [hCountsIdeal : Cert.CountsIdeal.Facts] : Prop :=
  ∀ (m : (ℓ : Loc Cert.CountsIdeal.nD Cert.CountsIdeal.τ Cert.CountsIdeal.sig) → Buf (Elt Ideal) ℓ) (g : Dev Cert.CountsIdeal.nD → PrngReg), Pre_CountsIdeal m →
    θ_run (Cert.CountsIdeal.defs (F := Ideal)) (onTc (τ := Cert.CountsIdeal.τ) (Cert.CountsIdeal.main (F := Ideal))) ⟨m, fun _ => 0, g⟩ (fun r => (∀ c : Dev Cert.CountsIdeal.nD,
      r.2.mem ((c.tc : Thread Cert.CountsIdeal.nD Cert.CountsIdeal.τ).loc Cert.CountsIdeal.main_arg0) = m ((c.tc : Thread Cert.CountsIdeal.nD Cert.CountsIdeal.τ).loc Cert.CountsIdeal.main_arg0)
      ∧ r.2.mem ((c.tc : Thread Cert.CountsIdeal.nD Cert.CountsIdeal.τ).loc Cert.CountsIdeal.main_arg1) = m ((c.tc : Thread Cert.CountsIdeal.nD Cert.CountsIdeal.τ).loc Cert.CountsIdeal.main_arg1)
      ∧ r.2.mem ((c.tc : Thread Cert.CountsIdeal.nD Cert.CountsIdeal.τ).loc Cert.CountsIdeal.main_arg2) = m ((c.tc : Thread Cert.CountsIdeal.nD Cert.CountsIdeal.τ).loc Cert.CountsIdeal.main_arg2))
      ∧ r.2.sem = fun _ => 0)

def quiescent_CountsReferenceIdeal [hCountsReferenceIdeal : Cert.CountsReferenceIdeal.Facts] : Prop :=
  ∀ (m : (ℓ : Loc Cert.CountsReferenceIdeal.nD Cert.CountsReferenceIdeal.τ Cert.CountsReferenceIdeal.sig) → Buf (Elt Ideal) ℓ) (g : Dev Cert.CountsReferenceIdeal.nD → PrngReg), Pre_CountsReferenceIdeal m →
    θ_run (Cert.CountsReferenceIdeal.defs (F := Ideal)) (onTc (τ := Cert.CountsReferenceIdeal.τ) (Cert.CountsReferenceIdeal.main (F := Ideal))) ⟨m, fun _ => 0, g⟩ (fun r => (∀ c : Dev Cert.CountsReferenceIdeal.nD,
      r.2.mem ((c.tc : Thread Cert.CountsReferenceIdeal.nD Cert.CountsReferenceIdeal.τ).loc Cert.CountsReferenceIdeal.main_arg0) = m ((c.tc : Thread Cert.CountsReferenceIdeal.nD Cert.CountsReferenceIdeal.τ).loc Cert.CountsReferenceIdeal.main_arg0)
      ∧ r.2.mem ((c.tc : Thread Cert.CountsReferenceIdeal.nD Cert.CountsReferenceIdeal.τ).loc Cert.CountsReferenceIdeal.main_arg1) = m ((c.tc : Thread Cert.CountsReferenceIdeal.nD Cert.CountsReferenceIdeal.τ).loc Cert.CountsReferenceIdeal.main_arg1)
      ∧ r.2.mem ((c.tc : Thread Cert.CountsReferenceIdeal.nD Cert.CountsReferenceIdeal.τ).loc Cert.CountsReferenceIdeal.main_arg2) = m ((c.tc : Thread Cert.CountsReferenceIdeal.nD Cert.CountsReferenceIdeal.τ).loc Cert.CountsReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_segment_numbers : Cert.Pre_segment_numbers.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Boundaries_BoundariesIdeal : Prop :=
  True

def algebraic_BoundariesIdeal_BoundariesReferenceIdeal [hBoundariesIdeal : Cert.BoundariesIdeal.Facts] [hBoundariesReferenceIdeal : Cert.BoundariesReferenceIdeal.Facts] : Prop :=
  ∀ (m : (ℓ : Loc Cert.BoundariesIdeal.nD Cert.BoundariesIdeal.τ Cert.BoundariesIdeal.sig) → Buf (Elt Ideal) ℓ) (g : Dev Cert.BoundariesIdeal.nD → PrngReg)
    (m' : (ℓ : Loc Cert.BoundariesReferenceIdeal.nD Cert.BoundariesReferenceIdeal.τ Cert.BoundariesReferenceIdeal.sig) → Buf (Elt Ideal) ℓ) (g' : Dev Cert.BoundariesReferenceIdeal.nD → PrngReg), Pre_BoundariesIdeal m →
    (∀ c : Dev Cert.BoundariesIdeal.nD,
      m' ((c.tc : Thread Cert.BoundariesReferenceIdeal.nD Cert.BoundariesReferenceIdeal.τ).loc Cert.BoundariesReferenceIdeal.main_arg0) = m ((c.tc : Thread Cert.BoundariesIdeal.nD Cert.BoundariesIdeal.τ).loc Cert.BoundariesIdeal.main_arg0)
      ∧ m' ((c.tc : Thread Cert.BoundariesReferenceIdeal.nD Cert.BoundariesReferenceIdeal.τ).loc Cert.BoundariesReferenceIdeal.main_arg1) = m ((c.tc : Thread Cert.BoundariesIdeal.nD Cert.BoundariesIdeal.τ).loc Cert.BoundariesIdeal.main_arg1)
      ∧ m' ((c.tc : Thread Cert.BoundariesReferenceIdeal.nD Cert.BoundariesReferenceIdeal.τ).loc Cert.BoundariesReferenceIdeal.main_arg2) = m ((c.tc : Thread Cert.BoundariesIdeal.nD Cert.BoundariesIdeal.τ).loc Cert.BoundariesIdeal.main_arg2)
      ∧ m' ((c.tc : Thread Cert.BoundariesReferenceIdeal.nD Cert.BoundariesReferenceIdeal.τ).loc Cert.BoundariesReferenceIdeal.main_arg3) = m ((c.tc : Thread Cert.BoundariesIdeal.nD Cert.BoundariesIdeal.τ).loc Cert.BoundariesIdeal.main_arg3)
      ∧ m' ((c.tc : Thread Cert.BoundariesReferenceIdeal.nD Cert.BoundariesReferenceIdeal.τ).loc Cert.BoundariesReferenceIdeal.main_arg4) = m ((c.tc : Thread Cert.BoundariesIdeal.nD Cert.BoundariesIdeal.τ).loc Cert.BoundariesIdeal.main_arg4)
      ∧ m' ((c.tc : Thread Cert.BoundariesReferenceIdeal.nD Cert.BoundariesReferenceIdeal.τ).loc Cert.BoundariesReferenceIdeal.main_arg5) = m ((c.tc : Thread Cert.BoundariesIdeal.nD Cert.BoundariesIdeal.τ).loc Cert.BoundariesIdeal.main_arg5)
      ∧ m' ((c.tc : Thread Cert.BoundariesReferenceIdeal.nD Cert.BoundariesReferenceIdeal.τ).loc Cert.BoundariesReferenceIdeal.main_arg6) = m ((c.tc : Thread Cert.BoundariesIdeal.nD Cert.BoundariesIdeal.τ).loc Cert.BoundariesIdeal.main_arg6)) →
    ∃ (v0 : (c : Dev Cert.BoundariesIdeal.nD) → Buf (Elt Ideal) ((c.tc : Thread Cert.BoundariesIdeal.nD Cert.BoundariesIdeal.τ).loc Cert.BoundariesIdeal.main_v5_0)) (v1 : (c : Dev Cert.BoundariesIdeal.nD) → Buf (Elt Ideal) ((c.tc : Thread Cert.BoundariesIdeal.nD Cert.BoundariesIdeal.τ).loc Cert.BoundariesIdeal.main_v5_1)),
      θ_run (Cert.BoundariesIdeal.defs (F := Ideal)) (onTc (τ := Cert.BoundariesIdeal.τ) (Cert.BoundariesIdeal.main (F := Ideal))) ⟨m, fun _ => 0, g⟩ (fun r => ∀ c : Dev Cert.BoundariesIdeal.nD,
          r.2.mem ((c.tc : Thread Cert.BoundariesIdeal.nD Cert.BoundariesIdeal.τ).loc Cert.BoundariesIdeal.main_v5_0) = v0 c
          ∧ r.2.mem ((c.tc : Thread Cert.BoundariesIdeal.nD Cert.BoundariesIdeal.τ).loc Cert.BoundariesIdeal.main_v5_1) = v1 c
          ∧ r.2.mem ((c.tc : Thread Cert.BoundariesIdeal.nD Cert.BoundariesIdeal.τ).loc Cert.BoundariesIdeal.main_arg0) = m ((c.tc : Thread Cert.BoundariesIdeal.nD Cert.BoundariesIdeal.τ).loc Cert.BoundariesIdeal.main_arg0)
          ∧ r.2.mem ((c.tc : Thread Cert.BoundariesIdeal.nD Cert.BoundariesIdeal.τ).loc Cert.BoundariesIdeal.main_arg1) = m ((c.tc : Thread Cert.BoundariesIdeal.nD Cert.BoundariesIdeal.τ).loc Cert.BoundariesIdeal.main_arg1)
          ∧ r.2.mem ((c.tc : Thread Cert.BoundariesIdeal.nD Cert.BoundariesIdeal.τ).loc Cert.BoundariesIdeal.main_arg2) = m ((c.tc : Thread Cert.BoundariesIdeal.nD Cert.BoundariesIdeal.τ).loc Cert.BoundariesIdeal.main_arg2)
          ∧ r.2.mem ((c.tc : Thread Cert.BoundariesIdeal.nD Cert.BoundariesIdeal.τ).loc Cert.BoundariesIdeal.main_arg3) = m ((c.tc : Thread Cert.BoundariesIdeal.nD Cert.BoundariesIdeal.τ).loc Cert.BoundariesIdeal.main_arg3)
          ∧ r.2.mem ((c.tc : Thread Cert.BoundariesIdeal.nD Cert.BoundariesIdeal.τ).loc Cert.BoundariesIdeal.main_arg4) = m ((c.tc : Thread Cert.BoundariesIdeal.nD Cert.BoundariesIdeal.τ).loc Cert.BoundariesIdeal.main_arg4)
          ∧ r.2.mem ((c.tc : Thread Cert.BoundariesIdeal.nD Cert.BoundariesIdeal.τ).loc Cert.BoundariesIdeal.main_arg5) = m ((c.tc : Thread Cert.BoundariesIdeal.nD Cert.BoundariesIdeal.τ).loc Cert.BoundariesIdeal.main_arg5)
          ∧ r.2.mem ((c.tc : Thread Cert.BoundariesIdeal.nD Cert.BoundariesIdeal.τ).loc Cert.BoundariesIdeal.main_arg6) = m ((c.tc : Thread Cert.BoundariesIdeal.nD Cert.BoundariesIdeal.τ).loc Cert.BoundariesIdeal.main_arg6))
      ∧ θ_run (Cert.BoundariesReferenceIdeal.defs (F := Ideal)) (onTc (τ := Cert.BoundariesReferenceIdeal.τ) (Cert.BoundariesReferenceIdeal.main (F := Ideal))) ⟨m', fun _ => 0, g'⟩ (fun r => ∀ c : Dev Cert.BoundariesReferenceIdeal.nD,
          r.2.mem ((c.tc : Thread Cert.BoundariesReferenceIdeal.nD Cert.BoundariesReferenceIdeal.τ).loc Cert.BoundariesReferenceIdeal.main_v33) = v0 c
          ∧ r.2.mem ((c.tc : Thread Cert.BoundariesReferenceIdeal.nD Cert.BoundariesReferenceIdeal.τ).loc Cert.BoundariesReferenceIdeal.main_v35) = v1 c
          ∧ r.2.mem ((c.tc : Thread Cert.BoundariesReferenceIdeal.nD Cert.BoundariesReferenceIdeal.τ).loc Cert.BoundariesReferenceIdeal.main_arg0) = m' ((c.tc : Thread Cert.BoundariesReferenceIdeal.nD Cert.BoundariesReferenceIdeal.τ).loc Cert.BoundariesReferenceIdeal.main_arg0)
          ∧ r.2.mem ((c.tc : Thread Cert.BoundariesReferenceIdeal.nD Cert.BoundariesReferenceIdeal.τ).loc Cert.BoundariesReferenceIdeal.main_arg1) = m' ((c.tc : Thread Cert.BoundariesReferenceIdeal.nD Cert.BoundariesReferenceIdeal.τ).loc Cert.BoundariesReferenceIdeal.main_arg1)
          ∧ r.2.mem ((c.tc : Thread Cert.BoundariesReferenceIdeal.nD Cert.BoundariesReferenceIdeal.τ).loc Cert.BoundariesReferenceIdeal.main_arg2) = m' ((c.tc : Thread Cert.BoundariesReferenceIdeal.nD Cert.BoundariesReferenceIdeal.τ).loc Cert.BoundariesReferenceIdeal.main_arg2)
          ∧ r.2.mem ((c.tc : Thread Cert.BoundariesReferenceIdeal.nD Cert.BoundariesReferenceIdeal.τ).loc Cert.BoundariesReferenceIdeal.main_arg3) = m' ((c.tc : Thread Cert.BoundariesReferenceIdeal.nD Cert.BoundariesReferenceIdeal.τ).loc Cert.BoundariesReferenceIdeal.main_arg3)
          ∧ r.2.mem ((c.tc : Thread Cert.BoundariesReferenceIdeal.nD Cert.BoundariesReferenceIdeal.τ).loc Cert.BoundariesReferenceIdeal.main_arg4) = m' ((c.tc : Thread Cert.BoundariesReferenceIdeal.nD Cert.BoundariesReferenceIdeal.τ).loc Cert.BoundariesReferenceIdeal.main_arg4)
          ∧ r.2.mem ((c.tc : Thread Cert.BoundariesReferenceIdeal.nD Cert.BoundariesReferenceIdeal.τ).loc Cert.BoundariesReferenceIdeal.main_arg5) = m' ((c.tc : Thread Cert.BoundariesReferenceIdeal.nD Cert.BoundariesReferenceIdeal.τ).loc Cert.BoundariesReferenceIdeal.main_arg5)
          ∧ r.2.mem ((c.tc : Thread Cert.BoundariesReferenceIdeal.nD Cert.BoundariesReferenceIdeal.τ).loc Cert.BoundariesReferenceIdeal.main_arg6) = m' ((c.tc : Thread Cert.BoundariesReferenceIdeal.nD Cert.BoundariesReferenceIdeal.τ).loc Cert.BoundariesReferenceIdeal.main_arg6))

def preserves_Counts_CountsIdeal : Prop :=
  True

def algebraic_CountsIdeal_CountsReferenceIdeal [hCountsIdeal : Cert.CountsIdeal.Facts] [hCountsReferenceIdeal : Cert.CountsReferenceIdeal.Facts] : Prop :=
  ∀ (m : (ℓ : Loc Cert.CountsIdeal.nD Cert.CountsIdeal.τ Cert.CountsIdeal.sig) → Buf (Elt Ideal) ℓ) (g : Dev Cert.CountsIdeal.nD → PrngReg)
    (m' : (ℓ : Loc Cert.CountsReferenceIdeal.nD Cert.CountsReferenceIdeal.τ Cert.CountsReferenceIdeal.sig) → Buf (Elt Ideal) ℓ) (g' : Dev Cert.CountsReferenceIdeal.nD → PrngReg), Pre_CountsIdeal m →
    (∀ c : Dev Cert.CountsIdeal.nD,
      m' ((c.tc : Thread Cert.CountsReferenceIdeal.nD Cert.CountsReferenceIdeal.τ).loc Cert.CountsReferenceIdeal.main_arg0) = m ((c.tc : Thread Cert.CountsIdeal.nD Cert.CountsIdeal.τ).loc Cert.CountsIdeal.main_arg0)
      ∧ m' ((c.tc : Thread Cert.CountsReferenceIdeal.nD Cert.CountsReferenceIdeal.τ).loc Cert.CountsReferenceIdeal.main_arg1) = m ((c.tc : Thread Cert.CountsIdeal.nD Cert.CountsIdeal.τ).loc Cert.CountsIdeal.main_arg1)
      ∧ m' ((c.tc : Thread Cert.CountsReferenceIdeal.nD Cert.CountsReferenceIdeal.τ).loc Cert.CountsReferenceIdeal.main_arg2) = m ((c.tc : Thread Cert.CountsIdeal.nD Cert.CountsIdeal.τ).loc Cert.CountsIdeal.main_arg2)) →
    ∃ (v0 : (c : Dev Cert.CountsIdeal.nD) → Buf (Elt Ideal) ((c.tc : Thread Cert.CountsIdeal.nD Cert.CountsIdeal.τ).loc Cert.CountsIdeal.main_v2_1)) (v1 : (c : Dev Cert.CountsIdeal.nD) → Buf (Elt Ideal) ((c.tc : Thread Cert.CountsIdeal.nD Cert.CountsIdeal.τ).loc Cert.CountsIdeal.main_v2_2)) (v2 : (c : Dev Cert.CountsIdeal.nD) → Buf (Elt Ideal) ((c.tc : Thread Cert.CountsIdeal.nD Cert.CountsIdeal.τ).loc Cert.CountsIdeal.main_v2_3)),
      θ_run (Cert.CountsIdeal.defs (F := Ideal)) (onTc (τ := Cert.CountsIdeal.τ) (Cert.CountsIdeal.main (F := Ideal))) ⟨m, fun _ => 0, g⟩ (fun r => ∀ c : Dev Cert.CountsIdeal.nD,
          r.2.mem ((c.tc : Thread Cert.CountsIdeal.nD Cert.CountsIdeal.τ).loc Cert.CountsIdeal.main_v2_1) = v0 c
          ∧ r.2.mem ((c.tc : Thread Cert.CountsIdeal.nD Cert.CountsIdeal.τ).loc Cert.CountsIdeal.main_v2_2) = v1 c
          ∧ r.2.mem ((c.tc : Thread Cert.CountsIdeal.nD Cert.CountsIdeal.τ).loc Cert.CountsIdeal.main_v2_3) = v2 c
          ∧ r.2.mem ((c.tc : Thread Cert.CountsIdeal.nD Cert.CountsIdeal.τ).loc Cert.CountsIdeal.main_arg0) = m ((c.tc : Thread Cert.CountsIdeal.nD Cert.CountsIdeal.τ).loc Cert.CountsIdeal.main_arg0)
          ∧ r.2.mem ((c.tc : Thread Cert.CountsIdeal.nD Cert.CountsIdeal.τ).loc Cert.CountsIdeal.main_arg1) = m ((c.tc : Thread Cert.CountsIdeal.nD Cert.CountsIdeal.τ).loc Cert.CountsIdeal.main_arg1)
          ∧ r.2.mem ((c.tc : Thread Cert.CountsIdeal.nD Cert.CountsIdeal.τ).loc Cert.CountsIdeal.main_arg2) = m ((c.tc : Thread Cert.CountsIdeal.nD Cert.CountsIdeal.τ).loc Cert.CountsIdeal.main_arg2))
      ∧ θ_run (Cert.CountsReferenceIdeal.defs (F := Ideal)) (onTc (τ := Cert.CountsReferenceIdeal.τ) (Cert.CountsReferenceIdeal.main (F := Ideal))) ⟨m', fun _ => 0, g'⟩ (fun r => ∀ c : Dev Cert.CountsReferenceIdeal.nD,
          r.2.mem ((c.tc : Thread Cert.CountsReferenceIdeal.nD Cert.CountsReferenceIdeal.τ).loc Cert.CountsReferenceIdeal.main_v11) = v0 c
          ∧ r.2.mem ((c.tc : Thread Cert.CountsReferenceIdeal.nD Cert.CountsReferenceIdeal.τ).loc Cert.CountsReferenceIdeal.main_v12) = v1 c
          ∧ r.2.mem ((c.tc : Thread Cert.CountsReferenceIdeal.nD Cert.CountsReferenceIdeal.τ).loc Cert.CountsReferenceIdeal.main_v8) = v2 c
          ∧ r.2.mem ((c.tc : Thread Cert.CountsReferenceIdeal.nD Cert.CountsReferenceIdeal.τ).loc Cert.CountsReferenceIdeal.main_arg0) = m' ((c.tc : Thread Cert.CountsReferenceIdeal.nD Cert.CountsReferenceIdeal.τ).loc Cert.CountsReferenceIdeal.main_arg0)
          ∧ r.2.mem ((c.tc : Thread Cert.CountsReferenceIdeal.nD Cert.CountsReferenceIdeal.τ).loc Cert.CountsReferenceIdeal.main_arg1) = m' ((c.tc : Thread Cert.CountsReferenceIdeal.nD Cert.CountsReferenceIdeal.τ).loc Cert.CountsReferenceIdeal.main_arg1)
          ∧ r.2.mem ((c.tc : Thread Cert.CountsReferenceIdeal.nD Cert.CountsReferenceIdeal.τ).loc Cert.CountsReferenceIdeal.main_arg2) = m' ((c.tc : Thread Cert.CountsReferenceIdeal.nD Cert.CountsReferenceIdeal.τ).loc Cert.CountsReferenceIdeal.main_arg2))

def Claim : Prop :=
  ∃ (hKernel : Cert.Kernel.Facts) (hKernelIdeal : Cert.KernelIdeal.Facts) (hReferenceIdeal : Cert.ReferenceIdeal.Facts) (hBoundaries : Cert.Boundaries.Facts) (hBoundariesIdeal : Cert.BoundariesIdeal.Facts) (hBoundariesReferenceIdeal : Cert.BoundariesReferenceIdeal.Facts) (hCounts : Cert.Counts.Facts) (hCountsIdeal : Cert.CountsIdeal.Facts) (hCountsReferenceIdeal : Cert.CountsReferenceIdeal.Facts) (hPre_segment_numbers : Cert.Pre_segment_numbers.Facts),
    quiescent_Kernel (hKernel := hKernel) (hPre_segment_numbers := hPre_segment_numbers)
    ∧ quiescent_KernelIdeal (hKernelIdeal := hKernelIdeal) (hPre_segment_numbers := hPre_segment_numbers)
    ∧ quiescent_ReferenceIdeal (hReferenceIdeal := hReferenceIdeal)
    ∧ quiescent_ReferenceIdeal_pre_segment_numbers (hReferenceIdeal := hReferenceIdeal) (hPre_segment_numbers := hPre_segment_numbers)
    ∧ quiescent_Boundaries (hBoundaries := hBoundaries)
    ∧ quiescent_BoundariesIdeal (hBoundariesIdeal := hBoundariesIdeal)
    ∧ quiescent_BoundariesReferenceIdeal (hBoundariesReferenceIdeal := hBoundariesReferenceIdeal)
    ∧ quiescent_Counts (hCounts := hCounts)
    ∧ quiescent_CountsIdeal (hCountsIdeal := hCountsIdeal)
    ∧ quiescent_CountsReferenceIdeal (hCountsReferenceIdeal := hCountsReferenceIdeal)
    ∧ preserves_Kernel_KernelIdeal
    ∧ algebraic_KernelIdeal_ReferenceIdeal (hKernelIdeal := hKernelIdeal) (hReferenceIdeal := hReferenceIdeal) (hPre_segment_numbers := hPre_segment_numbers)
    ∧ preserves_Boundaries_BoundariesIdeal
    ∧ algebraic_BoundariesIdeal_BoundariesReferenceIdeal (hBoundariesIdeal := hBoundariesIdeal) (hBoundariesReferenceIdeal := hBoundariesReferenceIdeal)
    ∧ preserves_Counts_CountsIdeal
    ∧ algebraic_CountsIdeal_CountsReferenceIdeal (hCountsIdeal := hCountsIdeal) (hCountsReferenceIdeal := hCountsReferenceIdeal)
-- ==== Pre_segment_numbers.lean ====
abbrev S8x2048x512 : Shape := ⟨3, ![8, 2048, 512]⟩
abbrev S8x2048 : Shape := ⟨2, ![8, 2048]⟩
abbrev S8x2047 : Shape := ⟨2, ![8, 2047]⟩
abbrev S8x1 : Shape := ⟨2, ![8, 1]⟩
abbrev S8 : Shape := ⟨1, ![8]⟩
abbrev S_ : Shape := ⟨0, ![]⟩

class Facts : Prop where
  slices_S8x2048_S8x2047_0_1 : S8x2048.Slices ![0, 1] S8x2047
  slices_S8x2048_S8x2047_0_0 : S8x2048.Slices ![0, 0] S8x2047
  slices_S8x2048_S8x1_0_0 : S8x2048.Slices ![0, 0] S8x1
  shapeCasts_S8x1_S8 : S8x1.ShapeCasts S8
  bcast_S_S8 : S_.BroadcastsInDim S8 (![] : Fin 0 → Fin S8.rank)
  reducesTo_S8_S_d0 : S8.ReducesTo [0] S_
  h_S_ : 0 < S_.numel
  bcast_S_S8x2047 : S_.BroadcastsInDim S8x2047 (![] : Fin 0 → Fin S8x2047.rank)
  reducesTo_S8x2047_S_d0_1 : S8x2047.ReducesTo [0, 1] S_

variable [Facts]

def fn {F : FTy → Type} [FloatOps F] (main_arg0 : FVec F S8x2048x512 .f32) (main_arg1 : IVec S8x2048 32) : IVec S_ 1 :=
  let main_v0 : IVec S8x2047 32 := (extractStridedSlice S8x2047 ![0, 1] · slices_S8x2048_S8x2047_0_1) main_arg1
  let main_v1 : IVec S8x2047 32 := (extractStridedSlice S8x2047 ![0, 0] · slices_S8x2048_S8x2047_0_0) main_arg1
  let main_v2 : IVec S8x2047 32 := subi main_v0 main_v1
  let main_v3 : IVec S8x1 32 := (extractStridedSlice S8x1 ![0, 0] · slices_S8x2048_S8x1_0_0) main_arg1
  let main_v4 : IVec S8 32 := shapeCast S8 main_v3 shapeCasts_S8x1_S8
  let main_c : IVec S_ 32 := constantI S_ 32 0#32
  let main_v5 : IVec S8 32 := broadcastInDim S8 ![] bcast_S_S8 main_c
  let main_v6 : IVec S8 1 := cmpi .eq main_v4 main_v5
  let main_c_0 : IVec S_ 1 := constantI S_ 1 1#1
  let main_v7 : IVec S_ 1 := (fun x v => Host.reduce IntOp.andi x v reducesTo_S8_S_d0 h_S_) main_v6 main_c_0
  let main_c_1 : IVec S_ 32 := constantI S_ 32 0#32
  let main_v8 : IVec S8x2047 32 := broadcastInDim S8x2047 ![] bcast_S_S8x2047 main_c_1
  let main_v9 : IVec S8x2047 1 := cmpi .eq main_v2 main_v8
  let main_c_2 : IVec S_ 32 := constantI S_ 32 1#32
  let main_v10 : IVec S8x2047 32 := broadcastInDim S8x2047 ![] bcast_S_S8x2047 main_c_2
  let main_v11 : IVec S8x2047 1 := cmpi .eq main_v2 main_v10
  let main_v12 : IVec S8x2047 1 := ori main_v9 main_v11
  let main_c_3 : IVec S_ 1 := constantI S_ 1 1#1
  let main_v13 : IVec S_ 1 := (fun x v => Host.reduce IntOp.andi x v reducesTo_S8x2047_S_d0_1 h_S_) main_v12 main_c_3
  let main_v14 : IVec S_ 1 := andi main_v7 main_v13
  main_v14
-- ==== Kernel.lean ====
abbrev S8x2048x512 : Shape := ⟨3, ![8, 2048, 512]⟩
abbrev S8x2048 : Shape := ⟨2, ![8, 2048]⟩
abbrev S16384x512 : Shape := ⟨2, ![16384, 512]⟩
abbrev S16384 : Shape := ⟨1, ![16384]⟩
abbrev S2064 : Shape := ⟨1, ![2064]⟩
abbrev S2x32x512 : Shape := ⟨3, ![2, 32, 512]⟩
abbrev S128x512 : Shape := ⟨2, ![128, 512]⟩
abbrev S128x16 : Shape := ⟨2, ![128, 16]⟩
abbrev S_ : Shape := ⟨0, ![]⟩
abbrev S2048 : Shape := ⟨1, ![2048]⟩
abbrev S16 : Shape := ⟨1, ![16]⟩
abbrev S1 : Shape := ⟨1, ![1]⟩
abbrev S1x16 : Shape := ⟨2, ![1, 16]⟩
abbrev S1x32x512 : Shape := ⟨3, ![1, 32, 512]⟩
abbrev S32x512 : Shape := ⟨2, ![32, 512]⟩
abbrev S1x1x16 : Shape := ⟨3, ![1, 1, 16]⟩

abbrev nBuf : Table → Nat
  | .hbm => 6
  | .local .scVector .vmem => 4
  | _ => 0

abbrev bufTy : (tb : Table) → Fin (nBuf tb) → BufTy
  | .hbm, ⟨0, _⟩ => ⟨S8x2048x512, .f32⟩
  | .hbm, ⟨1, _⟩ => ⟨S8x2048, .i32⟩
  | .hbm, ⟨2, _⟩ => ⟨S16384x512, .f32⟩
  | .hbm, ⟨3, _⟩ => ⟨S16384, .i32⟩
  | .hbm, ⟨4, _⟩ => ⟨S16384x512, .f32⟩
  | .hbm, ⟨5, _⟩ => ⟨S8x2048x512, .f32⟩
  | .local .scVector .vmem, ⟨0, _⟩ => ⟨S2064, .i32⟩
  | .local .scVector .vmem, ⟨1, _⟩ => ⟨S2x32x512, .f32⟩
  | .local .scVector .vmem, ⟨2, _⟩ => ⟨S128x512, .f32⟩
  | .local .scVector .vmem, ⟨3, _⟩ => ⟨S128x16, .f32⟩
  | _, _ => ⟨S8x2048x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2048_i32 : BitVec 32 := 2048#32
  let v12 : BitVec 32 := Scalar.muli v11 c2048_i32
  ![v12.toNat]
@[reducible] def k0_t1_loop : Scf.Loop 32 :=
  let c0_i32_4 : BitVec 32 := 0#32
  let c4_i32 : BitVec 32 := 4#32
  let v19 : BitVec 32 := Scalar.addi c0_i32_4 c4_i32
  let c1_i32_5 : BitVec 32 := 1#32
  ⟨c0_i32_4, v19, c1_i32_5⟩
@[reducible] def k0_t2_loop : Scf.Loop 32 :=
  let c0_i32_25 : BitVec 32 := 0#32
  let c128_i32_26 : BitVec 32 := 128#32
  let v58 : BitVec 32 := Scalar.subi c128_i32_26 c0_i32_25
  let c1_i32_28 : BitVec 32 := 1#32
  let v60 : BitVec 32 := Scalar.divsi v58 c1_i32_28
  let v61 : BitVec 32 := Scalar.muli v60 c1_i32_28
  let v62 : BitVec 32 := Scalar.addi c0_i32_25 v61
  let c1_i32_29 : BitVec 32 := 1#32
  ⟨c0_i32_25, v62, c1_i32_29⟩
def k0_off2 (k0_t2 : Fin k0_t2_loop.trips) : Fin 2 → Nat :=
  let c0_i32_25 : BitVec 32 := 0#32
  let c1_i32_29 : BitVec 32 := 1#32
  let arg13 : BitVec 32 := Scf.iv c0_i32_25 c1_i32_29 k0_t2
  let v66 : Index := Scalar.indexCast arg13
  let c0 : Index := 0#32
  ![v66.toNat, 0]
def k0_off3 (k0_t2 : Fin k0_t2_loop.trips) : Fin 2 → Nat :=
  let c0_i32_25 : BitVec 32 := 0#32
  let c1_i32_29 : BitVec 32 := 1#32
  let arg13 : BitVec 32 := Scf.iv c0_i32_25 c1_i32_29 k0_t2
  let v71 : Index := Scalar.indexCast arg13
  let c16 : Index := 16#32
  ![v71.toNat, 16]
def k0_off4 (k0_t2 : Fin k0_t2_loop.trips) : Fin 2 → Nat :=
  let c0_i32_25 : BitVec 32 := 0#32
  let c1_i32_29 : BitVec 32 := 1#32
  let arg13 : BitVec 32 := Scf.iv c0_i32_25 c1_i32_29 k0_t2
  let v76 : Index := Scalar.indexCast arg13
  let c32 : Index := 32#32
  ![v76.toNat, 32]
def k0_off5 (k0_t2 : Fin k0_t2_loop.trips) : Fin 2 → Nat :=
  let c0_i32_25 : BitVec 32 := 0#32
  let c1_i32_29 : BitVec 32 := 1#32
  let arg13 : BitVec 32 := Scf.iv c0_i32_25 c1_i32_29 k0_t2
  let v81 : Index := Scalar.indexCast arg13
  let c48 : Index := 48#32
  ![v81.toNat, 48]
def k0_off6 (k0_t2 : Fin k0_t2_loop.trips) : Fin 2 → Nat :=
  let c0_i32_25 : BitVec 32 := 0#32
  let c1_i32_29 : BitVec 32 := 1#32
  let arg13 : BitVec 32 := Scf.iv c0_i32_25 c1_i32_29 k0_t2
  let v86 : Index := Scalar.indexCast arg13
  let c64 : Index := 64#32
  ![v86.toNat, 64]
def k0_off7 (k0_t2 : Fin k0_t2_loop.trips) : Fin 2 → Nat :=
  let c0_i32_25 : BitVec 32 := 0#32
  let c1_i32_29 : BitVec 32 := 1#32
  let arg13 : BitVec 32 := Scf.iv c0_i32_25 c1_i32_29 k0_t2
  let v91 : Index := Scalar.indexCast arg13
  let c80 : Index := 80#32
  ![v91.toNat, 80]
def k0_off8 (k0_t2 : Fin k0_t2_loop.trips) : Fin 2 → Nat :=
  let c0_i32_25 : BitVec 32 := 0#32
  let c1_i32_29 : BitVec 32 := 1#32
  let arg13 : BitVec 32 := Scf.iv c0_i32_25 c1_i32_29 k0_t2
  let v96 : Index := Scalar.indexCast arg13
  let c96 : Index := 96#32
  ![v96.toNat, 96]
def k0_off9 (k0_t2 : Fin k0_t2_loop.trips) : Fin 2 → Nat :=
  let c0_i32_25 : BitVec 32 := 0#32
  let c1_i32_29 : BitVec 32 := 1#32
  let arg13 : BitVec 32 := Scf.iv c0_i32_25 c1_i32_29 k0_t2
  let v101 : Index := Scalar.indexCast arg13
  let c112 : Index := 112#32
  ![v101.toNat, 112]
def k0_off10 (k0_t2 : Fin k0_t2_loop.trips) : Fin 2 → Nat :=
  let c0_i32_25 : BitVec 32 := 0#32
  let c1_i32_29 : BitVec 32 := 1#32
  let arg13 : BitVec 32 := Scf.iv c0_i32_25 c1_i32_29 k0_t2
  let v106 : Index := Scalar.indexCast arg13
  let c128 : Index := 128#32
  ![v106.toNat, 128]
def k0_off11 (k0_t2 : Fin k0_t2_loop.trips) : Fin 2 → Nat :=
  let c0_i32_25 : BitVec 32 := 0#32
  let c1_i32_29 : BitVec 32 := 1#32
  let arg13 : BitVec 32 := Scf.iv c0_i32_25 c1_i32_29 k0_t2
  let v111 : Index := Scalar.indexCast arg13
  let c144 : Index := 144#32
  ![v111.toNat, 144]
def k0_off12 (k0_t2 : Fin k0_t2_loop.trips) : Fin 2 → Nat :=
  let c0_i32_25 : BitVec 32 := 0#32
  let c1_i32_29 : BitVec 32 := 1#32
  let arg13 : BitVec 32 := Scf.iv c0_i32_25 c1_i32_29 k0_t2
  let v116 : Index := Scalar.indexCast arg13
  let c160 : Index := 160#32
  ![v116.toNat, 160]
def k0_off13 (k0_t2 : Fin k0_t2_loop.trips) : Fin 2 → Nat :=
  let c0_i32_25 : BitVec 32 := 0#32
  let c1_i32_29 : BitVec 32 := 1#32
  let arg13 : BitVec 32 := Scf.iv c0_i32_25 c1_i32_29 k0_t2
  let v121 : Index := Scalar.indexCast arg13
  let c176 : Index := 176#32
  ![v121.toNat, 176]
def k0_off14 (k0_t2 : Fin k0_t2_loop.trips) : Fin 2 → Nat :=
  let c0_i32_25 : BitVec 32 := 0#32
  let c1_i32_29 : BitVec 32 := 1#32
  let arg13 : BitVec 32 := Scf.iv c0_i32_25 c1_i32_29 k0_t2
  let v126 : Index := Scalar.indexCast arg13
  let c192 : Index := 192#32
  ![v126.toNat, 192]
def k0_off15 (k0_t2 : Fin k0_t2_loop.trips) : Fin 2 → Nat :=
  let c0_i32_25 : BitVec 32 := 0#32
  let c1_i32_29 : BitVec 32 := 1#32
  let arg13 : BitVec 32 := Scf.iv c0_i32_25 c1_i32_29 k0_t2
  let v131 : Index := Scalar.indexCast arg13
  let c208 : Index := 208#32
  ![v131.toNat, 208]
def k0_off16 (k0_t2 : Fin k0_t2_loop.trips) : Fin 2 → Nat :=
  let c0_i32_25 : BitVec 32 := 0#32
  let c1_i32_29 : BitVec 32 := 1#32
  let arg13 : BitVec 32 := Scf.iv c0_i32_25 c1_i32_29 k0_t2
  let v136 : Index := Scalar.indexCast arg13
  let c224 : Index := 224#32
  ![v136.toNat, 224]
def k0_off17 (k0_t2 : Fin k0_t2_loop.trips) : Fin 2 → Nat :=
  let c0_i32_25 : BitVec 32 := 0#32
  let c1_i32_29 : BitVec 32 := 1#32
  let arg13 : BitVec 32 := Scf.iv c0_i32_25 c1_i32_29 k0_t2
  let v141 : Index := Scalar.indexCast arg13
  let c240 : Index := 240#32
  ![v141.toNat, 240]
def k0_off18 (k0_t2 : Fin k0_t2_loop.trips) : Fin 2 → Nat :=
  let c0_i32_25 : BitVec 32 := 0#32
  let c1_i32_29 : BitVec 32 := 1#32
  let arg13 : BitVec 32 := Scf.iv c0_i32_25 c1_i32_29 k0_t2
  let v146 : Index := Scalar.indexCast arg13
  let c256 : Index := 256#32
  ![v146.toNat, 256]
def k0_off19 (k0_t2 : Fin k0_t2_loop.trips) : Fin 2 → Nat :=
  let c0_i32_25 : BitVec 32 := 0#32
  let c1_i32_29 : BitVec 32 := 1#32
  let arg13 : BitVec 32 := Scf.iv c0_i32_25 c1_i32_29 k0_t2
  let v151 : Index := Scalar.indexCast arg13
  let c272 : Index := 272#32
  ![v151.toNat, 272]
def k0_off20 (k0_t2 : Fin k0_t2_loop.trips) : Fin 2 → Nat :=
  let c0_i32_25 : BitVec 32 := 0#32
  let c1_i32_29 : BitVec 32 := 1#32
  let arg13 : BitVec 32 := Scf.iv c0_i32_25 c1_i32_29 k0_t2
  let v156 : Index := Scalar.indexCast arg13
  let c288 : Index := 288#32
  ![v156.toNat, 288]
def k0_off21 (k0_t2 : Fin k0_t2_loop.trips) : Fin 2 → Nat :=
  let c0_i32_25 : BitVec 32 := 0#32
  let c1_i32_29 : BitVec 32 := 1#32
  let arg13 : BitVec 32 := Scf.iv c0_i32_25 c1_i32_29 k0_t2
  let v161 : Index := Scalar.indexCast arg13
  let c304 : Index := 304#32
  ![v161.toNat, 304]
def k0_off22 (k0_t2 : Fin k0_t2_loop.trips) : Fin 2 → Nat :=
  let c0_i32_25 : BitVec 32 := 0#32
  let c1_i32_29 : BitVec 32 := 1#32
  let arg13 : BitVec 32 := Scf.iv c0_i32_25 c1_i32_29 k0_t2
  let v166 : Index := Scalar.indexCast arg13
  let c320 : Index := 320#32
  ![v166.toNat, 320]
def k0_off23 (k0_t2 : Fin k0_t2_loop.trips) : Fin 2 → Nat :=
  let c0_i32_25 : BitVec 32 := 0#32
  let c1_i32_29 : BitVec 32 := 1#32
  let arg13 : BitVec 32 := Scf.iv c0_i32_25 c1_i32_29 k0_t2
  let v171 : Index := Scalar.indexCast arg13
  let c336 : Index := 336#32
  ![v171.toNat, 336]
def k0_off24 (k0_t2 : Fin k0_t2_loop.trips) : Fin 2 → Nat :=
  let c0_i32_25 : BitVec 32 := 0#32
  let c1_i32_29 : BitVec 32 := 1#32
  let arg13 : BitVec 32 := Scf.iv c0_i32_25 c1_i32_29 k0_t2
  let v176 : Index := Scalar.indexCast arg13
  let c352 : Index := 352#32
  ![v176.toNat, 352]
def k0_off25 (k0_t2 : Fin k0_t2_loop.trips) : Fin 2 → Nat :=
  let c0_i32_25 : BitVec 32 := 0#32
  let c1_i32_29 : BitVec 32 := 1#32
  let arg13 : BitVec 32 := Scf.iv c0_i32_25 c1_i32_29 k0_t2
  let v181 : Index := Scalar.indexCast arg13
  let c368 : Index := 368#32
  ![v181.toNat, 368]
def k0_off26 (k0_t2 : Fin k0_t2_loop.trips) : Fin 2 → Nat :=
  let c0_i32_25 : BitVec 32 := 0#32
  let c1_i32_29 : BitVec 32 := 1#32
  let arg13 : BitVec 32 := Scf.iv c0_i32_25 c1_i32_29 k0_t2
  let v186 : Index := Scalar.indexCast arg13
  let c384 : Index := 384#32
  ![v186.toNat, 384]
def k0_off27 (k0_t2 : Fin k0_t2_loop.trips) : Fin 2 → Nat :=
  let c0_i32_25 : BitVec 32 := 0#32
  let c1_i32_29 : BitVec 32 := 1#32
  let arg13 : BitVec 32 := Scf.iv c0_i32_25 c1_i32_29 k0_t2
  let v191 : Index := Scalar.indexCast arg13
  let c400 : Index := 400#32
  ![v191.toNat, 400]
def k0_off28 (k0_t2 : Fin k0_t2_loop.trips) : Fin 2 → Nat :=
  let c0_i32_25 : BitVec 32 := 0#32
  let c1_i32_29 : BitVec 32 := 1#32
  let arg13 : BitVec 32 := Scf.iv c0_i32_25 c1_i32_29 k0_t2
  let v196 : Index := Scalar.indexCast arg13
  let c416 : Index := 416#32
  ![v196.toNat, 416]
def k0_off29 (k0_t2 : Fin k0_t2_loop.trips) : Fin 2 → Nat :=
  let c0_i32_25 : BitVec 32 := 0#32
  let c1_i32_29 : BitVec 32 := 1#32
  let arg13 : BitVec 32 := Scf.iv c0_i32_25 c1_i32_29 k0_t2
  let v201 : Index := Scalar.indexCast arg13
  let c432 : Index := 432#32
  ![v201.toNat, 432]
def k0_off30 (k0_t2 : Fin k0_t2_loop.trips) : Fin 2 → Nat :=
  let c0_i32_25 : BitVec 32 := 0#32
  let c1_i32_29 : BitVec 32 := 1#32
  let arg13 : BitVec 32 := Scf.iv c0_i32_25 c1_i32_29 k0_t2
  let v206 : Index := Scalar.indexCast arg13
  let c448 : Index := 448#32
  ![v206.toNat, 448]
def k0_off31 (k0_t2 : Fin k0_t2_loop.trips) : Fin 2 → Nat :=
  let c0_i32_25 : BitVec 32 := 0#32
  let c1_i32_29 : BitVec 32 := 1#32
  let arg13 : BitVec 32 := Scf.iv c0_i32_25 c1_i32_29 k0_t2
  let v211 : Index := Scalar.indexCast arg13
  let c464 : Index := 464#32
  ![v211.toNat, 464]
def k0_off32 (k0_t2 : Fin k0_t2_loop.trips) : Fin 2 → Nat :=
  let c0_i32_25 : BitVec 32 := 0#32
  let c1_i32_29 : BitVec 32 := 1#32
  let arg13 : BitVec 32 := Scf.iv c0_i32_25 c1_i32_29 k0_t2
  let v216 : Index := Scalar.indexCast arg13
  let c480 : Index := 480#32
  ![v216.toNat, 480]
def k0_off33 (k0_t2 : Fin k0_t2_loop.trips) : Fin 2 → Nat :=
  let c0_i32_25 : BitVec 32 := 0#32
  let c1_i32_29 : BitVec 32 := 1#32
  let arg13 : BitVec 32 := Scf.iv c0_i32_25 c1_i32_29 k0_t2
  let v221 : Index := Scalar.indexCast arg13
  let c496 : Index := 496#32
  ![v221.toNat, 496]
@[reducible] def k0_t3_loop : Scf.Loop 32 :=
  let c0_i32_25 : BitVec 32 := 0#32
  let c128_i32_26 : BitVec 32 := 128#32
  let v58 : BitVec 32 := Scalar.subi c128_i32_26 c0_i32_25
  let c1_i32_28 : BitVec 32 := 1#32
  let v60 : BitVec 32 := Scalar.divsi v58 c1_i32_28
  let v61 : BitVec 32 := Scalar.muli v60 c1_i32_28
  let v62 : BitVec 32 := Scalar.addi c0_i32_25 v61
  let v59 : BitVec 32 := Scalar.addi c0_i32_25 v58
  let c1_i32_30 : BitVec 32 := 1#32
  ⟨v62, v59, c1_i32_30⟩
def k0_off34 (k0_t3 : Fin k0_t3_loop.trips) : Fin 2 → Nat :=
  let c0_i32_25 : BitVec 32 := 0#32
  let c128_i32_26 : BitVec 32 := 128#32
  let v58 : BitVec 32 := Scalar.subi c128_i32_26 c0_i32_25
  let c1_i32_28 : BitVec 32 := 1#32
  let v60 : BitVec 32 := Scalar.divsi v58 c1_i32_28
  let v61 : BitVec 32 := Scalar.muli v60 c1_i32_28
  let v62 : BitVec 32 := Scalar.addi c0_i32_25 v61
  let c1_i32_30 : BitVec 32 := 1#32
  let arg13 : BitVec 32 := Scf.iv v62 c1_i32_30 k0_t3
  let v66 : Index := Scalar.indexCast arg13
  let c0 : Index := 0#32
  ![v66.toNat, 0]
def k0_off35 (k0_t3 : Fin k0_t3_loop.trips) : Fin 2 → Nat :=
  let c0_i32_25 : BitVec 32 := 0#32
  let c128_i32_26 : BitVec 32 := 128#32
  let v58 : BitVec 32 := Scalar.subi c128_i32_26 c0_i32_25
  let c1_i32_28 : BitVec 32 := 1#32
  let v60 : BitVec 32 := Scalar.divsi v58 c1_i32_28
  let v61 : BitVec 32 := Scalar.muli v60 c1_i32_28
  let v62 : BitVec 32 := Scalar.addi c0_i32_25 v61
  let c1_i32_30 : BitVec 32 := 1#32
  let arg13 : BitVec 32 := Scf.iv v62 c1_i32_30 k0_t3
  let v71 : Index := Scalar.indexCast arg13
  let c16 : Index := 16#32
  ![v71.toNat, 16]
def k0_off36 (k0_t3 : Fin k0_t3_loop.trips) : Fin 2 → Nat :=
  let c0_i32_25 : BitVec 32 := 0#32
  let c128_i32_26 : BitVec 32 := 128#32
  let v58 : BitVec 32 := Scalar.subi c128_i32_26 c0_i32_25
  let c1_i32_28 : BitVec 32 := 1#32
  let v60 : BitVec 32 := Scalar.divsi v58 c1_i32_28
  let v61 : BitVec 32 := Scalar.muli v60 c1_i32_28
  let v62 : BitVec 32 := Scalar.addi c0_i32_25 v61
  let c1_i32_30 : BitVec 32 := 1#32
  let arg13 : BitVec 32 := Scf.iv v62 c1_i32_30 k0_t3
  let v76 : Index := Scalar.indexCast arg13
  let c32 : Index := 32#32
  ![v76.toNat, 32]
def k0_off37 (k0_t3 : Fin k0_t3_loop.trips) : Fin 2 → Nat :=
  let c0_i32_25 : BitVec 32 := 0#32
  let c128_i32_26 : BitVec 32 := 128#32
  let v58 : BitVec 32 := Scalar.subi c128_i32_26 c0_i32_25
  let c1_i32_28 : BitVec 32 := 1#32
  let v60 : BitVec 32 := Scalar.divsi v58 c1_i32_28
  let v61 : BitVec 32 := Scalar.muli v60 c1_i32_28
  let v62 : BitVec 32 := Scalar.addi c0_i32_25 v61
  let c1_i32_30 : BitVec 32 := 1#32
  let arg13 : BitVec 32 := Scf.iv v62 c1_i32_30 k0_t3
  let v81 : Index := Scalar.indexCast arg13
  let c48 : Index := 48#32
  ![v81.toNat, 48]
def k0_off38 (k0_t3 : Fin k0_t3_loop.trips) : Fin 2 → Nat :=
  let c0_i32_25 : BitVec 32 := 0#32
  let c128_i32_26 : BitVec 32 := 128#32
  let v58 : BitVec 32 := Scalar.subi c128_i32_26 c0_i32_25
  let c1_i32_28 : BitVec 32 := 1#32
  let v60 : BitVec 32 := Scalar.divsi v58 c1_i32_28
  let v61 : BitVec 32 := Scalar.muli v60 c1_i32_28
  let v62 : BitVec 32 := Scalar.addi c0_i32_25 v61
  let c1_i32_30 : BitVec 32 := 1#32
  let arg13 : BitVec 32 := Scf.iv v62 c1_i32_30 k0_t3
  let v86 : Index := Scalar.indexCast arg13
  let c64 : Index := 64#32
  ![v86.toNat, 64]
def k0_off39 (k0_t3 : Fin k0_t3_loop.trips) : Fin 2 → Nat :=
  let c0_i32_25 : BitVec 32 := 0#32
  let c128_i32_26 : BitVec 32 := 128#32
  let v58 : BitVec 32 := Scalar.subi c128_i32_26 c0_i32_25
  let c1_i32_28 : BitVec 32 := 1#32
  let v60 : BitVec 32 := Scalar.divsi v58 c1_i32_28
  let v61 : BitVec 32 := Scalar.muli v60 c1_i32_28
  let v62 : BitVec 32 := Scalar.addi c0_i32_25 v61
  let c1_i32_30 : BitVec 32 := 1#32
  let arg13 : BitVec 32 := Scf.iv v62 c1_i32_30 k0_t3
  let v91 : Index := Scalar.indexCast arg13
  let c80 : Index := 80#32
  ![v91.toNat, 80]
def k0_off40 (k0_t3 : Fin k0_t3_loop.trips) : Fin 2 → Nat :=
  let c0_i32_25 : BitVec 32 := 0#32
  let c128_i32_26 : BitVec 32 := 128#32
  let v58 : BitVec 32 := Scalar.subi c128_i32_26 c0_i32_25
  let c1_i32_28 : BitVec 32 := 1#32
  let v60 : BitVec 32 := Scalar.divsi v58 c1_i32_28
  let v61 : BitVec 32 := Scalar.muli v60 c1_i32_28
  let v62 : BitVec 32 := Scalar.addi c0_i32_25 v61
  let c1_i32_30 : BitVec 32 := 1#32
  let arg13 : BitVec 32 := Scf.iv v62 c1_i32_30 k0_t3
  let v96 : Index := Scalar.indexCast arg13
  let c96 : Index := 96#32
  ![v96.toNat, 96]
def k0_off41 (k0_t3 : Fin k0_t3_loop.trips) : Fin 2 → Nat :=
  let c0_i32_25 : BitVec 32 := 0#32
  let c128_i32_26 : BitVec 32 := 128#32
  let v58 : BitVec 32 := Scalar.subi c128_i32_26 c0_i32_25
  let c1_i32_28 : BitVec 32 := 1#32
  let v60 : BitVec 32 := Scalar.divsi v58 c1_i32_28
  let v61 : BitVec 32 := Scalar.muli v60 c1_i32_28
  let v62 : BitVec 32 := Scalar.addi c0_i32_25 v61
  let c1_i32_30 : BitVec 32 := 1#32
  let arg13 : BitVec 32 := Scf.iv v62 c1_i32_30 k0_t3
  let v101 : Index := Scalar.indexCast arg13
  let c112 : Index := 112#32
  ![v101.toNat, 112]
def k0_off42 (k0_t3 : Fin k0_t3_loop.trips) : Fin 2 → Nat :=
  let c0_i32_25 : BitVec 32 := 0#32
  let c128_i32_26 : BitVec 32 := 128#32
  let v58 : BitVec 32 := Scalar.subi c128_i32_26 c0_i32_25
  let c1_i32_28 : BitVec 32 := 1#32
  let v60 : BitVec 32 := Scalar.divsi v58 c1_i32_28
  let v61 : BitVec 32 := Scalar.muli v60 c1_i32_28
  let v62 : BitVec 32 := Scalar.addi c0_i32_25 v61
  let c1_i32_30 : BitVec 32 := 1#32
  let arg13 : BitVec 32 := Scf.iv v62 c1_i32_30 k0_t3
  let v106 : Index := Scalar.indexCast arg13
  let c128 : Index := 128#32
  ![v106.toNat, 128]
def k0_off43 (k0_t3 : Fin k0_t3_loop.trips) : Fin 2 → Nat :=
  let c0_i32_25 : BitVec 32 := 0#32
  let c128_i32_26 : BitVec 32 := 128#32
  let v58 : BitVec 32 := Scalar.subi c128_i32_26 c0_i32_25
  let c1_i32_28 : BitVec 32 := 1#32
  let v60 : BitVec 32 := Scalar.divsi v58 c1_i32_28
  let v61 : BitVec 32 := Scalar.muli v60 c1_i32_28
  let v62 : BitVec 32 := Scalar.addi c0_i32_25 v61
  let c1_i32_30 : BitVec 32 := 1#32
  let arg13 : BitVec 32 := Scf.iv v62 c1_i32_30 k0_t3
  let v111 : Index := Scalar.indexCast arg13
  let c144 : Index := 144#32
  ![v111.toNat, 144]
def k0_off44 (k0_t3 : Fin k0_t3_loop.trips) : Fin 2 → Nat :=
  let c0_i32_25 : BitVec 32 := 0#32
  let c128_i32_26 : BitVec 32 := 128#32
  let v58 : BitVec 32 := Scalar.subi c128_i32_26 c0_i32_25
  let c1_i32_28 : BitVec 32 := 1#32
  let v60 : BitVec 32 := Scalar.divsi v58 c1_i32_28
  let v61 : BitVec 32 := Scalar.muli v60 c1_i32_28
  let v62 : BitVec 32 := Scalar.addi c0_i32_25 v61
  let c1_i32_30 : BitVec 32 := 1#32
  let arg13 : BitVec 32 := Scf.iv v62 c1_i32_30 k0_t3
  let v116 : Index := Scalar.indexCast arg13
  let c160 : Index := 160#32
  ![v116.toNat, 160]
def k0_off45 (k0_t3 : Fin k0_t3_loop.trips) : Fin 2 → Nat :=
  let c0_i32_25 : BitVec 32 := 0#32
  let c128_i32_26 : BitVec 32 := 128#32
  let v58 : BitVec 32 := Scalar.subi c128_i32_26 c0_i32_25
  let c1_i32_28 : BitVec 32 := 1#32
  let v60 : BitVec 32 := Scalar.divsi v58 c1_i32_28
  let v61 : BitVec 32 := Scalar.muli v60 c1_i32_28
  let v62 : BitVec 32 := Scalar.addi c0_i32_25 v61
  let c1_i32_30 : BitVec 32 := 1#32
  let arg13 : BitVec 32 := Scf.iv v62 c1_i32_30 k0_t3
  let v121 : Index := Scalar.indexCast arg13
  let c176 : Index := 176#32
  ![v121.toNat, 176]
def k0_off46 (k0_t3 : Fin k0_t3_loop.trips) : Fin 2 → Nat :=
  let c0_i32_25 : BitVec 32 := 0#32
  let c128_i32_26 : BitVec 32 := 128#32
  let v58 : BitVec 32 := Scalar.subi c128_i32_26 c0_i32_25
  let c1_i32_28 : BitVec 32 := 1#32
  let v60 : BitVec 32 := Scalar.divsi v58 c1_i32_28
  let v61 : BitVec 32 := Scalar.muli v60 c1_i32_28
  let v62 : BitVec 32 := Scalar.addi c0_i32_25 v61
  let c1_i32_30 : BitVec 32 := 1#32
  let arg13 : BitVec 32 := Scf.iv v62 c1_i32_30 k0_t3
  let v126 : Index := Scalar.indexCast arg13
  let c192 : Index := 192#32
  ![v126.toNat, 192]
def k0_off47 (k0_t3 : Fin k0_t3_loop.trips) : Fin 2 → Nat :=
  let c0_i32_25 : BitVec 32 := 0#32
  let c128_i32_26 : BitVec 32 := 128#32
  let v58 : BitVec 32 := Scalar.subi c128_i32_26 c0_i32_25
  let c1_i32_28 : BitVec 32 := 1#32
  let v60 : BitVec 32 := Scalar.divsi v58 c1_i32_28
  let v61 : BitVec 32 := Scalar.muli v60 c1_i32_28
  let v62 : BitVec 32 := Scalar.addi c0_i32_25 v61
  let c1_i32_30 : BitVec 32 := 1#32
  let arg13 : BitVec 32 := Scf.iv v62 c1_i32_30 k0_t3
  let v131 : Index := Scalar.indexCast arg13
  let c208 : Index := 208#32
  ![v131.toNat, 208]
def k0_off48 (k0_t3 : Fin k0_t3_loop.trips) : Fin 2 → Nat :=
  let c0_i32_25 : BitVec 32 := 0#32
  let c128_i32_26 : BitVec 32 := 128#32
  let v58 : BitVec 32 := Scalar.subi c128_i32_26 c0_i32_25
  let c1_i32_28 : BitVec 32 := 1#32
  let v60 : BitVec 32 := Scalar.divsi v58 c1_i32_28
  let v61 : BitVec 32 := Scalar.muli v60 c1_i32_28
  let v62 : BitVec 32 := Scalar.addi c0_i32_25 v61
  let c1_i32_30 : BitVec 32 := 1#32
  let arg13 : BitVec 32 := Scf.iv v62 c1_i32_30 k0_t3
  let v136 : Index := Scalar.indexCast arg13
  let c224 : Index := 224#32
  ![v136.toNat, 224]
def k0_off49 (k0_t3 : Fin k0_t3_loop.trips) : Fin 2 → Nat :=
  let c0_i32_25 : BitVec 32 := 0#32
  let c128_i32_26 : BitVec 32 := 128#32
  let v58 : BitVec 32 := Scalar.subi c128_i32_26 c0_i32_25
  let c1_i32_28 : BitVec 32 := 1#32
  let v60 : BitVec 32 := Scalar.divsi v58 c1_i32_28
  let v61 : BitVec 32 := Scalar.muli v60 c1_i32_28
  let v62 : BitVec 32 := Scalar.addi c0_i32_25 v61
  let c1_i32_30 : BitVec 32 := 1#32
  let arg13 : BitVec 32 := Scf.iv v62 c1_i32_30 k0_t3
  let v141 : Index := Scalar.indexCast arg13
  let c240 : Index := 240#32
  ![v141.toNat, 240]
def k0_off50 (k0_t3 : Fin k0_t3_loop.trips) : Fin 2 → Nat :=
  let c0_i32_25 : BitVec 32 := 0#32
  let c128_i32_26 : BitVec 32 := 128#32
  let v58 : BitVec 32 := Scalar.subi c128_i32_26 c0_i32_25
  let c1_i32_28 : BitVec 32 := 1#32
  let v60 : BitVec 32 := Scalar.divsi v58 c1_i32_28
  let v61 : BitVec 32 := Scalar.muli v60 c1_i32_28
  let v62 : BitVec 32 := Scalar.addi c0_i32_25 v61
  let c1_i32_30 : BitVec 32 := 1#32
  let arg13 : BitVec 32 := Scf.iv v62 c1_i32_30 k0_t3
  let v146 : Index := Scalar.indexCast arg13
  let c256 : Index := 256#32
  ![v146.toNat, 256]
def k0_off51 (k0_t3 : Fin k0_t3_loop.trips) : Fin 2 → Nat :=
  let c0_i32_25 : BitVec 32 := 0#32
  let c128_i32_26 : BitVec 32 := 128#32
  let v58 : BitVec 32 := Scalar.subi c128_i32_26 c0_i32_25
  let c1_i32_28 : BitVec 32 := 1#32
  let v60 : BitVec 32 := Scalar.divsi v58 c1_i32_28
  let v61 : BitVec 32 := Scalar.muli v60 c1_i32_28
  let v62 : BitVec 32 := Scalar.addi c0_i32_25 v61
  let c1_i32_30 : BitVec 32 := 1#32
  let arg13 : BitVec 32 := Scf.iv v62 c1_i32_30 k0_t3
  let v151 : Index := Scalar.indexCast arg13
  let c272 : Index := 272#32
  ![v151.toNat, 272]
def k0_off52 (k0_t3 : Fin k0_t3_loop.trips) : Fin 2 → Nat :=
  let c0_i32_25 : BitVec 32 := 0#32
  let c128_i32_26 : BitVec 32 := 128#32
  let v58 : BitVec 32 := Scalar.subi c128_i32_26 c0_i32_25
  let c1_i32_28 : BitVec 32 := 1#32
  let v60 : BitVec 32 := Scalar.divsi v58 c1_i32_28
  let v61 : BitVec 32 := Scalar.muli v60 c1_i32_28
  let v62 : BitVec 32 := Scalar.addi c0_i32_25 v61
  let c1_i32_30 : BitVec 32 := 1#32
  let arg13 : BitVec 32 := Scf.iv v62 c1_i32_30 k0_t3
  let v156 : Index := Scalar.indexCast arg13
  let c288 : Index := 288#32
  ![v156.toNat, 288]
def k0_off53 (k0_t3 : Fin k0_t3_loop.trips) : Fin 2 → Nat :=
  let c0_i32_25 : BitVec 32 := 0#32
  let c128_i32_26 : BitVec 32 := 128#32
  let v58 : BitVec 32 := Scalar.subi c128_i32_26 c0_i32_25
  let c1_i32_28 : BitVec 32 := 1#32
  let v60 : BitVec 32 := Scalar.divsi v58 c1_i32_28
  let v61 : BitVec 32 := Scalar.muli v60 c1_i32_28
  let v62 : BitVec 32 := Scalar.addi c0_i32_25 v61
  let c1_i32_30 : BitVec 32 := 1#32
  let arg13 : BitVec 32 := Scf.iv v62 c1_i32_30 k0_t3
  let v161 : Index := Scalar.indexCast arg13
  let c304 : Index := 304#32
  ![v161.toNat, 304]
def k0_off54 (k0_t3 : Fin k0_t3_loop.trips) : Fin 2 → Nat :=
  let c0_i32_25 : BitVec 32 := 0#32
  let c128_i32_26 : BitVec 32 := 128#32
  let v58 : BitVec 32 := Scalar.subi c128_i32_26 c0_i32_25
  let c1_i32_28 : BitVec 32 := 1#32
  let v60 : BitVec 32 := Scalar.divsi v58 c1_i32_28
  let v61 : BitVec 32 := Scalar.muli v60 c1_i32_28
  let v62 : BitVec 32 := Scalar.addi c0_i32_25 v61
  let c1_i32_30 : BitVec 32 := 1#32
  let arg13 : BitVec 32 := Scf.iv v62 c1_i32_30 k0_t3
  let v166 : Index := Scalar.indexCast arg13
  let c320 : Index := 320#32
  ![v166.toNat, 320]
def k0_off55 (k0_t3 : Fin k0_t3_loop.trips) : Fin 2 → Nat :=
  let c0_i32_25 : BitVec 32 := 0#32
  let c128_i32_26 : BitVec 32 := 128#32
  let v58 : BitVec 32 := Scalar.subi c128_i32_26 c0_i32_25
  let c1_i32_28 : BitVec 32 := 1#32
  let v60 : BitVec 32 := Scalar.divsi v58 c1_i32_28
  let v61 : BitVec 32 := Scalar.muli v60 c1_i32_28
  let v62 : BitVec 32 := Scalar.addi c0_i32_25 v61
  let c1_i32_30 : BitVec 32 := 1#32
  let arg13 : BitVec 32 := Scf.iv v62 c1_i32_30 k0_t3
  let v171 : Index := Scalar.indexCast arg13
  let c336 : Index := 336#32
  ![v171.toNat, 336]
def k0_off56 (k0_t3 : Fin k0_t3_loop.trips) : Fin 2 → Nat :=
  let c0_i32_25 : BitVec 32 := 0#32
  let c128_i32_26 : BitVec 32 := 128#32
  let v58 : BitVec 32 := Scalar.subi c128_i32_26 c0_i32_25
  let c1_i32_28 : BitVec 32 := 1#32
  let v60 : BitVec 32 := Scalar.divsi v58 c1_i32_28
  let v61 : BitVec 32 := Scalar.muli v60 c1_i32_28
  let v62 : BitVec 32 := Scalar.addi c0_i32_25 v61
  let c1_i32_30 : BitVec 32 := 1#32
  let arg13 : BitVec 32 := Scf.iv v62 c1_i32_30 k0_t3
  let v176 : Index := Scalar.indexCast arg13
  let c352 : Index := 352#32
  ![v176.toNat, 352]
def k0_off57 (k0_t3 : Fin k0_t3_loop.trips) : Fin 2 → Nat :=
  let c0_i32_25 : BitVec 32 := 0#32
  let c128_i32_26 : BitVec 32 := 128#32
  let v58 : BitVec 32 := Scalar.subi c128_i32_26 c0_i32_25
  let c1_i32_28 : BitVec 32 := 1#32
  let v60 : BitVec 32 := Scalar.divsi v58 c1_i32_28
  let v61 : BitVec 32 := Scalar.muli v60 c1_i32_28
  let v62 : BitVec 32 := Scalar.addi c0_i32_25 v61
  let c1_i32_30 : BitVec 32 := 1#32
  let arg13 : BitVec 32 := Scf.iv v62 c1_i32_30 k0_t3
  let v181 : Index := Scalar.indexCast arg13
  let c368 : Index := 368#32
  ![v181.toNat, 368]
def k0_off58 (k0_t3 : Fin k0_t3_loop.trips) : Fin 2 → Nat :=
  let c0_i32_25 : BitVec 32 := 0#32
  let c128_i32_26 : BitVec 32 := 128#32
  let v58 : BitVec 32 := Scalar.subi c128_i32_26 c0_i32_25
  let c1_i32_28 : BitVec 32 := 1#32
  let v60 : BitVec 32 := Scalar.divsi v58 c1_i32_28
  let v61 : BitVec 32 := Scalar.muli v60 c1_i32_28
  let v62 : BitVec 32 := Scalar.addi c0_i32_25 v61
  let c1_i32_30 : BitVec 32 := 1#32
  let arg13 : BitVec 32 := Scf.iv v62 c1_i32_30 k0_t3
  let v186 : Index := Scalar.indexCast arg13
  let c384 : Index := 384#32
  ![v186.toNat, 384]
def k0_off59 (k0_t3 : Fin k0_t3_loop.trips) : Fin 2 → Nat :=
  let c0_i32_25 : BitVec 32 := 0#32
  let c128_i32_26 : BitVec 32 := 128#32
  let v58 : BitVec 32 := Scalar.subi c128_i32_26 c0_i32_25
  let c1_i32_28 : BitVec 32 := 1#32
  let v60 : BitVec 32 := Scalar.divsi v58 c1_i32_28
  let v61 : BitVec 32 := Scalar.muli v60 c1_i32_28
  let v62 : BitVec 32 := Scalar.addi c0_i32_25 v61
  let c1_i32_30 : BitVec 32 := 1#32
  let arg13 : BitVec 32 := Scf.iv v62 c1_i32_30 k0_t3
  let v191 : Index := Scalar.indexCast arg13
  let c400 : Index := 400#32
  ![v191.toNat, 400]
def k0_off60 (k0_t3 : Fin k0_t3_loop.trips) : Fin 2 → Nat :=
  let c0_i32_25 : BitVec 32 := 0#32
  let c128_i32_26 : BitVec 32 := 128#32
  let v58 : BitVec 32 := Scalar.subi c128_i32_26 c0_i32_25
  let c1_i32_28 : BitVec 32 := 1#32
  let v60 : BitVec 32 := Scalar.divsi v58 c1_i32_28
  let v61 : BitVec 32 := Scalar.muli v60 c1_i32_28
  let v62 : BitVec 32 := Scalar.addi c0_i32_25 v61
  let c1_i32_30 : BitVec 32 := 1#32
  let arg13 : BitVec 32 := Scf.iv v62 c1_i32_30 k0_t3
  let v196 : Index := Scalar.indexCast arg13
  let c416 : Index := 416#32
  ![v196.toNat, 416]
def k0_off61 (k0_t3 : Fin k0_t3_loop.trips) : Fin 2 → Nat :=
  let c0_i32_25 : BitVec 32 := 0#32
  let c128_i32_26 : BitVec 32 := 128#32
  let v58 : BitVec 32 := Scalar.subi c128_i32_26 c0_i32_25
  let c1_i32_28 : BitVec 32 := 1#32
  let v60 : BitVec 32 := Scalar.divsi v58 c1_i32_28
  let v61 : BitVec 32 := Scalar.muli v60 c1_i32_28
  let v62 : BitVec 32 := Scalar.addi c0_i32_25 v61
  let c1_i32_30 : BitVec 32 := 1#32
  let arg13 : BitVec 32 := Scf.iv v62 c1_i32_30 k0_t3
  let v201 : Index := Scalar.indexCast arg13
  let c432 : Index := 432#32
  ![v201.toNat, 432]
def k0_off62 (k0_t3 : Fin k0_t3_loop.trips) : Fin 2 → Nat :=
  let c0_i32_25 : BitVec 32 := 0#32
  let c128_i32_26 : BitVec 32 := 128#32
  let v58 : BitVec 32 := Scalar.subi c128_i32_26 c0_i32_25
  let c1_i32_28 : BitVec 32 := 1#32
  let v60 : BitVec 32 := Scalar.divsi v58 c1_i32_28
  let v61 : BitVec 32 := Scalar.muli v60 c1_i32_28
  let v62 : BitVec 32 := Scalar.addi c0_i32_25 v61
  let c1_i32_30 : BitVec 32 := 1#32
  let arg13 : BitVec 32 := Scf.iv v62 c1_i32_30 k0_t3
  let v206 : Index := Scalar.indexCast arg13
  let c448 : Index := 448#32
  ![v206.toNat, 448]
def k0_off63 (k0_t3 : Fin k0_t3_loop.trips) : Fin 2 → Nat :=
  let c0_i32_25 : BitVec 32 := 0#32
  let c128_i32_26 : BitVec 32 := 128#32
  let v58 : BitVec 32 := Scalar.subi c128_i32_26 c0_i32_25
  let c1_i32_28 : BitVec 32 := 1#32
  let v60 : BitVec 32 := Scalar.divsi v58 c1_i32_28
  let v61 : BitVec 32 := Scalar.muli v60 c1_i32_28
  let v62 : BitVec 32 := Scalar.addi c0_i32_25 v61
  let c1_i32_30 : BitVec 32 := 1#32
  let arg13 : BitVec 32 := Scf.iv v62 c1_i32_30 k0_t3
  let v211 : Index := Scalar.indexCast arg13
  let c464 : Index := 464#32
  ![v211.toNat, 464]
def k0_off64 (k0_t3 : Fin k0_t3_loop.trips) : Fin 2 → Nat :=
  let c0_i32_25 : BitVec 32 := 0#32
  let c128_i32_26 : BitVec 32 := 128#32
  let v58 : BitVec 32 := Scalar.subi c128_i32_26 c0_i32_25
  let c1_i32_28 : BitVec 32 := 1#32
  let v60 : BitVec 32 := Scalar.divsi v58 c1_i32_28
  let v61 : BitVec 32 := Scalar.muli v60 c1_i32_28
  let v62 : BitVec 32 := Scalar.addi c0_i32_25 v61
  let c1_i32_30 : BitVec 32 := 1#32
  let arg13 : BitVec 32 := Scf.iv v62 c1_i32_30 k0_t3
  let v216 : Index := Scalar.indexCast arg13
  let c480 : Index := 480#32
  ![v216.toNat, 480]
def k0_off65 (k0_t3 : Fin k0_t3_loop.trips) : Fin 2 → Nat :=
  let c0_i32_25 : BitVec 32 := 0#32
  let c128_i32_26 : BitVec 32 := 128#32
  let v58 : BitVec 32 := Scalar.subi c128_i32_26 c0_i32_25
  let c1_i32_28 : BitVec 32 := 1#32
  let v60 : BitVec 32 := Scalar.divsi v58 c1_i32_28
  let v61 : BitVec 32 := Scalar.muli v60 c1_i32_28
  let v62 : BitVec 32 := Scalar.addi c0_i32_25 v61
  let c1_i32_30 : BitVec 32 := 1#32
  let arg13 : BitVec 32 := Scf.iv v62 c1_i32_30 k0_t3
  let v221 : Index := Scalar.indexCast arg13
  let c496 : Index := 496#32
  ![v221.toNat, 496]
def k0_off66 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2048_i32_25 : BitVec 32 := 2048#32
  let v58 : BitVec 32 := Scalar.muli v11 c2048_i32_25
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v59 : BitVec 32 := Scalar.addi v58 v40
  let c0_i32_26_r1 : BitVec 32 := 0#32
  ![v59.toNat, 0]
@[reducible] def k0_t4_loop : Scf.Loop 32 :=
  let c0_i32_27 : BitVec 32 := 0#32
  let c11_i32 : BitVec 32 := 11#32
  let v58 : BitVec 32 := Scalar.addi c0_i32_27 c11_i32
  let c1_i32_28 : BitVec 32 := 1#32
  ⟨c0_i32_27, v58, c1_i32_28⟩
def k0_off67 (arg14 : BitVec 32) (arg15 : BitVec 32) : Fin 1 → Nat :=
  let v127 : BitVec 32 := Scalar.addi arg14 arg15
  let c0_i32_72 : BitVec 32 := 0#32
  let v129 : BitVec 1 := Scalar.cmpi .sgt v127 c0_i32_72
  let v130 : BitVec 32 := Scalar.extui v129
  let c0_i32_73 : BitVec 32 := 0#32
  let v131 : BitVec 1 := Scalar.cmpi .slt v127 c0_i32_73
  let v132 : BitVec 32 := Scalar.extui v131
  let v133 : BitVec 32 := Scalar.subi v130 v132
  let c2_i32_71 : BitVec 32 := 2#32
  let c0_i32_74 : BitVec 32 := 0#32
  let v134 : BitVec 1 := Scalar.cmpi .sgt c2_i32_71 c0_i32_74
  let v135 : BitVec 32 := Scalar.extui v134
  let c0_i32_75 : BitVec 32 := 0#32
  let v136 : BitVec 1 := Scalar.cmpi .slt c2_i32_71 c0_i32_75
  let v137 : BitVec 32 := Scalar.extui v136
  let v138 : BitVec 32 := Scalar.subi v135 v137
  let v139 : BitVec 1 := Scalar.cmpi .ne v133 v138
  let v140 : BitVec 32 := Scalar.remsi v127 c2_i32_71
  let c0_i32_76 : BitVec 32 := 0#32
  let v141 : BitVec 1 := Scalar.cmpi .ne v140 c0_i32_76
  let v142 : BitVec 1 := Scalar.andi v139 v141
  let v128 : BitVec 32 := Scalar.divsi v127 c2_i32_71
  let c1_i32_77 : BitVec 32 := 1#32
  let v143 : BitVec 32 := Scalar.subi v128 c1_i32_77
  let v144 : BitVec 32 := Scalar.select v142 v143 v128
  let v145 : Index := Scalar.indexCast v144
  ![v145.toNat]
def k0_cond3 (i : grid0.Coords) (v17 : BitVec 32) (k0_t1 : Fin k0_t1_loop.trips) : BitVec 1 :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c0_i32_22 : BitVec 32 := 0#32
  let v53 : BitVec 1 := Scalar.cmpi .sgt v44 c0_i32_22
  let v54 : BitVec 32 := Scalar.extui v53
  let c0_i32_23 : BitVec 32 := 0#32
  let v55 : BitVec 1 := Scalar.cmpi .ne v54 c0_i32_23
  v55

def k0_chk1 (i : grid0.Coords) (v17 : BitVec 32) (k0_t1 : Fin k0_t1_loop.trips) (arg14 : BitVec 32) (arg15 : BitVec 32) : Prop :=
  (∀ (k0_h3 : k0_cond3 i v17 k0_t1 = 1#1), ∀ a, (k0_off67 arg14 arg15) a + S16.size a ≤ S2064.size a)
theorem k0_off67_inb : ∀ (i : grid0.Coords) (v17 : BitVec 32) (k0_t1 : Fin k0_t1_loop.trips) (arg14 : BitVec 32) (arg15 : BitVec 32) (k0_hw1 : k0_chk1 i v17 k0_t1 arg14 arg15), ∀ (k0_h3 : k0_cond3 i v17 k0_t1 = 1#1), ∀ a, (k0_off67 arg14 arg15) a + S16.size a ≤ S2064.size a := fun i v17 k0_t1 arg14 arg15 k0_hw1 k0_h3 => k0_hw1 k0_h3

@[reducible] def k0_t5_loop : Scf.Loop 32 :=
  let c0_i32_33 : BitVec 32 := 0#32
  let c11_i32_34 : BitVec 32 := 11#32
  let v61 : BitVec 32 := Scalar.addi c0_i32_33 c11_i32_34
  let c1_i32_35 : BitVec 32 := 1#32
  ⟨c0_i32_33, v61, c1_i32_35⟩
def k0_off68 (arg14 : BitVec 32) (arg15 : BitVec 32) : Fin 1 → Nat :=
  let v127 : BitVec 32 := Scalar.addi arg14 arg15
  let c0_i32_72 : BitVec 32 := 0#32
  let v129 : BitVec 1 := Scalar.cmpi .sgt v127 c0_i32_72
  let v130 : BitVec 32 := Scalar.extui v129
  let c0_i32_73 : BitVec 32 := 0#32
  let v131 : BitVec 1 := Scalar.cmpi .slt v127 c0_i32_73
  let v132 : BitVec 32 := Scalar.extui v131
  let v133 : BitVec 32 := Scalar.subi v130 v132
  let c2_i32_71 : BitVec 32 := 2#32
  let c0_i32_74 : BitVec 32 := 0#32
  let v134 : BitVec 1 := Scalar.cmpi .sgt c2_i32_71 c0_i32_74
  let v135 : BitVec 32 := Scalar.extui v134
  let c0_i32_75 : BitVec 32 := 0#32
  let v136 : BitVec 1 := Scalar.cmpi .slt c2_i32_71 c0_i32_75
  let v137 : BitVec 32 := Scalar.extui v136
  let v138 : BitVec 32 := Scalar.subi v135 v137
  let v139 : BitVec 1 := Scalar.cmpi .ne v133 v138
  let v140 : BitVec 32 := Scalar.remsi v127 c2_i32_71
  let c0_i32_76 : BitVec 32 := 0#32
  let v141 : BitVec 1 := Scalar.cmpi .ne v140 c0_i32_76
  let v142 : BitVec 1 := Scalar.andi v139 v141
  let v128 : BitVec 32 := Scalar.divsi v127 c2_i32_71
  let c1_i32_77 : BitVec 32 := 1#32
  let v143 : BitVec 32 := Scalar.subi v128 c1_i32_77
  let v144 : BitVec 32 := Scalar.select v142 v143 v128
  let v145 : Index := Scalar.indexCast v144
  ![v145.toNat]

def k0_chk2 (i : grid0.Coords) (v17 : BitVec 32) (k0_t1 : Fin k0_t1_loop.trips) (arg14 : BitVec 32) (arg15 : BitVec 32) : Prop :=
  (∀ (k0_h3 : k0_cond3 i v17 k0_t1 = 1#1), ∀ a, (k0_off68 arg14 arg15) a + S16.size a ≤ S2064.size a)
theorem k0_off68_inb : ∀ (i : grid0.Coords) (v17 : BitVec 32) (k0_t1 : Fin k0_t1_loop.trips) (arg14 : BitVec 32) (arg15 : BitVec 32) (k0_hw2 : k0_chk2 i v17 k0_t1 arg14 arg15), ∀ (k0_h3 : k0_cond3 i v17 k0_t1 = 1#1), ∀ a, (k0_off68 arg14 arg15) a + S16.size a ≤ S2064.size a := fun i v17 k0_t1 arg14 arg15 k0_hw2 k0_h3 => k0_hw2 k0_h3

def k0_off69 (i : grid0.Coords) (v59_0 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2048_i32_72 : BitVec 32 := 2048#32
  let v129 : BitVec 32 := Scalar.muli v11 c2048_i32_72
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c0_i32_71 : BitVec 32 := 0#32
  let v127 : BitVec 32 := Scalar.addi v80 c0_i32_71
  let c2016_i32 : BitVec 32 := 2016#32
  let v128 : BitVec 32 := Scalar.minsi v127 c2016_i32
  let v130 : BitVec 32 := Scalar.addi v129 v128
  let c0_i32_76 : BitVec 32 := 0#32
  ![v130.toNat, 0]
def k0_cond4 (v59_0 : BitVec 32) (v62_0 : BitVec 32) : BitVec 1 :=
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let c0_i32_54 : BitVec 32 := 0#32
  let v101 : BitVec 1 := Scalar.cmpi .sgt v100 c0_i32_54
  let v102 : BitVec 32 := Scalar.extui v101
  let c0_i32_55 : BitVec 32 := 0#32
  let v103 : BitVec 1 := Scalar.cmpi .ne v102 c0_i32_55
  v103

@[reducible] def k0_t6_loop (v59_0 : BitVec 32) (v62_0 : BitVec 32) : Scf.Loop 32 :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_58 : BitVec 32 := 1#32
  ⟨c0_i32_56, v108, c1_i32_58⟩
def k0_off70 (i : grid0.Coords) (v59_0 : BitVec 32) (v62_0 : BitVec 32) (k0_t6 : Fin (k0_t6_loop v59_0 v62_0).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2048_i32_99 : BitVec 32 := 2048#32
  let v181 : BitVec 32 := Scalar.muli v11 c2048_i32_99
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_97 : BitVec 32 := 32#32
  let c0_i32_56 : BitVec 32 := 0#32
  let c1_i32_58 : BitVec 32 := 1#32
  let arg13 : BitVec 32 := Scf.iv c0_i32_56 c1_i32_58 k0_t6
  let c1_i32_96 : BitVec 32 := 1#32
  let v177 : BitVec 32 := Scalar.addi arg13 c1_i32_96
  let v178 : BitVec 32 := Scalar.muli c32_i32_97 v177
  let v179 : BitVec 32 := Scalar.addi v80 v178
  let c2016_i32_98 : BitVec 32 := 2016#32
  let v180 : BitVec 32 := Scalar.minsi v179 c2016_i32_98
  let v182 : BitVec 32 := Scalar.addi v181 v180
  let c0_i32_103 : BitVec 32 := 0#32
  ![v182.toNat, 0]
def k0_cond5 (v59_0 : BitVec 32) (v62_0 : BitVec 32) (k0_t6 : Fin (k0_t6_loop v59_0 v62_0).trips) : BitVec 1 :=
  let c0_i32_56 : BitVec 32 := 0#32
  let c1_i32_58 : BitVec 32 := 1#32
  let arg13 : BitVec 32 := Scf.iv c0_i32_56 c1_i32_58 k0_t6
  let c1_i32_79 : BitVec 32 := 1#32
  let v141 : BitVec 32 := Scalar.addi arg13 c1_i32_79
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v142 : BitVec 1 := Scalar.cmpi .slt v141 v100
  let c2_i32_72 : BitVec 32 := 2#32
  let c0_i32_73 : BitVec 32 := 0#32
  let v130 : BitVec 1 := Scalar.cmpi .eq c2_i32_72 c0_i32_73
  let c1_i32_74 : BitVec 32 := 1#32
  let v131 : BitVec 32 := Scalar.select v130 c1_i32_74 c2_i32_72
  let v132 : BitVec 32 := Scalar.remsi arg13 v131
  let c0_i32_76 : BitVec 32 := 0#32
  let v134 : BitVec 1 := Scalar.cmpi .slt v132 c0_i32_76
  let c0_i32_77 : BitVec 32 := 0#32
  let v135 : BitVec 1 := Scalar.cmpi .slt v131 c0_i32_77
  let v136 : BitVec 1 := Scalar.xori v134 v135
  let c0_i32_75 : BitVec 32 := 0#32
  let v133 : BitVec 1 := Scalar.cmpi .ne v132 c0_i32_75
  let v137 : BitVec 1 := Scalar.andi v136 v133
  let v138 : BitVec 32 := Scalar.addi v132 v131
  let v139 : BitVec 32 := Scalar.select v137 v138 v132
  let c0_i32_78 : BitVec 32 := 0#32
  let v140 : BitVec 1 := Scalar.cmpi .eq v139 c0_i32_78
  let v143 : BitVec 1 := Scalar.andi v142 v140
  let v144 : BitVec 32 := Scalar.extui v143
  let c0_i32_80 : BitVec 32 := 0#32
  let v145 : BitVec 1 := Scalar.cmpi .ne v144 c0_i32_80
  v145

def k0_off71 (i : grid0.Coords) (v59_0 : BitVec 32) (v62_0 : BitVec 32) (k0_t6 : Fin (k0_t6_loop v59_0 v62_0).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2048_i32_99 : BitVec 32 := 2048#32
  let v181 : BitVec 32 := Scalar.muli v11 c2048_i32_99
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_97 : BitVec 32 := 32#32
  let c0_i32_56 : BitVec 32 := 0#32
  let c1_i32_58 : BitVec 32 := 1#32
  let arg13 : BitVec 32 := Scf.iv c0_i32_56 c1_i32_58 k0_t6
  let c1_i32_96 : BitVec 32 := 1#32
  let v177 : BitVec 32 := Scalar.addi arg13 c1_i32_96
  let v178 : BitVec 32 := Scalar.muli c32_i32_97 v177
  let v179 : BitVec 32 := Scalar.addi v80 v178
  let c2016_i32_98 : BitVec 32 := 2016#32
  let v180 : BitVec 32 := Scalar.minsi v179 c2016_i32_98
  let v182 : BitVec 32 := Scalar.addi v181 v180
  let c0_i32_103 : BitVec 32 := 0#32
  ![v182.toNat, 0]
def k0_cond6 (v59_0 : BitVec 32) (v62_0 : BitVec 32) (k0_t6 : Fin (k0_t6_loop v59_0 v62_0).trips) : BitVec 1 :=
  let c0_i32_56 : BitVec 32 := 0#32
  let c1_i32_58 : BitVec 32 := 1#32
  let arg13 : BitVec 32 := Scf.iv c0_i32_56 c1_i32_58 k0_t6
  let c1_i32_81 : BitVec 32 := 1#32
  let v146 : BitVec 32 := Scalar.addi arg13 c1_i32_81
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v147 : BitVec 1 := Scalar.cmpi .slt v146 v100
  let c2_i32_72 : BitVec 32 := 2#32
  let c0_i32_73 : BitVec 32 := 0#32
  let v130 : BitVec 1 := Scalar.cmpi .eq c2_i32_72 c0_i32_73
  let c1_i32_74 : BitVec 32 := 1#32
  let v131 : BitVec 32 := Scalar.select v130 c1_i32_74 c2_i32_72
  let v132 : BitVec 32 := Scalar.remsi arg13 v131
  let c0_i32_76 : BitVec 32 := 0#32
  let v134 : BitVec 1 := Scalar.cmpi .slt v132 c0_i32_76
  let c0_i32_77 : BitVec 32 := 0#32
  let v135 : BitVec 1 := Scalar.cmpi .slt v131 c0_i32_77
  let v136 : BitVec 1 := Scalar.xori v134 v135
  let c0_i32_75 : BitVec 32 := 0#32
  let v133 : BitVec 1 := Scalar.cmpi .ne v132 c0_i32_75
  let v137 : BitVec 1 := Scalar.andi v136 v133
  let v138 : BitVec 32 := Scalar.addi v132 v131
  let v139 : BitVec 32 := Scalar.select v137 v138 v132
  let c0_i32_78 : BitVec 32 := 0#32
  let v140 : BitVec 1 := Scalar.cmpi .eq v139 c0_i32_78
  let v_true : BitVec 1 := 1#1
  let v148 : BitVec 1 := Scalar.xori v140 v_true
  let v149 : BitVec 1 := Scalar.andi v147 v148
  let v150 : BitVec 32 := Scalar.extui v149
  let c0_i32_82 : BitVec 32 := 0#32
  let v151 : BitVec 1 := Scalar.cmpi .ne v150 c0_i32_82
  v151

def k0_cond7 (v59_0 : BitVec 32) (v62_0 : BitVec 32) (k0_t6 : Fin (k0_t6_loop v59_0 v62_0).trips) : BitVec 1 :=
  let c0_i32_56 : BitVec 32 := 0#32
  let c1_i32_58 : BitVec 32 := 1#32
  let arg13 : BitVec 32 := Scf.iv c0_i32_56 c1_i32_58 k0_t6
  let c2_i32_72 : BitVec 32 := 2#32
  let c0_i32_73 : BitVec 32 := 0#32
  let v130 : BitVec 1 := Scalar.cmpi .eq c2_i32_72 c0_i32_73
  let c1_i32_74 : BitVec 32 := 1#32
  let v131 : BitVec 32 := Scalar.select v130 c1_i32_74 c2_i32_72
  let v132 : BitVec 32 := Scalar.remsi arg13 v131
  let c0_i32_76 : BitVec 32 := 0#32
  let v134 : BitVec 1 := Scalar.cmpi .slt v132 c0_i32_76
  let c0_i32_77 : BitVec 32 := 0#32
  let v135 : BitVec 1 := Scalar.cmpi .slt v131 c0_i32_77
  let v136 : BitVec 1 := Scalar.xori v134 v135
  let c0_i32_75 : BitVec 32 := 0#32
  let v133 : BitVec 1 := Scalar.cmpi .ne v132 c0_i32_75
  let v137 : BitVec 1 := Scalar.andi v136 v133
  let v138 : BitVec 32 := Scalar.addi v132 v131
  let v139 : BitVec 32 := Scalar.select v137 v138 v132
  let c0_i32_78 : BitVec 32 := 0#32
  let v140 : BitVec 1 := Scalar.cmpi .eq v139 c0_i32_78
  let v152 : BitVec 32 := Scalar.extui v140
  let c0_i32_83 : BitVec 32 := 0#32
  let v153 : BitVec 1 := Scalar.cmpi .ne v152 c0_i32_83
  v153

def k0_off72 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2048_i32_96 : BitVec 32 := 2048#32
  let v177 : BitVec 32 := Scalar.muli v11 c2048_i32_96
  let c0_i32_100 : BitVec 32 := 0#32
  ![v177.toNat, 0]
def k0_cond8 (v59_0 : BitVec 32) (v62_0 : BitVec 32) (k0_t6 : Fin (k0_t6_loop v59_0 v62_0).trips) : BitVec 1 :=
  let c0_i32_56 : BitVec 32 := 0#32
  let c1_i32_58 : BitVec 32 := 1#32
  let arg13 : BitVec 32 := Scf.iv c0_i32_56 c1_i32_58 k0_t6
  let c2_i32_72 : BitVec 32 := 2#32
  let c0_i32_73 : BitVec 32 := 0#32
  let v130 : BitVec 1 := Scalar.cmpi .eq c2_i32_72 c0_i32_73
  let c1_i32_74 : BitVec 32 := 1#32
  let v131 : BitVec 32 := Scalar.select v130 c1_i32_74 c2_i32_72
  let v132 : BitVec 32 := Scalar.remsi arg13 v131
  let c0_i32_76 : BitVec 32 := 0#32
  let v134 : BitVec 1 := Scalar.cmpi .slt v132 c0_i32_76
  let c0_i32_77 : BitVec 32 := 0#32
  let v135 : BitVec 1 := Scalar.cmpi .slt v131 c0_i32_77
  let v136 : BitVec 1 := Scalar.xori v134 v135
  let c0_i32_75 : BitVec 32 := 0#32
  let v133 : BitVec 1 := Scalar.cmpi .ne v132 c0_i32_75
  let v137 : BitVec 1 := Scalar.andi v136 v133
  let v138 : BitVec 32 := Scalar.addi v132 v131
  let v139 : BitVec 32 := Scalar.select v137 v138 v132
  let c0_i32_78 : BitVec 32 := 0#32
  let v140 : BitVec 1 := Scalar.cmpi .eq v139 c0_i32_78
  let true_84 : BitVec 1 := 1#1
  let v154 : BitVec 1 := Scalar.xori v140 true_84
  let v155 : BitVec 32 := Scalar.extui v154
  let c0_i32_85 : BitVec 32 := 0#32
  let v156 : BitVec 1 := Scalar.cmpi .ne v155 c0_i32_85
  v156

def k0_off73 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2048_i32_96 : BitVec 32 := 2048#32
  let v177 : BitVec 32 := Scalar.muli v11 c2048_i32_96
  let c0_i32_100 : BitVec 32 := 0#32
  ![v177.toNat, 0]
@[reducible] def k0_t7_loop (v59_0 : BitVec 32) (v62_0 : BitVec 32) (k0_t6 : Fin (k0_t6_loop v59_0 v62_0).trips) : Scf.Loop 32 :=
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let c0_i32_56 : BitVec 32 := 0#32
  let c1_i32_58 : BitVec 32 := 1#32
  let arg13 : BitVec 32 := Scf.iv c0_i32_56 c1_i32_58 k0_t6
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_94 : BitVec 32 := 1#32
  ⟨v167, v174, c1_i32_94⟩
def k0_off74 (v59_0 : BitVec 32) (v62_0 : BitVec 32) (k0_t6 : Fin (k0_t6_loop v59_0 v62_0).trips) (k0_t7 : Fin (k0_t7_loop v59_0 v62_0 k0_t6).trips) : Fin 1 → Nat :=
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let c0_i32_56 : BitVec 32 := 0#32
  let c1_i32_58 : BitVec 32 := 1#32
  let arg13 : BitVec 32 := Scf.iv c0_i32_56 c1_i32_58 k0_t6
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let v177 : Index := Scalar.indexCast arg15
  ![v177.toNat]
def k0_off75 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v190 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v191 : Index := Scalar.indexCast v183
  let c0 : Index := 0#32
  ![v190.toNat, v191.toNat, 0]
def k0_cond9 (arg16 : BitVec 32) (v181 : BitVec 32) : BitVec 1 :=
  let v184 : BitVec 1 := Scalar.cmpi .ne v181 arg16
  let v185 : BitVec 32 := Scalar.extui v184
  let c0_i32_96 : BitVec 32 := 0#32
  let v186 : BitVec 1 := Scalar.cmpi .ne v185 c0_i32_96
  v186

def k0_off76 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v194 : Index := Scalar.indexCast v182
  let c0_99 : Index := 0#32
  ![v194.toNat, 0]
def k0_off77 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v198 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v199 : Index := Scalar.indexCast v183
  let c16 : Index := 16#32
  ![v198.toNat, v199.toNat, 16]
def k0_off78 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v202 : Index := Scalar.indexCast v182
  let c16_100 : Index := 16#32
  ![v202.toNat, 16]
def k0_off79 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v206 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v207 : Index := Scalar.indexCast v183
  let c32 : Index := 32#32
  ![v206.toNat, v207.toNat, 32]
def k0_off80 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v210 : Index := Scalar.indexCast v182
  let c32_101 : Index := 32#32
  ![v210.toNat, 32]
def k0_off81 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v214 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v215 : Index := Scalar.indexCast v183
  let c48 : Index := 48#32
  ![v214.toNat, v215.toNat, 48]
def k0_off82 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v218 : Index := Scalar.indexCast v182
  let c48_102 : Index := 48#32
  ![v218.toNat, 48]
def k0_off83 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v222 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v223 : Index := Scalar.indexCast v183
  let c64 : Index := 64#32
  ![v222.toNat, v223.toNat, 64]
def k0_off84 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v226 : Index := Scalar.indexCast v182
  let c64_103 : Index := 64#32
  ![v226.toNat, 64]
def k0_off85 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v230 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v231 : Index := Scalar.indexCast v183
  let c80 : Index := 80#32
  ![v230.toNat, v231.toNat, 80]
def k0_off86 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v234 : Index := Scalar.indexCast v182
  let c80_104 : Index := 80#32
  ![v234.toNat, 80]
def k0_off87 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v238 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v239 : Index := Scalar.indexCast v183
  let c96 : Index := 96#32
  ![v238.toNat, v239.toNat, 96]
def k0_off88 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v242 : Index := Scalar.indexCast v182
  let c96_105 : Index := 96#32
  ![v242.toNat, 96]
def k0_off89 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v246 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v247 : Index := Scalar.indexCast v183
  let c112 : Index := 112#32
  ![v246.toNat, v247.toNat, 112]
def k0_off90 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v250 : Index := Scalar.indexCast v182
  let c112_106 : Index := 112#32
  ![v250.toNat, 112]
def k0_off91 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v254 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v255 : Index := Scalar.indexCast v183
  let c128 : Index := 128#32
  ![v254.toNat, v255.toNat, 128]
def k0_off92 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v258 : Index := Scalar.indexCast v182
  let c128_107 : Index := 128#32
  ![v258.toNat, 128]
def k0_off93 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v262 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v263 : Index := Scalar.indexCast v183
  let c144 : Index := 144#32
  ![v262.toNat, v263.toNat, 144]
def k0_off94 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v266 : Index := Scalar.indexCast v182
  let c144_108 : Index := 144#32
  ![v266.toNat, 144]
def k0_off95 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v270 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v271 : Index := Scalar.indexCast v183
  let c160 : Index := 160#32
  ![v270.toNat, v271.toNat, 160]
def k0_off96 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v274 : Index := Scalar.indexCast v182
  let c160_109 : Index := 160#32
  ![v274.toNat, 160]
def k0_off97 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v278 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v279 : Index := Scalar.indexCast v183
  let c176 : Index := 176#32
  ![v278.toNat, v279.toNat, 176]
def k0_off98 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v282 : Index := Scalar.indexCast v182
  let c176_110 : Index := 176#32
  ![v282.toNat, 176]
def k0_off99 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v286 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v287 : Index := Scalar.indexCast v183
  let c192 : Index := 192#32
  ![v286.toNat, v287.toNat, 192]
def k0_off100 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v290 : Index := Scalar.indexCast v182
  let c192_111 : Index := 192#32
  ![v290.toNat, 192]
def k0_off101 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v294 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v295 : Index := Scalar.indexCast v183
  let c208 : Index := 208#32
  ![v294.toNat, v295.toNat, 208]
def k0_off102 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v298 : Index := Scalar.indexCast v182
  let c208_112 : Index := 208#32
  ![v298.toNat, 208]
def k0_off103 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v302 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v303 : Index := Scalar.indexCast v183
  let c224 : Index := 224#32
  ![v302.toNat, v303.toNat, 224]
def k0_off104 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v306 : Index := Scalar.indexCast v182
  let c224_113 : Index := 224#32
  ![v306.toNat, 224]
def k0_off105 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v310 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v311 : Index := Scalar.indexCast v183
  let c240 : Index := 240#32
  ![v310.toNat, v311.toNat, 240]
def k0_off106 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v314 : Index := Scalar.indexCast v182
  let c240_114 : Index := 240#32
  ![v314.toNat, 240]
def k0_off107 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v318 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v319 : Index := Scalar.indexCast v183
  let c256 : Index := 256#32
  ![v318.toNat, v319.toNat, 256]
def k0_off108 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v322 : Index := Scalar.indexCast v182
  let c256_115 : Index := 256#32
  ![v322.toNat, 256]
def k0_off109 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v326 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v327 : Index := Scalar.indexCast v183
  let c272 : Index := 272#32
  ![v326.toNat, v327.toNat, 272]
def k0_off110 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v330 : Index := Scalar.indexCast v182
  let c272_116 : Index := 272#32
  ![v330.toNat, 272]
def k0_off111 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v334 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v335 : Index := Scalar.indexCast v183
  let c288 : Index := 288#32
  ![v334.toNat, v335.toNat, 288]
def k0_off112 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v338 : Index := Scalar.indexCast v182
  let c288_117 : Index := 288#32
  ![v338.toNat, 288]
def k0_off113 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v342 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v343 : Index := Scalar.indexCast v183
  let c304 : Index := 304#32
  ![v342.toNat, v343.toNat, 304]
def k0_off114 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v346 : Index := Scalar.indexCast v182
  let c304_118 : Index := 304#32
  ![v346.toNat, 304]
def k0_off115 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v350 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v351 : Index := Scalar.indexCast v183
  let c320 : Index := 320#32
  ![v350.toNat, v351.toNat, 320]
def k0_off116 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v354 : Index := Scalar.indexCast v182
  let c320_119 : Index := 320#32
  ![v354.toNat, 320]
def k0_off117 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v358 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v359 : Index := Scalar.indexCast v183
  let c336 : Index := 336#32
  ![v358.toNat, v359.toNat, 336]
def k0_off118 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v362 : Index := Scalar.indexCast v182
  let c336_120 : Index := 336#32
  ![v362.toNat, 336]
def k0_off119 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v366 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v367 : Index := Scalar.indexCast v183
  let c352 : Index := 352#32
  ![v366.toNat, v367.toNat, 352]
def k0_off120 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v370 : Index := Scalar.indexCast v182
  let c352_121 : Index := 352#32
  ![v370.toNat, 352]
def k0_off121 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v374 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v375 : Index := Scalar.indexCast v183
  let c368 : Index := 368#32
  ![v374.toNat, v375.toNat, 368]
def k0_off122 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v378 : Index := Scalar.indexCast v182
  let c368_122 : Index := 368#32
  ![v378.toNat, 368]
def k0_off123 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v382 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v383 : Index := Scalar.indexCast v183
  let c384 : Index := 384#32
  ![v382.toNat, v383.toNat, 384]
def k0_off124 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v386 : Index := Scalar.indexCast v182
  let c384_123 : Index := 384#32
  ![v386.toNat, 384]
def k0_off125 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v390 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v391 : Index := Scalar.indexCast v183
  let c400 : Index := 400#32
  ![v390.toNat, v391.toNat, 400]
def k0_off126 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v394 : Index := Scalar.indexCast v182
  let c400_124 : Index := 400#32
  ![v394.toNat, 400]
def k0_off127 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v398 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v399 : Index := Scalar.indexCast v183
  let c416 : Index := 416#32
  ![v398.toNat, v399.toNat, 416]
def k0_off128 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v402 : Index := Scalar.indexCast v182
  let c416_125 : Index := 416#32
  ![v402.toNat, 416]
def k0_off129 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v406 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v407 : Index := Scalar.indexCast v183
  let c432 : Index := 432#32
  ![v406.toNat, v407.toNat, 432]
def k0_off130 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v410 : Index := Scalar.indexCast v182
  let c432_126 : Index := 432#32
  ![v410.toNat, 432]
def k0_off131 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v414 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v415 : Index := Scalar.indexCast v183
  let c448 : Index := 448#32
  ![v414.toNat, v415.toNat, 448]
def k0_off132 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v418 : Index := Scalar.indexCast v182
  let c448_127 : Index := 448#32
  ![v418.toNat, 448]
def k0_off133 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v422 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v423 : Index := Scalar.indexCast v183
  let c464 : Index := 464#32
  ![v422.toNat, v423.toNat, 464]
def k0_off134 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v426 : Index := Scalar.indexCast v182
  let c464_128 : Index := 464#32
  ![v426.toNat, 464]
def k0_off135 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v430 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v431 : Index := Scalar.indexCast v183
  let c480 : Index := 480#32
  ![v430.toNat, v431.toNat, 480]
def k0_off136 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v434 : Index := Scalar.indexCast v182
  let c480_129 : Index := 480#32
  ![v434.toNat, 480]
def k0_off137 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v438 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v439 : Index := Scalar.indexCast v183
  let c496 : Index := 496#32
  ![v438.toNat, v439.toNat, 496]
def k0_off138 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v442 : Index := Scalar.indexCast v182
  let c496_130 : Index := 496#32
  ![v442.toNat, 496]
def k0_off139 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v446 : Index := Scalar.indexCast v182
  let c0_131 : Index := 0#32
  ![v446.toNat, 0]
def k0_off140 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v190 : Index := Scalar.indexCast v182
  let c0 : Index := 0#32
  ![v190.toNat, 0]
def k0_cond10 (arg16 : BitVec 32) (v181 : BitVec 32) : BitVec 1 :=
  let v184 : BitVec 1 := Scalar.cmpi .ne v181 arg16
  let true_97 : BitVec 1 := 1#1
  let v187 : BitVec 1 := Scalar.xori v184 true_97
  let v188 : BitVec 32 := Scalar.extui v187
  let c0_i32_98 : BitVec 32 := 0#32
  let v189 : BitVec 1 := Scalar.cmpi .ne v188 c0_i32_98
  v189

def k0_off141 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v193 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v194 : Index := Scalar.indexCast v183
  let c0_99 : Index := 0#32
  ![v193.toNat, v194.toNat, 0]
def k0_off142 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v202 : Index := Scalar.indexCast v182
  let c16 : Index := 16#32
  ![v202.toNat, 16]
def k0_off143 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v205 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v206 : Index := Scalar.indexCast v183
  let c16_101 : Index := 16#32
  ![v205.toNat, v206.toNat, 16]
def k0_off144 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v214 : Index := Scalar.indexCast v182
  let c32 : Index := 32#32
  ![v214.toNat, 32]
def k0_off145 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v217 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v218 : Index := Scalar.indexCast v183
  let c32_103 : Index := 32#32
  ![v217.toNat, v218.toNat, 32]
def k0_off146 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v226 : Index := Scalar.indexCast v182
  let c48 : Index := 48#32
  ![v226.toNat, 48]
def k0_off147 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v229 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v230 : Index := Scalar.indexCast v183
  let c48_105 : Index := 48#32
  ![v229.toNat, v230.toNat, 48]
def k0_off148 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v238 : Index := Scalar.indexCast v182
  let c64 : Index := 64#32
  ![v238.toNat, 64]
def k0_off149 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v241 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v242 : Index := Scalar.indexCast v183
  let c64_107 : Index := 64#32
  ![v241.toNat, v242.toNat, 64]
def k0_off150 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v250 : Index := Scalar.indexCast v182
  let c80 : Index := 80#32
  ![v250.toNat, 80]
def k0_off151 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v253 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v254 : Index := Scalar.indexCast v183
  let c80_109 : Index := 80#32
  ![v253.toNat, v254.toNat, 80]
def k0_off152 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v262 : Index := Scalar.indexCast v182
  let c96 : Index := 96#32
  ![v262.toNat, 96]
def k0_off153 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v265 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v266 : Index := Scalar.indexCast v183
  let c96_111 : Index := 96#32
  ![v265.toNat, v266.toNat, 96]
def k0_off154 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v274 : Index := Scalar.indexCast v182
  let c112 : Index := 112#32
  ![v274.toNat, 112]
def k0_off155 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v277 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v278 : Index := Scalar.indexCast v183
  let c112_113 : Index := 112#32
  ![v277.toNat, v278.toNat, 112]
def k0_off156 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v286 : Index := Scalar.indexCast v182
  let c128 : Index := 128#32
  ![v286.toNat, 128]
def k0_off157 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v289 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v290 : Index := Scalar.indexCast v183
  let c128_115 : Index := 128#32
  ![v289.toNat, v290.toNat, 128]
def k0_off158 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v298 : Index := Scalar.indexCast v182
  let c144 : Index := 144#32
  ![v298.toNat, 144]
def k0_off159 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v301 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v302 : Index := Scalar.indexCast v183
  let c144_117 : Index := 144#32
  ![v301.toNat, v302.toNat, 144]
def k0_off160 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v310 : Index := Scalar.indexCast v182
  let c160 : Index := 160#32
  ![v310.toNat, 160]
def k0_off161 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v313 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v314 : Index := Scalar.indexCast v183
  let c160_119 : Index := 160#32
  ![v313.toNat, v314.toNat, 160]
def k0_off162 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v322 : Index := Scalar.indexCast v182
  let c176 : Index := 176#32
  ![v322.toNat, 176]
def k0_off163 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v325 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v326 : Index := Scalar.indexCast v183
  let c176_121 : Index := 176#32
  ![v325.toNat, v326.toNat, 176]
def k0_off164 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v334 : Index := Scalar.indexCast v182
  let c192 : Index := 192#32
  ![v334.toNat, 192]
def k0_off165 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v337 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v338 : Index := Scalar.indexCast v183
  let c192_123 : Index := 192#32
  ![v337.toNat, v338.toNat, 192]
def k0_off166 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v346 : Index := Scalar.indexCast v182
  let c208 : Index := 208#32
  ![v346.toNat, 208]
def k0_off167 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v349 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v350 : Index := Scalar.indexCast v183
  let c208_125 : Index := 208#32
  ![v349.toNat, v350.toNat, 208]
def k0_off168 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v358 : Index := Scalar.indexCast v182
  let c224 : Index := 224#32
  ![v358.toNat, 224]
def k0_off169 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v361 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v362 : Index := Scalar.indexCast v183
  let c224_127 : Index := 224#32
  ![v361.toNat, v362.toNat, 224]
def k0_off170 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v370 : Index := Scalar.indexCast v182
  let c240 : Index := 240#32
  ![v370.toNat, 240]
def k0_off171 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v373 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v374 : Index := Scalar.indexCast v183
  let c240_129 : Index := 240#32
  ![v373.toNat, v374.toNat, 240]
def k0_off172 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v382 : Index := Scalar.indexCast v182
  let c256 : Index := 256#32
  ![v382.toNat, 256]
def k0_off173 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v385 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v386 : Index := Scalar.indexCast v183
  let c256_131 : Index := 256#32
  ![v385.toNat, v386.toNat, 256]
def k0_off174 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v394 : Index := Scalar.indexCast v182
  let c272 : Index := 272#32
  ![v394.toNat, 272]
def k0_off175 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v397 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v398 : Index := Scalar.indexCast v183
  let c272_133 : Index := 272#32
  ![v397.toNat, v398.toNat, 272]
def k0_off176 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v406 : Index := Scalar.indexCast v182
  let c288 : Index := 288#32
  ![v406.toNat, 288]
def k0_off177 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v409 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v410 : Index := Scalar.indexCast v183
  let c288_135 : Index := 288#32
  ![v409.toNat, v410.toNat, 288]
def k0_off178 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v418 : Index := Scalar.indexCast v182
  let c304 : Index := 304#32
  ![v418.toNat, 304]
def k0_off179 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v421 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v422 : Index := Scalar.indexCast v183
  let c304_137 : Index := 304#32
  ![v421.toNat, v422.toNat, 304]
def k0_off180 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v430 : Index := Scalar.indexCast v182
  let c320 : Index := 320#32
  ![v430.toNat, 320]
def k0_off181 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v433 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v434 : Index := Scalar.indexCast v183
  let c320_139 : Index := 320#32
  ![v433.toNat, v434.toNat, 320]
def k0_off182 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v442 : Index := Scalar.indexCast v182
  let c336 : Index := 336#32
  ![v442.toNat, 336]
def k0_off183 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v445 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v446 : Index := Scalar.indexCast v183
  let c336_141 : Index := 336#32
  ![v445.toNat, v446.toNat, 336]
def k0_off184 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v454 : Index := Scalar.indexCast v182
  let c352 : Index := 352#32
  ![v454.toNat, 352]
def k0_off185 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v457 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v458 : Index := Scalar.indexCast v183
  let c352_143 : Index := 352#32
  ![v457.toNat, v458.toNat, 352]
def k0_off186 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v466 : Index := Scalar.indexCast v182
  let c368 : Index := 368#32
  ![v466.toNat, 368]
def k0_off187 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v469 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v470 : Index := Scalar.indexCast v183
  let c368_145 : Index := 368#32
  ![v469.toNat, v470.toNat, 368]
def k0_off188 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v478 : Index := Scalar.indexCast v182
  let c384 : Index := 384#32
  ![v478.toNat, 384]
def k0_off189 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v481 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v482 : Index := Scalar.indexCast v183
  let c384_147 : Index := 384#32
  ![v481.toNat, v482.toNat, 384]
def k0_off190 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v490 : Index := Scalar.indexCast v182
  let c400 : Index := 400#32
  ![v490.toNat, 400]
def k0_off191 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v493 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v494 : Index := Scalar.indexCast v183
  let c400_149 : Index := 400#32
  ![v493.toNat, v494.toNat, 400]
def k0_off192 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v502 : Index := Scalar.indexCast v182
  let c416 : Index := 416#32
  ![v502.toNat, 416]
def k0_off193 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v505 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v506 : Index := Scalar.indexCast v183
  let c416_151 : Index := 416#32
  ![v505.toNat, v506.toNat, 416]
def k0_off194 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v514 : Index := Scalar.indexCast v182
  let c432 : Index := 432#32
  ![v514.toNat, 432]
def k0_off195 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v517 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v518 : Index := Scalar.indexCast v183
  let c432_153 : Index := 432#32
  ![v517.toNat, v518.toNat, 432]
def k0_off196 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v526 : Index := Scalar.indexCast v182
  let c448 : Index := 448#32
  ![v526.toNat, 448]
def k0_off197 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v529 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v530 : Index := Scalar.indexCast v183
  let c448_155 : Index := 448#32
  ![v529.toNat, v530.toNat, 448]
def k0_off198 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v538 : Index := Scalar.indexCast v182
  let c464 : Index := 464#32
  ![v538.toNat, 464]
def k0_off199 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v541 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v542 : Index := Scalar.indexCast v183
  let c464_157 : Index := 464#32
  ![v541.toNat, v542.toNat, 464]
def k0_off200 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v550 : Index := Scalar.indexCast v182
  let c480 : Index := 480#32
  ![v550.toNat, 480]
def k0_off201 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v553 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v554 : Index := Scalar.indexCast v183
  let c480_159 : Index := 480#32
  ![v553.toNat, v554.toNat, 480]
def k0_off202 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v562 : Index := Scalar.indexCast v182
  let c496 : Index := 496#32
  ![v562.toNat, 496]
def k0_off203 (v59_0 : BitVec 32) (v62_0 : BitVec 32) (k0_t6 : Fin (k0_t6_loop v59_0 v62_0).trips) (k0_t7 : Fin (k0_t7_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v565 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t7
  let c2016_i32 : BitVec 32 := 2016#32
  let v129 : BitVec 32 := Scalar.minsi v128 c2016_i32
  let v183 : BitVec 32 := Scalar.subi arg15 v129
  let v566 : Index := Scalar.indexCast v183
  let c496_161 : Index := 496#32
  ![v565.toNat, v566.toNat, 496]
def k0_off204 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v574 : Index := Scalar.indexCast v182
  let c0_163 : Index := 0#32
  ![v574.toNat, 0]

def k0_chk4_0 (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) : Prop :=
  (∀ (k0_h3 : k0_cond3 i v17 k0_t1 = 1#1), ∀ (k0_h9 : k0_cond9 arg16 v181 = 1#1), ∀ a, (k0_off75 v59_0 v62_0 k0_t6 k0_t7) a + S1x1x16.size a ≤ S2x32x512.size a) ∧
  (∀ (k0_h3 : k0_cond3 i v17 k0_t1 = 1#1), ∀ (k0_h9 : k0_cond9 arg16 v181 = 1#1), ∀ a, (k0_off76 i k0_t1 v181) a + S1x16.size a ≤ S128x512.size a) ∧
  (∀ (k0_h3 : k0_cond3 i v17 k0_t1 = 1#1), ∀ (k0_h9 : k0_cond9 arg16 v181 = 1#1), ∀ a, (k0_off77 v59_0 v62_0 k0_t6 k0_t7) a + S1x1x16.size a ≤ S2x32x512.size a) ∧
  (∀ (k0_h3 : k0_cond3 i v17 k0_t1 = 1#1), ∀ (k0_h9 : k0_cond9 arg16 v181 = 1#1), ∀ a, (k0_off78 i k0_t1 v181) a + S1x16.size a ≤ S128x512.size a) ∧
  (∀ (k0_h3 : k0_cond3 i v17 k0_t1 = 1#1), ∀ (k0_h9 : k0_cond9 arg16 v181 = 1#1), ∀ a, (k0_off79 v59_0 v62_0 k0_t6 k0_t7) a + S1x1x16.size a ≤ S2x32x512.size a) ∧
  (∀ (k0_h3 : k0_cond3 i v17 k0_t1 = 1#1), ∀ (k0_h9 : k0_cond9 arg16 v181 = 1#1), ∀ a, (k0_off80 i k0_t1 v181) a + S1x16.size a ≤ S128x512.size a) ∧
  (∀ (k0_h3 : k0_cond3 i v17 k0_t1 = 1#1), ∀ (k0_h9 : k0_cond9 arg16 v181 = 1#1), ∀ a, (k0_off81 v59_0 v62_0 k0_t6 k0_t7) a + S1x1x16.size a ≤ S2x32x512.size a) ∧
  (∀ (k0_h3 : k0_cond3 i v17 k0_t1 = 1#1), ∀ (k0_h9 : k0_cond9 arg16 v181 = 1#1), ∀ a, (k0_off82 i k0_t1 v181) a + S1x16.size a ≤ S128x512.size a) ∧
  (∀ (k0_h3 : k0_cond3 i v17 k0_t1 = 1#1), ∀ (k0_h9 : k0_cond9 arg16 v181 = 1#1), ∀ a, (k0_off83 v59_0 v62_0 k0_t6 k0_t7) a + S1x1x16.size a ≤ S2x32x512.size a) ∧
  (∀ (k0_h3 : k0_cond3 i v17 k0_t1 = 1#1), ∀ (k0_h9 : k0_cond9 arg16 v181 = 1#1), ∀ a, (k0_off84 i k0_t1 v181) a + S1x16.size a ≤ S128x512.size a) ∧
  (∀ (k0_h3 : k0_cond3 i v17 k0_t1 = 1#1), ∀ (k0_h9 : k0_cond9 arg16 v181 = 1#1), ∀ a, (k0_off85 v59_0 v62_0 k0_t6 k0_t7) a + S1x1x16.size a ≤ S2x32x512.size a) ∧
  (∀ (k0_h3 : k0_cond3 i v17 k0_t1 = 1#1), ∀ (k0_h9 : k0_cond9 arg16 v181 = 1#1), ∀ a, (k0_off86 i k0_t1 v181) a + S1x16.size a ≤ S128x512.size a) ∧
  (∀ (k0_h3 : k0_cond3 i v17 k0_t1 = 1#1), ∀ (k0_h9 : k0_cond9 arg16 v181 = 1#1), ∀ a, (k0_off87 v59_0 v62_0 k0_t6 k0_t7) a + S1x1x16.size a ≤ S2x32x512.size a) ∧
  (∀ (k0_h3 : k0_cond3 i v17 k0_t1 = 1#1), ∀ (k0_h9 : k0_cond9 arg16 v181 = 1#1), ∀ a, (k0_off88 i k0_t1 v181) a + S1x16.size a ≤ S128x512.size a) ∧
  (∀ (k0_h3 : k0_cond3 i v17 k0_t1 = 1#1), ∀ (k0_h9 : k0_cond9 arg16 v181 = 1#1), ∀ a, (k0_off89 v59_0 v62_0 k0_t6 k0_t7) a + S1x1x16.size a ≤ S2x32x512.size a) ∧
  (∀ (k0_h3 : k0_cond3 i v17 k0_t1 = 1#1), ∀ (k0_h9 : k0_cond9 arg16 v181 = 1#1), ∀ a, (k0_off90 i k0_t1 v181) a + S1x16.size a ≤ S128x512.size a) ∧
  (∀ (k0_h3 : k0_cond3 i v17 k0_t1 = 1#1), ∀ (k0_h9 : k0_cond9 arg16 v181 = 1#1), ∀ a, (k0_off91 v59_0 v62_0 k0_t6 k0_t7) a + S1x1x16.size a ≤ S2x32x512.size a) ∧
  (∀ (k0_h3 : k0_cond3 i v17 k0_t1 = 1#1), ∀ (k0_h9 : k0_cond9 arg16 v181 = 1#1), ∀ a, (k0_off92 i k0_t1 v181) a + S1x16.size a ≤ S128x512.size a) ∧
  (∀ (k0_h3 : k0_cond3 i v17 k0_t1 = 1#1), ∀ (k0_h9 : k0_cond9 arg16 v181 = 1#1), ∀ a, (k0_off93 v59_0 v62_0 k0_t6 k0_t7) a + S1x1x16.size a ≤ S2x32x512.size a) ∧
  (∀ (k0_h3 : k0_cond3 i v17 k0_t1 = 1#1), ∀ (k0_h9 : k0_cond9 arg16 v181 = 1#1), ∀ a, (k0_off94 i k0_t1 v181) a + S1x16.size a ≤ S128x512.size a) ∧
  (∀ (k0_h3 : k0_cond3 i v17 k0_t1 = 1#1), ∀ (k0_h9 : k0_cond9 arg16 v181 = 1#1), ∀ a, (k0_off95 v59_0 v62_0 k0_t6 k0_t7) a + S1x1x16.size a ≤ S2x32x512.size a) ∧
  (∀ (k0_h3 : k0_cond3 i v17 k0_t1 = 1#1), ∀ (k0_h9 : k0_cond9 arg16 v181 = 1#1), ∀ a, (k0_off96 i k0_t1 v181) a + S1x16.size a ≤ S128x512.size a) ∧
  (∀ (k0_h3 : k0_cond3 i v17 k0_t1 = 1#1), ∀ (k0_h9 : k0_cond9 arg16 v181 = 1#1), ∀ a, (k0_off97 v59_0 v62_0 k0_t6 k0_t7) a + S1x1x16.size a ≤ S2x32x512.size a) ∧
  (∀ (k0_h3 : k0_cond3 i v17 k0_t1 = 1#1), ∀ (k0_h9 : k0_cond9 arg16 v181 = 1#1), ∀ a, (k0_off98 i k0_t1 v181) a + S1x16.size a ≤ S128x512.size a) ∧
  (∀ (k0_h3 : k0_cond3 i v17 k0_t1 = 1#1), ∀ (k0_h9 : k0_cond9 arg16 v181 = 1#1), ∀ a, (k0_off99 v59_0 v62_0 k0_t6 k0_t7) a + S1x1x16.size a ≤ S2x32x512.size a) ∧
  (∀ (k0_h3 : k0_cond3 i v17 k0_t1 = 1#1), ∀ (k0_h9 : k0_cond9 arg16 v181 = 1#1), ∀ a, (k0_off100 i k0_t1 v181) a + S1x16.size a ≤ S128x512.size a) ∧
  (∀ (k0_h3 : k0_cond3 i v17 k0_t1 = 1#1), ∀ (k0_h9 : k0_cond9 arg16 v181 = 1#1), ∀ a, (k0_off101 v59_0 v62_0 k0_t6 k0_t7) a + S1x1x16.size a ≤ S2x32x512.size a) ∧
  (∀ (k0_h3 : k0_cond3 i v17 k0_t1 = 1#1), ∀ (k0_h9 : k0_cond9 arg16 v181 = 1#1), ∀ a, (k0_off102 i k0_t1 v181) a + S1x16.size a ≤ S128x512.size a) ∧
  (∀ (k0_h3 : k0_cond3 i v17 k0_t1 = 1#1), ∀ (k0_h9 : k0_cond9 arg16 v181 = 1#1), ∀ a, (k0_off103 v59_0 v62_0 k0_t6 k0_t7) a + S1x1x16.size a ≤ S2x32x512.size a) ∧
  (∀ (k0_h3 : k0_cond3 i v17 k0_t1 = 1#1), ∀ (k0_h9 : k0_cond9 arg16 v181 = 1#1), ∀ a, (k0_off104 i k0_t1 v181) a + S1x16.size a ≤ S128x512.size a) ∧
  (∀ (k0_h3 : k0_cond3 i v17 k0_t1 = 1#1), ∀ (k0_h9 : k0_cond9 arg16 v181 = 1#1), ∀ a, (k0_off105 v59_0 v62_0 k0_t6 k0_t7) a + S1x1x16.size a ≤ S2x32x512.size a) ∧
  (∀ (k0_h3 : k0_cond3 i v17 k0_t1 = 1#1), ∀ (k0_h9 : k0_cond9 arg16 v181 = 1#1), ∀ a, (k0_off106 i k0_t1 v181) a + S1x16.size a ≤ S128x512.size a)
def k0_chk4_1 (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) : Prop :=
  (∀ (k0_h3 : k0_cond3 i v17 k0_t1 = 1#1), ∀ (k0_h9 : k0_cond9 arg16 v181 = 1#1), ∀ a, (k0_off107 v59_0 v62_0 k0_t6 k0_t7) a + S1x1x16.size a ≤ S2x32x512.size a) ∧
  (∀ (k0_h3 : k0_cond3 i v17 k0_t1 = 1#1), ∀ (k0_h9 : k0_cond9 arg16 v181 = 1#1), ∀ a, (k0_off108 i k0_t1 v181) a + S1x16.size a ≤ S128x512.size a) ∧
  (∀ (k0_h3 : k0_cond3 i v17 k0_t1 = 1#1), ∀ (k0_h9 : k0_cond9 arg16 v181 = 1#1), ∀ a, (k0_off109 v59_0 v62_0 k0_t6 k0_t7) a + S1x1x16.size a ≤ S2x32x512.size a) ∧
  (∀ (k0_h3 : k0_cond3 i v17 k0_t1 = 1#1), ∀ (k0_h9 : k0_cond9 arg16 v181 = 1#1), ∀ a, (k0_off110 i k0_t1 v181) a + S1x16.size a ≤ S128x512.size a) ∧
  (∀ (k0_h3 : k0_cond3 i v17 k0_t1 = 1#1), ∀ (k0_h9 : k0_cond9 arg16 v181 = 1#1), ∀ a, (k0_off111 v59_0 v62_0 k0_t6 k0_t7) a + S1x1x16.size a ≤ S2x32x512.size a) ∧
  (∀ (k0_h3 : k0_cond3 i v17 k0_t1 = 1#1), ∀ (k0_h9 : k0_cond9 arg16 v181 = 1#1), ∀ a, (k0_off112 i k0_t1 v181) a + S1x16.size a ≤ S128x512.size a) ∧
  (∀ (k0_h3 : k0_cond3 i v17 k0_t1 = 1#1), ∀ (k0_h9 : k0_cond9 arg16 v181 = 1#1), ∀ a, (k0_off113 v59_0 v62_0 k0_t6 k0_t7) a + S1x1x16.size a ≤ S2x32x512.size a) ∧
  (∀ (k0_h3 : k0_cond3 i v17 k0_t1 = 1#1), ∀ (k0_h9 : k0_cond9 arg16 v181 = 1#1), ∀ a, (k0_off114 i k0_t1 v181) a + S1x16.size a ≤ S128x512.size a) ∧
  (∀ (k0_h3 : k0_cond3 i v17 k0_t1 = 1#1), ∀ (k0_h9 : k0_cond9 arg16 v181 = 1#1), ∀ a, (k0_off115 v59_0 v62_0 k0_t6 k0_t7) a + S1x1x16.size a ≤ S2x32x512.size a) ∧
  (∀ (k0_h3 : k0_cond3 i v17 k0_t1 = 1#1), ∀ (k0_h9 : k0_cond9 arg16 v181 = 1#1), ∀ a, (k0_off116 i k0_t1 v181) a + S1x16.size a ≤ S128x512.size a) ∧
  (∀ (k0_h3 : k0_cond3 i v17 k0_t1 = 1#1), ∀ (k0_h9 : k0_cond9 arg16 v181 = 1#1), ∀ a, (k0_off117 v59_0 v62_0 k0_t6 k0_t7) a + S1x1x16.size a ≤ S2x32x512.size a) ∧
  (∀ (k0_h3 : k0_cond3 i v17 k0_t1 = 1#1), ∀ (k0_h9 : k0_cond9 arg16 v181 = 1#1), ∀ a, (k0_off118 i k0_t1 v181) a + S1x16.size a ≤ S128x512.size a) ∧
  (∀ (k0_h3 : k0_cond3 i v17 k0_t1 = 1#1), ∀ (k0_h9 : k0_cond9 arg16 v181 = 1#1), ∀ a, (k0_off119 v59_0 v62_0 k0_t6 k0_t7) a + S1x1x16.size a ≤ S2x32x512.size a) ∧
  (∀ (k0_h3 : k0_cond3 i v17 k0_t1 = 1#1), ∀ (k0_h9 : k0_cond9 arg16 v181 = 1#1), ∀ a, (k0_off120 i k0_t1 v181) a + S1x16.size a ≤ S128x512.size a) ∧
  (∀ (k0_h3 : k0_cond3 i v17 k0_t1 = 1#1), ∀ (k0_h9 : k0_cond9 arg16 v181 = 1#1), ∀ a, (k0_off121 v59_0 v62_0 k0_t6 k0_t7) a + S1x1x16.size a ≤ S2x32x512.size a) ∧
  (∀ (k0_h3 : k0_cond3 i v17 k0_t1 = 1#1), ∀ (k0_h9 : k0_cond9 arg16 v181 = 1#1), ∀ a, (k0_off122 i k0_t1 v181) a + S1x16.size a ≤ S128x512.size a) ∧
  (∀ (k0_h3 : k0_cond3 i v17 k0_t1 = 1#1), ∀ (k0_h9 : k0_cond9 arg16 v181 = 1#1), ∀ a, (k0_off123 v59_0 v62_0 k0_t6 k0_t7) a + S1x1x16.size a ≤ S2x32x512.size a) ∧
  (∀ (k0_h3 : k0_cond3 i v17 k0_t1 = 1#1), ∀ (k0_h9 : k0_cond9 arg16 v181 = 1#1), ∀ a, (k0_off124 i k0_t1 v181) a + S1x16.size a ≤ S128x512.size a) ∧
  (∀ (k0_h3 : k0_cond3 i v17 k0_t1 = 1#1), ∀ (k0_h9 : k0_cond9 arg16 v181 = 1#1), ∀ a, (k0_off125 v59_0 v62_0 k0_t6 k0_t7) a + S1x1x16.size a ≤ S2x32x512.size a) ∧
  (∀ (k0_h3 : k0_cond3 i v17 k0_t1 = 1#1), ∀ (k0_h9 : k0_cond9 arg16 v181 = 1#1), ∀ a, (k0_off126 i k0_t1 v181) a + S1x16.size a ≤ S128x512.size a) ∧
  (∀ (k0_h3 : k0_cond3 i v17 k0_t1 = 1#1), ∀ (k0_h9 : k0_cond9 arg16 v181 = 1#1), ∀ a, (k0_off127 v59_0 v62_0 k0_t6 k0_t7) a + S1x1x16.size a ≤ S2x32x512.size a) ∧
  (∀ (k0_h3 : k0_cond3 i v17 k0_t1 = 1#1), ∀ (k0_h9 : k0_cond9 arg16 v181 = 1#1), ∀ a, (k0_off128 i k0_t1 v181) a + S1x16.size a ≤ S128x512.size a) ∧
  (∀ (k0_h3 : k0_cond3 i v17 k0_t1 = 1#1), ∀ (k0_h9 : k0_cond9 arg16 v181 = 1#1), ∀ a, (k0_off129 v59_0 v62_0 k0_t6 k0_t7) a + S1x1x16.size a ≤ S2x32x512.size a) ∧
  (∀ (k0_h3 : k0_cond3 i v17 k0_t1 = 1#1), ∀ (k0_h9 : k0_cond9 arg16 v181 = 1#1), ∀ a, (k0_off130 i k0_t1 v181) a + S1x16.size a ≤ S128x512.size a) ∧
  (∀ (k0_h3 : k0_cond3 i v17 k0_t1 = 1#1), ∀ (k0_h9 : k0_cond9 arg16 v181 = 1#1), ∀ a, (k0_off131 v59_0 v62_0 k0_t6 k0_t7) a + S1x1x16.size a ≤ S2x32x512.size a) ∧
  (∀ (k0_h3 : k0_cond3 i v17 k0_t1 = 1#1), ∀ (k0_h9 : k0_cond9 arg16 v181 = 1#1), ∀ a, (k0_off132 i k0_t1 v181) a + S1x16.size a ≤ S128x512.size a) ∧
  (∀ (k0_h3 : k0_cond3 i v17 k0_t1 = 1#1), ∀ (k0_h9 : k0_cond9 arg16 v181 = 1#1), ∀ a, (k0_off133 v59_0 v62_0 k0_t6 k0_t7) a + S1x1x16.size a ≤ S2x32x512.size a) ∧
  (∀ (k0_h3 : k0_cond3 i v17 k0_t1 = 1#1), ∀ (k0_h9 : k0_cond9 arg16 v181 = 1#1), ∀ a, (k0_off134 i k0_t1 v181) a + S1x16.size a ≤ S128x512.size a) ∧
  (∀ (k0_h3 : k0_cond3 i v17 k0_t1 = 1#1), ∀ (k0_h9 : k0_cond9 arg16 v181 = 1#1), ∀ a, (k0_off135 v59_0 v62_0 k0_t6 k0_t7) a + S1x1x16.size a ≤ S2x32x512.size a) ∧
  (∀ (k0_h3 : k0_cond3 i v17 k0_t1 = 1#1), ∀ (k0_h9 : k0_cond9 arg16 v181 = 1#1), ∀ a, (k0_off136 i k0_t1 v181) a + S1x16.size a ≤ S128x512.size a) ∧
  (∀ (k0_h3 : k0_cond3 i v17 k0_t1 = 1#1), ∀ (k0_h9 : k0_cond9 arg16 v181 = 1#1), ∀ a, (k0_off137 v59_0 v62_0 k0_t6 k0_t7) a + S1x1x16.size a ≤ S2x32x512.size a) ∧
  (∀ (k0_h3 : k0_cond3 i v17 k0_t1 = 1#1), ∀ (k0_h9 : k0_cond9 arg16 v181 = 1#1), ∀ a, (k0_off138 i k0_t1 v181) a + S1x16.size a ≤ S128x512.size a)
def k0_chk4_2 (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) : Prop :=
  (∀ (k0_h3 : k0_cond3 i v17 k0_t1 = 1#1), ∀ (k0_h9 : k0_cond9 arg16 v181 = 1#1), ∀ a, (k0_off139 i k0_t1 v181) a + S1x16.size a ≤ S128x16.size a) ∧
  (∀ (k0_h3 : k0_cond3 i v17 k0_t1 = 1#1), ∀ (k0_h10 : k0_cond10 arg16 v181 = 1#1), ∀ a, (k0_off140 i k0_t1 v181) a + S1x16.size a ≤ S128x512.size a) ∧
  (∀ (k0_h3 : k0_cond3 i v17 k0_t1 = 1#1), ∀ (k0_h10 : k0_cond10 arg16 v181 = 1#1), ∀ a, (k0_off141 v59_0 v62_0 k0_t6 k0_t7) a + S1x1x16.size a ≤ S2x32x512.size a) ∧
  (∀ (k0_h3 : k0_cond3 i v17 k0_t1 = 1#1), ∀ (k0_h10 : k0_cond10 arg16 v181 = 1#1), ∀ a, (k0_off142 i k0_t1 v181) a + S1x16.size a ≤ S128x512.size a) ∧
  (∀ (k0_h3 : k0_cond3 i v17 k0_t1 = 1#1), ∀ (k0_h10 : k0_cond10 arg16 v181 = 1#1), ∀ a, (k0_off143 v59_0 v62_0 k0_t6 k0_t7) a + S1x1x16.size a ≤ S2x32x512.size a) ∧
  (∀ (k0_h3 : k0_cond3 i v17 k0_t1 = 1#1), ∀ (k0_h10 : k0_cond10 arg16 v181 = 1#1), ∀ a, (k0_off144 i k0_t1 v181) a + S1x16.size a ≤ S128x512.size a) ∧
  (∀ (k0_h3 : k0_cond3 i v17 k0_t1 = 1#1), ∀ (k0_h10 : k0_cond10 arg16 v181 = 1#1), ∀ a, (k0_off145 v59_0 v62_0 k0_t6 k0_t7) a + S1x1x16.size a ≤ S2x32x512.size a) ∧
  (∀ (k0_h3 : k0_cond3 i v17 k0_t1 = 1#1), ∀ (k0_h10 : k0_cond10 arg16 v181 = 1#1), ∀ a, (k0_off146 i k0_t1 v181) a + S1x16.size a ≤ S128x512.size a) ∧
  (∀ (k0_h3 : k0_cond3 i v17 k0_t1 = 1#1), ∀ (k0_h10 : k0_cond10 arg16 v181 = 1#1), ∀ a, (k0_off147 v59_0 v62_0 k0_t6 k0_t7) a + S1x1x16.size a ≤ S2x32x512.size a) ∧
  (∀ (k0_h3 : k0_cond3 i v17 k0_t1 = 1#1), ∀ (k0_h10 : k0_cond10 arg16 v181 = 1#1), ∀ a, (k0_off148 i k0_t1 v181) a + S1x16.size a ≤ S128x512.size a) ∧
  (∀ (k0_h3 : k0_cond3 i v17 k0_t1 = 1#1), ∀ (k0_h10 : k0_cond10 arg16 v181 = 1#1), ∀ a, (k0_off149 v59_0 v62_0 k0_t6 k0_t7) a + S1x1x16.size a ≤ S2x32x512.size a) ∧
  (∀ (k0_h3 : k0_cond3 i v17 k0_t1 = 1#1), ∀ (k0_h10 : k0_cond10 arg16 v181 = 1#1), ∀ a, (k0_off150 i k0_t1 v181) a + S1x16.size a ≤ S128x512.size a) ∧
  (∀ (k0_h3 : k0_cond3 i v17 k0_t1 = 1#1), ∀ (k0_h10 : k0_cond10 arg16 v181 = 1#1), ∀ a, (k0_off151 v59_0 v62_0 k0_t6 k0_t7) a + S1x1x16.size a ≤ S2x32x512.size a) ∧
  (∀ (k0_h3 : k0_cond3 i v17 k0_t1 = 1#1), ∀ (k0_h10 : k0_cond10 arg16 v181 = 1#1), ∀ a, (k0_off152 i k0_t1 v181) a + S1x16.size a ≤ S128x512.size a) ∧
  (∀ (k0_h3 : k0_cond3 i v17 k0_t1 = 1#1), ∀ (k0_h10 : k0_cond10 arg16 v181 = 1#1), ∀ a, (k0_off153 v59_0 v62_0 k0_t6 k0_t7) a + S1x1x16.size a ≤ S2x32x512.size a) ∧
  (∀ (k0_h3 : k0_cond3 i v17 k0_t1 = 1#1), ∀ (k0_h10 : k0_cond10 arg16 v181 = 1#1), ∀ a, (k0_off154 i k0_t1 v181) a + S1x16.size a ≤ S128x512.size a) ∧
  (∀ (k0_h3 : k0_cond3 i v17 k0_t1 = 1#1), ∀ (k0_h10 : k0_cond10 arg16 v181 = 1#1), ∀ a, (k0_off155 v59_0 v62_0 k0_t6 k0_t7) a + S1x1x16.size a ≤ S2x32x512.size a) ∧
  (∀ (k0_h3 : k0_cond3 i v17 k0_t1 = 1#1), ∀ (k0_h10 : k0_cond10 arg16 v181 = 1#1), ∀ a, (k0_off156 i k0_t1 v181) a + S1x16.size a ≤ S128x512.size a) ∧
  (∀ (k0_h3 : k0_cond3 i v17 k0_t1 = 1#1), ∀ (k0_h10 : k0_cond10 arg16 v181 = 1#1), ∀ a, (k0_off157 v59_0 v62_0 k0_t6 k0_t7) a + S1x1x16.size a ≤ S2x32x512.size a) ∧
  (∀ (k0_h3 : k0_cond3 i v17 k0_t1 = 1#1), ∀ (k0_h10 : k0_cond10 arg16 v181 = 1#1), ∀ a, (k0_off158 i k0_t1 v181) a + S1x16.size a ≤ S128x512.size a) ∧
  (∀ (k0_h3 : k0_cond3 i v17 k0_t1 = 1#1), ∀ (k0_h10 : k0_cond10 arg16 v181 = 1#1), ∀ a, (k0_off159 v59_0 v62_0 k0_t6 k0_t7) a + S1x1x16.size a ≤ S2x32x512.size a) ∧
  (∀ (k0_h3 : k0_cond3 i v17 k0_t1 = 1#1), ∀ (k0_h10 : k0_cond10 arg16 v181 = 1#1), ∀ a, (k0_off160 i k0_t1 v181) a + S1x16.size a ≤ S128x512.size a) ∧
  (∀ (k0_h3 : k0_cond3 i v17 k0_t1 = 1#1), ∀ (k0_h10 : k0_cond10 arg16 v181 = 1#1), ∀ a, (k0_off161 v59_0 v62_0 k0_t6 k0_t7) a + S1x1x16.size a ≤ S2x32x512.size a) ∧
  (∀ (k0_h3 : k0_cond3 i v17 k0_t1 = 1#1), ∀ (k0_h10 : k0_cond10 arg16 v181 = 1#1), ∀ a, (k0_off162 i k0_t1 v181) a + S1x16.size a ≤ S128x512.size a) ∧
  (∀ (k0_h3 : k0_cond3 i v17 k0_t1 = 1#1), ∀ (k0_h10 : k0_cond10 arg16 v181 = 1#1), ∀ a, (k0_off163 v59_0 v62_0 k0_t6 k0_t7) a + S1x1x16.size a ≤ S2x32x512.size a) ∧
  (∀ (k0_h3 : k0_cond3 i v17 k0_t1 = 1#1), ∀ (k0_h10 : k0_cond10 arg16 v181 = 1#1), ∀ a, (k0_off164 i k0_t1 v181) a + S1x16.size a ≤ S128x512.size a) ∧
  (∀ (k0_h3 : k0_cond3 i v17 k0_t1 = 1#1), ∀ (k0_h10 : k0_cond10 arg16 v181 = 1#1), ∀ a, (k0_off165 v59_0 v62_0 k0_t6 k0_t7) a + S1x1x16.size a ≤ S2x32x512.size a) ∧
  (∀ (k0_h3 : k0_cond3 i v17 k0_t1 = 1#1), ∀ (k0_h10 : k0_cond10 arg16 v181 = 1#1), ∀ a, (k0_off166 i k0_t1 v181) a + S1x16.size a ≤ S128x512.size a) ∧
  (∀ (k0_h3 : k0_cond3 i v17 k0_t1 = 1#1), ∀ (k0_h10 : k0_cond10 arg16 v181 = 1#1), ∀ a, (k0_off167 v59_0 v62_0 k0_t6 k0_t7) a + S1x1x16.size a ≤ S2x32x512.size a) ∧
  (∀ (k0_h3 : k0_cond3 i v17 k0_t1 = 1#1), ∀ (k0_h10 : k0_cond10 arg16 v181 = 1#1), ∀ a, (k0_off168 i k0_t1 v181) a + S1x16.size a ≤ S128x512.size a) ∧
  (∀ (k0_h3 : k0_cond3 i v17 k0_t1 = 1#1), ∀ (k0_h10 : k0_cond10 arg16 v181 = 1#1), ∀ a, (k0_off169 v59_0 v62_0 k0_t6 k0_t7) a + S1x1x16.size a ≤ S2x32x512.size a) ∧
  (∀ (k0_h3 : k0_cond3 i v17 k0_t1 = 1#1), ∀ (k0_h10 : k0_cond10 arg16 v181 = 1#1), ∀ a, (k0_off170 i k0_t1 v181) a + S1x16.size a ≤ S128x512.size a)
def k0_chk4_3 (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) : Prop :=
  (∀ (k0_h3 : k0_cond3 i v17 k0_t1 = 1#1), ∀ (k0_h10 : k0_cond10 arg16 v181 = 1#1), ∀ a, (k0_off171 v59_0 v62_0 k0_t6 k0_t7) a + S1x1x16.size a ≤ S2x32x512.size a) ∧
  (∀ (k0_h3 : k0_cond3 i v17 k0_t1 = 1#1), ∀ (k0_h10 : k0_cond10 arg16 v181 = 1#1), ∀ a, (k0_off172 i k0_t1 v181) a + S1x16.size a ≤ S128x512.size a) ∧
  (∀ (k0_h3 : k0_cond3 i v17 k0_t1 = 1#1), ∀ (k0_h10 : k0_cond10 arg16 v181 = 1#1), ∀ a, (k0_off173 v59_0 v62_0 k0_t6 k0_t7) a + S1x1x16.size a ≤ S2x32x512.size a) ∧
  (∀ (k0_h3 : k0_cond3 i v17 k0_t1 = 1#1), ∀ (k0_h10 : k0_cond10 arg16 v181 = 1#1), ∀ a, (k0_off174 i k0_t1 v181) a + S1x16.size a ≤ S128x512.size a) ∧
  (∀ (k0_h3 : k0_cond3 i v17 k0_t1 = 1#1), ∀ (k0_h10 : k0_cond10 arg16 v181 = 1#1), ∀ a, (k0_off175 v59_0 v62_0 k0_t6 k0_t7) a + S1x1x16.size a ≤ S2x32x512.size a) ∧
  (∀ (k0_h3 : k0_cond3 i v17 k0_t1 = 1#1), ∀ (k0_h10 : k0_cond10 arg16 v181 = 1#1), ∀ a, (k0_off176 i k0_t1 v181) a + S1x16.size a ≤ S128x512.size a) ∧
  (∀ (k0_h3 : k0_cond3 i v17 k0_t1 = 1#1), ∀ (k0_h10 : k0_cond10 arg16 v181 = 1#1), ∀ a, (k0_off177 v59_0 v62_0 k0_t6 k0_t7) a + S1x1x16.size a ≤ S2x32x512.size a) ∧
  (∀ (k0_h3 : k0_cond3 i v17 k0_t1 = 1#1), ∀ (k0_h10 : k0_cond10 arg16 v181 = 1#1), ∀ a, (k0_off178 i k0_t1 v181) a + S1x16.size a ≤ S128x512.size a) ∧
  (∀ (k0_h3 : k0_cond3 i v17 k0_t1 = 1#1), ∀ (k0_h10 : k0_cond10 arg16 v181 = 1#1), ∀ a, (k0_off179 v59_0 v62_0 k0_t6 k0_t7) a + S1x1x16.size a ≤ S2x32x512.size a) ∧
  (∀ (k0_h3 : k0_cond3 i v17 k0_t1 = 1#1), ∀ (k0_h10 : k0_cond10 arg16 v181 = 1#1), ∀ a, (k0_off180 i k0_t1 v181) a + S1x16.size a ≤ S128x512.size a) ∧
  (∀ (k0_h3 : k0_cond3 i v17 k0_t1 = 1#1), ∀ (k0_h10 : k0_cond10 arg16 v181 = 1#1), ∀ a, (k0_off181 v59_0 v62_0 k0_t6 k0_t7) a + S1x1x16.size a ≤ S2x32x512.size a) ∧
  (∀ (k0_h3 : k0_cond3 i v17 k0_t1 = 1#1), ∀ (k0_h10 : k0_cond10 arg16 v181 = 1#1), ∀ a, (k0_off182 i k0_t1 v181) a + S1x16.size a ≤ S128x512.size a) ∧
  (∀ (k0_h3 : k0_cond3 i v17 k0_t1 = 1#1), ∀ (k0_h10 : k0_cond10 arg16 v181 = 1#1), ∀ a, (k0_off183 v59_0 v62_0 k0_t6 k0_t7) a + S1x1x16.size a ≤ S2x32x512.size a) ∧
  (∀ (k0_h3 : k0_cond3 i v17 k0_t1 = 1#1), ∀ (k0_h10 : k0_cond10 arg16 v181 = 1#1), ∀ a, (k0_off184 i k0_t1 v181) a + S1x16.size a ≤ S128x512.size a) ∧
  (∀ (k0_h3 : k0_cond3 i v17 k0_t1 = 1#1), ∀ (k0_h10 : k0_cond10 arg16 v181 = 1#1), ∀ a, (k0_off185 v59_0 v62_0 k0_t6 k0_t7) a + S1x1x16.size a ≤ S2x32x512.size a) ∧
  (∀ (k0_h3 : k0_cond3 i v17 k0_t1 = 1#1), ∀ (k0_h10 : k0_cond10 arg16 v181 = 1#1), ∀ a, (k0_off186 i k0_t1 v181) a + S1x16.size a ≤ S128x512.size a) ∧
  (∀ (k0_h3 : k0_cond3 i v17 k0_t1 = 1#1), ∀ (k0_h10 : k0_cond10 arg16 v181 = 1#1), ∀ a, (k0_off187 v59_0 v62_0 k0_t6 k0_t7) a + S1x1x16.size a ≤ S2x32x512.size a) ∧
  (∀ (k0_h3 : k0_cond3 i v17 k0_t1 = 1#1), ∀ (k0_h10 : k0_cond10 arg16 v181 = 1#1), ∀ a, (k0_off188 i k0_t1 v181) a + S1x16.size a ≤ S128x512.size a) ∧
  (∀ (k0_h3 : k0_cond3 i v17 k0_t1 = 1#1), ∀ (k0_h10 : k0_cond10 arg16 v181 = 1#1), ∀ a, (k0_off189 v59_0 v62_0 k0_t6 k0_t7) a + S1x1x16.size a ≤ S2x32x512.size a) ∧
  (∀ (k0_h3 : k0_cond3 i v17 k0_t1 = 1#1), ∀ (k0_h10 : k0_cond10 arg16 v181 = 1#1), ∀ a, (k0_off190 i k0_t1 v181) a + S1x16.size a ≤ S128x512.size a) ∧
  (∀ (k0_h3 : k0_cond3 i v17 k0_t1 = 1#1), ∀ (k0_h10 : k0_cond10 arg16 v181 = 1#1), ∀ a, (k0_off191 v59_0 v62_0 k0_t6 k0_t7) a + S1x1x16.size a ≤ S2x32x512.size a) ∧
  (∀ (k0_h3 : k0_cond3 i v17 k0_t1 = 1#1), ∀ (k0_h10 : k0_cond10 arg16 v181 = 1#1), ∀ a, (k0_off192 i k0_t1 v181) a + S1x16.size a ≤ S128x512.size a) ∧
  (∀ (k0_h3 : k0_cond3 i v17 k0_t1 = 1#1), ∀ (k0_h10 : k0_cond10 arg16 v181 = 1#1), ∀ a, (k0_off193 v59_0 v62_0 k0_t6 k0_t7) a + S1x1x16.size a ≤ S2x32x512.size a) ∧
  (∀ (k0_h3 : k0_cond3 i v17 k0_t1 = 1#1), ∀ (k0_h10 : k0_cond10 arg16 v181 = 1#1), ∀ a, (k0_off194 i k0_t1 v181) a + S1x16.size a ≤ S128x512.size a) ∧
  (∀ (k0_h3 : k0_cond3 i v17 k0_t1 = 1#1), ∀ (k0_h10 : k0_cond10 arg16 v181 = 1#1), ∀ a, (k0_off195 v59_0 v62_0 k0_t6 k0_t7) a + S1x1x16.size a ≤ S2x32x512.size a) ∧
  (∀ (k0_h3 : k0_cond3 i v17 k0_t1 = 1#1), ∀ (k0_h10 : k0_cond10 arg16 v181 = 1#1), ∀ a, (k0_off196 i k0_t1 v181) a + S1x16.size a ≤ S128x512.size a) ∧
  (∀ (k0_h3 : k0_cond3 i v17 k0_t1 = 1#1), ∀ (k0_h10 : k0_cond10 arg16 v181 = 1#1), ∀ a, (k0_off197 v59_0 v62_0 k0_t6 k0_t7) a + S1x1x16.size a ≤ S2x32x512.size a) ∧
  (∀ (k0_h3 : k0_cond3 i v17 k0_t1 = 1#1), ∀ (k0_h10 : k0_cond10 arg16 v181 = 1#1), ∀ a, (k0_off198 i k0_t1 v181) a + S1x16.size a ≤ S128x512.size a) ∧
  (∀ (k0_h3 : k0_cond3 i v17 k0_t1 = 1#1), ∀ (k0_h10 : k0_cond10 arg16 v181 = 1#1), ∀ a, (k0_off199 v59_0 v62_0 k0_t6 k0_t7) a + S1x1x16.size a ≤ S2x32x512.size a) ∧
  (∀ (k0_h3 : k0_cond3 i v17 k0_t1 = 1#1), ∀ (k0_h10 : k0_cond10 arg16 v181 = 1#1), ∀ a, (k0_off200 i k0_t1 v181) a + S1x16.size a ≤ S128x512.size a) ∧
  (∀ (k0_h3 : k0_cond3 i v17 k0_t1 = 1#1), ∀ (k0_h10 : k0_cond10 arg16 v181 = 1#1), ∀ a, (k0_off201 v59_0 v62_0 k0_t6 k0_t7) a + S1x1x16.size a ≤ S2x32x512.size a) ∧
  (∀ (k0_h3 : k0_cond3 i v17 k0_t1 = 1#1), ∀ (k0_h10 : k0_cond10 arg16 v181 = 1#1), ∀ a, (k0_off202 i k0_t1 v181) a + S1x16.size a ≤ S128x512.size a)
def k0_chk4_4 (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) : Prop :=
  (∀ (k0_h3 : k0_cond3 i v17 k0_t1 = 1#1), ∀ (k0_h10 : k0_cond10 arg16 v181 = 1#1), ∀ a, (k0_off203 v59_0 v62_0 k0_t6 k0_t7) a + S1x1x16.size a ≤ S2x32x512.size a) ∧
  (∀ (k0_h3 : k0_cond3 i v17 k0_t1 = 1#1), ∀ (k0_h10 : k0_cond10 arg16 v181 = 1#1), ∀ a, (k0_off204 i k0_t1 v181) a + S1x16.size a ≤ S128x16.size a)
def k0_chk4 (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) : Prop :=
  k0_chk4_0 i v17 k0_t1 v59_0 v62_0 k0_t6 k0_t7 arg16 v181 ∧
  k0_chk4_1 i v17 k0_t1 v59_0 v62_0 k0_t6 k0_t7 arg16 v181 ∧
  k0_chk4_2 i v17 k0_t1 v59_0 v62_0 k0_t6 k0_t7 arg16 v181 ∧
  k0_chk4_3 i v17 k0_t1 v59_0 v62_0 k0_t6 k0_t7 arg16 v181 ∧
  k0_chk4_4 i v17 k0_t1 v59_0 v62_0 k0_t6 k0_t7 arg16 v181
theorem k0_off75_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off75 v59_0 v62_0 k0_t6 k0_t7) a + S1x1x16.size a ≤ S2x32x512.size a := fun i v17 k0_t1 v59_0 v62_0 k0_t6 k0_t7 arg16 v181 k0_hw4 k0_h3 k0_h9 => k0_hw4.1.1 k0_h3 k0_h9
theorem k0_off76_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off76 i k0_t1 v181) a + S1x16.size a ≤ S128x512.size a := fun i v17 k0_t1 v59_0 v62_0 k0_t6 k0_t7 arg16 v181 k0_hw4 k0_h3 k0_h9 => k0_hw4.1.2.1 k0_h3 k0_h9
theorem k0_off77_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off77 v59_0 v62_0 k0_t6 k0_t7) a + S1x1x16.size a ≤ S2x32x512.size a := fun i v17 k0_t1 v59_0 v62_0 k0_t6 k0_t7 arg16 v181 k0_hw4 k0_h3 k0_h9 => k0_hw4.1.2.2.1 k0_h3 k0_h9
theorem k0_off78_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off78 i k0_t1 v181) a + S1x16.size a ≤ S128x512.size a := fun i v17 k0_t1 v59_0 v62_0 k0_t6 k0_t7 arg16 v181 k0_hw4 k0_h3 k0_h9 => k0_hw4.1.2.2.2.1 k0_h3 k0_h9
theorem k0_off79_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off79 v59_0 v62_0 k0_t6 k0_t7) a + S1x1x16.size a ≤ S2x32x512.size a := fun i v17 k0_t1 v59_0 v62_0 k0_t6 k0_t7 arg16 v181 k0_hw4 k0_h3 k0_h9 => k0_hw4.1.2.2.2.2.1 k0_h3 k0_h9
theorem k0_off80_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off80 i k0_t1 v181) a + S1x16.size a ≤ S128x512.size a := fun i v17 k0_t1 v59_0 v62_0 k0_t6 k0_t7 arg16 v181 k0_hw4 k0_h3 k0_h9 => k0_hw4.1.2.2.2.2.2.1 k0_h3 k0_h9
theorem k0_off81_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off81 v59_0 v62_0 k0_t6 k0_t7) a + S1x1x16.size a ≤ S2x32x512.size a := fun i v17 k0_t1 v59_0 v62_0 k0_t6 k0_t7 arg16 v181 k0_hw4 k0_h3 k0_h9 => k0_hw4.1.2.2.2.2.2.2.1 k0_h3 k0_h9
theorem k0_off82_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off82 i k0_t1 v181) a + S1x16.size a ≤ S128x512.size a := fun i v17 k0_t1 v59_0 v62_0 k0_t6 k0_t7 arg16 v181 k0_hw4 k0_h3 k0_h9 => k0_hw4.1.2.2.2.2.2.2.2.1 k0_h3 k0_h9
theorem k0_off83_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off83 v59_0 v62_0 k0_t6 k0_t7) a + S1x1x16.size a ≤ S2x32x512.size a := fun i v17 k0_t1 v59_0 v62_0 k0_t6 k0_t7 arg16 v181 k0_hw4 k0_h3 k0_h9 => k0_hw4.1.2.2.2.2.2.2.2.2.1 k0_h3 k0_h9
theorem k0_off84_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off84 i k0_t1 v181) a + S1x16.size a ≤ S128x512.size a := fun i v17 k0_t1 v59_0 v62_0 k0_t6 k0_t7 arg16 v181 k0_hw4 k0_h3 k0_h9 => k0_hw4.1.2.2.2.2.2.2.2.2.2.1 k0_h3 k0_h9
theorem k0_off85_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off85 v59_0 v62_0 k0_t6 k0_t7) a + S1x1x16.size a ≤ S2x32x512.size a := fun i v17 k0_t1 v59_0 v62_0 k0_t6 k0_t7 arg16 v181 k0_hw4 k0_h3 k0_h9 => k0_hw4.1.2.2.2.2.2.2.2.2.2.2.1 k0_h3 k0_h9
theorem k0_off86_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off86 i k0_t1 v181) a + S1x16.size a ≤ S128x512.size a := fun i v17 k0_t1 v59_0 v62_0 k0_t6 k0_t7 arg16 v181 k0_hw4 k0_h3 k0_h9 => k0_hw4.1.2.2.2.2.2.2.2.2.2.2.2.1 k0_h3 k0_h9
theorem k0_off87_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off87 v59_0 v62_0 k0_t6 k0_t7) a + S1x1x16.size a ≤ S2x32x512.size a := fun i v17 k0_t1 v59_0 v62_0 k0_t6 k0_t7 arg16 v181 k0_hw4 k0_h3 k0_h9 => k0_hw4.1.2.2.2.2.2.2.2.2.2.2.2.2.1 k0_h3 k0_h9
theorem k0_off88_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off88 i k0_t1 v181) a + S1x16.size a ≤ S128x512.size a := fun i v17 k0_t1 v59_0 v62_0 k0_t6 k0_t7 arg16 v181 k0_hw4 k0_h3 k0_h9 => k0_hw4.1.2.2.2.2.2.2.2.2.2.2.2.2.2.1 k0_h3 k0_h9
theorem k0_off89_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off89 v59_0 v62_0 k0_t6 k0_t7) a + S1x1x16.size a ≤ S2x32x512.size a := fun i v17 k0_t1 v59_0 v62_0 k0_t6 k0_t7 arg16 v181 k0_hw4 k0_h3 k0_h9 => k0_hw4.1.2.2.2.2.2.2.2.2.2.2.2.2.2.2.1 k0_h3 k0_h9
theorem k0_off90_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off90 i k0_t1 v181) a + S1x16.size a ≤ S128x512.size a := fun i v17 k0_t1 v59_0 v62_0 k0_t6 k0_t7 arg16 v181 k0_hw4 k0_h3 k0_h9 => k0_hw4.1.2.2.2.2.2.2.2.2.2.2.2.2.2.2.2.1 k0_h3 k0_h9
theorem k0_off91_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off91 v59_0 v62_0 k0_t6 k0_t7) a + S1x1x16.size a ≤ S2x32x512.size a := fun i v17 k0_t1 v59_0 v62_0 k0_t6 k0_t7 arg16 v181 k0_hw4 k0_h3 k0_h9 => k0_hw4.1.2.2.2.2.2.2.2.2.2.2.2.2.2.2.2.2.1 k0_h3 k0_h9
theorem k0_off92_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off92 i k0_t1 v181) a + S1x16.size a ≤ S128x512.size a := fun i v17 k0_t1 v59_0 v62_0 k0_t6 k0_t7 arg16 v181 k0_hw4 k0_h3 k0_h9 => k0_hw4.1.2.2.2.2.2.2.2.2.2.2.2.2.2.2.2.2.2.1 k0_h3 k0_h9
theorem k0_off93_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off93 v59_0 v62_0 k0_t6 k0_t7) a + S1x1x16.size a ≤ S2x32x512.size a := fun i v17 k0_t1 v59_0 v62_0 k0_t6 k0_t7 arg16 v181 k0_hw4 k0_h3 k0_h9 => k0_hw4.1.2.2.2.2.2.2.2.2.2.2.2.2.2.2.2.2.2.2.1 k0_h3 k0_h9
theorem k0_off94_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off94 i k0_t1 v181) a + S1x16.size a ≤ S128x512.size a := fun i v17 k0_t1 v59_0 v62_0 k0_t6 k0_t7 arg16 v181 k0_hw4 k0_h3 k0_h9 => k0_hw4.1.2.2.2.2.2.2.2.2.2.2.2.2.2.2.2.2.2.2.2.1 k0_h3 k0_h9
theorem k0_off95_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off95 v59_0 v62_0 k0_t6 k0_t7) a + S1x1x16.size a ≤ S2x32x512.size a := fun i v17 k0_t1 v59_0 v62_0 k0_t6 k0_t7 arg16 v181 k0_hw4 k0_h3 k0_h9 => k0_hw4.1.2.2.2.2.2.2.2.2.2.2.2.2.2.2.2.2.2.2.2.2.1 k0_h3 k0_h9
theorem k0_off96_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off96 i k0_t1 v181) a + S1x16.size a ≤ S128x512.size a := fun i v17 k0_t1 v59_0 v62_0 k0_t6 k0_t7 arg16 v181 k0_hw4 k0_h3 k0_h9 => k0_hw4.1.2.2.2.2.2.2.2.2.2.2.2.2.2.2.2.2.2.2.2.2.2.1 k0_h3 k0_h9
theorem k0_off97_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off97 v59_0 v62_0 k0_t6 k0_t7) a + S1x1x16.size a ≤ S2x32x512.size a := fun i v17 k0_t1 v59_0 v62_0 k0_t6 k0_t7 arg16 v181 k0_hw4 k0_h3 k0_h9 => k0_hw4.1.2.2.2.2.2.2.2.2.2.2.2.2.2.2.2.2.2.2.2.2.2.2.1 k0_h3 k0_h9
theorem k0_off98_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off98 i k0_t1 v181) a + S1x16.size a ≤ S128x512.size a := fun i v17 k0_t1 v59_0 v62_0 k0_t6 k0_t7 arg16 v181 k0_hw4 k0_h3 k0_h9 => k0_hw4.1.2.2.2.2.2.2.2.2.2.2.2.2.2.2.2.2.2.2.2.2.2.2.2.1 k0_h3 k0_h9
theorem k0_off99_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off99 v59_0 v62_0 k0_t6 k0_t7) a + S1x1x16.size a ≤ S2x32x512.size a := fun i v17 k0_t1 v59_0 v62_0 k0_t6 k0_t7 arg16 v181 k0_hw4 k0_h3 k0_h9 => k0_hw4.1.2.2.2.2.2.2.2.2.2.2.2.2.2.2.2.2.2.2.2.2.2.2.2.2.1 k0_h3 k0_h9
theorem k0_off100_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off100 i k0_t1 v181) a + S1x16.size a ≤ S128x512.size a := fun i v17 k0_t1 v59_0 v62_0 k0_t6 k0_t7 arg16 v181 k0_hw4 k0_h3 k0_h9 => k0_hw4.1.2.2.2.2.2.2.2.2.2.2.2.2.2.2.2.2.2.2.2.2.2.2.2.2.2.1 k0_h3 k0_h9
theorem k0_off101_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off101 v59_0 v62_0 k0_t6 k0_t7) a + S1x1x16.size a ≤ S2x32x512.size a := fun i v17 k0_t1 v59_0 v62_0 k0_t6 k0_t7 arg16 v181 k0_hw4 k0_h3 k0_h9 => k0_hw4.1.2.2.2.2.2.2.2.2.2.2.2.2.2.2.2.2.2.2.2.2.2.2.2.2.2.2.1 k0_h3 k0_h9
theorem k0_off102_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off102 i k0_t1 v181) a + S1x16.size a ≤ S128x512.size a := fun i v17 k0_t1 v59_0 v62_0 k0_t6 k0_t7 arg16 v181 k0_hw4 k0_h3 k0_h9 => k0_hw4.1.2.2.2.2.2.2.2.2.2.2.2.2.2.2.2.2.2.2.2.2.2.2.2.2.2.2.2.1 k0_h3 k0_h9
theorem k0_off103_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off103 v59_0 v62_0 k0_t6 k0_t7) a + S1x1x16.size a ≤ S2x32x512.size a := fun i v17 k0_t1 v59_0 v62_0 k0_t6 k0_t7 arg16 v181 k0_hw4 k0_h3 k0_h9 => k0_hw4.1.2.2.2.2.2.2.2.2.2.2.2.2.2.2.2.2.2.2.2.2.2.2.2.2.2.2.2.2.1 k0_h3 k0_h9
theorem k0_off104_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off104 i k0_t1 v181) a + S1x16.size a ≤ S128x512.size a := fun i v17 k0_t1 v59_0 v62_0 k0_t6 k0_t7 arg16 v181 k0_hw4 k0_h3 k0_h9 => k0_hw4.1.2.2.2.2.2.2.2.2.2.2.2.2.2.2.2.2.2.2.2.2.2.2.2.2.2.2.2.2.2.1 k0_h3 k0_h9
theorem k0_off105_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off105 v59_0 v62_0 k0_t6 k0_t7) a + S1x1x16.size a ≤ S2x32x512.size a := fun i v17 k0_t1 v59_0 v62_0 k0_t6 k0_t7 arg16 v181 k0_hw4 k0_h3 k0_h9 => k0_hw4.1.2.2.2.2.2.2.2.2.2.2.2.2.2.2.2.2.2.2.2.2.2.2.2.2.2.2.2.2.2.2.1 k0_h3 k0_h9
theorem k0_off106_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off106 i k0_t1 v181) a + S1x16.size a ≤ S128x512.size a := fun i v17 k0_t1 v59_0 v62_0 k0_t6 k0_t7 arg16 v181 k0_hw4 k0_h3 k0_h9 => k0_hw4.1.2.2.2.2.2.2.2.2.2.2.2.2.2.2.2.2.2.2.2.2.2.2.2.2.2.2.2.2.2.2.2 k0_h3 k0_h9
theorem k0_off107_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off107 v59_0 v62_0 k0_t6 k0_t7) a + S1x1x16.size a ≤ S2x32x512.size a := fun i v17 k0_t1 v59_0 v62_0 k0_t6 k0_t7 arg16 v181 k0_hw4 k0_h3 k0_h9 => k0_hw4.2.1.1 k0_h3 k0_h9
theorem k0_off108_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off108 i k0_t1 v181) a + S1x16.size a ≤ S128x512.size a := fun i v17 k0_t1 v59_0 v62_0 k0_t6 k0_t7 arg16 v181 k0_hw4 k0_h3 k0_h9 => k0_hw4.2.1.2.1 k0_h3 k0_h9
theorem k0_off109_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off109 v59_0 v62_0 k0_t6 k0_t7) a + S1x1x16.size a ≤ S2x32x512.size a := fun i v17 k0_t1 v59_0 v62_0 k0_t6 k0_t7 arg16 v181 k0_hw4 k0_h3 k0_h9 => k0_hw4.2.1.2.2.1 k0_h3 k0_h9
theorem k0_off110_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off110 i k0_t1 v181) a + S1x16.size a ≤ S128x512.size a := fun i v17 k0_t1 v59_0 v62_0 k0_t6 k0_t7 arg16 v181 k0_hw4 k0_h3 k0_h9 => k0_hw4.2.1.2.2.2.1 k0_h3 k0_h9
theorem k0_off111_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off111 v59_0 v62_0 k0_t6 k0_t7) a + S1x1x16.size a ≤ S2x32x512.size a := fun i v17 k0_t1 v59_0 v62_0 k0_t6 k0_t7 arg16 v181 k0_hw4 k0_h3 k0_h9 => k0_hw4.2.1.2.2.2.2.1 k0_h3 k0_h9
theorem k0_off112_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off112 i k0_t1 v181) a + S1x16.size a ≤ S128x512.size a := fun i v17 k0_t1 v59_0 v62_0 k0_t6 k0_t7 arg16 v181 k0_hw4 k0_h3 k0_h9 => k0_hw4.2.1.2.2.2.2.2.1 k0_h3 k0_h9
theorem k0_off113_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off113 v59_0 v62_0 k0_t6 k0_t7) a + S1x1x16.size a ≤ S2x32x512.size a := fun i v17 k0_t1 v59_0 v62_0 k0_t6 k0_t7 arg16 v181 k0_hw4 k0_h3 k0_h9 => k0_hw4.2.1.2.2.2.2.2.2.1 k0_h3 k0_h9
theorem k0_off114_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off114 i k0_t1 v181) a + S1x16.size a ≤ S128x512.size a := fun i v17 k0_t1 v59_0 v62_0 k0_t6 k0_t7 arg16 v181 k0_hw4 k0_h3 k0_h9 => k0_hw4.2.1.2.2.2.2.2.2.2.1 k0_h3 k0_h9
theorem k0_off115_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off115 v59_0 v62_0 k0_t6 k0_t7) a + S1x1x16.size a ≤ S2x32x512.size a := fun i v17 k0_t1 v59_0 v62_0 k0_t6 k0_t7 arg16 v181 k0_hw4 k0_h3 k0_h9 => k0_hw4.2.1.2.2.2.2.2.2.2.2.1 k0_h3 k0_h9
theorem k0_off116_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off116 i k0_t1 v181) a + S1x16.size a ≤ S128x512.size a := fun i v17 k0_t1 v59_0 v62_0 k0_t6 k0_t7 arg16 v181 k0_hw4 k0_h3 k0_h9 => k0_hw4.2.1.2.2.2.2.2.2.2.2.2.1 k0_h3 k0_h9
theorem k0_off117_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off117 v59_0 v62_0 k0_t6 k0_t7) a + S1x1x16.size a ≤ S2x32x512.size a := fun i v17 k0_t1 v59_0 v62_0 k0_t6 k0_t7 arg16 v181 k0_hw4 k0_h3 k0_h9 => k0_hw4.2.1.2.2.2.2.2.2.2.2.2.2.1 k0_h3 k0_h9
theorem k0_off118_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off118 i k0_t1 v181) a + S1x16.size a ≤ S128x512.size a := fun i v17 k0_t1 v59_0 v62_0 k0_t6 k0_t7 arg16 v181 k0_hw4 k0_h3 k0_h9 => k0_hw4.2.1.2.2.2.2.2.2.2.2.2.2.2.1 k0_h3 k0_h9
theorem k0_off119_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off119 v59_0 v62_0 k0_t6 k0_t7) a + S1x1x16.size a ≤ S2x32x512.size a := fun i v17 k0_t1 v59_0 v62_0 k0_t6 k0_t7 arg16 v181 k0_hw4 k0_h3 k0_h9 => k0_hw4.2.1.2.2.2.2.2.2.2.2.2.2.2.2.1 k0_h3 k0_h9
theorem k0_off120_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off120 i k0_t1 v181) a + S1x16.size a ≤ S128x512.size a := fun i v17 k0_t1 v59_0 v62_0 k0_t6 k0_t7 arg16 v181 k0_hw4 k0_h3 k0_h9 => k0_hw4.2.1.2.2.2.2.2.2.2.2.2.2.2.2.2.1 k0_h3 k0_h9
theorem k0_off121_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off121 v59_0 v62_0 k0_t6 k0_t7) a + S1x1x16.size a ≤ S2x32x512.size a := fun i v17 k0_t1 v59_0 v62_0 k0_t6 k0_t7 arg16 v181 k0_hw4 k0_h3 k0_h9 => k0_hw4.2.1.2.2.2.2.2.2.2.2.2.2.2.2.2.2.1 k0_h3 k0_h9
theorem k0_off122_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off122 i k0_t1 v181) a + S1x16.size a ≤ S128x512.size a := fun i v17 k0_t1 v59_0 v62_0 k0_t6 k0_t7 arg16 v181 k0_hw4 k0_h3 k0_h9 => k0_hw4.2.1.2.2.2.2.2.2.2.2.2.2.2.2.2.2.2.1 k0_h3 k0_h9
theorem k0_off123_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off123 v59_0 v62_0 k0_t6 k0_t7) a + S1x1x16.size a ≤ S2x32x512.size a := fun i v17 k0_t1 v59_0 v62_0 k0_t6 k0_t7 arg16 v181 k0_hw4 k0_h3 k0_h9 => k0_hw4.2.1.2.2.2.2.2.2.2.2.2.2.2.2.2.2.2.2.1 k0_h3 k0_h9
theorem k0_off124_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off124 i k0_t1 v181) a + S1x16.size a ≤ S128x512.size a := fun i v17 k0_t1 v59_0 v62_0 k0_t6 k0_t7 arg16 v181 k0_hw4 k0_h3 k0_h9 => k0_hw4.2.1.2.2.2.2.2.2.2.2.2.2.2.2.2.2.2.2.2.1 k0_h3 k0_h9
theorem k0_off125_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off125 v59_0 v62_0 k0_t6 k0_t7) a + S1x1x16.size a ≤ S2x32x512.size a := fun i v17 k0_t1 v59_0 v62_0 k0_t6 k0_t7 arg16 v181 k0_hw4 k0_h3 k0_h9 => k0_hw4.2.1.2.2.2.2.2.2.2.2.2.2.2.2.2.2.2.2.2.2.1 k0_h3 k0_h9
theorem k0_off126_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off126 i k0_t1 v181) a + S1x16.size a ≤ S128x512.size a := fun i v17 k0_t1 v59_0 v62_0 k0_t6 k0_t7 arg16 v181 k0_hw4 k0_h3 k0_h9 => k0_hw4.2.1.2.2.2.2.2.2.2.2.2.2.2.2.2.2.2.2.2.2.2.1 k0_h3 k0_h9
theorem k0_off127_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off127 v59_0 v62_0 k0_t6 k0_t7) a + S1x1x16.size a ≤ S2x32x512.size a := fun i v17 k0_t1 v59_0 v62_0 k0_t6 k0_t7 arg16 v181 k0_hw4 k0_h3 k0_h9 => k0_hw4.2.1.2.2.2.2.2.2.2.2.2.2.2.2.2.2.2.2.2.2.2.2.1 k0_h3 k0_h9
theorem k0_off128_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off128 i k0_t1 v181) a + S1x16.size a ≤ S128x512.size a := fun i v17 k0_t1 v59_0 v62_0 k0_t6 k0_t7 arg16 v181 k0_hw4 k0_h3 k0_h9 => k0_hw4.2.1.2.2.2.2.2.2.2.2.2.2.2.2.2.2.2.2.2.2.2.2.2.1 k0_h3 k0_h9
theorem k0_off129_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off129 v59_0 v62_0 k0_t6 k0_t7) a + S1x1x16.size a ≤ S2x32x512.size a := fun i v17 k0_t1 v59_0 v62_0 k0_t6 k0_t7 arg16 v181 k0_hw4 k0_h3 k0_h9 => k0_hw4.2.1.2.2.2.2.2.2.2.2.2.2.2.2.2.2.2.2.2.2.2.2.2.2.1 k0_h3 k0_h9
theorem k0_off130_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off130 i k0_t1 v181) a + S1x16.size a ≤ S128x512.size a := fun i v17 k0_t1 v59_0 v62_0 k0_t6 k0_t7 arg16 v181 k0_hw4 k0_h3 k0_h9 => k0_hw4.2.1.2.2.2.2.2.2.2.2.2.2.2.2.2.2.2.2.2.2.2.2.2.2.2.1 k0_h3 k0_h9
theorem k0_off131_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off131 v59_0 v62_0 k0_t6 k0_t7) a + S1x1x16.size a ≤ S2x32x512.size a := fun i v17 k0_t1 v59_0 v62_0 k0_t6 k0_t7 arg16 v181 k0_hw4 k0_h3 k0_h9 => k0_hw4.2.1.2.2.2.2.2.2.2.2.2.2.2.2.2.2.2.2.2.2.2.2.2.2.2.2.1 k0_h3 k0_h9
theorem k0_off132_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off132 i k0_t1 v181) a + S1x16.size a ≤ S128x512.size a := fun i v17 k0_t1 v59_0 v62_0 k0_t6 k0_t7 arg16 v181 k0_hw4 k0_h3 k0_h9 => k0_hw4.2.1.2.2.2.2.2.2.2.2.2.2.2.2.2.2.2.2.2.2.2.2.2.2.2.2.2.1 k0_h3 k0_h9
theorem k0_off133_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off133 v59_0 v62_0 k0_t6 k0_t7) a + S1x1x16.size a ≤ S2x32x512.size a := fun i v17 k0_t1 v59_0 v62_0 k0_t6 k0_t7 arg16 v181 k0_hw4 k0_h3 k0_h9 => k0_hw4.2.1.2.2.2.2.2.2.2.2.2.2.2.2.2.2.2.2.2.2.2.2.2.2.2.2.2.2.1 k0_h3 k0_h9
theorem k0_off134_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off134 i k0_t1 v181) a + S1x16.size a ≤ S128x512.size a := fun i v17 k0_t1 v59_0 v62_0 k0_t6 k0_t7 arg16 v181 k0_hw4 k0_h3 k0_h9 => k0_hw4.2.1.2.2.2.2.2.2.2.2.2.2.2.2.2.2.2.2.2.2.2.2.2.2.2.2.2.2.2.1 k0_h3 k0_h9
theorem k0_off135_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off135 v59_0 v62_0 k0_t6 k0_t7) a + S1x1x16.size a ≤ S2x32x512.size a := fun i v17 k0_t1 v59_0 v62_0 k0_t6 k0_t7 arg16 v181 k0_hw4 k0_h3 k0_h9 => k0_hw4.2.1.2.2.2.2.2.2.2.2.2.2.2.2.2.2.2.2.2.2.2.2.2.2.2.2.2.2.2.2.1 k0_h3 k0_h9
theorem k0_off136_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off136 i k0_t1 v181) a + S1x16.size a ≤ S128x512.size a := fun i v17 k0_t1 v59_0 v62_0 k0_t6 k0_t7 arg16 v181 k0_hw4 k0_h3 k0_h9 => k0_hw4.2.1.2.2.2.2.2.2.2.2.2.2.2.2.2.2.2.2.2.2.2.2.2.2.2.2.2.2.2.2.2.1 k0_h3 k0_h9
theorem k0_off137_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off137 v59_0 v62_0 k0_t6 k0_t7) a + S1x1x16.size a ≤ S2x32x512.size a := fun i v17 k0_t1 v59_0 v62_0 k0_t6 k0_t7 arg16 v181 k0_hw4 k0_h3 k0_h9 => k0_hw4.2.1.2.2.2.2.2.2.2.2.2.2.2.2.2.2.2.2.2.2.2.2.2.2.2.2.2.2.2.2.2.2.1 k0_h3 k0_h9
theorem k0_off138_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off138 i k0_t1 v181) a + S1x16.size a ≤ S128x512.size a := fun i v17 k0_t1 v59_0 v62_0 k0_t6 k0_t7 arg16 v181 k0_hw4 k0_h3 k0_h9 => k0_hw4.2.1.2.2.2.2.2.2.2.2.2.2.2.2.2.2.2.2.2.2.2.2.2.2.2.2.2.2.2.2.2.2.2 k0_h3 k0_h9
theorem k0_off139_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h9 : k0_cond9 arg16 v181 = 1#1), ∀ a, (k0_off139 i k0_t1 v181) a + S1x16.size a ≤ S128x16.size a := fun i v17 k0_t1 v59_0 v62_0 k0_t6 k0_t7 arg16 v181 k0_hw4 k0_h3 k0_h9 => k0_hw4.2.2.1.1 k0_h3 k0_h9
theorem k0_off140_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off140 i k0_t1 v181) a + S1x16.size a ≤ S128x512.size a := fun i v17 k0_t1 v59_0 v62_0 k0_t6 k0_t7 arg16 v181 k0_hw4 k0_h3 k0_h10 => k0_hw4.2.2.1.2.1 k0_h3 k0_h10
theorem k0_off141_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off141 v59_0 v62_0 k0_t6 k0_t7) a + S1x1x16.size a ≤ S2x32x512.size a := fun i v17 k0_t1 v59_0 v62_0 k0_t6 k0_t7 arg16 v181 k0_hw4 k0_h3 k0_h10 => k0_hw4.2.2.1.2.2.1 k0_h3 k0_h10
theorem k0_off142_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off142 i k0_t1 v181) a + S1x16.size a ≤ S128x512.size a := fun i v17 k0_t1 v59_0 v62_0 k0_t6 k0_t7 arg16 v181 k0_hw4 k0_h3 k0_h10 => k0_hw4.2.2.1.2.2.2.1 k0_h3 k0_h10
theorem k0_off143_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off143 v59_0 v62_0 k0_t6 k0_t7) a + S1x1x16.size a ≤ S2x32x512.size a := fun i v17 k0_t1 v59_0 v62_0 k0_t6 k0_t7 arg16 v181 k0_hw4 k0_h3 k0_h10 => k0_hw4.2.2.1.2.2.2.2.1 k0_h3 k0_h10
theorem k0_off144_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off144 i k0_t1 v181) a + S1x16.size a ≤ S128x512.size a := fun i v17 k0_t1 v59_0 v62_0 k0_t6 k0_t7 arg16 v181 k0_hw4 k0_h3 k0_h10 => k0_hw4.2.2.1.2.2.2.2.2.1 k0_h3 k0_h10
theorem k0_off145_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off145 v59_0 v62_0 k0_t6 k0_t7) a + S1x1x16.size a ≤ S2x32x512.size a := fun i v17 k0_t1 v59_0 v62_0 k0_t6 k0_t7 arg16 v181 k0_hw4 k0_h3 k0_h10 => k0_hw4.2.2.1.2.2.2.2.2.2.1 k0_h3 k0_h10
theorem k0_off146_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off146 i k0_t1 v181) a + S1x16.size a ≤ S128x512.size a := fun i v17 k0_t1 v59_0 v62_0 k0_t6 k0_t7 arg16 v181 k0_hw4 k0_h3 k0_h10 => k0_hw4.2.2.1.2.2.2.2.2.2.2.1 k0_h3 k0_h10
theorem k0_off147_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off147 v59_0 v62_0 k0_t6 k0_t7) a + S1x1x16.size a ≤ S2x32x512.size a := fun i v17 k0_t1 v59_0 v62_0 k0_t6 k0_t7 arg16 v181 k0_hw4 k0_h3 k0_h10 => k0_hw4.2.2.1.2.2.2.2.2.2.2.2.1 k0_h3 k0_h10
theorem k0_off148_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off148 i k0_t1 v181) a + S1x16.size a ≤ S128x512.size a := fun i v17 k0_t1 v59_0 v62_0 k0_t6 k0_t7 arg16 v181 k0_hw4 k0_h3 k0_h10 => k0_hw4.2.2.1.2.2.2.2.2.2.2.2.2.1 k0_h3 k0_h10
theorem k0_off149_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off149 v59_0 v62_0 k0_t6 k0_t7) a + S1x1x16.size a ≤ S2x32x512.size a := fun i v17 k0_t1 v59_0 v62_0 k0_t6 k0_t7 arg16 v181 k0_hw4 k0_h3 k0_h10 => k0_hw4.2.2.1.2.2.2.2.2.2.2.2.2.2.1 k0_h3 k0_h10
theorem k0_off150_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off150 i k0_t1 v181) a + S1x16.size a ≤ S128x512.size a := fun i v17 k0_t1 v59_0 v62_0 k0_t6 k0_t7 arg16 v181 k0_hw4 k0_h3 k0_h10 => k0_hw4.2.2.1.2.2.2.2.2.2.2.2.2.2.2.1 k0_h3 k0_h10
theorem k0_off151_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off151 v59_0 v62_0 k0_t6 k0_t7) a + S1x1x16.size a ≤ S2x32x512.size a := fun i v17 k0_t1 v59_0 v62_0 k0_t6 k0_t7 arg16 v181 k0_hw4 k0_h3 k0_h10 => k0_hw4.2.2.1.2.2.2.2.2.2.2.2.2.2.2.2.1 k0_h3 k0_h10
theorem k0_off152_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off152 i k0_t1 v181) a + S1x16.size a ≤ S128x512.size a := fun i v17 k0_t1 v59_0 v62_0 k0_t6 k0_t7 arg16 v181 k0_hw4 k0_h3 k0_h10 => k0_hw4.2.2.1.2.2.2.2.2.2.2.2.2.2.2.2.2.1 k0_h3 k0_h10
theorem k0_off153_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off153 v59_0 v62_0 k0_t6 k0_t7) a + S1x1x16.size a ≤ S2x32x512.size a := fun i v17 k0_t1 v59_0 v62_0 k0_t6 k0_t7 arg16 v181 k0_hw4 k0_h3 k0_h10 => k0_hw4.2.2.1.2.2.2.2.2.2.2.2.2.2.2.2.2.2.1 k0_h3 k0_h10
theorem k0_off154_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off154 i k0_t1 v181) a + S1x16.size a ≤ S128x512.size a := fun i v17 k0_t1 v59_0 v62_0 k0_t6 k0_t7 arg16 v181 k0_hw4 k0_h3 k0_h10 => k0_hw4.2.2.1.2.2.2.2.2.2.2.2.2.2.2.2.2.2.2.1 k0_h3 k0_h10
theorem k0_off155_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off155 v59_0 v62_0 k0_t6 k0_t7) a + S1x1x16.size a ≤ S2x32x512.size a := fun i v17 k0_t1 v59_0 v62_0 k0_t6 k0_t7 arg16 v181 k0_hw4 k0_h3 k0_h10 => k0_hw4.2.2.1.2.2.2.2.2.2.2.2.2.2.2.2.2.2.2.2.1 k0_h3 k0_h10
theorem k0_off156_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off156 i k0_t1 v181) a + S1x16.size a ≤ S128x512.size a := fun i v17 k0_t1 v59_0 v62_0 k0_t6 k0_t7 arg16 v181 k0_hw4 k0_h3 k0_h10 => k0_hw4.2.2.1.2.2.2.2.2.2.2.2.2.2.2.2.2.2.2.2.2.1 k0_h3 k0_h10
theorem k0_off157_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off157 v59_0 v62_0 k0_t6 k0_t7) a + S1x1x16.size a ≤ S2x32x512.size a := fun i v17 k0_t1 v59_0 v62_0 k0_t6 k0_t7 arg16 v181 k0_hw4 k0_h3 k0_h10 => k0_hw4.2.2.1.2.2.2.2.2.2.2.2.2.2.2.2.2.2.2.2.2.2.1 k0_h3 k0_h10
theorem k0_off158_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off158 i k0_t1 v181) a + S1x16.size a ≤ S128x512.size a := fun i v17 k0_t1 v59_0 v62_0 k0_t6 k0_t7 arg16 v181 k0_hw4 k0_h3 k0_h10 => k0_hw4.2.2.1.2.2.2.2.2.2.2.2.2.2.2.2.2.2.2.2.2.2.2.1 k0_h3 k0_h10
theorem k0_off159_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off159 v59_0 v62_0 k0_t6 k0_t7) a + S1x1x16.size a ≤ S2x32x512.size a := fun i v17 k0_t1 v59_0 v62_0 k0_t6 k0_t7 arg16 v181 k0_hw4 k0_h3 k0_h10 => k0_hw4.2.2.1.2.2.2.2.2.2.2.2.2.2.2.2.2.2.2.2.2.2.2.2.1 k0_h3 k0_h10
theorem k0_off160_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off160 i k0_t1 v181) a + S1x16.size a ≤ S128x512.size a := fun i v17 k0_t1 v59_0 v62_0 k0_t6 k0_t7 arg16 v181 k0_hw4 k0_h3 k0_h10 => k0_hw4.2.2.1.2.2.2.2.2.2.2.2.2.2.2.2.2.2.2.2.2.2.2.2.2.1 k0_h3 k0_h10
theorem k0_off161_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off161 v59_0 v62_0 k0_t6 k0_t7) a + S1x1x16.size a ≤ S2x32x512.size a := fun i v17 k0_t1 v59_0 v62_0 k0_t6 k0_t7 arg16 v181 k0_hw4 k0_h3 k0_h10 => k0_hw4.2.2.1.2.2.2.2.2.2.2.2.2.2.2.2.2.2.2.2.2.2.2.2.2.2.1 k0_h3 k0_h10
theorem k0_off162_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off162 i k0_t1 v181) a + S1x16.size a ≤ S128x512.size a := fun i v17 k0_t1 v59_0 v62_0 k0_t6 k0_t7 arg16 v181 k0_hw4 k0_h3 k0_h10 => k0_hw4.2.2.1.2.2.2.2.2.2.2.2.2.2.2.2.2.2.2.2.2.2.2.2.2.2.2.1 k0_h3 k0_h10
theorem k0_off163_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off163 v59_0 v62_0 k0_t6 k0_t7) a + S1x1x16.size a ≤ S2x32x512.size a := fun i v17 k0_t1 v59_0 v62_0 k0_t6 k0_t7 arg16 v181 k0_hw4 k0_h3 k0_h10 => k0_hw4.2.2.1.2.2.2.2.2.2.2.2.2.2.2.2.2.2.2.2.2.2.2.2.2.2.2.2.1 k0_h3 k0_h10
theorem k0_off164_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off164 i k0_t1 v181) a + S1x16.size a ≤ S128x512.size a := fun i v17 k0_t1 v59_0 v62_0 k0_t6 k0_t7 arg16 v181 k0_hw4 k0_h3 k0_h10 => k0_hw4.2.2.1.2.2.2.2.2.2.2.2.2.2.2.2.2.2.2.2.2.2.2.2.2.2.2.2.2.1 k0_h3 k0_h10
theorem k0_off165_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off165 v59_0 v62_0 k0_t6 k0_t7) a + S1x1x16.size a ≤ S2x32x512.size a := fun i v17 k0_t1 v59_0 v62_0 k0_t6 k0_t7 arg16 v181 k0_hw4 k0_h3 k0_h10 => k0_hw4.2.2.1.2.2.2.2.2.2.2.2.2.2.2.2.2.2.2.2.2.2.2.2.2.2.2.2.2.2.1 k0_h3 k0_h10
theorem k0_off166_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off166 i k0_t1 v181) a + S1x16.size a ≤ S128x512.size a := fun i v17 k0_t1 v59_0 v62_0 k0_t6 k0_t7 arg16 v181 k0_hw4 k0_h3 k0_h10 => k0_hw4.2.2.1.2.2.2.2.2.2.2.2.2.2.2.2.2.2.2.2.2.2.2.2.2.2.2.2.2.2.2.1 k0_h3 k0_h10
theorem k0_off167_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off167 v59_0 v62_0 k0_t6 k0_t7) a + S1x1x16.size a ≤ S2x32x512.size a := fun i v17 k0_t1 v59_0 v62_0 k0_t6 k0_t7 arg16 v181 k0_hw4 k0_h3 k0_h10 => k0_hw4.2.2.1.2.2.2.2.2.2.2.2.2.2.2.2.2.2.2.2.2.2.2.2.2.2.2.2.2.2.2.2.1 k0_h3 k0_h10
theorem k0_off168_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off168 i k0_t1 v181) a + S1x16.size a ≤ S128x512.size a := fun i v17 k0_t1 v59_0 v62_0 k0_t6 k0_t7 arg16 v181 k0_hw4 k0_h3 k0_h10 => k0_hw4.2.2.1.2.2.2.2.2.2.2.2.2.2.2.2.2.2.2.2.2.2.2.2.2.2.2.2.2.2.2.2.2.1 k0_h3 k0_h10
theorem k0_off169_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off169 v59_0 v62_0 k0_t6 k0_t7) a + S1x1x16.size a ≤ S2x32x512.size a := fun i v17 k0_t1 v59_0 v62_0 k0_t6 k0_t7 arg16 v181 k0_hw4 k0_h3 k0_h10 => k0_hw4.2.2.1.2.2.2.2.2.2.2.2.2.2.2.2.2.2.2.2.2.2.2.2.2.2.2.2.2.2.2.2.2.2.1 k0_h3 k0_h10
theorem k0_off170_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off170 i k0_t1 v181) a + S1x16.size a ≤ S128x512.size a := fun i v17 k0_t1 v59_0 v62_0 k0_t6 k0_t7 arg16 v181 k0_hw4 k0_h3 k0_h10 => k0_hw4.2.2.1.2.2.2.2.2.2.2.2.2.2.2.2.2.2.2.2.2.2.2.2.2.2.2.2.2.2.2.2.2.2.2 k0_h3 k0_h10
theorem k0_off171_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off171 v59_0 v62_0 k0_t6 k0_t7) a + S1x1x16.size a ≤ S2x32x512.size a := fun i v17 k0_t1 v59_0 v62_0 k0_t6 k0_t7 arg16 v181 k0_hw4 k0_h3 k0_h10 => k0_hw4.2.2.2.1.1 k0_h3 k0_h10
theorem k0_off172_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off172 i k0_t1 v181) a + S1x16.size a ≤ S128x512.size a := fun i v17 k0_t1 v59_0 v62_0 k0_t6 k0_t7 arg16 v181 k0_hw4 k0_h3 k0_h10 => k0_hw4.2.2.2.1.2.1 k0_h3 k0_h10
theorem k0_off173_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off173 v59_0 v62_0 k0_t6 k0_t7) a + S1x1x16.size a ≤ S2x32x512.size a := fun i v17 k0_t1 v59_0 v62_0 k0_t6 k0_t7 arg16 v181 k0_hw4 k0_h3 k0_h10 => k0_hw4.2.2.2.1.2.2.1 k0_h3 k0_h10
theorem k0_off174_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off174 i k0_t1 v181) a + S1x16.size a ≤ S128x512.size a := fun i v17 k0_t1 v59_0 v62_0 k0_t6 k0_t7 arg16 v181 k0_hw4 k0_h3 k0_h10 => k0_hw4.2.2.2.1.2.2.2.1 k0_h3 k0_h10
theorem k0_off175_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off175 v59_0 v62_0 k0_t6 k0_t7) a + S1x1x16.size a ≤ S2x32x512.size a := fun i v17 k0_t1 v59_0 v62_0 k0_t6 k0_t7 arg16 v181 k0_hw4 k0_h3 k0_h10 => k0_hw4.2.2.2.1.2.2.2.2.1 k0_h3 k0_h10
theorem k0_off176_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off176 i k0_t1 v181) a + S1x16.size a ≤ S128x512.size a := fun i v17 k0_t1 v59_0 v62_0 k0_t6 k0_t7 arg16 v181 k0_hw4 k0_h3 k0_h10 => k0_hw4.2.2.2.1.2.2.2.2.2.1 k0_h3 k0_h10
theorem k0_off177_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off177 v59_0 v62_0 k0_t6 k0_t7) a + S1x1x16.size a ≤ S2x32x512.size a := fun i v17 k0_t1 v59_0 v62_0 k0_t6 k0_t7 arg16 v181 k0_hw4 k0_h3 k0_h10 => k0_hw4.2.2.2.1.2.2.2.2.2.2.1 k0_h3 k0_h10
theorem k0_off178_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off178 i k0_t1 v181) a + S1x16.size a ≤ S128x512.size a := fun i v17 k0_t1 v59_0 v62_0 k0_t6 k0_t7 arg16 v181 k0_hw4 k0_h3 k0_h10 => k0_hw4.2.2.2.1.2.2.2.2.2.2.2.1 k0_h3 k0_h10
theorem k0_off179_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off179 v59_0 v62_0 k0_t6 k0_t7) a + S1x1x16.size a ≤ S2x32x512.size a := fun i v17 k0_t1 v59_0 v62_0 k0_t6 k0_t7 arg16 v181 k0_hw4 k0_h3 k0_h10 => k0_hw4.2.2.2.1.2.2.2.2.2.2.2.2.1 k0_h3 k0_h10
theorem k0_off180_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off180 i k0_t1 v181) a + S1x16.size a ≤ S128x512.size a := fun i v17 k0_t1 v59_0 v62_0 k0_t6 k0_t7 arg16 v181 k0_hw4 k0_h3 k0_h10 => k0_hw4.2.2.2.1.2.2.2.2.2.2.2.2.2.1 k0_h3 k0_h10
theorem k0_off181_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off181 v59_0 v62_0 k0_t6 k0_t7) a + S1x1x16.size a ≤ S2x32x512.size a := fun i v17 k0_t1 v59_0 v62_0 k0_t6 k0_t7 arg16 v181 k0_hw4 k0_h3 k0_h10 => k0_hw4.2.2.2.1.2.2.2.2.2.2.2.2.2.2.1 k0_h3 k0_h10
theorem k0_off182_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off182 i k0_t1 v181) a + S1x16.size a ≤ S128x512.size a := fun i v17 k0_t1 v59_0 v62_0 k0_t6 k0_t7 arg16 v181 k0_hw4 k0_h3 k0_h10 => k0_hw4.2.2.2.1.2.2.2.2.2.2.2.2.2.2.2.1 k0_h3 k0_h10
theorem k0_off183_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off183 v59_0 v62_0 k0_t6 k0_t7) a + S1x1x16.size a ≤ S2x32x512.size a := fun i v17 k0_t1 v59_0 v62_0 k0_t6 k0_t7 arg16 v181 k0_hw4 k0_h3 k0_h10 => k0_hw4.2.2.2.1.2.2.2.2.2.2.2.2.2.2.2.2.1 k0_h3 k0_h10
theorem k0_off184_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off184 i k0_t1 v181) a + S1x16.size a ≤ S128x512.size a := fun i v17 k0_t1 v59_0 v62_0 k0_t6 k0_t7 arg16 v181 k0_hw4 k0_h3 k0_h10 => k0_hw4.2.2.2.1.2.2.2.2.2.2.2.2.2.2.2.2.2.1 k0_h3 k0_h10
theorem k0_off185_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off185 v59_0 v62_0 k0_t6 k0_t7) a + S1x1x16.size a ≤ S2x32x512.size a := fun i v17 k0_t1 v59_0 v62_0 k0_t6 k0_t7 arg16 v181 k0_hw4 k0_h3 k0_h10 => k0_hw4.2.2.2.1.2.2.2.2.2.2.2.2.2.2.2.2.2.2.1 k0_h3 k0_h10
theorem k0_off186_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off186 i k0_t1 v181) a + S1x16.size a ≤ S128x512.size a := fun i v17 k0_t1 v59_0 v62_0 k0_t6 k0_t7 arg16 v181 k0_hw4 k0_h3 k0_h10 => k0_hw4.2.2.2.1.2.2.2.2.2.2.2.2.2.2.2.2.2.2.2.1 k0_h3 k0_h10
theorem k0_off187_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off187 v59_0 v62_0 k0_t6 k0_t7) a + S1x1x16.size a ≤ S2x32x512.size a := fun i v17 k0_t1 v59_0 v62_0 k0_t6 k0_t7 arg16 v181 k0_hw4 k0_h3 k0_h10 => k0_hw4.2.2.2.1.2.2.2.2.2.2.2.2.2.2.2.2.2.2.2.2.1 k0_h3 k0_h10
theorem k0_off188_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off188 i k0_t1 v181) a + S1x16.size a ≤ S128x512.size a := fun i v17 k0_t1 v59_0 v62_0 k0_t6 k0_t7 arg16 v181 k0_hw4 k0_h3 k0_h10 => k0_hw4.2.2.2.1.2.2.2.2.2.2.2.2.2.2.2.2.2.2.2.2.2.1 k0_h3 k0_h10
theorem k0_off189_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off189 v59_0 v62_0 k0_t6 k0_t7) a + S1x1x16.size a ≤ S2x32x512.size a := fun i v17 k0_t1 v59_0 v62_0 k0_t6 k0_t7 arg16 v181 k0_hw4 k0_h3 k0_h10 => k0_hw4.2.2.2.1.2.2.2.2.2.2.2.2.2.2.2.2.2.2.2.2.2.2.1 k0_h3 k0_h10
theorem k0_off190_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off190 i k0_t1 v181) a + S1x16.size a ≤ S128x512.size a := fun i v17 k0_t1 v59_0 v62_0 k0_t6 k0_t7 arg16 v181 k0_hw4 k0_h3 k0_h10 => k0_hw4.2.2.2.1.2.2.2.2.2.2.2.2.2.2.2.2.2.2.2.2.2.2.2.1 k0_h3 k0_h10
theorem k0_off191_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off191 v59_0 v62_0 k0_t6 k0_t7) a + S1x1x16.size a ≤ S2x32x512.size a := fun i v17 k0_t1 v59_0 v62_0 k0_t6 k0_t7 arg16 v181 k0_hw4 k0_h3 k0_h10 => k0_hw4.2.2.2.1.2.2.2.2.2.2.2.2.2.2.2.2.2.2.2.2.2.2.2.2.1 k0_h3 k0_h10
theorem k0_off192_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off192 i k0_t1 v181) a + S1x16.size a ≤ S128x512.size a := fun i v17 k0_t1 v59_0 v62_0 k0_t6 k0_t7 arg16 v181 k0_hw4 k0_h3 k0_h10 => k0_hw4.2.2.2.1.2.2.2.2.2.2.2.2.2.2.2.2.2.2.2.2.2.2.2.2.2.1 k0_h3 k0_h10
theorem k0_off193_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off193 v59_0 v62_0 k0_t6 k0_t7) a + S1x1x16.size a ≤ S2x32x512.size a := fun i v17 k0_t1 v59_0 v62_0 k0_t6 k0_t7 arg16 v181 k0_hw4 k0_h3 k0_h10 => k0_hw4.2.2.2.1.2.2.2.2.2.2.2.2.2.2.2.2.2.2.2.2.2.2.2.2.2.2.1 k0_h3 k0_h10
theorem k0_off194_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off194 i k0_t1 v181) a + S1x16.size a ≤ S128x512.size a := fun i v17 k0_t1 v59_0 v62_0 k0_t6 k0_t7 arg16 v181 k0_hw4 k0_h3 k0_h10 => k0_hw4.2.2.2.1.2.2.2.2.2.2.2.2.2.2.2.2.2.2.2.2.2.2.2.2.2.2.2.1 k0_h3 k0_h10
theorem k0_off195_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off195 v59_0 v62_0 k0_t6 k0_t7) a + S1x1x16.size a ≤ S2x32x512.size a := fun i v17 k0_t1 v59_0 v62_0 k0_t6 k0_t7 arg16 v181 k0_hw4 k0_h3 k0_h10 => k0_hw4.2.2.2.1.2.2.2.2.2.2.2.2.2.2.2.2.2.2.2.2.2.2.2.2.2.2.2.2.1 k0_h3 k0_h10
theorem k0_off196_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off196 i k0_t1 v181) a + S1x16.size a ≤ S128x512.size a := fun i v17 k0_t1 v59_0 v62_0 k0_t6 k0_t7 arg16 v181 k0_hw4 k0_h3 k0_h10 => k0_hw4.2.2.2.1.2.2.2.2.2.2.2.2.2.2.2.2.2.2.2.2.2.2.2.2.2.2.2.2.2.1 k0_h3 k0_h10
theorem k0_off197_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off197 v59_0 v62_0 k0_t6 k0_t7) a + S1x1x16.size a ≤ S2x32x512.size a := fun i v17 k0_t1 v59_0 v62_0 k0_t6 k0_t7 arg16 v181 k0_hw4 k0_h3 k0_h10 => k0_hw4.2.2.2.1.2.2.2.2.2.2.2.2.2.2.2.2.2.2.2.2.2.2.2.2.2.2.2.2.2.2.1 k0_h3 k0_h10
theorem k0_off198_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off198 i k0_t1 v181) a + S1x16.size a ≤ S128x512.size a := fun i v17 k0_t1 v59_0 v62_0 k0_t6 k0_t7 arg16 v181 k0_hw4 k0_h3 k0_h10 => k0_hw4.2.2.2.1.2.2.2.2.2.2.2.2.2.2.2.2.2.2.2.2.2.2.2.2.2.2.2.2.2.2.2.1 k0_h3 k0_h10
theorem k0_off199_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off199 v59_0 v62_0 k0_t6 k0_t7) a + S1x1x16.size a ≤ S2x32x512.size a := fun i v17 k0_t1 v59_0 v62_0 k0_t6 k0_t7 arg16 v181 k0_hw4 k0_h3 k0_h10 => k0_hw4.2.2.2.1.2.2.2.2.2.2.2.2.2.2.2.2.2.2.2.2.2.2.2.2.2.2.2.2.2.2.2.2.1 k0_h3 k0_h10
theorem k0_off200_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off200 i k0_t1 v181) a + S1x16.size a ≤ S128x512.size a := fun i v17 k0_t1 v59_0 v62_0 k0_t6 k0_t7 arg16 v181 k0_hw4 k0_h3 k0_h10 => k0_hw4.2.2.2.1.2.2.2.2.2.2.2.2.2.2.2.2.2.2.2.2.2.2.2.2.2.2.2.2.2.2.2.2.2.1 k0_h3 k0_h10
theorem k0_off201_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off201 v59_0 v62_0 k0_t6 k0_t7) a + S1x1x16.size a ≤ S2x32x512.size a := fun i v17 k0_t1 v59_0 v62_0 k0_t6 k0_t7 arg16 v181 k0_hw4 k0_h3 k0_h10 => k0_hw4.2.2.2.1.2.2.2.2.2.2.2.2.2.2.2.2.2.2.2.2.2.2.2.2.2.2.2.2.2.2.2.2.2.2.1 k0_h3 k0_h10
theorem k0_off202_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off202 i k0_t1 v181) a + S1x16.size a ≤ S128x512.size a := fun i v17 k0_t1 v59_0 v62_0 k0_t6 k0_t7 arg16 v181 k0_hw4 k0_h3 k0_h10 => k0_hw4.2.2.2.1.2.2.2.2.2.2.2.2.2.2.2.2.2.2.2.2.2.2.2.2.2.2.2.2.2.2.2.2.2.2.2 k0_h3 k0_h10
theorem k0_off203_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off203 v59_0 v62_0 k0_t6 k0_t7) a + S1x1x16.size a ≤ S2x32x512.size a := fun i v17 k0_t1 v59_0 v62_0 k0_t6 k0_t7 arg16 v181 k0_hw4 k0_h3 k0_h10 => k0_hw4.2.2.2.2.1 k0_h3 k0_h10
theorem k0_off204_inb : ∀ (i : grid0.Coords) (v17 : BitVec 32) (k0_t1 : Fin k0_t1_loop.trips) (v59_0 : BitVec 32) (v62_0 : BitVec 32) (k0_t6 : Fin (k0_t6_loop v59_0 v62_0).trips) (k0_t7 : Fin (k0_t7_loop v59_0 v62_0 k0_t6).trips) (arg16 : BitVec 32) (v181 : BitVec 32) (k0_hw4 : k0_chk4 i v17 k0_t1 v59_0 v62_0 k0_t6 k0_t7 arg16 v181), ∀ (k0_h3 : k0_cond3 i v17 k0_t1 = 1#1), ∀ (k0_h10 : k0_cond10 arg16 v181 = 1#1), ∀ a, (k0_off204 i k0_t1 v181) a + S1x16.size a ≤ S128x16.size a := fun i v17 k0_t1 v59_0 v62_0 k0_t6 k0_t7 arg16 v181 k0_hw4 k0_h3 k0_h10 => k0_hw4.2.2.2.2.2 k0_h3 k0_h10

@[reducible] def k0_t8_loop (v59_0 : BitVec 32) (v62_0 : BitVec 32) (k0_t6 : Fin (k0_t6_loop v59_0 v62_0).trips) : Scf.Loop 32 :=
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let c0_i32_56 : BitVec 32 := 0#32
  let c1_i32_58 : BitVec 32 := 1#32
  let arg13 : BitVec 32 := Scf.iv c0_i32_56 c1_i32_58 k0_t6
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let v171 : BitVec 32 := Scalar.addi v167 v170
  let c1_i32_95 : BitVec 32 := 1#32
  ⟨v174, v171, c1_i32_95⟩
def k0_off205 (v59_0 : BitVec 32) (v62_0 : BitVec 32) (k0_t6 : Fin (k0_t6_loop v59_0 v62_0).trips) (k0_t8 : Fin (k0_t8_loop v59_0 v62_0 k0_t6).trips) : Fin 1 → Nat :=
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let c0_i32_56 : BitVec 32 := 0#32
  let c1_i32_58 : BitVec 32 := 1#32
  let arg13 : BitVec 32 := Scf.iv c0_i32_56 c1_i32_58 k0_t6
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let v177 : Index := Scalar.indexCast arg15
  ![v177.toNat]
def k0_off206 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v190 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v191 : Index := Scalar.indexCast v183
  let c0 : Index := 0#32
  ![v190.toNat, v191.toNat, 0]
def k0_cond11 (arg16 : BitVec 32) (v181 : BitVec 32) : BitVec 1 :=
  let v184 : BitVec 1 := Scalar.cmpi .ne v181 arg16
  let v185 : BitVec 32 := Scalar.extui v184
  let c0_i32_96 : BitVec 32 := 0#32
  let v186 : BitVec 1 := Scalar.cmpi .ne v185 c0_i32_96
  v186

def k0_off207 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v194 : Index := Scalar.indexCast v182
  let c0_99 : Index := 0#32
  ![v194.toNat, 0]
def k0_off208 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v198 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v199 : Index := Scalar.indexCast v183
  let c16 : Index := 16#32
  ![v198.toNat, v199.toNat, 16]
def k0_off209 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v202 : Index := Scalar.indexCast v182
  let c16_100 : Index := 16#32
  ![v202.toNat, 16]
def k0_off210 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v206 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v207 : Index := Scalar.indexCast v183
  let c32 : Index := 32#32
  ![v206.toNat, v207.toNat, 32]
def k0_off211 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v210 : Index := Scalar.indexCast v182
  let c32_101 : Index := 32#32
  ![v210.toNat, 32]
def k0_off212 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v214 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v215 : Index := Scalar.indexCast v183
  let c48 : Index := 48#32
  ![v214.toNat, v215.toNat, 48]
def k0_off213 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v218 : Index := Scalar.indexCast v182
  let c48_102 : Index := 48#32
  ![v218.toNat, 48]
def k0_off214 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v222 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v223 : Index := Scalar.indexCast v183
  let c64 : Index := 64#32
  ![v222.toNat, v223.toNat, 64]
def k0_off215 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v226 : Index := Scalar.indexCast v182
  let c64_103 : Index := 64#32
  ![v226.toNat, 64]
def k0_off216 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v230 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v231 : Index := Scalar.indexCast v183
  let c80 : Index := 80#32
  ![v230.toNat, v231.toNat, 80]
def k0_off217 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v234 : Index := Scalar.indexCast v182
  let c80_104 : Index := 80#32
  ![v234.toNat, 80]
def k0_off218 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v238 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v239 : Index := Scalar.indexCast v183
  let c96 : Index := 96#32
  ![v238.toNat, v239.toNat, 96]
def k0_off219 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v242 : Index := Scalar.indexCast v182
  let c96_105 : Index := 96#32
  ![v242.toNat, 96]
def k0_off220 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v246 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v247 : Index := Scalar.indexCast v183
  let c112 : Index := 112#32
  ![v246.toNat, v247.toNat, 112]
def k0_off221 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v250 : Index := Scalar.indexCast v182
  let c112_106 : Index := 112#32
  ![v250.toNat, 112]
def k0_off222 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v254 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v255 : Index := Scalar.indexCast v183
  let c128 : Index := 128#32
  ![v254.toNat, v255.toNat, 128]
def k0_off223 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v258 : Index := Scalar.indexCast v182
  let c128_107 : Index := 128#32
  ![v258.toNat, 128]
def k0_off224 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v262 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v263 : Index := Scalar.indexCast v183
  let c144 : Index := 144#32
  ![v262.toNat, v263.toNat, 144]
def k0_off225 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v266 : Index := Scalar.indexCast v182
  let c144_108 : Index := 144#32
  ![v266.toNat, 144]
def k0_off226 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v270 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v271 : Index := Scalar.indexCast v183
  let c160 : Index := 160#32
  ![v270.toNat, v271.toNat, 160]
def k0_off227 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v274 : Index := Scalar.indexCast v182
  let c160_109 : Index := 160#32
  ![v274.toNat, 160]
def k0_off228 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v278 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v279 : Index := Scalar.indexCast v183
  let c176 : Index := 176#32
  ![v278.toNat, v279.toNat, 176]
def k0_off229 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v282 : Index := Scalar.indexCast v182
  let c176_110 : Index := 176#32
  ![v282.toNat, 176]
def k0_off230 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v286 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v287 : Index := Scalar.indexCast v183
  let c192 : Index := 192#32
  ![v286.toNat, v287.toNat, 192]
def k0_off231 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v290 : Index := Scalar.indexCast v182
  let c192_111 : Index := 192#32
  ![v290.toNat, 192]
def k0_off232 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v294 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v295 : Index := Scalar.indexCast v183
  let c208 : Index := 208#32
  ![v294.toNat, v295.toNat, 208]
def k0_off233 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v298 : Index := Scalar.indexCast v182
  let c208_112 : Index := 208#32
  ![v298.toNat, 208]
def k0_off234 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v302 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v303 : Index := Scalar.indexCast v183
  let c224 : Index := 224#32
  ![v302.toNat, v303.toNat, 224]
def k0_off235 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v306 : Index := Scalar.indexCast v182
  let c224_113 : Index := 224#32
  ![v306.toNat, 224]
def k0_off236 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v310 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v311 : Index := Scalar.indexCast v183
  let c240 : Index := 240#32
  ![v310.toNat, v311.toNat, 240]
def k0_off237 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v314 : Index := Scalar.indexCast v182
  let c240_114 : Index := 240#32
  ![v314.toNat, 240]
def k0_off238 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v318 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v319 : Index := Scalar.indexCast v183
  let c256 : Index := 256#32
  ![v318.toNat, v319.toNat, 256]
def k0_off239 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v322 : Index := Scalar.indexCast v182
  let c256_115 : Index := 256#32
  ![v322.toNat, 256]
def k0_off240 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v326 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v327 : Index := Scalar.indexCast v183
  let c272 : Index := 272#32
  ![v326.toNat, v327.toNat, 272]
def k0_off241 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v330 : Index := Scalar.indexCast v182
  let c272_116 : Index := 272#32
  ![v330.toNat, 272]
def k0_off242 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v334 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v335 : Index := Scalar.indexCast v183
  let c288 : Index := 288#32
  ![v334.toNat, v335.toNat, 288]
def k0_off243 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v338 : Index := Scalar.indexCast v182
  let c288_117 : Index := 288#32
  ![v338.toNat, 288]
def k0_off244 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v342 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v343 : Index := Scalar.indexCast v183
  let c304 : Index := 304#32
  ![v342.toNat, v343.toNat, 304]
def k0_off245 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v346 : Index := Scalar.indexCast v182
  let c304_118 : Index := 304#32
  ![v346.toNat, 304]
def k0_off246 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v350 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v351 : Index := Scalar.indexCast v183
  let c320 : Index := 320#32
  ![v350.toNat, v351.toNat, 320]
def k0_off247 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v354 : Index := Scalar.indexCast v182
  let c320_119 : Index := 320#32
  ![v354.toNat, 320]
def k0_off248 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v358 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v359 : Index := Scalar.indexCast v183
  let c336 : Index := 336#32
  ![v358.toNat, v359.toNat, 336]
def k0_off249 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v362 : Index := Scalar.indexCast v182
  let c336_120 : Index := 336#32
  ![v362.toNat, 336]
def k0_off250 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v366 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v367 : Index := Scalar.indexCast v183
  let c352 : Index := 352#32
  ![v366.toNat, v367.toNat, 352]
def k0_off251 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v370 : Index := Scalar.indexCast v182
  let c352_121 : Index := 352#32
  ![v370.toNat, 352]
def k0_off252 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v374 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v375 : Index := Scalar.indexCast v183
  let c368 : Index := 368#32
  ![v374.toNat, v375.toNat, 368]
def k0_off253 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v378 : Index := Scalar.indexCast v182
  let c368_122 : Index := 368#32
  ![v378.toNat, 368]
def k0_off254 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v382 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v383 : Index := Scalar.indexCast v183
  let c384 : Index := 384#32
  ![v382.toNat, v383.toNat, 384]
def k0_off255 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v386 : Index := Scalar.indexCast v182
  let c384_123 : Index := 384#32
  ![v386.toNat, 384]
def k0_off256 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v390 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v391 : Index := Scalar.indexCast v183
  let c400 : Index := 400#32
  ![v390.toNat, v391.toNat, 400]
def k0_off257 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v394 : Index := Scalar.indexCast v182
  let c400_124 : Index := 400#32
  ![v394.toNat, 400]
def k0_off258 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v398 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v399 : Index := Scalar.indexCast v183
  let c416 : Index := 416#32
  ![v398.toNat, v399.toNat, 416]
def k0_off259 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v402 : Index := Scalar.indexCast v182
  let c416_125 : Index := 416#32
  ![v402.toNat, 416]
def k0_off260 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v406 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v407 : Index := Scalar.indexCast v183
  let c432 : Index := 432#32
  ![v406.toNat, v407.toNat, 432]
def k0_off261 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v410 : Index := Scalar.indexCast v182
  let c432_126 : Index := 432#32
  ![v410.toNat, 432]
def k0_off262 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v414 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v415 : Index := Scalar.indexCast v183
  let c448 : Index := 448#32
  ![v414.toNat, v415.toNat, 448]
def k0_off263 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v418 : Index := Scalar.indexCast v182
  let c448_127 : Index := 448#32
  ![v418.toNat, 448]
def k0_off264 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v422 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v423 : Index := Scalar.indexCast v183
  let c464 : Index := 464#32
  ![v422.toNat, v423.toNat, 464]
def k0_off265 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v426 : Index := Scalar.indexCast v182
  let c464_128 : Index := 464#32
  ![v426.toNat, 464]
def k0_off266 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v430 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v431 : Index := Scalar.indexCast v183
  let c480 : Index := 480#32
  ![v430.toNat, v431.toNat, 480]
def k0_off267 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v434 : Index := Scalar.indexCast v182
  let c480_129 : Index := 480#32
  ![v434.toNat, 480]
def k0_off268 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v438 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v439 : Index := Scalar.indexCast v183
  let c496 : Index := 496#32
  ![v438.toNat, v439.toNat, 496]
def k0_off269 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v442 : Index := Scalar.indexCast v182
  let c496_130 : Index := 496#32
  ![v442.toNat, 496]
def k0_off270 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v446 : Index := Scalar.indexCast v182
  let c0_131 : Index := 0#32
  ![v446.toNat, 0]
def k0_off271 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v190 : Index := Scalar.indexCast v182
  let c0 : Index := 0#32
  ![v190.toNat, 0]
def k0_cond12 (arg16 : BitVec 32) (v181 : BitVec 32) : BitVec 1 :=
  let v184 : BitVec 1 := Scalar.cmpi .ne v181 arg16
  let true_97 : BitVec 1 := 1#1
  let v187 : BitVec 1 := Scalar.xori v184 true_97
  let v188 : BitVec 32 := Scalar.extui v187
  let c0_i32_98 : BitVec 32 := 0#32
  let v189 : BitVec 1 := Scalar.cmpi .ne v188 c0_i32_98
  v189

def k0_off272 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v193 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v194 : Index := Scalar.indexCast v183
  let c0_99 : Index := 0#32
  ![v193.toNat, v194.toNat, 0]
def k0_off273 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v202 : Index := Scalar.indexCast v182
  let c16 : Index := 16#32
  ![v202.toNat, 16]
def k0_off274 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v205 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v206 : Index := Scalar.indexCast v183
  let c16_101 : Index := 16#32
  ![v205.toNat, v206.toNat, 16]
def k0_off275 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v214 : Index := Scalar.indexCast v182
  let c32 : Index := 32#32
  ![v214.toNat, 32]
def k0_off276 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v217 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v218 : Index := Scalar.indexCast v183
  let c32_103 : Index := 32#32
  ![v217.toNat, v218.toNat, 32]
def k0_off277 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v226 : Index := Scalar.indexCast v182
  let c48 : Index := 48#32
  ![v226.toNat, 48]
def k0_off278 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v229 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v230 : Index := Scalar.indexCast v183
  let c48_105 : Index := 48#32
  ![v229.toNat, v230.toNat, 48]
def k0_off279 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v238 : Index := Scalar.indexCast v182
  let c64 : Index := 64#32
  ![v238.toNat, 64]
def k0_off280 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v241 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v242 : Index := Scalar.indexCast v183
  let c64_107 : Index := 64#32
  ![v241.toNat, v242.toNat, 64]
def k0_off281 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v250 : Index := Scalar.indexCast v182
  let c80 : Index := 80#32
  ![v250.toNat, 80]
def k0_off282 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v253 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v254 : Index := Scalar.indexCast v183
  let c80_109 : Index := 80#32
  ![v253.toNat, v254.toNat, 80]
def k0_off283 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v262 : Index := Scalar.indexCast v182
  let c96 : Index := 96#32
  ![v262.toNat, 96]
def k0_off284 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v265 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v266 : Index := Scalar.indexCast v183
  let c96_111 : Index := 96#32
  ![v265.toNat, v266.toNat, 96]
def k0_off285 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v274 : Index := Scalar.indexCast v182
  let c112 : Index := 112#32
  ![v274.toNat, 112]
def k0_off286 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v277 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v278 : Index := Scalar.indexCast v183
  let c112_113 : Index := 112#32
  ![v277.toNat, v278.toNat, 112]
def k0_off287 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v286 : Index := Scalar.indexCast v182
  let c128 : Index := 128#32
  ![v286.toNat, 128]
def k0_off288 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v289 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v290 : Index := Scalar.indexCast v183
  let c128_115 : Index := 128#32
  ![v289.toNat, v290.toNat, 128]
def k0_off289 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v298 : Index := Scalar.indexCast v182
  let c144 : Index := 144#32
  ![v298.toNat, 144]
def k0_off290 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v301 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v302 : Index := Scalar.indexCast v183
  let c144_117 : Index := 144#32
  ![v301.toNat, v302.toNat, 144]
def k0_off291 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v310 : Index := Scalar.indexCast v182
  let c160 : Index := 160#32
  ![v310.toNat, 160]
def k0_off292 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v313 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v314 : Index := Scalar.indexCast v183
  let c160_119 : Index := 160#32
  ![v313.toNat, v314.toNat, 160]
def k0_off293 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v322 : Index := Scalar.indexCast v182
  let c176 : Index := 176#32
  ![v322.toNat, 176]
def k0_off294 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v325 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v326 : Index := Scalar.indexCast v183
  let c176_121 : Index := 176#32
  ![v325.toNat, v326.toNat, 176]
def k0_off295 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v334 : Index := Scalar.indexCast v182
  let c192 : Index := 192#32
  ![v334.toNat, 192]
def k0_off296 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v337 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v338 : Index := Scalar.indexCast v183
  let c192_123 : Index := 192#32
  ![v337.toNat, v338.toNat, 192]
def k0_off297 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v346 : Index := Scalar.indexCast v182
  let c208 : Index := 208#32
  ![v346.toNat, 208]
def k0_off298 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v349 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v350 : Index := Scalar.indexCast v183
  let c208_125 : Index := 208#32
  ![v349.toNat, v350.toNat, 208]
def k0_off299 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v358 : Index := Scalar.indexCast v182
  let c224 : Index := 224#32
  ![v358.toNat, 224]
def k0_off300 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v361 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v362 : Index := Scalar.indexCast v183
  let c224_127 : Index := 224#32
  ![v361.toNat, v362.toNat, 224]
def k0_off301 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v370 : Index := Scalar.indexCast v182
  let c240 : Index := 240#32
  ![v370.toNat, 240]
def k0_off302 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v373 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v374 : Index := Scalar.indexCast v183
  let c240_129 : Index := 240#32
  ![v373.toNat, v374.toNat, 240]
def k0_off303 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v382 : Index := Scalar.indexCast v182
  let c256 : Index := 256#32
  ![v382.toNat, 256]
def k0_off304 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v385 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v386 : Index := Scalar.indexCast v183
  let c256_131 : Index := 256#32
  ![v385.toNat, v386.toNat, 256]
def k0_off305 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v394 : Index := Scalar.indexCast v182
  let c272 : Index := 272#32
  ![v394.toNat, 272]
def k0_off306 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v397 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v398 : Index := Scalar.indexCast v183
  let c272_133 : Index := 272#32
  ![v397.toNat, v398.toNat, 272]
def k0_off307 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v406 : Index := Scalar.indexCast v182
  let c288 : Index := 288#32
  ![v406.toNat, 288]
def k0_off308 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v409 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v410 : Index := Scalar.indexCast v183
  let c288_135 : Index := 288#32
  ![v409.toNat, v410.toNat, 288]
def k0_off309 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v418 : Index := Scalar.indexCast v182
  let c304 : Index := 304#32
  ![v418.toNat, 304]
def k0_off310 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v421 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v422 : Index := Scalar.indexCast v183
  let c304_137 : Index := 304#32
  ![v421.toNat, v422.toNat, 304]
def k0_off311 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v430 : Index := Scalar.indexCast v182
  let c320 : Index := 320#32
  ![v430.toNat, 320]
def k0_off312 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v433 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v434 : Index := Scalar.indexCast v183
  let c320_139 : Index := 320#32
  ![v433.toNat, v434.toNat, 320]
def k0_off313 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v442 : Index := Scalar.indexCast v182
  let c336 : Index := 336#32
  ![v442.toNat, 336]
def k0_off314 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v445 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v446 : Index := Scalar.indexCast v183
  let c336_141 : Index := 336#32
  ![v445.toNat, v446.toNat, 336]
def k0_off315 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v454 : Index := Scalar.indexCast v182
  let c352 : Index := 352#32
  ![v454.toNat, 352]
def k0_off316 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v457 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v458 : Index := Scalar.indexCast v183
  let c352_143 : Index := 352#32
  ![v457.toNat, v458.toNat, 352]
def k0_off317 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v466 : Index := Scalar.indexCast v182
  let c368 : Index := 368#32
  ![v466.toNat, 368]
def k0_off318 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v469 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v470 : Index := Scalar.indexCast v183
  let c368_145 : Index := 368#32
  ![v469.toNat, v470.toNat, 368]
def k0_off319 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v478 : Index := Scalar.indexCast v182
  let c384 : Index := 384#32
  ![v478.toNat, 384]
def k0_off320 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v481 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v482 : Index := Scalar.indexCast v183
  let c384_147 : Index := 384#32
  ![v481.toNat, v482.toNat, 384]
def k0_off321 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v490 : Index := Scalar.indexCast v182
  let c400 : Index := 400#32
  ![v490.toNat, 400]
def k0_off322 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v493 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v494 : Index := Scalar.indexCast v183
  let c400_149 : Index := 400#32
  ![v493.toNat, v494.toNat, 400]
def k0_off323 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v502 : Index := Scalar.indexCast v182
  let c416 : Index := 416#32
  ![v502.toNat, 416]
def k0_off324 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v505 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v506 : Index := Scalar.indexCast v183
  let c416_151 : Index := 416#32
  ![v505.toNat, v506.toNat, 416]
def k0_off325 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v514 : Index := Scalar.indexCast v182
  let c432 : Index := 432#32
  ![v514.toNat, 432]
def k0_off326 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v517 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v518 : Index := Scalar.indexCast v183
  let c432_153 : Index := 432#32
  ![v517.toNat, v518.toNat, 432]
def k0_off327 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v526 : Index := Scalar.indexCast v182
  let c448 : Index := 448#32
  ![v526.toNat, 448]
def k0_off328 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v529 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v530 : Index := Scalar.indexCast v183
  let c448_155 : Index := 448#32
  ![v529.toNat, v530.toNat, 448]
def k0_off329 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v538 : Index := Scalar.indexCast v182
  let c464 : Index := 464#32
  ![v538.toNat, 464]
def k0_off330 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v541 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v542 : Index := Scalar.indexCast v183
  let c464_157 : Index := 464#32
  ![v541.toNat, v542.toNat, 464]
def k0_off331 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v550 : Index := Scalar.indexCast v182
  let c480 : Index := 480#32
  ![v550.toNat, 480]
def k0_off332 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v553 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v554 : Index := Scalar.indexCast v183
  let c480_159 : Index := 480#32
  ![v553.toNat, v554.toNat, 480]
def k0_off333 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v562 : Index := Scalar.indexCast v182
  let c496 : Index := 496#32
  ![v562.toNat, 496]
def k0_off334 (v59_0 : BitVec 32) (v62_0 : BitVec 32) (k0_t6 : Fin (k0_t6_loop v59_0 v62_0).trips) (k0_t8 : Fin (k0_t8_loop v59_0 v62_0 k0_t6).trips) : Fin 3 → Nat :=
  let c0_i32_56 : BitVec 32 := 0#32
  let c1_i32_58 : BitVec 32 := 1#32
  let arg13 : BitVec 32 := Scf.iv c0_i32_56 c1_i32_58 k0_t6
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v565 : Index := Scalar.indexCast v166
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t8
  let c2016_i32 : BitVec 32 := 2016#32
  let v129 : BitVec 32 := Scalar.minsi v128 c2016_i32
  let v183 : BitVec 32 := Scalar.subi arg15 v129
  let v566 : Index := Scalar.indexCast v183
  let c496_161 : Index := 496#32
  ![v565.toNat, v566.toNat, 496]
def k0_off335 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v574 : Index := Scalar.indexCast v182
  let c0_163 : Index := 0#32
  ![v574.toNat, 0]

def k0_chk5_0 (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) : Prop :=
  (∀ (k0_h3 : k0_cond3 i v17 k0_t1 = 1#1), ∀ (k0_h11 : k0_cond11 arg16 v181 = 1#1), ∀ a, (k0_off206 v59_0 v62_0 k0_t6 k0_t8) a + S1x1x16.size a ≤ S2x32x512.size a) ∧
  (∀ (k0_h3 : k0_cond3 i v17 k0_t1 = 1#1), ∀ (k0_h11 : k0_cond11 arg16 v181 = 1#1), ∀ a, (k0_off207 i k0_t1 v181) a + S1x16.size a ≤ S128x512.size a) ∧
  (∀ (k0_h3 : k0_cond3 i v17 k0_t1 = 1#1), ∀ (k0_h11 : k0_cond11 arg16 v181 = 1#1), ∀ a, (k0_off208 v59_0 v62_0 k0_t6 k0_t8) a + S1x1x16.size a ≤ S2x32x512.size a) ∧
  (∀ (k0_h3 : k0_cond3 i v17 k0_t1 = 1#1), ∀ (k0_h11 : k0_cond11 arg16 v181 = 1#1), ∀ a, (k0_off209 i k0_t1 v181) a + S1x16.size a ≤ S128x512.size a) ∧
  (∀ (k0_h3 : k0_cond3 i v17 k0_t1 = 1#1), ∀ (k0_h11 : k0_cond11 arg16 v181 = 1#1), ∀ a, (k0_off210 v59_0 v62_0 k0_t6 k0_t8) a + S1x1x16.size a ≤ S2x32x512.size a) ∧
  (∀ (k0_h3 : k0_cond3 i v17 k0_t1 = 1#1), ∀ (k0_h11 : k0_cond11 arg16 v181 = 1#1), ∀ a, (k0_off211 i k0_t1 v181) a + S1x16.size a ≤ S128x512.size a) ∧
  (∀ (k0_h3 : k0_cond3 i v17 k0_t1 = 1#1), ∀ (k0_h11 : k0_cond11 arg16 v181 = 1#1), ∀ a, (k0_off212 v59_0 v62_0 k0_t6 k0_t8) a + S1x1x16.size a ≤ S2x32x512.size a) ∧
  (∀ (k0_h3 : k0_cond3 i v17 k0_t1 = 1#1), ∀ (k0_h11 : k0_cond11 arg16 v181 = 1#1), ∀ a, (k0_off213 i k0_t1 v181) a + S1x16.size a ≤ S128x512.size a) ∧
  (∀ (k0_h3 : k0_cond3 i v17 k0_t1 = 1#1), ∀ (k0_h11 : k0_cond11 arg16 v181 = 1#1), ∀ a, (k0_off214 v59_0 v62_0 k0_t6 k0_t8) a + S1x1x16.size a ≤ S2x32x512.size a) ∧
  (∀ (k0_h3 : k0_cond3 i v17 k0_t1 = 1#1), ∀ (k0_h11 : k0_cond11 arg16 v181 = 1#1), ∀ a, (k0_off215 i k0_t1 v181) a + S1x16.size a ≤ S128x512.size a) ∧
  (∀ (k0_h3 : k0_cond3 i v17 k0_t1 = 1#1), ∀ (k0_h11 : k0_cond11 arg16 v181 = 1#1), ∀ a, (k0_off216 v59_0 v62_0 k0_t6 k0_t8) a + S1x1x16.size a ≤ S2x32x512.size a) ∧
  (∀ (k0_h3 : k0_cond3 i v17 k0_t1 = 1#1), ∀ (k0_h11 : k0_cond11 arg16 v181 = 1#1), ∀ a, (k0_off217 i k0_t1 v181) a + S1x16.size a ≤ S128x512.size a) ∧
  (∀ (k0_h3 : k0_cond3 i v17 k0_t1 = 1#1), ∀ (k0_h11 : k0_cond11 arg16 v181 = 1#1), ∀ a, (k0_off218 v59_0 v62_0 k0_t6 k0_t8) a + S1x1x16.size a ≤ S2x32x512.size a) ∧
  (∀ (k0_h3 : k0_cond3 i v17 k0_t1 = 1#1), ∀ (k0_h11 : k0_cond11 arg16 v181 = 1#1), ∀ a, (k0_off219 i k0_t1 v181) a + S1x16.size a ≤ S128x512.size a) ∧
  (∀ (k0_h3 : k0_cond3 i v17 k0_t1 = 1#1), ∀ (k0_h11 : k0_cond11 arg16 v181 = 1#1), ∀ a, (k0_off220 v59_0 v62_0 k0_t6 k0_t8) a + S1x1x16.size a ≤ S2x32x512.size a) ∧
  (∀ (k0_h3 : k0_cond3 i v17 k0_t1 = 1#1), ∀ (k0_h11 : k0_cond11 arg16 v181 = 1#1), ∀ a, (k0_off221 i k0_t1 v181) a + S1x16.size a ≤ S128x512.size a) ∧
  (∀ (k0_h3 : k0_cond3 i v17 k0_t1 = 1#1), ∀ (k0_h11 : k0_cond11 arg16 v181 = 1#1), ∀ a, (k0_off222 v59_0 v62_0 k0_t6 k0_t8) a + S1x1x16.size a ≤ S2x32x512.size a) ∧
  (∀ (k0_h3 : k0_cond3 i v17 k0_t1 = 1#1), ∀ (k0_h11 : k0_cond11 arg16 v181 = 1#1), ∀ a, (k0_off223 i k0_t1 v181) a + S1x16.size a ≤ S128x512.size a) ∧
  (∀ (k0_h3 : k0_cond3 i v17 k0_t1 = 1#1), ∀ (k0_h11 : k0_cond11 arg16 v181 = 1#1), ∀ a, (k0_off224 v59_0 v62_0 k0_t6 k0_t8) a + S1x1x16.size a ≤ S2x32x512.size a) ∧
  (∀ (k0_h3 : k0_cond3 i v17 k0_t1 = 1#1), ∀ (k0_h11 : k0_cond11 arg16 v181 = 1#1), ∀ a, (k0_off225 i k0_t1 v181) a + S1x16.size a ≤ S128x512.size a) ∧
  (∀ (k0_h3 : k0_cond3 i v17 k0_t1 = 1#1), ∀ (k0_h11 : k0_cond11 arg16 v181 = 1#1), ∀ a, (k0_off226 v59_0 v62_0 k0_t6 k0_t8) a + S1x1x16.size a ≤ S2x32x512.size a) ∧
  (∀ (k0_h3 : k0_cond3 i v17 k0_t1 = 1#1), ∀ (k0_h11 : k0_cond11 arg16 v181 = 1#1), ∀ a, (k0_off227 i k0_t1 v181) a + S1x16.size a ≤ S128x512.size a) ∧
  (∀ (k0_h3 : k0_cond3 i v17 k0_t1 = 1#1), ∀ (k0_h11 : k0_cond11 arg16 v181 = 1#1), ∀ a, (k0_off228 v59_0 v62_0 k0_t6 k0_t8) a + S1x1x16.size a ≤ S2x32x512.size a) ∧
  (∀ (k0_h3 : k0_cond3 i v17 k0_t1 = 1#1), ∀ (k0_h11 : k0_cond11 arg16 v181 = 1#1), ∀ a, (k0_off229 i k0_t1 v181) a + S1x16.size a ≤ S128x512.size a) ∧
  (∀ (k0_h3 : k0_cond3 i v17 k0_t1 = 1#1), ∀ (k0_h11 : k0_cond11 arg16 v181 = 1#1), ∀ a, (k0_off230 v59_0 v62_0 k0_t6 k0_t8) a + S1x1x16.size a ≤ S2x32x512.size a) ∧
  (∀ (k0_h3 : k0_cond3 i v17 k0_t1 = 1#1), ∀ (k0_h11 : k0_cond11 arg16 v181 = 1#1), ∀ a, (k0_off231 i k0_t1 v181) a + S1x16.size a ≤ S128x512.size a) ∧
  (∀ (k0_h3 : k0_cond3 i v17 k0_t1 = 1#1), ∀ (k0_h11 : k0_cond11 arg16 v181 = 1#1), ∀ a, (k0_off232 v59_0 v62_0 k0_t6 k0_t8) a + S1x1x16.size a ≤ S2x32x512.size a) ∧
  (∀ (k0_h3 : k0_cond3 i v17 k0_t1 = 1#1), ∀ (k0_h11 : k0_cond11 arg16 v181 = 1#1), ∀ a, (k0_off233 i k0_t1 v181) a + S1x16.size a ≤ S128x512.size a) ∧
  (∀ (k0_h3 : k0_cond3 i v17 k0_t1 = 1#1), ∀ (k0_h11 : k0_cond11 arg16 v181 = 1#1), ∀ a, (k0_off234 v59_0 v62_0 k0_t6 k0_t8) a + S1x1x16.size a ≤ S2x32x512.size a) ∧
  (∀ (k0_h3 : k0_cond3 i v17 k0_t1 = 1#1), ∀ (k0_h11 : k0_cond11 arg16 v181 = 1#1), ∀ a, (k0_off235 i k0_t1 v181) a + S1x16.size a ≤ S128x512.size a) ∧
  (∀ (k0_h3 : k0_cond3 i v17 k0_t1 = 1#1), ∀ (k0_h11 : k0_cond11 arg16 v181 = 1#1), ∀ a, (k0_off236 v59_0 v62_0 k0_t6 k0_t8) a + S1x1x16.size a ≤ S2x32x512.size a) ∧
  (∀ (k0_h3 : k0_cond3 i v17 k0_t1 = 1#1), ∀ (k0_h11 : k0_cond11 arg16 v181 = 1#1), ∀ a, (k0_off237 i k0_t1 v181) a + S1x16.size a ≤ S128x512.size a)
def k0_chk5_1 (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) : Prop :=
  (∀ (k0_h3 : k0_cond3 i v17 k0_t1 = 1#1), ∀ (k0_h11 : k0_cond11 arg16 v181 = 1#1), ∀ a, (k0_off238 v59_0 v62_0 k0_t6 k0_t8) a + S1x1x16.size a ≤ S2x32x512.size a) ∧
  (∀ (k0_h3 : k0_cond3 i v17 k0_t1 = 1#1), ∀ (k0_h11 : k0_cond11 arg16 v181 = 1#1), ∀ a, (k0_off239 i k0_t1 v181) a + S1x16.size a ≤ S128x512.size a) ∧
  (∀ (k0_h3 : k0_cond3 i v17 k0_t1 = 1#1), ∀ (k0_h11 : k0_cond11 arg16 v181 = 1#1), ∀ a, (k0_off240 v59_0 v62_0 k0_t6 k0_t8) a + S1x1x16.size a ≤ S2x32x512.size a) ∧
  (∀ (k0_h3 : k0_cond3 i v17 k0_t1 = 1#1), ∀ (k0_h11 : k0_cond11 arg16 v181 = 1#1), ∀ a, (k0_off241 i k0_t1 v181) a + S1x16.size a ≤ S128x512.size a) ∧
  (∀ (k0_h3 : k0_cond3 i v17 k0_t1 = 1#1), ∀ (k0_h11 : k0_cond11 arg16 v181 = 1#1), ∀ a, (k0_off242 v59_0 v62_0 k0_t6 k0_t8) a + S1x1x16.size a ≤ S2x32x512.size a) ∧
  (∀ (k0_h3 : k0_cond3 i v17 k0_t1 = 1#1), ∀ (k0_h11 : k0_cond11 arg16 v181 = 1#1), ∀ a, (k0_off243 i k0_t1 v181) a + S1x16.size a ≤ S128x512.size a) ∧
  (∀ (k0_h3 : k0_cond3 i v17 k0_t1 = 1#1), ∀ (k0_h11 : k0_cond11 arg16 v181 = 1#1), ∀ a, (k0_off244 v59_0 v62_0 k0_t6 k0_t8) a + S1x1x16.size a ≤ S2x32x512.size a) ∧
  (∀ (k0_h3 : k0_cond3 i v17 k0_t1 = 1#1), ∀ (k0_h11 : k0_cond11 arg16 v181 = 1#1), ∀ a, (k0_off245 i k0_t1 v181) a + S1x16.size a ≤ S128x512.size a) ∧
  (∀ (k0_h3 : k0_cond3 i v17 k0_t1 = 1#1), ∀ (k0_h11 : k0_cond11 arg16 v181 = 1#1), ∀ a, (k0_off246 v59_0 v62_0 k0_t6 k0_t8) a + S1x1x16.size a ≤ S2x32x512.size a) ∧
  (∀ (k0_h3 : k0_cond3 i v17 k0_t1 = 1#1), ∀ (k0_h11 : k0_cond11 arg16 v181 = 1#1), ∀ a, (k0_off247 i k0_t1 v181) a + S1x16.size a ≤ S128x512.size a) ∧
  (∀ (k0_h3 : k0_cond3 i v17 k0_t1 = 1#1), ∀ (k0_h11 : k0_cond11 arg16 v181 = 1#1), ∀ a, (k0_off248 v59_0 v62_0 k0_t6 k0_t8) a + S1x1x16.size a ≤ S2x32x512.size a) ∧
  (∀ (k0_h3 : k0_cond3 i v17 k0_t1 = 1#1), ∀ (k0_h11 : k0_cond11 arg16 v181 = 1#1), ∀ a, (k0_off249 i k0_t1 v181) a + S1x16.size a ≤ S128x512.size a) ∧
  (∀ (k0_h3 : k0_cond3 i v17 k0_t1 = 1#1), ∀ (k0_h11 : k0_cond11 arg16 v181 = 1#1), ∀ a, (k0_off250 v59_0 v62_0 k0_t6 k0_t8) a + S1x1x16.size a ≤ S2x32x512.size a) ∧
  (∀ (k0_h3 : k0_cond3 i v17 k0_t1 = 1#1), ∀ (k0_h11 : k0_cond11 arg16 v181 = 1#1), ∀ a, (k0_off251 i k0_t1 v181) a + S1x16.size a ≤ S128x512.size a) ∧
  (∀ (k0_h3 : k0_cond3 i v17 k0_t1 = 1#1), ∀ (k0_h11 : k0_cond11 arg16 v181 = 1#1), ∀ a, (k0_off252 v59_0 v62_0 k0_t6 k0_t8) a + S1x1x16.size a ≤ S2x32x512.size a) ∧
  (∀ (k0_h3 : k0_cond3 i v17 k0_t1 = 1#1), ∀ (k0_h11 : k0_cond11 arg16 v181 = 1#1), ∀ a, (k0_off253 i k0_t1 v181) a + S1x16.size a ≤ S128x512.size a) ∧
  (∀ (k0_h3 : k0_cond3 i v17 k0_t1 = 1#1), ∀ (k0_h11 : k0_cond11 arg16 v181 = 1#1), ∀ a, (k0_off254 v59_0 v62_0 k0_t6 k0_t8) a + S1x1x16.size a ≤ S2x32x512.size a) ∧
  (∀ (k0_h3 : k0_cond3 i v17 k0_t1 = 1#1), ∀ (k0_h11 : k0_cond11 arg16 v181 = 1#1), ∀ a, (k0_off255 i k0_t1 v181) a + S1x16.size a ≤ S128x512.size a) ∧
  (∀ (k0_h3 : k0_cond3 i v17 k0_t1 = 1#1), ∀ (k0_h11 : k0_cond11 arg16 v181 = 1#1), ∀ a, (k0_off256 v59_0 v62_0 k0_t6 k0_t8) a + S1x1x16.size a ≤ S2x32x512.size a) ∧
  (∀ (k0_h3 : k0_cond3 i v17 k0_t1 = 1#1), ∀ (k0_h11 : k0_cond11 arg16 v181 = 1#1), ∀ a, (k0_off257 i k0_t1 v181) a + S1x16.size a ≤ S128x512.size a) ∧
  (∀ (k0_h3 : k0_cond3 i v17 k0_t1 = 1#1), ∀ (k0_h11 : k0_cond11 arg16 v181 = 1#1), ∀ a, (k0_off258 v59_0 v62_0 k0_t6 k0_t8) a + S1x1x16.size a ≤ S2x32x512.size a) ∧
  (∀ (k0_h3 : k0_cond3 i v17 k0_t1 = 1#1), ∀ (k0_h11 : k0_cond11 arg16 v181 = 1#1), ∀ a, (k0_off259 i k0_t1 v181) a + S1x16.size a ≤ S128x512.size a) ∧
  (∀ (k0_h3 : k0_cond3 i v17 k0_t1 = 1#1), ∀ (k0_h11 : k0_cond11 arg16 v181 = 1#1), ∀ a, (k0_off260 v59_0 v62_0 k0_t6 k0_t8) a + S1x1x16.size a ≤ S2x32x512.size a) ∧
  (∀ (k0_h3 : k0_cond3 i v17 k0_t1 = 1#1), ∀ (k0_h11 : k0_cond11 arg16 v181 = 1#1), ∀ a, (k0_off261 i k0_t1 v181) a + S1x16.size a ≤ S128x512.size a) ∧
  (∀ (k0_h3 : k0_cond3 i v17 k0_t1 = 1#1), ∀ (k0_h11 : k0_cond11 arg16 v181 = 1#1), ∀ a, (k0_off262 v59_0 v62_0 k0_t6 k0_t8) a + S1x1x16.size a ≤ S2x32x512.size a) ∧
  (∀ (k0_h3 : k0_cond3 i v17 k0_t1 = 1#1), ∀ (k0_h11 : k0_cond11 arg16 v181 = 1#1), ∀ a, (k0_off263 i k0_t1 v181) a + S1x16.size a ≤ S128x512.size a) ∧
  (∀ (k0_h3 : k0_cond3 i v17 k0_t1 = 1#1), ∀ (k0_h11 : k0_cond11 arg16 v181 = 1#1), ∀ a, (k0_off264 v59_0 v62_0 k0_t6 k0_t8) a + S1x1x16.size a ≤ S2x32x512.size a) ∧
  (∀ (k0_h3 : k0_cond3 i v17 k0_t1 = 1#1), ∀ (k0_h11 : k0_cond11 arg16 v181 = 1#1), ∀ a, (k0_off265 i k0_t1 v181) a + S1x16.size a ≤ S128x512.size a) ∧
  (∀ (k0_h3 : k0_cond3 i v17 k0_t1 = 1#1), ∀ (k0_h11 : k0_cond11 arg16 v181 = 1#1), ∀ a, (k0_off266 v59_0 v62_0 k0_t6 k0_t8) a + S1x1x16.size a ≤ S2x32x512.size a) ∧
  (∀ (k0_h3 : k0_cond3 i v17 k0_t1 = 1#1), ∀ (k0_h11 : k0_cond11 arg16 v181 = 1#1), ∀ a, (k0_off267 i k0_t1 v181) a + S1x16.size a ≤ S128x512.size a) ∧
  (∀ (k0_h3 : k0_cond3 i v17 k0_t1 = 1#1), ∀ (k0_h11 : k0_cond11 arg16 v181 = 1#1), ∀ a, (k0_off268 v59_0 v62_0 k0_t6 k0_t8) a + S1x1x16.size a ≤ S2x32x512.size a) ∧
  (∀ (k0_h3 : k0_cond3 i v17 k0_t1 = 1#1), ∀ (k0_h11 : k0_cond11 arg16 v181 = 1#1), ∀ a, (k0_off269 i k0_t1 v181) a + S1x16.size a ≤ S128x512.size a)
def k0_chk5_2 (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) : Prop :=
  (∀ (k0_h3 : k0_cond3 i v17 k0_t1 = 1#1), ∀ (k0_h11 : k0_cond11 arg16 v181 = 1#1), ∀ a, (k0_off270 i k0_t1 v181) a + S1x16.size a ≤ S128x16.size a) ∧
  (∀ (k0_h3 : k0_cond3 i v17 k0_t1 = 1#1), ∀ (k0_h12 : k0_cond12 arg16 v181 = 1#1), ∀ a, (k0_off271 i k0_t1 v181) a + S1x16.size a ≤ S128x512.size a) ∧
  (∀ (k0_h3 : k0_cond3 i v17 k0_t1 = 1#1), ∀ (k0_h12 : k0_cond12 arg16 v181 = 1#1), ∀ a, (k0_off272 v59_0 v62_0 k0_t6 k0_t8) a + S1x1x16.size a ≤ S2x32x512.size a) ∧
  (∀ (k0_h3 : k0_cond3 i v17 k0_t1 = 1#1), ∀ (k0_h12 : k0_cond12 arg16 v181 = 1#1), ∀ a, (k0_off273 i k0_t1 v181) a + S1x16.size a ≤ S128x512.size a) ∧
  (∀ (k0_h3 : k0_cond3 i v17 k0_t1 = 1#1), ∀ (k0_h12 : k0_cond12 arg16 v181 = 1#1), ∀ a, (k0_off274 v59_0 v62_0 k0_t6 k0_t8) a + S1x1x16.size a ≤ S2x32x512.size a) ∧
  (∀ (k0_h3 : k0_cond3 i v17 k0_t1 = 1#1), ∀ (k0_h12 : k0_cond12 arg16 v181 = 1#1), ∀ a, (k0_off275 i k0_t1 v181) a + S1x16.size a ≤ S128x512.size a) ∧
  (∀ (k0_h3 : k0_cond3 i v17 k0_t1 = 1#1), ∀ (k0_h12 : k0_cond12 arg16 v181 = 1#1), ∀ a, (k0_off276 v59_0 v62_0 k0_t6 k0_t8) a + S1x1x16.size a ≤ S2x32x512.size a) ∧
  (∀ (k0_h3 : k0_cond3 i v17 k0_t1 = 1#1), ∀ (k0_h12 : k0_cond12 arg16 v181 = 1#1), ∀ a, (k0_off277 i k0_t1 v181) a + S1x16.size a ≤ S128x512.size a) ∧
  (∀ (k0_h3 : k0_cond3 i v17 k0_t1 = 1#1), ∀ (k0_h12 : k0_cond12 arg16 v181 = 1#1), ∀ a, (k0_off278 v59_0 v62_0 k0_t6 k0_t8) a + S1x1x16.size a ≤ S2x32x512.size a) ∧
  (∀ (k0_h3 : k0_cond3 i v17 k0_t1 = 1#1), ∀ (k0_h12 : k0_cond12 arg16 v181 = 1#1), ∀ a, (k0_off279 i k0_t1 v181) a + S1x16.size a ≤ S128x512.size a) ∧
  (∀ (k0_h3 : k0_cond3 i v17 k0_t1 = 1#1), ∀ (k0_h12 : k0_cond12 arg16 v181 = 1#1), ∀ a, (k0_off280 v59_0 v62_0 k0_t6 k0_t8) a + S1x1x16.size a ≤ S2x32x512.size a) ∧
  (∀ (k0_h3 : k0_cond3 i v17 k0_t1 = 1#1), ∀ (k0_h12 : k0_cond12 arg16 v181 = 1#1), ∀ a, (k0_off281 i k0_t1 v181) a + S1x16.size a ≤ S128x512.size a) ∧
  (∀ (k0_h3 : k0_cond3 i v17 k0_t1 = 1#1), ∀ (k0_h12 : k0_cond12 arg16 v181 = 1#1), ∀ a, (k0_off282 v59_0 v62_0 k0_t6 k0_t8) a + S1x1x16.size a ≤ S2x32x512.size a) ∧
  (∀ (k0_h3 : k0_cond3 i v17 k0_t1 = 1#1), ∀ (k0_h12 : k0_cond12 arg16 v181 = 1#1), ∀ a, (k0_off283 i k0_t1 v181) a + S1x16.size a ≤ S128x512.size a) ∧
  (∀ (k0_h3 : k0_cond3 i v17 k0_t1 = 1#1), ∀ (k0_h12 : k0_cond12 arg16 v181 = 1#1), ∀ a, (k0_off284 v59_0 v62_0 k0_t6 k0_t8) a + S1x1x16.size a ≤ S2x32x512.size a) ∧
  (∀ (k0_h3 : k0_cond3 i v17 k0_t1 = 1#1), ∀ (k0_h12 : k0_cond12 arg16 v181 = 1#1), ∀ a, (k0_off285 i k0_t1 v181) a + S1x16.size a ≤ S128x512.size a) ∧
  (∀ (k0_h3 : k0_cond3 i v17 k0_t1 = 1#1), ∀ (k0_h12 : k0_cond12 arg16 v181 = 1#1), ∀ a, (k0_off286 v59_0 v62_0 k0_t6 k0_t8) a + S1x1x16.size a ≤ S2x32x512.size a) ∧
  (∀ (k0_h3 : k0_cond3 i v17 k0_t1 = 1#1), ∀ (k0_h12 : k0_cond12 arg16 v181 = 1#1), ∀ a, (k0_off287 i k0_t1 v181) a + S1x16.size a ≤ S128x512.size a) ∧
  (∀ (k0_h3 : k0_cond3 i v17 k0_t1 = 1#1), ∀ (k0_h12 : k0_cond12 arg16 v181 = 1#1), ∀ a, (k0_off288 v59_0 v62_0 k0_t6 k0_t8) a + S1x1x16.size a ≤ S2x32x512.size a) ∧
  (∀ (k0_h3 : k0_cond3 i v17 k0_t1 = 1#1), ∀ (k0_h12 : k0_cond12 arg16 v181 = 1#1), ∀ a, (k0_off289 i k0_t1 v181) a + S1x16.size a ≤ S128x512.size a) ∧
  (∀ (k0_h3 : k0_cond3 i v17 k0_t1 = 1#1), ∀ (k0_h12 : k0_cond12 arg16 v181 = 1#1), ∀ a, (k0_off290 v59_0 v62_0 k0_t6 k0_t8) a + S1x1x16.size a ≤ S2x32x512.size a) ∧
  (∀ (k0_h3 : k0_cond3 i v17 k0_t1 = 1#1), ∀ (k0_h12 : k0_cond12 arg16 v181 = 1#1), ∀ a, (k0_off291 i k0_t1 v181) a + S1x16.size a ≤ S128x512.size a) ∧
  (∀ (k0_h3 : k0_cond3 i v17 k0_t1 = 1#1), ∀ (k0_h12 : k0_cond12 arg16 v181 = 1#1), ∀ a, (k0_off292 v59_0 v62_0 k0_t6 k0_t8) a + S1x1x16.size a ≤ S2x32x512.size a) ∧
  (∀ (k0_h3 : k0_cond3 i v17 k0_t1 = 1#1), ∀ (k0_h12 : k0_cond12 arg16 v181 = 1#1), ∀ a, (k0_off293 i k0_t1 v181) a + S1x16.size a ≤ S128x512.size a) ∧
  (∀ (k0_h3 : k0_cond3 i v17 k0_t1 = 1#1), ∀ (k0_h12 : k0_cond12 arg16 v181 = 1#1), ∀ a, (k0_off294 v59_0 v62_0 k0_t6 k0_t8) a + S1x1x16.size a ≤ S2x32x512.size a) ∧
  (∀ (k0_h3 : k0_cond3 i v17 k0_t1 = 1#1), ∀ (k0_h12 : k0_cond12 arg16 v181 = 1#1), ∀ a, (k0_off295 i k0_t1 v181) a + S1x16.size a ≤ S128x512.size a) ∧
  (∀ (k0_h3 : k0_cond3 i v17 k0_t1 = 1#1), ∀ (k0_h12 : k0_cond12 arg16 v181 = 1#1), ∀ a, (k0_off296 v59_0 v62_0 k0_t6 k0_t8) a + S1x1x16.size a ≤ S2x32x512.size a) ∧
  (∀ (k0_h3 : k0_cond3 i v17 k0_t1 = 1#1), ∀ (k0_h12 : k0_cond12 arg16 v181 = 1#1), ∀ a, (k0_off297 i k0_t1 v181) a + S1x16.size a ≤ S128x512.size a) ∧
  (∀ (k0_h3 : k0_cond3 i v17 k0_t1 = 1#1), ∀ (k0_h12 : k0_cond12 arg16 v181 = 1#1), ∀ a, (k0_off298 v59_0 v62_0 k0_t6 k0_t8) a + S1x1x16.size a ≤ S2x32x512.size a) ∧
  (∀ (k0_h3 : k0_cond3 i v17 k0_t1 = 1#1), ∀ (k0_h12 : k0_cond12 arg16 v181 = 1#1), ∀ a, (k0_off299 i k0_t1 v181) a + S1x16.size a ≤ S128x512.size a) ∧
  (∀ (k0_h3 : k0_cond3 i v17 k0_t1 = 1#1), ∀ (k0_h12 : k0_cond12 arg16 v181 = 1#1), ∀ a, (k0_off300 v59_0 v62_0 k0_t6 k0_t8) a + S1x1x16.size a ≤ S2x32x512.size a) ∧
  (∀ (k0_h3 : k0_cond3 i v17 k0_t1 = 1#1), ∀ (k0_h12 : k0_cond12 arg16 v181 = 1#1), ∀ a, (k0_off301 i k0_t1 v181) a + S1x16.size a ≤ S128x512.size a)
def k0_chk5_3 (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) : Prop :=
  (∀ (k0_h3 : k0_cond3 i v17 k0_t1 = 1#1), ∀ (k0_h12 : k0_cond12 arg16 v181 = 1#1), ∀ a, (k0_off302 v59_0 v62_0 k0_t6 k0_t8) a + S1x1x16.size a ≤ S2x32x512.size a) ∧
  (∀ (k0_h3 : k0_cond3 i v17 k0_t1 = 1#1), ∀ (k0_h12 : k0_cond12 arg16 v181 = 1#1), ∀ a, (k0_off303 i k0_t1 v181) a + S1x16.size a ≤ S128x512.size a) ∧
  (∀ (k0_h3 : k0_cond3 i v17 k0_t1 = 1#1), ∀ (k0_h12 : k0_cond12 arg16 v181 = 1#1), ∀ a, (k0_off304 v59_0 v62_0 k0_t6 k0_t8) a + S1x1x16.size a ≤ S2x32x512.size a) ∧
  (∀ (k0_h3 : k0_cond3 i v17 k0_t1 = 1#1), ∀ (k0_h12 : k0_cond12 arg16 v181 = 1#1), ∀ a, (k0_off305 i k0_t1 v181) a + S1x16.size a ≤ S128x512.size a) ∧
  (∀ (k0_h3 : k0_cond3 i v17 k0_t1 = 1#1), ∀ (k0_h12 : k0_cond12 arg16 v181 = 1#1), ∀ a, (k0_off306 v59_0 v62_0 k0_t6 k0_t8) a + S1x1x16.size a ≤ S2x32x512.size a) ∧
  (∀ (k0_h3 : k0_cond3 i v17 k0_t1 = 1#1), ∀ (k0_h12 : k0_cond12 arg16 v181 = 1#1), ∀ a, (k0_off307 i k0_t1 v181) a + S1x16.size a ≤ S128x512.size a) ∧
  (∀ (k0_h3 : k0_cond3 i v17 k0_t1 = 1#1), ∀ (k0_h12 : k0_cond12 arg16 v181 = 1#1), ∀ a, (k0_off308 v59_0 v62_0 k0_t6 k0_t8) a + S1x1x16.size a ≤ S2x32x512.size a) ∧
  (∀ (k0_h3 : k0_cond3 i v17 k0_t1 = 1#1), ∀ (k0_h12 : k0_cond12 arg16 v181 = 1#1), ∀ a, (k0_off309 i k0_t1 v181) a + S1x16.size a ≤ S128x512.size a) ∧
  (∀ (k0_h3 : k0_cond3 i v17 k0_t1 = 1#1), ∀ (k0_h12 : k0_cond12 arg16 v181 = 1#1), ∀ a, (k0_off310 v59_0 v62_0 k0_t6 k0_t8) a + S1x1x16.size a ≤ S2x32x512.size a) ∧
  (∀ (k0_h3 : k0_cond3 i v17 k0_t1 = 1#1), ∀ (k0_h12 : k0_cond12 arg16 v181 = 1#1), ∀ a, (k0_off311 i k0_t1 v181) a + S1x16.size a ≤ S128x512.size a) ∧
  (∀ (k0_h3 : k0_cond3 i v17 k0_t1 = 1#1), ∀ (k0_h12 : k0_cond12 arg16 v181 = 1#1), ∀ a, (k0_off312 v59_0 v62_0 k0_t6 k0_t8) a + S1x1x16.size a ≤ S2x32x512.size a) ∧
  (∀ (k0_h3 : k0_cond3 i v17 k0_t1 = 1#1), ∀ (k0_h12 : k0_cond12 arg16 v181 = 1#1), ∀ a, (k0_off313 i k0_t1 v181) a + S1x16.size a ≤ S128x512.size a) ∧
  (∀ (k0_h3 : k0_cond3 i v17 k0_t1 = 1#1), ∀ (k0_h12 : k0_cond12 arg16 v181 = 1#1), ∀ a, (k0_off314 v59_0 v62_0 k0_t6 k0_t8) a + S1x1x16.size a ≤ S2x32x512.size a) ∧
  (∀ (k0_h3 : k0_cond3 i v17 k0_t1 = 1#1), ∀ (k0_h12 : k0_cond12 arg16 v181 = 1#1), ∀ a, (k0_off315 i k0_t1 v181) a + S1x16.size a ≤ S128x512.size a) ∧
  (∀ (k0_h3 : k0_cond3 i v17 k0_t1 = 1#1), ∀ (k0_h12 : k0_cond12 arg16 v181 = 1#1), ∀ a, (k0_off316 v59_0 v62_0 k0_t6 k0_t8) a + S1x1x16.size a ≤ S2x32x512.size a) ∧
  (∀ (k0_h3 : k0_cond3 i v17 k0_t1 = 1#1), ∀ (k0_h12 : k0_cond12 arg16 v181 = 1#1), ∀ a, (k0_off317 i k0_t1 v181) a + S1x16.size a ≤ S128x512.size a) ∧
  (∀ (k0_h3 : k0_cond3 i v17 k0_t1 = 1#1), ∀ (k0_h12 : k0_cond12 arg16 v181 = 1#1), ∀ a, (k0_off318 v59_0 v62_0 k0_t6 k0_t8) a + S1x1x16.size a ≤ S2x32x512.size a) ∧
  (∀ (k0_h3 : k0_cond3 i v17 k0_t1 = 1#1), ∀ (k0_h12 : k0_cond12 arg16 v181 = 1#1), ∀ a, (k0_off319 i k0_t1 v181) a + S1x16.size a ≤ S128x512.size a) ∧
  (∀ (k0_h3 : k0_cond3 i v17 k0_t1 = 1#1), ∀ (k0_h12 : k0_cond12 arg16 v181 = 1#1), ∀ a, (k0_off320 v59_0 v62_0 k0_t6 k0_t8) a + S1x1x16.size a ≤ S2x32x512.size a) ∧
  (∀ (k0_h3 : k0_cond3 i v17 k0_t1 = 1#1), ∀ (k0_h12 : k0_cond12 arg16 v181 = 1#1), ∀ a, (k0_off321 i k0_t1 v181) a + S1x16.size a ≤ S128x512.size a) ∧
  (∀ (k0_h3 : k0_cond3 i v17 k0_t1 = 1#1), ∀ (k0_h12 : k0_cond12 arg16 v181 = 1#1), ∀ a, (k0_off322 v59_0 v62_0 k0_t6 k0_t8) a + S1x1x16.size a ≤ S2x32x512.size a) ∧
  (∀ (k0_h3 : k0_cond3 i v17 k0_t1 = 1#1), ∀ (k0_h12 : k0_cond12 arg16 v181 = 1#1), ∀ a, (k0_off323 i k0_t1 v181) a + S1x16.size a ≤ S128x512.size a) ∧
  (∀ (k0_h3 : k0_cond3 i v17 k0_t1 = 1#1), ∀ (k0_h12 : k0_cond12 arg16 v181 = 1#1), ∀ a, (k0_off324 v59_0 v62_0 k0_t6 k0_t8) a + S1x1x16.size a ≤ S2x32x512.size a) ∧
  (∀ (k0_h3 : k0_cond3 i v17 k0_t1 = 1#1), ∀ (k0_h12 : k0_cond12 arg16 v181 = 1#1), ∀ a, (k0_off325 i k0_t1 v181) a + S1x16.size a ≤ S128x512.size a) ∧
  (∀ (k0_h3 : k0_cond3 i v17 k0_t1 = 1#1), ∀ (k0_h12 : k0_cond12 arg16 v181 = 1#1), ∀ a, (k0_off326 v59_0 v62_0 k0_t6 k0_t8) a + S1x1x16.size a ≤ S2x32x512.size a) ∧
  (∀ (k0_h3 : k0_cond3 i v17 k0_t1 = 1#1), ∀ (k0_h12 : k0_cond12 arg16 v181 = 1#1), ∀ a, (k0_off327 i k0_t1 v181) a + S1x16.size a ≤ S128x512.size a) ∧
  (∀ (k0_h3 : k0_cond3 i v17 k0_t1 = 1#1), ∀ (k0_h12 : k0_cond12 arg16 v181 = 1#1), ∀ a, (k0_off328 v59_0 v62_0 k0_t6 k0_t8) a + S1x1x16.size a ≤ S2x32x512.size a) ∧
  (∀ (k0_h3 : k0_cond3 i v17 k0_t1 = 1#1), ∀ (k0_h12 : k0_cond12 arg16 v181 = 1#1), ∀ a, (k0_off329 i k0_t1 v181) a + S1x16.size a ≤ S128x512.size a) ∧
  (∀ (k0_h3 : k0_cond3 i v17 k0_t1 = 1#1), ∀ (k0_h12 : k0_cond12 arg16 v181 = 1#1), ∀ a, (k0_off330 v59_0 v62_0 k0_t6 k0_t8) a + S1x1x16.size a ≤ S2x32x512.size a) ∧
  (∀ (k0_h3 : k0_cond3 i v17 k0_t1 = 1#1), ∀ (k0_h12 : k0_cond12 arg16 v181 = 1#1), ∀ a, (k0_off331 i k0_t1 v181) a + S1x16.size a ≤ S128x512.size a) ∧
  (∀ (k0_h3 : k0_cond3 i v17 k0_t1 = 1#1), ∀ (k0_h12 : k0_cond12 arg16 v181 = 1#1), ∀ a, (k0_off332 v59_0 v62_0 k0_t6 k0_t8) a + S1x1x16.size a ≤ S2x32x512.size a) ∧
  (∀ (k0_h3 : k0_cond3 i v17 k0_t1 = 1#1), ∀ (k0_h12 : k0_cond12 arg16 v181 = 1#1), ∀ a, (k0_off333 i k0_t1 v181) a + S1x16.size a ≤ S128x512.size a)
def k0_chk5_4 (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) : Prop :=
  (∀ (k0_h3 : k0_cond3 i v17 k0_t1 = 1#1), ∀ (k0_h12 : k0_cond12 arg16 v181 = 1#1), ∀ a, (k0_off334 v59_0 v62_0 k0_t6 k0_t8) a + S1x1x16.size a ≤ S2x32x512.size a) ∧
  (∀ (k0_h3 : k0_cond3 i v17 k0_t1 = 1#1), ∀ (k0_h12 : k0_cond12 arg16 v181 = 1#1), ∀ a, (k0_off335 i k0_t1 v181) a + S1x16.size a ≤ S128x16.size a)
def k0_chk5 (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) : Prop :=
  k0_chk5_0 i v17 k0_t1 v59_0 v62_0 k0_t6 k0_t8 arg16 v181 ∧
  k0_chk5_1 i v17 k0_t1 v59_0 v62_0 k0_t6 k0_t8 arg16 v181 ∧
  k0_chk5_2 i v17 k0_t1 v59_0 v62_0 k0_t6 k0_t8 arg16 v181 ∧
  k0_chk5_3 i v17 k0_t1 v59_0 v62_0 k0_t6 k0_t8 arg16 v181 ∧
  k0_chk5_4 i v17 k0_t1 v59_0 v62_0 k0_t6 k0_t8 arg16 v181
theorem k0_off206_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off206 v59_0 v62_0 k0_t6 k0_t8) a + S1x1x16.size a ≤ S2x32x512.size a := fun i v17 k0_t1 v59_0 v62_0 k0_t6 k0_t8 arg16 v181 k0_hw5 k0_h3 k0_h11 => k0_hw5.1.1 k0_h3 k0_h11
theorem k0_off207_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off207 i k0_t1 v181) a + S1x16.size a ≤ S128x512.size a := fun i v17 k0_t1 v59_0 v62_0 k0_t6 k0_t8 arg16 v181 k0_hw5 k0_h3 k0_h11 => k0_hw5.1.2.1 k0_h3 k0_h11
theorem k0_off208_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off208 v59_0 v62_0 k0_t6 k0_t8) a + S1x1x16.size a ≤ S2x32x512.size a := fun i v17 k0_t1 v59_0 v62_0 k0_t6 k0_t8 arg16 v181 k0_hw5 k0_h3 k0_h11 => k0_hw5.1.2.2.1 k0_h3 k0_h11
theorem k0_off209_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off209 i k0_t1 v181) a + S1x16.size a ≤ S128x512.size a := fun i v17 k0_t1 v59_0 v62_0 k0_t6 k0_t8 arg16 v181 k0_hw5 k0_h3 k0_h11 => k0_hw5.1.2.2.2.1 k0_h3 k0_h11
theorem k0_off210_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off210 v59_0 v62_0 k0_t6 k0_t8) a + S1x1x16.size a ≤ S2x32x512.size a := fun i v17 k0_t1 v59_0 v62_0 k0_t6 k0_t8 arg16 v181 k0_hw5 k0_h3 k0_h11 => k0_hw5.1.2.2.2.2.1 k0_h3 k0_h11
theorem k0_off211_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off211 i k0_t1 v181) a + S1x16.size a ≤ S128x512.size a := fun i v17 k0_t1 v59_0 v62_0 k0_t6 k0_t8 arg16 v181 k0_hw5 k0_h3 k0_h11 => k0_hw5.1.2.2.2.2.2.1 k0_h3 k0_h11
theorem k0_off212_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off212 v59_0 v62_0 k0_t6 k0_t8) a + S1x1x16.size a ≤ S2x32x512.size a := fun i v17 k0_t1 v59_0 v62_0 k0_t6 k0_t8 arg16 v181 k0_hw5 k0_h3 k0_h11 => k0_hw5.1.2.2.2.2.2.2.1 k0_h3 k0_h11
theorem k0_off213_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off213 i k0_t1 v181) a + S1x16.size a ≤ S128x512.size a := fun i v17 k0_t1 v59_0 v62_0 k0_t6 k0_t8 arg16 v181 k0_hw5 k0_h3 k0_h11 => k0_hw5.1.2.2.2.2.2.2.2.1 k0_h3 k0_h11
theorem k0_off214_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off214 v59_0 v62_0 k0_t6 k0_t8) a + S1x1x16.size a ≤ S2x32x512.size a := fun i v17 k0_t1 v59_0 v62_0 k0_t6 k0_t8 arg16 v181 k0_hw5 k0_h3 k0_h11 => k0_hw5.1.2.2.2.2.2.2.2.2.1 k0_h3 k0_h11
theorem k0_off215_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off215 i k0_t1 v181) a + S1x16.size a ≤ S128x512.size a := fun i v17 k0_t1 v59_0 v62_0 k0_t6 k0_t8 arg16 v181 k0_hw5 k0_h3 k0_h11 => k0_hw5.1.2.2.2.2.2.2.2.2.2.1 k0_h3 k0_h11
theorem k0_off216_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off216 v59_0 v62_0 k0_t6 k0_t8) a + S1x1x16.size a ≤ S2x32x512.size a := fun i v17 k0_t1 v59_0 v62_0 k0_t6 k0_t8 arg16 v181 k0_hw5 k0_h3 k0_h11 => k0_hw5.1.2.2.2.2.2.2.2.2.2.2.1 k0_h3 k0_h11
theorem k0_off217_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off217 i k0_t1 v181) a + S1x16.size a ≤ S128x512.size a := fun i v17 k0_t1 v59_0 v62_0 k0_t6 k0_t8 arg16 v181 k0_hw5 k0_h3 k0_h11 => k0_hw5.1.2.2.2.2.2.2.2.2.2.2.2.1 k0_h3 k0_h11
theorem k0_off218_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off218 v59_0 v62_0 k0_t6 k0_t8) a + S1x1x16.size a ≤ S2x32x512.size a := fun i v17 k0_t1 v59_0 v62_0 k0_t6 k0_t8 arg16 v181 k0_hw5 k0_h3 k0_h11 => k0_hw5.1.2.2.2.2.2.2.2.2.2.2.2.2.1 k0_h3 k0_h11
theorem k0_off219_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off219 i k0_t1 v181) a + S1x16.size a ≤ S128x512.size a := fun i v17 k0_t1 v59_0 v62_0 k0_t6 k0_t8 arg16 v181 k0_hw5 k0_h3 k0_h11 => k0_hw5.1.2.2.2.2.2.2.2.2.2.2.2.2.2.1 k0_h3 k0_h11
theorem k0_off220_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off220 v59_0 v62_0 k0_t6 k0_t8) a + S1x1x16.size a ≤ S2x32x512.size a := fun i v17 k0_t1 v59_0 v62_0 k0_t6 k0_t8 arg16 v181 k0_hw5 k0_h3 k0_h11 => k0_hw5.1.2.2.2.2.2.2.2.2.2.2.2.2.2.2.1 k0_h3 k0_h11
theorem k0_off221_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off221 i k0_t1 v181) a + S1x16.size a ≤ S128x512.size a := fun i v17 k0_t1 v59_0 v62_0 k0_t6 k0_t8 arg16 v181 k0_hw5 k0_h3 k0_h11 => k0_hw5.1.2.2.2.2.2.2.2.2.2.2.2.2.2.2.2.1 k0_h3 k0_h11
theorem k0_off222_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off222 v59_0 v62_0 k0_t6 k0_t8) a + S1x1x16.size a ≤ S2x32x512.size a := fun i v17 k0_t1 v59_0 v62_0 k0_t6 k0_t8 arg16 v181 k0_hw5 k0_h3 k0_h11 => k0_hw5.1.2.2.2.2.2.2.2.2.2.2.2.2.2.2.2.2.1 k0_h3 k0_h11
theorem k0_off223_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off223 i k0_t1 v181) a + S1x16.size a ≤ S128x512.size a := fun i v17 k0_t1 v59_0 v62_0 k0_t6 k0_t8 arg16 v181 k0_hw5 k0_h3 k0_h11 => k0_hw5.1.2.2.2.2.2.2.2.2.2.2.2.2.2.2.2.2.2.1 k0_h3 k0_h11
theorem k0_off224_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off224 v59_0 v62_0 k0_t6 k0_t8) a + S1x1x16.size a ≤ S2x32x512.size a := fun i v17 k0_t1 v59_0 v62_0 k0_t6 k0_t8 arg16 v181 k0_hw5 k0_h3 k0_h11 => k0_hw5.1.2.2.2.2.2.2.2.2.2.2.2.2.2.2.2.2.2.2.1 k0_h3 k0_h11
theorem k0_off225_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off225 i k0_t1 v181) a + S1x16.size a ≤ S128x512.size a := fun i v17 k0_t1 v59_0 v62_0 k0_t6 k0_t8 arg16 v181 k0_hw5 k0_h3 k0_h11 => k0_hw5.1.2.2.2.2.2.2.2.2.2.2.2.2.2.2.2.2.2.2.2.1 k0_h3 k0_h11
theorem k0_off226_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off226 v59_0 v62_0 k0_t6 k0_t8) a + S1x1x16.size a ≤ S2x32x512.size a := fun i v17 k0_t1 v59_0 v62_0 k0_t6 k0_t8 arg16 v181 k0_hw5 k0_h3 k0_h11 => k0_hw5.1.2.2.2.2.2.2.2.2.2.2.2.2.2.2.2.2.2.2.2.2.1 k0_h3 k0_h11
theorem k0_off227_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off227 i k0_t1 v181) a + S1x16.size a ≤ S128x512.size a := fun i v17 k0_t1 v59_0 v62_0 k0_t6 k0_t8 arg16 v181 k0_hw5 k0_h3 k0_h11 => k0_hw5.1.2.2.2.2.2.2.2.2.2.2.2.2.2.2.2.2.2.2.2.2.2.1 k0_h3 k0_h11
theorem k0_off228_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off228 v59_0 v62_0 k0_t6 k0_t8) a + S1x1x16.size a ≤ S2x32x512.size a := fun i v17 k0_t1 v59_0 v62_0 k0_t6 k0_t8 arg16 v181 k0_hw5 k0_h3 k0_h11 => k0_hw5.1.2.2.2.2.2.2.2.2.2.2.2.2.2.2.2.2.2.2.2.2.2.2.1 k0_h3 k0_h11
theorem k0_off229_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off229 i k0_t1 v181) a + S1x16.size a ≤ S128x512.size a := fun i v17 k0_t1 v59_0 v62_0 k0_t6 k0_t8 arg16 v181 k0_hw5 k0_h3 k0_h11 => k0_hw5.1.2.2.2.2.2.2.2.2.2.2.2.2.2.2.2.2.2.2.2.2.2.2.2.1 k0_h3 k0_h11
theorem k0_off230_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off230 v59_0 v62_0 k0_t6 k0_t8) a + S1x1x16.size a ≤ S2x32x512.size a := fun i v17 k0_t1 v59_0 v62_0 k0_t6 k0_t8 arg16 v181 k0_hw5 k0_h3 k0_h11 => k0_hw5.1.2.2.2.2.2.2.2.2.2.2.2.2.2.2.2.2.2.2.2.2.2.2.2.2.1 k0_h3 k0_h11
theorem k0_off231_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off231 i k0_t1 v181) a + S1x16.size a ≤ S128x512.size a := fun i v17 k0_t1 v59_0 v62_0 k0_t6 k0_t8 arg16 v181 k0_hw5 k0_h3 k0_h11 => k0_hw5.1.2.2.2.2.2.2.2.2.2.2.2.2.2.2.2.2.2.2.2.2.2.2.2.2.2.1 k0_h3 k0_h11
theorem k0_off232_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off232 v59_0 v62_0 k0_t6 k0_t8) a + S1x1x16.size a ≤ S2x32x512.size a := fun i v17 k0_t1 v59_0 v62_0 k0_t6 k0_t8 arg16 v181 k0_hw5 k0_h3 k0_h11 => k0_hw5.1.2.2.2.2.2.2.2.2.2.2.2.2.2.2.2.2.2.2.2.2.2.2.2.2.2.2.1 k0_h3 k0_h11
theorem k0_off233_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off233 i k0_t1 v181) a + S1x16.size a ≤ S128x512.size a := fun i v17 k0_t1 v59_0 v62_0 k0_t6 k0_t8 arg16 v181 k0_hw5 k0_h3 k0_h11 => k0_hw5.1.2.2.2.2.2.2.2.2.2.2.2.2.2.2.2.2.2.2.2.2.2.2.2.2.2.2.2.1 k0_h3 k0_h11
theorem k0_off234_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off234 v59_0 v62_0 k0_t6 k0_t8) a + S1x1x16.size a ≤ S2x32x512.size a := fun i v17 k0_t1 v59_0 v62_0 k0_t6 k0_t8 arg16 v181 k0_hw5 k0_h3 k0_h11 => k0_hw5.1.2.2.2.2.2.2.2.2.2.2.2.2.2.2.2.2.2.2.2.2.2.2.2.2.2.2.2.2.1 k0_h3 k0_h11
theorem k0_off235_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off235 i k0_t1 v181) a + S1x16.size a ≤ S128x512.size a := fun i v17 k0_t1 v59_0 v62_0 k0_t6 k0_t8 arg16 v181 k0_hw5 k0_h3 k0_h11 => k0_hw5.1.2.2.2.2.2.2.2.2.2.2.2.2.2.2.2.2.2.2.2.2.2.2.2.2.2.2.2.2.2.1 k0_h3 k0_h11
theorem k0_off236_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off236 v59_0 v62_0 k0_t6 k0_t8) a + S1x1x16.size a ≤ S2x32x512.size a := fun i v17 k0_t1 v59_0 v62_0 k0_t6 k0_t8 arg16 v181 k0_hw5 k0_h3 k0_h11 => k0_hw5.1.2.2.2.2.2.2.2.2.2.2.2.2.2.2.2.2.2.2.2.2.2.2.2.2.2.2.2.2.2.2.1 k0_h3 k0_h11
theorem k0_off237_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off237 i k0_t1 v181) a + S1x16.size a ≤ S128x512.size a := fun i v17 k0_t1 v59_0 v62_0 k0_t6 k0_t8 arg16 v181 k0_hw5 k0_h3 k0_h11 => k0_hw5.1.2.2.2.2.2.2.2.2.2.2.2.2.2.2.2.2.2.2.2.2.2.2.2.2.2.2.2.2.2.2.2 k0_h3 k0_h11
theorem k0_off238_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off238 v59_0 v62_0 k0_t6 k0_t8) a + S1x1x16.size a ≤ S2x32x512.size a := fun i v17 k0_t1 v59_0 v62_0 k0_t6 k0_t8 arg16 v181 k0_hw5 k0_h3 k0_h11 => k0_hw5.2.1.1 k0_h3 k0_h11
theorem k0_off239_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off239 i k0_t1 v181) a + S1x16.size a ≤ S128x512.size a := fun i v17 k0_t1 v59_0 v62_0 k0_t6 k0_t8 arg16 v181 k0_hw5 k0_h3 k0_h11 => k0_hw5.2.1.2.1 k0_h3 k0_h11
theorem k0_off240_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off240 v59_0 v62_0 k0_t6 k0_t8) a + S1x1x16.size a ≤ S2x32x512.size a := fun i v17 k0_t1 v59_0 v62_0 k0_t6 k0_t8 arg16 v181 k0_hw5 k0_h3 k0_h11 => k0_hw5.2.1.2.2.1 k0_h3 k0_h11
theorem k0_off241_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off241 i k0_t1 v181) a + S1x16.size a ≤ S128x512.size a := fun i v17 k0_t1 v59_0 v62_0 k0_t6 k0_t8 arg16 v181 k0_hw5 k0_h3 k0_h11 => k0_hw5.2.1.2.2.2.1 k0_h3 k0_h11
theorem k0_off242_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off242 v59_0 v62_0 k0_t6 k0_t8) a + S1x1x16.size a ≤ S2x32x512.size a := fun i v17 k0_t1 v59_0 v62_0 k0_t6 k0_t8 arg16 v181 k0_hw5 k0_h3 k0_h11 => k0_hw5.2.1.2.2.2.2.1 k0_h3 k0_h11
theorem k0_off243_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off243 i k0_t1 v181) a + S1x16.size a ≤ S128x512.size a := fun i v17 k0_t1 v59_0 v62_0 k0_t6 k0_t8 arg16 v181 k0_hw5 k0_h3 k0_h11 => k0_hw5.2.1.2.2.2.2.2.1 k0_h3 k0_h11
theorem k0_off244_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off244 v59_0 v62_0 k0_t6 k0_t8) a + S1x1x16.size a ≤ S2x32x512.size a := fun i v17 k0_t1 v59_0 v62_0 k0_t6 k0_t8 arg16 v181 k0_hw5 k0_h3 k0_h11 => k0_hw5.2.1.2.2.2.2.2.2.1 k0_h3 k0_h11
theorem k0_off245_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off245 i k0_t1 v181) a + S1x16.size a ≤ S128x512.size a := fun i v17 k0_t1 v59_0 v62_0 k0_t6 k0_t8 arg16 v181 k0_hw5 k0_h3 k0_h11 => k0_hw5.2.1.2.2.2.2.2.2.2.1 k0_h3 k0_h11
theorem k0_off246_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off246 v59_0 v62_0 k0_t6 k0_t8) a + S1x1x16.size a ≤ S2x32x512.size a := fun i v17 k0_t1 v59_0 v62_0 k0_t6 k0_t8 arg16 v181 k0_hw5 k0_h3 k0_h11 => k0_hw5.2.1.2.2.2.2.2.2.2.2.1 k0_h3 k0_h11
theorem k0_off247_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off247 i k0_t1 v181) a + S1x16.size a ≤ S128x512.size a := fun i v17 k0_t1 v59_0 v62_0 k0_t6 k0_t8 arg16 v181 k0_hw5 k0_h3 k0_h11 => k0_hw5.2.1.2.2.2.2.2.2.2.2.2.1 k0_h3 k0_h11
theorem k0_off248_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off248 v59_0 v62_0 k0_t6 k0_t8) a + S1x1x16.size a ≤ S2x32x512.size a := fun i v17 k0_t1 v59_0 v62_0 k0_t6 k0_t8 arg16 v181 k0_hw5 k0_h3 k0_h11 => k0_hw5.2.1.2.2.2.2.2.2.2.2.2.2.1 k0_h3 k0_h11
theorem k0_off249_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off249 i k0_t1 v181) a + S1x16.size a ≤ S128x512.size a := fun i v17 k0_t1 v59_0 v62_0 k0_t6 k0_t8 arg16 v181 k0_hw5 k0_h3 k0_h11 => k0_hw5.2.1.2.2.2.2.2.2.2.2.2.2.2.1 k0_h3 k0_h11
theorem k0_off250_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off250 v59_0 v62_0 k0_t6 k0_t8) a + S1x1x16.size a ≤ S2x32x512.size a := fun i v17 k0_t1 v59_0 v62_0 k0_t6 k0_t8 arg16 v181 k0_hw5 k0_h3 k0_h11 => k0_hw5.2.1.2.2.2.2.2.2.2.2.2.2.2.2.1 k0_h3 k0_h11
theorem k0_off251_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off251 i k0_t1 v181) a + S1x16.size a ≤ S128x512.size a := fun i v17 k0_t1 v59_0 v62_0 k0_t6 k0_t8 arg16 v181 k0_hw5 k0_h3 k0_h11 => k0_hw5.2.1.2.2.2.2.2.2.2.2.2.2.2.2.2.1 k0_h3 k0_h11
theorem k0_off252_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off252 v59_0 v62_0 k0_t6 k0_t8) a + S1x1x16.size a ≤ S2x32x512.size a := fun i v17 k0_t1 v59_0 v62_0 k0_t6 k0_t8 arg16 v181 k0_hw5 k0_h3 k0_h11 => k0_hw5.2.1.2.2.2.2.2.2.2.2.2.2.2.2.2.2.1 k0_h3 k0_h11
theorem k0_off253_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off253 i k0_t1 v181) a + S1x16.size a ≤ S128x512.size a := fun i v17 k0_t1 v59_0 v62_0 k0_t6 k0_t8 arg16 v181 k0_hw5 k0_h3 k0_h11 => k0_hw5.2.1.2.2.2.2.2.2.2.2.2.2.2.2.2.2.2.1 k0_h3 k0_h11
theorem k0_off254_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off254 v59_0 v62_0 k0_t6 k0_t8) a + S1x1x16.size a ≤ S2x32x512.size a := fun i v17 k0_t1 v59_0 v62_0 k0_t6 k0_t8 arg16 v181 k0_hw5 k0_h3 k0_h11 => k0_hw5.2.1.2.2.2.2.2.2.2.2.2.2.2.2.2.2.2.2.1 k0_h3 k0_h11
theorem k0_off255_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off255 i k0_t1 v181) a + S1x16.size a ≤ S128x512.size a := fun i v17 k0_t1 v59_0 v62_0 k0_t6 k0_t8 arg16 v181 k0_hw5 k0_h3 k0_h11 => k0_hw5.2.1.2.2.2.2.2.2.2.2.2.2.2.2.2.2.2.2.2.1 k0_h3 k0_h11
theorem k0_off256_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off256 v59_0 v62_0 k0_t6 k0_t8) a + S1x1x16.size a ≤ S2x32x512.size a := fun i v17 k0_t1 v59_0 v62_0 k0_t6 k0_t8 arg16 v181 k0_hw5 k0_h3 k0_h11 => k0_hw5.2.1.2.2.2.2.2.2.2.2.2.2.2.2.2.2.2.2.2.2.1 k0_h3 k0_h11
theorem k0_off257_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off257 i k0_t1 v181) a + S1x16.size a ≤ S128x512.size a := fun i v17 k0_t1 v59_0 v62_0 k0_t6 k0_t8 arg16 v181 k0_hw5 k0_h3 k0_h11 => k0_hw5.2.1.2.2.2.2.2.2.2.2.2.2.2.2.2.2.2.2.2.2.2.1 k0_h3 k0_h11
theorem k0_off258_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off258 v59_0 v62_0 k0_t6 k0_t8) a + S1x1x16.size a ≤ S2x32x512.size a := fun i v17 k0_t1 v59_0 v62_0 k0_t6 k0_t8 arg16 v181 k0_hw5 k0_h3 k0_h11 => k0_hw5.2.1.2.2.2.2.2.2.2.2.2.2.2.2.2.2.2.2.2.2.2.2.1 k0_h3 k0_h11
theorem k0_off259_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off259 i k0_t1 v181) a + S1x16.size a ≤ S128x512.size a := fun i v17 k0_t1 v59_0 v62_0 k0_t6 k0_t8 arg16 v181 k0_hw5 k0_h3 k0_h11 => k0_hw5.2.1.2.2.2.2.2.2.2.2.2.2.2.2.2.2.2.2.2.2.2.2.2.1 k0_h3 k0_h11
theorem k0_off260_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off260 v59_0 v62_0 k0_t6 k0_t8) a + S1x1x16.size a ≤ S2x32x512.size a := fun i v17 k0_t1 v59_0 v62_0 k0_t6 k0_t8 arg16 v181 k0_hw5 k0_h3 k0_h11 => k0_hw5.2.1.2.2.2.2.2.2.2.2.2.2.2.2.2.2.2.2.2.2.2.2.2.2.1 k0_h3 k0_h11
theorem k0_off261_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off261 i k0_t1 v181) a + S1x16.size a ≤ S128x512.size a := fun i v17 k0_t1 v59_0 v62_0 k0_t6 k0_t8 arg16 v181 k0_hw5 k0_h3 k0_h11 => k0_hw5.2.1.2.2.2.2.2.2.2.2.2.2.2.2.2.2.2.2.2.2.2.2.2.2.2.1 k0_h3 k0_h11
theorem k0_off262_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off262 v59_0 v62_0 k0_t6 k0_t8) a + S1x1x16.size a ≤ S2x32x512.size a := fun i v17 k0_t1 v59_0 v62_0 k0_t6 k0_t8 arg16 v181 k0_hw5 k0_h3 k0_h11 => k0_hw5.2.1.2.2.2.2.2.2.2.2.2.2.2.2.2.2.2.2.2.2.2.2.2.2.2.2.1 k0_h3 k0_h11
theorem k0_off263_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off263 i k0_t1 v181) a + S1x16.size a ≤ S128x512.size a := fun i v17 k0_t1 v59_0 v62_0 k0_t6 k0_t8 arg16 v181 k0_hw5 k0_h3 k0_h11 => k0_hw5.2.1.2.2.2.2.2.2.2.2.2.2.2.2.2.2.2.2.2.2.2.2.2.2.2.2.2.1 k0_h3 k0_h11
theorem k0_off264_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off264 v59_0 v62_0 k0_t6 k0_t8) a + S1x1x16.size a ≤ S2x32x512.size a := fun i v17 k0_t1 v59_0 v62_0 k0_t6 k0_t8 arg16 v181 k0_hw5 k0_h3 k0_h11 => k0_hw5.2.1.2.2.2.2.2.2.2.2.2.2.2.2.2.2.2.2.2.2.2.2.2.2.2.2.2.2.1 k0_h3 k0_h11
theorem k0_off265_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off265 i k0_t1 v181) a + S1x16.size a ≤ S128x512.size a := fun i v17 k0_t1 v59_0 v62_0 k0_t6 k0_t8 arg16 v181 k0_hw5 k0_h3 k0_h11 => k0_hw5.2.1.2.2.2.2.2.2.2.2.2.2.2.2.2.2.2.2.2.2.2.2.2.2.2.2.2.2.2.1 k0_h3 k0_h11
theorem k0_off266_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off266 v59_0 v62_0 k0_t6 k0_t8) a + S1x1x16.size a ≤ S2x32x512.size a := fun i v17 k0_t1 v59_0 v62_0 k0_t6 k0_t8 arg16 v181 k0_hw5 k0_h3 k0_h11 => k0_hw5.2.1.2.2.2.2.2.2.2.2.2.2.2.2.2.2.2.2.2.2.2.2.2.2.2.2.2.2.2.2.1 k0_h3 k0_h11
theorem k0_off267_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off267 i k0_t1 v181) a + S1x16.size a ≤ S128x512.size a := fun i v17 k0_t1 v59_0 v62_0 k0_t6 k0_t8 arg16 v181 k0_hw5 k0_h3 k0_h11 => k0_hw5.2.1.2.2.2.2.2.2.2.2.2.2.2.2.2.2.2.2.2.2.2.2.2.2.2.2.2.2.2.2.2.1 k0_h3 k0_h11
theorem k0_off268_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off268 v59_0 v62_0 k0_t6 k0_t8) a + S1x1x16.size a ≤ S2x32x512.size a := fun i v17 k0_t1 v59_0 v62_0 k0_t6 k0_t8 arg16 v181 k0_hw5 k0_h3 k0_h11 => k0_hw5.2.1.2.2.2.2.2.2.2.2.2.2.2.2.2.2.2.2.2.2.2.2.2.2.2.2.2.2.2.2.2.2.1 k0_h3 k0_h11
theorem k0_off269_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off269 i k0_t1 v181) a + S1x16.size a ≤ S128x512.size a := fun i v17 k0_t1 v59_0 v62_0 k0_t6 k0_t8 arg16 v181 k0_hw5 k0_h3 k0_h11 => k0_hw5.2.1.2.2.2.2.2.2.2.2.2.2.2.2.2.2.2.2.2.2.2.2.2.2.2.2.2.2.2.2.2.2.2 k0_h3 k0_h11
theorem k0_off270_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h11 : k0_cond11 arg16 v181 = 1#1), ∀ a, (k0_off270 i k0_t1 v181) a + S1x16.size a ≤ S128x16.size a := fun i v17 k0_t1 v59_0 v62_0 k0_t6 k0_t8 arg16 v181 k0_hw5 k0_h3 k0_h11 => k0_hw5.2.2.1.1 k0_h3 k0_h11
theorem k0_off271_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off271 i k0_t1 v181) a + S1x16.size a ≤ S128x512.size a := fun i v17 k0_t1 v59_0 v62_0 k0_t6 k0_t8 arg16 v181 k0_hw5 k0_h3 k0_h12 => k0_hw5.2.2.1.2.1 k0_h3 k0_h12
theorem k0_off272_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off272 v59_0 v62_0 k0_t6 k0_t8) a + S1x1x16.size a ≤ S2x32x512.size a := fun i v17 k0_t1 v59_0 v62_0 k0_t6 k0_t8 arg16 v181 k0_hw5 k0_h3 k0_h12 => k0_hw5.2.2.1.2.2.1 k0_h3 k0_h12
theorem k0_off273_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off273 i k0_t1 v181) a + S1x16.size a ≤ S128x512.size a := fun i v17 k0_t1 v59_0 v62_0 k0_t6 k0_t8 arg16 v181 k0_hw5 k0_h3 k0_h12 => k0_hw5.2.2.1.2.2.2.1 k0_h3 k0_h12
theorem k0_off274_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off274 v59_0 v62_0 k0_t6 k0_t8) a + S1x1x16.size a ≤ S2x32x512.size a := fun i v17 k0_t1 v59_0 v62_0 k0_t6 k0_t8 arg16 v181 k0_hw5 k0_h3 k0_h12 => k0_hw5.2.2.1.2.2.2.2.1 k0_h3 k0_h12
theorem k0_off275_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off275 i k0_t1 v181) a + S1x16.size a ≤ S128x512.size a := fun i v17 k0_t1 v59_0 v62_0 k0_t6 k0_t8 arg16 v181 k0_hw5 k0_h3 k0_h12 => k0_hw5.2.2.1.2.2.2.2.2.1 k0_h3 k0_h12
theorem k0_off276_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off276 v59_0 v62_0 k0_t6 k0_t8) a + S1x1x16.size a ≤ S2x32x512.size a := fun i v17 k0_t1 v59_0 v62_0 k0_t6 k0_t8 arg16 v181 k0_hw5 k0_h3 k0_h12 => k0_hw5.2.2.1.2.2.2.2.2.2.1 k0_h3 k0_h12
theorem k0_off277_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off277 i k0_t1 v181) a + S1x16.size a ≤ S128x512.size a := fun i v17 k0_t1 v59_0 v62_0 k0_t6 k0_t8 arg16 v181 k0_hw5 k0_h3 k0_h12 => k0_hw5.2.2.1.2.2.2.2.2.2.2.1 k0_h3 k0_h12
theorem k0_off278_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off278 v59_0 v62_0 k0_t6 k0_t8) a + S1x1x16.size a ≤ S2x32x512.size a := fun i v17 k0_t1 v59_0 v62_0 k0_t6 k0_t8 arg16 v181 k0_hw5 k0_h3 k0_h12 => k0_hw5.2.2.1.2.2.2.2.2.2.2.2.1 k0_h3 k0_h12
theorem k0_off279_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off279 i k0_t1 v181) a + S1x16.size a ≤ S128x512.size a := fun i v17 k0_t1 v59_0 v62_0 k0_t6 k0_t8 arg16 v181 k0_hw5 k0_h3 k0_h12 => k0_hw5.2.2.1.2.2.2.2.2.2.2.2.2.1 k0_h3 k0_h12
theorem k0_off280_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off280 v59_0 v62_0 k0_t6 k0_t8) a + S1x1x16.size a ≤ S2x32x512.size a := fun i v17 k0_t1 v59_0 v62_0 k0_t6 k0_t8 arg16 v181 k0_hw5 k0_h3 k0_h12 => k0_hw5.2.2.1.2.2.2.2.2.2.2.2.2.2.1 k0_h3 k0_h12
theorem k0_off281_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off281 i k0_t1 v181) a + S1x16.size a ≤ S128x512.size a := fun i v17 k0_t1 v59_0 v62_0 k0_t6 k0_t8 arg16 v181 k0_hw5 k0_h3 k0_h12 => k0_hw5.2.2.1.2.2.2.2.2.2.2.2.2.2.2.1 k0_h3 k0_h12
theorem k0_off282_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off282 v59_0 v62_0 k0_t6 k0_t8) a + S1x1x16.size a ≤ S2x32x512.size a := fun i v17 k0_t1 v59_0 v62_0 k0_t6 k0_t8 arg16 v181 k0_hw5 k0_h3 k0_h12 => k0_hw5.2.2.1.2.2.2.2.2.2.2.2.2.2.2.2.1 k0_h3 k0_h12
theorem k0_off283_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off283 i k0_t1 v181) a + S1x16.size a ≤ S128x512.size a := fun i v17 k0_t1 v59_0 v62_0 k0_t6 k0_t8 arg16 v181 k0_hw5 k0_h3 k0_h12 => k0_hw5.2.2.1.2.2.2.2.2.2.2.2.2.2.2.2.2.1 k0_h3 k0_h12
theorem k0_off284_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off284 v59_0 v62_0 k0_t6 k0_t8) a + S1x1x16.size a ≤ S2x32x512.size a := fun i v17 k0_t1 v59_0 v62_0 k0_t6 k0_t8 arg16 v181 k0_hw5 k0_h3 k0_h12 => k0_hw5.2.2.1.2.2.2.2.2.2.2.2.2.2.2.2.2.2.1 k0_h3 k0_h12
theorem k0_off285_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off285 i k0_t1 v181) a + S1x16.size a ≤ S128x512.size a := fun i v17 k0_t1 v59_0 v62_0 k0_t6 k0_t8 arg16 v181 k0_hw5 k0_h3 k0_h12 => k0_hw5.2.2.1.2.2.2.2.2.2.2.2.2.2.2.2.2.2.2.1 k0_h3 k0_h12
theorem k0_off286_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off286 v59_0 v62_0 k0_t6 k0_t8) a + S1x1x16.size a ≤ S2x32x512.size a := fun i v17 k0_t1 v59_0 v62_0 k0_t6 k0_t8 arg16 v181 k0_hw5 k0_h3 k0_h12 => k0_hw5.2.2.1.2.2.2.2.2.2.2.2.2.2.2.2.2.2.2.2.1 k0_h3 k0_h12
theorem k0_off287_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off287 i k0_t1 v181) a + S1x16.size a ≤ S128x512.size a := fun i v17 k0_t1 v59_0 v62_0 k0_t6 k0_t8 arg16 v181 k0_hw5 k0_h3 k0_h12 => k0_hw5.2.2.1.2.2.2.2.2.2.2.2.2.2.2.2.2.2.2.2.2.1 k0_h3 k0_h12
theorem k0_off288_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off288 v59_0 v62_0 k0_t6 k0_t8) a + S1x1x16.size a ≤ S2x32x512.size a := fun i v17 k0_t1 v59_0 v62_0 k0_t6 k0_t8 arg16 v181 k0_hw5 k0_h3 k0_h12 => k0_hw5.2.2.1.2.2.2.2.2.2.2.2.2.2.2.2.2.2.2.2.2.2.1 k0_h3 k0_h12
theorem k0_off289_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off289 i k0_t1 v181) a + S1x16.size a ≤ S128x512.size a := fun i v17 k0_t1 v59_0 v62_0 k0_t6 k0_t8 arg16 v181 k0_hw5 k0_h3 k0_h12 => k0_hw5.2.2.1.2.2.2.2.2.2.2.2.2.2.2.2.2.2.2.2.2.2.2.1 k0_h3 k0_h12
theorem k0_off290_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off290 v59_0 v62_0 k0_t6 k0_t8) a + S1x1x16.size a ≤ S2x32x512.size a := fun i v17 k0_t1 v59_0 v62_0 k0_t6 k0_t8 arg16 v181 k0_hw5 k0_h3 k0_h12 => k0_hw5.2.2.1.2.2.2.2.2.2.2.2.2.2.2.2.2.2.2.2.2.2.2.2.1 k0_h3 k0_h12
theorem k0_off291_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off291 i k0_t1 v181) a + S1x16.size a ≤ S128x512.size a := fun i v17 k0_t1 v59_0 v62_0 k0_t6 k0_t8 arg16 v181 k0_hw5 k0_h3 k0_h12 => k0_hw5.2.2.1.2.2.2.2.2.2.2.2.2.2.2.2.2.2.2.2.2.2.2.2.2.1 k0_h3 k0_h12
theorem k0_off292_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off292 v59_0 v62_0 k0_t6 k0_t8) a + S1x1x16.size a ≤ S2x32x512.size a := fun i v17 k0_t1 v59_0 v62_0 k0_t6 k0_t8 arg16 v181 k0_hw5 k0_h3 k0_h12 => k0_hw5.2.2.1.2.2.2.2.2.2.2.2.2.2.2.2.2.2.2.2.2.2.2.2.2.2.1 k0_h3 k0_h12
theorem k0_off293_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off293 i k0_t1 v181) a + S1x16.size a ≤ S128x512.size a := fun i v17 k0_t1 v59_0 v62_0 k0_t6 k0_t8 arg16 v181 k0_hw5 k0_h3 k0_h12 => k0_hw5.2.2.1.2.2.2.2.2.2.2.2.2.2.2.2.2.2.2.2.2.2.2.2.2.2.2.1 k0_h3 k0_h12
theorem k0_off294_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off294 v59_0 v62_0 k0_t6 k0_t8) a + S1x1x16.size a ≤ S2x32x512.size a := fun i v17 k0_t1 v59_0 v62_0 k0_t6 k0_t8 arg16 v181 k0_hw5 k0_h3 k0_h12 => k0_hw5.2.2.1.2.2.2.2.2.2.2.2.2.2.2.2.2.2.2.2.2.2.2.2.2.2.2.2.1 k0_h3 k0_h12
theorem k0_off295_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off295 i k0_t1 v181) a + S1x16.size a ≤ S128x512.size a := fun i v17 k0_t1 v59_0 v62_0 k0_t6 k0_t8 arg16 v181 k0_hw5 k0_h3 k0_h12 => k0_hw5.2.2.1.2.2.2.2.2.2.2.2.2.2.2.2.2.2.2.2.2.2.2.2.2.2.2.2.2.1 k0_h3 k0_h12
theorem k0_off296_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off296 v59_0 v62_0 k0_t6 k0_t8) a + S1x1x16.size a ≤ S2x32x512.size a := fun i v17 k0_t1 v59_0 v62_0 k0_t6 k0_t8 arg16 v181 k0_hw5 k0_h3 k0_h12 => k0_hw5.2.2.1.2.2.2.2.2.2.2.2.2.2.2.2.2.2.2.2.2.2.2.2.2.2.2.2.2.2.1 k0_h3 k0_h12
theorem k0_off297_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off297 i k0_t1 v181) a + S1x16.size a ≤ S128x512.size a := fun i v17 k0_t1 v59_0 v62_0 k0_t6 k0_t8 arg16 v181 k0_hw5 k0_h3 k0_h12 => k0_hw5.2.2.1.2.2.2.2.2.2.2.2.2.2.2.2.2.2.2.2.2.2.2.2.2.2.2.2.2.2.2.1 k0_h3 k0_h12
theorem k0_off298_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off298 v59_0 v62_0 k0_t6 k0_t8) a + S1x1x16.size a ≤ S2x32x512.size a := fun i v17 k0_t1 v59_0 v62_0 k0_t6 k0_t8 arg16 v181 k0_hw5 k0_h3 k0_h12 => k0_hw5.2.2.1.2.2.2.2.2.2.2.2.2.2.2.2.2.2.2.2.2.2.2.2.2.2.2.2.2.2.2.2.1 k0_h3 k0_h12
theorem k0_off299_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off299 i k0_t1 v181) a + S1x16.size a ≤ S128x512.size a := fun i v17 k0_t1 v59_0 v62_0 k0_t6 k0_t8 arg16 v181 k0_hw5 k0_h3 k0_h12 => k0_hw5.2.2.1.2.2.2.2.2.2.2.2.2.2.2.2.2.2.2.2.2.2.2.2.2.2.2.2.2.2.2.2.2.1 k0_h3 k0_h12
theorem k0_off300_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off300 v59_0 v62_0 k0_t6 k0_t8) a + S1x1x16.size a ≤ S2x32x512.size a := fun i v17 k0_t1 v59_0 v62_0 k0_t6 k0_t8 arg16 v181 k0_hw5 k0_h3 k0_h12 => k0_hw5.2.2.1.2.2.2.2.2.2.2.2.2.2.2.2.2.2.2.2.2.2.2.2.2.2.2.2.2.2.2.2.2.2.1 k0_h3 k0_h12
theorem k0_off301_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off301 i k0_t1 v181) a + S1x16.size a ≤ S128x512.size a := fun i v17 k0_t1 v59_0 v62_0 k0_t6 k0_t8 arg16 v181 k0_hw5 k0_h3 k0_h12 => k0_hw5.2.2.1.2.2.2.2.2.2.2.2.2.2.2.2.2.2.2.2.2.2.2.2.2.2.2.2.2.2.2.2.2.2.2 k0_h3 k0_h12
theorem k0_off302_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off302 v59_0 v62_0 k0_t6 k0_t8) a + S1x1x16.size a ≤ S2x32x512.size a := fun i v17 k0_t1 v59_0 v62_0 k0_t6 k0_t8 arg16 v181 k0_hw5 k0_h3 k0_h12 => k0_hw5.2.2.2.1.1 k0_h3 k0_h12
theorem k0_off303_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off303 i k0_t1 v181) a + S1x16.size a ≤ S128x512.size a := fun i v17 k0_t1 v59_0 v62_0 k0_t6 k0_t8 arg16 v181 k0_hw5 k0_h3 k0_h12 => k0_hw5.2.2.2.1.2.1 k0_h3 k0_h12
theorem k0_off304_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off304 v59_0 v62_0 k0_t6 k0_t8) a + S1x1x16.size a ≤ S2x32x512.size a := fun i v17 k0_t1 v59_0 v62_0 k0_t6 k0_t8 arg16 v181 k0_hw5 k0_h3 k0_h12 => k0_hw5.2.2.2.1.2.2.1 k0_h3 k0_h12
theorem k0_off305_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off305 i k0_t1 v181) a + S1x16.size a ≤ S128x512.size a := fun i v17 k0_t1 v59_0 v62_0 k0_t6 k0_t8 arg16 v181 k0_hw5 k0_h3 k0_h12 => k0_hw5.2.2.2.1.2.2.2.1 k0_h3 k0_h12
theorem k0_off306_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off306 v59_0 v62_0 k0_t6 k0_t8) a + S1x1x16.size a ≤ S2x32x512.size a := fun i v17 k0_t1 v59_0 v62_0 k0_t6 k0_t8 arg16 v181 k0_hw5 k0_h3 k0_h12 => k0_hw5.2.2.2.1.2.2.2.2.1 k0_h3 k0_h12
theorem k0_off307_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off307 i k0_t1 v181) a + S1x16.size a ≤ S128x512.size a := fun i v17 k0_t1 v59_0 v62_0 k0_t6 k0_t8 arg16 v181 k0_hw5 k0_h3 k0_h12 => k0_hw5.2.2.2.1.2.2.2.2.2.1 k0_h3 k0_h12
theorem k0_off308_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off308 v59_0 v62_0 k0_t6 k0_t8) a + S1x1x16.size a ≤ S2x32x512.size a := fun i v17 k0_t1 v59_0 v62_0 k0_t6 k0_t8 arg16 v181 k0_hw5 k0_h3 k0_h12 => k0_hw5.2.2.2.1.2.2.2.2.2.2.1 k0_h3 k0_h12
theorem k0_off309_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off309 i k0_t1 v181) a + S1x16.size a ≤ S128x512.size a := fun i v17 k0_t1 v59_0 v62_0 k0_t6 k0_t8 arg16 v181 k0_hw5 k0_h3 k0_h12 => k0_hw5.2.2.2.1.2.2.2.2.2.2.2.1 k0_h3 k0_h12
theorem k0_off310_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off310 v59_0 v62_0 k0_t6 k0_t8) a + S1x1x16.size a ≤ S2x32x512.size a := fun i v17 k0_t1 v59_0 v62_0 k0_t6 k0_t8 arg16 v181 k0_hw5 k0_h3 k0_h12 => k0_hw5.2.2.2.1.2.2.2.2.2.2.2.2.1 k0_h3 k0_h12
theorem k0_off311_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off311 i k0_t1 v181) a + S1x16.size a ≤ S128x512.size a := fun i v17 k0_t1 v59_0 v62_0 k0_t6 k0_t8 arg16 v181 k0_hw5 k0_h3 k0_h12 => k0_hw5.2.2.2.1.2.2.2.2.2.2.2.2.2.1 k0_h3 k0_h12
theorem k0_off312_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off312 v59_0 v62_0 k0_t6 k0_t8) a + S1x1x16.size a ≤ S2x32x512.size a := fun i v17 k0_t1 v59_0 v62_0 k0_t6 k0_t8 arg16 v181 k0_hw5 k0_h3 k0_h12 => k0_hw5.2.2.2.1.2.2.2.2.2.2.2.2.2.2.1 k0_h3 k0_h12
theorem k0_off313_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off313 i k0_t1 v181) a + S1x16.size a ≤ S128x512.size a := fun i v17 k0_t1 v59_0 v62_0 k0_t6 k0_t8 arg16 v181 k0_hw5 k0_h3 k0_h12 => k0_hw5.2.2.2.1.2.2.2.2.2.2.2.2.2.2.2.1 k0_h3 k0_h12
theorem k0_off314_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off314 v59_0 v62_0 k0_t6 k0_t8) a + S1x1x16.size a ≤ S2x32x512.size a := fun i v17 k0_t1 v59_0 v62_0 k0_t6 k0_t8 arg16 v181 k0_hw5 k0_h3 k0_h12 => k0_hw5.2.2.2.1.2.2.2.2.2.2.2.2.2.2.2.2.1 k0_h3 k0_h12
theorem k0_off315_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off315 i k0_t1 v181) a + S1x16.size a ≤ S128x512.size a := fun i v17 k0_t1 v59_0 v62_0 k0_t6 k0_t8 arg16 v181 k0_hw5 k0_h3 k0_h12 => k0_hw5.2.2.2.1.2.2.2.2.2.2.2.2.2.2.2.2.2.1 k0_h3 k0_h12
theorem k0_off316_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off316 v59_0 v62_0 k0_t6 k0_t8) a + S1x1x16.size a ≤ S2x32x512.size a := fun i v17 k0_t1 v59_0 v62_0 k0_t6 k0_t8 arg16 v181 k0_hw5 k0_h3 k0_h12 => k0_hw5.2.2.2.1.2.2.2.2.2.2.2.2.2.2.2.2.2.2.1 k0_h3 k0_h12
theorem k0_off317_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off317 i k0_t1 v181) a + S1x16.size a ≤ S128x512.size a := fun i v17 k0_t1 v59_0 v62_0 k0_t6 k0_t8 arg16 v181 k0_hw5 k0_h3 k0_h12 => k0_hw5.2.2.2.1.2.2.2.2.2.2.2.2.2.2.2.2.2.2.2.1 k0_h3 k0_h12
theorem k0_off318_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off318 v59_0 v62_0 k0_t6 k0_t8) a + S1x1x16.size a ≤ S2x32x512.size a := fun i v17 k0_t1 v59_0 v62_0 k0_t6 k0_t8 arg16 v181 k0_hw5 k0_h3 k0_h12 => k0_hw5.2.2.2.1.2.2.2.2.2.2.2.2.2.2.2.2.2.2.2.2.1 k0_h3 k0_h12
theorem k0_off319_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off319 i k0_t1 v181) a + S1x16.size a ≤ S128x512.size a := fun i v17 k0_t1 v59_0 v62_0 k0_t6 k0_t8 arg16 v181 k0_hw5 k0_h3 k0_h12 => k0_hw5.2.2.2.1.2.2.2.2.2.2.2.2.2.2.2.2.2.2.2.2.2.1 k0_h3 k0_h12
theorem k0_off320_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off320 v59_0 v62_0 k0_t6 k0_t8) a + S1x1x16.size a ≤ S2x32x512.size a := fun i v17 k0_t1 v59_0 v62_0 k0_t6 k0_t8 arg16 v181 k0_hw5 k0_h3 k0_h12 => k0_hw5.2.2.2.1.2.2.2.2.2.2.2.2.2.2.2.2.2.2.2.2.2.2.1 k0_h3 k0_h12
theorem k0_off321_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off321 i k0_t1 v181) a + S1x16.size a ≤ S128x512.size a := fun i v17 k0_t1 v59_0 v62_0 k0_t6 k0_t8 arg16 v181 k0_hw5 k0_h3 k0_h12 => k0_hw5.2.2.2.1.2.2.2.2.2.2.2.2.2.2.2.2.2.2.2.2.2.2.2.1 k0_h3 k0_h12
theorem k0_off322_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off322 v59_0 v62_0 k0_t6 k0_t8) a + S1x1x16.size a ≤ S2x32x512.size a := fun i v17 k0_t1 v59_0 v62_0 k0_t6 k0_t8 arg16 v181 k0_hw5 k0_h3 k0_h12 => k0_hw5.2.2.2.1.2.2.2.2.2.2.2.2.2.2.2.2.2.2.2.2.2.2.2.2.1 k0_h3 k0_h12
theorem k0_off323_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off323 i k0_t1 v181) a + S1x16.size a ≤ S128x512.size a := fun i v17 k0_t1 v59_0 v62_0 k0_t6 k0_t8 arg16 v181 k0_hw5 k0_h3 k0_h12 => k0_hw5.2.2.2.1.2.2.2.2.2.2.2.2.2.2.2.2.2.2.2.2.2.2.2.2.2.1 k0_h3 k0_h12
theorem k0_off324_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off324 v59_0 v62_0 k0_t6 k0_t8) a + S1x1x16.size a ≤ S2x32x512.size a := fun i v17 k0_t1 v59_0 v62_0 k0_t6 k0_t8 arg16 v181 k0_hw5 k0_h3 k0_h12 => k0_hw5.2.2.2.1.2.2.2.2.2.2.2.2.2.2.2.2.2.2.2.2.2.2.2.2.2.2.1 k0_h3 k0_h12
theorem k0_off325_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off325 i k0_t1 v181) a + S1x16.size a ≤ S128x512.size a := fun i v17 k0_t1 v59_0 v62_0 k0_t6 k0_t8 arg16 v181 k0_hw5 k0_h3 k0_h12 => k0_hw5.2.2.2.1.2.2.2.2.2.2.2.2.2.2.2.2.2.2.2.2.2.2.2.2.2.2.2.1 k0_h3 k0_h12
theorem k0_off326_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off326 v59_0 v62_0 k0_t6 k0_t8) a + S1x1x16.size a ≤ S2x32x512.size a := fun i v17 k0_t1 v59_0 v62_0 k0_t6 k0_t8 arg16 v181 k0_hw5 k0_h3 k0_h12 => k0_hw5.2.2.2.1.2.2.2.2.2.2.2.2.2.2.2.2.2.2.2.2.2.2.2.2.2.2.2.2.1 k0_h3 k0_h12
theorem k0_off327_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off327 i k0_t1 v181) a + S1x16.size a ≤ S128x512.size a := fun i v17 k0_t1 v59_0 v62_0 k0_t6 k0_t8 arg16 v181 k0_hw5 k0_h3 k0_h12 => k0_hw5.2.2.2.1.2.2.2.2.2.2.2.2.2.2.2.2.2.2.2.2.2.2.2.2.2.2.2.2.2.1 k0_h3 k0_h12
theorem k0_off328_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off328 v59_0 v62_0 k0_t6 k0_t8) a + S1x1x16.size a ≤ S2x32x512.size a := fun i v17 k0_t1 v59_0 v62_0 k0_t6 k0_t8 arg16 v181 k0_hw5 k0_h3 k0_h12 => k0_hw5.2.2.2.1.2.2.2.2.2.2.2.2.2.2.2.2.2.2.2.2.2.2.2.2.2.2.2.2.2.2.1 k0_h3 k0_h12
theorem k0_off329_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off329 i k0_t1 v181) a + S1x16.size a ≤ S128x512.size a := fun i v17 k0_t1 v59_0 v62_0 k0_t6 k0_t8 arg16 v181 k0_hw5 k0_h3 k0_h12 => k0_hw5.2.2.2.1.2.2.2.2.2.2.2.2.2.2.2.2.2.2.2.2.2.2.2.2.2.2.2.2.2.2.2.1 k0_h3 k0_h12
theorem k0_off330_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off330 v59_0 v62_0 k0_t6 k0_t8) a + S1x1x16.size a ≤ S2x32x512.size a := fun i v17 k0_t1 v59_0 v62_0 k0_t6 k0_t8 arg16 v181 k0_hw5 k0_h3 k0_h12 => k0_hw5.2.2.2.1.2.2.2.2.2.2.2.2.2.2.2.2.2.2.2.2.2.2.2.2.2.2.2.2.2.2.2.2.1 k0_h3 k0_h12
theorem k0_off331_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off331 i k0_t1 v181) a + S1x16.size a ≤ S128x512.size a := fun i v17 k0_t1 v59_0 v62_0 k0_t6 k0_t8 arg16 v181 k0_hw5 k0_h3 k0_h12 => k0_hw5.2.2.2.1.2.2.2.2.2.2.2.2.2.2.2.2.2.2.2.2.2.2.2.2.2.2.2.2.2.2.2.2.2.1 k0_h3 k0_h12
theorem k0_off332_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off332 v59_0 v62_0 k0_t6 k0_t8) a + S1x1x16.size a ≤ S2x32x512.size a := fun i v17 k0_t1 v59_0 v62_0 k0_t6 k0_t8 arg16 v181 k0_hw5 k0_h3 k0_h12 => k0_hw5.2.2.2.1.2.2.2.2.2.2.2.2.2.2.2.2.2.2.2.2.2.2.2.2.2.2.2.2.2.2.2.2.2.2.1 k0_h3 k0_h12
theorem k0_off333_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off333 i k0_t1 v181) a + S1x16.size a ≤ S128x512.size a := fun i v17 k0_t1 v59_0 v62_0 k0_t6 k0_t8 arg16 v181 k0_hw5 k0_h3 k0_h12 => k0_hw5.2.2.2.1.2.2.2.2.2.2.2.2.2.2.2.2.2.2.2.2.2.2.2.2.2.2.2.2.2.2.2.2.2.2.2 k0_h3 k0_h12
theorem k0_off334_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off334 v59_0 v62_0 k0_t6 k0_t8) a + S1x1x16.size a ≤ S2x32x512.size a := fun i v17 k0_t1 v59_0 v62_0 k0_t6 k0_t8 arg16 v181 k0_hw5 k0_h3 k0_h12 => k0_hw5.2.2.2.2.1 k0_h3 k0_h12
theorem k0_off335_inb : ∀ (i : grid0.Coords) (v17 : BitVec 32) (k0_t1 : Fin k0_t1_loop.trips) (v59_0 : BitVec 32) (v62_0 : BitVec 32) (k0_t6 : Fin (k0_t6_loop v59_0 v62_0).trips) (k0_t8 : Fin (k0_t8_loop v59_0 v62_0 k0_t6).trips) (arg16 : BitVec 32) (v181 : BitVec 32) (k0_hw5 : k0_chk5 i v17 k0_t1 v59_0 v62_0 k0_t6 k0_t8 arg16 v181), ∀ (k0_h3 : k0_cond3 i v17 k0_t1 = 1#1), ∀ (k0_h12 : k0_cond12 arg16 v181 = 1#1), ∀ a, (k0_off335 i k0_t1 v181) a + S1x16.size a ≤ S128x16.size a := fun i v17 k0_t1 v59_0 v62_0 k0_t6 k0_t8 arg16 v181 k0_hw5 k0_h3 k0_h12 => k0_hw5.2.2.2.2.2 k0_h3 k0_h12

@[reducible] def k0_t9_loop (v59_0 : BitVec 32) (v62_0 : BitVec 32) : Scf.Loop 32 :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let v105 : BitVec 32 := Scalar.addi c0_i32_56 v104
  let c1_i32_59 : BitVec 32 := 1#32
  ⟨v108, v105, c1_i32_59⟩
def k0_off336 (i : grid0.Coords) (v59_0 : BitVec 32) (v62_0 : BitVec 32) (k0_t9 : Fin (k0_t9_loop v59_0 v62_0).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2048_i32_99 : BitVec 32 := 2048#32
  let v181 : BitVec 32 := Scalar.muli v11 c2048_i32_99
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_97 : BitVec 32 := 32#32
  let c0_i32_56 : BitVec 32 := 0#32
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c1_i32_96 : BitVec 32 := 1#32
  let v177 : BitVec 32 := Scalar.addi arg13 c1_i32_96
  let v178 : BitVec 32 := Scalar.muli c32_i32_97 v177
  let v179 : BitVec 32 := Scalar.addi v80 v178
  let c2016_i32_98 : BitVec 32 := 2016#32
  let v180 : BitVec 32 := Scalar.minsi v179 c2016_i32_98
  let v182 : BitVec 32 := Scalar.addi v181 v180
  let c0_i32_103 : BitVec 32 := 0#32
  ![v182.toNat, 0]
def k0_cond13 (v59_0 : BitVec 32) (v62_0 : BitVec 32) (k0_t9 : Fin (k0_t9_loop v59_0 v62_0).trips) : BitVec 1 :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c1_i32_79 : BitVec 32 := 1#32
  let v141 : BitVec 32 := Scalar.addi arg13 c1_i32_79
  let v142 : BitVec 1 := Scalar.cmpi .slt v141 v100
  let c2_i32_72 : BitVec 32 := 2#32
  let c0_i32_73 : BitVec 32 := 0#32
  let v130 : BitVec 1 := Scalar.cmpi .eq c2_i32_72 c0_i32_73
  let c1_i32_74 : BitVec 32 := 1#32
  let v131 : BitVec 32 := Scalar.select v130 c1_i32_74 c2_i32_72
  let v132 : BitVec 32 := Scalar.remsi arg13 v131
  let c0_i32_76 : BitVec 32 := 0#32
  let v134 : BitVec 1 := Scalar.cmpi .slt v132 c0_i32_76
  let c0_i32_77 : BitVec 32 := 0#32
  let v135 : BitVec 1 := Scalar.cmpi .slt v131 c0_i32_77
  let v136 : BitVec 1 := Scalar.xori v134 v135
  let c0_i32_75 : BitVec 32 := 0#32
  let v133 : BitVec 1 := Scalar.cmpi .ne v132 c0_i32_75
  let v137 : BitVec 1 := Scalar.andi v136 v133
  let v138 : BitVec 32 := Scalar.addi v132 v131
  let v139 : BitVec 32 := Scalar.select v137 v138 v132
  let c0_i32_78 : BitVec 32 := 0#32
  let v140 : BitVec 1 := Scalar.cmpi .eq v139 c0_i32_78
  let v143 : BitVec 1 := Scalar.andi v142 v140
  let v144 : BitVec 32 := Scalar.extui v143
  let c0_i32_80 : BitVec 32 := 0#32
  let v145 : BitVec 1 := Scalar.cmpi .ne v144 c0_i32_80
  v145

def k0_off337 (i : grid0.Coords) (v59_0 : BitVec 32) (v62_0 : BitVec 32) (k0_t9 : Fin (k0_t9_loop v59_0 v62_0).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2048_i32_99 : BitVec 32 := 2048#32
  let v181 : BitVec 32 := Scalar.muli v11 c2048_i32_99
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_97 : BitVec 32 := 32#32
  let c0_i32_56 : BitVec 32 := 0#32
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c1_i32_96 : BitVec 32 := 1#32
  let v177 : BitVec 32 := Scalar.addi arg13 c1_i32_96
  let v178 : BitVec 32 := Scalar.muli c32_i32_97 v177
  let v179 : BitVec 32 := Scalar.addi v80 v178
  let c2016_i32_98 : BitVec 32 := 2016#32
  let v180 : BitVec 32 := Scalar.minsi v179 c2016_i32_98
  let v182 : BitVec 32 := Scalar.addi v181 v180
  let c0_i32_103 : BitVec 32 := 0#32
  ![v182.toNat, 0]
def k0_cond14 (v59_0 : BitVec 32) (v62_0 : BitVec 32) (k0_t9 : Fin (k0_t9_loop v59_0 v62_0).trips) : BitVec 1 :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c1_i32_81 : BitVec 32 := 1#32
  let v146 : BitVec 32 := Scalar.addi arg13 c1_i32_81
  let v147 : BitVec 1 := Scalar.cmpi .slt v146 v100
  let c2_i32_72 : BitVec 32 := 2#32
  let c0_i32_73 : BitVec 32 := 0#32
  let v130 : BitVec 1 := Scalar.cmpi .eq c2_i32_72 c0_i32_73
  let c1_i32_74 : BitVec 32 := 1#32
  let v131 : BitVec 32 := Scalar.select v130 c1_i32_74 c2_i32_72
  let v132 : BitVec 32 := Scalar.remsi arg13 v131
  let c0_i32_76 : BitVec 32 := 0#32
  let v134 : BitVec 1 := Scalar.cmpi .slt v132 c0_i32_76
  let c0_i32_77 : BitVec 32 := 0#32
  let v135 : BitVec 1 := Scalar.cmpi .slt v131 c0_i32_77
  let v136 : BitVec 1 := Scalar.xori v134 v135
  let c0_i32_75 : BitVec 32 := 0#32
  let v133 : BitVec 1 := Scalar.cmpi .ne v132 c0_i32_75
  let v137 : BitVec 1 := Scalar.andi v136 v133
  let v138 : BitVec 32 := Scalar.addi v132 v131
  let v139 : BitVec 32 := Scalar.select v137 v138 v132
  let c0_i32_78 : BitVec 32 := 0#32
  let v140 : BitVec 1 := Scalar.cmpi .eq v139 c0_i32_78
  let v_true : BitVec 1 := 1#1
  let v148 : BitVec 1 := Scalar.xori v140 v_true
  let v149 : BitVec 1 := Scalar.andi v147 v148
  let v150 : BitVec 32 := Scalar.extui v149
  let c0_i32_82 : BitVec 32 := 0#32
  let v151 : BitVec 1 := Scalar.cmpi .ne v150 c0_i32_82
  v151

def k0_off338 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2048_i32_96 : BitVec 32 := 2048#32
  let v177 : BitVec 32 := Scalar.muli v11 c2048_i32_96
  let c0_i32_100 : BitVec 32 := 0#32
  ![v177.toNat, 0]
def k0_off339 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2048_i32_96 : BitVec 32 := 2048#32
  let v177 : BitVec 32 := Scalar.muli v11 c2048_i32_96
  let c0_i32_100 : BitVec 32 := 0#32
  ![v177.toNat, 0]
@[reducible] def k0_t10_loop (v59_0 : BitVec 32) (v62_0 : BitVec 32) (k0_t9 : Fin (k0_t9_loop v59_0 v62_0).trips) : Scf.Loop 32 :=
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let c0_i32_56 : BitVec 32 := 0#32
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_94 : BitVec 32 := 1#32
  ⟨v167, v174, c1_i32_94⟩
def k0_off340 (v59_0 : BitVec 32) (v62_0 : BitVec 32) (k0_t9 : Fin (k0_t9_loop v59_0 v62_0).trips) (k0_t10 : Fin (k0_t10_loop v59_0 v62_0 k0_t9).trips) : Fin 1 → Nat :=
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let c0_i32_56 : BitVec 32 := 0#32
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let v177 : Index := Scalar.indexCast arg15
  ![v177.toNat]
def k0_off341 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v190 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v191 : Index := Scalar.indexCast v183
  let c0 : Index := 0#32
  ![v190.toNat, v191.toNat, 0]
def k0_cond17 (arg16 : BitVec 32) (v181 : BitVec 32) : BitVec 1 :=
  let v184 : BitVec 1 := Scalar.cmpi .ne v181 arg16
  let v185 : BitVec 32 := Scalar.extui v184
  let c0_i32_96 : BitVec 32 := 0#32
  let v186 : BitVec 1 := Scalar.cmpi .ne v185 c0_i32_96
  v186

def k0_off342 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v194 : Index := Scalar.indexCast v182
  let c0_99 : Index := 0#32
  ![v194.toNat, 0]
def k0_off343 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v198 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v199 : Index := Scalar.indexCast v183
  let c16 : Index := 16#32
  ![v198.toNat, v199.toNat, 16]
def k0_off344 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v202 : Index := Scalar.indexCast v182
  let c16_100 : Index := 16#32
  ![v202.toNat, 16]
def k0_off345 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v206 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v207 : Index := Scalar.indexCast v183
  let c32 : Index := 32#32
  ![v206.toNat, v207.toNat, 32]
def k0_off346 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v210 : Index := Scalar.indexCast v182
  let c32_101 : Index := 32#32
  ![v210.toNat, 32]
def k0_off347 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v214 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v215 : Index := Scalar.indexCast v183
  let c48 : Index := 48#32
  ![v214.toNat, v215.toNat, 48]
def k0_off348 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v218 : Index := Scalar.indexCast v182
  let c48_102 : Index := 48#32
  ![v218.toNat, 48]
def k0_off349 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v222 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v223 : Index := Scalar.indexCast v183
  let c64 : Index := 64#32
  ![v222.toNat, v223.toNat, 64]
def k0_off350 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v226 : Index := Scalar.indexCast v182
  let c64_103 : Index := 64#32
  ![v226.toNat, 64]
def k0_off351 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v230 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v231 : Index := Scalar.indexCast v183
  let c80 : Index := 80#32
  ![v230.toNat, v231.toNat, 80]
def k0_off352 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v234 : Index := Scalar.indexCast v182
  let c80_104 : Index := 80#32
  ![v234.toNat, 80]
def k0_off353 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v238 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v239 : Index := Scalar.indexCast v183
  let c96 : Index := 96#32
  ![v238.toNat, v239.toNat, 96]
def k0_off354 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v242 : Index := Scalar.indexCast v182
  let c96_105 : Index := 96#32
  ![v242.toNat, 96]
def k0_off355 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v246 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v247 : Index := Scalar.indexCast v183
  let c112 : Index := 112#32
  ![v246.toNat, v247.toNat, 112]
def k0_off356 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v250 : Index := Scalar.indexCast v182
  let c112_106 : Index := 112#32
  ![v250.toNat, 112]
def k0_off357 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v254 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v255 : Index := Scalar.indexCast v183
  let c128 : Index := 128#32
  ![v254.toNat, v255.toNat, 128]
def k0_off358 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v258 : Index := Scalar.indexCast v182
  let c128_107 : Index := 128#32
  ![v258.toNat, 128]
def k0_off359 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v262 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v263 : Index := Scalar.indexCast v183
  let c144 : Index := 144#32
  ![v262.toNat, v263.toNat, 144]
def k0_off360 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v266 : Index := Scalar.indexCast v182
  let c144_108 : Index := 144#32
  ![v266.toNat, 144]
def k0_off361 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v270 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v271 : Index := Scalar.indexCast v183
  let c160 : Index := 160#32
  ![v270.toNat, v271.toNat, 160]
def k0_off362 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v274 : Index := Scalar.indexCast v182
  let c160_109 : Index := 160#32
  ![v274.toNat, 160]
def k0_off363 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v278 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v279 : Index := Scalar.indexCast v183
  let c176 : Index := 176#32
  ![v278.toNat, v279.toNat, 176]
def k0_off364 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v282 : Index := Scalar.indexCast v182
  let c176_110 : Index := 176#32
  ![v282.toNat, 176]
def k0_off365 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v286 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v287 : Index := Scalar.indexCast v183
  let c192 : Index := 192#32
  ![v286.toNat, v287.toNat, 192]
def k0_off366 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v290 : Index := Scalar.indexCast v182
  let c192_111 : Index := 192#32
  ![v290.toNat, 192]
def k0_off367 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v294 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v295 : Index := Scalar.indexCast v183
  let c208 : Index := 208#32
  ![v294.toNat, v295.toNat, 208]
def k0_off368 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v298 : Index := Scalar.indexCast v182
  let c208_112 : Index := 208#32
  ![v298.toNat, 208]
def k0_off369 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v302 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v303 : Index := Scalar.indexCast v183
  let c224 : Index := 224#32
  ![v302.toNat, v303.toNat, 224]
def k0_off370 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v306 : Index := Scalar.indexCast v182
  let c224_113 : Index := 224#32
  ![v306.toNat, 224]
def k0_off371 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v310 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v311 : Index := Scalar.indexCast v183
  let c240 : Index := 240#32
  ![v310.toNat, v311.toNat, 240]
def k0_off372 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v314 : Index := Scalar.indexCast v182
  let c240_114 : Index := 240#32
  ![v314.toNat, 240]
def k0_off373 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v318 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v319 : Index := Scalar.indexCast v183
  let c256 : Index := 256#32
  ![v318.toNat, v319.toNat, 256]
def k0_off374 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v322 : Index := Scalar.indexCast v182
  let c256_115 : Index := 256#32
  ![v322.toNat, 256]
def k0_off375 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v326 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v327 : Index := Scalar.indexCast v183
  let c272 : Index := 272#32
  ![v326.toNat, v327.toNat, 272]
def k0_off376 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v330 : Index := Scalar.indexCast v182
  let c272_116 : Index := 272#32
  ![v330.toNat, 272]
def k0_off377 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v334 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v335 : Index := Scalar.indexCast v183
  let c288 : Index := 288#32
  ![v334.toNat, v335.toNat, 288]
def k0_off378 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v338 : Index := Scalar.indexCast v182
  let c288_117 : Index := 288#32
  ![v338.toNat, 288]
def k0_off379 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v342 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v343 : Index := Scalar.indexCast v183
  let c304 : Index := 304#32
  ![v342.toNat, v343.toNat, 304]
def k0_off380 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v346 : Index := Scalar.indexCast v182
  let c304_118 : Index := 304#32
  ![v346.toNat, 304]
def k0_off381 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v350 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v351 : Index := Scalar.indexCast v183
  let c320 : Index := 320#32
  ![v350.toNat, v351.toNat, 320]
def k0_off382 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v354 : Index := Scalar.indexCast v182
  let c320_119 : Index := 320#32
  ![v354.toNat, 320]
def k0_off383 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v358 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v359 : Index := Scalar.indexCast v183
  let c336 : Index := 336#32
  ![v358.toNat, v359.toNat, 336]
def k0_off384 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v362 : Index := Scalar.indexCast v182
  let c336_120 : Index := 336#32
  ![v362.toNat, 336]
def k0_off385 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v366 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v367 : Index := Scalar.indexCast v183
  let c352 : Index := 352#32
  ![v366.toNat, v367.toNat, 352]
def k0_off386 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v370 : Index := Scalar.indexCast v182
  let c352_121 : Index := 352#32
  ![v370.toNat, 352]
def k0_off387 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v374 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v375 : Index := Scalar.indexCast v183
  let c368 : Index := 368#32
  ![v374.toNat, v375.toNat, 368]
def k0_off388 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v378 : Index := Scalar.indexCast v182
  let c368_122 : Index := 368#32
  ![v378.toNat, 368]
def k0_off389 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v382 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v383 : Index := Scalar.indexCast v183
  let c384 : Index := 384#32
  ![v382.toNat, v383.toNat, 384]
def k0_off390 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v386 : Index := Scalar.indexCast v182
  let c384_123 : Index := 384#32
  ![v386.toNat, 384]
def k0_off391 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v390 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v391 : Index := Scalar.indexCast v183
  let c400 : Index := 400#32
  ![v390.toNat, v391.toNat, 400]
def k0_off392 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v394 : Index := Scalar.indexCast v182
  let c400_124 : Index := 400#32
  ![v394.toNat, 400]
def k0_off393 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v398 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v399 : Index := Scalar.indexCast v183
  let c416 : Index := 416#32
  ![v398.toNat, v399.toNat, 416]
def k0_off394 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v402 : Index := Scalar.indexCast v182
  let c416_125 : Index := 416#32
  ![v402.toNat, 416]
def k0_off395 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v406 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v407 : Index := Scalar.indexCast v183
  let c432 : Index := 432#32
  ![v406.toNat, v407.toNat, 432]
def k0_off396 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v410 : Index := Scalar.indexCast v182
  let c432_126 : Index := 432#32
  ![v410.toNat, 432]
def k0_off397 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v414 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v415 : Index := Scalar.indexCast v183
  let c448 : Index := 448#32
  ![v414.toNat, v415.toNat, 448]
def k0_off398 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v418 : Index := Scalar.indexCast v182
  let c448_127 : Index := 448#32
  ![v418.toNat, 448]
def k0_off399 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v422 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v423 : Index := Scalar.indexCast v183
  let c464 : Index := 464#32
  ![v422.toNat, v423.toNat, 464]
def k0_off400 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v426 : Index := Scalar.indexCast v182
  let c464_128 : Index := 464#32
  ![v426.toNat, 464]
def k0_off401 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v430 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v431 : Index := Scalar.indexCast v183
  let c480 : Index := 480#32
  ![v430.toNat, v431.toNat, 480]
def k0_off402 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v434 : Index := Scalar.indexCast v182
  let c480_129 : Index := 480#32
  ![v434.toNat, 480]
def k0_off403 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v438 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v439 : Index := Scalar.indexCast v183
  let c496 : Index := 496#32
  ![v438.toNat, v439.toNat, 496]
def k0_off404 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v442 : Index := Scalar.indexCast v182
  let c496_130 : Index := 496#32
  ![v442.toNat, 496]
def k0_off405 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v446 : Index := Scalar.indexCast v182
  let c0_131 : Index := 0#32
  ![v446.toNat, 0]
def k0_off406 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v190 : Index := Scalar.indexCast v182
  let c0 : Index := 0#32
  ![v190.toNat, 0]
def k0_cond18 (arg16 : BitVec 32) (v181 : BitVec 32) : BitVec 1 :=
  let v184 : BitVec 1 := Scalar.cmpi .ne v181 arg16
  let true_97 : BitVec 1 := 1#1
  let v187 : BitVec 1 := Scalar.xori v184 true_97
  let v188 : BitVec 32 := Scalar.extui v187
  let c0_i32_98 : BitVec 32 := 0#32
  let v189 : BitVec 1 := Scalar.cmpi .ne v188 c0_i32_98
  v189

def k0_off407 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v193 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v194 : Index := Scalar.indexCast v183
  let c0_99 : Index := 0#32
  ![v193.toNat, v194.toNat, 0]
def k0_off408 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v202 : Index := Scalar.indexCast v182
  let c16 : Index := 16#32
  ![v202.toNat, 16]
def k0_off409 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v205 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v206 : Index := Scalar.indexCast v183
  let c16_101 : Index := 16#32
  ![v205.toNat, v206.toNat, 16]
def k0_off410 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v214 : Index := Scalar.indexCast v182
  let c32 : Index := 32#32
  ![v214.toNat, 32]
def k0_off411 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v217 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v218 : Index := Scalar.indexCast v183
  let c32_103 : Index := 32#32
  ![v217.toNat, v218.toNat, 32]
def k0_off412 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v226 : Index := Scalar.indexCast v182
  let c48 : Index := 48#32
  ![v226.toNat, 48]
def k0_off413 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v229 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v230 : Index := Scalar.indexCast v183
  let c48_105 : Index := 48#32
  ![v229.toNat, v230.toNat, 48]
def k0_off414 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v238 : Index := Scalar.indexCast v182
  let c64 : Index := 64#32
  ![v238.toNat, 64]
def k0_off415 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v241 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v242 : Index := Scalar.indexCast v183
  let c64_107 : Index := 64#32
  ![v241.toNat, v242.toNat, 64]
def k0_off416 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v250 : Index := Scalar.indexCast v182
  let c80 : Index := 80#32
  ![v250.toNat, 80]
def k0_off417 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v253 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v254 : Index := Scalar.indexCast v183
  let c80_109 : Index := 80#32
  ![v253.toNat, v254.toNat, 80]
def k0_off418 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v262 : Index := Scalar.indexCast v182
  let c96 : Index := 96#32
  ![v262.toNat, 96]
def k0_off419 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v265 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v266 : Index := Scalar.indexCast v183
  let c96_111 : Index := 96#32
  ![v265.toNat, v266.toNat, 96]
def k0_off420 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v274 : Index := Scalar.indexCast v182
  let c112 : Index := 112#32
  ![v274.toNat, 112]
def k0_off421 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v277 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v278 : Index := Scalar.indexCast v183
  let c112_113 : Index := 112#32
  ![v277.toNat, v278.toNat, 112]
def k0_off422 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v286 : Index := Scalar.indexCast v182
  let c128 : Index := 128#32
  ![v286.toNat, 128]
def k0_off423 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v289 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v290 : Index := Scalar.indexCast v183
  let c128_115 : Index := 128#32
  ![v289.toNat, v290.toNat, 128]
def k0_off424 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v298 : Index := Scalar.indexCast v182
  let c144 : Index := 144#32
  ![v298.toNat, 144]
def k0_off425 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v301 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v302 : Index := Scalar.indexCast v183
  let c144_117 : Index := 144#32
  ![v301.toNat, v302.toNat, 144]
def k0_off426 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v310 : Index := Scalar.indexCast v182
  let c160 : Index := 160#32
  ![v310.toNat, 160]
def k0_off427 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v313 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v314 : Index := Scalar.indexCast v183
  let c160_119 : Index := 160#32
  ![v313.toNat, v314.toNat, 160]
def k0_off428 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v322 : Index := Scalar.indexCast v182
  let c176 : Index := 176#32
  ![v322.toNat, 176]
def k0_off429 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v325 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v326 : Index := Scalar.indexCast v183
  let c176_121 : Index := 176#32
  ![v325.toNat, v326.toNat, 176]
def k0_off430 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v334 : Index := Scalar.indexCast v182
  let c192 : Index := 192#32
  ![v334.toNat, 192]
def k0_off431 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v337 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v338 : Index := Scalar.indexCast v183
  let c192_123 : Index := 192#32
  ![v337.toNat, v338.toNat, 192]
def k0_off432 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v346 : Index := Scalar.indexCast v182
  let c208 : Index := 208#32
  ![v346.toNat, 208]
def k0_off433 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v349 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v350 : Index := Scalar.indexCast v183
  let c208_125 : Index := 208#32
  ![v349.toNat, v350.toNat, 208]
def k0_off434 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v358 : Index := Scalar.indexCast v182
  let c224 : Index := 224#32
  ![v358.toNat, 224]
def k0_off435 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v361 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v362 : Index := Scalar.indexCast v183
  let c224_127 : Index := 224#32
  ![v361.toNat, v362.toNat, 224]
def k0_off436 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v370 : Index := Scalar.indexCast v182
  let c240 : Index := 240#32
  ![v370.toNat, 240]
def k0_off437 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v373 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v374 : Index := Scalar.indexCast v183
  let c240_129 : Index := 240#32
  ![v373.toNat, v374.toNat, 240]
def k0_off438 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v382 : Index := Scalar.indexCast v182
  let c256 : Index := 256#32
  ![v382.toNat, 256]
def k0_off439 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v385 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v386 : Index := Scalar.indexCast v183
  let c256_131 : Index := 256#32
  ![v385.toNat, v386.toNat, 256]
def k0_off440 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v394 : Index := Scalar.indexCast v182
  let c272 : Index := 272#32
  ![v394.toNat, 272]
def k0_off441 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v397 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v398 : Index := Scalar.indexCast v183
  let c272_133 : Index := 272#32
  ![v397.toNat, v398.toNat, 272]
def k0_off442 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v406 : Index := Scalar.indexCast v182
  let c288 : Index := 288#32
  ![v406.toNat, 288]
def k0_off443 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v409 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v410 : Index := Scalar.indexCast v183
  let c288_135 : Index := 288#32
  ![v409.toNat, v410.toNat, 288]
def k0_off444 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v418 : Index := Scalar.indexCast v182
  let c304 : Index := 304#32
  ![v418.toNat, 304]
def k0_off445 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v421 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v422 : Index := Scalar.indexCast v183
  let c304_137 : Index := 304#32
  ![v421.toNat, v422.toNat, 304]
def k0_off446 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v430 : Index := Scalar.indexCast v182
  let c320 : Index := 320#32
  ![v430.toNat, 320]
def k0_off447 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v433 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v434 : Index := Scalar.indexCast v183
  let c320_139 : Index := 320#32
  ![v433.toNat, v434.toNat, 320]
def k0_off448 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v442 : Index := Scalar.indexCast v182
  let c336 : Index := 336#32
  ![v442.toNat, 336]
def k0_off449 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v445 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v446 : Index := Scalar.indexCast v183
  let c336_141 : Index := 336#32
  ![v445.toNat, v446.toNat, 336]
def k0_off450 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v454 : Index := Scalar.indexCast v182
  let c352 : Index := 352#32
  ![v454.toNat, 352]
def k0_off451 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v457 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v458 : Index := Scalar.indexCast v183
  let c352_143 : Index := 352#32
  ![v457.toNat, v458.toNat, 352]
def k0_off452 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v466 : Index := Scalar.indexCast v182
  let c368 : Index := 368#32
  ![v466.toNat, 368]
def k0_off453 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v469 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v470 : Index := Scalar.indexCast v183
  let c368_145 : Index := 368#32
  ![v469.toNat, v470.toNat, 368]
def k0_off454 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v478 : Index := Scalar.indexCast v182
  let c384 : Index := 384#32
  ![v478.toNat, 384]
def k0_off455 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v481 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v482 : Index := Scalar.indexCast v183
  let c384_147 : Index := 384#32
  ![v481.toNat, v482.toNat, 384]
def k0_off456 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v490 : Index := Scalar.indexCast v182
  let c400 : Index := 400#32
  ![v490.toNat, 400]
def k0_off457 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v493 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v494 : Index := Scalar.indexCast v183
  let c400_149 : Index := 400#32
  ![v493.toNat, v494.toNat, 400]
def k0_off458 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v502 : Index := Scalar.indexCast v182
  let c416 : Index := 416#32
  ![v502.toNat, 416]
def k0_off459 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v505 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v506 : Index := Scalar.indexCast v183
  let c416_151 : Index := 416#32
  ![v505.toNat, v506.toNat, 416]
def k0_off460 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v514 : Index := Scalar.indexCast v182
  let c432 : Index := 432#32
  ![v514.toNat, 432]
def k0_off461 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v517 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v518 : Index := Scalar.indexCast v183
  let c432_153 : Index := 432#32
  ![v517.toNat, v518.toNat, 432]
def k0_off462 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v526 : Index := Scalar.indexCast v182
  let c448 : Index := 448#32
  ![v526.toNat, 448]
def k0_off463 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v529 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v530 : Index := Scalar.indexCast v183
  let c448_155 : Index := 448#32
  ![v529.toNat, v530.toNat, 448]
def k0_off464 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v538 : Index := Scalar.indexCast v182
  let c464 : Index := 464#32
  ![v538.toNat, 464]
def k0_off465 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v541 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v542 : Index := Scalar.indexCast v183
  let c464_157 : Index := 464#32
  ![v541.toNat, v542.toNat, 464]
def k0_off466 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v550 : Index := Scalar.indexCast v182
  let c480 : Index := 480#32
  ![v550.toNat, 480]
def k0_off467 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v553 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v554 : Index := Scalar.indexCast v183
  let c480_159 : Index := 480#32
  ![v553.toNat, v554.toNat, 480]
def k0_off468 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v562 : Index := Scalar.indexCast v182
  let c496 : Index := 496#32
  ![v562.toNat, 496]
def k0_off469 (v59_0 : BitVec 32) (v62_0 : BitVec 32) (k0_t9 : Fin (k0_t9_loop v59_0 v62_0).trips) (k0_t10 : Fin (k0_t10_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v565 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c1_i32_94 : BitVec 32 := 1#32
  let arg15 : BitVec 32 := Scf.iv v167 c1_i32_94 k0_t10
  let c2016_i32 : BitVec 32 := 2016#32
  let v129 : BitVec 32 := Scalar.minsi v128 c2016_i32
  let v183 : BitVec 32 := Scalar.subi arg15 v129
  let v566 : Index := Scalar.indexCast v183
  let c496_161 : Index := 496#32
  ![v565.toNat, v566.toNat, 496]
def k0_off470 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v574 : Index := Scalar.indexCast v182
  let c0_163 : Index := 0#32
  ![v574.toNat, 0]

def k0_chk6_0 (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) : Prop :=
  (∀ (k0_h3 : k0_cond3 i v17 k0_t1 = 1#1), ∀ (k0_h17 : k0_cond17 arg16 v181 = 1#1), ∀ a, (k0_off341 v59_0 v62_0 k0_t9 k0_t10) a + S1x1x16.size a ≤ S2x32x512.size a) ∧
  (∀ (k0_h3 : k0_cond3 i v17 k0_t1 = 1#1), ∀ (k0_h17 : k0_cond17 arg16 v181 = 1#1), ∀ a, (k0_off342 i k0_t1 v181) a + S1x16.size a ≤ S128x512.size a) ∧
  (∀ (k0_h3 : k0_cond3 i v17 k0_t1 = 1#1), ∀ (k0_h17 : k0_cond17 arg16 v181 = 1#1), ∀ a, (k0_off343 v59_0 v62_0 k0_t9 k0_t10) a + S1x1x16.size a ≤ S2x32x512.size a) ∧
  (∀ (k0_h3 : k0_cond3 i v17 k0_t1 = 1#1), ∀ (k0_h17 : k0_cond17 arg16 v181 = 1#1), ∀ a, (k0_off344 i k0_t1 v181) a + S1x16.size a ≤ S128x512.size a) ∧
  (∀ (k0_h3 : k0_cond3 i v17 k0_t1 = 1#1), ∀ (k0_h17 : k0_cond17 arg16 v181 = 1#1), ∀ a, (k0_off345 v59_0 v62_0 k0_t9 k0_t10) a + S1x1x16.size a ≤ S2x32x512.size a) ∧
  (∀ (k0_h3 : k0_cond3 i v17 k0_t1 = 1#1), ∀ (k0_h17 : k0_cond17 arg16 v181 = 1#1), ∀ a, (k0_off346 i k0_t1 v181) a + S1x16.size a ≤ S128x512.size a) ∧
  (∀ (k0_h3 : k0_cond3 i v17 k0_t1 = 1#1), ∀ (k0_h17 : k0_cond17 arg16 v181 = 1#1), ∀ a, (k0_off347 v59_0 v62_0 k0_t9 k0_t10) a + S1x1x16.size a ≤ S2x32x512.size a) ∧
  (∀ (k0_h3 : k0_cond3 i v17 k0_t1 = 1#1), ∀ (k0_h17 : k0_cond17 arg16 v181 = 1#1), ∀ a, (k0_off348 i k0_t1 v181) a + S1x16.size a ≤ S128x512.size a) ∧
  (∀ (k0_h3 : k0_cond3 i v17 k0_t1 = 1#1), ∀ (k0_h17 : k0_cond17 arg16 v181 = 1#1), ∀ a, (k0_off349 v59_0 v62_0 k0_t9 k0_t10) a + S1x1x16.size a ≤ S2x32x512.size a) ∧
  (∀ (k0_h3 : k0_cond3 i v17 k0_t1 = 1#1), ∀ (k0_h17 : k0_cond17 arg16 v181 = 1#1), ∀ a, (k0_off350 i k0_t1 v181) a + S1x16.size a ≤ S128x512.size a) ∧
  (∀ (k0_h3 : k0_cond3 i v17 k0_t1 = 1#1), ∀ (k0_h17 : k0_cond17 arg16 v181 = 1#1), ∀ a, (k0_off351 v59_0 v62_0 k0_t9 k0_t10) a + S1x1x16.size a ≤ S2x32x512.size a) ∧
  (∀ (k0_h3 : k0_cond3 i v17 k0_t1 = 1#1), ∀ (k0_h17 : k0_cond17 arg16 v181 = 1#1), ∀ a, (k0_off352 i k0_t1 v181) a + S1x16.size a ≤ S128x512.size a) ∧
  (∀ (k0_h3 : k0_cond3 i v17 k0_t1 = 1#1), ∀ (k0_h17 : k0_cond17 arg16 v181 = 1#1), ∀ a, (k0_off353 v59_0 v62_0 k0_t9 k0_t10) a + S1x1x16.size a ≤ S2x32x512.size a) ∧
  (∀ (k0_h3 : k0_cond3 i v17 k0_t1 = 1#1), ∀ (k0_h17 : k0_cond17 arg16 v181 = 1#1), ∀ a, (k0_off354 i k0_t1 v181) a + S1x16.size a ≤ S128x512.size a) ∧
  (∀ (k0_h3 : k0_cond3 i v17 k0_t1 = 1#1), ∀ (k0_h17 : k0_cond17 arg16 v181 = 1#1), ∀ a, (k0_off355 v59_0 v62_0 k0_t9 k0_t10) a + S1x1x16.size a ≤ S2x32x512.size a) ∧
  (∀ (k0_h3 : k0_cond3 i v17 k0_t1 = 1#1), ∀ (k0_h17 : k0_cond17 arg16 v181 = 1#1), ∀ a, (k0_off356 i k0_t1 v181) a + S1x16.size a ≤ S128x512.size a) ∧
  (∀ (k0_h3 : k0_cond3 i v17 k0_t1 = 1#1), ∀ (k0_h17 : k0_cond17 arg16 v181 = 1#1), ∀ a, (k0_off357 v59_0 v62_0 k0_t9 k0_t10) a + S1x1x16.size a ≤ S2x32x512.size a) ∧
  (∀ (k0_h3 : k0_cond3 i v17 k0_t1 = 1#1), ∀ (k0_h17 : k0_cond17 arg16 v181 = 1#1), ∀ a, (k0_off358 i k0_t1 v181) a + S1x16.size a ≤ S128x512.size a) ∧
  (∀ (k0_h3 : k0_cond3 i v17 k0_t1 = 1#1), ∀ (k0_h17 : k0_cond17 arg16 v181 = 1#1), ∀ a, (k0_off359 v59_0 v62_0 k0_t9 k0_t10) a + S1x1x16.size a ≤ S2x32x512.size a) ∧
  (∀ (k0_h3 : k0_cond3 i v17 k0_t1 = 1#1), ∀ (k0_h17 : k0_cond17 arg16 v181 = 1#1), ∀ a, (k0_off360 i k0_t1 v181) a + S1x16.size a ≤ S128x512.size a) ∧
  (∀ (k0_h3 : k0_cond3 i v17 k0_t1 = 1#1), ∀ (k0_h17 : k0_cond17 arg16 v181 = 1#1), ∀ a, (k0_off361 v59_0 v62_0 k0_t9 k0_t10) a + S1x1x16.size a ≤ S2x32x512.size a) ∧
  (∀ (k0_h3 : k0_cond3 i v17 k0_t1 = 1#1), ∀ (k0_h17 : k0_cond17 arg16 v181 = 1#1), ∀ a, (k0_off362 i k0_t1 v181) a + S1x16.size a ≤ S128x512.size a) ∧
  (∀ (k0_h3 : k0_cond3 i v17 k0_t1 = 1#1), ∀ (k0_h17 : k0_cond17 arg16 v181 = 1#1), ∀ a, (k0_off363 v59_0 v62_0 k0_t9 k0_t10) a + S1x1x16.size a ≤ S2x32x512.size a) ∧
  (∀ (k0_h3 : k0_cond3 i v17 k0_t1 = 1#1), ∀ (k0_h17 : k0_cond17 arg16 v181 = 1#1), ∀ a, (k0_off364 i k0_t1 v181) a + S1x16.size a ≤ S128x512.size a) ∧
  (∀ (k0_h3 : k0_cond3 i v17 k0_t1 = 1#1), ∀ (k0_h17 : k0_cond17 arg16 v181 = 1#1), ∀ a, (k0_off365 v59_0 v62_0 k0_t9 k0_t10) a + S1x1x16.size a ≤ S2x32x512.size a) ∧
  (∀ (k0_h3 : k0_cond3 i v17 k0_t1 = 1#1), ∀ (k0_h17 : k0_cond17 arg16 v181 = 1#1), ∀ a, (k0_off366 i k0_t1 v181) a + S1x16.size a ≤ S128x512.size a) ∧
  (∀ (k0_h3 : k0_cond3 i v17 k0_t1 = 1#1), ∀ (k0_h17 : k0_cond17 arg16 v181 = 1#1), ∀ a, (k0_off367 v59_0 v62_0 k0_t9 k0_t10) a + S1x1x16.size a ≤ S2x32x512.size a) ∧
  (∀ (k0_h3 : k0_cond3 i v17 k0_t1 = 1#1), ∀ (k0_h17 : k0_cond17 arg16 v181 = 1#1), ∀ a, (k0_off368 i k0_t1 v181) a + S1x16.size a ≤ S128x512.size a) ∧
  (∀ (k0_h3 : k0_cond3 i v17 k0_t1 = 1#1), ∀ (k0_h17 : k0_cond17 arg16 v181 = 1#1), ∀ a, (k0_off369 v59_0 v62_0 k0_t9 k0_t10) a + S1x1x16.size a ≤ S2x32x512.size a) ∧
  (∀ (k0_h3 : k0_cond3 i v17 k0_t1 = 1#1), ∀ (k0_h17 : k0_cond17 arg16 v181 = 1#1), ∀ a, (k0_off370 i k0_t1 v181) a + S1x16.size a ≤ S128x512.size a) ∧
  (∀ (k0_h3 : k0_cond3 i v17 k0_t1 = 1#1), ∀ (k0_h17 : k0_cond17 arg16 v181 = 1#1), ∀ a, (k0_off371 v59_0 v62_0 k0_t9 k0_t10) a + S1x1x16.size a ≤ S2x32x512.size a) ∧
  (∀ (k0_h3 : k0_cond3 i v17 k0_t1 = 1#1), ∀ (k0_h17 : k0_cond17 arg16 v181 = 1#1), ∀ a, (k0_off372 i k0_t1 v181) a + S1x16.size a ≤ S128x512.size a)
def k0_chk6_1 (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) : Prop :=
  (∀ (k0_h3 : k0_cond3 i v17 k0_t1 = 1#1), ∀ (k0_h17 : k0_cond17 arg16 v181 = 1#1), ∀ a, (k0_off373 v59_0 v62_0 k0_t9 k0_t10) a + S1x1x16.size a ≤ S2x32x512.size a) ∧
  (∀ (k0_h3 : k0_cond3 i v17 k0_t1 = 1#1), ∀ (k0_h17 : k0_cond17 arg16 v181 = 1#1), ∀ a, (k0_off374 i k0_t1 v181) a + S1x16.size a ≤ S128x512.size a) ∧
  (∀ (k0_h3 : k0_cond3 i v17 k0_t1 = 1#1), ∀ (k0_h17 : k0_cond17 arg16 v181 = 1#1), ∀ a, (k0_off375 v59_0 v62_0 k0_t9 k0_t10) a + S1x1x16.size a ≤ S2x32x512.size a) ∧
  (∀ (k0_h3 : k0_cond3 i v17 k0_t1 = 1#1), ∀ (k0_h17 : k0_cond17 arg16 v181 = 1#1), ∀ a, (k0_off376 i k0_t1 v181) a + S1x16.size a ≤ S128x512.size a) ∧
  (∀ (k0_h3 : k0_cond3 i v17 k0_t1 = 1#1), ∀ (k0_h17 : k0_cond17 arg16 v181 = 1#1), ∀ a, (k0_off377 v59_0 v62_0 k0_t9 k0_t10) a + S1x1x16.size a ≤ S2x32x512.size a) ∧
  (∀ (k0_h3 : k0_cond3 i v17 k0_t1 = 1#1), ∀ (k0_h17 : k0_cond17 arg16 v181 = 1#1), ∀ a, (k0_off378 i k0_t1 v181) a + S1x16.size a ≤ S128x512.size a) ∧
  (∀ (k0_h3 : k0_cond3 i v17 k0_t1 = 1#1), ∀ (k0_h17 : k0_cond17 arg16 v181 = 1#1), ∀ a, (k0_off379 v59_0 v62_0 k0_t9 k0_t10) a + S1x1x16.size a ≤ S2x32x512.size a) ∧
  (∀ (k0_h3 : k0_cond3 i v17 k0_t1 = 1#1), ∀ (k0_h17 : k0_cond17 arg16 v181 = 1#1), ∀ a, (k0_off380 i k0_t1 v181) a + S1x16.size a ≤ S128x512.size a) ∧
  (∀ (k0_h3 : k0_cond3 i v17 k0_t1 = 1#1), ∀ (k0_h17 : k0_cond17 arg16 v181 = 1#1), ∀ a, (k0_off381 v59_0 v62_0 k0_t9 k0_t10) a + S1x1x16.size a ≤ S2x32x512.size a) ∧
  (∀ (k0_h3 : k0_cond3 i v17 k0_t1 = 1#1), ∀ (k0_h17 : k0_cond17 arg16 v181 = 1#1), ∀ a, (k0_off382 i k0_t1 v181) a + S1x16.size a ≤ S128x512.size a) ∧
  (∀ (k0_h3 : k0_cond3 i v17 k0_t1 = 1#1), ∀ (k0_h17 : k0_cond17 arg16 v181 = 1#1), ∀ a, (k0_off383 v59_0 v62_0 k0_t9 k0_t10) a + S1x1x16.size a ≤ S2x32x512.size a) ∧
  (∀ (k0_h3 : k0_cond3 i v17 k0_t1 = 1#1), ∀ (k0_h17 : k0_cond17 arg16 v181 = 1#1), ∀ a, (k0_off384 i k0_t1 v181) a + S1x16.size a ≤ S128x512.size a) ∧
  (∀ (k0_h3 : k0_cond3 i v17 k0_t1 = 1#1), ∀ (k0_h17 : k0_cond17 arg16 v181 = 1#1), ∀ a, (k0_off385 v59_0 v62_0 k0_t9 k0_t10) a + S1x1x16.size a ≤ S2x32x512.size a) ∧
  (∀ (k0_h3 : k0_cond3 i v17 k0_t1 = 1#1), ∀ (k0_h17 : k0_cond17 arg16 v181 = 1#1), ∀ a, (k0_off386 i k0_t1 v181) a + S1x16.size a ≤ S128x512.size a) ∧
  (∀ (k0_h3 : k0_cond3 i v17 k0_t1 = 1#1), ∀ (k0_h17 : k0_cond17 arg16 v181 = 1#1), ∀ a, (k0_off387 v59_0 v62_0 k0_t9 k0_t10) a + S1x1x16.size a ≤ S2x32x512.size a) ∧
  (∀ (k0_h3 : k0_cond3 i v17 k0_t1 = 1#1), ∀ (k0_h17 : k0_cond17 arg16 v181 = 1#1), ∀ a, (k0_off388 i k0_t1 v181) a + S1x16.size a ≤ S128x512.size a) ∧
  (∀ (k0_h3 : k0_cond3 i v17 k0_t1 = 1#1), ∀ (k0_h17 : k0_cond17 arg16 v181 = 1#1), ∀ a, (k0_off389 v59_0 v62_0 k0_t9 k0_t10) a + S1x1x16.size a ≤ S2x32x512.size a) ∧
  (∀ (k0_h3 : k0_cond3 i v17 k0_t1 = 1#1), ∀ (k0_h17 : k0_cond17 arg16 v181 = 1#1), ∀ a, (k0_off390 i k0_t1 v181) a + S1x16.size a ≤ S128x512.size a) ∧
  (∀ (k0_h3 : k0_cond3 i v17 k0_t1 = 1#1), ∀ (k0_h17 : k0_cond17 arg16 v181 = 1#1), ∀ a, (k0_off391 v59_0 v62_0 k0_t9 k0_t10) a + S1x1x16.size a ≤ S2x32x512.size a) ∧
  (∀ (k0_h3 : k0_cond3 i v17 k0_t1 = 1#1), ∀ (k0_h17 : k0_cond17 arg16 v181 = 1#1), ∀ a, (k0_off392 i k0_t1 v181) a + S1x16.size a ≤ S128x512.size a) ∧
  (∀ (k0_h3 : k0_cond3 i v17 k0_t1 = 1#1), ∀ (k0_h17 : k0_cond17 arg16 v181 = 1#1), ∀ a, (k0_off393 v59_0 v62_0 k0_t9 k0_t10) a + S1x1x16.size a ≤ S2x32x512.size a) ∧
  (∀ (k0_h3 : k0_cond3 i v17 k0_t1 = 1#1), ∀ (k0_h17 : k0_cond17 arg16 v181 = 1#1), ∀ a, (k0_off394 i k0_t1 v181) a + S1x16.size a ≤ S128x512.size a) ∧
  (∀ (k0_h3 : k0_cond3 i v17 k0_t1 = 1#1), ∀ (k0_h17 : k0_cond17 arg16 v181 = 1#1), ∀ a, (k0_off395 v59_0 v62_0 k0_t9 k0_t10) a + S1x1x16.size a ≤ S2x32x512.size a) ∧
  (∀ (k0_h3 : k0_cond3 i v17 k0_t1 = 1#1), ∀ (k0_h17 : k0_cond17 arg16 v181 = 1#1), ∀ a, (k0_off396 i k0_t1 v181) a + S1x16.size a ≤ S128x512.size a) ∧
  (∀ (k0_h3 : k0_cond3 i v17 k0_t1 = 1#1), ∀ (k0_h17 : k0_cond17 arg16 v181 = 1#1), ∀ a, (k0_off397 v59_0 v62_0 k0_t9 k0_t10) a + S1x1x16.size a ≤ S2x32x512.size a) ∧
  (∀ (k0_h3 : k0_cond3 i v17 k0_t1 = 1#1), ∀ (k0_h17 : k0_cond17 arg16 v181 = 1#1), ∀ a, (k0_off398 i k0_t1 v181) a + S1x16.size a ≤ S128x512.size a) ∧
  (∀ (k0_h3 : k0_cond3 i v17 k0_t1 = 1#1), ∀ (k0_h17 : k0_cond17 arg16 v181 = 1#1), ∀ a, (k0_off399 v59_0 v62_0 k0_t9 k0_t10) a + S1x1x16.size a ≤ S2x32x512.size a) ∧
  (∀ (k0_h3 : k0_cond3 i v17 k0_t1 = 1#1), ∀ (k0_h17 : k0_cond17 arg16 v181 = 1#1), ∀ a, (k0_off400 i k0_t1 v181) a + S1x16.size a ≤ S128x512.size a) ∧
  (∀ (k0_h3 : k0_cond3 i v17 k0_t1 = 1#1), ∀ (k0_h17 : k0_cond17 arg16 v181 = 1#1), ∀ a, (k0_off401 v59_0 v62_0 k0_t9 k0_t10) a + S1x1x16.size a ≤ S2x32x512.size a) ∧
  (∀ (k0_h3 : k0_cond3 i v17 k0_t1 = 1#1), ∀ (k0_h17 : k0_cond17 arg16 v181 = 1#1), ∀ a, (k0_off402 i k0_t1 v181) a + S1x16.size a ≤ S128x512.size a) ∧
  (∀ (k0_h3 : k0_cond3 i v17 k0_t1 = 1#1), ∀ (k0_h17 : k0_cond17 arg16 v181 = 1#1), ∀ a, (k0_off403 v59_0 v62_0 k0_t9 k0_t10) a + S1x1x16.size a ≤ S2x32x512.size a) ∧
  (∀ (k0_h3 : k0_cond3 i v17 k0_t1 = 1#1), ∀ (k0_h17 : k0_cond17 arg16 v181 = 1#1), ∀ a, (k0_off404 i k0_t1 v181) a + S1x16.size a ≤ S128x512.size a)
def k0_chk6_2 (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) : Prop :=
  (∀ (k0_h3 : k0_cond3 i v17 k0_t1 = 1#1), ∀ (k0_h17 : k0_cond17 arg16 v181 = 1#1), ∀ a, (k0_off405 i k0_t1 v181) a + S1x16.size a ≤ S128x16.size a) ∧
  (∀ (k0_h3 : k0_cond3 i v17 k0_t1 = 1#1), ∀ (k0_h18 : k0_cond18 arg16 v181 = 1#1), ∀ a, (k0_off406 i k0_t1 v181) a + S1x16.size a ≤ S128x512.size a) ∧
  (∀ (k0_h3 : k0_cond3 i v17 k0_t1 = 1#1), ∀ (k0_h18 : k0_cond18 arg16 v181 = 1#1), ∀ a, (k0_off407 v59_0 v62_0 k0_t9 k0_t10) a + S1x1x16.size a ≤ S2x32x512.size a) ∧
  (∀ (k0_h3 : k0_cond3 i v17 k0_t1 = 1#1), ∀ (k0_h18 : k0_cond18 arg16 v181 = 1#1), ∀ a, (k0_off408 i k0_t1 v181) a + S1x16.size a ≤ S128x512.size a) ∧
  (∀ (k0_h3 : k0_cond3 i v17 k0_t1 = 1#1), ∀ (k0_h18 : k0_cond18 arg16 v181 = 1#1), ∀ a, (k0_off409 v59_0 v62_0 k0_t9 k0_t10) a + S1x1x16.size a ≤ S2x32x512.size a) ∧
  (∀ (k0_h3 : k0_cond3 i v17 k0_t1 = 1#1), ∀ (k0_h18 : k0_cond18 arg16 v181 = 1#1), ∀ a, (k0_off410 i k0_t1 v181) a + S1x16.size a ≤ S128x512.size a) ∧
  (∀ (k0_h3 : k0_cond3 i v17 k0_t1 = 1#1), ∀ (k0_h18 : k0_cond18 arg16 v181 = 1#1), ∀ a, (k0_off411 v59_0 v62_0 k0_t9 k0_t10) a + S1x1x16.size a ≤ S2x32x512.size a) ∧
  (∀ (k0_h3 : k0_cond3 i v17 k0_t1 = 1#1), ∀ (k0_h18 : k0_cond18 arg16 v181 = 1#1), ∀ a, (k0_off412 i k0_t1 v181) a + S1x16.size a ≤ S128x512.size a) ∧
  (∀ (k0_h3 : k0_cond3 i v17 k0_t1 = 1#1), ∀ (k0_h18 : k0_cond18 arg16 v181 = 1#1), ∀ a, (k0_off413 v59_0 v62_0 k0_t9 k0_t10) a + S1x1x16.size a ≤ S2x32x512.size a) ∧
  (∀ (k0_h3 : k0_cond3 i v17 k0_t1 = 1#1), ∀ (k0_h18 : k0_cond18 arg16 v181 = 1#1), ∀ a, (k0_off414 i k0_t1 v181) a + S1x16.size a ≤ S128x512.size a) ∧
  (∀ (k0_h3 : k0_cond3 i v17 k0_t1 = 1#1), ∀ (k0_h18 : k0_cond18 arg16 v181 = 1#1), ∀ a, (k0_off415 v59_0 v62_0 k0_t9 k0_t10) a + S1x1x16.size a ≤ S2x32x512.size a) ∧
  (∀ (k0_h3 : k0_cond3 i v17 k0_t1 = 1#1), ∀ (k0_h18 : k0_cond18 arg16 v181 = 1#1), ∀ a, (k0_off416 i k0_t1 v181) a + S1x16.size a ≤ S128x512.size a) ∧
  (∀ (k0_h3 : k0_cond3 i v17 k0_t1 = 1#1), ∀ (k0_h18 : k0_cond18 arg16 v181 = 1#1), ∀ a, (k0_off417 v59_0 v62_0 k0_t9 k0_t10) a + S1x1x16.size a ≤ S2x32x512.size a) ∧
  (∀ (k0_h3 : k0_cond3 i v17 k0_t1 = 1#1), ∀ (k0_h18 : k0_cond18 arg16 v181 = 1#1), ∀ a, (k0_off418 i k0_t1 v181) a + S1x16.size a ≤ S128x512.size a) ∧
  (∀ (k0_h3 : k0_cond3 i v17 k0_t1 = 1#1), ∀ (k0_h18 : k0_cond18 arg16 v181 = 1#1), ∀ a, (k0_off419 v59_0 v62_0 k0_t9 k0_t10) a + S1x1x16.size a ≤ S2x32x512.size a) ∧
  (∀ (k0_h3 : k0_cond3 i v17 k0_t1 = 1#1), ∀ (k0_h18 : k0_cond18 arg16 v181 = 1#1), ∀ a, (k0_off420 i k0_t1 v181) a + S1x16.size a ≤ S128x512.size a) ∧
  (∀ (k0_h3 : k0_cond3 i v17 k0_t1 = 1#1), ∀ (k0_h18 : k0_cond18 arg16 v181 = 1#1), ∀ a, (k0_off421 v59_0 v62_0 k0_t9 k0_t10) a + S1x1x16.size a ≤ S2x32x512.size a) ∧
  (∀ (k0_h3 : k0_cond3 i v17 k0_t1 = 1#1), ∀ (k0_h18 : k0_cond18 arg16 v181 = 1#1), ∀ a, (k0_off422 i k0_t1 v181) a + S1x16.size a ≤ S128x512.size a) ∧
  (∀ (k0_h3 : k0_cond3 i v17 k0_t1 = 1#1), ∀ (k0_h18 : k0_cond18 arg16 v181 = 1#1), ∀ a, (k0_off423 v59_0 v62_0 k0_t9 k0_t10) a + S1x1x16.size a ≤ S2x32x512.size a) ∧
  (∀ (k0_h3 : k0_cond3 i v17 k0_t1 = 1#1), ∀ (k0_h18 : k0_cond18 arg16 v181 = 1#1), ∀ a, (k0_off424 i k0_t1 v181) a + S1x16.size a ≤ S128x512.size a) ∧
  (∀ (k0_h3 : k0_cond3 i v17 k0_t1 = 1#1), ∀ (k0_h18 : k0_cond18 arg16 v181 = 1#1), ∀ a, (k0_off425 v59_0 v62_0 k0_t9 k0_t10) a + S1x1x16.size a ≤ S2x32x512.size a) ∧
  (∀ (k0_h3 : k0_cond3 i v17 k0_t1 = 1#1), ∀ (k0_h18 : k0_cond18 arg16 v181 = 1#1), ∀ a, (k0_off426 i k0_t1 v181) a + S1x16.size a ≤ S128x512.size a) ∧
  (∀ (k0_h3 : k0_cond3 i v17 k0_t1 = 1#1), ∀ (k0_h18 : k0_cond18 arg16 v181 = 1#1), ∀ a, (k0_off427 v59_0 v62_0 k0_t9 k0_t10) a + S1x1x16.size a ≤ S2x32x512.size a) ∧
  (∀ (k0_h3 : k0_cond3 i v17 k0_t1 = 1#1), ∀ (k0_h18 : k0_cond18 arg16 v181 = 1#1), ∀ a, (k0_off428 i k0_t1 v181) a + S1x16.size a ≤ S128x512.size a) ∧
  (∀ (k0_h3 : k0_cond3 i v17 k0_t1 = 1#1), ∀ (k0_h18 : k0_cond18 arg16 v181 = 1#1), ∀ a, (k0_off429 v59_0 v62_0 k0_t9 k0_t10) a + S1x1x16.size a ≤ S2x32x512.size a) ∧
  (∀ (k0_h3 : k0_cond3 i v17 k0_t1 = 1#1), ∀ (k0_h18 : k0_cond18 arg16 v181 = 1#1), ∀ a, (k0_off430 i k0_t1 v181) a + S1x16.size a ≤ S128x512.size a) ∧
  (∀ (k0_h3 : k0_cond3 i v17 k0_t1 = 1#1), ∀ (k0_h18 : k0_cond18 arg16 v181 = 1#1), ∀ a, (k0_off431 v59_0 v62_0 k0_t9 k0_t10) a + S1x1x16.size a ≤ S2x32x512.size a) ∧
  (∀ (k0_h3 : k0_cond3 i v17 k0_t1 = 1#1), ∀ (k0_h18 : k0_cond18 arg16 v181 = 1#1), ∀ a, (k0_off432 i k0_t1 v181) a + S1x16.size a ≤ S128x512.size a) ∧
  (∀ (k0_h3 : k0_cond3 i v17 k0_t1 = 1#1), ∀ (k0_h18 : k0_cond18 arg16 v181 = 1#1), ∀ a, (k0_off433 v59_0 v62_0 k0_t9 k0_t10) a + S1x1x16.size a ≤ S2x32x512.size a) ∧
  (∀ (k0_h3 : k0_cond3 i v17 k0_t1 = 1#1), ∀ (k0_h18 : k0_cond18 arg16 v181 = 1#1), ∀ a, (k0_off434 i k0_t1 v181) a + S1x16.size a ≤ S128x512.size a) ∧
  (∀ (k0_h3 : k0_cond3 i v17 k0_t1 = 1#1), ∀ (k0_h18 : k0_cond18 arg16 v181 = 1#1), ∀ a, (k0_off435 v59_0 v62_0 k0_t9 k0_t10) a + S1x1x16.size a ≤ S2x32x512.size a) ∧
  (∀ (k0_h3 : k0_cond3 i v17 k0_t1 = 1#1), ∀ (k0_h18 : k0_cond18 arg16 v181 = 1#1), ∀ a, (k0_off436 i k0_t1 v181) a + S1x16.size a ≤ S128x512.size a)
def k0_chk6_3 (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) : Prop :=
  (∀ (k0_h3 : k0_cond3 i v17 k0_t1 = 1#1), ∀ (k0_h18 : k0_cond18 arg16 v181 = 1#1), ∀ a, (k0_off437 v59_0 v62_0 k0_t9 k0_t10) a + S1x1x16.size a ≤ S2x32x512.size a) ∧
  (∀ (k0_h3 : k0_cond3 i v17 k0_t1 = 1#1), ∀ (k0_h18 : k0_cond18 arg16 v181 = 1#1), ∀ a, (k0_off438 i k0_t1 v181) a + S1x16.size a ≤ S128x512.size a) ∧
  (∀ (k0_h3 : k0_cond3 i v17 k0_t1 = 1#1), ∀ (k0_h18 : k0_cond18 arg16 v181 = 1#1), ∀ a, (k0_off439 v59_0 v62_0 k0_t9 k0_t10) a + S1x1x16.size a ≤ S2x32x512.size a) ∧
  (∀ (k0_h3 : k0_cond3 i v17 k0_t1 = 1#1), ∀ (k0_h18 : k0_cond18 arg16 v181 = 1#1), ∀ a, (k0_off440 i k0_t1 v181) a + S1x16.size a ≤ S128x512.size a) ∧
  (∀ (k0_h3 : k0_cond3 i v17 k0_t1 = 1#1), ∀ (k0_h18 : k0_cond18 arg16 v181 = 1#1), ∀ a, (k0_off441 v59_0 v62_0 k0_t9 k0_t10) a + S1x1x16.size a ≤ S2x32x512.size a) ∧
  (∀ (k0_h3 : k0_cond3 i v17 k0_t1 = 1#1), ∀ (k0_h18 : k0_cond18 arg16 v181 = 1#1), ∀ a, (k0_off442 i k0_t1 v181) a + S1x16.size a ≤ S128x512.size a) ∧
  (∀ (k0_h3 : k0_cond3 i v17 k0_t1 = 1#1), ∀ (k0_h18 : k0_cond18 arg16 v181 = 1#1), ∀ a, (k0_off443 v59_0 v62_0 k0_t9 k0_t10) a + S1x1x16.size a ≤ S2x32x512.size a) ∧
  (∀ (k0_h3 : k0_cond3 i v17 k0_t1 = 1#1), ∀ (k0_h18 : k0_cond18 arg16 v181 = 1#1), ∀ a, (k0_off444 i k0_t1 v181) a + S1x16.size a ≤ S128x512.size a) ∧
  (∀ (k0_h3 : k0_cond3 i v17 k0_t1 = 1#1), ∀ (k0_h18 : k0_cond18 arg16 v181 = 1#1), ∀ a, (k0_off445 v59_0 v62_0 k0_t9 k0_t10) a + S1x1x16.size a ≤ S2x32x512.size a) ∧
  (∀ (k0_h3 : k0_cond3 i v17 k0_t1 = 1#1), ∀ (k0_h18 : k0_cond18 arg16 v181 = 1#1), ∀ a, (k0_off446 i k0_t1 v181) a + S1x16.size a ≤ S128x512.size a) ∧
  (∀ (k0_h3 : k0_cond3 i v17 k0_t1 = 1#1), ∀ (k0_h18 : k0_cond18 arg16 v181 = 1#1), ∀ a, (k0_off447 v59_0 v62_0 k0_t9 k0_t10) a + S1x1x16.size a ≤ S2x32x512.size a) ∧
  (∀ (k0_h3 : k0_cond3 i v17 k0_t1 = 1#1), ∀ (k0_h18 : k0_cond18 arg16 v181 = 1#1), ∀ a, (k0_off448 i k0_t1 v181) a + S1x16.size a ≤ S128x512.size a) ∧
  (∀ (k0_h3 : k0_cond3 i v17 k0_t1 = 1#1), ∀ (k0_h18 : k0_cond18 arg16 v181 = 1#1), ∀ a, (k0_off449 v59_0 v62_0 k0_t9 k0_t10) a + S1x1x16.size a ≤ S2x32x512.size a) ∧
  (∀ (k0_h3 : k0_cond3 i v17 k0_t1 = 1#1), ∀ (k0_h18 : k0_cond18 arg16 v181 = 1#1), ∀ a, (k0_off450 i k0_t1 v181) a + S1x16.size a ≤ S128x512.size a) ∧
  (∀ (k0_h3 : k0_cond3 i v17 k0_t1 = 1#1), ∀ (k0_h18 : k0_cond18 arg16 v181 = 1#1), ∀ a, (k0_off451 v59_0 v62_0 k0_t9 k0_t10) a + S1x1x16.size a ≤ S2x32x512.size a) ∧
  (∀ (k0_h3 : k0_cond3 i v17 k0_t1 = 1#1), ∀ (k0_h18 : k0_cond18 arg16 v181 = 1#1), ∀ a, (k0_off452 i k0_t1 v181) a + S1x16.size a ≤ S128x512.size a) ∧
  (∀ (k0_h3 : k0_cond3 i v17 k0_t1 = 1#1), ∀ (k0_h18 : k0_cond18 arg16 v181 = 1#1), ∀ a, (k0_off453 v59_0 v62_0 k0_t9 k0_t10) a + S1x1x16.size a ≤ S2x32x512.size a) ∧
  (∀ (k0_h3 : k0_cond3 i v17 k0_t1 = 1#1), ∀ (k0_h18 : k0_cond18 arg16 v181 = 1#1), ∀ a, (k0_off454 i k0_t1 v181) a + S1x16.size a ≤ S128x512.size a) ∧
  (∀ (k0_h3 : k0_cond3 i v17 k0_t1 = 1#1), ∀ (k0_h18 : k0_cond18 arg16 v181 = 1#1), ∀ a, (k0_off455 v59_0 v62_0 k0_t9 k0_t10) a + S1x1x16.size a ≤ S2x32x512.size a) ∧
  (∀ (k0_h3 : k0_cond3 i v17 k0_t1 = 1#1), ∀ (k0_h18 : k0_cond18 arg16 v181 = 1#1), ∀ a, (k0_off456 i k0_t1 v181) a + S1x16.size a ≤ S128x512.size a) ∧
  (∀ (k0_h3 : k0_cond3 i v17 k0_t1 = 1#1), ∀ (k0_h18 : k0_cond18 arg16 v181 = 1#1), ∀ a, (k0_off457 v59_0 v62_0 k0_t9 k0_t10) a + S1x1x16.size a ≤ S2x32x512.size a) ∧
  (∀ (k0_h3 : k0_cond3 i v17 k0_t1 = 1#1), ∀ (k0_h18 : k0_cond18 arg16 v181 = 1#1), ∀ a, (k0_off458 i k0_t1 v181) a + S1x16.size a ≤ S128x512.size a) ∧
  (∀ (k0_h3 : k0_cond3 i v17 k0_t1 = 1#1), ∀ (k0_h18 : k0_cond18 arg16 v181 = 1#1), ∀ a, (k0_off459 v59_0 v62_0 k0_t9 k0_t10) a + S1x1x16.size a ≤ S2x32x512.size a) ∧
  (∀ (k0_h3 : k0_cond3 i v17 k0_t1 = 1#1), ∀ (k0_h18 : k0_cond18 arg16 v181 = 1#1), ∀ a, (k0_off460 i k0_t1 v181) a + S1x16.size a ≤ S128x512.size a) ∧
  (∀ (k0_h3 : k0_cond3 i v17 k0_t1 = 1#1), ∀ (k0_h18 : k0_cond18 arg16 v181 = 1#1), ∀ a, (k0_off461 v59_0 v62_0 k0_t9 k0_t10) a + S1x1x16.size a ≤ S2x32x512.size a) ∧
  (∀ (k0_h3 : k0_cond3 i v17 k0_t1 = 1#1), ∀ (k0_h18 : k0_cond18 arg16 v181 = 1#1), ∀ a, (k0_off462 i k0_t1 v181) a + S1x16.size a ≤ S128x512.size a) ∧
  (∀ (k0_h3 : k0_cond3 i v17 k0_t1 = 1#1), ∀ (k0_h18 : k0_cond18 arg16 v181 = 1#1), ∀ a, (k0_off463 v59_0 v62_0 k0_t9 k0_t10) a + S1x1x16.size a ≤ S2x32x512.size a) ∧
  (∀ (k0_h3 : k0_cond3 i v17 k0_t1 = 1#1), ∀ (k0_h18 : k0_cond18 arg16 v181 = 1#1), ∀ a, (k0_off464 i k0_t1 v181) a + S1x16.size a ≤ S128x512.size a) ∧
  (∀ (k0_h3 : k0_cond3 i v17 k0_t1 = 1#1), ∀ (k0_h18 : k0_cond18 arg16 v181 = 1#1), ∀ a, (k0_off465 v59_0 v62_0 k0_t9 k0_t10) a + S1x1x16.size a ≤ S2x32x512.size a) ∧
  (∀ (k0_h3 : k0_cond3 i v17 k0_t1 = 1#1), ∀ (k0_h18 : k0_cond18 arg16 v181 = 1#1), ∀ a, (k0_off466 i k0_t1 v181) a + S1x16.size a ≤ S128x512.size a) ∧
  (∀ (k0_h3 : k0_cond3 i v17 k0_t1 = 1#1), ∀ (k0_h18 : k0_cond18 arg16 v181 = 1#1), ∀ a, (k0_off467 v59_0 v62_0 k0_t9 k0_t10) a + S1x1x16.size a ≤ S2x32x512.size a) ∧
  (∀ (k0_h3 : k0_cond3 i v17 k0_t1 = 1#1), ∀ (k0_h18 : k0_cond18 arg16 v181 = 1#1), ∀ a, (k0_off468 i k0_t1 v181) a + S1x16.size a ≤ S128x512.size a)
def k0_chk6_4 (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) : Prop :=
  (∀ (k0_h3 : k0_cond3 i v17 k0_t1 = 1#1), ∀ (k0_h18 : k0_cond18 arg16 v181 = 1#1), ∀ a, (k0_off469 v59_0 v62_0 k0_t9 k0_t10) a + S1x1x16.size a ≤ S2x32x512.size a) ∧
  (∀ (k0_h3 : k0_cond3 i v17 k0_t1 = 1#1), ∀ (k0_h18 : k0_cond18 arg16 v181 = 1#1), ∀ a, (k0_off470 i k0_t1 v181) a + S1x16.size a ≤ S128x16.size a)
def k0_chk6 (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) : Prop :=
  k0_chk6_0 i v17 k0_t1 v59_0 v62_0 k0_t9 k0_t10 arg16 v181 ∧
  k0_chk6_1 i v17 k0_t1 v59_0 v62_0 k0_t9 k0_t10 arg16 v181 ∧
  k0_chk6_2 i v17 k0_t1 v59_0 v62_0 k0_t9 k0_t10 arg16 v181 ∧
  k0_chk6_3 i v17 k0_t1 v59_0 v62_0 k0_t9 k0_t10 arg16 v181 ∧
  k0_chk6_4 i v17 k0_t1 v59_0 v62_0 k0_t9 k0_t10 arg16 v181
theorem k0_off341_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off341 v59_0 v62_0 k0_t9 k0_t10) a + S1x1x16.size a ≤ S2x32x512.size a := fun i v17 k0_t1 v59_0 v62_0 k0_t9 k0_t10 arg16 v181 k0_hw6 k0_h3 k0_h17 => k0_hw6.1.1 k0_h3 k0_h17
theorem k0_off342_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off342 i k0_t1 v181) a + S1x16.size a ≤ S128x512.size a := fun i v17 k0_t1 v59_0 v62_0 k0_t9 k0_t10 arg16 v181 k0_hw6 k0_h3 k0_h17 => k0_hw6.1.2.1 k0_h3 k0_h17
theorem k0_off343_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off343 v59_0 v62_0 k0_t9 k0_t10) a + S1x1x16.size a ≤ S2x32x512.size a := fun i v17 k0_t1 v59_0 v62_0 k0_t9 k0_t10 arg16 v181 k0_hw6 k0_h3 k0_h17 => k0_hw6.1.2.2.1 k0_h3 k0_h17
theorem k0_off344_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off344 i k0_t1 v181) a + S1x16.size a ≤ S128x512.size a := fun i v17 k0_t1 v59_0 v62_0 k0_t9 k0_t10 arg16 v181 k0_hw6 k0_h3 k0_h17 => k0_hw6.1.2.2.2.1 k0_h3 k0_h17
theorem k0_off345_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off345 v59_0 v62_0 k0_t9 k0_t10) a + S1x1x16.size a ≤ S2x32x512.size a := fun i v17 k0_t1 v59_0 v62_0 k0_t9 k0_t10 arg16 v181 k0_hw6 k0_h3 k0_h17 => k0_hw6.1.2.2.2.2.1 k0_h3 k0_h17
theorem k0_off346_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off346 i k0_t1 v181) a + S1x16.size a ≤ S128x512.size a := fun i v17 k0_t1 v59_0 v62_0 k0_t9 k0_t10 arg16 v181 k0_hw6 k0_h3 k0_h17 => k0_hw6.1.2.2.2.2.2.1 k0_h3 k0_h17
theorem k0_off347_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off347 v59_0 v62_0 k0_t9 k0_t10) a + S1x1x16.size a ≤ S2x32x512.size a := fun i v17 k0_t1 v59_0 v62_0 k0_t9 k0_t10 arg16 v181 k0_hw6 k0_h3 k0_h17 => k0_hw6.1.2.2.2.2.2.2.1 k0_h3 k0_h17
theorem k0_off348_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off348 i k0_t1 v181) a + S1x16.size a ≤ S128x512.size a := fun i v17 k0_t1 v59_0 v62_0 k0_t9 k0_t10 arg16 v181 k0_hw6 k0_h3 k0_h17 => k0_hw6.1.2.2.2.2.2.2.2.1 k0_h3 k0_h17
theorem k0_off349_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off349 v59_0 v62_0 k0_t9 k0_t10) a + S1x1x16.size a ≤ S2x32x512.size a := fun i v17 k0_t1 v59_0 v62_0 k0_t9 k0_t10 arg16 v181 k0_hw6 k0_h3 k0_h17 => k0_hw6.1.2.2.2.2.2.2.2.2.1 k0_h3 k0_h17
theorem k0_off350_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off350 i k0_t1 v181) a + S1x16.size a ≤ S128x512.size a := fun i v17 k0_t1 v59_0 v62_0 k0_t9 k0_t10 arg16 v181 k0_hw6 k0_h3 k0_h17 => k0_hw6.1.2.2.2.2.2.2.2.2.2.1 k0_h3 k0_h17
theorem k0_off351_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off351 v59_0 v62_0 k0_t9 k0_t10) a + S1x1x16.size a ≤ S2x32x512.size a := fun i v17 k0_t1 v59_0 v62_0 k0_t9 k0_t10 arg16 v181 k0_hw6 k0_h3 k0_h17 => k0_hw6.1.2.2.2.2.2.2.2.2.2.2.1 k0_h3 k0_h17
theorem k0_off352_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off352 i k0_t1 v181) a + S1x16.size a ≤ S128x512.size a := fun i v17 k0_t1 v59_0 v62_0 k0_t9 k0_t10 arg16 v181 k0_hw6 k0_h3 k0_h17 => k0_hw6.1.2.2.2.2.2.2.2.2.2.2.2.1 k0_h3 k0_h17
theorem k0_off353_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off353 v59_0 v62_0 k0_t9 k0_t10) a + S1x1x16.size a ≤ S2x32x512.size a := fun i v17 k0_t1 v59_0 v62_0 k0_t9 k0_t10 arg16 v181 k0_hw6 k0_h3 k0_h17 => k0_hw6.1.2.2.2.2.2.2.2.2.2.2.2.2.1 k0_h3 k0_h17
theorem k0_off354_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off354 i k0_t1 v181) a + S1x16.size a ≤ S128x512.size a := fun i v17 k0_t1 v59_0 v62_0 k0_t9 k0_t10 arg16 v181 k0_hw6 k0_h3 k0_h17 => k0_hw6.1.2.2.2.2.2.2.2.2.2.2.2.2.2.1 k0_h3 k0_h17
theorem k0_off355_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off355 v59_0 v62_0 k0_t9 k0_t10) a + S1x1x16.size a ≤ S2x32x512.size a := fun i v17 k0_t1 v59_0 v62_0 k0_t9 k0_t10 arg16 v181 k0_hw6 k0_h3 k0_h17 => k0_hw6.1.2.2.2.2.2.2.2.2.2.2.2.2.2.2.1 k0_h3 k0_h17
theorem k0_off356_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off356 i k0_t1 v181) a + S1x16.size a ≤ S128x512.size a := fun i v17 k0_t1 v59_0 v62_0 k0_t9 k0_t10 arg16 v181 k0_hw6 k0_h3 k0_h17 => k0_hw6.1.2.2.2.2.2.2.2.2.2.2.2.2.2.2.2.1 k0_h3 k0_h17
theorem k0_off357_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off357 v59_0 v62_0 k0_t9 k0_t10) a + S1x1x16.size a ≤ S2x32x512.size a := fun i v17 k0_t1 v59_0 v62_0 k0_t9 k0_t10 arg16 v181 k0_hw6 k0_h3 k0_h17 => k0_hw6.1.2.2.2.2.2.2.2.2.2.2.2.2.2.2.2.2.1 k0_h3 k0_h17
theorem k0_off358_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off358 i k0_t1 v181) a + S1x16.size a ≤ S128x512.size a := fun i v17 k0_t1 v59_0 v62_0 k0_t9 k0_t10 arg16 v181 k0_hw6 k0_h3 k0_h17 => k0_hw6.1.2.2.2.2.2.2.2.2.2.2.2.2.2.2.2.2.2.1 k0_h3 k0_h17
theorem k0_off359_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off359 v59_0 v62_0 k0_t9 k0_t10) a + S1x1x16.size a ≤ S2x32x512.size a := fun i v17 k0_t1 v59_0 v62_0 k0_t9 k0_t10 arg16 v181 k0_hw6 k0_h3 k0_h17 => k0_hw6.1.2.2.2.2.2.2.2.2.2.2.2.2.2.2.2.2.2.2.1 k0_h3 k0_h17
theorem k0_off360_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off360 i k0_t1 v181) a + S1x16.size a ≤ S128x512.size a := fun i v17 k0_t1 v59_0 v62_0 k0_t9 k0_t10 arg16 v181 k0_hw6 k0_h3 k0_h17 => k0_hw6.1.2.2.2.2.2.2.2.2.2.2.2.2.2.2.2.2.2.2.2.1 k0_h3 k0_h17
theorem k0_off361_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off361 v59_0 v62_0 k0_t9 k0_t10) a + S1x1x16.size a ≤ S2x32x512.size a := fun i v17 k0_t1 v59_0 v62_0 k0_t9 k0_t10 arg16 v181 k0_hw6 k0_h3 k0_h17 => k0_hw6.1.2.2.2.2.2.2.2.2.2.2.2.2.2.2.2.2.2.2.2.2.1 k0_h3 k0_h17
theorem k0_off362_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off362 i k0_t1 v181) a + S1x16.size a ≤ S128x512.size a := fun i v17 k0_t1 v59_0 v62_0 k0_t9 k0_t10 arg16 v181 k0_hw6 k0_h3 k0_h17 => k0_hw6.1.2.2.2.2.2.2.2.2.2.2.2.2.2.2.2.2.2.2.2.2.2.1 k0_h3 k0_h17
theorem k0_off363_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off363 v59_0 v62_0 k0_t9 k0_t10) a + S1x1x16.size a ≤ S2x32x512.size a := fun i v17 k0_t1 v59_0 v62_0 k0_t9 k0_t10 arg16 v181 k0_hw6 k0_h3 k0_h17 => k0_hw6.1.2.2.2.2.2.2.2.2.2.2.2.2.2.2.2.2.2.2.2.2.2.2.1 k0_h3 k0_h17
theorem k0_off364_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off364 i k0_t1 v181) a + S1x16.size a ≤ S128x512.size a := fun i v17 k0_t1 v59_0 v62_0 k0_t9 k0_t10 arg16 v181 k0_hw6 k0_h3 k0_h17 => k0_hw6.1.2.2.2.2.2.2.2.2.2.2.2.2.2.2.2.2.2.2.2.2.2.2.2.1 k0_h3 k0_h17
theorem k0_off365_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off365 v59_0 v62_0 k0_t9 k0_t10) a + S1x1x16.size a ≤ S2x32x512.size a := fun i v17 k0_t1 v59_0 v62_0 k0_t9 k0_t10 arg16 v181 k0_hw6 k0_h3 k0_h17 => k0_hw6.1.2.2.2.2.2.2.2.2.2.2.2.2.2.2.2.2.2.2.2.2.2.2.2.2.1 k0_h3 k0_h17
theorem k0_off366_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off366 i k0_t1 v181) a + S1x16.size a ≤ S128x512.size a := fun i v17 k0_t1 v59_0 v62_0 k0_t9 k0_t10 arg16 v181 k0_hw6 k0_h3 k0_h17 => k0_hw6.1.2.2.2.2.2.2.2.2.2.2.2.2.2.2.2.2.2.2.2.2.2.2.2.2.2.1 k0_h3 k0_h17
theorem k0_off367_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off367 v59_0 v62_0 k0_t9 k0_t10) a + S1x1x16.size a ≤ S2x32x512.size a := fun i v17 k0_t1 v59_0 v62_0 k0_t9 k0_t10 arg16 v181 k0_hw6 k0_h3 k0_h17 => k0_hw6.1.2.2.2.2.2.2.2.2.2.2.2.2.2.2.2.2.2.2.2.2.2.2.2.2.2.2.1 k0_h3 k0_h17
theorem k0_off368_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off368 i k0_t1 v181) a + S1x16.size a ≤ S128x512.size a := fun i v17 k0_t1 v59_0 v62_0 k0_t9 k0_t10 arg16 v181 k0_hw6 k0_h3 k0_h17 => k0_hw6.1.2.2.2.2.2.2.2.2.2.2.2.2.2.2.2.2.2.2.2.2.2.2.2.2.2.2.2.1 k0_h3 k0_h17
theorem k0_off369_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off369 v59_0 v62_0 k0_t9 k0_t10) a + S1x1x16.size a ≤ S2x32x512.size a := fun i v17 k0_t1 v59_0 v62_0 k0_t9 k0_t10 arg16 v181 k0_hw6 k0_h3 k0_h17 => k0_hw6.1.2.2.2.2.2.2.2.2.2.2.2.2.2.2.2.2.2.2.2.2.2.2.2.2.2.2.2.2.1 k0_h3 k0_h17
theorem k0_off370_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off370 i k0_t1 v181) a + S1x16.size a ≤ S128x512.size a := fun i v17 k0_t1 v59_0 v62_0 k0_t9 k0_t10 arg16 v181 k0_hw6 k0_h3 k0_h17 => k0_hw6.1.2.2.2.2.2.2.2.2.2.2.2.2.2.2.2.2.2.2.2.2.2.2.2.2.2.2.2.2.2.1 k0_h3 k0_h17
theorem k0_off371_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off371 v59_0 v62_0 k0_t9 k0_t10) a + S1x1x16.size a ≤ S2x32x512.size a := fun i v17 k0_t1 v59_0 v62_0 k0_t9 k0_t10 arg16 v181 k0_hw6 k0_h3 k0_h17 => k0_hw6.1.2.2.2.2.2.2.2.2.2.2.2.2.2.2.2.2.2.2.2.2.2.2.2.2.2.2.2.2.2.2.1 k0_h3 k0_h17
theorem k0_off372_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off372 i k0_t1 v181) a + S1x16.size a ≤ S128x512.size a := fun i v17 k0_t1 v59_0 v62_0 k0_t9 k0_t10 arg16 v181 k0_hw6 k0_h3 k0_h17 => k0_hw6.1.2.2.2.2.2.2.2.2.2.2.2.2.2.2.2.2.2.2.2.2.2.2.2.2.2.2.2.2.2.2.2 k0_h3 k0_h17
theorem k0_off373_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off373 v59_0 v62_0 k0_t9 k0_t10) a + S1x1x16.size a ≤ S2x32x512.size a := fun i v17 k0_t1 v59_0 v62_0 k0_t9 k0_t10 arg16 v181 k0_hw6 k0_h3 k0_h17 => k0_hw6.2.1.1 k0_h3 k0_h17
theorem k0_off374_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off374 i k0_t1 v181) a + S1x16.size a ≤ S128x512.size a := fun i v17 k0_t1 v59_0 v62_0 k0_t9 k0_t10 arg16 v181 k0_hw6 k0_h3 k0_h17 => k0_hw6.2.1.2.1 k0_h3 k0_h17
theorem k0_off375_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off375 v59_0 v62_0 k0_t9 k0_t10) a + S1x1x16.size a ≤ S2x32x512.size a := fun i v17 k0_t1 v59_0 v62_0 k0_t9 k0_t10 arg16 v181 k0_hw6 k0_h3 k0_h17 => k0_hw6.2.1.2.2.1 k0_h3 k0_h17
theorem k0_off376_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off376 i k0_t1 v181) a + S1x16.size a ≤ S128x512.size a := fun i v17 k0_t1 v59_0 v62_0 k0_t9 k0_t10 arg16 v181 k0_hw6 k0_h3 k0_h17 => k0_hw6.2.1.2.2.2.1 k0_h3 k0_h17
theorem k0_off377_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off377 v59_0 v62_0 k0_t9 k0_t10) a + S1x1x16.size a ≤ S2x32x512.size a := fun i v17 k0_t1 v59_0 v62_0 k0_t9 k0_t10 arg16 v181 k0_hw6 k0_h3 k0_h17 => k0_hw6.2.1.2.2.2.2.1 k0_h3 k0_h17
theorem k0_off378_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off378 i k0_t1 v181) a + S1x16.size a ≤ S128x512.size a := fun i v17 k0_t1 v59_0 v62_0 k0_t9 k0_t10 arg16 v181 k0_hw6 k0_h3 k0_h17 => k0_hw6.2.1.2.2.2.2.2.1 k0_h3 k0_h17
theorem k0_off379_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off379 v59_0 v62_0 k0_t9 k0_t10) a + S1x1x16.size a ≤ S2x32x512.size a := fun i v17 k0_t1 v59_0 v62_0 k0_t9 k0_t10 arg16 v181 k0_hw6 k0_h3 k0_h17 => k0_hw6.2.1.2.2.2.2.2.2.1 k0_h3 k0_h17
theorem k0_off380_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off380 i k0_t1 v181) a + S1x16.size a ≤ S128x512.size a := fun i v17 k0_t1 v59_0 v62_0 k0_t9 k0_t10 arg16 v181 k0_hw6 k0_h3 k0_h17 => k0_hw6.2.1.2.2.2.2.2.2.2.1 k0_h3 k0_h17
theorem k0_off381_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off381 v59_0 v62_0 k0_t9 k0_t10) a + S1x1x16.size a ≤ S2x32x512.size a := fun i v17 k0_t1 v59_0 v62_0 k0_t9 k0_t10 arg16 v181 k0_hw6 k0_h3 k0_h17 => k0_hw6.2.1.2.2.2.2.2.2.2.2.1 k0_h3 k0_h17
theorem k0_off382_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off382 i k0_t1 v181) a + S1x16.size a ≤ S128x512.size a := fun i v17 k0_t1 v59_0 v62_0 k0_t9 k0_t10 arg16 v181 k0_hw6 k0_h3 k0_h17 => k0_hw6.2.1.2.2.2.2.2.2.2.2.2.1 k0_h3 k0_h17
theorem k0_off383_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off383 v59_0 v62_0 k0_t9 k0_t10) a + S1x1x16.size a ≤ S2x32x512.size a := fun i v17 k0_t1 v59_0 v62_0 k0_t9 k0_t10 arg16 v181 k0_hw6 k0_h3 k0_h17 => k0_hw6.2.1.2.2.2.2.2.2.2.2.2.2.1 k0_h3 k0_h17
theorem k0_off384_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off384 i k0_t1 v181) a + S1x16.size a ≤ S128x512.size a := fun i v17 k0_t1 v59_0 v62_0 k0_t9 k0_t10 arg16 v181 k0_hw6 k0_h3 k0_h17 => k0_hw6.2.1.2.2.2.2.2.2.2.2.2.2.2.1 k0_h3 k0_h17
theorem k0_off385_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off385 v59_0 v62_0 k0_t9 k0_t10) a + S1x1x16.size a ≤ S2x32x512.size a := fun i v17 k0_t1 v59_0 v62_0 k0_t9 k0_t10 arg16 v181 k0_hw6 k0_h3 k0_h17 => k0_hw6.2.1.2.2.2.2.2.2.2.2.2.2.2.2.1 k0_h3 k0_h17
theorem k0_off386_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off386 i k0_t1 v181) a + S1x16.size a ≤ S128x512.size a := fun i v17 k0_t1 v59_0 v62_0 k0_t9 k0_t10 arg16 v181 k0_hw6 k0_h3 k0_h17 => k0_hw6.2.1.2.2.2.2.2.2.2.2.2.2.2.2.2.1 k0_h3 k0_h17
theorem k0_off387_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off387 v59_0 v62_0 k0_t9 k0_t10) a + S1x1x16.size a ≤ S2x32x512.size a := fun i v17 k0_t1 v59_0 v62_0 k0_t9 k0_t10 arg16 v181 k0_hw6 k0_h3 k0_h17 => k0_hw6.2.1.2.2.2.2.2.2.2.2.2.2.2.2.2.2.1 k0_h3 k0_h17
theorem k0_off388_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off388 i k0_t1 v181) a + S1x16.size a ≤ S128x512.size a := fun i v17 k0_t1 v59_0 v62_0 k0_t9 k0_t10 arg16 v181 k0_hw6 k0_h3 k0_h17 => k0_hw6.2.1.2.2.2.2.2.2.2.2.2.2.2.2.2.2.2.1 k0_h3 k0_h17
theorem k0_off389_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off389 v59_0 v62_0 k0_t9 k0_t10) a + S1x1x16.size a ≤ S2x32x512.size a := fun i v17 k0_t1 v59_0 v62_0 k0_t9 k0_t10 arg16 v181 k0_hw6 k0_h3 k0_h17 => k0_hw6.2.1.2.2.2.2.2.2.2.2.2.2.2.2.2.2.2.2.1 k0_h3 k0_h17
theorem k0_off390_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off390 i k0_t1 v181) a + S1x16.size a ≤ S128x512.size a := fun i v17 k0_t1 v59_0 v62_0 k0_t9 k0_t10 arg16 v181 k0_hw6 k0_h3 k0_h17 => k0_hw6.2.1.2.2.2.2.2.2.2.2.2.2.2.2.2.2.2.2.2.1 k0_h3 k0_h17
theorem k0_off391_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off391 v59_0 v62_0 k0_t9 k0_t10) a + S1x1x16.size a ≤ S2x32x512.size a := fun i v17 k0_t1 v59_0 v62_0 k0_t9 k0_t10 arg16 v181 k0_hw6 k0_h3 k0_h17 => k0_hw6.2.1.2.2.2.2.2.2.2.2.2.2.2.2.2.2.2.2.2.2.1 k0_h3 k0_h17
theorem k0_off392_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off392 i k0_t1 v181) a + S1x16.size a ≤ S128x512.size a := fun i v17 k0_t1 v59_0 v62_0 k0_t9 k0_t10 arg16 v181 k0_hw6 k0_h3 k0_h17 => k0_hw6.2.1.2.2.2.2.2.2.2.2.2.2.2.2.2.2.2.2.2.2.2.1 k0_h3 k0_h17
theorem k0_off393_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off393 v59_0 v62_0 k0_t9 k0_t10) a + S1x1x16.size a ≤ S2x32x512.size a := fun i v17 k0_t1 v59_0 v62_0 k0_t9 k0_t10 arg16 v181 k0_hw6 k0_h3 k0_h17 => k0_hw6.2.1.2.2.2.2.2.2.2.2.2.2.2.2.2.2.2.2.2.2.2.2.1 k0_h3 k0_h17
theorem k0_off394_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off394 i k0_t1 v181) a + S1x16.size a ≤ S128x512.size a := fun i v17 k0_t1 v59_0 v62_0 k0_t9 k0_t10 arg16 v181 k0_hw6 k0_h3 k0_h17 => k0_hw6.2.1.2.2.2.2.2.2.2.2.2.2.2.2.2.2.2.2.2.2.2.2.2.1 k0_h3 k0_h17
theorem k0_off395_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off395 v59_0 v62_0 k0_t9 k0_t10) a + S1x1x16.size a ≤ S2x32x512.size a := fun i v17 k0_t1 v59_0 v62_0 k0_t9 k0_t10 arg16 v181 k0_hw6 k0_h3 k0_h17 => k0_hw6.2.1.2.2.2.2.2.2.2.2.2.2.2.2.2.2.2.2.2.2.2.2.2.2.1 k0_h3 k0_h17
theorem k0_off396_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off396 i k0_t1 v181) a + S1x16.size a ≤ S128x512.size a := fun i v17 k0_t1 v59_0 v62_0 k0_t9 k0_t10 arg16 v181 k0_hw6 k0_h3 k0_h17 => k0_hw6.2.1.2.2.2.2.2.2.2.2.2.2.2.2.2.2.2.2.2.2.2.2.2.2.2.1 k0_h3 k0_h17
theorem k0_off397_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off397 v59_0 v62_0 k0_t9 k0_t10) a + S1x1x16.size a ≤ S2x32x512.size a := fun i v17 k0_t1 v59_0 v62_0 k0_t9 k0_t10 arg16 v181 k0_hw6 k0_h3 k0_h17 => k0_hw6.2.1.2.2.2.2.2.2.2.2.2.2.2.2.2.2.2.2.2.2.2.2.2.2.2.2.1 k0_h3 k0_h17
theorem k0_off398_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off398 i k0_t1 v181) a + S1x16.size a ≤ S128x512.size a := fun i v17 k0_t1 v59_0 v62_0 k0_t9 k0_t10 arg16 v181 k0_hw6 k0_h3 k0_h17 => k0_hw6.2.1.2.2.2.2.2.2.2.2.2.2.2.2.2.2.2.2.2.2.2.2.2.2.2.2.2.1 k0_h3 k0_h17
theorem k0_off399_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off399 v59_0 v62_0 k0_t9 k0_t10) a + S1x1x16.size a ≤ S2x32x512.size a := fun i v17 k0_t1 v59_0 v62_0 k0_t9 k0_t10 arg16 v181 k0_hw6 k0_h3 k0_h17 => k0_hw6.2.1.2.2.2.2.2.2.2.2.2.2.2.2.2.2.2.2.2.2.2.2.2.2.2.2.2.2.1 k0_h3 k0_h17
theorem k0_off400_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off400 i k0_t1 v181) a + S1x16.size a ≤ S128x512.size a := fun i v17 k0_t1 v59_0 v62_0 k0_t9 k0_t10 arg16 v181 k0_hw6 k0_h3 k0_h17 => k0_hw6.2.1.2.2.2.2.2.2.2.2.2.2.2.2.2.2.2.2.2.2.2.2.2.2.2.2.2.2.2.1 k0_h3 k0_h17
theorem k0_off401_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off401 v59_0 v62_0 k0_t9 k0_t10) a + S1x1x16.size a ≤ S2x32x512.size a := fun i v17 k0_t1 v59_0 v62_0 k0_t9 k0_t10 arg16 v181 k0_hw6 k0_h3 k0_h17 => k0_hw6.2.1.2.2.2.2.2.2.2.2.2.2.2.2.2.2.2.2.2.2.2.2.2.2.2.2.2.2.2.2.1 k0_h3 k0_h17
theorem k0_off402_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off402 i k0_t1 v181) a + S1x16.size a ≤ S128x512.size a := fun i v17 k0_t1 v59_0 v62_0 k0_t9 k0_t10 arg16 v181 k0_hw6 k0_h3 k0_h17 => k0_hw6.2.1.2.2.2.2.2.2.2.2.2.2.2.2.2.2.2.2.2.2.2.2.2.2.2.2.2.2.2.2.2.1 k0_h3 k0_h17
theorem k0_off403_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off403 v59_0 v62_0 k0_t9 k0_t10) a + S1x1x16.size a ≤ S2x32x512.size a := fun i v17 k0_t1 v59_0 v62_0 k0_t9 k0_t10 arg16 v181 k0_hw6 k0_h3 k0_h17 => k0_hw6.2.1.2.2.2.2.2.2.2.2.2.2.2.2.2.2.2.2.2.2.2.2.2.2.2.2.2.2.2.2.2.2.1 k0_h3 k0_h17
theorem k0_off404_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off404 i k0_t1 v181) a + S1x16.size a ≤ S128x512.size a := fun i v17 k0_t1 v59_0 v62_0 k0_t9 k0_t10 arg16 v181 k0_hw6 k0_h3 k0_h17 => k0_hw6.2.1.2.2.2.2.2.2.2.2.2.2.2.2.2.2.2.2.2.2.2.2.2.2.2.2.2.2.2.2.2.2.2 k0_h3 k0_h17
theorem k0_off405_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h17 : k0_cond17 arg16 v181 = 1#1), ∀ a, (k0_off405 i k0_t1 v181) a + S1x16.size a ≤ S128x16.size a := fun i v17 k0_t1 v59_0 v62_0 k0_t9 k0_t10 arg16 v181 k0_hw6 k0_h3 k0_h17 => k0_hw6.2.2.1.1 k0_h3 k0_h17
theorem k0_off406_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off406 i k0_t1 v181) a + S1x16.size a ≤ S128x512.size a := fun i v17 k0_t1 v59_0 v62_0 k0_t9 k0_t10 arg16 v181 k0_hw6 k0_h3 k0_h18 => k0_hw6.2.2.1.2.1 k0_h3 k0_h18
theorem k0_off407_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off407 v59_0 v62_0 k0_t9 k0_t10) a + S1x1x16.size a ≤ S2x32x512.size a := fun i v17 k0_t1 v59_0 v62_0 k0_t9 k0_t10 arg16 v181 k0_hw6 k0_h3 k0_h18 => k0_hw6.2.2.1.2.2.1 k0_h3 k0_h18
theorem k0_off408_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off408 i k0_t1 v181) a + S1x16.size a ≤ S128x512.size a := fun i v17 k0_t1 v59_0 v62_0 k0_t9 k0_t10 arg16 v181 k0_hw6 k0_h3 k0_h18 => k0_hw6.2.2.1.2.2.2.1 k0_h3 k0_h18
theorem k0_off409_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off409 v59_0 v62_0 k0_t9 k0_t10) a + S1x1x16.size a ≤ S2x32x512.size a := fun i v17 k0_t1 v59_0 v62_0 k0_t9 k0_t10 arg16 v181 k0_hw6 k0_h3 k0_h18 => k0_hw6.2.2.1.2.2.2.2.1 k0_h3 k0_h18
theorem k0_off410_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off410 i k0_t1 v181) a + S1x16.size a ≤ S128x512.size a := fun i v17 k0_t1 v59_0 v62_0 k0_t9 k0_t10 arg16 v181 k0_hw6 k0_h3 k0_h18 => k0_hw6.2.2.1.2.2.2.2.2.1 k0_h3 k0_h18
theorem k0_off411_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off411 v59_0 v62_0 k0_t9 k0_t10) a + S1x1x16.size a ≤ S2x32x512.size a := fun i v17 k0_t1 v59_0 v62_0 k0_t9 k0_t10 arg16 v181 k0_hw6 k0_h3 k0_h18 => k0_hw6.2.2.1.2.2.2.2.2.2.1 k0_h3 k0_h18
theorem k0_off412_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off412 i k0_t1 v181) a + S1x16.size a ≤ S128x512.size a := fun i v17 k0_t1 v59_0 v62_0 k0_t9 k0_t10 arg16 v181 k0_hw6 k0_h3 k0_h18 => k0_hw6.2.2.1.2.2.2.2.2.2.2.1 k0_h3 k0_h18
theorem k0_off413_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off413 v59_0 v62_0 k0_t9 k0_t10) a + S1x1x16.size a ≤ S2x32x512.size a := fun i v17 k0_t1 v59_0 v62_0 k0_t9 k0_t10 arg16 v181 k0_hw6 k0_h3 k0_h18 => k0_hw6.2.2.1.2.2.2.2.2.2.2.2.1 k0_h3 k0_h18
theorem k0_off414_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off414 i k0_t1 v181) a + S1x16.size a ≤ S128x512.size a := fun i v17 k0_t1 v59_0 v62_0 k0_t9 k0_t10 arg16 v181 k0_hw6 k0_h3 k0_h18 => k0_hw6.2.2.1.2.2.2.2.2.2.2.2.2.1 k0_h3 k0_h18
theorem k0_off415_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off415 v59_0 v62_0 k0_t9 k0_t10) a + S1x1x16.size a ≤ S2x32x512.size a := fun i v17 k0_t1 v59_0 v62_0 k0_t9 k0_t10 arg16 v181 k0_hw6 k0_h3 k0_h18 => k0_hw6.2.2.1.2.2.2.2.2.2.2.2.2.2.1 k0_h3 k0_h18
theorem k0_off416_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off416 i k0_t1 v181) a + S1x16.size a ≤ S128x512.size a := fun i v17 k0_t1 v59_0 v62_0 k0_t9 k0_t10 arg16 v181 k0_hw6 k0_h3 k0_h18 => k0_hw6.2.2.1.2.2.2.2.2.2.2.2.2.2.2.1 k0_h3 k0_h18
theorem k0_off417_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off417 v59_0 v62_0 k0_t9 k0_t10) a + S1x1x16.size a ≤ S2x32x512.size a := fun i v17 k0_t1 v59_0 v62_0 k0_t9 k0_t10 arg16 v181 k0_hw6 k0_h3 k0_h18 => k0_hw6.2.2.1.2.2.2.2.2.2.2.2.2.2.2.2.1 k0_h3 k0_h18
theorem k0_off418_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off418 i k0_t1 v181) a + S1x16.size a ≤ S128x512.size a := fun i v17 k0_t1 v59_0 v62_0 k0_t9 k0_t10 arg16 v181 k0_hw6 k0_h3 k0_h18 => k0_hw6.2.2.1.2.2.2.2.2.2.2.2.2.2.2.2.2.1 k0_h3 k0_h18
theorem k0_off419_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off419 v59_0 v62_0 k0_t9 k0_t10) a + S1x1x16.size a ≤ S2x32x512.size a := fun i v17 k0_t1 v59_0 v62_0 k0_t9 k0_t10 arg16 v181 k0_hw6 k0_h3 k0_h18 => k0_hw6.2.2.1.2.2.2.2.2.2.2.2.2.2.2.2.2.2.1 k0_h3 k0_h18
theorem k0_off420_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off420 i k0_t1 v181) a + S1x16.size a ≤ S128x512.size a := fun i v17 k0_t1 v59_0 v62_0 k0_t9 k0_t10 arg16 v181 k0_hw6 k0_h3 k0_h18 => k0_hw6.2.2.1.2.2.2.2.2.2.2.2.2.2.2.2.2.2.2.1 k0_h3 k0_h18
theorem k0_off421_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off421 v59_0 v62_0 k0_t9 k0_t10) a + S1x1x16.size a ≤ S2x32x512.size a := fun i v17 k0_t1 v59_0 v62_0 k0_t9 k0_t10 arg16 v181 k0_hw6 k0_h3 k0_h18 => k0_hw6.2.2.1.2.2.2.2.2.2.2.2.2.2.2.2.2.2.2.2.1 k0_h3 k0_h18
theorem k0_off422_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off422 i k0_t1 v181) a + S1x16.size a ≤ S128x512.size a := fun i v17 k0_t1 v59_0 v62_0 k0_t9 k0_t10 arg16 v181 k0_hw6 k0_h3 k0_h18 => k0_hw6.2.2.1.2.2.2.2.2.2.2.2.2.2.2.2.2.2.2.2.2.1 k0_h3 k0_h18
theorem k0_off423_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off423 v59_0 v62_0 k0_t9 k0_t10) a + S1x1x16.size a ≤ S2x32x512.size a := fun i v17 k0_t1 v59_0 v62_0 k0_t9 k0_t10 arg16 v181 k0_hw6 k0_h3 k0_h18 => k0_hw6.2.2.1.2.2.2.2.2.2.2.2.2.2.2.2.2.2.2.2.2.2.1 k0_h3 k0_h18
theorem k0_off424_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off424 i k0_t1 v181) a + S1x16.size a ≤ S128x512.size a := fun i v17 k0_t1 v59_0 v62_0 k0_t9 k0_t10 arg16 v181 k0_hw6 k0_h3 k0_h18 => k0_hw6.2.2.1.2.2.2.2.2.2.2.2.2.2.2.2.2.2.2.2.2.2.2.1 k0_h3 k0_h18
theorem k0_off425_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off425 v59_0 v62_0 k0_t9 k0_t10) a + S1x1x16.size a ≤ S2x32x512.size a := fun i v17 k0_t1 v59_0 v62_0 k0_t9 k0_t10 arg16 v181 k0_hw6 k0_h3 k0_h18 => k0_hw6.2.2.1.2.2.2.2.2.2.2.2.2.2.2.2.2.2.2.2.2.2.2.2.1 k0_h3 k0_h18
theorem k0_off426_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off426 i k0_t1 v181) a + S1x16.size a ≤ S128x512.size a := fun i v17 k0_t1 v59_0 v62_0 k0_t9 k0_t10 arg16 v181 k0_hw6 k0_h3 k0_h18 => k0_hw6.2.2.1.2.2.2.2.2.2.2.2.2.2.2.2.2.2.2.2.2.2.2.2.2.1 k0_h3 k0_h18
theorem k0_off427_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off427 v59_0 v62_0 k0_t9 k0_t10) a + S1x1x16.size a ≤ S2x32x512.size a := fun i v17 k0_t1 v59_0 v62_0 k0_t9 k0_t10 arg16 v181 k0_hw6 k0_h3 k0_h18 => k0_hw6.2.2.1.2.2.2.2.2.2.2.2.2.2.2.2.2.2.2.2.2.2.2.2.2.2.1 k0_h3 k0_h18
theorem k0_off428_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off428 i k0_t1 v181) a + S1x16.size a ≤ S128x512.size a := fun i v17 k0_t1 v59_0 v62_0 k0_t9 k0_t10 arg16 v181 k0_hw6 k0_h3 k0_h18 => k0_hw6.2.2.1.2.2.2.2.2.2.2.2.2.2.2.2.2.2.2.2.2.2.2.2.2.2.2.1 k0_h3 k0_h18
theorem k0_off429_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off429 v59_0 v62_0 k0_t9 k0_t10) a + S1x1x16.size a ≤ S2x32x512.size a := fun i v17 k0_t1 v59_0 v62_0 k0_t9 k0_t10 arg16 v181 k0_hw6 k0_h3 k0_h18 => k0_hw6.2.2.1.2.2.2.2.2.2.2.2.2.2.2.2.2.2.2.2.2.2.2.2.2.2.2.2.1 k0_h3 k0_h18
theorem k0_off430_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off430 i k0_t1 v181) a + S1x16.size a ≤ S128x512.size a := fun i v17 k0_t1 v59_0 v62_0 k0_t9 k0_t10 arg16 v181 k0_hw6 k0_h3 k0_h18 => k0_hw6.2.2.1.2.2.2.2.2.2.2.2.2.2.2.2.2.2.2.2.2.2.2.2.2.2.2.2.2.1 k0_h3 k0_h18
theorem k0_off431_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off431 v59_0 v62_0 k0_t9 k0_t10) a + S1x1x16.size a ≤ S2x32x512.size a := fun i v17 k0_t1 v59_0 v62_0 k0_t9 k0_t10 arg16 v181 k0_hw6 k0_h3 k0_h18 => k0_hw6.2.2.1.2.2.2.2.2.2.2.2.2.2.2.2.2.2.2.2.2.2.2.2.2.2.2.2.2.2.1 k0_h3 k0_h18
theorem k0_off432_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off432 i k0_t1 v181) a + S1x16.size a ≤ S128x512.size a := fun i v17 k0_t1 v59_0 v62_0 k0_t9 k0_t10 arg16 v181 k0_hw6 k0_h3 k0_h18 => k0_hw6.2.2.1.2.2.2.2.2.2.2.2.2.2.2.2.2.2.2.2.2.2.2.2.2.2.2.2.2.2.2.1 k0_h3 k0_h18
theorem k0_off433_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off433 v59_0 v62_0 k0_t9 k0_t10) a + S1x1x16.size a ≤ S2x32x512.size a := fun i v17 k0_t1 v59_0 v62_0 k0_t9 k0_t10 arg16 v181 k0_hw6 k0_h3 k0_h18 => k0_hw6.2.2.1.2.2.2.2.2.2.2.2.2.2.2.2.2.2.2.2.2.2.2.2.2.2.2.2.2.2.2.2.1 k0_h3 k0_h18
theorem k0_off434_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off434 i k0_t1 v181) a + S1x16.size a ≤ S128x512.size a := fun i v17 k0_t1 v59_0 v62_0 k0_t9 k0_t10 arg16 v181 k0_hw6 k0_h3 k0_h18 => k0_hw6.2.2.1.2.2.2.2.2.2.2.2.2.2.2.2.2.2.2.2.2.2.2.2.2.2.2.2.2.2.2.2.2.1 k0_h3 k0_h18
theorem k0_off435_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off435 v59_0 v62_0 k0_t9 k0_t10) a + S1x1x16.size a ≤ S2x32x512.size a := fun i v17 k0_t1 v59_0 v62_0 k0_t9 k0_t10 arg16 v181 k0_hw6 k0_h3 k0_h18 => k0_hw6.2.2.1.2.2.2.2.2.2.2.2.2.2.2.2.2.2.2.2.2.2.2.2.2.2.2.2.2.2.2.2.2.2.1 k0_h3 k0_h18
theorem k0_off436_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off436 i k0_t1 v181) a + S1x16.size a ≤ S128x512.size a := fun i v17 k0_t1 v59_0 v62_0 k0_t9 k0_t10 arg16 v181 k0_hw6 k0_h3 k0_h18 => k0_hw6.2.2.1.2.2.2.2.2.2.2.2.2.2.2.2.2.2.2.2.2.2.2.2.2.2.2.2.2.2.2.2.2.2.2 k0_h3 k0_h18
theorem k0_off437_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off437 v59_0 v62_0 k0_t9 k0_t10) a + S1x1x16.size a ≤ S2x32x512.size a := fun i v17 k0_t1 v59_0 v62_0 k0_t9 k0_t10 arg16 v181 k0_hw6 k0_h3 k0_h18 => k0_hw6.2.2.2.1.1 k0_h3 k0_h18
theorem k0_off438_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off438 i k0_t1 v181) a + S1x16.size a ≤ S128x512.size a := fun i v17 k0_t1 v59_0 v62_0 k0_t9 k0_t10 arg16 v181 k0_hw6 k0_h3 k0_h18 => k0_hw6.2.2.2.1.2.1 k0_h3 k0_h18
theorem k0_off439_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off439 v59_0 v62_0 k0_t9 k0_t10) a + S1x1x16.size a ≤ S2x32x512.size a := fun i v17 k0_t1 v59_0 v62_0 k0_t9 k0_t10 arg16 v181 k0_hw6 k0_h3 k0_h18 => k0_hw6.2.2.2.1.2.2.1 k0_h3 k0_h18
theorem k0_off440_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off440 i k0_t1 v181) a + S1x16.size a ≤ S128x512.size a := fun i v17 k0_t1 v59_0 v62_0 k0_t9 k0_t10 arg16 v181 k0_hw6 k0_h3 k0_h18 => k0_hw6.2.2.2.1.2.2.2.1 k0_h3 k0_h18
theorem k0_off441_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off441 v59_0 v62_0 k0_t9 k0_t10) a + S1x1x16.size a ≤ S2x32x512.size a := fun i v17 k0_t1 v59_0 v62_0 k0_t9 k0_t10 arg16 v181 k0_hw6 k0_h3 k0_h18 => k0_hw6.2.2.2.1.2.2.2.2.1 k0_h3 k0_h18
theorem k0_off442_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off442 i k0_t1 v181) a + S1x16.size a ≤ S128x512.size a := fun i v17 k0_t1 v59_0 v62_0 k0_t9 k0_t10 arg16 v181 k0_hw6 k0_h3 k0_h18 => k0_hw6.2.2.2.1.2.2.2.2.2.1 k0_h3 k0_h18
theorem k0_off443_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off443 v59_0 v62_0 k0_t9 k0_t10) a + S1x1x16.size a ≤ S2x32x512.size a := fun i v17 k0_t1 v59_0 v62_0 k0_t9 k0_t10 arg16 v181 k0_hw6 k0_h3 k0_h18 => k0_hw6.2.2.2.1.2.2.2.2.2.2.1 k0_h3 k0_h18
theorem k0_off444_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off444 i k0_t1 v181) a + S1x16.size a ≤ S128x512.size a := fun i v17 k0_t1 v59_0 v62_0 k0_t9 k0_t10 arg16 v181 k0_hw6 k0_h3 k0_h18 => k0_hw6.2.2.2.1.2.2.2.2.2.2.2.1 k0_h3 k0_h18
theorem k0_off445_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off445 v59_0 v62_0 k0_t9 k0_t10) a + S1x1x16.size a ≤ S2x32x512.size a := fun i v17 k0_t1 v59_0 v62_0 k0_t9 k0_t10 arg16 v181 k0_hw6 k0_h3 k0_h18 => k0_hw6.2.2.2.1.2.2.2.2.2.2.2.2.1 k0_h3 k0_h18
theorem k0_off446_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off446 i k0_t1 v181) a + S1x16.size a ≤ S128x512.size a := fun i v17 k0_t1 v59_0 v62_0 k0_t9 k0_t10 arg16 v181 k0_hw6 k0_h3 k0_h18 => k0_hw6.2.2.2.1.2.2.2.2.2.2.2.2.2.1 k0_h3 k0_h18
theorem k0_off447_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off447 v59_0 v62_0 k0_t9 k0_t10) a + S1x1x16.size a ≤ S2x32x512.size a := fun i v17 k0_t1 v59_0 v62_0 k0_t9 k0_t10 arg16 v181 k0_hw6 k0_h3 k0_h18 => k0_hw6.2.2.2.1.2.2.2.2.2.2.2.2.2.2.1 k0_h3 k0_h18
theorem k0_off448_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off448 i k0_t1 v181) a + S1x16.size a ≤ S128x512.size a := fun i v17 k0_t1 v59_0 v62_0 k0_t9 k0_t10 arg16 v181 k0_hw6 k0_h3 k0_h18 => k0_hw6.2.2.2.1.2.2.2.2.2.2.2.2.2.2.2.1 k0_h3 k0_h18
theorem k0_off449_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off449 v59_0 v62_0 k0_t9 k0_t10) a + S1x1x16.size a ≤ S2x32x512.size a := fun i v17 k0_t1 v59_0 v62_0 k0_t9 k0_t10 arg16 v181 k0_hw6 k0_h3 k0_h18 => k0_hw6.2.2.2.1.2.2.2.2.2.2.2.2.2.2.2.2.1 k0_h3 k0_h18
theorem k0_off450_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off450 i k0_t1 v181) a + S1x16.size a ≤ S128x512.size a := fun i v17 k0_t1 v59_0 v62_0 k0_t9 k0_t10 arg16 v181 k0_hw6 k0_h3 k0_h18 => k0_hw6.2.2.2.1.2.2.2.2.2.2.2.2.2.2.2.2.2.1 k0_h3 k0_h18
theorem k0_off451_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off451 v59_0 v62_0 k0_t9 k0_t10) a + S1x1x16.size a ≤ S2x32x512.size a := fun i v17 k0_t1 v59_0 v62_0 k0_t9 k0_t10 arg16 v181 k0_hw6 k0_h3 k0_h18 => k0_hw6.2.2.2.1.2.2.2.2.2.2.2.2.2.2.2.2.2.2.1 k0_h3 k0_h18
theorem k0_off452_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off452 i k0_t1 v181) a + S1x16.size a ≤ S128x512.size a := fun i v17 k0_t1 v59_0 v62_0 k0_t9 k0_t10 arg16 v181 k0_hw6 k0_h3 k0_h18 => k0_hw6.2.2.2.1.2.2.2.2.2.2.2.2.2.2.2.2.2.2.2.1 k0_h3 k0_h18
theorem k0_off453_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off453 v59_0 v62_0 k0_t9 k0_t10) a + S1x1x16.size a ≤ S2x32x512.size a := fun i v17 k0_t1 v59_0 v62_0 k0_t9 k0_t10 arg16 v181 k0_hw6 k0_h3 k0_h18 => k0_hw6.2.2.2.1.2.2.2.2.2.2.2.2.2.2.2.2.2.2.2.2.1 k0_h3 k0_h18
theorem k0_off454_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off454 i k0_t1 v181) a + S1x16.size a ≤ S128x512.size a := fun i v17 k0_t1 v59_0 v62_0 k0_t9 k0_t10 arg16 v181 k0_hw6 k0_h3 k0_h18 => k0_hw6.2.2.2.1.2.2.2.2.2.2.2.2.2.2.2.2.2.2.2.2.2.1 k0_h3 k0_h18
theorem k0_off455_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off455 v59_0 v62_0 k0_t9 k0_t10) a + S1x1x16.size a ≤ S2x32x512.size a := fun i v17 k0_t1 v59_0 v62_0 k0_t9 k0_t10 arg16 v181 k0_hw6 k0_h3 k0_h18 => k0_hw6.2.2.2.1.2.2.2.2.2.2.2.2.2.2.2.2.2.2.2.2.2.2.1 k0_h3 k0_h18
theorem k0_off456_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off456 i k0_t1 v181) a + S1x16.size a ≤ S128x512.size a := fun i v17 k0_t1 v59_0 v62_0 k0_t9 k0_t10 arg16 v181 k0_hw6 k0_h3 k0_h18 => k0_hw6.2.2.2.1.2.2.2.2.2.2.2.2.2.2.2.2.2.2.2.2.2.2.2.1 k0_h3 k0_h18
theorem k0_off457_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off457 v59_0 v62_0 k0_t9 k0_t10) a + S1x1x16.size a ≤ S2x32x512.size a := fun i v17 k0_t1 v59_0 v62_0 k0_t9 k0_t10 arg16 v181 k0_hw6 k0_h3 k0_h18 => k0_hw6.2.2.2.1.2.2.2.2.2.2.2.2.2.2.2.2.2.2.2.2.2.2.2.2.1 k0_h3 k0_h18
theorem k0_off458_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off458 i k0_t1 v181) a + S1x16.size a ≤ S128x512.size a := fun i v17 k0_t1 v59_0 v62_0 k0_t9 k0_t10 arg16 v181 k0_hw6 k0_h3 k0_h18 => k0_hw6.2.2.2.1.2.2.2.2.2.2.2.2.2.2.2.2.2.2.2.2.2.2.2.2.2.1 k0_h3 k0_h18
theorem k0_off459_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off459 v59_0 v62_0 k0_t9 k0_t10) a + S1x1x16.size a ≤ S2x32x512.size a := fun i v17 k0_t1 v59_0 v62_0 k0_t9 k0_t10 arg16 v181 k0_hw6 k0_h3 k0_h18 => k0_hw6.2.2.2.1.2.2.2.2.2.2.2.2.2.2.2.2.2.2.2.2.2.2.2.2.2.2.1 k0_h3 k0_h18
theorem k0_off460_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off460 i k0_t1 v181) a + S1x16.size a ≤ S128x512.size a := fun i v17 k0_t1 v59_0 v62_0 k0_t9 k0_t10 arg16 v181 k0_hw6 k0_h3 k0_h18 => k0_hw6.2.2.2.1.2.2.2.2.2.2.2.2.2.2.2.2.2.2.2.2.2.2.2.2.2.2.2.1 k0_h3 k0_h18
theorem k0_off461_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off461 v59_0 v62_0 k0_t9 k0_t10) a + S1x1x16.size a ≤ S2x32x512.size a := fun i v17 k0_t1 v59_0 v62_0 k0_t9 k0_t10 arg16 v181 k0_hw6 k0_h3 k0_h18 => k0_hw6.2.2.2.1.2.2.2.2.2.2.2.2.2.2.2.2.2.2.2.2.2.2.2.2.2.2.2.2.1 k0_h3 k0_h18
theorem k0_off462_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off462 i k0_t1 v181) a + S1x16.size a ≤ S128x512.size a := fun i v17 k0_t1 v59_0 v62_0 k0_t9 k0_t10 arg16 v181 k0_hw6 k0_h3 k0_h18 => k0_hw6.2.2.2.1.2.2.2.2.2.2.2.2.2.2.2.2.2.2.2.2.2.2.2.2.2.2.2.2.2.1 k0_h3 k0_h18
theorem k0_off463_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off463 v59_0 v62_0 k0_t9 k0_t10) a + S1x1x16.size a ≤ S2x32x512.size a := fun i v17 k0_t1 v59_0 v62_0 k0_t9 k0_t10 arg16 v181 k0_hw6 k0_h3 k0_h18 => k0_hw6.2.2.2.1.2.2.2.2.2.2.2.2.2.2.2.2.2.2.2.2.2.2.2.2.2.2.2.2.2.2.1 k0_h3 k0_h18
theorem k0_off464_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off464 i k0_t1 v181) a + S1x16.size a ≤ S128x512.size a := fun i v17 k0_t1 v59_0 v62_0 k0_t9 k0_t10 arg16 v181 k0_hw6 k0_h3 k0_h18 => k0_hw6.2.2.2.1.2.2.2.2.2.2.2.2.2.2.2.2.2.2.2.2.2.2.2.2.2.2.2.2.2.2.2.1 k0_h3 k0_h18
theorem k0_off465_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off465 v59_0 v62_0 k0_t9 k0_t10) a + S1x1x16.size a ≤ S2x32x512.size a := fun i v17 k0_t1 v59_0 v62_0 k0_t9 k0_t10 arg16 v181 k0_hw6 k0_h3 k0_h18 => k0_hw6.2.2.2.1.2.2.2.2.2.2.2.2.2.2.2.2.2.2.2.2.2.2.2.2.2.2.2.2.2.2.2.2.1 k0_h3 k0_h18
theorem k0_off466_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off466 i k0_t1 v181) a + S1x16.size a ≤ S128x512.size a := fun i v17 k0_t1 v59_0 v62_0 k0_t9 k0_t10 arg16 v181 k0_hw6 k0_h3 k0_h18 => k0_hw6.2.2.2.1.2.2.2.2.2.2.2.2.2.2.2.2.2.2.2.2.2.2.2.2.2.2.2.2.2.2.2.2.2.1 k0_h3 k0_h18
theorem k0_off467_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off467 v59_0 v62_0 k0_t9 k0_t10) a + S1x1x16.size a ≤ S2x32x512.size a := fun i v17 k0_t1 v59_0 v62_0 k0_t9 k0_t10 arg16 v181 k0_hw6 k0_h3 k0_h18 => k0_hw6.2.2.2.1.2.2.2.2.2.2.2.2.2.2.2.2.2.2.2.2.2.2.2.2.2.2.2.2.2.2.2.2.2.2.1 k0_h3 k0_h18
theorem k0_off468_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off468 i k0_t1 v181) a + S1x16.size a ≤ S128x512.size a := fun i v17 k0_t1 v59_0 v62_0 k0_t9 k0_t10 arg16 v181 k0_hw6 k0_h3 k0_h18 => k0_hw6.2.2.2.1.2.2.2.2.2.2.2.2.2.2.2.2.2.2.2.2.2.2.2.2.2.2.2.2.2.2.2.2.2.2.2 k0_h3 k0_h18
theorem k0_off469_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off469 v59_0 v62_0 k0_t9 k0_t10) a + S1x1x16.size a ≤ S2x32x512.size a := fun i v17 k0_t1 v59_0 v62_0 k0_t9 k0_t10 arg16 v181 k0_hw6 k0_h3 k0_h18 => k0_hw6.2.2.2.2.1 k0_h3 k0_h18
theorem k0_off470_inb : ∀ (i : grid0.Coords) (v17 : BitVec 32) (k0_t1 : Fin k0_t1_loop.trips) (v59_0 : BitVec 32) (v62_0 : BitVec 32) (k0_t9 : Fin (k0_t9_loop v59_0 v62_0).trips) (k0_t10 : Fin (k0_t10_loop v59_0 v62_0 k0_t9).trips) (arg16 : BitVec 32) (v181 : BitVec 32) (k0_hw6 : k0_chk6 i v17 k0_t1 v59_0 v62_0 k0_t9 k0_t10 arg16 v181), ∀ (k0_h3 : k0_cond3 i v17 k0_t1 = 1#1), ∀ (k0_h18 : k0_cond18 arg16 v181 = 1#1), ∀ a, (k0_off470 i k0_t1 v181) a + S1x16.size a ≤ S128x16.size a := fun i v17 k0_t1 v59_0 v62_0 k0_t9 k0_t10 arg16 v181 k0_hw6 k0_h3 k0_h18 => k0_hw6.2.2.2.2.2 k0_h3 k0_h18

@[reducible] def k0_t11_loop (v59_0 : BitVec 32) (v62_0 : BitVec 32) (k0_t9 : Fin (k0_t9_loop v59_0 v62_0).trips) : Scf.Loop 32 :=
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let c0_i32_56 : BitVec 32 := 0#32
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let v171 : BitVec 32 := Scalar.addi v167 v170
  let c1_i32_95 : BitVec 32 := 1#32
  ⟨v174, v171, c1_i32_95⟩
def k0_off471 (v59_0 : BitVec 32) (v62_0 : BitVec 32) (k0_t9 : Fin (k0_t9_loop v59_0 v62_0).trips) (k0_t11 : Fin (k0_t11_loop v59_0 v62_0 k0_t9).trips) : Fin 1 → Nat :=
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let c32_i32_71 : BitVec 32 := 32#32
  let c0_i32_56 : BitVec 32 := 0#32
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let v177 : Index := Scalar.indexCast arg15
  ![v177.toNat]

def k0_chk3 (i : grid0.Coords) (v17 : BitVec 32) (k0_t1 : Fin k0_t1_loop.trips) (v59_0 : BitVec 32) (v62_0 : BitVec 32) : Prop :=
  (∀ (k0_h3 : k0_cond3 i v17 k0_t1 = 1#1), ∀ (k0_h4 : k0_cond4 v59_0 v62_0 = 1#1), ∀ a, (k0_off69 i v59_0) a + S32x512.size a ≤ S16384x512.size a) ∧
  (∀ (k0_h3 : k0_cond3 i v17 k0_t1 = 1#1), (k0_t6_loop v59_0 v62_0).OK) ∧
  (∀ k0_t6 : Fin (k0_t6_loop v59_0 v62_0).trips, ∀ (k0_h3 : k0_cond3 i v17 k0_t1 = 1#1), ∀ (k0_h5 : k0_cond5 v59_0 v62_0 k0_t6 = 1#1), ∀ a, (k0_off70 i v59_0 v62_0 k0_t6) a + S32x512.size a ≤ S16384x512.size a) ∧
  (∀ k0_t6 : Fin (k0_t6_loop v59_0 v62_0).trips, ∀ (k0_h3 : k0_cond3 i v17 k0_t1 = 1#1), ∀ (k0_h6 : k0_cond6 v59_0 v62_0 k0_t6 = 1#1), ∀ a, (k0_off71 i v59_0 v62_0 k0_t6) a + S32x512.size a ≤ S16384x512.size a) ∧
  (∀ k0_t6 : Fin (k0_t6_loop v59_0 v62_0).trips, ∀ (k0_h3 : k0_cond3 i v17 k0_t1 = 1#1), ∀ (k0_h7 : k0_cond7 v59_0 v62_0 k0_t6 = 1#1), ∀ a, (k0_off72 i) a + S32x512.size a ≤ S16384x512.size a) ∧
  (∀ k0_t6 : Fin (k0_t6_loop v59_0 v62_0).trips, ∀ (k0_h3 : k0_cond3 i v17 k0_t1 = 1#1), ∀ (k0_h8 : k0_cond8 v59_0 v62_0 k0_t6 = 1#1), ∀ a, (k0_off73 i) a + S32x512.size a ≤ S16384x512.size a) ∧
  (∀ k0_t6 : Fin (k0_t6_loop v59_0 v62_0).trips, ∀ (k0_h3 : k0_cond3 i v17 k0_t1 = 1#1), (k0_t7_loop v59_0 v62_0 k0_t6).OK) ∧
  (∀ (k0_t6 : Fin (k0_t6_loop v59_0 v62_0).trips) (k0_t7 : Fin (k0_t7_loop v59_0 v62_0 k0_t6).trips), ∀ (k0_h3 : k0_cond3 i v17 k0_t1 = 1#1), ∀ a, (k0_off74 v59_0 v62_0 k0_t6 k0_t7) a + S16.size a ≤ S2064.size a) ∧
  (∀ k0_t6 : Fin (k0_t6_loop v59_0 v62_0).trips, ∀ (k0_h3 : k0_cond3 i v17 k0_t1 = 1#1), (k0_t8_loop v59_0 v62_0 k0_t6).OK) ∧
  (∀ (k0_t6 : Fin (k0_t6_loop v59_0 v62_0).trips) (k0_t8 : Fin (k0_t8_loop v59_0 v62_0 k0_t6).trips), ∀ (k0_h3 : k0_cond3 i v17 k0_t1 = 1#1), ∀ a, (k0_off205 v59_0 v62_0 k0_t6 k0_t8) a + S16.size a ≤ S2064.size a) ∧
  (∀ (k0_h3 : k0_cond3 i v17 k0_t1 = 1#1), (k0_t9_loop v59_0 v62_0).OK) ∧
  (∀ k0_t9 : Fin (k0_t9_loop v59_0 v62_0).trips, ∀ (k0_h3 : k0_cond3 i v17 k0_t1 = 1#1), ∀ (k0_h13 : k0_cond13 v59_0 v62_0 k0_t9 = 1#1), ∀ a, (k0_off336 i v59_0 v62_0 k0_t9) a + S32x512.size a ≤ S16384x512.size a) ∧
  (∀ k0_t9 : Fin (k0_t9_loop v59_0 v62_0).trips, ∀ (k0_h3 : k0_cond3 i v17 k0_t1 = 1#1), ∀ (k0_h14 : k0_cond14 v59_0 v62_0 k0_t9 = 1#1), ∀ a, (k0_off337 i v59_0 v62_0 k0_t9) a + S32x512.size a ≤ S16384x512.size a) ∧
  (∀ k0_t9 : Fin (k0_t9_loop v59_0 v62_0).trips, ∀ (k0_h3 : k0_cond3 i v17 k0_t1 = 1#1), (k0_t10_loop v59_0 v62_0 k0_t9).OK) ∧
  (∀ (k0_t9 : Fin (k0_t9_loop v59_0 v62_0).trips) (k0_t10 : Fin (k0_t10_loop v59_0 v62_0 k0_t9).trips), ∀ (k0_h3 : k0_cond3 i v17 k0_t1 = 1#1), ∀ a, (k0_off340 v59_0 v62_0 k0_t9 k0_t10) a + S16.size a ≤ S2064.size a) ∧
  (∀ k0_t9 : Fin (k0_t9_loop v59_0 v62_0).trips, ∀ (k0_h3 : k0_cond3 i v17 k0_t1 = 1#1), (k0_t11_loop v59_0 v62_0 k0_t9).OK) ∧
  (∀ (k0_t9 : Fin (k0_t9_loop v59_0 v62_0).trips) (k0_t11 : Fin (k0_t11_loop v59_0 v62_0 k0_t9).trips), ∀ (k0_h3 : k0_cond3 i v17 k0_t1 = 1#1), ∀ a, (k0_off471 v59_0 v62_0 k0_t9 k0_t11) a + S16.size a ≤ S2064.size a)
theorem k0_off69_inb : ∀ (i : grid0.Coords) (v17 : BitVec 32) (k0_t1 : Fin k0_t1_loop.trips) (v59_0 : BitVec 32) (v62_0 : BitVec 32) (k0_hw3 : k0_chk3 i v17 k0_t1 v59_0 v62_0), ∀ (k0_h3 : k0_cond3 i v17 k0_t1 = 1#1), ∀ (k0_h4 : k0_cond4 v59_0 v62_0 = 1#1), ∀ a, (k0_off69 i v59_0) a + S32x512.size a ≤ S16384x512.size a := fun i v17 k0_t1 v59_0 v62_0 k0_hw3 k0_h3 k0_h4 => k0_hw3.1 k0_h3 k0_h4
theorem k0_t6_ok : ∀ (i : grid0.Coords) (v17 : BitVec 32) (k0_t1 : Fin k0_t1_loop.trips) (v59_0 : BitVec 32) (v62_0 : BitVec 32) (k0_hw3 : k0_chk3 i v17 k0_t1 v59_0 v62_0), ∀ (k0_h3 : k0_cond3 i v17 k0_t1 = 1#1), (k0_t6_loop v59_0 v62_0).OK := fun i v17 k0_t1 v59_0 v62_0 k0_hw3 k0_h3 => k0_hw3.2.1 k0_h3
theorem k0_off70_inb : ∀ (i : grid0.Coords) (v17 : BitVec 32) (k0_t1 : Fin k0_t1_loop.trips) (v59_0 : BitVec 32) (v62_0 : BitVec 32) (k0_hw3 : k0_chk3 i v17 k0_t1 v59_0 v62_0) (k0_t6 : Fin (k0_t6_loop v59_0 v62_0).trips), ∀ (k0_h3 : k0_cond3 i v17 k0_t1 = 1#1), ∀ (k0_h5 : k0_cond5 v59_0 v62_0 k0_t6 = 1#1), ∀ a, (k0_off70 i v59_0 v62_0 k0_t6) a + S32x512.size a ≤ S16384x512.size a := fun i v17 k0_t1 v59_0 v62_0 k0_hw3 k0_t6 k0_h3 k0_h5 => k0_hw3.2.2.1 k0_t6 k0_h3 k0_h5
theorem k0_off71_inb : ∀ (i : grid0.Coords) (v17 : BitVec 32) (k0_t1 : Fin k0_t1_loop.trips) (v59_0 : BitVec 32) (v62_0 : BitVec 32) (k0_hw3 : k0_chk3 i v17 k0_t1 v59_0 v62_0) (k0_t6 : Fin (k0_t6_loop v59_0 v62_0).trips), ∀ (k0_h3 : k0_cond3 i v17 k0_t1 = 1#1), ∀ (k0_h6 : k0_cond6 v59_0 v62_0 k0_t6 = 1#1), ∀ a, (k0_off71 i v59_0 v62_0 k0_t6) a + S32x512.size a ≤ S16384x512.size a := fun i v17 k0_t1 v59_0 v62_0 k0_hw3 k0_t6 k0_h3 k0_h6 => k0_hw3.2.2.2.1 k0_t6 k0_h3 k0_h6
theorem k0_off72_inb : ∀ (i : grid0.Coords) (v17 : BitVec 32) (k0_t1 : Fin k0_t1_loop.trips) (v59_0 : BitVec 32) (v62_0 : BitVec 32) (k0_hw3 : k0_chk3 i v17 k0_t1 v59_0 v62_0) (k0_t6 : Fin (k0_t6_loop v59_0 v62_0).trips), ∀ (k0_h3 : k0_cond3 i v17 k0_t1 = 1#1), ∀ (k0_h7 : k0_cond7 v59_0 v62_0 k0_t6 = 1#1), ∀ a, (k0_off72 i) a + S32x512.size a ≤ S16384x512.size a := fun i v17 k0_t1 v59_0 v62_0 k0_hw3 k0_t6 k0_h3 k0_h7 => k0_hw3.2.2.2.2.1 k0_t6 k0_h3 k0_h7
theorem k0_off73_inb : ∀ (i : grid0.Coords) (v17 : BitVec 32) (k0_t1 : Fin k0_t1_loop.trips) (v59_0 : BitVec 32) (v62_0 : BitVec 32) (k0_hw3 : k0_chk3 i v17 k0_t1 v59_0 v62_0) (k0_t6 : Fin (k0_t6_loop v59_0 v62_0).trips), ∀ (k0_h3 : k0_cond3 i v17 k0_t1 = 1#1), ∀ (k0_h8 : k0_cond8 v59_0 v62_0 k0_t6 = 1#1), ∀ a, (k0_off73 i) a + S32x512.size a ≤ S16384x512.size a := fun i v17 k0_t1 v59_0 v62_0 k0_hw3 k0_t6 k0_h3 k0_h8 => k0_hw3.2.2.2.2.2.1 k0_t6 k0_h3 k0_h8
theorem k0_t7_ok : ∀ (i : grid0.Coords) (v17 : BitVec 32) (k0_t1 : Fin k0_t1_loop.trips) (v59_0 : BitVec 32) (v62_0 : BitVec 32) (k0_hw3 : k0_chk3 i v17 k0_t1 v59_0 v62_0) (k0_t6 : Fin (k0_t6_loop v59_0 v62_0).trips), ∀ (k0_h3 : k0_cond3 i v17 k0_t1 = 1#1), (k0_t7_loop v59_0 v62_0 k0_t6).OK := fun i v17 k0_t1 v59_0 v62_0 k0_hw3 k0_t6 k0_h3 => k0_hw3.2.2.2.2.2.2.1 k0_t6 k0_h3
theorem k0_off74_inb : ∀ (i : grid0.Coords) (v17 : BitVec 32) (k0_t1 : Fin k0_t1_loop.trips) (v59_0 : BitVec 32) (v62_0 : BitVec 32) (k0_hw3 : k0_chk3 i v17 k0_t1 v59_0 v62_0) (k0_t6 : Fin (k0_t6_loop v59_0 v62_0).trips) (k0_t7 : Fin (k0_t7_loop v59_0 v62_0 k0_t6).trips), ∀ (k0_h3 : k0_cond3 i v17 k0_t1 = 1#1), ∀ a, (k0_off74 v59_0 v62_0 k0_t6 k0_t7) a + S16.size a ≤ S2064.size a := fun i v17 k0_t1 v59_0 v62_0 k0_hw3 k0_t6 k0_t7 k0_h3 => k0_hw3.2.2.2.2.2.2.2.1 k0_t6 k0_t7 k0_h3
theorem k0_t8_ok : ∀ (i : grid0.Coords) (v17 : BitVec 32) (k0_t1 : Fin k0_t1_loop.trips) (v59_0 : BitVec 32) (v62_0 : BitVec 32) (k0_hw3 : k0_chk3 i v17 k0_t1 v59_0 v62_0) (k0_t6 : Fin (k0_t6_loop v59_0 v62_0).trips), ∀ (k0_h3 : k0_cond3 i v17 k0_t1 = 1#1), (k0_t8_loop v59_0 v62_0 k0_t6).OK := fun i v17 k0_t1 v59_0 v62_0 k0_hw3 k0_t6 k0_h3 => k0_hw3.2.2.2.2.2.2.2.2.1 k0_t6 k0_h3
theorem k0_off205_inb : ∀ (i : grid0.Coords) (v17 : BitVec 32) (k0_t1 : Fin k0_t1_loop.trips) (v59_0 : BitVec 32) (v62_0 : BitVec 32) (k0_hw3 : k0_chk3 i v17 k0_t1 v59_0 v62_0) (k0_t6 : Fin (k0_t6_loop v59_0 v62_0).trips) (k0_t8 : Fin (k0_t8_loop v59_0 v62_0 k0_t6).trips), ∀ (k0_h3 : k0_cond3 i v17 k0_t1 = 1#1), ∀ a, (k0_off205 v59_0 v62_0 k0_t6 k0_t8) a + S16.size a ≤ S2064.size a := fun i v17 k0_t1 v59_0 v62_0 k0_hw3 k0_t6 k0_t8 k0_h3 => k0_hw3.2.2.2.2.2.2.2.2.2.1 k0_t6 k0_t8 k0_h3
theorem k0_t9_ok : ∀ (i : grid0.Coords) (v17 : BitVec 32) (k0_t1 : Fin k0_t1_loop.trips) (v59_0 : BitVec 32) (v62_0 : BitVec 32) (k0_hw3 : k0_chk3 i v17 k0_t1 v59_0 v62_0), ∀ (k0_h3 : k0_cond3 i v17 k0_t1 = 1#1), (k0_t9_loop v59_0 v62_0).OK := fun i v17 k0_t1 v59_0 v62_0 k0_hw3 k0_h3 => k0_hw3.2.2.2.2.2.2.2.2.2.2.1 k0_h3
theorem k0_off336_inb : ∀ (i : grid0.Coords) (v17 : BitVec 32) (k0_t1 : Fin k0_t1_loop.trips) (v59_0 : BitVec 32) (v62_0 : BitVec 32) (k0_hw3 : k0_chk3 i v17 k0_t1 v59_0 v62_0) (k0_t9 : Fin (k0_t9_loop v59_0 v62_0).trips), ∀ (k0_h3 : k0_cond3 i v17 k0_t1 = 1#1), ∀ (k0_h13 : k0_cond13 v59_0 v62_0 k0_t9 = 1#1), ∀ a, (k0_off336 i v59_0 v62_0 k0_t9) a + S32x512.size a ≤ S16384x512.size a := fun i v17 k0_t1 v59_0 v62_0 k0_hw3 k0_t9 k0_h3 k0_h13 => k0_hw3.2.2.2.2.2.2.2.2.2.2.2.1 k0_t9 k0_h3 k0_h13
theorem k0_off337_inb : ∀ (i : grid0.Coords) (v17 : BitVec 32) (k0_t1 : Fin k0_t1_loop.trips) (v59_0 : BitVec 32) (v62_0 : BitVec 32) (k0_hw3 : k0_chk3 i v17 k0_t1 v59_0 v62_0) (k0_t9 : Fin (k0_t9_loop v59_0 v62_0).trips), ∀ (k0_h3 : k0_cond3 i v17 k0_t1 = 1#1), ∀ (k0_h14 : k0_cond14 v59_0 v62_0 k0_t9 = 1#1), ∀ a, (k0_off337 i v59_0 v62_0 k0_t9) a + S32x512.size a ≤ S16384x512.size a := fun i v17 k0_t1 v59_0 v62_0 k0_hw3 k0_t9 k0_h3 k0_h14 => k0_hw3.2.2.2.2.2.2.2.2.2.2.2.2.1 k0_t9 k0_h3 k0_h14
theorem k0_t10_ok : ∀ (i : grid0.Coords) (v17 : BitVec 32) (k0_t1 : Fin k0_t1_loop.trips) (v59_0 : BitVec 32) (v62_0 : BitVec 32) (k0_hw3 : k0_chk3 i v17 k0_t1 v59_0 v62_0) (k0_t9 : Fin (k0_t9_loop v59_0 v62_0).trips), ∀ (k0_h3 : k0_cond3 i v17 k0_t1 = 1#1), (k0_t10_loop v59_0 v62_0 k0_t9).OK := fun i v17 k0_t1 v59_0 v62_0 k0_hw3 k0_t9 k0_h3 => k0_hw3.2.2.2.2.2.2.2.2.2.2.2.2.2.1 k0_t9 k0_h3
theorem k0_off340_inb : ∀ (i : grid0.Coords) (v17 : BitVec 32) (k0_t1 : Fin k0_t1_loop.trips) (v59_0 : BitVec 32) (v62_0 : BitVec 32) (k0_hw3 : k0_chk3 i v17 k0_t1 v59_0 v62_0) (k0_t9 : Fin (k0_t9_loop v59_0 v62_0).trips) (k0_t10 : Fin (k0_t10_loop v59_0 v62_0 k0_t9).trips), ∀ (k0_h3 : k0_cond3 i v17 k0_t1 = 1#1), ∀ a, (k0_off340 v59_0 v62_0 k0_t9 k0_t10) a + S16.size a ≤ S2064.size a := fun i v17 k0_t1 v59_0 v62_0 k0_hw3 k0_t9 k0_t10 k0_h3 => k0_hw3.2.2.2.2.2.2.2.2.2.2.2.2.2.2.1 k0_t9 k0_t10 k0_h3
theorem k0_t11_ok : ∀ (i : grid0.Coords) (v17 : BitVec 32) (k0_t1 : Fin k0_t1_loop.trips) (v59_0 : BitVec 32) (v62_0 : BitVec 32) (k0_hw3 : k0_chk3 i v17 k0_t1 v59_0 v62_0) (k0_t9 : Fin (k0_t9_loop v59_0 v62_0).trips), ∀ (k0_h3 : k0_cond3 i v17 k0_t1 = 1#1), (k0_t11_loop v59_0 v62_0 k0_t9).OK := fun i v17 k0_t1 v59_0 v62_0 k0_hw3 k0_t9 k0_h3 => k0_hw3.2.2.2.2.2.2.2.2.2.2.2.2.2.2.2.1 k0_t9 k0_h3
theorem k0_off471_inb : ∀ (i : grid0.Coords) (v17 : BitVec 32) (k0_t1 : Fin k0_t1_loop.trips) (v59_0 : BitVec 32) (v62_0 : BitVec 32) (k0_hw3 : k0_chk3 i v17 k0_t1 v59_0 v62_0) (k0_t9 : Fin (k0_t9_loop v59_0 v62_0).trips) (k0_t11 : Fin (k0_t11_loop v59_0 v62_0 k0_t9).trips), ∀ (k0_h3 : k0_cond3 i v17 k0_t1 = 1#1), ∀ a, (k0_off471 v59_0 v62_0 k0_t9 k0_t11) a + S16.size a ≤ S2064.size a := fun i v17 k0_t1 v59_0 v62_0 k0_hw3 k0_t9 k0_t11 k0_h3 => k0_hw3.2.2.2.2.2.2.2.2.2.2.2.2.2.2.2.2 k0_t9 k0_t11 k0_h3

def k0_off472 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v190 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v191 : Index := Scalar.indexCast v183
  let c0 : Index := 0#32
  ![v190.toNat, v191.toNat, 0]
def k0_cond19 (arg16 : BitVec 32) (v181 : BitVec 32) : BitVec 1 :=
  let v184 : BitVec 1 := Scalar.cmpi .ne v181 arg16
  let v185 : BitVec 32 := Scalar.extui v184
  let c0_i32_96 : BitVec 32 := 0#32
  let v186 : BitVec 1 := Scalar.cmpi .ne v185 c0_i32_96
  v186

def k0_off473 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v194 : Index := Scalar.indexCast v182
  let c0_99 : Index := 0#32
  ![v194.toNat, 0]
def k0_off474 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v198 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v199 : Index := Scalar.indexCast v183
  let c16 : Index := 16#32
  ![v198.toNat, v199.toNat, 16]
def k0_off475 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v202 : Index := Scalar.indexCast v182
  let c16_100 : Index := 16#32
  ![v202.toNat, 16]
def k0_off476 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v206 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v207 : Index := Scalar.indexCast v183
  let c32 : Index := 32#32
  ![v206.toNat, v207.toNat, 32]
def k0_off477 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v210 : Index := Scalar.indexCast v182
  let c32_101 : Index := 32#32
  ![v210.toNat, 32]
def k0_off478 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v214 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v215 : Index := Scalar.indexCast v183
  let c48 : Index := 48#32
  ![v214.toNat, v215.toNat, 48]
def k0_off479 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v218 : Index := Scalar.indexCast v182
  let c48_102 : Index := 48#32
  ![v218.toNat, 48]
def k0_off480 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v222 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v223 : Index := Scalar.indexCast v183
  let c64 : Index := 64#32
  ![v222.toNat, v223.toNat, 64]
def k0_off481 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v226 : Index := Scalar.indexCast v182
  let c64_103 : Index := 64#32
  ![v226.toNat, 64]
def k0_off482 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v230 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v231 : Index := Scalar.indexCast v183
  let c80 : Index := 80#32
  ![v230.toNat, v231.toNat, 80]
def k0_off483 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v234 : Index := Scalar.indexCast v182
  let c80_104 : Index := 80#32
  ![v234.toNat, 80]
def k0_off484 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v238 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v239 : Index := Scalar.indexCast v183
  let c96 : Index := 96#32
  ![v238.toNat, v239.toNat, 96]
def k0_off485 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v242 : Index := Scalar.indexCast v182
  let c96_105 : Index := 96#32
  ![v242.toNat, 96]
def k0_off486 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v246 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v247 : Index := Scalar.indexCast v183
  let c112 : Index := 112#32
  ![v246.toNat, v247.toNat, 112]
def k0_off487 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v250 : Index := Scalar.indexCast v182
  let c112_106 : Index := 112#32
  ![v250.toNat, 112]
def k0_off488 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v254 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v255 : Index := Scalar.indexCast v183
  let c128 : Index := 128#32
  ![v254.toNat, v255.toNat, 128]
def k0_off489 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v258 : Index := Scalar.indexCast v182
  let c128_107 : Index := 128#32
  ![v258.toNat, 128]
def k0_off490 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v262 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v263 : Index := Scalar.indexCast v183
  let c144 : Index := 144#32
  ![v262.toNat, v263.toNat, 144]
def k0_off491 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v266 : Index := Scalar.indexCast v182
  let c144_108 : Index := 144#32
  ![v266.toNat, 144]
def k0_off492 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v270 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v271 : Index := Scalar.indexCast v183
  let c160 : Index := 160#32
  ![v270.toNat, v271.toNat, 160]
def k0_off493 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v274 : Index := Scalar.indexCast v182
  let c160_109 : Index := 160#32
  ![v274.toNat, 160]
def k0_off494 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v278 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v279 : Index := Scalar.indexCast v183
  let c176 : Index := 176#32
  ![v278.toNat, v279.toNat, 176]
def k0_off495 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v282 : Index := Scalar.indexCast v182
  let c176_110 : Index := 176#32
  ![v282.toNat, 176]
def k0_off496 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v286 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v287 : Index := Scalar.indexCast v183
  let c192 : Index := 192#32
  ![v286.toNat, v287.toNat, 192]
def k0_off497 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v290 : Index := Scalar.indexCast v182
  let c192_111 : Index := 192#32
  ![v290.toNat, 192]
def k0_off498 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v294 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v295 : Index := Scalar.indexCast v183
  let c208 : Index := 208#32
  ![v294.toNat, v295.toNat, 208]
def k0_off499 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v298 : Index := Scalar.indexCast v182
  let c208_112 : Index := 208#32
  ![v298.toNat, 208]
def k0_off500 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v302 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v303 : Index := Scalar.indexCast v183
  let c224 : Index := 224#32
  ![v302.toNat, v303.toNat, 224]
def k0_off501 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v306 : Index := Scalar.indexCast v182
  let c224_113 : Index := 224#32
  ![v306.toNat, 224]
def k0_off502 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v310 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v311 : Index := Scalar.indexCast v183
  let c240 : Index := 240#32
  ![v310.toNat, v311.toNat, 240]
def k0_off503 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v314 : Index := Scalar.indexCast v182
  let c240_114 : Index := 240#32
  ![v314.toNat, 240]
def k0_off504 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v318 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v319 : Index := Scalar.indexCast v183
  let c256 : Index := 256#32
  ![v318.toNat, v319.toNat, 256]
def k0_off505 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v322 : Index := Scalar.indexCast v182
  let c256_115 : Index := 256#32
  ![v322.toNat, 256]
def k0_off506 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v326 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v327 : Index := Scalar.indexCast v183
  let c272 : Index := 272#32
  ![v326.toNat, v327.toNat, 272]
def k0_off507 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v330 : Index := Scalar.indexCast v182
  let c272_116 : Index := 272#32
  ![v330.toNat, 272]
def k0_off508 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v334 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v335 : Index := Scalar.indexCast v183
  let c288 : Index := 288#32
  ![v334.toNat, v335.toNat, 288]
def k0_off509 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v338 : Index := Scalar.indexCast v182
  let c288_117 : Index := 288#32
  ![v338.toNat, 288]
def k0_off510 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v342 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v343 : Index := Scalar.indexCast v183
  let c304 : Index := 304#32
  ![v342.toNat, v343.toNat, 304]
def k0_off511 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v346 : Index := Scalar.indexCast v182
  let c304_118 : Index := 304#32
  ![v346.toNat, 304]
def k0_off512 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v350 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v351 : Index := Scalar.indexCast v183
  let c320 : Index := 320#32
  ![v350.toNat, v351.toNat, 320]
def k0_off513 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v354 : Index := Scalar.indexCast v182
  let c320_119 : Index := 320#32
  ![v354.toNat, 320]
def k0_off514 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v358 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v359 : Index := Scalar.indexCast v183
  let c336 : Index := 336#32
  ![v358.toNat, v359.toNat, 336]
def k0_off515 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v362 : Index := Scalar.indexCast v182
  let c336_120 : Index := 336#32
  ![v362.toNat, 336]
def k0_off516 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v366 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v367 : Index := Scalar.indexCast v183
  let c352 : Index := 352#32
  ![v366.toNat, v367.toNat, 352]
def k0_off517 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v370 : Index := Scalar.indexCast v182
  let c352_121 : Index := 352#32
  ![v370.toNat, 352]
def k0_off518 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v374 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v375 : Index := Scalar.indexCast v183
  let c368 : Index := 368#32
  ![v374.toNat, v375.toNat, 368]
def k0_off519 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v378 : Index := Scalar.indexCast v182
  let c368_122 : Index := 368#32
  ![v378.toNat, 368]
def k0_off520 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v382 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v383 : Index := Scalar.indexCast v183
  let c384 : Index := 384#32
  ![v382.toNat, v383.toNat, 384]
def k0_off521 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v386 : Index := Scalar.indexCast v182
  let c384_123 : Index := 384#32
  ![v386.toNat, 384]
def k0_off522 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v390 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v391 : Index := Scalar.indexCast v183
  let c400 : Index := 400#32
  ![v390.toNat, v391.toNat, 400]
def k0_off523 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v394 : Index := Scalar.indexCast v182
  let c400_124 : Index := 400#32
  ![v394.toNat, 400]
def k0_off524 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v398 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v399 : Index := Scalar.indexCast v183
  let c416 : Index := 416#32
  ![v398.toNat, v399.toNat, 416]
def k0_off525 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v402 : Index := Scalar.indexCast v182
  let c416_125 : Index := 416#32
  ![v402.toNat, 416]
def k0_off526 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v406 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v407 : Index := Scalar.indexCast v183
  let c432 : Index := 432#32
  ![v406.toNat, v407.toNat, 432]
def k0_off527 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v410 : Index := Scalar.indexCast v182
  let c432_126 : Index := 432#32
  ![v410.toNat, 432]
def k0_off528 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v414 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v415 : Index := Scalar.indexCast v183
  let c448 : Index := 448#32
  ![v414.toNat, v415.toNat, 448]
def k0_off529 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v418 : Index := Scalar.indexCast v182
  let c448_127 : Index := 448#32
  ![v418.toNat, 448]
def k0_off530 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v422 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v423 : Index := Scalar.indexCast v183
  let c464 : Index := 464#32
  ![v422.toNat, v423.toNat, 464]
def k0_off531 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v426 : Index := Scalar.indexCast v182
  let c464_128 : Index := 464#32
  ![v426.toNat, 464]
def k0_off532 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v430 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v431 : Index := Scalar.indexCast v183
  let c480 : Index := 480#32
  ![v430.toNat, v431.toNat, 480]
def k0_off533 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v434 : Index := Scalar.indexCast v182
  let c480_129 : Index := 480#32
  ![v434.toNat, 480]
def k0_off534 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v438 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v439 : Index := Scalar.indexCast v183
  let c496 : Index := 496#32
  ![v438.toNat, v439.toNat, 496]
def k0_off535 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v442 : Index := Scalar.indexCast v182
  let c496_130 : Index := 496#32
  ![v442.toNat, 496]
def k0_off536 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v446 : Index := Scalar.indexCast v182
  let c0_131 : Index := 0#32
  ![v446.toNat, 0]
def k0_off537 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v190 : Index := Scalar.indexCast v182
  let c0 : Index := 0#32
  ![v190.toNat, 0]
def k0_cond20 (arg16 : BitVec 32) (v181 : BitVec 32) : BitVec 1 :=
  let v184 : BitVec 1 := Scalar.cmpi .ne v181 arg16
  let true_97 : BitVec 1 := 1#1
  let v187 : BitVec 1 := Scalar.xori v184 true_97
  let v188 : BitVec 32 := Scalar.extui v187
  let c0_i32_98 : BitVec 32 := 0#32
  let v189 : BitVec 1 := Scalar.cmpi .ne v188 c0_i32_98
  v189

def k0_off538 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v193 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v194 : Index := Scalar.indexCast v183
  let c0_99 : Index := 0#32
  ![v193.toNat, v194.toNat, 0]
def k0_off539 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v202 : Index := Scalar.indexCast v182
  let c16 : Index := 16#32
  ![v202.toNat, 16]
def k0_off540 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v205 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v206 : Index := Scalar.indexCast v183
  let c16_101 : Index := 16#32
  ![v205.toNat, v206.toNat, 16]
def k0_off541 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v214 : Index := Scalar.indexCast v182
  let c32 : Index := 32#32
  ![v214.toNat, 32]
def k0_off542 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v217 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v218 : Index := Scalar.indexCast v183
  let c32_103 : Index := 32#32
  ![v217.toNat, v218.toNat, 32]
def k0_off543 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v226 : Index := Scalar.indexCast v182
  let c48 : Index := 48#32
  ![v226.toNat, 48]
def k0_off544 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v229 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v230 : Index := Scalar.indexCast v183
  let c48_105 : Index := 48#32
  ![v229.toNat, v230.toNat, 48]
def k0_off545 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v238 : Index := Scalar.indexCast v182
  let c64 : Index := 64#32
  ![v238.toNat, 64]
def k0_off546 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v241 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v242 : Index := Scalar.indexCast v183
  let c64_107 : Index := 64#32
  ![v241.toNat, v242.toNat, 64]
def k0_off547 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v250 : Index := Scalar.indexCast v182
  let c80 : Index := 80#32
  ![v250.toNat, 80]
def k0_off548 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v253 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v254 : Index := Scalar.indexCast v183
  let c80_109 : Index := 80#32
  ![v253.toNat, v254.toNat, 80]
def k0_off549 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v262 : Index := Scalar.indexCast v182
  let c96 : Index := 96#32
  ![v262.toNat, 96]
def k0_off550 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v265 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v266 : Index := Scalar.indexCast v183
  let c96_111 : Index := 96#32
  ![v265.toNat, v266.toNat, 96]
def k0_off551 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v274 : Index := Scalar.indexCast v182
  let c112 : Index := 112#32
  ![v274.toNat, 112]
def k0_off552 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v277 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v278 : Index := Scalar.indexCast v183
  let c112_113 : Index := 112#32
  ![v277.toNat, v278.toNat, 112]
def k0_off553 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v286 : Index := Scalar.indexCast v182
  let c128 : Index := 128#32
  ![v286.toNat, 128]
def k0_off554 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v289 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v290 : Index := Scalar.indexCast v183
  let c128_115 : Index := 128#32
  ![v289.toNat, v290.toNat, 128]
def k0_off555 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v298 : Index := Scalar.indexCast v182
  let c144 : Index := 144#32
  ![v298.toNat, 144]
def k0_off556 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v301 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v302 : Index := Scalar.indexCast v183
  let c144_117 : Index := 144#32
  ![v301.toNat, v302.toNat, 144]
def k0_off557 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v310 : Index := Scalar.indexCast v182
  let c160 : Index := 160#32
  ![v310.toNat, 160]
def k0_off558 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v313 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v314 : Index := Scalar.indexCast v183
  let c160_119 : Index := 160#32
  ![v313.toNat, v314.toNat, 160]
def k0_off559 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v322 : Index := Scalar.indexCast v182
  let c176 : Index := 176#32
  ![v322.toNat, 176]
def k0_off560 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v325 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v326 : Index := Scalar.indexCast v183
  let c176_121 : Index := 176#32
  ![v325.toNat, v326.toNat, 176]
def k0_off561 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v334 : Index := Scalar.indexCast v182
  let c192 : Index := 192#32
  ![v334.toNat, 192]
def k0_off562 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v337 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v338 : Index := Scalar.indexCast v183
  let c192_123 : Index := 192#32
  ![v337.toNat, v338.toNat, 192]
def k0_off563 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v346 : Index := Scalar.indexCast v182
  let c208 : Index := 208#32
  ![v346.toNat, 208]
def k0_off564 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v349 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v350 : Index := Scalar.indexCast v183
  let c208_125 : Index := 208#32
  ![v349.toNat, v350.toNat, 208]
def k0_off565 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v358 : Index := Scalar.indexCast v182
  let c224 : Index := 224#32
  ![v358.toNat, 224]
def k0_off566 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v361 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v362 : Index := Scalar.indexCast v183
  let c224_127 : Index := 224#32
  ![v361.toNat, v362.toNat, 224]
def k0_off567 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v370 : Index := Scalar.indexCast v182
  let c240 : Index := 240#32
  ![v370.toNat, 240]
def k0_off568 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v373 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v374 : Index := Scalar.indexCast v183
  let c240_129 : Index := 240#32
  ![v373.toNat, v374.toNat, 240]
def k0_off569 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v382 : Index := Scalar.indexCast v182
  let c256 : Index := 256#32
  ![v382.toNat, 256]
def k0_off570 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v385 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v386 : Index := Scalar.indexCast v183
  let c256_131 : Index := 256#32
  ![v385.toNat, v386.toNat, 256]
def k0_off571 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v394 : Index := Scalar.indexCast v182
  let c272 : Index := 272#32
  ![v394.toNat, 272]
def k0_off572 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v397 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v398 : Index := Scalar.indexCast v183
  let c272_133 : Index := 272#32
  ![v397.toNat, v398.toNat, 272]
def k0_off573 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v406 : Index := Scalar.indexCast v182
  let c288 : Index := 288#32
  ![v406.toNat, 288]
def k0_off574 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v409 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v410 : Index := Scalar.indexCast v183
  let c288_135 : Index := 288#32
  ![v409.toNat, v410.toNat, 288]
def k0_off575 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v418 : Index := Scalar.indexCast v182
  let c304 : Index := 304#32
  ![v418.toNat, 304]
def k0_off576 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v421 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v422 : Index := Scalar.indexCast v183
  let c304_137 : Index := 304#32
  ![v421.toNat, v422.toNat, 304]
def k0_off577 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v430 : Index := Scalar.indexCast v182
  let c320 : Index := 320#32
  ![v430.toNat, 320]
def k0_off578 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v433 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v434 : Index := Scalar.indexCast v183
  let c320_139 : Index := 320#32
  ![v433.toNat, v434.toNat, 320]
def k0_off579 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v442 : Index := Scalar.indexCast v182
  let c336 : Index := 336#32
  ![v442.toNat, 336]
def k0_off580 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v445 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v446 : Index := Scalar.indexCast v183
  let c336_141 : Index := 336#32
  ![v445.toNat, v446.toNat, 336]
def k0_off581 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v454 : Index := Scalar.indexCast v182
  let c352 : Index := 352#32
  ![v454.toNat, 352]
def k0_off582 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v457 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v458 : Index := Scalar.indexCast v183
  let c352_143 : Index := 352#32
  ![v457.toNat, v458.toNat, 352]
def k0_off583 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v466 : Index := Scalar.indexCast v182
  let c368 : Index := 368#32
  ![v466.toNat, 368]
def k0_off584 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v469 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v470 : Index := Scalar.indexCast v183
  let c368_145 : Index := 368#32
  ![v469.toNat, v470.toNat, 368]
def k0_off585 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v478 : Index := Scalar.indexCast v182
  let c384 : Index := 384#32
  ![v478.toNat, 384]
def k0_off586 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v481 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v482 : Index := Scalar.indexCast v183
  let c384_147 : Index := 384#32
  ![v481.toNat, v482.toNat, 384]
def k0_off587 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v490 : Index := Scalar.indexCast v182
  let c400 : Index := 400#32
  ![v490.toNat, 400]
def k0_off588 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v493 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v494 : Index := Scalar.indexCast v183
  let c400_149 : Index := 400#32
  ![v493.toNat, v494.toNat, 400]
def k0_off589 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v502 : Index := Scalar.indexCast v182
  let c416 : Index := 416#32
  ![v502.toNat, 416]
def k0_off590 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v505 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v506 : Index := Scalar.indexCast v183
  let c416_151 : Index := 416#32
  ![v505.toNat, v506.toNat, 416]
def k0_off591 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v514 : Index := Scalar.indexCast v182
  let c432 : Index := 432#32
  ![v514.toNat, 432]
def k0_off592 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v517 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v518 : Index := Scalar.indexCast v183
  let c432_153 : Index := 432#32
  ![v517.toNat, v518.toNat, 432]
def k0_off593 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v526 : Index := Scalar.indexCast v182
  let c448 : Index := 448#32
  ![v526.toNat, 448]
def k0_off594 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v529 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v530 : Index := Scalar.indexCast v183
  let c448_155 : Index := 448#32
  ![v529.toNat, v530.toNat, 448]
def k0_off595 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v538 : Index := Scalar.indexCast v182
  let c464 : Index := 464#32
  ![v538.toNat, 464]
def k0_off596 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v541 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v542 : Index := Scalar.indexCast v183
  let c464_157 : Index := 464#32
  ![v541.toNat, v542.toNat, 464]
def k0_off597 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v550 : Index := Scalar.indexCast v182
  let c480 : Index := 480#32
  ![v550.toNat, 480]
def k0_off598 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v553 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v554 : Index := Scalar.indexCast v183
  let c480_159 : Index := 480#32
  ![v553.toNat, v554.toNat, 480]
def k0_off599 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v562 : Index := Scalar.indexCast v182
  let c496 : Index := 496#32
  ![v562.toNat, 496]

variable {F : FTy → Type} [FloatOps F]

def k0_off600 (v59_0 : BitVec 32) (v62_0 : BitVec 32) (k0_t9 : Fin (k0_t9_loop v59_0 v62_0).trips) (k0_t11 : Fin (k0_t11_loop v59_0 v62_0 k0_t9).trips) : Fin 3 → Nat :=
  let c0_i32_56 : BitVec 32 := 0#32
  let c0_i32_38 : BitVec 32 := 0#32
  let v64 : BitVec 1 := Scalar.cmpi .sgt v59_0 c0_i32_38
  let v65 : BitVec 32 := Scalar.extui v64
  let c0_i32_39 : BitVec 32 := 0#32
  let v66 : BitVec 1 := Scalar.cmpi .slt v59_0 c0_i32_39
  let v67 : BitVec 32 := Scalar.extui v66
  let v68 : BitVec 32 := Scalar.subi v65 v67
  let c8_i32_37 : BitVec 32 := 8#32
  let c0_i32_40 : BitVec 32 := 0#32
  let v69 : BitVec 1 := Scalar.cmpi .sgt c8_i32_37 c0_i32_40
  let v70 : BitVec 32 := Scalar.extui v69
  let c0_i32_41 : BitVec 32 := 0#32
  let v71 : BitVec 1 := Scalar.cmpi .slt c8_i32_37 c0_i32_41
  let v72 : BitVec 32 := Scalar.extui v71
  let v73 : BitVec 32 := Scalar.subi v70 v72
  let v74 : BitVec 1 := Scalar.cmpi .ne v68 v73
  let v75 : BitVec 32 := Scalar.remsi v59_0 c8_i32_37
  let c0_i32_42 : BitVec 32 := 0#32
  let v76 : BitVec 1 := Scalar.cmpi .ne v75 c0_i32_42
  let v77 : BitVec 1 := Scalar.andi v74 v76
  let v63 : BitVec 32 := Scalar.divsi v59_0 c8_i32_37
  let c1_i32_43 : BitVec 32 := 1#32
  let v78 : BitVec 32 := Scalar.subi v63 c1_i32_43
  let v79 : BitVec 32 := Scalar.select v77 v78 v63
  let c8_i32_44 : BitVec 32 := 8#32
  let v80 : BitVec 32 := Scalar.muli v79 c8_i32_44
  let v81 : BitVec 32 := Scalar.subi v62_0 v80
  let c32_i32_45 : BitVec 32 := 32#32
  let v82 : BitVec 32 := Scalar.addi v81 c32_i32_45
  let c1_i32_46 : BitVec 32 := 1#32
  let v83 : BitVec 32 := Scalar.subi v82 c1_i32_46
  let c0_i32_48 : BitVec 32 := 0#32
  let v85 : BitVec 1 := Scalar.cmpi .sgt v83 c0_i32_48
  let v86 : BitVec 32 := Scalar.extui v85
  let c0_i32_49 : BitVec 32 := 0#32
  let v87 : BitVec 1 := Scalar.cmpi .slt v83 c0_i32_49
  let v88 : BitVec 32 := Scalar.extui v87
  let v89 : BitVec 32 := Scalar.subi v86 v88
  let c32_i32_47 : BitVec 32 := 32#32
  let c0_i32_50 : BitVec 32 := 0#32
  let v90 : BitVec 1 := Scalar.cmpi .sgt c32_i32_47 c0_i32_50
  let v91 : BitVec 32 := Scalar.extui v90
  let c0_i32_51 : BitVec 32 := 0#32
  let v92 : BitVec 1 := Scalar.cmpi .slt c32_i32_47 c0_i32_51
  let v93 : BitVec 32 := Scalar.extui v92
  let v94 : BitVec 32 := Scalar.subi v91 v93
  let v95 : BitVec 1 := Scalar.cmpi .ne v89 v94
  let v96 : BitVec 32 := Scalar.remsi v83 c32_i32_47
  let c0_i32_52 : BitVec 32 := 0#32
  let v97 : BitVec 1 := Scalar.cmpi .ne v96 c0_i32_52
  let v98 : BitVec 1 := Scalar.andi v95 v97
  let v84 : BitVec 32 := Scalar.divsi v83 c32_i32_47
  let c1_i32_53 : BitVec 32 := 1#32
  let v99 : BitVec 32 := Scalar.subi v84 c1_i32_53
  let v100 : BitVec 32 := Scalar.select v98 v99 v84
  let v104 : BitVec 32 := Scalar.subi v100 c0_i32_56
  let c1_i32_57 : BitVec 32 := 1#32
  let v106 : BitVec 32 := Scalar.divsi v104 c1_i32_57
  let v107 : BitVec 32 := Scalar.muli v106 c1_i32_57
  let v108 : BitVec 32 := Scalar.addi c0_i32_56 v107
  let c1_i32_59 : BitVec 32 := 1#32
  let arg13 : BitVec 32 := Scf.iv v108 c1_i32_59 k0_t9
  let c2_i32_86 : BitVec 32 := 2#32
  let c0_i32_87 : BitVec 32 := 0#32
  let v157 : BitVec 1 := Scalar.cmpi .eq c2_i32_86 c0_i32_87
  let c1_i32_88 : BitVec 32 := 1#32
  let v158 : BitVec 32 := Scalar.select v157 c1_i32_88 c2_i32_86
  let v159 : BitVec 32 := Scalar.remsi arg13 v158
  let c0_i32_90 : BitVec 32 := 0#32
  let v161 : BitVec 1 := Scalar.cmpi .slt v159 c0_i32_90
  let c0_i32_91 : BitVec 32 := 0#32
  let v162 : BitVec 1 := Scalar.cmpi .slt v158 c0_i32_91
  let v163 : BitVec 1 := Scalar.xori v161 v162
  let c0_i32_89 : BitVec 32 := 0#32
  let v160 : BitVec 1 := Scalar.cmpi .ne v159 c0_i32_89
  let v164 : BitVec 1 := Scalar.andi v163 v160
  let v165 : BitVec 32 := Scalar.addi v159 v158
  let v166 : BitVec 32 := Scalar.select v164 v165 v159
  let v565 : Index := Scalar.indexCast v166
  let c32_i32_71 : BitVec 32 := 32#32
  let v127 : BitVec 32 := Scalar.muli c32_i32_71 arg13
  let v128 : BitVec 32 := Scalar.addi v80 v127
  let v167 : BitVec 32 := Scalar.maxsi v128 v59_0
  let c32_i32_92 : BitVec 32 := 32#32
  let v168 : BitVec 32 := Scalar.addi v128 c32_i32_92
  let v169 : BitVec 32 := Scalar.minsi v168 v62_0
  let v170 : BitVec 32 := Scalar.subi v169 v167
  let c1_i32_93 : BitVec 32 := 1#32
  let v172 : BitVec 32 := Scalar.divsi v170 c1_i32_93
  let v173 : BitVec 32 := Scalar.muli v172 c1_i32_93
  let v174 : BitVec 32 := Scalar.addi v167 v173
  let c1_i32_95 : BitVec 32 := 1#32
  let arg15 : BitVec 32 := Scf.iv v174 c1_i32_95 k0_t11
  let c2016_i32 : BitVec 32 := 2016#32
  let v129 : BitVec 32 := Scalar.minsi v128 c2016_i32
  let v183 : BitVec 32 := Scalar.subi arg15 v129
  let v566 : Index := Scalar.indexCast v183
  let c496_161 : Index := 496#32
  ![v565.toNat, v566.toNat, 496]
def k0_off601 (i : grid0.Coords) (k0_t1 : Fin k0_t1_loop.trips) (v181 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v182 : BitVec 32 := Scalar.subi v181 v40
  let v574 : Index := Scalar.indexCast v182
  let c0_163 : Index := 0#32
  ![v574.toNat, 0]

def k0_chk7_0 (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) : Prop :=
  (∀ (k0_h3 : k0_cond3 i v17 k0_t1 = 1#1), ∀ (k0_h19 : k0_cond19 arg16 v181 = 1#1), ∀ a, (k0_off472 v59_0 v62_0 k0_t9 k0_t11) a + S1x1x16.size a ≤ S2x32x512.size a) ∧
  (∀ (k0_h3 : k0_cond3 i v17 k0_t1 = 1#1), ∀ (k0_h19 : k0_cond19 arg16 v181 = 1#1), ∀ a, (k0_off473 i k0_t1 v181) a + S1x16.size a ≤ S128x512.size a) ∧
  (∀ (k0_h3 : k0_cond3 i v17 k0_t1 = 1#1), ∀ (k0_h19 : k0_cond19 arg16 v181 = 1#1), ∀ a, (k0_off474 v59_0 v62_0 k0_t9 k0_t11) a + S1x1x16.size a ≤ S2x32x512.size a) ∧
  (∀ (k0_h3 : k0_cond3 i v17 k0_t1 = 1#1), ∀ (k0_h19 : k0_cond19 arg16 v181 = 1#1), ∀ a, (k0_off475 i k0_t1 v181) a + S1x16.size a ≤ S128x512.size a) ∧
  (∀ (k0_h3 : k0_cond3 i v17 k0_t1 = 1#1), ∀ (k0_h19 : k0_cond19 arg16 v181 = 1#1), ∀ a, (k0_off476 v59_0 v62_0 k0_t9 k0_t11) a + S1x1x16.size a ≤ S2x32x512.size a) ∧
  (∀ (k0_h3 : k0_cond3 i v17 k0_t1 = 1#1), ∀ (k0_h19 : k0_cond19 arg16 v181 = 1#1), ∀ a, (k0_off477 i k0_t1 v181) a + S1x16.size a ≤ S128x512.size a) ∧
  (∀ (k0_h3 : k0_cond3 i v17 k0_t1 = 1#1), ∀ (k0_h19 : k0_cond19 arg16 v181 = 1#1), ∀ a, (k0_off478 v59_0 v62_0 k0_t9 k0_t11) a + S1x1x16.size a ≤ S2x32x512.size a) ∧
  (∀ (k0_h3 : k0_cond3 i v17 k0_t1 = 1#1), ∀ (k0_h19 : k0_cond19 arg16 v181 = 1#1), ∀ a, (k0_off479 i k0_t1 v181) a + S1x16.size a ≤ S128x512.size a) ∧
  (∀ (k0_h3 : k0_cond3 i v17 k0_t1 = 1#1), ∀ (k0_h19 : k0_cond19 arg16 v181 = 1#1), ∀ a, (k0_off480 v59_0 v62_0 k0_t9 k0_t11) a + S1x1x16.size a ≤ S2x32x512.size a) ∧
  (∀ (k0_h3 : k0_cond3 i v17 k0_t1 = 1#1), ∀ (k0_h19 : k0_cond19 arg16 v181 = 1#1), ∀ a, (k0_off481 i k0_t1 v181) a + S1x16.size a ≤ S128x512.size a) ∧
  (∀ (k0_h3 : k0_cond3 i v17 k0_t1 = 1#1), ∀ (k0_h19 : k0_cond19 arg16 v181 = 1#1), ∀ a, (k0_off482 v59_0 v62_0 k0_t9 k0_t11) a + S1x1x16.size a ≤ S2x32x512.size a) ∧
  (∀ (k0_h3 : k0_cond3 i v17 k0_t1 = 1#1), ∀ (k0_h19 : k0_cond19 arg16 v181 = 1#1), ∀ a, (k0_off483 i k0_t1 v181) a + S1x16.size a ≤ S128x512.size a) ∧
  (∀ (k0_h3 : k0_cond3 i v17 k0_t1 = 1#1), ∀ (k0_h19 : k0_cond19 arg16 v181 = 1#1), ∀ a, (k0_off484 v59_0 v62_0 k0_t9 k0_t11) a + S1x1x16.size a ≤ S2x32x512.size a) ∧
  (∀ (k0_h3 : k0_cond3 i v17 k0_t1 = 1#1), ∀ (k0_h19 : k0_cond19 arg16 v181 = 1#1), ∀ a, (k0_off485 i k0_t1 v181) a + S1x16.size a ≤ S128x512.size a) ∧
  (∀ (k0_h3 : k0_cond3 i v17 k0_t1 = 1#1), ∀ (k0_h19 : k0_cond19 arg16 v181 = 1#1), ∀ a, (k0_off486 v59_0 v62_0 k0_t9 k0_t11) a + S1x1x16.size a ≤ S2x32x512.size a) ∧
  (∀ (k0_h3 : k0_cond3 i v17 k0_t1 = 1#1), ∀ (k0_h19 : k0_cond19 arg16 v181 = 1#1), ∀ a, (k0_off487 i k0_t1 v181) a + S1x16.size a ≤ S128x512.size a) ∧
  (∀ (k0_h3 : k0_cond3 i v17 k0_t1 = 1#1), ∀ (k0_h19 : k0_cond19 arg16 v181 = 1#1), ∀ a, (k0_off488 v59_0 v62_0 k0_t9 k0_t11) a + S1x1x16.size a ≤ S2x32x512.size a) ∧
  (∀ (k0_h3 : k0_cond3 i v17 k0_t1 = 1#1), ∀ (k0_h19 : k0_cond19 arg16 v181 = 1#1), ∀ a, (k0_off489 i k0_t1 v181) a + S1x16.size a ≤ S128x512.size a) ∧
  (∀ (k0_h3 : k0_cond3 i v17 k0_t1 = 1#1), ∀ (k0_h19 : k0_cond19 arg16 v181 = 1#1), ∀ a, (k0_off490 v59_0 v62_0 k0_t9 k0_t11) a + S1x1x16.size a ≤ S2x32x512.size a) ∧
  (∀ (k0_h3 : k0_cond3 i v17 k0_t1 = 1#1), ∀ (k0_h19 : k0_cond19 arg16 v181 = 1#1), ∀ a, (k0_off491 i k0_t1 v181) a + S1x16.size a ≤ S128x512.size a) ∧
  (∀ (k0_h3 : k0_cond3 i v17 k0_t1 = 1#1), ∀ (k0_h19 : k0_cond19 arg16 v181 = 1#1), ∀ a, (k0_off492 v59_0 v62_0 k0_t9 k0_t11) a + S1x1x16.size a ≤ S2x32x512.size a) ∧
  (∀ (k0_h3 : k0_cond3 i v17 k0_t1 = 1#1), ∀ (k0_h19 : k0_cond19 arg16 v181 = 1#1), ∀ a, (k0_off493 i k0_t1 v181) a + S1x16.size a ≤ S128x512.size a) ∧
  (∀ (k0_h3 : k0_cond3 i v17 k0_t1 = 1#1), ∀ (k0_h19 : k0_cond19 arg16 v181 = 1#1), ∀ a, (k0_off494 v59_0 v62_0 k0_t9 k0_t11) a + S1x1x16.size a ≤ S2x32x512.size a) ∧
  (∀ (k0_h3 : k0_cond3 i v17 k0_t1 = 1#1), ∀ (k0_h19 : k0_cond19 arg16 v181 = 1#1), ∀ a, (k0_off495 i k0_t1 v181) a + S1x16.size a ≤ S128x512.size a) ∧
  (∀ (k0_h3 : k0_cond3 i v17 k0_t1 = 1#1), ∀ (k0_h19 : k0_cond19 arg16 v181 = 1#1), ∀ a, (k0_off496 v59_0 v62_0 k0_t9 k0_t11) a + S1x1x16.size a ≤ S2x32x512.size a) ∧
  (∀ (k0_h3 : k0_cond3 i v17 k0_t1 = 1#1), ∀ (k0_h19 : k0_cond19 arg16 v181 = 1#1), ∀ a, (k0_off497 i k0_t1 v181) a + S1x16.size a ≤ S128x512.size a) ∧
  (∀ (k0_h3 : k0_cond3 i v17 k0_t1 = 1#1), ∀ (k0_h19 : k0_cond19 arg16 v181 = 1#1), ∀ a, (k0_off498 v59_0 v62_0 k0_t9 k0_t11) a + S1x1x16.size a ≤ S2x32x512.size a) ∧
  (∀ (k0_h3 : k0_cond3 i v17 k0_t1 = 1#1), ∀ (k0_h19 : k0_cond19 arg16 v181 = 1#1), ∀ a, (k0_off499 i k0_t1 v181) a + S1x16.size a ≤ S128x512.size a) ∧
  (∀ (k0_h3 : k0_cond3 i v17 k0_t1 = 1#1), ∀ (k0_h19 : k0_cond19 arg16 v181 = 1#1), ∀ a, (k0_off500 v59_0 v62_0 k0_t9 k0_t11) a + S1x1x16.size a ≤ S2x32x512.size a) ∧
  (∀ (k0_h3 : k0_cond3 i v17 k0_t1 = 1#1), ∀ (k0_h19 : k0_cond19 arg16 v181 = 1#1), ∀ a, (k0_off501 i k0_t1 v181) a + S1x16.size a ≤ S128x512.size a) ∧
  (∀ (k0_h3 : k0_cond3 i v17 k0_t1 = 1#1), ∀ (k0_h19 : k0_cond19 arg16 v181 = 1#1), ∀ a, (k0_off502 v59_0 v62_0 k0_t9 k0_t11) a + S1x1x16.size a ≤ S2x32x512.size a) ∧
  (∀ (k0_h3 : k0_cond3 i v17 k0_t1 = 1#1), ∀ (k0_h19 : k0_cond19 arg16 v181 = 1#1), ∀ a, (k0_off503 i k0_t1 v181) a + S1x16.size a ≤ S128x512.size a)
def k0_chk7_1 (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) : Prop :=
  (∀ (k0_h3 : k0_cond3 i v17 k0_t1 = 1#1), ∀ (k0_h19 : k0_cond19 arg16 v181 = 1#1), ∀ a, (k0_off504 v59_0 v62_0 k0_t9 k0_t11) a + S1x1x16.size a ≤ S2x32x512.size a) ∧
  (∀ (k0_h3 : k0_cond3 i v17 k0_t1 = 1#1), ∀ (k0_h19 : k0_cond19 arg16 v181 = 1#1), ∀ a, (k0_off505 i k0_t1 v181) a + S1x16.size a ≤ S128x512.size a) ∧
  (∀ (k0_h3 : k0_cond3 i v17 k0_t1 = 1#1), ∀ (k0_h19 : k0_cond19 arg16 v181 = 1#1), ∀ a, (k0_off506 v59_0 v62_0 k0_t9 k0_t11) a + S1x1x16.size a ≤ S2x32x512.size a) ∧
  (∀ (k0_h3 : k0_cond3 i v17 k0_t1 = 1#1), ∀ (k0_h19 : k0_cond19 arg16 v181 = 1#1), ∀ a, (k0_off507 i k0_t1 v181) a + S1x16.size a ≤ S128x512.size a) ∧
  (∀ (k0_h3 : k0_cond3 i v17 k0_t1 = 1#1), ∀ (k0_h19 : k0_cond19 arg16 v181 = 1#1), ∀ a, (k0_off508 v59_0 v62_0 k0_t9 k0_t11) a + S1x1x16.size a ≤ S2x32x512.size a) ∧
  (∀ (k0_h3 : k0_cond3 i v17 k0_t1 = 1#1), ∀ (k0_h19 : k0_cond19 arg16 v181 = 1#1), ∀ a, (k0_off509 i k0_t1 v181) a + S1x16.size a ≤ S128x512.size a) ∧
  (∀ (k0_h3 : k0_cond3 i v17 k0_t1 = 1#1), ∀ (k0_h19 : k0_cond19 arg16 v181 = 1#1), ∀ a, (k0_off510 v59_0 v62_0 k0_t9 k0_t11) a + S1x1x16.size a ≤ S2x32x512.size a) ∧
  (∀ (k0_h3 : k0_cond3 i v17 k0_t1 = 1#1), ∀ (k0_h19 : k0_cond19 arg16 v181 = 1#1), ∀ a, (k0_off511 i k0_t1 v181) a + S1x16.size a ≤ S128x512.size a) ∧
  (∀ (k0_h3 : k0_cond3 i v17 k0_t1 = 1#1), ∀ (k0_h19 : k0_cond19 arg16 v181 = 1#1), ∀ a, (k0_off512 v59_0 v62_0 k0_t9 k0_t11) a + S1x1x16.size a ≤ S2x32x512.size a) ∧
  (∀ (k0_h3 : k0_cond3 i v17 k0_t1 = 1#1), ∀ (k0_h19 : k0_cond19 arg16 v181 = 1#1), ∀ a, (k0_off513 i k0_t1 v181) a + S1x16.size a ≤ S128x512.size a) ∧
  (∀ (k0_h3 : k0_cond3 i v17 k0_t1 = 1#1), ∀ (k0_h19 : k0_cond19 arg16 v181 = 1#1), ∀ a, (k0_off514 v59_0 v62_0 k0_t9 k0_t11) a + S1x1x16.size a ≤ S2x32x512.size a) ∧
  (∀ (k0_h3 : k0_cond3 i v17 k0_t1 = 1#1), ∀ (k0_h19 : k0_cond19 arg16 v181 = 1#1), ∀ a, (k0_off515 i k0_t1 v181) a + S1x16.size a ≤ S128x512.size a) ∧
  (∀ (k0_h3 : k0_cond3 i v17 k0_t1 = 1#1), ∀ (k0_h19 : k0_cond19 arg16 v181 = 1#1), ∀ a, (k0_off516 v59_0 v62_0 k0_t9 k0_t11) a + S1x1x16.size a ≤ S2x32x512.size a) ∧
  (∀ (k0_h3 : k0_cond3 i v17 k0_t1 = 1#1), ∀ (k0_h19 : k0_cond19 arg16 v181 = 1#1), ∀ a, (k0_off517 i k0_t1 v181) a + S1x16.size a ≤ S128x512.size a) ∧
  (∀ (k0_h3 : k0_cond3 i v17 k0_t1 = 1#1), ∀ (k0_h19 : k0_cond19 arg16 v181 = 1#1), ∀ a, (k0_off518 v59_0 v62_0 k0_t9 k0_t11) a + S1x1x16.size a ≤ S2x32x512.size a) ∧
  (∀ (k0_h3 : k0_cond3 i v17 k0_t1 = 1#1), ∀ (k0_h19 : k0_cond19 arg16 v181 = 1#1), ∀ a, (k0_off519 i k0_t1 v181) a + S1x16.size a ≤ S128x512.size a) ∧
  (∀ (k0_h3 : k0_cond3 i v17 k0_t1 = 1#1), ∀ (k0_h19 : k0_cond19 arg16 v181 = 1#1), ∀ a, (k0_off520 v59_0 v62_0 k0_t9 k0_t11) a + S1x1x16.size a ≤ S2x32x512.size a) ∧
  (∀ (k0_h3 : k0_cond3 i v17 k0_t1 = 1#1), ∀ (k0_h19 : k0_cond19 arg16 v181 = 1#1), ∀ a, (k0_off521 i k0_t1 v181) a + S1x16.size a ≤ S128x512.size a) ∧
  (∀ (k0_h3 : k0_cond3 i v17 k0_t1 = 1#1), ∀ (k0_h19 : k0_cond19 arg16 v181 = 1#1), ∀ a, (k0_off522 v59_0 v62_0 k0_t9 k0_t11) a + S1x1x16.size a ≤ S2x32x512.size a) ∧
  (∀ (k0_h3 : k0_cond3 i v17 k0_t1 = 1#1), ∀ (k0_h19 : k0_cond19 arg16 v181 = 1#1), ∀ a, (k0_off523 i k0_t1 v181) a + S1x16.size a ≤ S128x512.size a) ∧
  (∀ (k0_h3 : k0_cond3 i v17 k0_t1 = 1#1), ∀ (k0_h19 : k0_cond19 arg16 v181 = 1#1), ∀ a, (k0_off524 v59_0 v62_0 k0_t9 k0_t11) a + S1x1x16.size a ≤ S2x32x512.size a) ∧
  (∀ (k0_h3 : k0_cond3 i v17 k0_t1 = 1#1), ∀ (k0_h19 : k0_cond19 arg16 v181 = 1#1), ∀ a, (k0_off525 i k0_t1 v181) a + S1x16.size a ≤ S128x512.size a) ∧
  (∀ (k0_h3 : k0_cond3 i v17 k0_t1 = 1#1), ∀ (k0_h19 : k0_cond19 arg16 v181 = 1#1), ∀ a, (k0_off526 v59_0 v62_0 k0_t9 k0_t11) a + S1x1x16.size a ≤ S2x32x512.size a) ∧
  (∀ (k0_h3 : k0_cond3 i v17 k0_t1 = 1#1), ∀ (k0_h19 : k0_cond19 arg16 v181 = 1#1), ∀ a, (k0_off527 i k0_t1 v181) a + S1x16.size a ≤ S128x512.size a) ∧
  (∀ (k0_h3 : k0_cond3 i v17 k0_t1 = 1#1), ∀ (k0_h19 : k0_cond19 arg16 v181 = 1#1), ∀ a, (k0_off528 v59_0 v62_0 k0_t9 k0_t11) a + S1x1x16.size a ≤ S2x32x512.size a) ∧
  (∀ (k0_h3 : k0_cond3 i v17 k0_t1 = 1#1), ∀ (k0_h19 : k0_cond19 arg16 v181 = 1#1), ∀ a, (k0_off529 i k0_t1 v181) a + S1x16.size a ≤ S128x512.size a) ∧
  (∀ (k0_h3 : k0_cond3 i v17 k0_t1 = 1#1), ∀ (k0_h19 : k0_cond19 arg16 v181 = 1#1), ∀ a, (k0_off530 v59_0 v62_0 k0_t9 k0_t11) a + S1x1x16.size a ≤ S2x32x512.size a) ∧
  (∀ (k0_h3 : k0_cond3 i v17 k0_t1 = 1#1), ∀ (k0_h19 : k0_cond19 arg16 v181 = 1#1), ∀ a, (k0_off531 i k0_t1 v181) a + S1x16.size a ≤ S128x512.size a) ∧
  (∀ (k0_h3 : k0_cond3 i v17 k0_t1 = 1#1), ∀ (k0_h19 : k0_cond19 arg16 v181 = 1#1), ∀ a, (k0_off532 v59_0 v62_0 k0_t9 k0_t11) a + S1x1x16.size a ≤ S2x32x512.size a) ∧
  (∀ (k0_h3 : k0_cond3 i v17 k0_t1 = 1#1), ∀ (k0_h19 : k0_cond19 arg16 v181 = 1#1), ∀ a, (k0_off533 i k0_t1 v181) a + S1x16.size a ≤ S128x512.size a) ∧
  (∀ (k0_h3 : k0_cond3 i v17 k0_t1 = 1#1), ∀ (k0_h19 : k0_cond19 arg16 v181 = 1#1), ∀ a, (k0_off534 v59_0 v62_0 k0_t9 k0_t11) a + S1x1x16.size a ≤ S2x32x512.size a) ∧
  (∀ (k0_h3 : k0_cond3 i v17 k0_t1 = 1#1), ∀ (k0_h19 : k0_cond19 arg16 v181 = 1#1), ∀ a, (k0_off535 i k0_t1 v181) a + S1x16.size a ≤ S128x512.size a)
def k0_chk7_2 (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) : Prop :=
  (∀ (k0_h3 : k0_cond3 i v17 k0_t1 = 1#1), ∀ (k0_h19 : k0_cond19 arg16 v181 = 1#1), ∀ a, (k0_off536 i k0_t1 v181) a + S1x16.size a ≤ S128x16.size a) ∧
  (∀ (k0_h3 : k0_cond3 i v17 k0_t1 = 1#1), ∀ (k0_h20 : k0_cond20 arg16 v181 = 1#1), ∀ a, (k0_off537 i k0_t1 v181) a + S1x16.size a ≤ S128x512.size a) ∧
  (∀ (k0_h3 : k0_cond3 i v17 k0_t1 = 1#1), ∀ (k0_h20 : k0_cond20 arg16 v181 = 1#1), ∀ a, (k0_off538 v59_0 v62_0 k0_t9 k0_t11) a + S1x1x16.size a ≤ S2x32x512.size a) ∧
  (∀ (k0_h3 : k0_cond3 i v17 k0_t1 = 1#1), ∀ (k0_h20 : k0_cond20 arg16 v181 = 1#1), ∀ a, (k0_off539 i k0_t1 v181) a + S1x16.size a ≤ S128x512.size a) ∧
  (∀ (k0_h3 : k0_cond3 i v17 k0_t1 = 1#1), ∀ (k0_h20 : k0_cond20 arg16 v181 = 1#1), ∀ a, (k0_off540 v59_0 v62_0 k0_t9 k0_t11) a + S1x1x16.size a ≤ S2x32x512.size a) ∧
  (∀ (k0_h3 : k0_cond3 i v17 k0_t1 = 1#1), ∀ (k0_h20 : k0_cond20 arg16 v181 = 1#1), ∀ a, (k0_off541 i k0_t1 v181) a + S1x16.size a ≤ S128x512.size a) ∧
  (∀ (k0_h3 : k0_cond3 i v17 k0_t1 = 1#1), ∀ (k0_h20 : k0_cond20 arg16 v181 = 1#1), ∀ a, (k0_off542 v59_0 v62_0 k0_t9 k0_t11) a + S1x1x16.size a ≤ S2x32x512.size a) ∧
  (∀ (k0_h3 : k0_cond3 i v17 k0_t1 = 1#1), ∀ (k0_h20 : k0_cond20 arg16 v181 = 1#1), ∀ a, (k0_off543 i k0_t1 v181) a + S1x16.size a ≤ S128x512.size a) ∧
  (∀ (k0_h3 : k0_cond3 i v17 k0_t1 = 1#1), ∀ (k0_h20 : k0_cond20 arg16 v181 = 1#1), ∀ a, (k0_off544 v59_0 v62_0 k0_t9 k0_t11) a + S1x1x16.size a ≤ S2x32x512.size a) ∧
  (∀ (k0_h3 : k0_cond3 i v17 k0_t1 = 1#1), ∀ (k0_h20 : k0_cond20 arg16 v181 = 1#1), ∀ a, (k0_off545 i k0_t1 v181) a + S1x16.size a ≤ S128x512.size a) ∧
  (∀ (k0_h3 : k0_cond3 i v17 k0_t1 = 1#1), ∀ (k0_h20 : k0_cond20 arg16 v181 = 1#1), ∀ a, (k0_off546 v59_0 v62_0 k0_t9 k0_t11) a + S1x1x16.size a ≤ S2x32x512.size a) ∧
  (∀ (k0_h3 : k0_cond3 i v17 k0_t1 = 1#1), ∀ (k0_h20 : k0_cond20 arg16 v181 = 1#1), ∀ a, (k0_off547 i k0_t1 v181) a + S1x16.size a ≤ S128x512.size a) ∧
  (∀ (k0_h3 : k0_cond3 i v17 k0_t1 = 1#1), ∀ (k0_h20 : k0_cond20 arg16 v181 = 1#1), ∀ a, (k0_off548 v59_0 v62_0 k0_t9 k0_t11) a + S1x1x16.size a ≤ S2x32x512.size a) ∧
  (∀ (k0_h3 : k0_cond3 i v17 k0_t1 = 1#1), ∀ (k0_h20 : k0_cond20 arg16 v181 = 1#1), ∀ a, (k0_off549 i k0_t1 v181) a + S1x16.size a ≤ S128x512.size a) ∧
  (∀ (k0_h3 : k0_cond3 i v17 k0_t1 = 1#1), ∀ (k0_h20 : k0_cond20 arg16 v181 = 1#1), ∀ a, (k0_off550 v59_0 v62_0 k0_t9 k0_t11) a + S1x1x16.size a ≤ S2x32x512.size a) ∧
  (∀ (k0_h3 : k0_cond3 i v17 k0_t1 = 1#1), ∀ (k0_h20 : k0_cond20 arg16 v181 = 1#1), ∀ a, (k0_off551 i k0_t1 v181) a + S1x16.size a ≤ S128x512.size a) ∧
  (∀ (k0_h3 : k0_cond3 i v17 k0_t1 = 1#1), ∀ (k0_h20 : k0_cond20 arg16 v181 = 1#1), ∀ a, (k0_off552 v59_0 v62_0 k0_t9 k0_t11) a + S1x1x16.size a ≤ S2x32x512.size a) ∧
  (∀ (k0_h3 : k0_cond3 i v17 k0_t1 = 1#1), ∀ (k0_h20 : k0_cond20 arg16 v181 = 1#1), ∀ a, (k0_off553 i k0_t1 v181) a + S1x16.size a ≤ S128x512.size a) ∧
  (∀ (k0_h3 : k0_cond3 i v17 k0_t1 = 1#1), ∀ (k0_h20 : k0_cond20 arg16 v181 = 1#1), ∀ a, (k0_off554 v59_0 v62_0 k0_t9 k0_t11) a + S1x1x16.size a ≤ S2x32x512.size a) ∧
  (∀ (k0_h3 : k0_cond3 i v17 k0_t1 = 1#1), ∀ (k0_h20 : k0_cond20 arg16 v181 = 1#1), ∀ a, (k0_off555 i k0_t1 v181) a + S1x16.size a ≤ S128x512.size a) ∧
  (∀ (k0_h3 : k0_cond3 i v17 k0_t1 = 1#1), ∀ (k0_h20 : k0_cond20 arg16 v181 = 1#1), ∀ a, (k0_off556 v59_0 v62_0 k0_t9 k0_t11) a + S1x1x16.size a ≤ S2x32x512.size a) ∧
  (∀ (k0_h3 : k0_cond3 i v17 k0_t1 = 1#1), ∀ (k0_h20 : k0_cond20 arg16 v181 = 1#1), ∀ a, (k0_off557 i k0_t1 v181) a + S1x16.size a ≤ S128x512.size a) ∧
  (∀ (k0_h3 : k0_cond3 i v17 k0_t1 = 1#1), ∀ (k0_h20 : k0_cond20 arg16 v181 = 1#1), ∀ a, (k0_off558 v59_0 v62_0 k0_t9 k0_t11) a + S1x1x16.size a ≤ S2x32x512.size a) ∧
  (∀ (k0_h3 : k0_cond3 i v17 k0_t1 = 1#1), ∀ (k0_h20 : k0_cond20 arg16 v181 = 1#1), ∀ a, (k0_off559 i k0_t1 v181) a + S1x16.size a ≤ S128x512.size a) ∧
  (∀ (k0_h3 : k0_cond3 i v17 k0_t1 = 1#1), ∀ (k0_h20 : k0_cond20 arg16 v181 = 1#1), ∀ a, (k0_off560 v59_0 v62_0 k0_t9 k0_t11) a + S1x1x16.size a ≤ S2x32x512.size a) ∧
  (∀ (k0_h3 : k0_cond3 i v17 k0_t1 = 1#1), ∀ (k0_h20 : k0_cond20 arg16 v181 = 1#1), ∀ a, (k0_off561 i k0_t1 v181) a + S1x16.size a ≤ S128x512.size a) ∧
  (∀ (k0_h3 : k0_cond3 i v17 k0_t1 = 1#1), ∀ (k0_h20 : k0_cond20 arg16 v181 = 1#1), ∀ a, (k0_off562 v59_0 v62_0 k0_t9 k0_t11) a + S1x1x16.size a ≤ S2x32x512.size a) ∧
  (∀ (k0_h3 : k0_cond3 i v17 k0_t1 = 1#1), ∀ (k0_h20 : k0_cond20 arg16 v181 = 1#1), ∀ a, (k0_off563 i k0_t1 v181) a + S1x16.size a ≤ S128x512.size a) ∧
  (∀ (k0_h3 : k0_cond3 i v17 k0_t1 = 1#1), ∀ (k0_h20 : k0_cond20 arg16 v181 = 1#1), ∀ a, (k0_off564 v59_0 v62_0 k0_t9 k0_t11) a + S1x1x16.size a ≤ S2x32x512.size a) ∧
  (∀ (k0_h3 : k0_cond3 i v17 k0_t1 = 1#1), ∀ (k0_h20 : k0_cond20 arg16 v181 = 1#1), ∀ a, (k0_off565 i k0_t1 v181) a + S1x16.size a ≤ S128x512.size a) ∧
  (∀ (k0_h3 : k0_cond3 i v17 k0_t1 = 1#1), ∀ (k0_h20 : k0_cond20 arg16 v181 = 1#1), ∀ a, (k0_off566 v59_0 v62_0 k0_t9 k0_t11) a + S1x1x16.size a ≤ S2x32x512.size a) ∧
  (∀ (k0_h3 : k0_cond3 i v17 k0_t1 = 1#1), ∀ (k0_h20 : k0_cond20 arg16 v181 = 1#1), ∀ a, (k0_off567 i k0_t1 v181) a + S1x16.size a ≤ S128x512.size a)
def k0_chk7_3 (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) : Prop :=
  (∀ (k0_h3 : k0_cond3 i v17 k0_t1 = 1#1), ∀ (k0_h20 : k0_cond20 arg16 v181 = 1#1), ∀ a, (k0_off568 v59_0 v62_0 k0_t9 k0_t11) a + S1x1x16.size a ≤ S2x32x512.size a) ∧
  (∀ (k0_h3 : k0_cond3 i v17 k0_t1 = 1#1), ∀ (k0_h20 : k0_cond20 arg16 v181 = 1#1), ∀ a, (k0_off569 i k0_t1 v181) a + S1x16.size a ≤ S128x512.size a) ∧
  (∀ (k0_h3 : k0_cond3 i v17 k0_t1 = 1#1), ∀ (k0_h20 : k0_cond20 arg16 v181 = 1#1), ∀ a, (k0_off570 v59_0 v62_0 k0_t9 k0_t11) a + S1x1x16.size a ≤ S2x32x512.size a) ∧
  (∀ (k0_h3 : k0_cond3 i v17 k0_t1 = 1#1), ∀ (k0_h20 : k0_cond20 arg16 v181 = 1#1), ∀ a, (k0_off571 i k0_t1 v181) a + S1x16.size a ≤ S128x512.size a) ∧
  (∀ (k0_h3 : k0_cond3 i v17 k0_t1 = 1#1), ∀ (k0_h20 : k0_cond20 arg16 v181 = 1#1), ∀ a, (k0_off572 v59_0 v62_0 k0_t9 k0_t11) a + S1x1x16.size a ≤ S2x32x512.size a) ∧
  (∀ (k0_h3 : k0_cond3 i v17 k0_t1 = 1#1), ∀ (k0_h20 : k0_cond20 arg16 v181 = 1#1), ∀ a, (k0_off573 i k0_t1 v181) a + S1x16.size a ≤ S128x512.size a) ∧
  (∀ (k0_h3 : k0_cond3 i v17 k0_t1 = 1#1), ∀ (k0_h20 : k0_cond20 arg16 v181 = 1#1), ∀ a, (k0_off574 v59_0 v62_0 k0_t9 k0_t11) a + S1x1x16.size a ≤ S2x32x512.size a) ∧
  (∀ (k0_h3 : k0_cond3 i v17 k0_t1 = 1#1), ∀ (k0_h20 : k0_cond20 arg16 v181 = 1#1), ∀ a, (k0_off575 i k0_t1 v181) a + S1x16.size a ≤ S128x512.size a) ∧
  (∀ (k0_h3 : k0_cond3 i v17 k0_t1 = 1#1), ∀ (k0_h20 : k0_cond20 arg16 v181 = 1#1), ∀ a, (k0_off576 v59_0 v62_0 k0_t9 k0_t11) a + S1x1x16.size a ≤ S2x32x512.size a) ∧
  (∀ (k0_h3 : k0_cond3 i v17 k0_t1 = 1#1), ∀ (k0_h20 : k0_cond20 arg16 v181 = 1#1), ∀ a, (k0_off577 i k0_t1 v181) a + S1x16.size a ≤ S128x512.size a) ∧
  (∀ (k0_h3 : k0_cond3 i v17 k0_t1 = 1#1), ∀ (k0_h20 : k0_cond20 arg16 v181 = 1#1), ∀ a, (k0_off578 v59_0 v62_0 k0_t9 k0_t11) a + S1x1x16.size a ≤ S2x32x512.size a) ∧
  (∀ (k0_h3 : k0_cond3 i v17 k0_t1 = 1#1), ∀ (k0_h20 : k0_cond20 arg16 v181 = 1#1), ∀ a, (k0_off579 i k0_t1 v181) a + S1x16.size a ≤ S128x512.size a) ∧
  (∀ (k0_h3 : k0_cond3 i v17 k0_t1 = 1#1), ∀ (k0_h20 : k0_cond20 arg16 v181 = 1#1), ∀ a, (k0_off580 v59_0 v62_0 k0_t9 k0_t11) a + S1x1x16.size a ≤ S2x32x512.size a) ∧
  (∀ (k0_h3 : k0_cond3 i v17 k0_t1 = 1#1), ∀ (k0_h20 : k0_cond20 arg16 v181 = 1#1), ∀ a, (k0_off581 i k0_t1 v181) a + S1x16.size a ≤ S128x512.size a) ∧
  (∀ (k0_h3 : k0_cond3 i v17 k0_t1 = 1#1), ∀ (k0_h20 : k0_cond20 arg16 v181 = 1#1), ∀ a, (k0_off582 v59_0 v62_0 k0_t9 k0_t11) a + S1x1x16.size a ≤ S2x32x512.size a) ∧
  (∀ (k0_h3 : k0_cond3 i v17 k0_t1 = 1#1), ∀ (k0_h20 : k0_cond20 arg16 v181 = 1#1), ∀ a, (k0_off583 i k0_t1 v181) a + S1x16.size a ≤ S128x512.size a) ∧
  (∀ (k0_h3 : k0_cond3 i v17 k0_t1 = 1#1), ∀ (k0_h20 : k0_cond20 arg16 v181 = 1#1), ∀ a, (k0_off584 v59_0 v62_0 k0_t9 k0_t11) a + S1x1x16.size a ≤ S2x32x512.size a) ∧
  (∀ (k0_h3 : k0_cond3 i v17 k0_t1 = 1#1), ∀ (k0_h20 : k0_cond20 arg16 v181 = 1#1), ∀ a, (k0_off585 i k0_t1 v181) a + S1x16.size a ≤ S128x512.size a) ∧
  (∀ (k0_h3 : k0_cond3 i v17 k0_t1 = 1#1), ∀ (k0_h20 : k0_cond20 arg16 v181 = 1#1), ∀ a, (k0_off586 v59_0 v62_0 k0_t9 k0_t11) a + S1x1x16.size a ≤ S2x32x512.size a) ∧
  (∀ (k0_h3 : k0_cond3 i v17 k0_t1 = 1#1), ∀ (k0_h20 : k0_cond20 arg16 v181 = 1#1), ∀ a, (k0_off587 i k0_t1 v181) a + S1x16.size a ≤ S128x512.size a) ∧
  (∀ (k0_h3 : k0_cond3 i v17 k0_t1 = 1#1), ∀ (k0_h20 : k0_cond20 arg16 v181 = 1#1), ∀ a, (k0_off588 v59_0 v62_0 k0_t9 k0_t11) a + S1x1x16.size a ≤ S2x32x512.size a) ∧
  (∀ (k0_h3 : k0_cond3 i v17 k0_t1 = 1#1), ∀ (k0_h20 : k0_cond20 arg16 v181 = 1#1), ∀ a, (k0_off589 i k0_t1 v181) a + S1x16.size a ≤ S128x512.size a) ∧
  (∀ (k0_h3 : k0_cond3 i v17 k0_t1 = 1#1), ∀ (k0_h20 : k0_cond20 arg16 v181 = 1#1), ∀ a, (k0_off590 v59_0 v62_0 k0_t9 k0_t11) a + S1x1x16.size a ≤ S2x32x512.size a) ∧
  (∀ (k0_h3 : k0_cond3 i v17 k0_t1 = 1#1), ∀ (k0_h20 : k0_cond20 arg16 v181 = 1#1), ∀ a, (k0_off591 i k0_t1 v181) a + S1x16.size a ≤ S128x512.size a) ∧
  (∀ (k0_h3 : k0_cond3 i v17 k0_t1 = 1#1), ∀ (k0_h20 : k0_cond20 arg16 v181 = 1#1), ∀ a, (k0_off592 v59_0 v62_0 k0_t9 k0_t11) a + S1x1x16.size a ≤ S2x32x512.size a) ∧
  (∀ (k0_h3 : k0_cond3 i v17 k0_t1 = 1#1), ∀ (k0_h20 : k0_cond20 arg16 v181 = 1#1), ∀ a, (k0_off593 i k0_t1 v181) a + S1x16.size a ≤ S128x512.size a) ∧
  (∀ (k0_h3 : k0_cond3 i v17 k0_t1 = 1#1), ∀ (k0_h20 : k0_cond20 arg16 v181 = 1#1), ∀ a, (k0_off594 v59_0 v62_0 k0_t9 k0_t11) a + S1x1x16.size a ≤ S2x32x512.size a) ∧
  (∀ (k0_h3 : k0_cond3 i v17 k0_t1 = 1#1), ∀ (k0_h20 : k0_cond20 arg16 v181 = 1#1), ∀ a, (k0_off595 i k0_t1 v181) a + S1x16.size a ≤ S128x512.size a) ∧
  (∀ (k0_h3 : k0_cond3 i v17 k0_t1 = 1#1), ∀ (k0_h20 : k0_cond20 arg16 v181 = 1#1), ∀ a, (k0_off596 v59_0 v62_0 k0_t9 k0_t11) a + S1x1x16.size a ≤ S2x32x512.size a) ∧
  (∀ (k0_h3 : k0_cond3 i v17 k0_t1 = 1#1), ∀ (k0_h20 : k0_cond20 arg16 v181 = 1#1), ∀ a, (k0_off597 i k0_t1 v181) a + S1x16.size a ≤ S128x512.size a) ∧
  (∀ (k0_h3 : k0_cond3 i v17 k0_t1 = 1#1), ∀ (k0_h20 : k0_cond20 arg16 v181 = 1#1), ∀ a, (k0_off598 v59_0 v62_0 k0_t9 k0_t11) a + S1x1x16.size a ≤ S2x32x512.size a) ∧
  (∀ (k0_h3 : k0_cond3 i v17 k0_t1 = 1#1), ∀ (k0_h20 : k0_cond20 arg16 v181 = 1#1), ∀ a, (k0_off599 i k0_t1 v181) a + S1x16.size a ≤ S128x512.size a)
def k0_chk7_4 (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) : Prop :=
  (∀ (k0_h3 : k0_cond3 i v17 k0_t1 = 1#1), ∀ (k0_h20 : k0_cond20 arg16 v181 = 1#1), ∀ a, (k0_off600 v59_0 v62_0 k0_t9 k0_t11) a + S1x1x16.size a ≤ S2x32x512.size a) ∧
  (∀ (k0_h3 : k0_cond3 i v17 k0_t1 = 1#1), ∀ (k0_h20 : k0_cond20 arg16 v181 = 1#1), ∀ a, (k0_off601 i k0_t1 v181) a + S1x16.size a ≤ S128x16.size a)
def k0_chk7 (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) : Prop :=
  k0_chk7_0 i v17 k0_t1 v59_0 v62_0 k0_t9 k0_t11 arg16 v181 ∧
  k0_chk7_1 i v17 k0_t1 v59_0 v62_0 k0_t9 k0_t11 arg16 v181 ∧
  k0_chk7_2 i v17 k0_t1 v59_0 v62_0 k0_t9 k0_t11 arg16 v181 ∧
  k0_chk7_3 i v17 k0_t1 v59_0 v62_0 k0_t9 k0_t11 arg16 v181 ∧
  k0_chk7_4 i v17 k0_t1 v59_0 v62_0 k0_t9 k0_t11 arg16 v181
theorem k0_off472_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off472 v59_0 v62_0 k0_t9 k0_t11) a + S1x1x16.size a ≤ S2x32x512.size a := fun i v17 k0_t1 v59_0 v62_0 k0_t9 k0_t11 arg16 v181 k0_hw7 k0_h3 k0_h19 => k0_hw7.1.1 k0_h3 k0_h19
theorem k0_off473_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off473 i k0_t1 v181) a + S1x16.size a ≤ S128x512.size a := fun i v17 k0_t1 v59_0 v62_0 k0_t9 k0_t11 arg16 v181 k0_hw7 k0_h3 k0_h19 => k0_hw7.1.2.1 k0_h3 k0_h19
theorem k0_off474_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off474 v59_0 v62_0 k0_t9 k0_t11) a + S1x1x16.size a ≤ S2x32x512.size a := fun i v17 k0_t1 v59_0 v62_0 k0_t9 k0_t11 arg16 v181 k0_hw7 k0_h3 k0_h19 => k0_hw7.1.2.2.1 k0_h3 k0_h19
theorem k0_off475_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off475 i k0_t1 v181) a + S1x16.size a ≤ S128x512.size a := fun i v17 k0_t1 v59_0 v62_0 k0_t9 k0_t11 arg16 v181 k0_hw7 k0_h3 k0_h19 => k0_hw7.1.2.2.2.1 k0_h3 k0_h19
theorem k0_off476_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off476 v59_0 v62_0 k0_t9 k0_t11) a + S1x1x16.size a ≤ S2x32x512.size a := fun i v17 k0_t1 v59_0 v62_0 k0_t9 k0_t11 arg16 v181 k0_hw7 k0_h3 k0_h19 => k0_hw7.1.2.2.2.2.1 k0_h3 k0_h19
theorem k0_off477_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off477 i k0_t1 v181) a + S1x16.size a ≤ S128x512.size a := fun i v17 k0_t1 v59_0 v62_0 k0_t9 k0_t11 arg16 v181 k0_hw7 k0_h3 k0_h19 => k0_hw7.1.2.2.2.2.2.1 k0_h3 k0_h19
theorem k0_off478_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off478 v59_0 v62_0 k0_t9 k0_t11) a + S1x1x16.size a ≤ S2x32x512.size a := fun i v17 k0_t1 v59_0 v62_0 k0_t9 k0_t11 arg16 v181 k0_hw7 k0_h3 k0_h19 => k0_hw7.1.2.2.2.2.2.2.1 k0_h3 k0_h19
theorem k0_off479_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off479 i k0_t1 v181) a + S1x16.size a ≤ S128x512.size a := fun i v17 k0_t1 v59_0 v62_0 k0_t9 k0_t11 arg16 v181 k0_hw7 k0_h3 k0_h19 => k0_hw7.1.2.2.2.2.2.2.2.1 k0_h3 k0_h19
theorem k0_off480_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off480 v59_0 v62_0 k0_t9 k0_t11) a + S1x1x16.size a ≤ S2x32x512.size a := fun i v17 k0_t1 v59_0 v62_0 k0_t9 k0_t11 arg16 v181 k0_hw7 k0_h3 k0_h19 => k0_hw7.1.2.2.2.2.2.2.2.2.1 k0_h3 k0_h19
theorem k0_off481_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off481 i k0_t1 v181) a + S1x16.size a ≤ S128x512.size a := fun i v17 k0_t1 v59_0 v62_0 k0_t9 k0_t11 arg16 v181 k0_hw7 k0_h3 k0_h19 => k0_hw7.1.2.2.2.2.2.2.2.2.2.1 k0_h3 k0_h19
theorem k0_off482_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off482 v59_0 v62_0 k0_t9 k0_t11) a + S1x1x16.size a ≤ S2x32x512.size a := fun i v17 k0_t1 v59_0 v62_0 k0_t9 k0_t11 arg16 v181 k0_hw7 k0_h3 k0_h19 => k0_hw7.1.2.2.2.2.2.2.2.2.2.2.1 k0_h3 k0_h19
theorem k0_off483_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off483 i k0_t1 v181) a + S1x16.size a ≤ S128x512.size a := fun i v17 k0_t1 v59_0 v62_0 k0_t9 k0_t11 arg16 v181 k0_hw7 k0_h3 k0_h19 => k0_hw7.1.2.2.2.2.2.2.2.2.2.2.2.1 k0_h3 k0_h19
theorem k0_off484_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off484 v59_0 v62_0 k0_t9 k0_t11) a + S1x1x16.size a ≤ S2x32x512.size a := fun i v17 k0_t1 v59_0 v62_0 k0_t9 k0_t11 arg16 v181 k0_hw7 k0_h3 k0_h19 => k0_hw7.1.2.2.2.2.2.2.2.2.2.2.2.2.1 k0_h3 k0_h19
theorem k0_off485_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off485 i k0_t1 v181) a + S1x16.size a ≤ S128x512.size a := fun i v17 k0_t1 v59_0 v62_0 k0_t9 k0_t11 arg16 v181 k0_hw7 k0_h3 k0_h19 => k0_hw7.1.2.2.2.2.2.2.2.2.2.2.2.2.2.1 k0_h3 k0_h19
theorem k0_off486_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off486 v59_0 v62_0 k0_t9 k0_t11) a + S1x1x16.size a ≤ S2x32x512.size a := fun i v17 k0_t1 v59_0 v62_0 k0_t9 k0_t11 arg16 v181 k0_hw7 k0_h3 k0_h19 => k0_hw7.1.2.2.2.2.2.2.2.2.2.2.2.2.2.2.1 k0_h3 k0_h19
theorem k0_off487_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off487 i k0_t1 v181) a + S1x16.size a ≤ S128x512.size a := fun i v17 k0_t1 v59_0 v62_0 k0_t9 k0_t11 arg16 v181 k0_hw7 k0_h3 k0_h19 => k0_hw7.1.2.2.2.2.2.2.2.2.2.2.2.2.2.2.2.1 k0_h3 k0_h19
theorem k0_off488_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off488 v59_0 v62_0 k0_t9 k0_t11) a + S1x1x16.size a ≤ S2x32x512.size a := fun i v17 k0_t1 v59_0 v62_0 k0_t9 k0_t11 arg16 v181 k0_hw7 k0_h3 k0_h19 => k0_hw7.1.2.2.2.2.2.2.2.2.2.2.2.2.2.2.2.2.1 k0_h3 k0_h19
theorem k0_off489_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off489 i k0_t1 v181) a + S1x16.size a ≤ S128x512.size a := fun i v17 k0_t1 v59_0 v62_0 k0_t9 k0_t11 arg16 v181 k0_hw7 k0_h3 k0_h19 => k0_hw7.1.2.2.2.2.2.2.2.2.2.2.2.2.2.2.2.2.2.1 k0_h3 k0_h19
theorem k0_off490_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off490 v59_0 v62_0 k0_t9 k0_t11) a + S1x1x16.size a ≤ S2x32x512.size a := fun i v17 k0_t1 v59_0 v62_0 k0_t9 k0_t11 arg16 v181 k0_hw7 k0_h3 k0_h19 => k0_hw7.1.2.2.2.2.2.2.2.2.2.2.2.2.2.2.2.2.2.2.1 k0_h3 k0_h19
theorem k0_off491_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off491 i k0_t1 v181) a + S1x16.size a ≤ S128x512.size a := fun i v17 k0_t1 v59_0 v62_0 k0_t9 k0_t11 arg16 v181 k0_hw7 k0_h3 k0_h19 => k0_hw7.1.2.2.2.2.2.2.2.2.2.2.2.2.2.2.2.2.2.2.2.1 k0_h3 k0_h19
theorem k0_off492_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off492 v59_0 v62_0 k0_t9 k0_t11) a + S1x1x16.size a ≤ S2x32x512.size a := fun i v17 k0_t1 v59_0 v62_0 k0_t9 k0_t11 arg16 v181 k0_hw7 k0_h3 k0_h19 => k0_hw7.1.2.2.2.2.2.2.2.2.2.2.2.2.2.2.2.2.2.2.2.2.1 k0_h3 k0_h19
theorem k0_off493_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off493 i k0_t1 v181) a + S1x16.size a ≤ S128x512.size a := fun i v17 k0_t1 v59_0 v62_0 k0_t9 k0_t11 arg16 v181 k0_hw7 k0_h3 k0_h19 => k0_hw7.1.2.2.2.2.2.2.2.2.2.2.2.2.2.2.2.2.2.2.2.2.2.1 k0_h3 k0_h19
theorem k0_off494_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off494 v59_0 v62_0 k0_t9 k0_t11) a + S1x1x16.size a ≤ S2x32x512.size a := fun i v17 k0_t1 v59_0 v62_0 k0_t9 k0_t11 arg16 v181 k0_hw7 k0_h3 k0_h19 => k0_hw7.1.2.2.2.2.2.2.2.2.2.2.2.2.2.2.2.2.2.2.2.2.2.2.1 k0_h3 k0_h19
theorem k0_off495_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off495 i k0_t1 v181) a + S1x16.size a ≤ S128x512.size a := fun i v17 k0_t1 v59_0 v62_0 k0_t9 k0_t11 arg16 v181 k0_hw7 k0_h3 k0_h19 => k0_hw7.1.2.2.2.2.2.2.2.2.2.2.2.2.2.2.2.2.2.2.2.2.2.2.2.1 k0_h3 k0_h19
theorem k0_off496_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off496 v59_0 v62_0 k0_t9 k0_t11) a + S1x1x16.size a ≤ S2x32x512.size a := fun i v17 k0_t1 v59_0 v62_0 k0_t9 k0_t11 arg16 v181 k0_hw7 k0_h3 k0_h19 => k0_hw7.1.2.2.2.2.2.2.2.2.2.2.2.2.2.2.2.2.2.2.2.2.2.2.2.2.1 k0_h3 k0_h19
theorem k0_off497_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off497 i k0_t1 v181) a + S1x16.size a ≤ S128x512.size a := fun i v17 k0_t1 v59_0 v62_0 k0_t9 k0_t11 arg16 v181 k0_hw7 k0_h3 k0_h19 => k0_hw7.1.2.2.2.2.2.2.2.2.2.2.2.2.2.2.2.2.2.2.2.2.2.2.2.2.2.1 k0_h3 k0_h19
theorem k0_off498_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off498 v59_0 v62_0 k0_t9 k0_t11) a + S1x1x16.size a ≤ S2x32x512.size a := fun i v17 k0_t1 v59_0 v62_0 k0_t9 k0_t11 arg16 v181 k0_hw7 k0_h3 k0_h19 => k0_hw7.1.2.2.2.2.2.2.2.2.2.2.2.2.2.2.2.2.2.2.2.2.2.2.2.2.2.2.1 k0_h3 k0_h19
theorem k0_off499_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off499 i k0_t1 v181) a + S1x16.size a ≤ S128x512.size a := fun i v17 k0_t1 v59_0 v62_0 k0_t9 k0_t11 arg16 v181 k0_hw7 k0_h3 k0_h19 => k0_hw7.1.2.2.2.2.2.2.2.2.2.2.2.2.2.2.2.2.2.2.2.2.2.2.2.2.2.2.2.1 k0_h3 k0_h19
theorem k0_off500_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off500 v59_0 v62_0 k0_t9 k0_t11) a + S1x1x16.size a ≤ S2x32x512.size a := fun i v17 k0_t1 v59_0 v62_0 k0_t9 k0_t11 arg16 v181 k0_hw7 k0_h3 k0_h19 => k0_hw7.1.2.2.2.2.2.2.2.2.2.2.2.2.2.2.2.2.2.2.2.2.2.2.2.2.2.2.2.2.1 k0_h3 k0_h19
theorem k0_off501_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off501 i k0_t1 v181) a + S1x16.size a ≤ S128x512.size a := fun i v17 k0_t1 v59_0 v62_0 k0_t9 k0_t11 arg16 v181 k0_hw7 k0_h3 k0_h19 => k0_hw7.1.2.2.2.2.2.2.2.2.2.2.2.2.2.2.2.2.2.2.2.2.2.2.2.2.2.2.2.2.2.1 k0_h3 k0_h19
theorem k0_off502_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off502 v59_0 v62_0 k0_t9 k0_t11) a + S1x1x16.size a ≤ S2x32x512.size a := fun i v17 k0_t1 v59_0 v62_0 k0_t9 k0_t11 arg16 v181 k0_hw7 k0_h3 k0_h19 => k0_hw7.1.2.2.2.2.2.2.2.2.2.2.2.2.2.2.2.2.2.2.2.2.2.2.2.2.2.2.2.2.2.2.1 k0_h3 k0_h19
theorem k0_off503_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off503 i k0_t1 v181) a + S1x16.size a ≤ S128x512.size a := fun i v17 k0_t1 v59_0 v62_0 k0_t9 k0_t11 arg16 v181 k0_hw7 k0_h3 k0_h19 => k0_hw7.1.2.2.2.2.2.2.2.2.2.2.2.2.2.2.2.2.2.2.2.2.2.2.2.2.2.2.2.2.2.2.2 k0_h3 k0_h19
theorem k0_off504_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off504 v59_0 v62_0 k0_t9 k0_t11) a + S1x1x16.size a ≤ S2x32x512.size a := fun i v17 k0_t1 v59_0 v62_0 k0_t9 k0_t11 arg16 v181 k0_hw7 k0_h3 k0_h19 => k0_hw7.2.1.1 k0_h3 k0_h19
theorem k0_off505_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off505 i k0_t1 v181) a + S1x16.size a ≤ S128x512.size a := fun i v17 k0_t1 v59_0 v62_0 k0_t9 k0_t11 arg16 v181 k0_hw7 k0_h3 k0_h19 => k0_hw7.2.1.2.1 k0_h3 k0_h19
theorem k0_off506_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off506 v59_0 v62_0 k0_t9 k0_t11) a + S1x1x16.size a ≤ S2x32x512.size a := fun i v17 k0_t1 v59_0 v62_0 k0_t9 k0_t11 arg16 v181 k0_hw7 k0_h3 k0_h19 => k0_hw7.2.1.2.2.1 k0_h3 k0_h19
theorem k0_off507_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off507 i k0_t1 v181) a + S1x16.size a ≤ S128x512.size a := fun i v17 k0_t1 v59_0 v62_0 k0_t9 k0_t11 arg16 v181 k0_hw7 k0_h3 k0_h19 => k0_hw7.2.1.2.2.2.1 k0_h3 k0_h19
theorem k0_off508_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off508 v59_0 v62_0 k0_t9 k0_t11) a + S1x1x16.size a ≤ S2x32x512.size a := fun i v17 k0_t1 v59_0 v62_0 k0_t9 k0_t11 arg16 v181 k0_hw7 k0_h3 k0_h19 => k0_hw7.2.1.2.2.2.2.1 k0_h3 k0_h19
theorem k0_off509_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off509 i k0_t1 v181) a + S1x16.size a ≤ S128x512.size a := fun i v17 k0_t1 v59_0 v62_0 k0_t9 k0_t11 arg16 v181 k0_hw7 k0_h3 k0_h19 => k0_hw7.2.1.2.2.2.2.2.1 k0_h3 k0_h19
theorem k0_off510_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off510 v59_0 v62_0 k0_t9 k0_t11) a + S1x1x16.size a ≤ S2x32x512.size a := fun i v17 k0_t1 v59_0 v62_0 k0_t9 k0_t11 arg16 v181 k0_hw7 k0_h3 k0_h19 => k0_hw7.2.1.2.2.2.2.2.2.1 k0_h3 k0_h19
theorem k0_off511_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off511 i k0_t1 v181) a + S1x16.size a ≤ S128x512.size a := fun i v17 k0_t1 v59_0 v62_0 k0_t9 k0_t11 arg16 v181 k0_hw7 k0_h3 k0_h19 => k0_hw7.2.1.2.2.2.2.2.2.2.1 k0_h3 k0_h19
theorem k0_off512_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off512 v59_0 v62_0 k0_t9 k0_t11) a + S1x1x16.size a ≤ S2x32x512.size a := fun i v17 k0_t1 v59_0 v62_0 k0_t9 k0_t11 arg16 v181 k0_hw7 k0_h3 k0_h19 => k0_hw7.2.1.2.2.2.2.2.2.2.2.1 k0_h3 k0_h19
theorem k0_off513_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off513 i k0_t1 v181) a + S1x16.size a ≤ S128x512.size a := fun i v17 k0_t1 v59_0 v62_0 k0_t9 k0_t11 arg16 v181 k0_hw7 k0_h3 k0_h19 => k0_hw7.2.1.2.2.2.2.2.2.2.2.2.1 k0_h3 k0_h19
theorem k0_off514_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off514 v59_0 v62_0 k0_t9 k0_t11) a + S1x1x16.size a ≤ S2x32x512.size a := fun i v17 k0_t1 v59_0 v62_0 k0_t9 k0_t11 arg16 v181 k0_hw7 k0_h3 k0_h19 => k0_hw7.2.1.2.2.2.2.2.2.2.2.2.2.1 k0_h3 k0_h19
theorem k0_off515_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off515 i k0_t1 v181) a + S1x16.size a ≤ S128x512.size a := fun i v17 k0_t1 v59_0 v62_0 k0_t9 k0_t11 arg16 v181 k0_hw7 k0_h3 k0_h19 => k0_hw7.2.1.2.2.2.2.2.2.2.2.2.2.2.1 k0_h3 k0_h19
theorem k0_off516_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off516 v59_0 v62_0 k0_t9 k0_t11) a + S1x1x16.size a ≤ S2x32x512.size a := fun i v17 k0_t1 v59_0 v62_0 k0_t9 k0_t11 arg16 v181 k0_hw7 k0_h3 k0_h19 => k0_hw7.2.1.2.2.2.2.2.2.2.2.2.2.2.2.1 k0_h3 k0_h19
theorem k0_off517_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off517 i k0_t1 v181) a + S1x16.size a ≤ S128x512.size a := fun i v17 k0_t1 v59_0 v62_0 k0_t9 k0_t11 arg16 v181 k0_hw7 k0_h3 k0_h19 => k0_hw7.2.1.2.2.2.2.2.2.2.2.2.2.2.2.2.1 k0_h3 k0_h19
theorem k0_off518_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off518 v59_0 v62_0 k0_t9 k0_t11) a + S1x1x16.size a ≤ S2x32x512.size a := fun i v17 k0_t1 v59_0 v62_0 k0_t9 k0_t11 arg16 v181 k0_hw7 k0_h3 k0_h19 => k0_hw7.2.1.2.2.2.2.2.2.2.2.2.2.2.2.2.2.1 k0_h3 k0_h19
theorem k0_off519_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off519 i k0_t1 v181) a + S1x16.size a ≤ S128x512.size a := fun i v17 k0_t1 v59_0 v62_0 k0_t9 k0_t11 arg16 v181 k0_hw7 k0_h3 k0_h19 => k0_hw7.2.1.2.2.2.2.2.2.2.2.2.2.2.2.2.2.2.1 k0_h3 k0_h19
theorem k0_off520_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off520 v59_0 v62_0 k0_t9 k0_t11) a + S1x1x16.size a ≤ S2x32x512.size a := fun i v17 k0_t1 v59_0 v62_0 k0_t9 k0_t11 arg16 v181 k0_hw7 k0_h3 k0_h19 => k0_hw7.2.1.2.2.2.2.2.2.2.2.2.2.2.2.2.2.2.2.1 k0_h3 k0_h19
theorem k0_off521_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off521 i k0_t1 v181) a + S1x16.size a ≤ S128x512.size a := fun i v17 k0_t1 v59_0 v62_0 k0_t9 k0_t11 arg16 v181 k0_hw7 k0_h3 k0_h19 => k0_hw7.2.1.2.2.2.2.2.2.2.2.2.2.2.2.2.2.2.2.2.1 k0_h3 k0_h19
theorem k0_off522_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off522 v59_0 v62_0 k0_t9 k0_t11) a + S1x1x16.size a ≤ S2x32x512.size a := fun i v17 k0_t1 v59_0 v62_0 k0_t9 k0_t11 arg16 v181 k0_hw7 k0_h3 k0_h19 => k0_hw7.2.1.2.2.2.2.2.2.2.2.2.2.2.2.2.2.2.2.2.2.1 k0_h3 k0_h19
theorem k0_off523_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off523 i k0_t1 v181) a + S1x16.size a ≤ S128x512.size a := fun i v17 k0_t1 v59_0 v62_0 k0_t9 k0_t11 arg16 v181 k0_hw7 k0_h3 k0_h19 => k0_hw7.2.1.2.2.2.2.2.2.2.2.2.2.2.2.2.2.2.2.2.2.2.1 k0_h3 k0_h19
theorem k0_off524_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off524 v59_0 v62_0 k0_t9 k0_t11) a + S1x1x16.size a ≤ S2x32x512.size a := fun i v17 k0_t1 v59_0 v62_0 k0_t9 k0_t11 arg16 v181 k0_hw7 k0_h3 k0_h19 => k0_hw7.2.1.2.2.2.2.2.2.2.2.2.2.2.2.2.2.2.2.2.2.2.2.1 k0_h3 k0_h19
theorem k0_off525_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off525 i k0_t1 v181) a + S1x16.size a ≤ S128x512.size a := fun i v17 k0_t1 v59_0 v62_0 k0_t9 k0_t11 arg16 v181 k0_hw7 k0_h3 k0_h19 => k0_hw7.2.1.2.2.2.2.2.2.2.2.2.2.2.2.2.2.2.2.2.2.2.2.2.1 k0_h3 k0_h19
theorem k0_off526_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off526 v59_0 v62_0 k0_t9 k0_t11) a + S1x1x16.size a ≤ S2x32x512.size a := fun i v17 k0_t1 v59_0 v62_0 k0_t9 k0_t11 arg16 v181 k0_hw7 k0_h3 k0_h19 => k0_hw7.2.1.2.2.2.2.2.2.2.2.2.2.2.2.2.2.2.2.2.2.2.2.2.2.1 k0_h3 k0_h19
theorem k0_off527_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off527 i k0_t1 v181) a + S1x16.size a ≤ S128x512.size a := fun i v17 k0_t1 v59_0 v62_0 k0_t9 k0_t11 arg16 v181 k0_hw7 k0_h3 k0_h19 => k0_hw7.2.1.2.2.2.2.2.2.2.2.2.2.2.2.2.2.2.2.2.2.2.2.2.2.2.1 k0_h3 k0_h19
theorem k0_off528_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off528 v59_0 v62_0 k0_t9 k0_t11) a + S1x1x16.size a ≤ S2x32x512.size a := fun i v17 k0_t1 v59_0 v62_0 k0_t9 k0_t11 arg16 v181 k0_hw7 k0_h3 k0_h19 => k0_hw7.2.1.2.2.2.2.2.2.2.2.2.2.2.2.2.2.2.2.2.2.2.2.2.2.2.2.1 k0_h3 k0_h19
theorem k0_off529_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off529 i k0_t1 v181) a + S1x16.size a ≤ S128x512.size a := fun i v17 k0_t1 v59_0 v62_0 k0_t9 k0_t11 arg16 v181 k0_hw7 k0_h3 k0_h19 => k0_hw7.2.1.2.2.2.2.2.2.2.2.2.2.2.2.2.2.2.2.2.2.2.2.2.2.2.2.2.1 k0_h3 k0_h19
theorem k0_off530_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off530 v59_0 v62_0 k0_t9 k0_t11) a + S1x1x16.size a ≤ S2x32x512.size a := fun i v17 k0_t1 v59_0 v62_0 k0_t9 k0_t11 arg16 v181 k0_hw7 k0_h3 k0_h19 => k0_hw7.2.1.2.2.2.2.2.2.2.2.2.2.2.2.2.2.2.2.2.2.2.2.2.2.2.2.2.2.1 k0_h3 k0_h19
theorem k0_off531_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off531 i k0_t1 v181) a + S1x16.size a ≤ S128x512.size a := fun i v17 k0_t1 v59_0 v62_0 k0_t9 k0_t11 arg16 v181 k0_hw7 k0_h3 k0_h19 => k0_hw7.2.1.2.2.2.2.2.2.2.2.2.2.2.2.2.2.2.2.2.2.2.2.2.2.2.2.2.2.2.1 k0_h3 k0_h19
theorem k0_off532_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off532 v59_0 v62_0 k0_t9 k0_t11) a + S1x1x16.size a ≤ S2x32x512.size a := fun i v17 k0_t1 v59_0 v62_0 k0_t9 k0_t11 arg16 v181 k0_hw7 k0_h3 k0_h19 => k0_hw7.2.1.2.2.2.2.2.2.2.2.2.2.2.2.2.2.2.2.2.2.2.2.2.2.2.2.2.2.2.2.1 k0_h3 k0_h19
theorem k0_off533_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off533 i k0_t1 v181) a + S1x16.size a ≤ S128x512.size a := fun i v17 k0_t1 v59_0 v62_0 k0_t9 k0_t11 arg16 v181 k0_hw7 k0_h3 k0_h19 => k0_hw7.2.1.2.2.2.2.2.2.2.2.2.2.2.2.2.2.2.2.2.2.2.2.2.2.2.2.2.2.2.2.2.1 k0_h3 k0_h19
theorem k0_off534_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off534 v59_0 v62_0 k0_t9 k0_t11) a + S1x1x16.size a ≤ S2x32x512.size a := fun i v17 k0_t1 v59_0 v62_0 k0_t9 k0_t11 arg16 v181 k0_hw7 k0_h3 k0_h19 => k0_hw7.2.1.2.2.2.2.2.2.2.2.2.2.2.2.2.2.2.2.2.2.2.2.2.2.2.2.2.2.2.2.2.2.1 k0_h3 k0_h19
theorem k0_off535_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off535 i k0_t1 v181) a + S1x16.size a ≤ S128x512.size a := fun i v17 k0_t1 v59_0 v62_0 k0_t9 k0_t11 arg16 v181 k0_hw7 k0_h3 k0_h19 => k0_hw7.2.1.2.2.2.2.2.2.2.2.2.2.2.2.2.2.2.2.2.2.2.2.2.2.2.2.2.2.2.2.2.2.2 k0_h3 k0_h19
theorem k0_off536_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h19 : k0_cond19 arg16 v181 = 1#1), ∀ a, (k0_off536 i k0_t1 v181) a + S1x16.size a ≤ S128x16.size a := fun i v17 k0_t1 v59_0 v62_0 k0_t9 k0_t11 arg16 v181 k0_hw7 k0_h3 k0_h19 => k0_hw7.2.2.1.1 k0_h3 k0_h19
theorem k0_off537_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off537 i k0_t1 v181) a + S1x16.size a ≤ S128x512.size a := fun i v17 k0_t1 v59_0 v62_0 k0_t9 k0_t11 arg16 v181 k0_hw7 k0_h3 k0_h20 => k0_hw7.2.2.1.2.1 k0_h3 k0_h20
theorem k0_off538_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off538 v59_0 v62_0 k0_t9 k0_t11) a + S1x1x16.size a ≤ S2x32x512.size a := fun i v17 k0_t1 v59_0 v62_0 k0_t9 k0_t11 arg16 v181 k0_hw7 k0_h3 k0_h20 => k0_hw7.2.2.1.2.2.1 k0_h3 k0_h20
theorem k0_off539_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off539 i k0_t1 v181) a + S1x16.size a ≤ S128x512.size a := fun i v17 k0_t1 v59_0 v62_0 k0_t9 k0_t11 arg16 v181 k0_hw7 k0_h3 k0_h20 => k0_hw7.2.2.1.2.2.2.1 k0_h3 k0_h20
theorem k0_off540_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off540 v59_0 v62_0 k0_t9 k0_t11) a + S1x1x16.size a ≤ S2x32x512.size a := fun i v17 k0_t1 v59_0 v62_0 k0_t9 k0_t11 arg16 v181 k0_hw7 k0_h3 k0_h20 => k0_hw7.2.2.1.2.2.2.2.1 k0_h3 k0_h20
theorem k0_off541_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off541 i k0_t1 v181) a + S1x16.size a ≤ S128x512.size a := fun i v17 k0_t1 v59_0 v62_0 k0_t9 k0_t11 arg16 v181 k0_hw7 k0_h3 k0_h20 => k0_hw7.2.2.1.2.2.2.2.2.1 k0_h3 k0_h20
theorem k0_off542_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off542 v59_0 v62_0 k0_t9 k0_t11) a + S1x1x16.size a ≤ S2x32x512.size a := fun i v17 k0_t1 v59_0 v62_0 k0_t9 k0_t11 arg16 v181 k0_hw7 k0_h3 k0_h20 => k0_hw7.2.2.1.2.2.2.2.2.2.1 k0_h3 k0_h20
theorem k0_off543_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off543 i k0_t1 v181) a + S1x16.size a ≤ S128x512.size a := fun i v17 k0_t1 v59_0 v62_0 k0_t9 k0_t11 arg16 v181 k0_hw7 k0_h3 k0_h20 => k0_hw7.2.2.1.2.2.2.2.2.2.2.1 k0_h3 k0_h20
theorem k0_off544_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off544 v59_0 v62_0 k0_t9 k0_t11) a + S1x1x16.size a ≤ S2x32x512.size a := fun i v17 k0_t1 v59_0 v62_0 k0_t9 k0_t11 arg16 v181 k0_hw7 k0_h3 k0_h20 => k0_hw7.2.2.1.2.2.2.2.2.2.2.2.1 k0_h3 k0_h20
theorem k0_off545_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off545 i k0_t1 v181) a + S1x16.size a ≤ S128x512.size a := fun i v17 k0_t1 v59_0 v62_0 k0_t9 k0_t11 arg16 v181 k0_hw7 k0_h3 k0_h20 => k0_hw7.2.2.1.2.2.2.2.2.2.2.2.2.1 k0_h3 k0_h20
theorem k0_off546_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off546 v59_0 v62_0 k0_t9 k0_t11) a + S1x1x16.size a ≤ S2x32x512.size a := fun i v17 k0_t1 v59_0 v62_0 k0_t9 k0_t11 arg16 v181 k0_hw7 k0_h3 k0_h20 => k0_hw7.2.2.1.2.2.2.2.2.2.2.2.2.2.1 k0_h3 k0_h20
theorem k0_off547_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off547 i k0_t1 v181) a + S1x16.size a ≤ S128x512.size a := fun i v17 k0_t1 v59_0 v62_0 k0_t9 k0_t11 arg16 v181 k0_hw7 k0_h3 k0_h20 => k0_hw7.2.2.1.2.2.2.2.2.2.2.2.2.2.2.1 k0_h3 k0_h20
theorem k0_off548_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off548 v59_0 v62_0 k0_t9 k0_t11) a + S1x1x16.size a ≤ S2x32x512.size a := fun i v17 k0_t1 v59_0 v62_0 k0_t9 k0_t11 arg16 v181 k0_hw7 k0_h3 k0_h20 => k0_hw7.2.2.1.2.2.2.2.2.2.2.2.2.2.2.2.1 k0_h3 k0_h20
theorem k0_off549_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off549 i k0_t1 v181) a + S1x16.size a ≤ S128x512.size a := fun i v17 k0_t1 v59_0 v62_0 k0_t9 k0_t11 arg16 v181 k0_hw7 k0_h3 k0_h20 => k0_hw7.2.2.1.2.2.2.2.2.2.2.2.2.2.2.2.2.1 k0_h3 k0_h20
theorem k0_off550_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off550 v59_0 v62_0 k0_t9 k0_t11) a + S1x1x16.size a ≤ S2x32x512.size a := fun i v17 k0_t1 v59_0 v62_0 k0_t9 k0_t11 arg16 v181 k0_hw7 k0_h3 k0_h20 => k0_hw7.2.2.1.2.2.2.2.2.2.2.2.2.2.2.2.2.2.1 k0_h3 k0_h20
theorem k0_off551_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off551 i k0_t1 v181) a + S1x16.size a ≤ S128x512.size a := fun i v17 k0_t1 v59_0 v62_0 k0_t9 k0_t11 arg16 v181 k0_hw7 k0_h3 k0_h20 => k0_hw7.2.2.1.2.2.2.2.2.2.2.2.2.2.2.2.2.2.2.1 k0_h3 k0_h20
theorem k0_off552_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off552 v59_0 v62_0 k0_t9 k0_t11) a + S1x1x16.size a ≤ S2x32x512.size a := fun i v17 k0_t1 v59_0 v62_0 k0_t9 k0_t11 arg16 v181 k0_hw7 k0_h3 k0_h20 => k0_hw7.2.2.1.2.2.2.2.2.2.2.2.2.2.2.2.2.2.2.2.1 k0_h3 k0_h20
theorem k0_off553_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off553 i k0_t1 v181) a + S1x16.size a ≤ S128x512.size a := fun i v17 k0_t1 v59_0 v62_0 k0_t9 k0_t11 arg16 v181 k0_hw7 k0_h3 k0_h20 => k0_hw7.2.2.1.2.2.2.2.2.2.2.2.2.2.2.2.2.2.2.2.2.1 k0_h3 k0_h20
theorem k0_off554_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off554 v59_0 v62_0 k0_t9 k0_t11) a + S1x1x16.size a ≤ S2x32x512.size a := fun i v17 k0_t1 v59_0 v62_0 k0_t9 k0_t11 arg16 v181 k0_hw7 k0_h3 k0_h20 => k0_hw7.2.2.1.2.2.2.2.2.2.2.2.2.2.2.2.2.2.2.2.2.2.1 k0_h3 k0_h20
theorem k0_off555_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off555 i k0_t1 v181) a + S1x16.size a ≤ S128x512.size a := fun i v17 k0_t1 v59_0 v62_0 k0_t9 k0_t11 arg16 v181 k0_hw7 k0_h3 k0_h20 => k0_hw7.2.2.1.2.2.2.2.2.2.2.2.2.2.2.2.2.2.2.2.2.2.2.1 k0_h3 k0_h20
theorem k0_off556_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off556 v59_0 v62_0 k0_t9 k0_t11) a + S1x1x16.size a ≤ S2x32x512.size a := fun i v17 k0_t1 v59_0 v62_0 k0_t9 k0_t11 arg16 v181 k0_hw7 k0_h3 k0_h20 => k0_hw7.2.2.1.2.2.2.2.2.2.2.2.2.2.2.2.2.2.2.2.2.2.2.2.1 k0_h3 k0_h20
theorem k0_off557_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off557 i k0_t1 v181) a + S1x16.size a ≤ S128x512.size a := fun i v17 k0_t1 v59_0 v62_0 k0_t9 k0_t11 arg16 v181 k0_hw7 k0_h3 k0_h20 => k0_hw7.2.2.1.2.2.2.2.2.2.2.2.2.2.2.2.2.2.2.2.2.2.2.2.2.1 k0_h3 k0_h20
theorem k0_off558_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off558 v59_0 v62_0 k0_t9 k0_t11) a + S1x1x16.size a ≤ S2x32x512.size a := fun i v17 k0_t1 v59_0 v62_0 k0_t9 k0_t11 arg16 v181 k0_hw7 k0_h3 k0_h20 => k0_hw7.2.2.1.2.2.2.2.2.2.2.2.2.2.2.2.2.2.2.2.2.2.2.2.2.2.1 k0_h3 k0_h20
theorem k0_off559_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off559 i k0_t1 v181) a + S1x16.size a ≤ S128x512.size a := fun i v17 k0_t1 v59_0 v62_0 k0_t9 k0_t11 arg16 v181 k0_hw7 k0_h3 k0_h20 => k0_hw7.2.2.1.2.2.2.2.2.2.2.2.2.2.2.2.2.2.2.2.2.2.2.2.2.2.2.1 k0_h3 k0_h20
theorem k0_off560_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off560 v59_0 v62_0 k0_t9 k0_t11) a + S1x1x16.size a ≤ S2x32x512.size a := fun i v17 k0_t1 v59_0 v62_0 k0_t9 k0_t11 arg16 v181 k0_hw7 k0_h3 k0_h20 => k0_hw7.2.2.1.2.2.2.2.2.2.2.2.2.2.2.2.2.2.2.2.2.2.2.2.2.2.2.2.1 k0_h3 k0_h20
theorem k0_off561_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off561 i k0_t1 v181) a + S1x16.size a ≤ S128x512.size a := fun i v17 k0_t1 v59_0 v62_0 k0_t9 k0_t11 arg16 v181 k0_hw7 k0_h3 k0_h20 => k0_hw7.2.2.1.2.2.2.2.2.2.2.2.2.2.2.2.2.2.2.2.2.2.2.2.2.2.2.2.2.1 k0_h3 k0_h20
theorem k0_off562_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off562 v59_0 v62_0 k0_t9 k0_t11) a + S1x1x16.size a ≤ S2x32x512.size a := fun i v17 k0_t1 v59_0 v62_0 k0_t9 k0_t11 arg16 v181 k0_hw7 k0_h3 k0_h20 => k0_hw7.2.2.1.2.2.2.2.2.2.2.2.2.2.2.2.2.2.2.2.2.2.2.2.2.2.2.2.2.2.1 k0_h3 k0_h20
theorem k0_off563_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off563 i k0_t1 v181) a + S1x16.size a ≤ S128x512.size a := fun i v17 k0_t1 v59_0 v62_0 k0_t9 k0_t11 arg16 v181 k0_hw7 k0_h3 k0_h20 => k0_hw7.2.2.1.2.2.2.2.2.2.2.2.2.2.2.2.2.2.2.2.2.2.2.2.2.2.2.2.2.2.2.1 k0_h3 k0_h20
theorem k0_off564_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off564 v59_0 v62_0 k0_t9 k0_t11) a + S1x1x16.size a ≤ S2x32x512.size a := fun i v17 k0_t1 v59_0 v62_0 k0_t9 k0_t11 arg16 v181 k0_hw7 k0_h3 k0_h20 => k0_hw7.2.2.1.2.2.2.2.2.2.2.2.2.2.2.2.2.2.2.2.2.2.2.2.2.2.2.2.2.2.2.2.1 k0_h3 k0_h20
theorem k0_off565_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off565 i k0_t1 v181) a + S1x16.size a ≤ S128x512.size a := fun i v17 k0_t1 v59_0 v62_0 k0_t9 k0_t11 arg16 v181 k0_hw7 k0_h3 k0_h20 => k0_hw7.2.2.1.2.2.2.2.2.2.2.2.2.2.2.2.2.2.2.2.2.2.2.2.2.2.2.2.2.2.2.2.2.1 k0_h3 k0_h20
theorem k0_off566_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off566 v59_0 v62_0 k0_t9 k0_t11) a + S1x1x16.size a ≤ S2x32x512.size a := fun i v17 k0_t1 v59_0 v62_0 k0_t9 k0_t11 arg16 v181 k0_hw7 k0_h3 k0_h20 => k0_hw7.2.2.1.2.2.2.2.2.2.2.2.2.2.2.2.2.2.2.2.2.2.2.2.2.2.2.2.2.2.2.2.2.2.1 k0_h3 k0_h20
theorem k0_off567_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off567 i k0_t1 v181) a + S1x16.size a ≤ S128x512.size a := fun i v17 k0_t1 v59_0 v62_0 k0_t9 k0_t11 arg16 v181 k0_hw7 k0_h3 k0_h20 => k0_hw7.2.2.1.2.2.2.2.2.2.2.2.2.2.2.2.2.2.2.2.2.2.2.2.2.2.2.2.2.2.2.2.2.2.2 k0_h3 k0_h20
theorem k0_off568_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off568 v59_0 v62_0 k0_t9 k0_t11) a + S1x1x16.size a ≤ S2x32x512.size a := fun i v17 k0_t1 v59_0 v62_0 k0_t9 k0_t11 arg16 v181 k0_hw7 k0_h3 k0_h20 => k0_hw7.2.2.2.1.1 k0_h3 k0_h20
theorem k0_off569_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off569 i k0_t1 v181) a + S1x16.size a ≤ S128x512.size a := fun i v17 k0_t1 v59_0 v62_0 k0_t9 k0_t11 arg16 v181 k0_hw7 k0_h3 k0_h20 => k0_hw7.2.2.2.1.2.1 k0_h3 k0_h20
theorem k0_off570_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off570 v59_0 v62_0 k0_t9 k0_t11) a + S1x1x16.size a ≤ S2x32x512.size a := fun i v17 k0_t1 v59_0 v62_0 k0_t9 k0_t11 arg16 v181 k0_hw7 k0_h3 k0_h20 => k0_hw7.2.2.2.1.2.2.1 k0_h3 k0_h20
theorem k0_off571_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off571 i k0_t1 v181) a + S1x16.size a ≤ S128x512.size a := fun i v17 k0_t1 v59_0 v62_0 k0_t9 k0_t11 arg16 v181 k0_hw7 k0_h3 k0_h20 => k0_hw7.2.2.2.1.2.2.2.1 k0_h3 k0_h20
theorem k0_off572_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off572 v59_0 v62_0 k0_t9 k0_t11) a + S1x1x16.size a ≤ S2x32x512.size a := fun i v17 k0_t1 v59_0 v62_0 k0_t9 k0_t11 arg16 v181 k0_hw7 k0_h3 k0_h20 => k0_hw7.2.2.2.1.2.2.2.2.1 k0_h3 k0_h20
theorem k0_off573_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off573 i k0_t1 v181) a + S1x16.size a ≤ S128x512.size a := fun i v17 k0_t1 v59_0 v62_0 k0_t9 k0_t11 arg16 v181 k0_hw7 k0_h3 k0_h20 => k0_hw7.2.2.2.1.2.2.2.2.2.1 k0_h3 k0_h20
theorem k0_off574_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off574 v59_0 v62_0 k0_t9 k0_t11) a + S1x1x16.size a ≤ S2x32x512.size a := fun i v17 k0_t1 v59_0 v62_0 k0_t9 k0_t11 arg16 v181 k0_hw7 k0_h3 k0_h20 => k0_hw7.2.2.2.1.2.2.2.2.2.2.1 k0_h3 k0_h20
theorem k0_off575_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off575 i k0_t1 v181) a + S1x16.size a ≤ S128x512.size a := fun i v17 k0_t1 v59_0 v62_0 k0_t9 k0_t11 arg16 v181 k0_hw7 k0_h3 k0_h20 => k0_hw7.2.2.2.1.2.2.2.2.2.2.2.1 k0_h3 k0_h20
theorem k0_off576_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off576 v59_0 v62_0 k0_t9 k0_t11) a + S1x1x16.size a ≤ S2x32x512.size a := fun i v17 k0_t1 v59_0 v62_0 k0_t9 k0_t11 arg16 v181 k0_hw7 k0_h3 k0_h20 => k0_hw7.2.2.2.1.2.2.2.2.2.2.2.2.1 k0_h3 k0_h20
theorem k0_off577_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off577 i k0_t1 v181) a + S1x16.size a ≤ S128x512.size a := fun i v17 k0_t1 v59_0 v62_0 k0_t9 k0_t11 arg16 v181 k0_hw7 k0_h3 k0_h20 => k0_hw7.2.2.2.1.2.2.2.2.2.2.2.2.2.1 k0_h3 k0_h20
theorem k0_off578_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off578 v59_0 v62_0 k0_t9 k0_t11) a + S1x1x16.size a ≤ S2x32x512.size a := fun i v17 k0_t1 v59_0 v62_0 k0_t9 k0_t11 arg16 v181 k0_hw7 k0_h3 k0_h20 => k0_hw7.2.2.2.1.2.2.2.2.2.2.2.2.2.2.1 k0_h3 k0_h20
theorem k0_off579_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off579 i k0_t1 v181) a + S1x16.size a ≤ S128x512.size a := fun i v17 k0_t1 v59_0 v62_0 k0_t9 k0_t11 arg16 v181 k0_hw7 k0_h3 k0_h20 => k0_hw7.2.2.2.1.2.2.2.2.2.2.2.2.2.2.2.1 k0_h3 k0_h20
theorem k0_off580_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off580 v59_0 v62_0 k0_t9 k0_t11) a + S1x1x16.size a ≤ S2x32x512.size a := fun i v17 k0_t1 v59_0 v62_0 k0_t9 k0_t11 arg16 v181 k0_hw7 k0_h3 k0_h20 => k0_hw7.2.2.2.1.2.2.2.2.2.2.2.2.2.2.2.2.1 k0_h3 k0_h20
theorem k0_off581_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off581 i k0_t1 v181) a + S1x16.size a ≤ S128x512.size a := fun i v17 k0_t1 v59_0 v62_0 k0_t9 k0_t11 arg16 v181 k0_hw7 k0_h3 k0_h20 => k0_hw7.2.2.2.1.2.2.2.2.2.2.2.2.2.2.2.2.2.1 k0_h3 k0_h20
theorem k0_off582_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off582 v59_0 v62_0 k0_t9 k0_t11) a + S1x1x16.size a ≤ S2x32x512.size a := fun i v17 k0_t1 v59_0 v62_0 k0_t9 k0_t11 arg16 v181 k0_hw7 k0_h3 k0_h20 => k0_hw7.2.2.2.1.2.2.2.2.2.2.2.2.2.2.2.2.2.2.1 k0_h3 k0_h20
theorem k0_off583_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off583 i k0_t1 v181) a + S1x16.size a ≤ S128x512.size a := fun i v17 k0_t1 v59_0 v62_0 k0_t9 k0_t11 arg16 v181 k0_hw7 k0_h3 k0_h20 => k0_hw7.2.2.2.1.2.2.2.2.2.2.2.2.2.2.2.2.2.2.2.1 k0_h3 k0_h20
theorem k0_off584_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off584 v59_0 v62_0 k0_t9 k0_t11) a + S1x1x16.size a ≤ S2x32x512.size a := fun i v17 k0_t1 v59_0 v62_0 k0_t9 k0_t11 arg16 v181 k0_hw7 k0_h3 k0_h20 => k0_hw7.2.2.2.1.2.2.2.2.2.2.2.2.2.2.2.2.2.2.2.2.1 k0_h3 k0_h20
theorem k0_off585_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off585 i k0_t1 v181) a + S1x16.size a ≤ S128x512.size a := fun i v17 k0_t1 v59_0 v62_0 k0_t9 k0_t11 arg16 v181 k0_hw7 k0_h3 k0_h20 => k0_hw7.2.2.2.1.2.2.2.2.2.2.2.2.2.2.2.2.2.2.2.2.2.1 k0_h3 k0_h20
theorem k0_off586_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off586 v59_0 v62_0 k0_t9 k0_t11) a + S1x1x16.size a ≤ S2x32x512.size a := fun i v17 k0_t1 v59_0 v62_0 k0_t9 k0_t11 arg16 v181 k0_hw7 k0_h3 k0_h20 => k0_hw7.2.2.2.1.2.2.2.2.2.2.2.2.2.2.2.2.2.2.2.2.2.2.1 k0_h3 k0_h20
theorem k0_off587_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off587 i k0_t1 v181) a + S1x16.size a ≤ S128x512.size a := fun i v17 k0_t1 v59_0 v62_0 k0_t9 k0_t11 arg16 v181 k0_hw7 k0_h3 k0_h20 => k0_hw7.2.2.2.1.2.2.2.2.2.2.2.2.2.2.2.2.2.2.2.2.2.2.2.1 k0_h3 k0_h20
theorem k0_off588_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off588 v59_0 v62_0 k0_t9 k0_t11) a + S1x1x16.size a ≤ S2x32x512.size a := fun i v17 k0_t1 v59_0 v62_0 k0_t9 k0_t11 arg16 v181 k0_hw7 k0_h3 k0_h20 => k0_hw7.2.2.2.1.2.2.2.2.2.2.2.2.2.2.2.2.2.2.2.2.2.2.2.2.1 k0_h3 k0_h20
theorem k0_off589_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off589 i k0_t1 v181) a + S1x16.size a ≤ S128x512.size a := fun i v17 k0_t1 v59_0 v62_0 k0_t9 k0_t11 arg16 v181 k0_hw7 k0_h3 k0_h20 => k0_hw7.2.2.2.1.2.2.2.2.2.2.2.2.2.2.2.2.2.2.2.2.2.2.2.2.2.1 k0_h3 k0_h20
theorem k0_off590_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off590 v59_0 v62_0 k0_t9 k0_t11) a + S1x1x16.size a ≤ S2x32x512.size a := fun i v17 k0_t1 v59_0 v62_0 k0_t9 k0_t11 arg16 v181 k0_hw7 k0_h3 k0_h20 => k0_hw7.2.2.2.1.2.2.2.2.2.2.2.2.2.2.2.2.2.2.2.2.2.2.2.2.2.2.1 k0_h3 k0_h20
theorem k0_off591_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off591 i k0_t1 v181) a + S1x16.size a ≤ S128x512.size a := fun i v17 k0_t1 v59_0 v62_0 k0_t9 k0_t11 arg16 v181 k0_hw7 k0_h3 k0_h20 => k0_hw7.2.2.2.1.2.2.2.2.2.2.2.2.2.2.2.2.2.2.2.2.2.2.2.2.2.2.2.1 k0_h3 k0_h20
theorem k0_off592_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off592 v59_0 v62_0 k0_t9 k0_t11) a + S1x1x16.size a ≤ S2x32x512.size a := fun i v17 k0_t1 v59_0 v62_0 k0_t9 k0_t11 arg16 v181 k0_hw7 k0_h3 k0_h20 => k0_hw7.2.2.2.1.2.2.2.2.2.2.2.2.2.2.2.2.2.2.2.2.2.2.2.2.2.2.2.2.1 k0_h3 k0_h20
theorem k0_off593_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off593 i k0_t1 v181) a + S1x16.size a ≤ S128x512.size a := fun i v17 k0_t1 v59_0 v62_0 k0_t9 k0_t11 arg16 v181 k0_hw7 k0_h3 k0_h20 => k0_hw7.2.2.2.1.2.2.2.2.2.2.2.2.2.2.2.2.2.2.2.2.2.2.2.2.2.2.2.2.2.1 k0_h3 k0_h20
theorem k0_off594_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off594 v59_0 v62_0 k0_t9 k0_t11) a + S1x1x16.size a ≤ S2x32x512.size a := fun i v17 k0_t1 v59_0 v62_0 k0_t9 k0_t11 arg16 v181 k0_hw7 k0_h3 k0_h20 => k0_hw7.2.2.2.1.2.2.2.2.2.2.2.2.2.2.2.2.2.2.2.2.2.2.2.2.2.2.2.2.2.2.1 k0_h3 k0_h20
theorem k0_off595_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off595 i k0_t1 v181) a + S1x16.size a ≤ S128x512.size a := fun i v17 k0_t1 v59_0 v62_0 k0_t9 k0_t11 arg16 v181 k0_hw7 k0_h3 k0_h20 => k0_hw7.2.2.2.1.2.2.2.2.2.2.2.2.2.2.2.2.2.2.2.2.2.2.2.2.2.2.2.2.2.2.2.1 k0_h3 k0_h20
theorem k0_off596_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off596 v59_0 v62_0 k0_t9 k0_t11) a + S1x1x16.size a ≤ S2x32x512.size a := fun i v17 k0_t1 v59_0 v62_0 k0_t9 k0_t11 arg16 v181 k0_hw7 k0_h3 k0_h20 => k0_hw7.2.2.2.1.2.2.2.2.2.2.2.2.2.2.2.2.2.2.2.2.2.2.2.2.2.2.2.2.2.2.2.2.1 k0_h3 k0_h20
theorem k0_off597_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off597 i k0_t1 v181) a + S1x16.size a ≤ S128x512.size a := fun i v17 k0_t1 v59_0 v62_0 k0_t9 k0_t11 arg16 v181 k0_hw7 k0_h3 k0_h20 => k0_hw7.2.2.2.1.2.2.2.2.2.2.2.2.2.2.2.2.2.2.2.2.2.2.2.2.2.2.2.2.2.2.2.2.2.1 k0_h3 k0_h20
theorem k0_off598_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off598 v59_0 v62_0 k0_t9 k0_t11) a + S1x1x16.size a ≤ S2x32x512.size a := fun i v17 k0_t1 v59_0 v62_0 k0_t9 k0_t11 arg16 v181 k0_hw7 k0_h3 k0_h20 => k0_hw7.2.2.2.1.2.2.2.2.2.2.2.2.2.2.2.2.2.2.2.2.2.2.2.2.2.2.2.2.2.2.2.2.2.2.1 k0_h3 k0_h20
theorem k0_off599_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off599 i k0_t1 v181) a + S1x16.size a ≤ S128x512.size a := fun i v17 k0_t1 v59_0 v62_0 k0_t9 k0_t11 arg16 v181 k0_hw7 k0_h3 k0_h20 => k0_hw7.2.2.2.1.2.2.2.2.2.2.2.2.2.2.2.2.2.2.2.2.2.2.2.2.2.2.2.2.2.2.2.2.2.2.2 k0_h3 k0_h20
theorem k0_off600_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off600 v59_0 v62_0 k0_t9 k0_t11) a + S1x1x16.size a ≤ S2x32x512.size a := fun i v17 k0_t1 v59_0 v62_0 k0_t9 k0_t11 arg16 v181 k0_hw7 k0_h3 k0_h20 => k0_hw7.2.2.2.2.1 k0_h3 k0_h20
theorem k0_off601_inb : ∀ (i : grid0.Coords) (v17 : BitVec 32) (k0_t1 : Fin k0_t1_loop.trips) (v59_0 : BitVec 32) (v62_0 : BitVec 32) (k0_t9 : Fin (k0_t9_loop v59_0 v62_0).trips) (k0_t11 : Fin (k0_t11_loop v59_0 v62_0 k0_t9).trips) (arg16 : BitVec 32) (v181 : BitVec 32) (k0_hw7 : k0_chk7 i v17 k0_t1 v59_0 v62_0 k0_t9 k0_t11 arg16 v181), ∀ (k0_h3 : k0_cond3 i v17 k0_t1 = 1#1), ∀ (k0_h20 : k0_cond20 arg16 v181 = 1#1), ∀ a, (k0_off601 i k0_t1 v181) a + S1x16.size a ≤ S128x16.size a := fun i v17 k0_t1 v59_0 v62_0 k0_t9 k0_t11 arg16 v181 k0_hw7 k0_h3 k0_h20 => k0_hw7.2.2.2.2.2 k0_h3 k0_h20

@[reducible] def k0_t12_loop (i : grid0.Coords) (v17 : BitVec 32) (k0_t1 : Fin k0_t1_loop.trips) : Scf.Loop 32 :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let c1_i32_63 : BitVec 32 := 1#32
  ⟨c0_i32_60, v115, c1_i32_63⟩

def k0_off602 (i : grid0.Coords) (v17 : BitVec 32) (k0_t1 : Fin k0_t1_loop.trips) (k0_t12 : Fin (k0_t12_loop i v17 k0_t1).trips) : Fin 2 → Nat :=
  let c0_i32_60 : BitVec 32 := 0#32
  let c1_i32_63 : BitVec 32 := 1#32
  let arg13 : BitVec 32 := Scf.iv c0_i32_60 c1_i32_63 k0_t12
  let v127 : Index := Scalar.indexCast arg13
  let c0 : Index := 0#32
  ![v127.toNat, 0]
def k0_off603 (i : grid0.Coords) (v17 : BitVec 32) (k0_t1 : Fin k0_t1_loop.trips) (k0_t12 : Fin (k0_t12_loop i v17 k0_t1).trips) : Fin 2 → Nat :=
  let c0_i32_60 : BitVec 32 := 0#32
  let c1_i32_63 : BitVec 32 := 1#32
  let arg13 : BitVec 32 := Scf.iv c0_i32_60 c1_i32_63 k0_t12
  let v134 : Index := Scalar.indexCast arg13
  let c0_73 : Index := 0#32
  ![v134.toNat, 0]
def k0_off604 (i : grid0.Coords) (v17 : BitVec 32) (k0_t1 : Fin k0_t1_loop.trips) (k0_t12 : Fin (k0_t12_loop i v17 k0_t1).trips) : Fin 2 → Nat :=
  let c0_i32_60 : BitVec 32 := 0#32
  let c1_i32_63 : BitVec 32 := 1#32
  let arg13 : BitVec 32 := Scf.iv c0_i32_60 c1_i32_63 k0_t12
  let v142 : Index := Scalar.indexCast arg13
  let c16 : Index := 16#32
  ![v142.toNat, 16]
def k0_off605 (i : grid0.Coords) (v17 : BitVec 32) (k0_t1 : Fin k0_t1_loop.trips) (k0_t12 : Fin (k0_t12_loop i v17 k0_t1).trips) : Fin 2 → Nat :=
  let c0_i32_60 : BitVec 32 := 0#32
  let c1_i32_63 : BitVec 32 := 1#32
  let arg13 : BitVec 32 := Scf.iv c0_i32_60 c1_i32_63 k0_t12
  let v150 : Index := Scalar.indexCast arg13
  let c32 : Index := 32#32
  ![v150.toNat, 32]
def k0_off606 (i : grid0.Coords) (v17 : BitVec 32) (k0_t1 : Fin k0_t1_loop.trips) (k0_t12 : Fin (k0_t12_loop i v17 k0_t1).trips) : Fin 2 → Nat :=
  let c0_i32_60 : BitVec 32 := 0#32
  let c1_i32_63 : BitVec 32 := 1#32
  let arg13 : BitVec 32 := Scf.iv c0_i32_60 c1_i32_63 k0_t12
  let v158 : Index := Scalar.indexCast arg13
  let c48 : Index := 48#32
  ![v158.toNat, 48]
def k0_off607 (i : grid0.Coords) (v17 : BitVec 32) (k0_t1 : Fin k0_t1_loop.trips) (k0_t12 : Fin (k0_t12_loop i v17 k0_t1).trips) : Fin 2 → Nat :=
  let c0_i32_60 : BitVec 32 := 0#32
  let c1_i32_63 : BitVec 32 := 1#32
  let arg13 : BitVec 32 := Scf.iv c0_i32_60 c1_i32_63 k0_t12
  let v166 : Index := Scalar.indexCast arg13
  let c64 : Index := 64#32
  ![v166.toNat, 64]
def k0_off608 (i : grid0.Coords) (v17 : BitVec 32) (k0_t1 : Fin k0_t1_loop.trips) (k0_t12 : Fin (k0_t12_loop i v17 k0_t1).trips) : Fin 2 → Nat :=
  let c0_i32_60 : BitVec 32 := 0#32
  let c1_i32_63 : BitVec 32 := 1#32
  let arg13 : BitVec 32 := Scf.iv c0_i32_60 c1_i32_63 k0_t12
  let v174 : Index := Scalar.indexCast arg13
  let c80 : Index := 80#32
  ![v174.toNat, 80]
def k0_off609 (i : grid0.Coords) (v17 : BitVec 32) (k0_t1 : Fin k0_t1_loop.trips) (k0_t12 : Fin (k0_t12_loop i v17 k0_t1).trips) : Fin 2 → Nat :=
  let c0_i32_60 : BitVec 32 := 0#32
  let c1_i32_63 : BitVec 32 := 1#32
  let arg13 : BitVec 32 := Scf.iv c0_i32_60 c1_i32_63 k0_t12
  let v182 : Index := Scalar.indexCast arg13
  let c96 : Index := 96#32
  ![v182.toNat, 96]
def k0_off610 (i : grid0.Coords) (v17 : BitVec 32) (k0_t1 : Fin k0_t1_loop.trips) (k0_t12 : Fin (k0_t12_loop i v17 k0_t1).trips) : Fin 2 → Nat :=
  let c0_i32_60 : BitVec 32 := 0#32
  let c1_i32_63 : BitVec 32 := 1#32
  let arg13 : BitVec 32 := Scf.iv c0_i32_60 c1_i32_63 k0_t12
  let v190 : Index := Scalar.indexCast arg13
  let c112 : Index := 112#32
  ![v190.toNat, 112]
def k0_off611 (i : grid0.Coords) (v17 : BitVec 32) (k0_t1 : Fin k0_t1_loop.trips) (k0_t12 : Fin (k0_t12_loop i v17 k0_t1).trips) : Fin 2 → Nat :=
  let c0_i32_60 : BitVec 32 := 0#32
  let c1_i32_63 : BitVec 32 := 1#32
  let arg13 : BitVec 32 := Scf.iv c0_i32_60 c1_i32_63 k0_t12
  let v198 : Index := Scalar.indexCast arg13
  let c128 : Index := 128#32
  ![v198.toNat, 128]
def k0_off612 (i : grid0.Coords) (v17 : BitVec 32) (k0_t1 : Fin k0_t1_loop.trips) (k0_t12 : Fin (k0_t12_loop i v17 k0_t1).trips) : Fin 2 → Nat :=
  let c0_i32_60 : BitVec 32 := 0#32
  let c1_i32_63 : BitVec 32 := 1#32
  let arg13 : BitVec 32 := Scf.iv c0_i32_60 c1_i32_63 k0_t12
  let v206 : Index := Scalar.indexCast arg13
  let c144 : Index := 144#32
  ![v206.toNat, 144]
def k0_off613 (i : grid0.Coords) (v17 : BitVec 32) (k0_t1 : Fin k0_t1_loop.trips) (k0_t12 : Fin (k0_t12_loop i v17 k0_t1).trips) : Fin 2 → Nat :=
  let c0_i32_60 : BitVec 32 := 0#32
  let c1_i32_63 : BitVec 32 := 1#32
  let arg13 : BitVec 32 := Scf.iv c0_i32_60 c1_i32_63 k0_t12
  let v214 : Index := Scalar.indexCast arg13
  let c160 : Index := 160#32
  ![v214.toNat, 160]
def k0_off614 (i : grid0.Coords) (v17 : BitVec 32) (k0_t1 : Fin k0_t1_loop.trips) (k0_t12 : Fin (k0_t12_loop i v17 k0_t1).trips) : Fin 2 → Nat :=
  let c0_i32_60 : BitVec 32 := 0#32
  let c1_i32_63 : BitVec 32 := 1#32
  let arg13 : BitVec 32 := Scf.iv c0_i32_60 c1_i32_63 k0_t12
  let v222 : Index := Scalar.indexCast arg13
  let c176 : Index := 176#32
  ![v222.toNat, 176]
def k0_off615 (i : grid0.Coords) (v17 : BitVec 32) (k0_t1 : Fin k0_t1_loop.trips) (k0_t12 : Fin (k0_t12_loop i v17 k0_t1).trips) : Fin 2 → Nat :=
  let c0_i32_60 : BitVec 32 := 0#32
  let c1_i32_63 : BitVec 32 := 1#32
  let arg13 : BitVec 32 := Scf.iv c0_i32_60 c1_i32_63 k0_t12
  let v230 : Index := Scalar.indexCast arg13
  let c192 : Index := 192#32
  ![v230.toNat, 192]
def k0_off616 (i : grid0.Coords) (v17 : BitVec 32) (k0_t1 : Fin k0_t1_loop.trips) (k0_t12 : Fin (k0_t12_loop i v17 k0_t1).trips) : Fin 2 → Nat :=
  let c0_i32_60 : BitVec 32 := 0#32
  let c1_i32_63 : BitVec 32 := 1#32
  let arg13 : BitVec 32 := Scf.iv c0_i32_60 c1_i32_63 k0_t12
  let v238 : Index := Scalar.indexCast arg13
  let c208 : Index := 208#32
  ![v238.toNat, 208]
def k0_off617 (i : grid0.Coords) (v17 : BitVec 32) (k0_t1 : Fin k0_t1_loop.trips) (k0_t12 : Fin (k0_t12_loop i v17 k0_t1).trips) : Fin 2 → Nat :=
  let c0_i32_60 : BitVec 32 := 0#32
  let c1_i32_63 : BitVec 32 := 1#32
  let arg13 : BitVec 32 := Scf.iv c0_i32_60 c1_i32_63 k0_t12
  let v246 : Index := Scalar.indexCast arg13
  let c224 : Index := 224#32
  ![v246.toNat, 224]
def k0_off618 (i : grid0.Coords) (v17 : BitVec 32) (k0_t1 : Fin k0_t1_loop.trips) (k0_t12 : Fin (k0_t12_loop i v17 k0_t1).trips) : Fin 2 → Nat :=
  let c0_i32_60 : BitVec 32 := 0#32
  let c1_i32_63 : BitVec 32 := 1#32
  let arg13 : BitVec 32 := Scf.iv c0_i32_60 c1_i32_63 k0_t12
  let v254 : Index := Scalar.indexCast arg13
  let c240 : Index := 240#32
  ![v254.toNat, 240]
def k0_off619 (i : grid0.Coords) (v17 : BitVec 32) (k0_t1 : Fin k0_t1_loop.trips) (k0_t12 : Fin (k0_t12_loop i v17 k0_t1).trips) : Fin 2 → Nat :=
  let c0_i32_60 : BitVec 32 := 0#32
  let c1_i32_63 : BitVec 32 := 1#32
  let arg13 : BitVec 32 := Scf.iv c0_i32_60 c1_i32_63 k0_t12
  let v262 : Index := Scalar.indexCast arg13
  let c256 : Index := 256#32
  ![v262.toNat, 256]
def k0_off620 (i : grid0.Coords) (v17 : BitVec 32) (k0_t1 : Fin k0_t1_loop.trips) (k0_t12 : Fin (k0_t12_loop i v17 k0_t1).trips) : Fin 2 → Nat :=
  let c0_i32_60 : BitVec 32 := 0#32
  let c1_i32_63 : BitVec 32 := 1#32
  let arg13 : BitVec 32 := Scf.iv c0_i32_60 c1_i32_63 k0_t12
  let v270 : Index := Scalar.indexCast arg13
  let c272 : Index := 272#32
  ![v270.toNat, 272]
def k0_off621 (i : grid0.Coords) (v17 : BitVec 32) (k0_t1 : Fin k0_t1_loop.trips) (k0_t12 : Fin (k0_t12_loop i v17 k0_t1).trips) : Fin 2 → Nat :=
  let c0_i32_60 : BitVec 32 := 0#32
  let c1_i32_63 : BitVec 32 := 1#32
  let arg13 : BitVec 32 := Scf.iv c0_i32_60 c1_i32_63 k0_t12
  let v278 : Index := Scalar.indexCast arg13
  let c288 : Index := 288#32
  ![v278.toNat, 288]
def k0_off622 (i : grid0.Coords) (v17 : BitVec 32) (k0_t1 : Fin k0_t1_loop.trips) (k0_t12 : Fin (k0_t12_loop i v17 k0_t1).trips) : Fin 2 → Nat :=
  let c0_i32_60 : BitVec 32 := 0#32
  let c1_i32_63 : BitVec 32 := 1#32
  let arg13 : BitVec 32 := Scf.iv c0_i32_60 c1_i32_63 k0_t12
  let v286 : Index := Scalar.indexCast arg13
  let c304 : Index := 304#32
  ![v286.toNat, 304]
def k0_off623 (i : grid0.Coords) (v17 : BitVec 32) (k0_t1 : Fin k0_t1_loop.trips) (k0_t12 : Fin (k0_t12_loop i v17 k0_t1).trips) : Fin 2 → Nat :=
  let c0_i32_60 : BitVec 32 := 0#32
  let c1_i32_63 : BitVec 32 := 1#32
  let arg13 : BitVec 32 := Scf.iv c0_i32_60 c1_i32_63 k0_t12
  let v294 : Index := Scalar.indexCast arg13
  let c320 : Index := 320#32
  ![v294.toNat, 320]
def k0_off624 (i : grid0.Coords) (v17 : BitVec 32) (k0_t1 : Fin k0_t1_loop.trips) (k0_t12 : Fin (k0_t12_loop i v17 k0_t1).trips) : Fin 2 → Nat :=
  let c0_i32_60 : BitVec 32 := 0#32
  let c1_i32_63 : BitVec 32 := 1#32
  let arg13 : BitVec 32 := Scf.iv c0_i32_60 c1_i32_63 k0_t12
  let v302 : Index := Scalar.indexCast arg13
  let c336 : Index := 336#32
  ![v302.toNat, 336]
def k0_off625 (i : grid0.Coords) (v17 : BitVec 32) (k0_t1 : Fin k0_t1_loop.trips) (k0_t12 : Fin (k0_t12_loop i v17 k0_t1).trips) : Fin 2 → Nat :=
  let c0_i32_60 : BitVec 32 := 0#32
  let c1_i32_63 : BitVec 32 := 1#32
  let arg13 : BitVec 32 := Scf.iv c0_i32_60 c1_i32_63 k0_t12
  let v310 : Index := Scalar.indexCast arg13
  let c352 : Index := 352#32
  ![v310.toNat, 352]
def k0_off626 (i : grid0.Coords) (v17 : BitVec 32) (k0_t1 : Fin k0_t1_loop.trips) (k0_t12 : Fin (k0_t12_loop i v17 k0_t1).trips) : Fin 2 → Nat :=
  let c0_i32_60 : BitVec 32 := 0#32
  let c1_i32_63 : BitVec 32 := 1#32
  let arg13 : BitVec 32 := Scf.iv c0_i32_60 c1_i32_63 k0_t12
  let v318 : Index := Scalar.indexCast arg13
  let c368 : Index := 368#32
  ![v318.toNat, 368]
def k0_off627 (i : grid0.Coords) (v17 : BitVec 32) (k0_t1 : Fin k0_t1_loop.trips) (k0_t12 : Fin (k0_t12_loop i v17 k0_t1).trips) : Fin 2 → Nat :=
  let c0_i32_60 : BitVec 32 := 0#32
  let c1_i32_63 : BitVec 32 := 1#32
  let arg13 : BitVec 32 := Scf.iv c0_i32_60 c1_i32_63 k0_t12
  let v326 : Index := Scalar.indexCast arg13
  let c384 : Index := 384#32
  ![v326.toNat, 384]
def k0_off628 (i : grid0.Coords) (v17 : BitVec 32) (k0_t1 : Fin k0_t1_loop.trips) (k0_t12 : Fin (k0_t12_loop i v17 k0_t1).trips) : Fin 2 → Nat :=
  let c0_i32_60 : BitVec 32 := 0#32
  let c1_i32_63 : BitVec 32 := 1#32
  let arg13 : BitVec 32 := Scf.iv c0_i32_60 c1_i32_63 k0_t12
  let v334 : Index := Scalar.indexCast arg13
  let c400 : Index := 400#32
  ![v334.toNat, 400]
def k0_off629 (i : grid0.Coords) (v17 : BitVec 32) (k0_t1 : Fin k0_t1_loop.trips) (k0_t12 : Fin (k0_t12_loop i v17 k0_t1).trips) : Fin 2 → Nat :=
  let c0_i32_60 : BitVec 32 := 0#32
  let c1_i32_63 : BitVec 32 := 1#32
  let arg13 : BitVec 32 := Scf.iv c0_i32_60 c1_i32_63 k0_t12
  let v342 : Index := Scalar.indexCast arg13
  let c416 : Index := 416#32
  ![v342.toNat, 416]
def k0_off630 (i : grid0.Coords) (v17 : BitVec 32) (k0_t1 : Fin k0_t1_loop.trips) (k0_t12 : Fin (k0_t12_loop i v17 k0_t1).trips) : Fin 2 → Nat :=
  let c0_i32_60 : BitVec 32 := 0#32
  let c1_i32_63 : BitVec 32 := 1#32
  let arg13 : BitVec 32 := Scf.iv c0_i32_60 c1_i32_63 k0_t12
  let v350 : Index := Scalar.indexCast arg13
  let c432 : Index := 432#32
  ![v350.toNat, 432]
def k0_off631 (i : grid0.Coords) (v17 : BitVec 32) (k0_t1 : Fin k0_t1_loop.trips) (k0_t12 : Fin (k0_t12_loop i v17 k0_t1).trips) : Fin 2 → Nat :=
  let c0_i32_60 : BitVec 32 := 0#32
  let c1_i32_63 : BitVec 32 := 1#32
  let arg13 : BitVec 32 := Scf.iv c0_i32_60 c1_i32_63 k0_t12
  let v358 : Index := Scalar.indexCast arg13
  let c448 : Index := 448#32
  ![v358.toNat, 448]
def k0_off632 (i : grid0.Coords) (v17 : BitVec 32) (k0_t1 : Fin k0_t1_loop.trips) (k0_t12 : Fin (k0_t12_loop i v17 k0_t1).trips) : Fin 2 → Nat :=
  let c0_i32_60 : BitVec 32 := 0#32
  let c1_i32_63 : BitVec 32 := 1#32
  let arg13 : BitVec 32 := Scf.iv c0_i32_60 c1_i32_63 k0_t12
  let v366 : Index := Scalar.indexCast arg13
  let c464 : Index := 464#32
  ![v366.toNat, 464]
def k0_off633 (i : grid0.Coords) (v17 : BitVec 32) (k0_t1 : Fin k0_t1_loop.trips) (k0_t12 : Fin (k0_t12_loop i v17 k0_t1).trips) : Fin 2 → Nat :=
  let c0_i32_60 : BitVec 32 := 0#32
  let c1_i32_63 : BitVec 32 := 1#32
  let arg13 : BitVec 32 := Scf.iv c0_i32_60 c1_i32_63 k0_t12
  let v374 : Index := Scalar.indexCast arg13
  let c480 : Index := 480#32
  ![v374.toNat, 480]
def k0_off634 (i : grid0.Coords) (v17 : BitVec 32) (k0_t1 : Fin k0_t1_loop.trips) (k0_t12 : Fin (k0_t12_loop i v17 k0_t1).trips) : Fin 2 → Nat :=
  let c0_i32_60 : BitVec 32 := 0#32
  let c1_i32_63 : BitVec 32 := 1#32
  let arg13 : BitVec 32 := Scf.iv c0_i32_60 c1_i32_63 k0_t12
  let v382 : Index := Scalar.indexCast arg13
  let c496 : Index := 496#32
  ![v382.toNat, 496]
@[reducible] def k0_t13_loop (i : grid0.Coords) (v17 : BitVec 32) (k0_t1 : Fin k0_t1_loop.trips) : Scf.Loop 32 :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let v112 : BitVec 32 := Scalar.addi c0_i32_60 v111
  let c1_i32_64 : BitVec 32 := 1#32
  ⟨v115, v112, c1_i32_64⟩
def k0_off635 (i : grid0.Coords) (v17 : BitVec 32) (k0_t1 : Fin k0_t1_loop.trips) (k0_t13 : Fin (k0_t13_loop i v17 k0_t1).trips) : Fin 2 → Nat :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let c1_i32_64 : BitVec 32 := 1#32
  let arg13 : BitVec 32 := Scf.iv v115 c1_i32_64 k0_t13
  let v127 : Index := Scalar.indexCast arg13
  let c0 : Index := 0#32
  ![v127.toNat, 0]
def k0_off636 (i : grid0.Coords) (v17 : BitVec 32) (k0_t1 : Fin k0_t1_loop.trips) (k0_t13 : Fin (k0_t13_loop i v17 k0_t1).trips) : Fin 2 → Nat :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let c1_i32_64 : BitVec 32 := 1#32
  let arg13 : BitVec 32 := Scf.iv v115 c1_i32_64 k0_t13
  let v134 : Index := Scalar.indexCast arg13
  let c0_73 : Index := 0#32
  ![v134.toNat, 0]
def k0_off637 (i : grid0.Coords) (v17 : BitVec 32) (k0_t1 : Fin k0_t1_loop.trips) (k0_t13 : Fin (k0_t13_loop i v17 k0_t1).trips) : Fin 2 → Nat :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let c1_i32_64 : BitVec 32 := 1#32
  let arg13 : BitVec 32 := Scf.iv v115 c1_i32_64 k0_t13
  let v142 : Index := Scalar.indexCast arg13
  let c16 : Index := 16#32
  ![v142.toNat, 16]
def k0_off638 (i : grid0.Coords) (v17 : BitVec 32) (k0_t1 : Fin k0_t1_loop.trips) (k0_t13 : Fin (k0_t13_loop i v17 k0_t1).trips) : Fin 2 → Nat :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let c1_i32_64 : BitVec 32 := 1#32
  let arg13 : BitVec 32 := Scf.iv v115 c1_i32_64 k0_t13
  let v150 : Index := Scalar.indexCast arg13
  let c32 : Index := 32#32
  ![v150.toNat, 32]
def k0_off639 (i : grid0.Coords) (v17 : BitVec 32) (k0_t1 : Fin k0_t1_loop.trips) (k0_t13 : Fin (k0_t13_loop i v17 k0_t1).trips) : Fin 2 → Nat :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let c1_i32_64 : BitVec 32 := 1#32
  let arg13 : BitVec 32 := Scf.iv v115 c1_i32_64 k0_t13
  let v158 : Index := Scalar.indexCast arg13
  let c48 : Index := 48#32
  ![v158.toNat, 48]
def k0_off640 (i : grid0.Coords) (v17 : BitVec 32) (k0_t1 : Fin k0_t1_loop.trips) (k0_t13 : Fin (k0_t13_loop i v17 k0_t1).trips) : Fin 2 → Nat :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let c1_i32_64 : BitVec 32 := 1#32
  let arg13 : BitVec 32 := Scf.iv v115 c1_i32_64 k0_t13
  let v166 : Index := Scalar.indexCast arg13
  let c64 : Index := 64#32
  ![v166.toNat, 64]
def k0_off641 (i : grid0.Coords) (v17 : BitVec 32) (k0_t1 : Fin k0_t1_loop.trips) (k0_t13 : Fin (k0_t13_loop i v17 k0_t1).trips) : Fin 2 → Nat :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let c1_i32_64 : BitVec 32 := 1#32
  let arg13 : BitVec 32 := Scf.iv v115 c1_i32_64 k0_t13
  let v174 : Index := Scalar.indexCast arg13
  let c80 : Index := 80#32
  ![v174.toNat, 80]
def k0_off642 (i : grid0.Coords) (v17 : BitVec 32) (k0_t1 : Fin k0_t1_loop.trips) (k0_t13 : Fin (k0_t13_loop i v17 k0_t1).trips) : Fin 2 → Nat :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let c1_i32_64 : BitVec 32 := 1#32
  let arg13 : BitVec 32 := Scf.iv v115 c1_i32_64 k0_t13
  let v182 : Index := Scalar.indexCast arg13
  let c96 : Index := 96#32
  ![v182.toNat, 96]
def k0_off643 (i : grid0.Coords) (v17 : BitVec 32) (k0_t1 : Fin k0_t1_loop.trips) (k0_t13 : Fin (k0_t13_loop i v17 k0_t1).trips) : Fin 2 → Nat :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let c1_i32_64 : BitVec 32 := 1#32
  let arg13 : BitVec 32 := Scf.iv v115 c1_i32_64 k0_t13
  let v190 : Index := Scalar.indexCast arg13
  let c112 : Index := 112#32
  ![v190.toNat, 112]
def k0_off644 (i : grid0.Coords) (v17 : BitVec 32) (k0_t1 : Fin k0_t1_loop.trips) (k0_t13 : Fin (k0_t13_loop i v17 k0_t1).trips) : Fin 2 → Nat :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let c1_i32_64 : BitVec 32 := 1#32
  let arg13 : BitVec 32 := Scf.iv v115 c1_i32_64 k0_t13
  let v198 : Index := Scalar.indexCast arg13
  let c128 : Index := 128#32
  ![v198.toNat, 128]
def k0_off645 (i : grid0.Coords) (v17 : BitVec 32) (k0_t1 : Fin k0_t1_loop.trips) (k0_t13 : Fin (k0_t13_loop i v17 k0_t1).trips) : Fin 2 → Nat :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let c1_i32_64 : BitVec 32 := 1#32
  let arg13 : BitVec 32 := Scf.iv v115 c1_i32_64 k0_t13
  let v206 : Index := Scalar.indexCast arg13
  let c144 : Index := 144#32
  ![v206.toNat, 144]
def k0_off646 (i : grid0.Coords) (v17 : BitVec 32) (k0_t1 : Fin k0_t1_loop.trips) (k0_t13 : Fin (k0_t13_loop i v17 k0_t1).trips) : Fin 2 → Nat :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let c1_i32_64 : BitVec 32 := 1#32
  let arg13 : BitVec 32 := Scf.iv v115 c1_i32_64 k0_t13
  let v214 : Index := Scalar.indexCast arg13
  let c160 : Index := 160#32
  ![v214.toNat, 160]
def k0_off647 (i : grid0.Coords) (v17 : BitVec 32) (k0_t1 : Fin k0_t1_loop.trips) (k0_t13 : Fin (k0_t13_loop i v17 k0_t1).trips) : Fin 2 → Nat :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let c1_i32_64 : BitVec 32 := 1#32
  let arg13 : BitVec 32 := Scf.iv v115 c1_i32_64 k0_t13
  let v222 : Index := Scalar.indexCast arg13
  let c176 : Index := 176#32
  ![v222.toNat, 176]
def k0_off648 (i : grid0.Coords) (v17 : BitVec 32) (k0_t1 : Fin k0_t1_loop.trips) (k0_t13 : Fin (k0_t13_loop i v17 k0_t1).trips) : Fin 2 → Nat :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let c1_i32_64 : BitVec 32 := 1#32
  let arg13 : BitVec 32 := Scf.iv v115 c1_i32_64 k0_t13
  let v230 : Index := Scalar.indexCast arg13
  let c192 : Index := 192#32
  ![v230.toNat, 192]
def k0_off649 (i : grid0.Coords) (v17 : BitVec 32) (k0_t1 : Fin k0_t1_loop.trips) (k0_t13 : Fin (k0_t13_loop i v17 k0_t1).trips) : Fin 2 → Nat :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let c1_i32_64 : BitVec 32 := 1#32
  let arg13 : BitVec 32 := Scf.iv v115 c1_i32_64 k0_t13
  let v238 : Index := Scalar.indexCast arg13
  let c208 : Index := 208#32
  ![v238.toNat, 208]
def k0_off650 (i : grid0.Coords) (v17 : BitVec 32) (k0_t1 : Fin k0_t1_loop.trips) (k0_t13 : Fin (k0_t13_loop i v17 k0_t1).trips) : Fin 2 → Nat :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let c1_i32_64 : BitVec 32 := 1#32
  let arg13 : BitVec 32 := Scf.iv v115 c1_i32_64 k0_t13
  let v246 : Index := Scalar.indexCast arg13
  let c224 : Index := 224#32
  ![v246.toNat, 224]
def k0_off651 (i : grid0.Coords) (v17 : BitVec 32) (k0_t1 : Fin k0_t1_loop.trips) (k0_t13 : Fin (k0_t13_loop i v17 k0_t1).trips) : Fin 2 → Nat :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let c1_i32_64 : BitVec 32 := 1#32
  let arg13 : BitVec 32 := Scf.iv v115 c1_i32_64 k0_t13
  let v254 : Index := Scalar.indexCast arg13
  let c240 : Index := 240#32
  ![v254.toNat, 240]
def k0_off652 (i : grid0.Coords) (v17 : BitVec 32) (k0_t1 : Fin k0_t1_loop.trips) (k0_t13 : Fin (k0_t13_loop i v17 k0_t1).trips) : Fin 2 → Nat :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let c1_i32_64 : BitVec 32 := 1#32
  let arg13 : BitVec 32 := Scf.iv v115 c1_i32_64 k0_t13
  let v262 : Index := Scalar.indexCast arg13
  let c256 : Index := 256#32
  ![v262.toNat, 256]
def k0_off653 (i : grid0.Coords) (v17 : BitVec 32) (k0_t1 : Fin k0_t1_loop.trips) (k0_t13 : Fin (k0_t13_loop i v17 k0_t1).trips) : Fin 2 → Nat :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let c1_i32_64 : BitVec 32 := 1#32
  let arg13 : BitVec 32 := Scf.iv v115 c1_i32_64 k0_t13
  let v270 : Index := Scalar.indexCast arg13
  let c272 : Index := 272#32
  ![v270.toNat, 272]
def k0_off654 (i : grid0.Coords) (v17 : BitVec 32) (k0_t1 : Fin k0_t1_loop.trips) (k0_t13 : Fin (k0_t13_loop i v17 k0_t1).trips) : Fin 2 → Nat :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let c1_i32_64 : BitVec 32 := 1#32
  let arg13 : BitVec 32 := Scf.iv v115 c1_i32_64 k0_t13
  let v278 : Index := Scalar.indexCast arg13
  let c288 : Index := 288#32
  ![v278.toNat, 288]
def k0_off655 (i : grid0.Coords) (v17 : BitVec 32) (k0_t1 : Fin k0_t1_loop.trips) (k0_t13 : Fin (k0_t13_loop i v17 k0_t1).trips) : Fin 2 → Nat :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let c1_i32_64 : BitVec 32 := 1#32
  let arg13 : BitVec 32 := Scf.iv v115 c1_i32_64 k0_t13
  let v286 : Index := Scalar.indexCast arg13
  let c304 : Index := 304#32
  ![v286.toNat, 304]
def k0_off656 (i : grid0.Coords) (v17 : BitVec 32) (k0_t1 : Fin k0_t1_loop.trips) (k0_t13 : Fin (k0_t13_loop i v17 k0_t1).trips) : Fin 2 → Nat :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let c1_i32_64 : BitVec 32 := 1#32
  let arg13 : BitVec 32 := Scf.iv v115 c1_i32_64 k0_t13
  let v294 : Index := Scalar.indexCast arg13
  let c320 : Index := 320#32
  ![v294.toNat, 320]
def k0_off657 (i : grid0.Coords) (v17 : BitVec 32) (k0_t1 : Fin k0_t1_loop.trips) (k0_t13 : Fin (k0_t13_loop i v17 k0_t1).trips) : Fin 2 → Nat :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let c1_i32_64 : BitVec 32 := 1#32
  let arg13 : BitVec 32 := Scf.iv v115 c1_i32_64 k0_t13
  let v302 : Index := Scalar.indexCast arg13
  let c336 : Index := 336#32
  ![v302.toNat, 336]
def k0_off658 (i : grid0.Coords) (v17 : BitVec 32) (k0_t1 : Fin k0_t1_loop.trips) (k0_t13 : Fin (k0_t13_loop i v17 k0_t1).trips) : Fin 2 → Nat :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let c1_i32_64 : BitVec 32 := 1#32
  let arg13 : BitVec 32 := Scf.iv v115 c1_i32_64 k0_t13
  let v310 : Index := Scalar.indexCast arg13
  let c352 : Index := 352#32
  ![v310.toNat, 352]
def k0_off659 (i : grid0.Coords) (v17 : BitVec 32) (k0_t1 : Fin k0_t1_loop.trips) (k0_t13 : Fin (k0_t13_loop i v17 k0_t1).trips) : Fin 2 → Nat :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let c1_i32_64 : BitVec 32 := 1#32
  let arg13 : BitVec 32 := Scf.iv v115 c1_i32_64 k0_t13
  let v318 : Index := Scalar.indexCast arg13
  let c368 : Index := 368#32
  ![v318.toNat, 368]
def k0_off660 (i : grid0.Coords) (v17 : BitVec 32) (k0_t1 : Fin k0_t1_loop.trips) (k0_t13 : Fin (k0_t13_loop i v17 k0_t1).trips) : Fin 2 → Nat :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let c1_i32_64 : BitVec 32 := 1#32
  let arg13 : BitVec 32 := Scf.iv v115 c1_i32_64 k0_t13
  let v326 : Index := Scalar.indexCast arg13
  let c384 : Index := 384#32
  ![v326.toNat, 384]
def k0_off661 (i : grid0.Coords) (v17 : BitVec 32) (k0_t1 : Fin k0_t1_loop.trips) (k0_t13 : Fin (k0_t13_loop i v17 k0_t1).trips) : Fin 2 → Nat :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let c1_i32_64 : BitVec 32 := 1#32
  let arg13 : BitVec 32 := Scf.iv v115 c1_i32_64 k0_t13
  let v334 : Index := Scalar.indexCast arg13
  let c400 : Index := 400#32
  ![v334.toNat, 400]
def k0_off662 (i : grid0.Coords) (v17 : BitVec 32) (k0_t1 : Fin k0_t1_loop.trips) (k0_t13 : Fin (k0_t13_loop i v17 k0_t1).trips) : Fin 2 → Nat :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let c1_i32_64 : BitVec 32 := 1#32
  let arg13 : BitVec 32 := Scf.iv v115 c1_i32_64 k0_t13
  let v342 : Index := Scalar.indexCast arg13
  let c416 : Index := 416#32
  ![v342.toNat, 416]
def k0_off663 (i : grid0.Coords) (v17 : BitVec 32) (k0_t1 : Fin k0_t1_loop.trips) (k0_t13 : Fin (k0_t13_loop i v17 k0_t1).trips) : Fin 2 → Nat :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let c1_i32_64 : BitVec 32 := 1#32
  let arg13 : BitVec 32 := Scf.iv v115 c1_i32_64 k0_t13
  let v350 : Index := Scalar.indexCast arg13
  let c432 : Index := 432#32
  ![v350.toNat, 432]
def k0_off664 (i : grid0.Coords) (v17 : BitVec 32) (k0_t1 : Fin k0_t1_loop.trips) (k0_t13 : Fin (k0_t13_loop i v17 k0_t1).trips) : Fin 2 → Nat :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let c1_i32_64 : BitVec 32 := 1#32
  let arg13 : BitVec 32 := Scf.iv v115 c1_i32_64 k0_t13
  let v358 : Index := Scalar.indexCast arg13
  let c448 : Index := 448#32
  ![v358.toNat, 448]
def k0_off665 (i : grid0.Coords) (v17 : BitVec 32) (k0_t1 : Fin k0_t1_loop.trips) (k0_t13 : Fin (k0_t13_loop i v17 k0_t1).trips) : Fin 2 → Nat :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let c1_i32_64 : BitVec 32 := 1#32
  let arg13 : BitVec 32 := Scf.iv v115 c1_i32_64 k0_t13
  let v366 : Index := Scalar.indexCast arg13
  let c464 : Index := 464#32
  ![v366.toNat, 464]
def k0_off666 (i : grid0.Coords) (v17 : BitVec 32) (k0_t1 : Fin k0_t1_loop.trips) (k0_t13 : Fin (k0_t13_loop i v17 k0_t1).trips) : Fin 2 → Nat :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let c1_i32_64 : BitVec 32 := 1#32
  let arg13 : BitVec 32 := Scf.iv v115 c1_i32_64 k0_t13
  let v374 : Index := Scalar.indexCast arg13
  let c480 : Index := 480#32
  ![v374.toNat, 480]
def k0_off667 (i : grid0.Coords) (v17 : BitVec 32) (k0_t1 : Fin k0_t1_loop.trips) (k0_t13 : Fin (k0_t13_loop i v17 k0_t1).trips) : Fin 2 → Nat :=
  let c0_i32_60 : BitVec 32 := 0#32
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let v111 : BitVec 32 := Scalar.subi v44 c0_i32_60
  let c1_i32_62 : BitVec 32 := 1#32
  let v113 : BitVec 32 := Scalar.divsi v111 c1_i32_62
  let v114 : BitVec 32 := Scalar.muli v113 c1_i32_62
  let v115 : BitVec 32 := Scalar.addi c0_i32_60 v114
  let c1_i32_64 : BitVec 32 := 1#32
  let arg13 : BitVec 32 := Scf.iv v115 c1_i32_64 k0_t13
  let v382 : Index := Scalar.indexCast arg13
  let c496 : Index := 496#32
  ![v382.toNat, 496]
@[reducible] def k0_t14_loop (i : grid0.Coords) (v17 : BitVec 32) (k0_t1 : Fin k0_t1_loop.trips) : Scf.Loop 32 :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c128_i32_65 : BitVec 32 := 128#32
  let v118 : BitVec 32 := Scalar.subi c128_i32_65 v44
  let c1_i32_67 : BitVec 32 := 1#32
  let v120 : BitVec 32 := Scalar.divsi v118 c1_i32_67
  let v121 : BitVec 32 := Scalar.muli v120 c1_i32_67
  let v122 : BitVec 32 := Scalar.addi v44 v121
  let c1_i32_68 : BitVec 32 := 1#32
  ⟨v44, v122, c1_i32_68⟩
def k0_off668 (i : grid0.Coords) (v17 : BitVec 32) (k0_t1 : Fin k0_t1_loop.trips) (k0_t14 : Fin (k0_t14_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c1_i32_68 : BitVec 32 := 1#32
  let arg13 : BitVec 32 := Scf.iv v44 c1_i32_68 k0_t14
  let v128 : Index := Scalar.indexCast arg13
  let c0 : Index := 0#32
  ![v128.toNat, 0]
def k0_off669 (i : grid0.Coords) (v17 : BitVec 32) (k0_t1 : Fin k0_t1_loop.trips) (k0_t14 : Fin (k0_t14_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c1_i32_68 : BitVec 32 := 1#32
  let arg13 : BitVec 32 := Scf.iv v44 c1_i32_68 k0_t14
  let v133 : Index := Scalar.indexCast arg13
  let c16 : Index := 16#32
  ![v133.toNat, 16]
def k0_off670 (i : grid0.Coords) (v17 : BitVec 32) (k0_t1 : Fin k0_t1_loop.trips) (k0_t14 : Fin (k0_t14_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c1_i32_68 : BitVec 32 := 1#32
  let arg13 : BitVec 32 := Scf.iv v44 c1_i32_68 k0_t14
  let v138 : Index := Scalar.indexCast arg13
  let c32 : Index := 32#32
  ![v138.toNat, 32]
def k0_off671 (i : grid0.Coords) (v17 : BitVec 32) (k0_t1 : Fin k0_t1_loop.trips) (k0_t14 : Fin (k0_t14_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c1_i32_68 : BitVec 32 := 1#32
  let arg13 : BitVec 32 := Scf.iv v44 c1_i32_68 k0_t14
  let v143 : Index := Scalar.indexCast arg13
  let c48 : Index := 48#32
  ![v143.toNat, 48]
def k0_off672 (i : grid0.Coords) (v17 : BitVec 32) (k0_t1 : Fin k0_t1_loop.trips) (k0_t14 : Fin (k0_t14_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c1_i32_68 : BitVec 32 := 1#32
  let arg13 : BitVec 32 := Scf.iv v44 c1_i32_68 k0_t14
  let v148 : Index := Scalar.indexCast arg13
  let c64 : Index := 64#32
  ![v148.toNat, 64]
def k0_off673 (i : grid0.Coords) (v17 : BitVec 32) (k0_t1 : Fin k0_t1_loop.trips) (k0_t14 : Fin (k0_t14_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c1_i32_68 : BitVec 32 := 1#32
  let arg13 : BitVec 32 := Scf.iv v44 c1_i32_68 k0_t14
  let v153 : Index := Scalar.indexCast arg13
  let c80 : Index := 80#32
  ![v153.toNat, 80]
def k0_off674 (i : grid0.Coords) (v17 : BitVec 32) (k0_t1 : Fin k0_t1_loop.trips) (k0_t14 : Fin (k0_t14_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c1_i32_68 : BitVec 32 := 1#32
  let arg13 : BitVec 32 := Scf.iv v44 c1_i32_68 k0_t14
  let v158 : Index := Scalar.indexCast arg13
  let c96 : Index := 96#32
  ![v158.toNat, 96]
def k0_off675 (i : grid0.Coords) (v17 : BitVec 32) (k0_t1 : Fin k0_t1_loop.trips) (k0_t14 : Fin (k0_t14_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c1_i32_68 : BitVec 32 := 1#32
  let arg13 : BitVec 32 := Scf.iv v44 c1_i32_68 k0_t14
  let v163 : Index := Scalar.indexCast arg13
  let c112 : Index := 112#32
  ![v163.toNat, 112]
def k0_off676 (i : grid0.Coords) (v17 : BitVec 32) (k0_t1 : Fin k0_t1_loop.trips) (k0_t14 : Fin (k0_t14_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c1_i32_68 : BitVec 32 := 1#32
  let arg13 : BitVec 32 := Scf.iv v44 c1_i32_68 k0_t14
  let v168 : Index := Scalar.indexCast arg13
  let c128 : Index := 128#32
  ![v168.toNat, 128]
def k0_off677 (i : grid0.Coords) (v17 : BitVec 32) (k0_t1 : Fin k0_t1_loop.trips) (k0_t14 : Fin (k0_t14_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c1_i32_68 : BitVec 32 := 1#32
  let arg13 : BitVec 32 := Scf.iv v44 c1_i32_68 k0_t14
  let v173 : Index := Scalar.indexCast arg13
  let c144 : Index := 144#32
  ![v173.toNat, 144]
def k0_off678 (i : grid0.Coords) (v17 : BitVec 32) (k0_t1 : Fin k0_t1_loop.trips) (k0_t14 : Fin (k0_t14_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c1_i32_68 : BitVec 32 := 1#32
  let arg13 : BitVec 32 := Scf.iv v44 c1_i32_68 k0_t14
  let v178 : Index := Scalar.indexCast arg13
  let c160 : Index := 160#32
  ![v178.toNat, 160]
def k0_off679 (i : grid0.Coords) (v17 : BitVec 32) (k0_t1 : Fin k0_t1_loop.trips) (k0_t14 : Fin (k0_t14_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c1_i32_68 : BitVec 32 := 1#32
  let arg13 : BitVec 32 := Scf.iv v44 c1_i32_68 k0_t14
  let v183 : Index := Scalar.indexCast arg13
  let c176 : Index := 176#32
  ![v183.toNat, 176]
def k0_off680 (i : grid0.Coords) (v17 : BitVec 32) (k0_t1 : Fin k0_t1_loop.trips) (k0_t14 : Fin (k0_t14_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c1_i32_68 : BitVec 32 := 1#32
  let arg13 : BitVec 32 := Scf.iv v44 c1_i32_68 k0_t14
  let v188 : Index := Scalar.indexCast arg13
  let c192 : Index := 192#32
  ![v188.toNat, 192]
def k0_off681 (i : grid0.Coords) (v17 : BitVec 32) (k0_t1 : Fin k0_t1_loop.trips) (k0_t14 : Fin (k0_t14_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c1_i32_68 : BitVec 32 := 1#32
  let arg13 : BitVec 32 := Scf.iv v44 c1_i32_68 k0_t14
  let v193 : Index := Scalar.indexCast arg13
  let c208 : Index := 208#32
  ![v193.toNat, 208]
def k0_off682 (i : grid0.Coords) (v17 : BitVec 32) (k0_t1 : Fin k0_t1_loop.trips) (k0_t14 : Fin (k0_t14_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c1_i32_68 : BitVec 32 := 1#32
  let arg13 : BitVec 32 := Scf.iv v44 c1_i32_68 k0_t14
  let v198 : Index := Scalar.indexCast arg13
  let c224 : Index := 224#32
  ![v198.toNat, 224]
def k0_off683 (i : grid0.Coords) (v17 : BitVec 32) (k0_t1 : Fin k0_t1_loop.trips) (k0_t14 : Fin (k0_t14_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c1_i32_68 : BitVec 32 := 1#32
  let arg13 : BitVec 32 := Scf.iv v44 c1_i32_68 k0_t14
  let v203 : Index := Scalar.indexCast arg13
  let c240 : Index := 240#32
  ![v203.toNat, 240]
def k0_off684 (i : grid0.Coords) (v17 : BitVec 32) (k0_t1 : Fin k0_t1_loop.trips) (k0_t14 : Fin (k0_t14_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c1_i32_68 : BitVec 32 := 1#32
  let arg13 : BitVec 32 := Scf.iv v44 c1_i32_68 k0_t14
  let v208 : Index := Scalar.indexCast arg13
  let c256 : Index := 256#32
  ![v208.toNat, 256]
def k0_off685 (i : grid0.Coords) (v17 : BitVec 32) (k0_t1 : Fin k0_t1_loop.trips) (k0_t14 : Fin (k0_t14_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c1_i32_68 : BitVec 32 := 1#32
  let arg13 : BitVec 32 := Scf.iv v44 c1_i32_68 k0_t14
  let v213 : Index := Scalar.indexCast arg13
  let c272 : Index := 272#32
  ![v213.toNat, 272]
def k0_off686 (i : grid0.Coords) (v17 : BitVec 32) (k0_t1 : Fin k0_t1_loop.trips) (k0_t14 : Fin (k0_t14_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c1_i32_68 : BitVec 32 := 1#32
  let arg13 : BitVec 32 := Scf.iv v44 c1_i32_68 k0_t14
  let v218 : Index := Scalar.indexCast arg13
  let c288 : Index := 288#32
  ![v218.toNat, 288]
def k0_off687 (i : grid0.Coords) (v17 : BitVec 32) (k0_t1 : Fin k0_t1_loop.trips) (k0_t14 : Fin (k0_t14_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c1_i32_68 : BitVec 32 := 1#32
  let arg13 : BitVec 32 := Scf.iv v44 c1_i32_68 k0_t14
  let v223 : Index := Scalar.indexCast arg13
  let c304 : Index := 304#32
  ![v223.toNat, 304]
def k0_off688 (i : grid0.Coords) (v17 : BitVec 32) (k0_t1 : Fin k0_t1_loop.trips) (k0_t14 : Fin (k0_t14_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c1_i32_68 : BitVec 32 := 1#32
  let arg13 : BitVec 32 := Scf.iv v44 c1_i32_68 k0_t14
  let v228 : Index := Scalar.indexCast arg13
  let c320 : Index := 320#32
  ![v228.toNat, 320]
def k0_off689 (i : grid0.Coords) (v17 : BitVec 32) (k0_t1 : Fin k0_t1_loop.trips) (k0_t14 : Fin (k0_t14_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c1_i32_68 : BitVec 32 := 1#32
  let arg13 : BitVec 32 := Scf.iv v44 c1_i32_68 k0_t14
  let v233 : Index := Scalar.indexCast arg13
  let c336 : Index := 336#32
  ![v233.toNat, 336]
def k0_off690 (i : grid0.Coords) (v17 : BitVec 32) (k0_t1 : Fin k0_t1_loop.trips) (k0_t14 : Fin (k0_t14_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c1_i32_68 : BitVec 32 := 1#32
  let arg13 : BitVec 32 := Scf.iv v44 c1_i32_68 k0_t14
  let v238 : Index := Scalar.indexCast arg13
  let c352 : Index := 352#32
  ![v238.toNat, 352]
def k0_off691 (i : grid0.Coords) (v17 : BitVec 32) (k0_t1 : Fin k0_t1_loop.trips) (k0_t14 : Fin (k0_t14_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c1_i32_68 : BitVec 32 := 1#32
  let arg13 : BitVec 32 := Scf.iv v44 c1_i32_68 k0_t14
  let v243 : Index := Scalar.indexCast arg13
  let c368 : Index := 368#32
  ![v243.toNat, 368]
def k0_off692 (i : grid0.Coords) (v17 : BitVec 32) (k0_t1 : Fin k0_t1_loop.trips) (k0_t14 : Fin (k0_t14_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c1_i32_68 : BitVec 32 := 1#32
  let arg13 : BitVec 32 := Scf.iv v44 c1_i32_68 k0_t14
  let v248 : Index := Scalar.indexCast arg13
  let c384 : Index := 384#32
  ![v248.toNat, 384]
def k0_off693 (i : grid0.Coords) (v17 : BitVec 32) (k0_t1 : Fin k0_t1_loop.trips) (k0_t14 : Fin (k0_t14_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c1_i32_68 : BitVec 32 := 1#32
  let arg13 : BitVec 32 := Scf.iv v44 c1_i32_68 k0_t14
  let v253 : Index := Scalar.indexCast arg13
  let c400 : Index := 400#32
  ![v253.toNat, 400]
def k0_off694 (i : grid0.Coords) (v17 : BitVec 32) (k0_t1 : Fin k0_t1_loop.trips) (k0_t14 : Fin (k0_t14_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c1_i32_68 : BitVec 32 := 1#32
  let arg13 : BitVec 32 := Scf.iv v44 c1_i32_68 k0_t14
  let v258 : Index := Scalar.indexCast arg13
  let c416 : Index := 416#32
  ![v258.toNat, 416]
def k0_off695 (i : grid0.Coords) (v17 : BitVec 32) (k0_t1 : Fin k0_t1_loop.trips) (k0_t14 : Fin (k0_t14_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c1_i32_68 : BitVec 32 := 1#32
  let arg13 : BitVec 32 := Scf.iv v44 c1_i32_68 k0_t14
  let v263 : Index := Scalar.indexCast arg13
  let c432 : Index := 432#32
  ![v263.toNat, 432]
def k0_off696 (i : grid0.Coords) (v17 : BitVec 32) (k0_t1 : Fin k0_t1_loop.trips) (k0_t14 : Fin (k0_t14_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c1_i32_68 : BitVec 32 := 1#32
  let arg13 : BitVec 32 := Scf.iv v44 c1_i32_68 k0_t14
  let v268 : Index := Scalar.indexCast arg13
  let c448 : Index := 448#32
  ![v268.toNat, 448]
def k0_off697 (i : grid0.Coords) (v17 : BitVec 32) (k0_t1 : Fin k0_t1_loop.trips) (k0_t14 : Fin (k0_t14_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c1_i32_68 : BitVec 32 := 1#32
  let arg13 : BitVec 32 := Scf.iv v44 c1_i32_68 k0_t14
  let v273 : Index := Scalar.indexCast arg13
  let c464 : Index := 464#32
  ![v273.toNat, 464]
def k0_off698 (i : grid0.Coords) (v17 : BitVec 32) (k0_t1 : Fin k0_t1_loop.trips) (k0_t14 : Fin (k0_t14_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c1_i32_68 : BitVec 32 := 1#32
  let arg13 : BitVec 32 := Scf.iv v44 c1_i32_68 k0_t14
  let v278 : Index := Scalar.indexCast arg13
  let c480 : Index := 480#32
  ![v278.toNat, 480]
def k0_off699 (i : grid0.Coords) (v17 : BitVec 32) (k0_t1 : Fin k0_t1_loop.trips) (k0_t14 : Fin (k0_t14_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c1_i32_68 : BitVec 32 := 1#32
  let arg13 : BitVec 32 := Scf.iv v44 c1_i32_68 k0_t14
  let v283 : Index := Scalar.indexCast arg13
  let c496 : Index := 496#32
  ![v283.toNat, 496]
@[reducible] def k0_t15_loop (i : grid0.Coords) (v17 : BitVec 32) (k0_t1 : Fin k0_t1_loop.trips) : Scf.Loop 32 :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c128_i32_65 : BitVec 32 := 128#32
  let v118 : BitVec 32 := Scalar.subi c128_i32_65 v44
  let c1_i32_67 : BitVec 32 := 1#32
  let v120 : BitVec 32 := Scalar.divsi v118 c1_i32_67
  let v121 : BitVec 32 := Scalar.muli v120 c1_i32_67
  let v122 : BitVec 32 := Scalar.addi v44 v121
  let v119 : BitVec 32 := Scalar.addi v44 v118
  let c1_i32_69 : BitVec 32 := 1#32
  ⟨v122, v119, c1_i32_69⟩
def k0_off700 (i : grid0.Coords) (v17 : BitVec 32) (k0_t1 : Fin k0_t1_loop.trips) (k0_t15 : Fin (k0_t15_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c128_i32_65 : BitVec 32 := 128#32
  let v118 : BitVec 32 := Scalar.subi c128_i32_65 v44
  let c1_i32_67 : BitVec 32 := 1#32
  let v120 : BitVec 32 := Scalar.divsi v118 c1_i32_67
  let v121 : BitVec 32 := Scalar.muli v120 c1_i32_67
  let v122 : BitVec 32 := Scalar.addi v44 v121
  let c1_i32_69 : BitVec 32 := 1#32
  let arg13 : BitVec 32 := Scf.iv v122 c1_i32_69 k0_t15
  let v128 : Index := Scalar.indexCast arg13
  let c0 : Index := 0#32
  ![v128.toNat, 0]
def k0_off701 (i : grid0.Coords) (v17 : BitVec 32) (k0_t1 : Fin k0_t1_loop.trips) (k0_t15 : Fin (k0_t15_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c128_i32_65 : BitVec 32 := 128#32
  let v118 : BitVec 32 := Scalar.subi c128_i32_65 v44
  let c1_i32_67 : BitVec 32 := 1#32
  let v120 : BitVec 32 := Scalar.divsi v118 c1_i32_67
  let v121 : BitVec 32 := Scalar.muli v120 c1_i32_67
  let v122 : BitVec 32 := Scalar.addi v44 v121
  let c1_i32_69 : BitVec 32 := 1#32
  let arg13 : BitVec 32 := Scf.iv v122 c1_i32_69 k0_t15
  let v133 : Index := Scalar.indexCast arg13
  let c16 : Index := 16#32
  ![v133.toNat, 16]
def k0_off702 (i : grid0.Coords) (v17 : BitVec 32) (k0_t1 : Fin k0_t1_loop.trips) (k0_t15 : Fin (k0_t15_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c128_i32_65 : BitVec 32 := 128#32
  let v118 : BitVec 32 := Scalar.subi c128_i32_65 v44
  let c1_i32_67 : BitVec 32 := 1#32
  let v120 : BitVec 32 := Scalar.divsi v118 c1_i32_67
  let v121 : BitVec 32 := Scalar.muli v120 c1_i32_67
  let v122 : BitVec 32 := Scalar.addi v44 v121
  let c1_i32_69 : BitVec 32 := 1#32
  let arg13 : BitVec 32 := Scf.iv v122 c1_i32_69 k0_t15
  let v138 : Index := Scalar.indexCast arg13
  let c32 : Index := 32#32
  ![v138.toNat, 32]
def k0_off703 (i : grid0.Coords) (v17 : BitVec 32) (k0_t1 : Fin k0_t1_loop.trips) (k0_t15 : Fin (k0_t15_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c128_i32_65 : BitVec 32 := 128#32
  let v118 : BitVec 32 := Scalar.subi c128_i32_65 v44
  let c1_i32_67 : BitVec 32 := 1#32
  let v120 : BitVec 32 := Scalar.divsi v118 c1_i32_67
  let v121 : BitVec 32 := Scalar.muli v120 c1_i32_67
  let v122 : BitVec 32 := Scalar.addi v44 v121
  let c1_i32_69 : BitVec 32 := 1#32
  let arg13 : BitVec 32 := Scf.iv v122 c1_i32_69 k0_t15
  let v143 : Index := Scalar.indexCast arg13
  let c48 : Index := 48#32
  ![v143.toNat, 48]
def k0_off704 (i : grid0.Coords) (v17 : BitVec 32) (k0_t1 : Fin k0_t1_loop.trips) (k0_t15 : Fin (k0_t15_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c128_i32_65 : BitVec 32 := 128#32
  let v118 : BitVec 32 := Scalar.subi c128_i32_65 v44
  let c1_i32_67 : BitVec 32 := 1#32
  let v120 : BitVec 32 := Scalar.divsi v118 c1_i32_67
  let v121 : BitVec 32 := Scalar.muli v120 c1_i32_67
  let v122 : BitVec 32 := Scalar.addi v44 v121
  let c1_i32_69 : BitVec 32 := 1#32
  let arg13 : BitVec 32 := Scf.iv v122 c1_i32_69 k0_t15
  let v148 : Index := Scalar.indexCast arg13
  let c64 : Index := 64#32
  ![v148.toNat, 64]
def k0_off705 (i : grid0.Coords) (v17 : BitVec 32) (k0_t1 : Fin k0_t1_loop.trips) (k0_t15 : Fin (k0_t15_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c128_i32_65 : BitVec 32 := 128#32
  let v118 : BitVec 32 := Scalar.subi c128_i32_65 v44
  let c1_i32_67 : BitVec 32 := 1#32
  let v120 : BitVec 32 := Scalar.divsi v118 c1_i32_67
  let v121 : BitVec 32 := Scalar.muli v120 c1_i32_67
  let v122 : BitVec 32 := Scalar.addi v44 v121
  let c1_i32_69 : BitVec 32 := 1#32
  let arg13 : BitVec 32 := Scf.iv v122 c1_i32_69 k0_t15
  let v153 : Index := Scalar.indexCast arg13
  let c80 : Index := 80#32
  ![v153.toNat, 80]
def k0_off706 (i : grid0.Coords) (v17 : BitVec 32) (k0_t1 : Fin k0_t1_loop.trips) (k0_t15 : Fin (k0_t15_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c128_i32_65 : BitVec 32 := 128#32
  let v118 : BitVec 32 := Scalar.subi c128_i32_65 v44
  let c1_i32_67 : BitVec 32 := 1#32
  let v120 : BitVec 32 := Scalar.divsi v118 c1_i32_67
  let v121 : BitVec 32 := Scalar.muli v120 c1_i32_67
  let v122 : BitVec 32 := Scalar.addi v44 v121
  let c1_i32_69 : BitVec 32 := 1#32
  let arg13 : BitVec 32 := Scf.iv v122 c1_i32_69 k0_t15
  let v158 : Index := Scalar.indexCast arg13
  let c96 : Index := 96#32
  ![v158.toNat, 96]
def k0_off707 (i : grid0.Coords) (v17 : BitVec 32) (k0_t1 : Fin k0_t1_loop.trips) (k0_t15 : Fin (k0_t15_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c128_i32_65 : BitVec 32 := 128#32
  let v118 : BitVec 32 := Scalar.subi c128_i32_65 v44
  let c1_i32_67 : BitVec 32 := 1#32
  let v120 : BitVec 32 := Scalar.divsi v118 c1_i32_67
  let v121 : BitVec 32 := Scalar.muli v120 c1_i32_67
  let v122 : BitVec 32 := Scalar.addi v44 v121
  let c1_i32_69 : BitVec 32 := 1#32
  let arg13 : BitVec 32 := Scf.iv v122 c1_i32_69 k0_t15
  let v163 : Index := Scalar.indexCast arg13
  let c112 : Index := 112#32
  ![v163.toNat, 112]
def k0_off708 (i : grid0.Coords) (v17 : BitVec 32) (k0_t1 : Fin k0_t1_loop.trips) (k0_t15 : Fin (k0_t15_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c128_i32_65 : BitVec 32 := 128#32
  let v118 : BitVec 32 := Scalar.subi c128_i32_65 v44
  let c1_i32_67 : BitVec 32 := 1#32
  let v120 : BitVec 32 := Scalar.divsi v118 c1_i32_67
  let v121 : BitVec 32 := Scalar.muli v120 c1_i32_67
  let v122 : BitVec 32 := Scalar.addi v44 v121
  let c1_i32_69 : BitVec 32 := 1#32
  let arg13 : BitVec 32 := Scf.iv v122 c1_i32_69 k0_t15
  let v168 : Index := Scalar.indexCast arg13
  let c128 : Index := 128#32
  ![v168.toNat, 128]
def k0_off709 (i : grid0.Coords) (v17 : BitVec 32) (k0_t1 : Fin k0_t1_loop.trips) (k0_t15 : Fin (k0_t15_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c128_i32_65 : BitVec 32 := 128#32
  let v118 : BitVec 32 := Scalar.subi c128_i32_65 v44
  let c1_i32_67 : BitVec 32 := 1#32
  let v120 : BitVec 32 := Scalar.divsi v118 c1_i32_67
  let v121 : BitVec 32 := Scalar.muli v120 c1_i32_67
  let v122 : BitVec 32 := Scalar.addi v44 v121
  let c1_i32_69 : BitVec 32 := 1#32
  let arg13 : BitVec 32 := Scf.iv v122 c1_i32_69 k0_t15
  let v173 : Index := Scalar.indexCast arg13
  let c144 : Index := 144#32
  ![v173.toNat, 144]
def k0_off710 (i : grid0.Coords) (v17 : BitVec 32) (k0_t1 : Fin k0_t1_loop.trips) (k0_t15 : Fin (k0_t15_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c128_i32_65 : BitVec 32 := 128#32
  let v118 : BitVec 32 := Scalar.subi c128_i32_65 v44
  let c1_i32_67 : BitVec 32 := 1#32
  let v120 : BitVec 32 := Scalar.divsi v118 c1_i32_67
  let v121 : BitVec 32 := Scalar.muli v120 c1_i32_67
  let v122 : BitVec 32 := Scalar.addi v44 v121
  let c1_i32_69 : BitVec 32 := 1#32
  let arg13 : BitVec 32 := Scf.iv v122 c1_i32_69 k0_t15
  let v178 : Index := Scalar.indexCast arg13
  let c160 : Index := 160#32
  ![v178.toNat, 160]
def k0_off711 (i : grid0.Coords) (v17 : BitVec 32) (k0_t1 : Fin k0_t1_loop.trips) (k0_t15 : Fin (k0_t15_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c128_i32_65 : BitVec 32 := 128#32
  let v118 : BitVec 32 := Scalar.subi c128_i32_65 v44
  let c1_i32_67 : BitVec 32 := 1#32
  let v120 : BitVec 32 := Scalar.divsi v118 c1_i32_67
  let v121 : BitVec 32 := Scalar.muli v120 c1_i32_67
  let v122 : BitVec 32 := Scalar.addi v44 v121
  let c1_i32_69 : BitVec 32 := 1#32
  let arg13 : BitVec 32 := Scf.iv v122 c1_i32_69 k0_t15
  let v183 : Index := Scalar.indexCast arg13
  let c176 : Index := 176#32
  ![v183.toNat, 176]
def k0_off712 (i : grid0.Coords) (v17 : BitVec 32) (k0_t1 : Fin k0_t1_loop.trips) (k0_t15 : Fin (k0_t15_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c128_i32_65 : BitVec 32 := 128#32
  let v118 : BitVec 32 := Scalar.subi c128_i32_65 v44
  let c1_i32_67 : BitVec 32 := 1#32
  let v120 : BitVec 32 := Scalar.divsi v118 c1_i32_67
  let v121 : BitVec 32 := Scalar.muli v120 c1_i32_67
  let v122 : BitVec 32 := Scalar.addi v44 v121
  let c1_i32_69 : BitVec 32 := 1#32
  let arg13 : BitVec 32 := Scf.iv v122 c1_i32_69 k0_t15
  let v188 : Index := Scalar.indexCast arg13
  let c192 : Index := 192#32
  ![v188.toNat, 192]
def k0_off713 (i : grid0.Coords) (v17 : BitVec 32) (k0_t1 : Fin k0_t1_loop.trips) (k0_t15 : Fin (k0_t15_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c128_i32_65 : BitVec 32 := 128#32
  let v118 : BitVec 32 := Scalar.subi c128_i32_65 v44
  let c1_i32_67 : BitVec 32 := 1#32
  let v120 : BitVec 32 := Scalar.divsi v118 c1_i32_67
  let v121 : BitVec 32 := Scalar.muli v120 c1_i32_67
  let v122 : BitVec 32 := Scalar.addi v44 v121
  let c1_i32_69 : BitVec 32 := 1#32
  let arg13 : BitVec 32 := Scf.iv v122 c1_i32_69 k0_t15
  let v193 : Index := Scalar.indexCast arg13
  let c208 : Index := 208#32
  ![v193.toNat, 208]
def k0_off714 (i : grid0.Coords) (v17 : BitVec 32) (k0_t1 : Fin k0_t1_loop.trips) (k0_t15 : Fin (k0_t15_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c128_i32_65 : BitVec 32 := 128#32
  let v118 : BitVec 32 := Scalar.subi c128_i32_65 v44
  let c1_i32_67 : BitVec 32 := 1#32
  let v120 : BitVec 32 := Scalar.divsi v118 c1_i32_67
  let v121 : BitVec 32 := Scalar.muli v120 c1_i32_67
  let v122 : BitVec 32 := Scalar.addi v44 v121
  let c1_i32_69 : BitVec 32 := 1#32
  let arg13 : BitVec 32 := Scf.iv v122 c1_i32_69 k0_t15
  let v198 : Index := Scalar.indexCast arg13
  let c224 : Index := 224#32
  ![v198.toNat, 224]
def k0_off715 (i : grid0.Coords) (v17 : BitVec 32) (k0_t1 : Fin k0_t1_loop.trips) (k0_t15 : Fin (k0_t15_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c128_i32_65 : BitVec 32 := 128#32
  let v118 : BitVec 32 := Scalar.subi c128_i32_65 v44
  let c1_i32_67 : BitVec 32 := 1#32
  let v120 : BitVec 32 := Scalar.divsi v118 c1_i32_67
  let v121 : BitVec 32 := Scalar.muli v120 c1_i32_67
  let v122 : BitVec 32 := Scalar.addi v44 v121
  let c1_i32_69 : BitVec 32 := 1#32
  let arg13 : BitVec 32 := Scf.iv v122 c1_i32_69 k0_t15
  let v203 : Index := Scalar.indexCast arg13
  let c240 : Index := 240#32
  ![v203.toNat, 240]
def k0_off716 (i : grid0.Coords) (v17 : BitVec 32) (k0_t1 : Fin k0_t1_loop.trips) (k0_t15 : Fin (k0_t15_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c128_i32_65 : BitVec 32 := 128#32
  let v118 : BitVec 32 := Scalar.subi c128_i32_65 v44
  let c1_i32_67 : BitVec 32 := 1#32
  let v120 : BitVec 32 := Scalar.divsi v118 c1_i32_67
  let v121 : BitVec 32 := Scalar.muli v120 c1_i32_67
  let v122 : BitVec 32 := Scalar.addi v44 v121
  let c1_i32_69 : BitVec 32 := 1#32
  let arg13 : BitVec 32 := Scf.iv v122 c1_i32_69 k0_t15
  let v208 : Index := Scalar.indexCast arg13
  let c256 : Index := 256#32
  ![v208.toNat, 256]
def k0_off717 (i : grid0.Coords) (v17 : BitVec 32) (k0_t1 : Fin k0_t1_loop.trips) (k0_t15 : Fin (k0_t15_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c128_i32_65 : BitVec 32 := 128#32
  let v118 : BitVec 32 := Scalar.subi c128_i32_65 v44
  let c1_i32_67 : BitVec 32 := 1#32
  let v120 : BitVec 32 := Scalar.divsi v118 c1_i32_67
  let v121 : BitVec 32 := Scalar.muli v120 c1_i32_67
  let v122 : BitVec 32 := Scalar.addi v44 v121
  let c1_i32_69 : BitVec 32 := 1#32
  let arg13 : BitVec 32 := Scf.iv v122 c1_i32_69 k0_t15
  let v213 : Index := Scalar.indexCast arg13
  let c272 : Index := 272#32
  ![v213.toNat, 272]
def k0_off718 (i : grid0.Coords) (v17 : BitVec 32) (k0_t1 : Fin k0_t1_loop.trips) (k0_t15 : Fin (k0_t15_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c128_i32_65 : BitVec 32 := 128#32
  let v118 : BitVec 32 := Scalar.subi c128_i32_65 v44
  let c1_i32_67 : BitVec 32 := 1#32
  let v120 : BitVec 32 := Scalar.divsi v118 c1_i32_67
  let v121 : BitVec 32 := Scalar.muli v120 c1_i32_67
  let v122 : BitVec 32 := Scalar.addi v44 v121
  let c1_i32_69 : BitVec 32 := 1#32
  let arg13 : BitVec 32 := Scf.iv v122 c1_i32_69 k0_t15
  let v218 : Index := Scalar.indexCast arg13
  let c288 : Index := 288#32
  ![v218.toNat, 288]
def k0_off719 (i : grid0.Coords) (v17 : BitVec 32) (k0_t1 : Fin k0_t1_loop.trips) (k0_t15 : Fin (k0_t15_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c128_i32_65 : BitVec 32 := 128#32
  let v118 : BitVec 32 := Scalar.subi c128_i32_65 v44
  let c1_i32_67 : BitVec 32 := 1#32
  let v120 : BitVec 32 := Scalar.divsi v118 c1_i32_67
  let v121 : BitVec 32 := Scalar.muli v120 c1_i32_67
  let v122 : BitVec 32 := Scalar.addi v44 v121
  let c1_i32_69 : BitVec 32 := 1#32
  let arg13 : BitVec 32 := Scf.iv v122 c1_i32_69 k0_t15
  let v223 : Index := Scalar.indexCast arg13
  let c304 : Index := 304#32
  ![v223.toNat, 304]
def k0_off720 (i : grid0.Coords) (v17 : BitVec 32) (k0_t1 : Fin k0_t1_loop.trips) (k0_t15 : Fin (k0_t15_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c128_i32_65 : BitVec 32 := 128#32
  let v118 : BitVec 32 := Scalar.subi c128_i32_65 v44
  let c1_i32_67 : BitVec 32 := 1#32
  let v120 : BitVec 32 := Scalar.divsi v118 c1_i32_67
  let v121 : BitVec 32 := Scalar.muli v120 c1_i32_67
  let v122 : BitVec 32 := Scalar.addi v44 v121
  let c1_i32_69 : BitVec 32 := 1#32
  let arg13 : BitVec 32 := Scf.iv v122 c1_i32_69 k0_t15
  let v228 : Index := Scalar.indexCast arg13
  let c320 : Index := 320#32
  ![v228.toNat, 320]
def k0_off721 (i : grid0.Coords) (v17 : BitVec 32) (k0_t1 : Fin k0_t1_loop.trips) (k0_t15 : Fin (k0_t15_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c128_i32_65 : BitVec 32 := 128#32
  let v118 : BitVec 32 := Scalar.subi c128_i32_65 v44
  let c1_i32_67 : BitVec 32 := 1#32
  let v120 : BitVec 32 := Scalar.divsi v118 c1_i32_67
  let v121 : BitVec 32 := Scalar.muli v120 c1_i32_67
  let v122 : BitVec 32 := Scalar.addi v44 v121
  let c1_i32_69 : BitVec 32 := 1#32
  let arg13 : BitVec 32 := Scf.iv v122 c1_i32_69 k0_t15
  let v233 : Index := Scalar.indexCast arg13
  let c336 : Index := 336#32
  ![v233.toNat, 336]
def k0_off722 (i : grid0.Coords) (v17 : BitVec 32) (k0_t1 : Fin k0_t1_loop.trips) (k0_t15 : Fin (k0_t15_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c128_i32_65 : BitVec 32 := 128#32
  let v118 : BitVec 32 := Scalar.subi c128_i32_65 v44
  let c1_i32_67 : BitVec 32 := 1#32
  let v120 : BitVec 32 := Scalar.divsi v118 c1_i32_67
  let v121 : BitVec 32 := Scalar.muli v120 c1_i32_67
  let v122 : BitVec 32 := Scalar.addi v44 v121
  let c1_i32_69 : BitVec 32 := 1#32
  let arg13 : BitVec 32 := Scf.iv v122 c1_i32_69 k0_t15
  let v238 : Index := Scalar.indexCast arg13
  let c352 : Index := 352#32
  ![v238.toNat, 352]
def k0_off723 (i : grid0.Coords) (v17 : BitVec 32) (k0_t1 : Fin k0_t1_loop.trips) (k0_t15 : Fin (k0_t15_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c128_i32_65 : BitVec 32 := 128#32
  let v118 : BitVec 32 := Scalar.subi c128_i32_65 v44
  let c1_i32_67 : BitVec 32 := 1#32
  let v120 : BitVec 32 := Scalar.divsi v118 c1_i32_67
  let v121 : BitVec 32 := Scalar.muli v120 c1_i32_67
  let v122 : BitVec 32 := Scalar.addi v44 v121
  let c1_i32_69 : BitVec 32 := 1#32
  let arg13 : BitVec 32 := Scf.iv v122 c1_i32_69 k0_t15
  let v243 : Index := Scalar.indexCast arg13
  let c368 : Index := 368#32
  ![v243.toNat, 368]
def k0_off724 (i : grid0.Coords) (v17 : BitVec 32) (k0_t1 : Fin k0_t1_loop.trips) (k0_t15 : Fin (k0_t15_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c128_i32_65 : BitVec 32 := 128#32
  let v118 : BitVec 32 := Scalar.subi c128_i32_65 v44
  let c1_i32_67 : BitVec 32 := 1#32
  let v120 : BitVec 32 := Scalar.divsi v118 c1_i32_67
  let v121 : BitVec 32 := Scalar.muli v120 c1_i32_67
  let v122 : BitVec 32 := Scalar.addi v44 v121
  let c1_i32_69 : BitVec 32 := 1#32
  let arg13 : BitVec 32 := Scf.iv v122 c1_i32_69 k0_t15
  let v248 : Index := Scalar.indexCast arg13
  let c384 : Index := 384#32
  ![v248.toNat, 384]
def k0_off725 (i : grid0.Coords) (v17 : BitVec 32) (k0_t1 : Fin k0_t1_loop.trips) (k0_t15 : Fin (k0_t15_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c128_i32_65 : BitVec 32 := 128#32
  let v118 : BitVec 32 := Scalar.subi c128_i32_65 v44
  let c1_i32_67 : BitVec 32 := 1#32
  let v120 : BitVec 32 := Scalar.divsi v118 c1_i32_67
  let v121 : BitVec 32 := Scalar.muli v120 c1_i32_67
  let v122 : BitVec 32 := Scalar.addi v44 v121
  let c1_i32_69 : BitVec 32 := 1#32
  let arg13 : BitVec 32 := Scf.iv v122 c1_i32_69 k0_t15
  let v253 : Index := Scalar.indexCast arg13
  let c400 : Index := 400#32
  ![v253.toNat, 400]
def k0_off726 (i : grid0.Coords) (v17 : BitVec 32) (k0_t1 : Fin k0_t1_loop.trips) (k0_t15 : Fin (k0_t15_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c128_i32_65 : BitVec 32 := 128#32
  let v118 : BitVec 32 := Scalar.subi c128_i32_65 v44
  let c1_i32_67 : BitVec 32 := 1#32
  let v120 : BitVec 32 := Scalar.divsi v118 c1_i32_67
  let v121 : BitVec 32 := Scalar.muli v120 c1_i32_67
  let v122 : BitVec 32 := Scalar.addi v44 v121
  let c1_i32_69 : BitVec 32 := 1#32
  let arg13 : BitVec 32 := Scf.iv v122 c1_i32_69 k0_t15
  let v258 : Index := Scalar.indexCast arg13
  let c416 : Index := 416#32
  ![v258.toNat, 416]
def k0_off727 (i : grid0.Coords) (v17 : BitVec 32) (k0_t1 : Fin k0_t1_loop.trips) (k0_t15 : Fin (k0_t15_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c128_i32_65 : BitVec 32 := 128#32
  let v118 : BitVec 32 := Scalar.subi c128_i32_65 v44
  let c1_i32_67 : BitVec 32 := 1#32
  let v120 : BitVec 32 := Scalar.divsi v118 c1_i32_67
  let v121 : BitVec 32 := Scalar.muli v120 c1_i32_67
  let v122 : BitVec 32 := Scalar.addi v44 v121
  let c1_i32_69 : BitVec 32 := 1#32
  let arg13 : BitVec 32 := Scf.iv v122 c1_i32_69 k0_t15
  let v263 : Index := Scalar.indexCast arg13
  let c432 : Index := 432#32
  ![v263.toNat, 432]
def k0_off728 (i : grid0.Coords) (v17 : BitVec 32) (k0_t1 : Fin k0_t1_loop.trips) (k0_t15 : Fin (k0_t15_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c128_i32_65 : BitVec 32 := 128#32
  let v118 : BitVec 32 := Scalar.subi c128_i32_65 v44
  let c1_i32_67 : BitVec 32 := 1#32
  let v120 : BitVec 32 := Scalar.divsi v118 c1_i32_67
  let v121 : BitVec 32 := Scalar.muli v120 c1_i32_67
  let v122 : BitVec 32 := Scalar.addi v44 v121
  let c1_i32_69 : BitVec 32 := 1#32
  let arg13 : BitVec 32 := Scf.iv v122 c1_i32_69 k0_t15
  let v268 : Index := Scalar.indexCast arg13
  let c448 : Index := 448#32
  ![v268.toNat, 448]
def k0_off729 (i : grid0.Coords) (v17 : BitVec 32) (k0_t1 : Fin k0_t1_loop.trips) (k0_t15 : Fin (k0_t15_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c128_i32_65 : BitVec 32 := 128#32
  let v118 : BitVec 32 := Scalar.subi c128_i32_65 v44
  let c1_i32_67 : BitVec 32 := 1#32
  let v120 : BitVec 32 := Scalar.divsi v118 c1_i32_67
  let v121 : BitVec 32 := Scalar.muli v120 c1_i32_67
  let v122 : BitVec 32 := Scalar.addi v44 v121
  let c1_i32_69 : BitVec 32 := 1#32
  let arg13 : BitVec 32 := Scf.iv v122 c1_i32_69 k0_t15
  let v273 : Index := Scalar.indexCast arg13
  let c464 : Index := 464#32
  ![v273.toNat, 464]
def k0_off730 (i : grid0.Coords) (v17 : BitVec 32) (k0_t1 : Fin k0_t1_loop.trips) (k0_t15 : Fin (k0_t15_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c128_i32_65 : BitVec 32 := 128#32
  let v118 : BitVec 32 := Scalar.subi c128_i32_65 v44
  let c1_i32_67 : BitVec 32 := 1#32
  let v120 : BitVec 32 := Scalar.divsi v118 c1_i32_67
  let v121 : BitVec 32 := Scalar.muli v120 c1_i32_67
  let v122 : BitVec 32 := Scalar.addi v44 v121
  let c1_i32_69 : BitVec 32 := 1#32
  let arg13 : BitVec 32 := Scf.iv v122 c1_i32_69 k0_t15
  let v278 : Index := Scalar.indexCast arg13
  let c480 : Index := 480#32
  ![v278.toNat, 480]
def k0_off731 (i : grid0.Coords) (v17 : BitVec 32) (k0_t1 : Fin k0_t1_loop.trips) (k0_t15 : Fin (k0_t15_loop i v17 k0_t1).trips) : Fin 2 → Nat :=
  let c128_i32_16 : BitVec 32 := 128#32
  let c0_i32_15 : BitVec 32 := 0#32
  let c1_i32_14 : BitVec 32 := 1#32
  let v41 : BitVec 32 := Scalar.addi v17 c1_i32_14
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v42 : BitVec 32 := Scalar.subi v41 v40
  let v43 : BitVec 32 := Scalar.maxsi c0_i32_15 v42
  let v44 : BitVec 32 := Scalar.minsi c128_i32_16 v43
  let c128_i32_65 : BitVec 32 := 128#32
  let v118 : BitVec 32 := Scalar.subi c128_i32_65 v44
  let c1_i32_67 : BitVec 32 := 1#32
  let v120 : BitVec 32 := Scalar.divsi v118 c1_i32_67
  let v121 : BitVec 32 := Scalar.muli v120 c1_i32_67
  let v122 : BitVec 32 := Scalar.addi v44 v121
  let c1_i32_69 : BitVec 32 := 1#32
  let arg13 : BitVec 32 := Scf.iv v122 c1_i32_69 k0_t15
  let v283 : Index := Scalar.indexCast arg13
  let c496 : Index := 496#32
  ![v283.toNat, 496]

def k0_chk8_0 (i : grid0.Coords) (v17 : BitVec 32) : Prop :=
  (∀ k0_t1 : Fin k0_t1_loop.trips, ∀ (k0_h3 : k0_cond3 i v17 k0_t1 = 1#1), (k0_t12_loop i v17 k0_t1).OK) ∧
  (∀ (k0_t1 : Fin k0_t1_loop.trips) (k0_t12 : Fin (k0_t12_loop i v17 k0_t1).trips), ∀ (k0_h3 : k0_cond3 i v17 k0_t1 = 1#1), ∀ a, (k0_off602 i v17 k0_t1 k0_t12) a + S1x16.size a ≤ S128x16.size a) ∧
  (∀ (k0_t1 : Fin k0_t1_loop.trips) (k0_t12 : Fin (k0_t12_loop i v17 k0_t1).trips), ∀ (k0_h3 : k0_cond3 i v17 k0_t1 = 1#1), ∀ a, (k0_off603 i v17 k0_t1 k0_t12) a + S1x16.size a ≤ S128x512.size a) ∧
  (∀ (k0_t1 : Fin k0_t1_loop.trips) (k0_t12 : Fin (k0_t12_loop i v17 k0_t1).trips), ∀ (k0_h3 : k0_cond3 i v17 k0_t1 = 1#1), ∀ a, (k0_off604 i v17 k0_t1 k0_t12) a + S1x16.size a ≤ S128x512.size a) ∧
  (∀ (k0_t1 : Fin k0_t1_loop.trips) (k0_t12 : Fin (k0_t12_loop i v17 k0_t1).trips), ∀ (k0_h3 : k0_cond3 i v17 k0_t1 = 1#1), ∀ a, (k0_off605 i v17 k0_t1 k0_t12) a + S1x16.size a ≤ S128x512.size a) ∧
  (∀ (k0_t1 : Fin k0_t1_loop.trips) (k0_t12 : Fin (k0_t12_loop i v17 k0_t1).trips), ∀ (k0_h3 : k0_cond3 i v17 k0_t1 = 1#1), ∀ a, (k0_off606 i v17 k0_t1 k0_t12) a + S1x16.size a ≤ S128x512.size a) ∧
  (∀ (k0_t1 : Fin k0_t1_loop.trips) (k0_t12 : Fin (k0_t12_loop i v17 k0_t1).trips), ∀ (k0_h3 : k0_cond3 i v17 k0_t1 = 1#1), ∀ a, (k0_off607 i v17 k0_t1 k0_t12) a + S1x16.size a ≤ S128x512.size a) ∧
  (∀ (k0_t1 : Fin k0_t1_loop.trips) (k0_t12 : Fin (k0_t12_loop i v17 k0_t1).trips), ∀ (k0_h3 : k0_cond3 i v17 k0_t1 = 1#1), ∀ a, (k0_off608 i v17 k0_t1 k0_t12) a + S1x16.size a ≤ S128x512.size a) ∧
  (∀ (k0_t1 : Fin k0_t1_loop.trips) (k0_t12 : Fin (k0_t12_loop i v17 k0_t1).trips), ∀ (k0_h3 : k0_cond3 i v17 k0_t1 = 1#1), ∀ a, (k0_off609 i v17 k0_t1 k0_t12) a + S1x16.size a ≤ S128x512.size a) ∧
  (∀ (k0_t1 : Fin k0_t1_loop.trips) (k0_t12 : Fin (k0_t12_loop i v17 k0_t1).trips), ∀ (k0_h3 : k0_cond3 i v17 k0_t1 = 1#1), ∀ a, (k0_off610 i v17 k0_t1 k0_t12) a + S1x16.size a ≤ S128x512.size a) ∧
  (∀ (k0_t1 : Fin k0_t1_loop.trips) (k0_t12 : Fin (k0_t12_loop i v17 k0_t1).trips), ∀ (k0_h3 : k0_cond3 i v17 k0_t1 = 1#1), ∀ a, (k0_off611 i v17 k0_t1 k0_t12) a + S1x16.size a ≤ S128x512.size a) ∧
  (∀ (k0_t1 : Fin k0_t1_loop.trips) (k0_t12 : Fin (k0_t12_loop i v17 k0_t1).trips), ∀ (k0_h3 : k0_cond3 i v17 k0_t1 = 1#1), ∀ a, (k0_off612 i v17 k0_t1 k0_t12) a + S1x16.size a ≤ S128x512.size a) ∧
  (∀ (k0_t1 : Fin k0_t1_loop.trips) (k0_t12 : Fin (k0_t12_loop i v17 k0_t1).trips), ∀ (k0_h3 : k0_cond3 i v17 k0_t1 = 1#1), ∀ a, (k0_off613 i v17 k0_t1 k0_t12) a + S1x16.size a ≤ S128x512.size a) ∧
  (∀ (k0_t1 : Fin k0_t1_loop.trips) (k0_t12 : Fin (k0_t12_loop i v17 k0_t1).trips), ∀ (k0_h3 : k0_cond3 i v17 k0_t1 = 1#1), ∀ a, (k0_off614 i v17 k0_t1 k0_t12) a + S1x16.size a ≤ S128x512.size a) ∧
  (∀ (k0_t1 : Fin k0_t1_loop.trips) (k0_t12 : Fin (k0_t12_loop i v17 k0_t1).trips), ∀ (k0_h3 : k0_cond3 i v17 k0_t1 = 1#1), ∀ a, (k0_off615 i v17 k0_t1 k0_t12) a + S1x16.size a ≤ S128x512.size a) ∧
  (∀ (k0_t1 : Fin k0_t1_loop.trips) (k0_t12 : Fin (k0_t12_loop i v17 k0_t1).trips), ∀ (k0_h3 : k0_cond3 i v17 k0_t1 = 1#1), ∀ a, (k0_off616 i v17 k0_t1 k0_t12) a + S1x16.size a ≤ S128x512.size a) ∧
  (∀ (k0_t1 : Fin k0_t1_loop.trips) (k0_t12 : Fin (k0_t12_loop i v17 k0_t1).trips), ∀ (k0_h3 : k0_cond3 i v17 k0_t1 = 1#1), ∀ a, (k0_off617 i v17 k0_t1 k0_t12) a + S1x16.size a ≤ S128x512.size a) ∧
  (∀ (k0_t1 : Fin k0_t1_loop.trips) (k0_t12 : Fin (k0_t12_loop i v17 k0_t1).trips), ∀ (k0_h3 : k0_cond3 i v17 k0_t1 = 1#1), ∀ a, (k0_off618 i v17 k0_t1 k0_t12) a + S1x16.size a ≤ S128x512.size a) ∧
  (∀ (k0_t1 : Fin k0_t1_loop.trips) (k0_t12 : Fin (k0_t12_loop i v17 k0_t1).trips), ∀ (k0_h3 : k0_cond3 i v17 k0_t1 = 1#1), ∀ a, (k0_off619 i v17 k0_t1 k0_t12) a + S1x16.size a ≤ S128x512.size a) ∧
  (∀ (k0_t1 : Fin k0_t1_loop.trips) (k0_t12 : Fin (k0_t12_loop i v17 k0_t1).trips), ∀ (k0_h3 : k0_cond3 i v17 k0_t1 = 1#1), ∀ a, (k0_off620 i v17 k0_t1 k0_t12) a + S1x16.size a ≤ S128x512.size a) ∧
  (∀ (k0_t1 : Fin k0_t1_loop.trips) (k0_t12 : Fin (k0_t12_loop i v17 k0_t1).trips), ∀ (k0_h3 : k0_cond3 i v17 k0_t1 = 1#1), ∀ a, (k0_off621 i v17 k0_t1 k0_t12) a + S1x16.size a ≤ S128x512.size a) ∧
  (∀ (k0_t1 : Fin k0_t1_loop.trips) (k0_t12 : Fin (k0_t12_loop i v17 k0_t1).trips), ∀ (k0_h3 : k0_cond3 i v17 k0_t1 = 1#1), ∀ a, (k0_off622 i v17 k0_t1 k0_t12) a + S1x16.size a ≤ S128x512.size a) ∧
  (∀ (k0_t1 : Fin k0_t1_loop.trips) (k0_t12 : Fin (k0_t12_loop i v17 k0_t1).trips), ∀ (k0_h3 : k0_cond3 i v17 k0_t1 = 1#1), ∀ a, (k0_off623 i v17 k0_t1 k0_t12) a + S1x16.size a ≤ S128x512.size a) ∧
  (∀ (k0_t1 : Fin k0_t1_loop.trips) (k0_t12 : Fin (k0_t12_loop i v17 k0_t1).trips), ∀ (k0_h3 : k0_cond3 i v17 k0_t1 = 1#1), ∀ a, (k0_off624 i v17 k0_t1 k0_t12) a + S1x16.size a ≤ S128x512.size a) ∧
  (∀ (k0_t1 : Fin k0_t1_loop.trips) (k0_t12 : Fin (k0_t12_loop i v17 k0_t1).trips), ∀ (k0_h3 : k0_cond3 i v17 k0_t1 = 1#1), ∀ a, (k0_off625 i v17 k0_t1 k0_t12) a + S1x16.size a ≤ S128x512.size a) ∧
  (∀ (k0_t1 : Fin k0_t1_loop.trips) (k0_t12 : Fin (k0_t12_loop i v17 k0_t1).trips), ∀ (k0_h3 : k0_cond3 i v17 k0_t1 = 1#1), ∀ a, (k0_off626 i v17 k0_t1 k0_t12) a + S1x16.size a ≤ S128x512.size a) ∧
  (∀ (k0_t1 : Fin k0_t1_loop.trips) (k0_t12 : Fin (k0_t12_loop i v17 k0_t1).trips), ∀ (k0_h3 : k0_cond3 i v17 k0_t1 = 1#1), ∀ a, (k0_off627 i v17 k0_t1 k0_t12) a + S1x16.size a ≤ S128x512.size a) ∧
  (∀ (k0_t1 : Fin k0_t1_loop.trips) (k0_t12 : Fin (k0_t12_loop i v17 k0_t1).trips), ∀ (k0_h3 : k0_cond3 i v17 k0_t1 = 1#1), ∀ a, (k0_off628 i v17 k0_t1 k0_t12) a + S1x16.size a ≤ S128x512.size a) ∧
  (∀ (k0_t1 : Fin k0_t1_loop.trips) (k0_t12 : Fin (k0_t12_loop i v17 k0_t1).trips), ∀ (k0_h3 : k0_cond3 i v17 k0_t1 = 1#1), ∀ a, (k0_off629 i v17 k0_t1 k0_t12) a + S1x16.size a ≤ S128x512.size a) ∧
  (∀ (k0_t1 : Fin k0_t1_loop.trips) (k0_t12 : Fin (k0_t12_loop i v17 k0_t1).trips), ∀ (k0_h3 : k0_cond3 i v17 k0_t1 = 1#1), ∀ a, (k0_off630 i v17 k0_t1 k0_t12) a + S1x16.size a ≤ S128x512.size a) ∧
  (∀ (k0_t1 : Fin k0_t1_loop.trips) (k0_t12 : Fin (k0_t12_loop i v17 k0_t1).trips), ∀ (k0_h3 : k0_cond3 i v17 k0_t1 = 1#1), ∀ a, (k0_off631 i v17 k0_t1 k0_t12) a + S1x16.size a ≤ S128x512.size a) ∧
  (∀ (k0_t1 : Fin k0_t1_loop.trips) (k0_t12 : Fin (k0_t12_loop i v17 k0_t1).trips), ∀ (k0_h3 : k0_cond3 i v17 k0_t1 = 1#1), ∀ a, (k0_off632 i v17 k0_t1 k0_t12) a + S1x16.size a ≤ S128x512.size a)
def k0_chk8_1 (i : grid0.Coords) (v17 : BitVec 32) : Prop :=
  (∀ (k0_t1 : Fin k0_t1_loop.trips) (k0_t12 : Fin (k0_t12_loop i v17 k0_t1).trips), ∀ (k0_h3 : k0_cond3 i v17 k0_t1 = 1#1), ∀ a, (k0_off633 i v17 k0_t1 k0_t12) a + S1x16.size a ≤ S128x512.size a) ∧
  (∀ (k0_t1 : Fin k0_t1_loop.trips) (k0_t12 : Fin (k0_t12_loop i v17 k0_t1).trips), ∀ (k0_h3 : k0_cond3 i v17 k0_t1 = 1#1), ∀ a, (k0_off634 i v17 k0_t1 k0_t12) a + S1x16.size a ≤ S128x512.size a) ∧
  (∀ k0_t1 : Fin k0_t1_loop.trips, ∀ (k0_h3 : k0_cond3 i v17 k0_t1 = 1#1), (k0_t13_loop i v17 k0_t1).OK) ∧
  (∀ (k0_t1 : Fin k0_t1_loop.trips) (k0_t13 : Fin (k0_t13_loop i v17 k0_t1).trips), ∀ (k0_h3 : k0_cond3 i v17 k0_t1 = 1#1), ∀ a, (k0_off635 i v17 k0_t1 k0_t13) a + S1x16.size a ≤ S128x16.size a) ∧
  (∀ (k0_t1 : Fin k0_t1_loop.trips) (k0_t13 : Fin (k0_t13_loop i v17 k0_t1).trips), ∀ (k0_h3 : k0_cond3 i v17 k0_t1 = 1#1), ∀ a, (k0_off636 i v17 k0_t1 k0_t13) a + S1x16.size a ≤ S128x512.size a) ∧
  (∀ (k0_t1 : Fin k0_t1_loop.trips) (k0_t13 : Fin (k0_t13_loop i v17 k0_t1).trips), ∀ (k0_h3 : k0_cond3 i v17 k0_t1 = 1#1), ∀ a, (k0_off637 i v17 k0_t1 k0_t13) a + S1x16.size a ≤ S128x512.size a) ∧
  (∀ (k0_t1 : Fin k0_t1_loop.trips) (k0_t13 : Fin (k0_t13_loop i v17 k0_t1).trips), ∀ (k0_h3 : k0_cond3 i v17 k0_t1 = 1#1), ∀ a, (k0_off638 i v17 k0_t1 k0_t13) a + S1x16.size a ≤ S128x512.size a) ∧
  (∀ (k0_t1 : Fin k0_t1_loop.trips) (k0_t13 : Fin (k0_t13_loop i v17 k0_t1).trips), ∀ (k0_h3 : k0_cond3 i v17 k0_t1 = 1#1), ∀ a, (k0_off639 i v17 k0_t1 k0_t13) a + S1x16.size a ≤ S128x512.size a) ∧
  (∀ (k0_t1 : Fin k0_t1_loop.trips) (k0_t13 : Fin (k0_t13_loop i v17 k0_t1).trips), ∀ (k0_h3 : k0_cond3 i v17 k0_t1 = 1#1), ∀ a, (k0_off640 i v17 k0_t1 k0_t13) a + S1x16.size a ≤ S128x512.size a) ∧
  (∀ (k0_t1 : Fin k0_t1_loop.trips) (k0_t13 : Fin (k0_t13_loop i v17 k0_t1).trips), ∀ (k0_h3 : k0_cond3 i v17 k0_t1 = 1#1), ∀ a, (k0_off641 i v17 k0_t1 k0_t13) a + S1x16.size a ≤ S128x512.size a) ∧
  (∀ (k0_t1 : Fin k0_t1_loop.trips) (k0_t13 : Fin (k0_t13_loop i v17 k0_t1).trips), ∀ (k0_h3 : k0_cond3 i v17 k0_t1 = 1#1), ∀ a, (k0_off642 i v17 k0_t1 k0_t13) a + S1x16.size a ≤ S128x512.size a) ∧
  (∀ (k0_t1 : Fin k0_t1_loop.trips) (k0_t13 : Fin (k0_t13_loop i v17 k0_t1).trips), ∀ (k0_h3 : k0_cond3 i v17 k0_t1 = 1#1), ∀ a, (k0_off643 i v17 k0_t1 k0_t13) a + S1x16.size a ≤ S128x512.size a) ∧
  (∀ (k0_t1 : Fin k0_t1_loop.trips) (k0_t13 : Fin (k0_t13_loop i v17 k0_t1).trips), ∀ (k0_h3 : k0_cond3 i v17 k0_t1 = 1#1), ∀ a, (k0_off644 i v17 k0_t1 k0_t13) a + S1x16.size a ≤ S128x512.size a) ∧
  (∀ (k0_t1 : Fin k0_t1_loop.trips) (k0_t13 : Fin (k0_t13_loop i v17 k0_t1).trips), ∀ (k0_h3 : k0_cond3 i v17 k0_t1 = 1#1), ∀ a, (k0_off645 i v17 k0_t1 k0_t13) a + S1x16.size a ≤ S128x512.size a) ∧
  (∀ (k0_t1 : Fin k0_t1_loop.trips) (k0_t13 : Fin (k0_t13_loop i v17 k0_t1).trips), ∀ (k0_h3 : k0_cond3 i v17 k0_t1 = 1#1), ∀ a, (k0_off646 i v17 k0_t1 k0_t13) a + S1x16.size a ≤ S128x512.size a) ∧
  (∀ (k0_t1 : Fin k0_t1_loop.trips) (k0_t13 : Fin (k0_t13_loop i v17 k0_t1).trips), ∀ (k0_h3 : k0_cond3 i v17 k0_t1 = 1#1), ∀ a, (k0_off647 i v17 k0_t1 k0_t13) a + S1x16.size a ≤ S128x512.size a) ∧
  (∀ (k0_t1 : Fin k0_t1_loop.trips) (k0_t13 : Fin (k0_t13_loop i v17 k0_t1).trips), ∀ (k0_h3 : k0_cond3 i v17 k0_t1 = 1#1), ∀ a, (k0_off648 i v17 k0_t1 k0_t13) a + S1x16.size a ≤ S128x512.size a) ∧
  (∀ (k0_t1 : Fin k0_t1_loop.trips) (k0_t13 : Fin (k0_t13_loop i v17 k0_t1).trips), ∀ (k0_h3 : k0_cond3 i v17 k0_t1 = 1#1), ∀ a, (k0_off649 i v17 k0_t1 k0_t13) a + S1x16.size a ≤ S128x512.size a) ∧
  (∀ (k0_t1 : Fin k0_t1_loop.trips) (k0_t13 : Fin (k0_t13_loop i v17 k0_t1).trips), ∀ (k0_h3 : k0_cond3 i v17 k0_t1 = 1#1), ∀ a, (k0_off650 i v17 k0_t1 k0_t13) a + S1x16.size a ≤ S128x512.size a) ∧
  (∀ (k0_t1 : Fin k0_t1_loop.trips) (k0_t13 : Fin (k0_t13_loop i v17 k0_t1).trips), ∀ (k0_h3 : k0_cond3 i v17 k0_t1 = 1#1), ∀ a, (k0_off651 i v17 k0_t1 k0_t13) a + S1x16.size a ≤ S128x512.size a) ∧
  (∀ (k0_t1 : Fin k0_t1_loop.trips) (k0_t13 : Fin (k0_t13_loop i v17 k0_t1).trips), ∀ (k0_h3 : k0_cond3 i v17 k0_t1 = 1#1), ∀ a, (k0_off652 i v17 k0_t1 k0_t13) a + S1x16.size a ≤ S128x512.size a) ∧
  (∀ (k0_t1 : Fin k0_t1_loop.trips) (k0_t13 : Fin (k0_t13_loop i v17 k0_t1).trips), ∀ (k0_h3 : k0_cond3 i v17 k0_t1 = 1#1), ∀ a, (k0_off653 i v17 k0_t1 k0_t13) a + S1x16.size a ≤ S128x512.size a) ∧
  (∀ (k0_t1 : Fin k0_t1_loop.trips) (k0_t13 : Fin (k0_t13_loop i v17 k0_t1).trips), ∀ (k0_h3 : k0_cond3 i v17 k0_t1 = 1#1), ∀ a, (k0_off654 i v17 k0_t1 k0_t13) a + S1x16.size a ≤ S128x512.size a) ∧
  (∀ (k0_t1 : Fin k0_t1_loop.trips) (k0_t13 : Fin (k0_t13_loop i v17 k0_t1).trips), ∀ (k0_h3 : k0_cond3 i v17 k0_t1 = 1#1), ∀ a, (k0_off655 i v17 k0_t1 k0_t13) a + S1x16.size a ≤ S128x512.size a) ∧
  (∀ (k0_t1 : Fin k0_t1_loop.trips) (k0_t13 : Fin (k0_t13_loop i v17 k0_t1).trips), ∀ (k0_h3 : k0_cond3 i v17 k0_t1 = 1#1), ∀ a, (k0_off656 i v17 k0_t1 k0_t13) a + S1x16.size a ≤ S128x512.size a) ∧
  (∀ (k0_t1 : Fin k0_t1_loop.trips) (k0_t13 : Fin (k0_t13_loop i v17 k0_t1).trips), ∀ (k0_h3 : k0_cond3 i v17 k0_t1 = 1#1), ∀ a, (k0_off657 i v17 k0_t1 k0_t13) a + S1x16.size a ≤ S128x512.size a) ∧
  (∀ (k0_t1 : Fin k0_t1_loop.trips) (k0_t13 : Fin (k0_t13_loop i v17 k0_t1).trips), ∀ (k0_h3 : k0_cond3 i v17 k0_t1 = 1#1), ∀ a, (k0_off658 i v17 k0_t1 k0_t13) a + S1x16.size a ≤ S128x512.size a) ∧
  (∀ (k0_t1 : Fin k0_t1_loop.trips) (k0_t13 : Fin (k0_t13_loop i v17 k0_t1).trips), ∀ (k0_h3 : k0_cond3 i v17 k0_t1 = 1#1), ∀ a, (k0_off659 i v17 k0_t1 k0_t13) a + S1x16.size a ≤ S128x512.size a) ∧
  (∀ (k0_t1 : Fin k0_t1_loop.trips) (k0_t13 : Fin (k0_t13_loop i v17 k0_t1).trips), ∀ (k0_h3 : k0_cond3 i v17 k0_t1 = 1#1), ∀ a, (k0_off660 i v17 k0_t1 k0_t13) a + S1x16.size a ≤ S128x512.size a) ∧
  (∀ (k0_t1 : Fin k0_t1_loop.trips) (k0_t13 : Fin (k0_t13_loop i v17 k0_t1).trips), ∀ (k0_h3 : k0_cond3 i v17 k0_t1 = 1#1), ∀ a, (k0_off661 i v17 k0_t1 k0_t13) a + S1x16.size a ≤ S128x512.size a) ∧
  (∀ (k0_t1 : Fin k0_t1_loop.trips) (k0_t13 : Fin (k0_t13_loop i v17 k0_t1).trips), ∀ (k0_h3 : k0_cond3 i v17 k0_t1 = 1#1), ∀ a, (k0_off662 i v17 k0_t1 k0_t13) a + S1x16.size a ≤ S128x512.size a) ∧
  (∀ (k0_t1 : Fin k0_t1_loop.trips) (k0_t13 : Fin (k0_t13_loop i v17 k0_t1).trips), ∀ (k0_h3 : k0_cond3 i v17 k0_t1 = 1#1), ∀ a, (k0_off663 i v17 k0_t1 k0_t13) a + S1x16.size a ≤ S128x512.size a)
def k0_chk8_2 (i : grid0.Coords) (v17 : BitVec 32) : Prop :=
  (∀ (k0_t1 : Fin k0_t1_loop.trips) (k0_t13 : Fin (k0_t13_loop i v17 k0_t1).trips), ∀ (k0_h3 : k0_cond3 i v17 k0_t1 = 1#1), ∀ a, (k0_off664 i v17 k0_t1 k0_t13) a + S1x16.size a ≤ S128x512.size a) ∧
  (∀ (k0_t1 : Fin k0_t1_loop.trips) (k0_t13 : Fin (k0_t13_loop i v17 k0_t1).trips), ∀ (k0_h3 : k0_cond3 i v17 k0_t1 = 1#1), ∀ a, (k0_off665 i v17 k0_t1 k0_t13) a + S1x16.size a ≤ S128x512.size a) ∧
  (∀ (k0_t1 : Fin k0_t1_loop.trips) (k0_t13 : Fin (k0_t13_loop i v17 k0_t1).trips), ∀ (k0_h3 : k0_cond3 i v17 k0_t1 = 1#1), ∀ a, (k0_off666 i v17 k0_t1 k0_t13) a + S1x16.size a ≤ S128x512.size a) ∧
  (∀ (k0_t1 : Fin k0_t1_loop.trips) (k0_t13 : Fin (k0_t13_loop i v17 k0_t1).trips), ∀ (k0_h3 : k0_cond3 i v17 k0_t1 = 1#1), ∀ a, (k0_off667 i v17 k0_t1 k0_t13) a + S1x16.size a ≤ S128x512.size a) ∧
  (∀ k0_t1 : Fin k0_t1_loop.trips, ∀ (k0_h3 : k0_cond3 i v17 k0_t1 = 1#1), (k0_t14_loop i v17 k0_t1).OK) ∧
  (∀ (k0_t1 : Fin k0_t1_loop.trips) (k0_t14 : Fin (k0_t14_loop i v17 k0_t1).trips), ∀ (k0_h3 : k0_cond3 i v17 k0_t1 = 1#1), ∀ a, (k0_off668 i v17 k0_t1 k0_t14) a + S1x16.size a ≤ S128x512.size a) ∧
  (∀ (k0_t1 : Fin k0_t1_loop.trips) (k0_t14 : Fin (k0_t14_loop i v17 k0_t1).trips), ∀ (k0_h3 : k0_cond3 i v17 k0_t1 = 1#1), ∀ a, (k0_off669 i v17 k0_t1 k0_t14) a + S1x16.size a ≤ S128x512.size a) ∧
  (∀ (k0_t1 : Fin k0_t1_loop.trips) (k0_t14 : Fin (k0_t14_loop i v17 k0_t1).trips), ∀ (k0_h3 : k0_cond3 i v17 k0_t1 = 1#1), ∀ a, (k0_off670 i v17 k0_t1 k0_t14) a + S1x16.size a ≤ S128x512.size a) ∧
  (∀ (k0_t1 : Fin k0_t1_loop.trips) (k0_t14 : Fin (k0_t14_loop i v17 k0_t1).trips), ∀ (k0_h3 : k0_cond3 i v17 k0_t1 = 1#1), ∀ a, (k0_off671 i v17 k0_t1 k0_t14) a + S1x16.size a ≤ S128x512.size a) ∧
  (∀ (k0_t1 : Fin k0_t1_loop.trips) (k0_t14 : Fin (k0_t14_loop i v17 k0_t1).trips), ∀ (k0_h3 : k0_cond3 i v17 k0_t1 = 1#1), ∀ a, (k0_off672 i v17 k0_t1 k0_t14) a + S1x16.size a ≤ S128x512.size a) ∧
  (∀ (k0_t1 : Fin k0_t1_loop.trips) (k0_t14 : Fin (k0_t14_loop i v17 k0_t1).trips), ∀ (k0_h3 : k0_cond3 i v17 k0_t1 = 1#1), ∀ a, (k0_off673 i v17 k0_t1 k0_t14) a + S1x16.size a ≤ S128x512.size a) ∧
  (∀ (k0_t1 : Fin k0_t1_loop.trips) (k0_t14 : Fin (k0_t14_loop i v17 k0_t1).trips), ∀ (k0_h3 : k0_cond3 i v17 k0_t1 = 1#1), ∀ a, (k0_off674 i v17 k0_t1 k0_t14) a + S1x16.size a ≤ S128x512.size a) ∧
  (∀ (k0_t1 : Fin k0_t1_loop.trips) (k0_t14 : Fin (k0_t14_loop i v17 k0_t1).trips), ∀ (k0_h3 : k0_cond3 i v17 k0_t1 = 1#1), ∀ a, (k0_off675 i v17 k0_t1 k0_t14) a + S1x16.size a ≤ S128x512.size a) ∧
  (∀ (k0_t1 : Fin k0_t1_loop.trips) (k0_t14 : Fin (k0_t14_loop i v17 k0_t1).trips), ∀ (k0_h3 : k0_cond3 i v17 k0_t1 = 1#1), ∀ a, (k0_off676 i v17 k0_t1 k0_t14) a + S1x16.size a ≤ S128x512.size a) ∧
  (∀ (k0_t1 : Fin k0_t1_loop.trips) (k0_t14 : Fin (k0_t14_loop i v17 k0_t1).trips), ∀ (k0_h3 : k0_cond3 i v17 k0_t1 = 1#1), ∀ a, (k0_off677 i v17 k0_t1 k0_t14) a + S1x16.size a ≤ S128x512.size a) ∧
  (∀ (k0_t1 : Fin k0_t1_loop.trips) (k0_t14 : Fin (k0_t14_loop i v17 k0_t1).trips), ∀ (k0_h3 : k0_cond3 i v17 k0_t1 = 1#1), ∀ a, (k0_off678 i v17 k0_t1 k0_t14) a + S1x16.size a ≤ S128x512.size a) ∧
  (∀ (k0_t1 : Fin k0_t1_loop.trips) (k0_t14 : Fin (k0_t14_loop i v17 k0_t1).trips), ∀ (k0_h3 : k0_cond3 i v17 k0_t1 = 1#1), ∀ a, (k0_off679 i v17 k0_t1 k0_t14) a + S1x16.size a ≤ S128x512.size a) ∧
  (∀ (k0_t1 : Fin k0_t1_loop.trips) (k0_t14 : Fin (k0_t14_loop i v17 k0_t1).trips), ∀ (k0_h3 : k0_cond3 i v17 k0_t1 = 1#1), ∀ a, (k0_off680 i v17 k0_t1 k0_t14) a + S1x16.size a ≤ S128x512.size a) ∧
  (∀ (k0_t1 : Fin k0_t1_loop.trips) (k0_t14 : Fin (k0_t14_loop i v17 k0_t1).trips), ∀ (k0_h3 : k0_cond3 i v17 k0_t1 = 1#1), ∀ a, (k0_off681 i v17 k0_t1 k0_t14) a + S1x16.size a ≤ S128x512.size a) ∧
  (∀ (k0_t1 : Fin k0_t1_loop.trips) (k0_t14 : Fin (k0_t14_loop i v17 k0_t1).trips), ∀ (k0_h3 : k0_cond3 i v17 k0_t1 = 1#1), ∀ a, (k0_off682 i v17 k0_t1 k0_t14) a + S1x16.size a ≤ S128x512.size a) ∧
  (∀ (k0_t1 : Fin k0_t1_loop.trips) (k0_t14 : Fin (k0_t14_loop i v17 k0_t1).trips), ∀ (k0_h3 : k0_cond3 i v17 k0_t1 = 1#1), ∀ a, (k0_off683 i v17 k0_t1 k0_t14) a + S1x16.size a ≤ S128x512.size a) ∧
  (∀ (k0_t1 : Fin k0_t1_loop.trips) (k0_t14 : Fin (k0_t14_loop i v17 k0_t1).trips), ∀ (k0_h3 : k0_cond3 i v17 k0_t1 = 1#1), ∀ a, (k0_off684 i v17 k0_t1 k0_t14) a + S1x16.size a ≤ S128x512.size a) ∧
  (∀ (k0_t1 : Fin k0_t1_loop.trips) (k0_t14 : Fin (k0_t14_loop i v17 k0_t1).trips), ∀ (k0_h3 : k0_cond3 i v17 k0_t1 = 1#1), ∀ a, (k0_off685 i v17 k0_t1 k0_t14) a + S1x16.size a ≤ S128x512.size a) ∧
  (∀ (k0_t1 : Fin k0_t1_loop.trips) (k0_t14 : Fin (k0_t14_loop i v17 k0_t1).trips), ∀ (k0_h3 : k0_cond3 i v17 k0_t1 = 1#1), ∀ a, (k0_off686 i v17 k0_t1 k0_t14) a + S1x16.size a ≤ S128x512.size a) ∧
  (∀ (k0_t1 : Fin k0_t1_loop.trips) (k0_t14 : Fin (k0_t14_loop i v17 k0_t1).trips), ∀ (k0_h3 : k0_cond3 i v17 k0_t1 = 1#1), ∀ a, (k0_off687 i v17 k0_t1 k0_t14) a + S1x16.size a ≤ S128x512.size a) ∧
  (∀ (k0_t1 : Fin k0_t1_loop.trips) (k0_t14 : Fin (k0_t14_loop i v17 k0_t1).trips), ∀ (k0_h3 : k0_cond3 i v17 k0_t1 = 1#1), ∀ a, (k0_off688 i v17 k0_t1 k0_t14) a + S1x16.size a ≤ S128x512.size a) ∧
  (∀ (k0_t1 : Fin k0_t1_loop.trips) (k0_t14 : Fin (k0_t14_loop i v17 k0_t1).trips), ∀ (k0_h3 : k0_cond3 i v17 k0_t1 = 1#1), ∀ a, (k0_off689 i v17 k0_t1 k0_t14) a + S1x16.size a ≤ S128x512.size a) ∧
  (∀ (k0_t1 : Fin k0_t1_loop.trips) (k0_t14 : Fin (k0_t14_loop i v17 k0_t1).trips), ∀ (k0_h3 : k0_cond3 i v17 k0_t1 = 1#1), ∀ a, (k0_off690 i v17 k0_t1 k0_t14) a + S1x16.size a ≤ S128x512.size a) ∧
  (∀ (k0_t1 : Fin k0_t1_loop.trips) (k0_t14 : Fin (k0_t14_loop i v17 k0_t1).trips), ∀ (k0_h3 : k0_cond3 i v17 k0_t1 = 1#1), ∀ a, (k0_off691 i v17 k0_t1 k0_t14) a + S1x16.size a ≤ S128x512.size a) ∧
  (∀ (k0_t1 : Fin k0_t1_loop.trips) (k0_t14 : Fin (k0_t14_loop i v17 k0_t1).trips), ∀ (k0_h3 : k0_cond3 i v17 k0_t1 = 1#1), ∀ a, (k0_off692 i v17 k0_t1 k0_t14) a + S1x16.size a ≤ S128x512.size a) ∧
  (∀ (k0_t1 : Fin k0_t1_loop.trips) (k0_t14 : Fin (k0_t14_loop i v17 k0_t1).trips), ∀ (k0_h3 : k0_cond3 i v17 k0_t1 = 1#1), ∀ a, (k0_off693 i v17 k0_t1 k0_t14) a + S1x16.size a ≤ S128x512.size a) ∧
  (∀ (k0_t1 : Fin k0_t1_loop.trips) (k0_t14 : Fin (k0_t14_loop i v17 k0_t1).trips), ∀ (k0_h3 : k0_cond3 i v17 k0_t1 = 1#1), ∀ a, (k0_off694 i v17 k0_t1 k0_t14) a + S1x16.size a ≤ S128x512.size a)
def k0_chk8_3 (i : grid0.Coords) (v17 : BitVec 32) : Prop :=
  (∀ (k0_t1 : Fin k0_t1_loop.trips) (k0_t14 : Fin (k0_t14_loop i v17 k0_t1).trips), ∀ (k0_h3 : k0_cond3 i v17 k0_t1 = 1#1), ∀ a, (k0_off695 i v17 k0_t1 k0_t14) a + S1x16.size a ≤ S128x512.size a) ∧
  (∀ (k0_t1 : Fin k0_t1_loop.trips) (k0_t14 : Fin (k0_t14_loop i v17 k0_t1).trips), ∀ (k0_h3 : k0_cond3 i v17 k0_t1 = 1#1), ∀ a, (k0_off696 i v17 k0_t1 k0_t14) a + S1x16.size a ≤ S128x512.size a) ∧
  (∀ (k0_t1 : Fin k0_t1_loop.trips) (k0_t14 : Fin (k0_t14_loop i v17 k0_t1).trips), ∀ (k0_h3 : k0_cond3 i v17 k0_t1 = 1#1), ∀ a, (k0_off697 i v17 k0_t1 k0_t14) a + S1x16.size a ≤ S128x512.size a) ∧
  (∀ (k0_t1 : Fin k0_t1_loop.trips) (k0_t14 : Fin (k0_t14_loop i v17 k0_t1).trips), ∀ (k0_h3 : k0_cond3 i v17 k0_t1 = 1#1), ∀ a, (k0_off698 i v17 k0_t1 k0_t14) a + S1x16.size a ≤ S128x512.size a) ∧
  (∀ (k0_t1 : Fin k0_t1_loop.trips) (k0_t14 : Fin (k0_t14_loop i v17 k0_t1).trips), ∀ (k0_h3 : k0_cond3 i v17 k0_t1 = 1#1), ∀ a, (k0_off699 i v17 k0_t1 k0_t14) a + S1x16.size a ≤ S128x512.size a) ∧
  (∀ k0_t1 : Fin k0_t1_loop.trips, ∀ (k0_h3 : k0_cond3 i v17 k0_t1 = 1#1), (k0_t15_loop i v17 k0_t1).OK) ∧
  (∀ (k0_t1 : Fin k0_t1_loop.trips) (k0_t15 : Fin (k0_t15_loop i v17 k0_t1).trips), ∀ (k0_h3 : k0_cond3 i v17 k0_t1 = 1#1), ∀ a, (k0_off700 i v17 k0_t1 k0_t15) a + S1x16.size a ≤ S128x512.size a) ∧
  (∀ (k0_t1 : Fin k0_t1_loop.trips) (k0_t15 : Fin (k0_t15_loop i v17 k0_t1).trips), ∀ (k0_h3 : k0_cond3 i v17 k0_t1 = 1#1), ∀ a, (k0_off701 i v17 k0_t1 k0_t15) a + S1x16.size a ≤ S128x512.size a) ∧
  (∀ (k0_t1 : Fin k0_t1_loop.trips) (k0_t15 : Fin (k0_t15_loop i v17 k0_t1).trips), ∀ (k0_h3 : k0_cond3 i v17 k0_t1 = 1#1), ∀ a, (k0_off702 i v17 k0_t1 k0_t15) a + S1x16.size a ≤ S128x512.size a) ∧
  (∀ (k0_t1 : Fin k0_t1_loop.trips) (k0_t15 : Fin (k0_t15_loop i v17 k0_t1).trips), ∀ (k0_h3 : k0_cond3 i v17 k0_t1 = 1#1), ∀ a, (k0_off703 i v17 k0_t1 k0_t15) a + S1x16.size a ≤ S128x512.size a) ∧
  (∀ (k0_t1 : Fin k0_t1_loop.trips) (k0_t15 : Fin (k0_t15_loop i v17 k0_t1).trips), ∀ (k0_h3 : k0_cond3 i v17 k0_t1 = 1#1), ∀ a, (k0_off704 i v17 k0_t1 k0_t15) a + S1x16.size a ≤ S128x512.size a) ∧
  (∀ (k0_t1 : Fin k0_t1_loop.trips) (k0_t15 : Fin (k0_t15_loop i v17 k0_t1).trips), ∀ (k0_h3 : k0_cond3 i v17 k0_t1 = 1#1), ∀ a, (k0_off705 i v17 k0_t1 k0_t15) a + S1x16.size a ≤ S128x512.size a) ∧
  (∀ (k0_t1 : Fin k0_t1_loop.trips) (k0_t15 : Fin (k0_t15_loop i v17 k0_t1).trips), ∀ (k0_h3 : k0_cond3 i v17 k0_t1 = 1#1), ∀ a, (k0_off706 i v17 k0_t1 k0_t15) a + S1x16.size a ≤ S128x512.size a) ∧
  (∀ (k0_t1 : Fin k0_t1_loop.trips) (k0_t15 : Fin (k0_t15_loop i v17 k0_t1).trips), ∀ (k0_h3 : k0_cond3 i v17 k0_t1 = 1#1), ∀ a, (k0_off707 i v17 k0_t1 k0_t15) a + S1x16.size a ≤ S128x512.size a) ∧
  (∀ (k0_t1 : Fin k0_t1_loop.trips) (k0_t15 : Fin (k0_t15_loop i v17 k0_t1).trips), ∀ (k0_h3 : k0_cond3 i v17 k0_t1 = 1#1), ∀ a, (k0_off708 i v17 k0_t1 k0_t15) a + S1x16.size a ≤ S128x512.size a) ∧
  (∀ (k0_t1 : Fin k0_t1_loop.trips) (k0_t15 : Fin (k0_t15_loop i v17 k0_t1).trips), ∀ (k0_h3 : k0_cond3 i v17 k0_t1 = 1#1), ∀ a, (k0_off709 i v17 k0_t1 k0_t15) a + S1x16.size a ≤ S128x512.size a) ∧
  (∀ (k0_t1 : Fin k0_t1_loop.trips) (k0_t15 : Fin (k0_t15_loop i v17 k0_t1).trips), ∀ (k0_h3 : k0_cond3 i v17 k0_t1 = 1#1), ∀ a, (k0_off710 i v17 k0_t1 k0_t15) a + S1x16.size a ≤ S128x512.size a) ∧
  (∀ (k0_t1 : Fin k0_t1_loop.trips) (k0_t15 : Fin (k0_t15_loop i v17 k0_t1).trips), ∀ (k0_h3 : k0_cond3 i v17 k0_t1 = 1#1), ∀ a, (k0_off711 i v17 k0_t1 k0_t15) a + S1x16.size a ≤ S128x512.size a) ∧
  (∀ (k0_t1 : Fin k0_t1_loop.trips) (k0_t15 : Fin (k0_t15_loop i v17 k0_t1).trips), ∀ (k0_h3 : k0_cond3 i v17 k0_t1 = 1#1), ∀ a, (k0_off712 i v17 k0_t1 k0_t15) a + S1x16.size a ≤ S128x512.size a) ∧
  (∀ (k0_t1 : Fin k0_t1_loop.trips) (k0_t15 : Fin (k0_t15_loop i v17 k0_t1).trips), ∀ (k0_h3 : k0_cond3 i v17 k0_t1 = 1#1), ∀ a, (k0_off713 i v17 k0_t1 k0_t15) a + S1x16.size a ≤ S128x512.size a) ∧
  (∀ (k0_t1 : Fin k0_t1_loop.trips) (k0_t15 : Fin (k0_t15_loop i v17 k0_t1).trips), ∀ (k0_h3 : k0_cond3 i v17 k0_t1 = 1#1), ∀ a, (k0_off714 i v17 k0_t1 k0_t15) a + S1x16.size a ≤ S128x512.size a) ∧
  (∀ (k0_t1 : Fin k0_t1_loop.trips) (k0_t15 : Fin (k0_t15_loop i v17 k0_t1).trips), ∀ (k0_h3 : k0_cond3 i v17 k0_t1 = 1#1), ∀ a, (k0_off715 i v17 k0_t1 k0_t15) a + S1x16.size a ≤ S128x512.size a) ∧
  (∀ (k0_t1 : Fin k0_t1_loop.trips) (k0_t15 : Fin (k0_t15_loop i v17 k0_t1).trips), ∀ (k0_h3 : k0_cond3 i v17 k0_t1 = 1#1), ∀ a, (k0_off716 i v17 k0_t1 k0_t15) a + S1x16.size a ≤ S128x512.size a) ∧
  (∀ (k0_t1 : Fin k0_t1_loop.trips) (k0_t15 : Fin (k0_t15_loop i v17 k0_t1).trips), ∀ (k0_h3 : k0_cond3 i v17 k0_t1 = 1#1), ∀ a, (k0_off717 i v17 k0_t1 k0_t15) a + S1x16.size a ≤ S128x512.size a) ∧
  (∀ (k0_t1 : Fin k0_t1_loop.trips) (k0_t15 : Fin (k0_t15_loop i v17 k0_t1).trips), ∀ (k0_h3 : k0_cond3 i v17 k0_t1 = 1#1), ∀ a, (k0_off718 i v17 k0_t1 k0_t15) a + S1x16.size a ≤ S128x512.size a) ∧
  (∀ (k0_t1 : Fin k0_t1_loop.trips) (k0_t15 : Fin (k0_t15_loop i v17 k0_t1).trips), ∀ (k0_h3 : k0_cond3 i v17 k0_t1 = 1#1), ∀ a, (k0_off719 i v17 k0_t1 k0_t15) a + S1x16.size a ≤ S128x512.size a) ∧
  (∀ (k0_t1 : Fin k0_t1_loop.trips) (k0_t15 : Fin (k0_t15_loop i v17 k0_t1).trips), ∀ (k0_h3 : k0_cond3 i v17 k0_t1 = 1#1), ∀ a, (k0_off720 i v17 k0_t1 k0_t15) a + S1x16.size a ≤ S128x512.size a) ∧
  (∀ (k0_t1 : Fin k0_t1_loop.trips) (k0_t15 : Fin (k0_t15_loop i v17 k0_t1).trips), ∀ (k0_h3 : k0_cond3 i v17 k0_t1 = 1#1), ∀ a, (k0_off721 i v17 k0_t1 k0_t15) a + S1x16.size a ≤ S128x512.size a) ∧
  (∀ (k0_t1 : Fin k0_t1_loop.trips) (k0_t15 : Fin (k0_t15_loop i v17 k0_t1).trips), ∀ (k0_h3 : k0_cond3 i v17 k0_t1 = 1#1), ∀ a, (k0_off722 i v17 k0_t1 k0_t15) a + S1x16.size a ≤ S128x512.size a) ∧
  (∀ (k0_t1 : Fin k0_t1_loop.trips) (k0_t15 : Fin (k0_t15_loop i v17 k0_t1).trips), ∀ (k0_h3 : k0_cond3 i v17 k0_t1 = 1#1), ∀ a, (k0_off723 i v17 k0_t1 k0_t15) a + S1x16.size a ≤ S128x512.size a) ∧
  (∀ (k0_t1 : Fin k0_t1_loop.trips) (k0_t15 : Fin (k0_t15_loop i v17 k0_t1).trips), ∀ (k0_h3 : k0_cond3 i v17 k0_t1 = 1#1), ∀ a, (k0_off724 i v17 k0_t1 k0_t15) a + S1x16.size a ≤ S128x512.size a) ∧
  (∀ (k0_t1 : Fin k0_t1_loop.trips) (k0_t15 : Fin (k0_t15_loop i v17 k0_t1).trips), ∀ (k0_h3 : k0_cond3 i v17 k0_t1 = 1#1), ∀ a, (k0_off725 i v17 k0_t1 k0_t15) a + S1x16.size a ≤ S128x512.size a)
def k0_chk8_4 (i : grid0.Coords) (v17 : BitVec 32) : Prop :=
  (∀ (k0_t1 : Fin k0_t1_loop.trips) (k0_t15 : Fin (k0_t15_loop i v17 k0_t1).trips), ∀ (k0_h3 : k0_cond3 i v17 k0_t1 = 1#1), ∀ a, (k0_off726 i v17 k0_t1 k0_t15) a + S1x16.size a ≤ S128x512.size a) ∧
  (∀ (k0_t1 : Fin k0_t1_loop.trips) (k0_t15 : Fin (k0_t15_loop i v17 k0_t1).trips), ∀ (k0_h3 : k0_cond3 i v17 k0_t1 = 1#1), ∀ a, (k0_off727 i v17 k0_t1 k0_t15) a + S1x16.size a ≤ S128x512.size a) ∧
  (∀ (k0_t1 : Fin k0_t1_loop.trips) (k0_t15 : Fin (k0_t15_loop i v17 k0_t1).trips), ∀ (k0_h3 : k0_cond3 i v17 k0_t1 = 1#1), ∀ a, (k0_off728 i v17 k0_t1 k0_t15) a + S1x16.size a ≤ S128x512.size a) ∧
  (∀ (k0_t1 : Fin k0_t1_loop.trips) (k0_t15 : Fin (k0_t15_loop i v17 k0_t1).trips), ∀ (k0_h3 : k0_cond3 i v17 k0_t1 = 1#1), ∀ a, (k0_off729 i v17 k0_t1 k0_t15) a + S1x16.size a ≤ S128x512.size a) ∧
  (∀ (k0_t1 : Fin k0_t1_loop.trips) (k0_t15 : Fin (k0_t15_loop i v17 k0_t1).trips), ∀ (k0_h3 : k0_cond3 i v17 k0_t1 = 1#1), ∀ a, (k0_off730 i v17 k0_t1 k0_t15) a + S1x16.size a ≤ S128x512.size a) ∧
  (∀ (k0_t1 : Fin k0_t1_loop.trips) (k0_t15 : Fin (k0_t15_loop i v17 k0_t1).trips), ∀ (k0_h3 : k0_cond3 i v17 k0_t1 = 1#1), ∀ a, (k0_off731 i v17 k0_t1 k0_t15) a + S1x16.size a ≤ S128x512.size a)
def k0_chk8 (i : grid0.Coords) (v17 : BitVec 32) : Prop :=
  k0_chk8_0 i v17 ∧
  k0_chk8_1 i v17 ∧
  k0_chk8_2 i v17 ∧
  k0_chk8_3 i v17 ∧
  k0_chk8_4 i v17
theorem k0_t12_ok : ∀ (i : grid0.Coords) (v17 : BitVec 32) (k0_hw8 : k0_chk8 i v17) (k0_t1 : Fin k0_t1_loop.trips), ∀ (k0_h3 : k0_cond3 i v17 k0_t1 = 1#1), (k0_t12_loop i v17 k0_t1).OK := fun i v17 k0_hw8 k0_t1 k0_h3 => k0_hw8.1.1 k0_t1 k0_h3
theorem k0_off602_inb : ∀ (i : grid0.Coords) (v17 : BitVec 32) (k0_hw8 : k0_chk8 i v17) (k0_t1 : Fin k0_t1_loop.trips) (k0_t12 : Fin (k0_t12_loop i v17 k0_t1).trips), ∀ (k0_h3 : k0_cond3 i v17 k0_t1 = 1#1), ∀ a, (k0_off602 i v17 k0_t1 k0_t12) a + S1x16.size a ≤ S128x16.size a := fun i v17 k0_hw8 k0_t1 k0_t12 k0_h3 => k0_hw8.1.2.1 k0_t1 k0_t12 k0_h3
theorem k0_off603_inb : ∀ (i : grid0.Coords) (v17 : BitVec 32) (k0_hw8 : k0_chk8 i v17) (k0_t1 : Fin k0_t1_loop.trips) (k0_t12 : Fin (k0_t12_loop i v17 k0_t1).trips), ∀ (k0_h3 : k0_cond3 i v17 k0_t1 = 1#1), ∀ a, (k0_off603 i v17 k0_t1 k0_t12) a + S1x16.size a ≤ S128x512.size a := fun i v17 k0_hw8 k0_t1 k0_t12 k0_h3 => k0_hw8.1.2.2.1 k0_t1 k0_t12 k0_h3
theorem k0_off604_inb : ∀ (i : grid0.Coords) (v17 : BitVec 32) (k0_hw8 : k0_chk8 i v17) (k0_t1 : Fin k0_t1_loop.trips) (k0_t12 : Fin (k0_t12_loop i v17 k0_t1).trips), ∀ (k0_h3 : k0_cond3 i v17 k0_t1 = 1#1), ∀ a, (k0_off604 i v17 k0_t1 k0_t12) a + S1x16.size a ≤ S128x512.size a := fun i v17 k0_hw8 k0_t1 k0_t12 k0_h3 => k0_hw8.1.2.2.2.1 k0_t1 k0_t12 k0_h3
theorem k0_off605_inb : ∀ (i : grid0.Coords) (v17 : BitVec 32) (k0_hw8 : k0_chk8 i v17) (k0_t1 : Fin k0_t1_loop.trips) (k0_t12 : Fin (k0_t12_loop i v17 k0_t1).trips), ∀ (k0_h3 : k0_cond3 i v17 k0_t1 = 1#1), ∀ a, (k0_off605 i v17 k0_t1 k0_t12) a + S1x16.size a ≤ S128x512.size a := fun i v17 k0_hw8 k0_t1 k0_t12 k0_h3 => k0_hw8.1.2.2.2.2.1 k0_t1 k0_t12 k0_h3
theorem k0_off606_inb : ∀ (i : grid0.Coords) (v17 : BitVec 32) (k0_hw8 : k0_chk8 i v17) (k0_t1 : Fin k0_t1_loop.trips) (k0_t12 : Fin (k0_t12_loop i v17 k0_t1).trips), ∀ (k0_h3 : k0_cond3 i v17 k0_t1 = 1#1), ∀ a, (k0_off606 i v17 k0_t1 k0_t12) a + S1x16.size a ≤ S128x512.size a := fun i v17 k0_hw8 k0_t1 k0_t12 k0_h3 => k0_hw8.1.2.2.2.2.2.1 k0_t1 k0_t12 k0_h3
theorem k0_off607_inb : ∀ (i : grid0.Coords) (v17 : BitVec 32) (k0_hw8 : k0_chk8 i v17) (k0_t1 : Fin k0_t1_loop.trips) (k0_t12 : Fin (k0_t12_loop i v17 k0_t1).trips), ∀ (k0_h3 : k0_cond3 i v17 k0_t1 = 1#1), ∀ a, (k0_off607 i v17 k0_t1 k0_t12) a + S1x16.size a ≤ S128x512.size a := fun i v17 k0_hw8 k0_t1 k0_t12 k0_h3 => k0_hw8.1.2.2.2.2.2.2.1 k0_t1 k0_t12 k0_h3
theorem k0_off608_inb : ∀ (i : grid0.Coords) (v17 : BitVec 32) (k0_hw8 : k0_chk8 i v17) (k0_t1 : Fin k0_t1_loop.trips) (k0_t12 : Fin (k0_t12_loop i v17 k0_t1).trips), ∀ (k0_h3 : k0_cond3 i v17 k0_t1 = 1#1), ∀ a, (k0_off608 i v17 k0_t1 k0_t12) a + S1x16.size a ≤ S128x512.size a := fun i v17 k0_hw8 k0_t1 k0_t12 k0_h3 => k0_hw8.1.2.2.2.2.2.2.2.1 k0_t1 k0_t12 k0_h3
theorem k0_off609_inb : ∀ (i : grid0.Coords) (v17 : BitVec 32) (k0_hw8 : k0_chk8 i v17) (k0_t1 : Fin k0_t1_loop.trips) (k0_t12 : Fin (k0_t12_loop i v17 k0_t1).trips), ∀ (k0_h3 : k0_cond3 i v17 k0_t1 = 1#1), ∀ a, (k0_off609 i v17 k0_t1 k0_t12) a + S1x16.size a ≤ S128x512.size a := fun i v17 k0_hw8 k0_t1 k0_t12 k0_h3 => k0_hw8.1.2.2.2.2.2.2.2.2.1 k0_t1 k0_t12 k0_h3
theorem k0_off610_inb : ∀ (i : grid0.Coords) (v17 : BitVec 32) (k0_hw8 : k0_chk8 i v17) (k0_t1 : Fin k0_t1_loop.trips) (k0_t12 : Fin (k0_t12_loop i v17 k0_t1).trips), ∀ (k0_h3 : k0_cond3 i v17 k0_t1 = 1#1), ∀ a, (k0_off610 i v17 k0_t1 k0_t12) a + S1x16.size a ≤ S128x512.size a := fun i v17 k0_hw8 k0_t1 k0_t12 k0_h3 => k0_hw8.1.2.2.2.2.2.2.2.2.2.1 k0_t1 k0_t12 k0_h3
theorem k0_off611_inb : ∀ (i : grid0.Coords) (v17 : BitVec 32) (k0_hw8 : k0_chk8 i v17) (k0_t1 : Fin k0_t1_loop.trips) (k0_t12 : Fin (k0_t12_loop i v17 k0_t1).trips), ∀ (k0_h3 : k0_cond3 i v17 k0_t1 = 1#1), ∀ a, (k0_off611 i v17 k0_t1 k0_t12) a + S1x16.size a ≤ S128x512.size a := fun i v17 k0_hw8 k0_t1 k0_t12 k0_h3 => k0_hw8.1.2.2.2.2.2.2.2.2.2.2.1 k0_t1 k0_t12 k0_h3
theorem k0_off612_inb : ∀ (i : grid0.Coords) (v17 : BitVec 32) (k0_hw8 : k0_chk8 i v17) (k0_t1 : Fin k0_t1_loop.trips) (k0_t12 : Fin (k0_t12_loop i v17 k0_t1).trips), ∀ (k0_h3 : k0_cond3 i v17 k0_t1 = 1#1), ∀ a, (k0_off612 i v17 k0_t1 k0_t12) a + S1x16.size a ≤ S128x512.size a := fun i v17 k0_hw8 k0_t1 k0_t12 k0_h3 => k0_hw8.1.2.2.2.2.2.2.2.2.2.2.2.1 k0_t1 k0_t12 k0_h3
theorem k0_off613_inb : ∀ (i : grid0.Coords) (v17 : BitVec 32) (k0_hw8 : k0_chk8 i v17) (k0_t1 : Fin k0_t1_loop.trips) (k0_t12 : Fin (k0_t12_loop i v17 k0_t1).trips), ∀ (k0_h3 : k0_cond3 i v17 k0_t1 = 1#1), ∀ a, (k0_off613 i v17 k0_t1 k0_t12) a + S1x16.size a ≤ S128x512.size a := fun i v17 k0_hw8 k0_t1 k0_t12 k0_h3 => k0_hw8.1.2.2.2.2.2.2.2.2.2.2.2.2.1 k0_t1 k0_t12 k0_h3
theorem k0_off614_inb : ∀ (i : grid0.Coords) (v17 : BitVec 32) (k0_hw8 : k0_chk8 i v17) (k0_t1 : Fin k0_t1_loop.trips) (k0_t12 : Fin (k0_t12_loop i v17 k0_t1).trips), ∀ (k0_h3 : k0_cond3 i v17 k0_t1 = 1#1), ∀ a, (k0_off614 i v17 k0_t1 k0_t12) a + S1x16.size a ≤ S128x512.size a := fun i v17 k0_hw8 k0_t1 k0_t12 k0_h3 => k0_hw8.1.2.2.2.2.2.2.2.2.2.2.2.2.2.1 k0_t1 k0_t12 k0_h3
theorem k0_off615_inb : ∀ (i : grid0.Coords) (v17 : BitVec 32) (k0_hw8 : k0_chk8 i v17) (k0_t1 : Fin k0_t1_loop.trips) (k0_t12 : Fin (k0_t12_loop i v17 k0_t1).trips), ∀ (k0_h3 : k0_cond3 i v17 k0_t1 = 1#1), ∀ a, (k0_off615 i v17 k0_t1 k0_t12) a + S1x16.size a ≤ S128x512.size a := fun i v17 k0_hw8 k0_t1 k0_t12 k0_h3 => k0_hw8.1.2.2.2.2.2.2.2.2.2.2.2.2.2.2.1 k0_t1 k0_t12 k0_h3
theorem k0_off616_inb : ∀ (i : grid0.Coords) (v17 : BitVec 32) (k0_hw8 : k0_chk8 i v17) (k0_t1 : Fin k0_t1_loop.trips) (k0_t12 : Fin (k0_t12_loop i v17 k0_t1).trips), ∀ (k0_h3 : k0_cond3 i v17 k0_t1 = 1#1), ∀ a, (k0_off616 i v17 k0_t1 k0_t12) a + S1x16.size a ≤ S128x512.size a := fun i v17 k0_hw8 k0_t1 k0_t12 k0_h3 => k0_hw8.1.2.2.2.2.2.2.2.2.2.2.2.2.2.2.2.1 k0_t1 k0_t12 k0_h3
theorem k0_off617_inb : ∀ (i : grid0.Coords) (v17 : BitVec 32) (k0_hw8 : k0_chk8 i v17) (k0_t1 : Fin k0_t1_loop.trips) (k0_t12 : Fin (k0_t12_loop i v17 k0_t1).trips), ∀ (k0_h3 : k0_cond3 i v17 k0_t1 = 1#1), ∀ a, (k0_off617 i v17 k0_t1 k0_t12) a + S1x16.size a ≤ S128x512.size a := fun i v17 k0_hw8 k0_t1 k0_t12 k0_h3 => k0_hw8.1.2.2.2.2.2.2.2.2.2.2.2.2.2.2.2.2.1 k0_t1 k0_t12 k0_h3
theorem k0_off618_inb : ∀ (i : grid0.Coords) (v17 : BitVec 32) (k0_hw8 : k0_chk8 i v17) (k0_t1 : Fin k0_t1_loop.trips) (k0_t12 : Fin (k0_t12_loop i v17 k0_t1).trips), ∀ (k0_h3 : k0_cond3 i v17 k0_t1 = 1#1), ∀ a, (k0_off618 i v17 k0_t1 k0_t12) a + S1x16.size a ≤ S128x512.size a := fun i v17 k0_hw8 k0_t1 k0_t12 k0_h3 => k0_hw8.1.2.2.2.2.2.2.2.2.2.2.2.2.2.2.2.2.2.1 k0_t1 k0_t12 k0_h3
theorem k0_off619_inb : ∀ (i : grid0.Coords) (v17 : BitVec 32) (k0_hw8 : k0_chk8 i v17) (k0_t1 : Fin k0_t1_loop.trips) (k0_t12 : Fin (k0_t12_loop i v17 k0_t1).trips), ∀ (k0_h3 : k0_cond3 i v17 k0_t1 = 1#1), ∀ a, (k0_off619 i v17 k0_t1 k0_t12) a + S1x16.size a ≤ S128x512.size a := fun i v17 k0_hw8 k0_t1 k0_t12 k0_h3 => k0_hw8.1.2.2.2.2.2.2.2.2.2.2.2.2.2.2.2.2.2.2.1 k0_t1 k0_t12 k0_h3
theorem k0_off620_inb : ∀ (i : grid0.Coords) (v17 : BitVec 32) (k0_hw8 : k0_chk8 i v17) (k0_t1 : Fin k0_t1_loop.trips) (k0_t12 : Fin (k0_t12_loop i v17 k0_t1).trips), ∀ (k0_h3 : k0_cond3 i v17 k0_t1 = 1#1), ∀ a, (k0_off620 i v17 k0_t1 k0_t12) a + S1x16.size a ≤ S128x512.size a := fun i v17 k0_hw8 k0_t1 k0_t12 k0_h3 => k0_hw8.1.2.2.2.2.2.2.2.2.2.2.2.2.2.2.2.2.2.2.2.1 k0_t1 k0_t12 k0_h3
theorem k0_off621_inb : ∀ (i : grid0.Coords) (v17 : BitVec 32) (k0_hw8 : k0_chk8 i v17) (k0_t1 : Fin k0_t1_loop.trips) (k0_t12 : Fin (k0_t12_loop i v17 k0_t1).trips), ∀ (k0_h3 : k0_cond3 i v17 k0_t1 = 1#1), ∀ a, (k0_off621 i v17 k0_t1 k0_t12) a + S1x16.size a ≤ S128x512.size a := fun i v17 k0_hw8 k0_t1 k0_t12 k0_h3 => k0_hw8.1.2.2.2.2.2.2.2.2.2.2.2.2.2.2.2.2.2.2.2.2.1 k0_t1 k0_t12 k0_h3
theorem k0_off622_inb : ∀ (i : grid0.Coords) (v17 : BitVec 32) (k0_hw8 : k0_chk8 i v17) (k0_t1 : Fin k0_t1_loop.trips) (k0_t12 : Fin (k0_t12_loop i v17 k0_t1).trips), ∀ (k0_h3 : k0_cond3 i v17 k0_t1 = 1#1), ∀ a, (k0_off622 i v17 k0_t1 k0_t12) a + S1x16.size a ≤ S128x512.size a := fun i v17 k0_hw8 k0_t1 k0_t12 k0_h3 => k0_hw8.1.2.2.2.2.2.2.2.2.2.2.2.2.2.2.2.2.2.2.2.2.2.1 k0_t1 k0_t12 k0_h3
theorem k0_off623_inb : ∀ (i : grid0.Coords) (v17 : BitVec 32) (k0_hw8 : k0_chk8 i v17) (k0_t1 : Fin k0_t1_loop.trips) (k0_t12 : Fin (k0_t12_loop i v17 k0_t1).trips), ∀ (k0_h3 : k0_cond3 i v17 k0_t1 = 1#1), ∀ a, (k0_off623 i v17 k0_t1 k0_t12) a + S1x16.size a ≤ S128x512.size a := fun i v17 k0_hw8 k0_t1 k0_t12 k0_h3 => k0_hw8.1.2.2.2.2.2.2.2.2.2.2.2.2.2.2.2.2.2.2.2.2.2.2.1 k0_t1 k0_t12 k0_h3
theorem k0_off624_inb : ∀ (i : grid0.Coords) (v17 : BitVec 32) (k0_hw8 : k0_chk8 i v17) (k0_t1 : Fin k0_t1_loop.trips) (k0_t12 : Fin (k0_t12_loop i v17 k0_t1).trips), ∀ (k0_h3 : k0_cond3 i v17 k0_t1 = 1#1), ∀ a, (k0_off624 i v17 k0_t1 k0_t12) a + S1x16.size a ≤ S128x512.size a := fun i v17 k0_hw8 k0_t1 k0_t12 k0_h3 => k0_hw8.1.2.2.2.2.2.2.2.2.2.2.2.2.2.2.2.2.2.2.2.2.2.2.2.1 k0_t1 k0_t12 k0_h3
theorem k0_off625_inb : ∀ (i : grid0.Coords) (v17 : BitVec 32) (k0_hw8 : k0_chk8 i v17) (k0_t1 : Fin k0_t1_loop.trips) (k0_t12 : Fin (k0_t12_loop i v17 k0_t1).trips), ∀ (k0_h3 : k0_cond3 i v17 k0_t1 = 1#1), ∀ a, (k0_off625 i v17 k0_t1 k0_t12) a + S1x16.size a ≤ S128x512.size a := fun i v17 k0_hw8 k0_t1 k0_t12 k0_h3 => k0_hw8.1.2.2.2.2.2.2.2.2.2.2.2.2.2.2.2.2.2.2.2.2.2.2.2.2.1 k0_t1 k0_t12 k0_h3
theorem k0_off626_inb : ∀ (i : grid0.Coords) (v17 : BitVec 32) (k0_hw8 : k0_chk8 i v17) (k0_t1 : Fin k0_t1_loop.trips) (k0_t12 : Fin (k0_t12_loop i v17 k0_t1).trips), ∀ (k0_h3 : k0_cond3 i v17 k0_t1 = 1#1), ∀ a, (k0_off626 i v17 k0_t1 k0_t12) a + S1x16.size a ≤ S128x512.size a := fun i v17 k0_hw8 k0_t1 k0_t12 k0_h3 => k0_hw8.1.2.2.2.2.2.2.2.2.2.2.2.2.2.2.2.2.2.2.2.2.2.2.2.2.2.1 k0_t1 k0_t12 k0_h3
theorem k0_off627_inb : ∀ (i : grid0.Coords) (v17 : BitVec 32) (k0_hw8 : k0_chk8 i v17) (k0_t1 : Fin k0_t1_loop.trips) (k0_t12 : Fin (k0_t12_loop i v17 k0_t1).trips), ∀ (k0_h3 : k0_cond3 i v17 k0_t1 = 1#1), ∀ a, (k0_off627 i v17 k0_t1 k0_t12) a + S1x16.size a ≤ S128x512.size a := fun i v17 k0_hw8 k0_t1 k0_t12 k0_h3 => k0_hw8.1.2.2.2.2.2.2.2.2.2.2.2.2.2.2.2.2.2.2.2.2.2.2.2.2.2.2.1 k0_t1 k0_t12 k0_h3
theorem k0_off628_inb : ∀ (i : grid0.Coords) (v17 : BitVec 32) (k0_hw8 : k0_chk8 i v17) (k0_t1 : Fin k0_t1_loop.trips) (k0_t12 : Fin (k0_t12_loop i v17 k0_t1).trips), ∀ (k0_h3 : k0_cond3 i v17 k0_t1 = 1#1), ∀ a, (k0_off628 i v17 k0_t1 k0_t12) a + S1x16.size a ≤ S128x512.size a := fun i v17 k0_hw8 k0_t1 k0_t12 k0_h3 => k0_hw8.1.2.2.2.2.2.2.2.2.2.2.2.2.2.2.2.2.2.2.2.2.2.2.2.2.2.2.2.1 k0_t1 k0_t12 k0_h3
theorem k0_off629_inb : ∀ (i : grid0.Coords) (v17 : BitVec 32) (k0_hw8 : k0_chk8 i v17) (k0_t1 : Fin k0_t1_loop.trips) (k0_t12 : Fin (k0_t12_loop i v17 k0_t1).trips), ∀ (k0_h3 : k0_cond3 i v17 k0_t1 = 1#1), ∀ a, (k0_off629 i v17 k0_t1 k0_t12) a + S1x16.size a ≤ S128x512.size a := fun i v17 k0_hw8 k0_t1 k0_t12 k0_h3 => k0_hw8.1.2.2.2.2.2.2.2.2.2.2.2.2.2.2.2.2.2.2.2.2.2.2.2.2.2.2.2.2.1 k0_t1 k0_t12 k0_h3
theorem k0_off630_inb : ∀ (i : grid0.Coords) (v17 : BitVec 32) (k0_hw8 : k0_chk8 i v17) (k0_t1 : Fin k0_t1_loop.trips) (k0_t12 : Fin (k0_t12_loop i v17 k0_t1).trips), ∀ (k0_h3 : k0_cond3 i v17 k0_t1 = 1#1), ∀ a, (k0_off630 i v17 k0_t1 k0_t12) a + S1x16.size a ≤ S128x512.size a := fun i v17 k0_hw8 k0_t1 k0_t12 k0_h3 => k0_hw8.1.2.2.2.2.2.2.2.2.2.2.2.2.2.2.2.2.2.2.2.2.2.2.2.2.2.2.2.2.2.1 k0_t1 k0_t12 k0_h3
theorem k0_off631_inb : ∀ (i : grid0.Coords) (v17 : BitVec 32) (k0_hw8 : k0_chk8 i v17) (k0_t1 : Fin k0_t1_loop.trips) (k0_t12 : Fin (k0_t12_loop i v17 k0_t1).trips), ∀ (k0_h3 : k0_cond3 i v17 k0_t1 = 1#1), ∀ a, (k0_off631 i v17 k0_t1 k0_t12) a + S1x16.size a ≤ S128x512.size a := fun i v17 k0_hw8 k0_t1 k0_t12 k0_h3 => k0_hw8.1.2.2.2.2.2.2.2.2.2.2.2.2.2.2.2.2.2.2.2.2.2.2.2.2.2.2.2.2.2.2.1 k0_t1 k0_t12 k0_h3
theorem k0_off632_inb : ∀ (i : grid0.Coords) (v17 : BitVec 32) (k0_hw8 : k0_chk8 i v17) (k0_t1 : Fin k0_t1_loop.trips) (k0_t12 : Fin (k0_t12_loop i v17 k0_t1).trips), ∀ (k0_h3 : k0_cond3 i v17 k0_t1 = 1#1), ∀ a, (k0_off632 i v17 k0_t1 k0_t12) a + S1x16.size a ≤ S128x512.size a := fun i v17 k0_hw8 k0_t1 k0_t12 k0_h3 => k0_hw8.1.2.2.2.2.2.2.2.2.2.2.2.2.2.2.2.2.2.2.2.2.2.2.2.2.2.2.2.2.2.2.2 k0_t1 k0_t12 k0_h3
theorem k0_off633_inb : ∀ (i : grid0.Coords) (v17 : BitVec 32) (k0_hw8 : k0_chk8 i v17) (k0_t1 : Fin k0_t1_loop.trips) (k0_t12 : Fin (k0_t12_loop i v17 k0_t1).trips), ∀ (k0_h3 : k0_cond3 i v17 k0_t1 = 1#1), ∀ a, (k0_off633 i v17 k0_t1 k0_t12) a + S1x16.size a ≤ S128x512.size a := fun i v17 k0_hw8 k0_t1 k0_t12 k0_h3 => k0_hw8.2.1.1 k0_t1 k0_t12 k0_h3
theorem k0_off634_inb : ∀ (i : grid0.Coords) (v17 : BitVec 32) (k0_hw8 : k0_chk8 i v17) (k0_t1 : Fin k0_t1_loop.trips) (k0_t12 : Fin (k0_t12_loop i v17 k0_t1).trips), ∀ (k0_h3 : k0_cond3 i v17 k0_t1 = 1#1), ∀ a, (k0_off634 i v17 k0_t1 k0_t12) a + S1x16.size a ≤ S128x512.size a := fun i v17 k0_hw8 k0_t1 k0_t12 k0_h3 => k0_hw8.2.1.2.1 k0_t1 k0_t12 k0_h3
theorem k0_t13_ok : ∀ (i : grid0.Coords) (v17 : BitVec 32) (k0_hw8 : k0_chk8 i v17) (k0_t1 : Fin k0_t1_loop.trips), ∀ (k0_h3 : k0_cond3 i v17 k0_t1 = 1#1), (k0_t13_loop i v17 k0_t1).OK := fun i v17 k0_hw8 k0_t1 k0_h3 => k0_hw8.2.1.2.2.1 k0_t1 k0_h3
theorem k0_off635_inb : ∀ (i : grid0.Coords) (v17 : BitVec 32) (k0_hw8 : k0_chk8 i v17) (k0_t1 : Fin k0_t1_loop.trips) (k0_t13 : Fin (k0_t13_loop i v17 k0_t1).trips), ∀ (k0_h3 : k0_cond3 i v17 k0_t1 = 1#1), ∀ a, (k0_off635 i v17 k0_t1 k0_t13) a + S1x16.size a ≤ S128x16.size a := fun i v17 k0_hw8 k0_t1 k0_t13 k0_h3 => k0_hw8.2.1.2.2.2.1 k0_t1 k0_t13 k0_h3
theorem k0_off636_inb : ∀ (i : grid0.Coords) (v17 : BitVec 32) (k0_hw8 : k0_chk8 i v17) (k0_t1 : Fin k0_t1_loop.trips) (k0_t13 : Fin (k0_t13_loop i v17 k0_t1).trips), ∀ (k0_h3 : k0_cond3 i v17 k0_t1 = 1#1), ∀ a, (k0_off636 i v17 k0_t1 k0_t13) a + S1x16.size a ≤ S128x512.size a := fun i v17 k0_hw8 k0_t1 k0_t13 k0_h3 => k0_hw8.2.1.2.2.2.2.1 k0_t1 k0_t13 k0_h3
theorem k0_off637_inb : ∀ (i : grid0.Coords) (v17 : BitVec 32) (k0_hw8 : k0_chk8 i v17) (k0_t1 : Fin k0_t1_loop.trips) (k0_t13 : Fin (k0_t13_loop i v17 k0_t1).trips), ∀ (k0_h3 : k0_cond3 i v17 k0_t1 = 1#1), ∀ a, (k0_off637 i v17 k0_t1 k0_t13) a + S1x16.size a ≤ S128x512.size a := fun i v17 k0_hw8 k0_t1 k0_t13 k0_h3 => k0_hw8.2.1.2.2.2.2.2.1 k0_t1 k0_t13 k0_h3
theorem k0_off638_inb : ∀ (i : grid0.Coords) (v17 : BitVec 32) (k0_hw8 : k0_chk8 i v17) (k0_t1 : Fin k0_t1_loop.trips) (k0_t13 : Fin (k0_t13_loop i v17 k0_t1).trips), ∀ (k0_h3 : k0_cond3 i v17 k0_t1 = 1#1), ∀ a, (k0_off638 i v17 k0_t1 k0_t13) a + S1x16.size a ≤ S128x512.size a := fun i v17 k0_hw8 k0_t1 k0_t13 k0_h3 => k0_hw8.2.1.2.2.2.2.2.2.1 k0_t1 k0_t13 k0_h3
theorem k0_off639_inb : ∀ (i : grid0.Coords) (v17 : BitVec 32) (k0_hw8 : k0_chk8 i v17) (k0_t1 : Fin k0_t1_loop.trips) (k0_t13 : Fin (k0_t13_loop i v17 k0_t1).trips), ∀ (k0_h3 : k0_cond3 i v17 k0_t1 = 1#1), ∀ a, (k0_off639 i v17 k0_t1 k0_t13) a + S1x16.size a ≤ S128x512.size a := fun i v17 k0_hw8 k0_t1 k0_t13 k0_h3 => k0_hw8.2.1.2.2.2.2.2.2.2.1 k0_t1 k0_t13 k0_h3
theorem k0_off640_inb : ∀ (i : grid0.Coords) (v17 : BitVec 32) (k0_hw8 : k0_chk8 i v17) (k0_t1 : Fin k0_t1_loop.trips) (k0_t13 : Fin (k0_t13_loop i v17 k0_t1).trips), ∀ (k0_h3 : k0_cond3 i v17 k0_t1 = 1#1), ∀ a, (k0_off640 i v17 k0_t1 k0_t13) a + S1x16.size a ≤ S128x512.size a := fun i v17 k0_hw8 k0_t1 k0_t13 k0_h3 => k0_hw8.2.1.2.2.2.2.2.2.2.2.1 k0_t1 k0_t13 k0_h3
theorem k0_off641_inb : ∀ (i : grid0.Coords) (v17 : BitVec 32) (k0_hw8 : k0_chk8 i v17) (k0_t1 : Fin k0_t1_loop.trips) (k0_t13 : Fin (k0_t13_loop i v17 k0_t1).trips), ∀ (k0_h3 : k0_cond3 i v17 k0_t1 = 1#1), ∀ a, (k0_off641 i v17 k0_t1 k0_t13) a + S1x16.size a ≤ S128x512.size a := fun i v17 k0_hw8 k0_t1 k0_t13 k0_h3 => k0_hw8.2.1.2.2.2.2.2.2.2.2.2.1 k0_t1 k0_t13 k0_h3
theorem k0_off642_inb : ∀ (i : grid0.Coords) (v17 : BitVec 32) (k0_hw8 : k0_chk8 i v17) (k0_t1 : Fin k0_t1_loop.trips) (k0_t13 : Fin (k0_t13_loop i v17 k0_t1).trips), ∀ (k0_h3 : k0_cond3 i v17 k0_t1 = 1#1), ∀ a, (k0_off642 i v17 k0_t1 k0_t13) a + S1x16.size a ≤ S128x512.size a := fun i v17 k0_hw8 k0_t1 k0_t13 k0_h3 => k0_hw8.2.1.2.2.2.2.2.2.2.2.2.2.1 k0_t1 k0_t13 k0_h3
theorem k0_off643_inb : ∀ (i : grid0.Coords) (v17 : BitVec 32) (k0_hw8 : k0_chk8 i v17) (k0_t1 : Fin k0_t1_loop.trips) (k0_t13 : Fin (k0_t13_loop i v17 k0_t1).trips), ∀ (k0_h3 : k0_cond3 i v17 k0_t1 = 1#1), ∀ a, (k0_off643 i v17 k0_t1 k0_t13) a + S1x16.size a ≤ S128x512.size a := fun i v17 k0_hw8 k0_t1 k0_t13 k0_h3 => k0_hw8.2.1.2.2.2.2.2.2.2.2.2.2.2.1 k0_t1 k0_t13 k0_h3
theorem k0_off644_inb : ∀ (i : grid0.Coords) (v17 : BitVec 32) (k0_hw8 : k0_chk8 i v17) (k0_t1 : Fin k0_t1_loop.trips) (k0_t13 : Fin (k0_t13_loop i v17 k0_t1).trips), ∀ (k0_h3 : k0_cond3 i v17 k0_t1 = 1#1), ∀ a, (k0_off644 i v17 k0_t1 k0_t13) a + S1x16.size a ≤ S128x512.size a := fun i v17 k0_hw8 k0_t1 k0_t13 k0_h3 => k0_hw8.2.1.2.2.2.2.2.2.2.2.2.2.2.2.1 k0_t1 k0_t13 k0_h3
theorem k0_off645_inb : ∀ (i : grid0.Coords) (v17 : BitVec 32) (k0_hw8 : k0_chk8 i v17) (k0_t1 : Fin k0_t1_loop.trips) (k0_t13 : Fin (k0_t13_loop i v17 k0_t1).trips), ∀ (k0_h3 : k0_cond3 i v17 k0_t1 = 1#1), ∀ a, (k0_off645 i v17 k0_t1 k0_t13) a + S1x16.size a ≤ S128x512.size a := fun i v17 k0_hw8 k0_t1 k0_t13 k0_h3 => k0_hw8.2.1.2.2.2.2.2.2.2.2.2.2.2.2.2.1 k0_t1 k0_t13 k0_h3
theorem k0_off646_inb : ∀ (i : grid0.Coords) (v17 : BitVec 32) (k0_hw8 : k0_chk8 i v17) (k0_t1 : Fin k0_t1_loop.trips) (k0_t13 : Fin (k0_t13_loop i v17 k0_t1).trips), ∀ (k0_h3 : k0_cond3 i v17 k0_t1 = 1#1), ∀ a, (k0_off646 i v17 k0_t1 k0_t13) a + S1x16.size a ≤ S128x512.size a := fun i v17 k0_hw8 k0_t1 k0_t13 k0_h3 => k0_hw8.2.1.2.2.2.2.2.2.2.2.2.2.2.2.2.2.1 k0_t1 k0_t13 k0_h3
theorem k0_off647_inb : ∀ (i : grid0.Coords) (v17 : BitVec 32) (k0_hw8 : k0_chk8 i v17) (k0_t1 : Fin k0_t1_loop.trips) (k0_t13 : Fin (k0_t13_loop i v17 k0_t1).trips), ∀ (k0_h3 : k0_cond3 i v17 k0_t1 = 1#1), ∀ a, (k0_off647 i v17 k0_t1 k0_t13) a + S1x16.size a ≤ S128x512.size a := fun i v17 k0_hw8 k0_t1 k0_t13 k0_h3 => k0_hw8.2.1.2.2.2.2.2.2.2.2.2.2.2.2.2.2.2.1 k0_t1 k0_t13 k0_h3
theorem k0_off648_inb : ∀ (i : grid0.Coords) (v17 : BitVec 32) (k0_hw8 : k0_chk8 i v17) (k0_t1 : Fin k0_t1_loop.trips) (k0_t13 : Fin (k0_t13_loop i v17 k0_t1).trips), ∀ (k0_h3 : k0_cond3 i v17 k0_t1 = 1#1), ∀ a, (k0_off648 i v17 k0_t1 k0_t13) a + S1x16.size a ≤ S128x512.size a := fun i v17 k0_hw8 k0_t1 k0_t13 k0_h3 => k0_hw8.2.1.2.2.2.2.2.2.2.2.2.2.2.2.2.2.2.2.1 k0_t1 k0_t13 k0_h3
theorem k0_off649_inb : ∀ (i : grid0.Coords) (v17 : BitVec 32) (k0_hw8 : k0_chk8 i v17) (k0_t1 : Fin k0_t1_loop.trips) (k0_t13 : Fin (k0_t13_loop i v17 k0_t1).trips), ∀ (k0_h3 : k0_cond3 i v17 k0_t1 = 1#1), ∀ a, (k0_off649 i v17 k0_t1 k0_t13) a + S1x16.size a ≤ S128x512.size a := fun i v17 k0_hw8 k0_t1 k0_t13 k0_h3 => k0_hw8.2.1.2.2.2.2.2.2.2.2.2.2.2.2.2.2.2.2.2.1 k0_t1 k0_t13 k0_h3
theorem k0_off650_inb : ∀ (i : grid0.Coords) (v17 : BitVec 32) (k0_hw8 : k0_chk8 i v17) (k0_t1 : Fin k0_t1_loop.trips) (k0_t13 : Fin (k0_t13_loop i v17 k0_t1).trips), ∀ (k0_h3 : k0_cond3 i v17 k0_t1 = 1#1), ∀ a, (k0_off650 i v17 k0_t1 k0_t13) a + S1x16.size a ≤ S128x512.size a := fun i v17 k0_hw8 k0_t1 k0_t13 k0_h3 => k0_hw8.2.1.2.2.2.2.2.2.2.2.2.2.2.2.2.2.2.2.2.2.1 k0_t1 k0_t13 k0_h3
theorem k0_off651_inb : ∀ (i : grid0.Coords) (v17 : BitVec 32) (k0_hw8 : k0_chk8 i v17) (k0_t1 : Fin k0_t1_loop.trips) (k0_t13 : Fin (k0_t13_loop i v17 k0_t1).trips), ∀ (k0_h3 : k0_cond3 i v17 k0_t1 = 1#1), ∀ a, (k0_off651 i v17 k0_t1 k0_t13) a + S1x16.size a ≤ S128x512.size a := fun i v17 k0_hw8 k0_t1 k0_t13 k0_h3 => k0_hw8.2.1.2.2.2.2.2.2.2.2.2.2.2.2.2.2.2.2.2.2.2.1 k0_t1 k0_t13 k0_h3
theorem k0_off652_inb : ∀ (i : grid0.Coords) (v17 : BitVec 32) (k0_hw8 : k0_chk8 i v17) (k0_t1 : Fin k0_t1_loop.trips) (k0_t13 : Fin (k0_t13_loop i v17 k0_t1).trips), ∀ (k0_h3 : k0_cond3 i v17 k0_t1 = 1#1), ∀ a, (k0_off652 i v17 k0_t1 k0_t13) a + S1x16.size a ≤ S128x512.size a := fun i v17 k0_hw8 k0_t1 k0_t13 k0_h3 => k0_hw8.2.1.2.2.2.2.2.2.2.2.2.2.2.2.2.2.2.2.2.2.2.2.1 k0_t1 k0_t13 k0_h3
theorem k0_off653_inb : ∀ (i : grid0.Coords) (v17 : BitVec 32) (k0_hw8 : k0_chk8 i v17) (k0_t1 : Fin k0_t1_loop.trips) (k0_t13 : Fin (k0_t13_loop i v17 k0_t1).trips), ∀ (k0_h3 : k0_cond3 i v17 k0_t1 = 1#1), ∀ a, (k0_off653 i v17 k0_t1 k0_t13) a + S1x16.size a ≤ S128x512.size a := fun i v17 k0_hw8 k0_t1 k0_t13 k0_h3 => k0_hw8.2.1.2.2.2.2.2.2.2.2.2.2.2.2.2.2.2.2.2.2.2.2.2.1 k0_t1 k0_t13 k0_h3
theorem k0_off654_inb : ∀ (i : grid0.Coords) (v17 : BitVec 32) (k0_hw8 : k0_chk8 i v17) (k0_t1 : Fin k0_t1_loop.trips) (k0_t13 : Fin (k0_t13_loop i v17 k0_t1).trips), ∀ (k0_h3 : k0_cond3 i v17 k0_t1 = 1#1), ∀ a, (k0_off654 i v17 k0_t1 k0_t13) a + S1x16.size a ≤ S128x512.size a := fun i v17 k0_hw8 k0_t1 k0_t13 k0_h3 => k0_hw8.2.1.2.2.2.2.2.2.2.2.2.2.2.2.2.2.2.2.2.2.2.2.2.2.1 k0_t1 k0_t13 k0_h3
theorem k0_off655_inb : ∀ (i : grid0.Coords) (v17 : BitVec 32) (k0_hw8 : k0_chk8 i v17) (k0_t1 : Fin k0_t1_loop.trips) (k0_t13 : Fin (k0_t13_loop i v17 k0_t1).trips), ∀ (k0_h3 : k0_cond3 i v17 k0_t1 = 1#1), ∀ a, (k0_off655 i v17 k0_t1 k0_t13) a + S1x16.size a ≤ S128x512.size a := fun i v17 k0_hw8 k0_t1 k0_t13 k0_h3 => k0_hw8.2.1.2.2.2.2.2.2.2.2.2.2.2.2.2.2.2.2.2.2.2.2.2.2.2.1 k0_t1 k0_t13 k0_h3
theorem k0_off656_inb : ∀ (i : grid0.Coords) (v17 : BitVec 32) (k0_hw8 : k0_chk8 i v17) (k0_t1 : Fin k0_t1_loop.trips) (k0_t13 : Fin (k0_t13_loop i v17 k0_t1).trips), ∀ (k0_h3 : k0_cond3 i v17 k0_t1 = 1#1), ∀ a, (k0_off656 i v17 k0_t1 k0_t13) a + S1x16.size a ≤ S128x512.size a := fun i v17 k0_hw8 k0_t1 k0_t13 k0_h3 => k0_hw8.2.1.2.2.2.2.2.2.2.2.2.2.2.2.2.2.2.2.2.2.2.2.2.2.2.2.1 k0_t1 k0_t13 k0_h3
theorem k0_off657_inb : ∀ (i : grid0.Coords) (v17 : BitVec 32) (k0_hw8 : k0_chk8 i v17) (k0_t1 : Fin k0_t1_loop.trips) (k0_t13 : Fin (k0_t13_loop i v17 k0_t1).trips), ∀ (k0_h3 : k0_cond3 i v17 k0_t1 = 1#1), ∀ a, (k0_off657 i v17 k0_t1 k0_t13) a + S1x16.size a ≤ S128x512.size a := fun i v17 k0_hw8 k0_t1 k0_t13 k0_h3 => k0_hw8.2.1.2.2.2.2.2.2.2.2.2.2.2.2.2.2.2.2.2.2.2.2.2.2.2.2.2.1 k0_t1 k0_t13 k0_h3
theorem k0_off658_inb : ∀ (i : grid0.Coords) (v17 : BitVec 32) (k0_hw8 : k0_chk8 i v17) (k0_t1 : Fin k0_t1_loop.trips) (k0_t13 : Fin (k0_t13_loop i v17 k0_t1).trips), ∀ (k0_h3 : k0_cond3 i v17 k0_t1 = 1#1), ∀ a, (k0_off658 i v17 k0_t1 k0_t13) a + S1x16.size a ≤ S128x512.size a := fun i v17 k0_hw8 k0_t1 k0_t13 k0_h3 => k0_hw8.2.1.2.2.2.2.2.2.2.2.2.2.2.2.2.2.2.2.2.2.2.2.2.2.2.2.2.2.1 k0_t1 k0_t13 k0_h3
theorem k0_off659_inb : ∀ (i : grid0.Coords) (v17 : BitVec 32) (k0_hw8 : k0_chk8 i v17) (k0_t1 : Fin k0_t1_loop.trips) (k0_t13 : Fin (k0_t13_loop i v17 k0_t1).trips), ∀ (k0_h3 : k0_cond3 i v17 k0_t1 = 1#1), ∀ a, (k0_off659 i v17 k0_t1 k0_t13) a + S1x16.size a ≤ S128x512.size a := fun i v17 k0_hw8 k0_t1 k0_t13 k0_h3 => k0_hw8.2.1.2.2.2.2.2.2.2.2.2.2.2.2.2.2.2.2.2.2.2.2.2.2.2.2.2.2.2.1 k0_t1 k0_t13 k0_h3
theorem k0_off660_inb : ∀ (i : grid0.Coords) (v17 : BitVec 32) (k0_hw8 : k0_chk8 i v17) (k0_t1 : Fin k0_t1_loop.trips) (k0_t13 : Fin (k0_t13_loop i v17 k0_t1).trips), ∀ (k0_h3 : k0_cond3 i v17 k0_t1 = 1#1), ∀ a, (k0_off660 i v17 k0_t1 k0_t13) a + S1x16.size a ≤ S128x512.size a := fun i v17 k0_hw8 k0_t1 k0_t13 k0_h3 => k0_hw8.2.1.2.2.2.2.2.2.2.2.2.2.2.2.2.2.2.2.2.2.2.2.2.2.2.2.2.2.2.2.1 k0_t1 k0_t13 k0_h3
theorem k0_off661_inb : ∀ (i : grid0.Coords) (v17 : BitVec 32) (k0_hw8 : k0_chk8 i v17) (k0_t1 : Fin k0_t1_loop.trips) (k0_t13 : Fin (k0_t13_loop i v17 k0_t1).trips), ∀ (k0_h3 : k0_cond3 i v17 k0_t1 = 1#1), ∀ a, (k0_off661 i v17 k0_t1 k0_t13) a + S1x16.size a ≤ S128x512.size a := fun i v17 k0_hw8 k0_t1 k0_t13 k0_h3 => k0_hw8.2.1.2.2.2.2.2.2.2.2.2.2.2.2.2.2.2.2.2.2.2.2.2.2.2.2.2.2.2.2.2.1 k0_t1 k0_t13 k0_h3
theorem k0_off662_inb : ∀ (i : grid0.Coords) (v17 : BitVec 32) (k0_hw8 : k0_chk8 i v17) (k0_t1 : Fin k0_t1_loop.trips) (k0_t13 : Fin (k0_t13_loop i v17 k0_t1).trips), ∀ (k0_h3 : k0_cond3 i v17 k0_t1 = 1#1), ∀ a, (k0_off662 i v17 k0_t1 k0_t13) a + S1x16.size a ≤ S128x512.size a := fun i v17 k0_hw8 k0_t1 k0_t13 k0_h3 => k0_hw8.2.1.2.2.2.2.2.2.2.2.2.2.2.2.2.2.2.2.2.2.2.2.2.2.2.2.2.2.2.2.2.2.1 k0_t1 k0_t13 k0_h3
theorem k0_off663_inb : ∀ (i : grid0.Coords) (v17 : BitVec 32) (k0_hw8 : k0_chk8 i v17) (k0_t1 : Fin k0_t1_loop.trips) (k0_t13 : Fin (k0_t13_loop i v17 k0_t1).trips), ∀ (k0_h3 : k0_cond3 i v17 k0_t1 = 1#1), ∀ a, (k0_off663 i v17 k0_t1 k0_t13) a + S1x16.size a ≤ S128x512.size a := fun i v17 k0_hw8 k0_t1 k0_t13 k0_h3 => k0_hw8.2.1.2.2.2.2.2.2.2.2.2.2.2.2.2.2.2.2.2.2.2.2.2.2.2.2.2.2.2.2.2.2.2 k0_t1 k0_t13 k0_h3
theorem k0_off664_inb : ∀ (i : grid0.Coords) (v17 : BitVec 32) (k0_hw8 : k0_chk8 i v17) (k0_t1 : Fin k0_t1_loop.trips) (k0_t13 : Fin (k0_t13_loop i v17 k0_t1).trips), ∀ (k0_h3 : k0_cond3 i v17 k0_t1 = 1#1), ∀ a, (k0_off664 i v17 k0_t1 k0_t13) a + S1x16.size a ≤ S128x512.size a := fun i v17 k0_hw8 k0_t1 k0_t13 k0_h3 => k0_hw8.2.2.1.1 k0_t1 k0_t13 k0_h3
theorem k0_off665_inb : ∀ (i : grid0.Coords) (v17 : BitVec 32) (k0_hw8 : k0_chk8 i v17) (k0_t1 : Fin k0_t1_loop.trips) (k0_t13 : Fin (k0_t13_loop i v17 k0_t1).trips), ∀ (k0_h3 : k0_cond3 i v17 k0_t1 = 1#1), ∀ a, (k0_off665 i v17 k0_t1 k0_t13) a + S1x16.size a ≤ S128x512.size a := fun i v17 k0_hw8 k0_t1 k0_t13 k0_h3 => k0_hw8.2.2.1.2.1 k0_t1 k0_t13 k0_h3
theorem k0_off666_inb : ∀ (i : grid0.Coords) (v17 : BitVec 32) (k0_hw8 : k0_chk8 i v17) (k0_t1 : Fin k0_t1_loop.trips) (k0_t13 : Fin (k0_t13_loop i v17 k0_t1).trips), ∀ (k0_h3 : k0_cond3 i v17 k0_t1 = 1#1), ∀ a, (k0_off666 i v17 k0_t1 k0_t13) a + S1x16.size a ≤ S128x512.size a := fun i v17 k0_hw8 k0_t1 k0_t13 k0_h3 => k0_hw8.2.2.1.2.2.1 k0_t1 k0_t13 k0_h3
theorem k0_off667_inb : ∀ (i : grid0.Coords) (v17 : BitVec 32) (k0_hw8 : k0_chk8 i v17) (k0_t1 : Fin k0_t1_loop.trips) (k0_t13 : Fin (k0_t13_loop i v17 k0_t1).trips), ∀ (k0_h3 : k0_cond3 i v17 k0_t1 = 1#1), ∀ a, (k0_off667 i v17 k0_t1 k0_t13) a + S1x16.size a ≤ S128x512.size a := fun i v17 k0_hw8 k0_t1 k0_t13 k0_h3 => k0_hw8.2.2.1.2.2.2.1 k0_t1 k0_t13 k0_h3
theorem k0_t14_ok : ∀ (i : grid0.Coords) (v17 : BitVec 32) (k0_hw8 : k0_chk8 i v17) (k0_t1 : Fin k0_t1_loop.trips), ∀ (k0_h3 : k0_cond3 i v17 k0_t1 = 1#1), (k0_t14_loop i v17 k0_t1).OK := fun i v17 k0_hw8 k0_t1 k0_h3 => k0_hw8.2.2.1.2.2.2.2.1 k0_t1 k0_h3
theorem k0_off668_inb : ∀ (i : grid0.Coords) (v17 : BitVec 32) (k0_hw8 : k0_chk8 i v17) (k0_t1 : Fin k0_t1_loop.trips) (k0_t14 : Fin (k0_t14_loop i v17 k0_t1).trips), ∀ (k0_h3 : k0_cond3 i v17 k0_t1 = 1#1), ∀ a, (k0_off668 i v17 k0_t1 k0_t14) a + S1x16.size a ≤ S128x512.size a := fun i v17 k0_hw8 k0_t1 k0_t14 k0_h3 => k0_hw8.2.2.1.2.2.2.2.2.1 k0_t1 k0_t14 k0_h3
theorem k0_off669_inb : ∀ (i : grid0.Coords) (v17 : BitVec 32) (k0_hw8 : k0_chk8 i v17) (k0_t1 : Fin k0_t1_loop.trips) (k0_t14 : Fin (k0_t14_loop i v17 k0_t1).trips), ∀ (k0_h3 : k0_cond3 i v17 k0_t1 = 1#1), ∀ a, (k0_off669 i v17 k0_t1 k0_t14) a + S1x16.size a ≤ S128x512.size a := fun i v17 k0_hw8 k0_t1 k0_t14 k0_h3 => k0_hw8.2.2.1.2.2.2.2.2.2.1 k0_t1 k0_t14 k0_h3
theorem k0_off670_inb : ∀ (i : grid0.Coords) (v17 : BitVec 32) (k0_hw8 : k0_chk8 i v17) (k0_t1 : Fin k0_t1_loop.trips) (k0_t14 : Fin (k0_t14_loop i v17 k0_t1).trips), ∀ (k0_h3 : k0_cond3 i v17 k0_t1 = 1#1), ∀ a, (k0_off670 i v17 k0_t1 k0_t14) a + S1x16.size a ≤ S128x512.size a := fun i v17 k0_hw8 k0_t1 k0_t14 k0_h3 => k0_hw8.2.2.1.2.2.2.2.2.2.2.1 k0_t1 k0_t14 k0_h3
theorem k0_off671_inb : ∀ (i : grid0.Coords) (v17 : BitVec 32) (k0_hw8 : k0_chk8 i v17) (k0_t1 : Fin k0_t1_loop.trips) (k0_t14 : Fin (k0_t14_loop i v17 k0_t1).trips), ∀ (k0_h3 : k0_cond3 i v17 k0_t1 = 1#1), ∀ a, (k0_off671 i v17 k0_t1 k0_t14) a + S1x16.size a ≤ S128x512.size a := fun i v17 k0_hw8 k0_t1 k0_t14 k0_h3 => k0_hw8.2.2.1.2.2.2.2.2.2.2.2.1 k0_t1 k0_t14 k0_h3
theorem k0_off672_inb : ∀ (i : grid0.Coords) (v17 : BitVec 32) (k0_hw8 : k0_chk8 i v17) (k0_t1 : Fin k0_t1_loop.trips) (k0_t14 : Fin (k0_t14_loop i v17 k0_t1).trips), ∀ (k0_h3 : k0_cond3 i v17 k0_t1 = 1#1), ∀ a, (k0_off672 i v17 k0_t1 k0_t14) a + S1x16.size a ≤ S128x512.size a := fun i v17 k0_hw8 k0_t1 k0_t14 k0_h3 => k0_hw8.2.2.1.2.2.2.2.2.2.2.2.2.1 k0_t1 k0_t14 k0_h3
theorem k0_off673_inb : ∀ (i : grid0.Coords) (v17 : BitVec 32) (k0_hw8 : k0_chk8 i v17) (k0_t1 : Fin k0_t1_loop.trips) (k0_t14 : Fin (k0_t14_loop i v17 k0_t1).trips), ∀ (k0_h3 : k0_cond3 i v17 k0_t1 = 1#1), ∀ a, (k0_off673 i v17 k0_t1 k0_t14) a + S1x16.size a ≤ S128x512.size a := fun i v17 k0_hw8 k0_t1 k0_t14 k0_h3 => k0_hw8.2.2.1.2.2.2.2.2.2.2.2.2.2.1 k0_t1 k0_t14 k0_h3
theorem k0_off674_inb : ∀ (i : grid0.Coords) (v17 : BitVec 32) (k0_hw8 : k0_chk8 i v17) (k0_t1 : Fin k0_t1_loop.trips) (k0_t14 : Fin (k0_t14_loop i v17 k0_t1).trips), ∀ (k0_h3 : k0_cond3 i v17 k0_t1 = 1#1), ∀ a, (k0_off674 i v17 k0_t1 k0_t14) a + S1x16.size a ≤ S128x512.size a := fun i v17 k0_hw8 k0_t1 k0_t14 k0_h3 => k0_hw8.2.2.1.2.2.2.2.2.2.2.2.2.2.2.1 k0_t1 k0_t14 k0_h3
theorem k0_off675_inb : ∀ (i : grid0.Coords) (v17 : BitVec 32) (k0_hw8 : k0_chk8 i v17) (k0_t1 : Fin k0_t1_loop.trips) (k0_t14 : Fin (k0_t14_loop i v17 k0_t1).trips), ∀ (k0_h3 : k0_cond3 i v17 k0_t1 = 1#1), ∀ a, (k0_off675 i v17 k0_t1 k0_t14) a + S1x16.size a ≤ S128x512.size a := fun i v17 k0_hw8 k0_t1 k0_t14 k0_h3 => k0_hw8.2.2.1.2.2.2.2.2.2.2.2.2.2.2.2.1 k0_t1 k0_t14 k0_h3
theorem k0_off676_inb : ∀ (i : grid0.Coords) (v17 : BitVec 32) (k0_hw8 : k0_chk8 i v17) (k0_t1 : Fin k0_t1_loop.trips) (k0_t14 : Fin (k0_t14_loop i v17 k0_t1).trips), ∀ (k0_h3 : k0_cond3 i v17 k0_t1 = 1#1), ∀ a, (k0_off676 i v17 k0_t1 k0_t14) a + S1x16.size a ≤ S128x512.size a := fun i v17 k0_hw8 k0_t1 k0_t14 k0_h3 => k0_hw8.2.2.1.2.2.2.2.2.2.2.2.2.2.2.2.2.1 k0_t1 k0_t14 k0_h3
theorem k0_off677_inb : ∀ (i : grid0.Coords) (v17 : BitVec 32) (k0_hw8 : k0_chk8 i v17) (k0_t1 : Fin k0_t1_loop.trips) (k0_t14 : Fin (k0_t14_loop i v17 k0_t1).trips), ∀ (k0_h3 : k0_cond3 i v17 k0_t1 = 1#1), ∀ a, (k0_off677 i v17 k0_t1 k0_t14) a + S1x16.size a ≤ S128x512.size a := fun i v17 k0_hw8 k0_t1 k0_t14 k0_h3 => k0_hw8.2.2.1.2.2.2.2.2.2.2.2.2.2.2.2.2.2.1 k0_t1 k0_t14 k0_h3
theorem k0_off678_inb : ∀ (i : grid0.Coords) (v17 : BitVec 32) (k0_hw8 : k0_chk8 i v17) (k0_t1 : Fin k0_t1_loop.trips) (k0_t14 : Fin (k0_t14_loop i v17 k0_t1).trips), ∀ (k0_h3 : k0_cond3 i v17 k0_t1 = 1#1), ∀ a, (k0_off678 i v17 k0_t1 k0_t14) a + S1x16.size a ≤ S128x512.size a := fun i v17 k0_hw8 k0_t1 k0_t14 k0_h3 => k0_hw8.2.2.1.2.2.2.2.2.2.2.2.2.2.2.2.2.2.2.1 k0_t1 k0_t14 k0_h3
theorem k0_off679_inb : ∀ (i : grid0.Coords) (v17 : BitVec 32) (k0_hw8 : k0_chk8 i v17) (k0_t1 : Fin k0_t1_loop.trips) (k0_t14 : Fin (k0_t14_loop i v17 k0_t1).trips), ∀ (k0_h3 : k0_cond3 i v17 k0_t1 = 1#1), ∀ a, (k0_off679 i v17 k0_t1 k0_t14) a + S1x16.size a ≤ S128x512.size a := fun i v17 k0_hw8 k0_t1 k0_t14 k0_h3 => k0_hw8.2.2.1.2.2.2.2.2.2.2.2.2.2.2.2.2.2.2.2.1 k0_t1 k0_t14 k0_h3
theorem k0_off680_inb : ∀ (i : grid0.Coords) (v17 : BitVec 32) (k0_hw8 : k0_chk8 i v17) (k0_t1 : Fin k0_t1_loop.trips) (k0_t14 : Fin (k0_t14_loop i v17 k0_t1).trips), ∀ (k0_h3 : k0_cond3 i v17 k0_t1 = 1#1), ∀ a, (k0_off680 i v17 k0_t1 k0_t14) a + S1x16.size a ≤ S128x512.size a := fun i v17 k0_hw8 k0_t1 k0_t14 k0_h3 => k0_hw8.2.2.1.2.2.2.2.2.2.2.2.2.2.2.2.2.2.2.2.2.1 k0_t1 k0_t14 k0_h3
theorem k0_off681_inb : ∀ (i : grid0.Coords) (v17 : BitVec 32) (k0_hw8 : k0_chk8 i v17) (k0_t1 : Fin k0_t1_loop.trips) (k0_t14 : Fin (k0_t14_loop i v17 k0_t1).trips), ∀ (k0_h3 : k0_cond3 i v17 k0_t1 = 1#1), ∀ a, (k0_off681 i v17 k0_t1 k0_t14) a + S1x16.size a ≤ S128x512.size a := fun i v17 k0_hw8 k0_t1 k0_t14 k0_h3 => k0_hw8.2.2.1.2.2.2.2.2.2.2.2.2.2.2.2.2.2.2.2.2.2.1 k0_t1 k0_t14 k0_h3
theorem k0_off682_inb : ∀ (i : grid0.Coords) (v17 : BitVec 32) (k0_hw8 : k0_chk8 i v17) (k0_t1 : Fin k0_t1_loop.trips) (k0_t14 : Fin (k0_t14_loop i v17 k0_t1).trips), ∀ (k0_h3 : k0_cond3 i v17 k0_t1 = 1#1), ∀ a, (k0_off682 i v17 k0_t1 k0_t14) a + S1x16.size a ≤ S128x512.size a := fun i v17 k0_hw8 k0_t1 k0_t14 k0_h3 => k0_hw8.2.2.1.2.2.2.2.2.2.2.2.2.2.2.2.2.2.2.2.2.2.2.1 k0_t1 k0_t14 k0_h3
theorem k0_off683_inb : ∀ (i : grid0.Coords) (v17 : BitVec 32) (k0_hw8 : k0_chk8 i v17) (k0_t1 : Fin k0_t1_loop.trips) (k0_t14 : Fin (k0_t14_loop i v17 k0_t1).trips), ∀ (k0_h3 : k0_cond3 i v17 k0_t1 = 1#1), ∀ a, (k0_off683 i v17 k0_t1 k0_t14) a + S1x16.size a ≤ S128x512.size a := fun i v17 k0_hw8 k0_t1 k0_t14 k0_h3 => k0_hw8.2.2.1.2.2.2.2.2.2.2.2.2.2.2.2.2.2.2.2.2.2.2.2.1 k0_t1 k0_t14 k0_h3
theorem k0_off684_inb : ∀ (i : grid0.Coords) (v17 : BitVec 32) (k0_hw8 : k0_chk8 i v17) (k0_t1 : Fin k0_t1_loop.trips) (k0_t14 : Fin (k0_t14_loop i v17 k0_t1).trips), ∀ (k0_h3 : k0_cond3 i v17 k0_t1 = 1#1), ∀ a, (k0_off684 i v17 k0_t1 k0_t14) a + S1x16.size a ≤ S128x512.size a := fun i v17 k0_hw8 k0_t1 k0_t14 k0_h3 => k0_hw8.2.2.1.2.2.2.2.2.2.2.2.2.2.2.2.2.2.2.2.2.2.2.2.2.1 k0_t1 k0_t14 k0_h3
theorem k0_off685_inb : ∀ (i : grid0.Coords) (v17 : BitVec 32) (k0_hw8 : k0_chk8 i v17) (k0_t1 : Fin k0_t1_loop.trips) (k0_t14 : Fin (k0_t14_loop i v17 k0_t1).trips), ∀ (k0_h3 : k0_cond3 i v17 k0_t1 = 1#1), ∀ a, (k0_off685 i v17 k0_t1 k0_t14) a + S1x16.size a ≤ S128x512.size a := fun i v17 k0_hw8 k0_t1 k0_t14 k0_h3 => k0_hw8.2.2.1.2.2.2.2.2.2.2.2.2.2.2.2.2.2.2.2.2.2.2.2.2.2.1 k0_t1 k0_t14 k0_h3
theorem k0_off686_inb : ∀ (i : grid0.Coords) (v17 : BitVec 32) (k0_hw8 : k0_chk8 i v17) (k0_t1 : Fin k0_t1_loop.trips) (k0_t14 : Fin (k0_t14_loop i v17 k0_t1).trips), ∀ (k0_h3 : k0_cond3 i v17 k0_t1 = 1#1), ∀ a, (k0_off686 i v17 k0_t1 k0_t14) a + S1x16.size a ≤ S128x512.size a := fun i v17 k0_hw8 k0_t1 k0_t14 k0_h3 => k0_hw8.2.2.1.2.2.2.2.2.2.2.2.2.2.2.2.2.2.2.2.2.2.2.2.2.2.2.1 k0_t1 k0_t14 k0_h3
theorem k0_off687_inb : ∀ (i : grid0.Coords) (v17 : BitVec 32) (k0_hw8 : k0_chk8 i v17) (k0_t1 : Fin k0_t1_loop.trips) (k0_t14 : Fin (k0_t14_loop i v17 k0_t1).trips), ∀ (k0_h3 : k0_cond3 i v17 k0_t1 = 1#1), ∀ a, (k0_off687 i v17 k0_t1 k0_t14) a + S1x16.size a ≤ S128x512.size a := fun i v17 k0_hw8 k0_t1 k0_t14 k0_h3 => k0_hw8.2.2.1.2.2.2.2.2.2.2.2.2.2.2.2.2.2.2.2.2.2.2.2.2.2.2.2.1 k0_t1 k0_t14 k0_h3
theorem k0_off688_inb : ∀ (i : grid0.Coords) (v17 : BitVec 32) (k0_hw8 : k0_chk8 i v17) (k0_t1 : Fin k0_t1_loop.trips) (k0_t14 : Fin (k0_t14_loop i v17 k0_t1).trips), ∀ (k0_h3 : k0_cond3 i v17 k0_t1 = 1#1), ∀ a, (k0_off688 i v17 k0_t1 k0_t14) a + S1x16.size a ≤ S128x512.size a := fun i v17 k0_hw8 k0_t1 k0_t14 k0_h3 => k0_hw8.2.2.1.2.2.2.2.2.2.2.2.2.2.2.2.2.2.2.2.2.2.2.2.2.2.2.2.2.1 k0_t1 k0_t14 k0_h3
theorem k0_off689_inb : ∀ (i : grid0.Coords) (v17 : BitVec 32) (k0_hw8 : k0_chk8 i v17) (k0_t1 : Fin k0_t1_loop.trips) (k0_t14 : Fin (k0_t14_loop i v17 k0_t1).trips), ∀ (k0_h3 : k0_cond3 i v17 k0_t1 = 1#1), ∀ a, (k0_off689 i v17 k0_t1 k0_t14) a + S1x16.size a ≤ S128x512.size a := fun i v17 k0_hw8 k0_t1 k0_t14 k0_h3 => k0_hw8.2.2.1.2.2.2.2.2.2.2.2.2.2.2.2.2.2.2.2.2.2.2.2.2.2.2.2.2.2.1 k0_t1 k0_t14 k0_h3
theorem k0_off690_inb : ∀ (i : grid0.Coords) (v17 : BitVec 32) (k0_hw8 : k0_chk8 i v17) (k0_t1 : Fin k0_t1_loop.trips) (k0_t14 : Fin (k0_t14_loop i v17 k0_t1).trips), ∀ (k0_h3 : k0_cond3 i v17 k0_t1 = 1#1), ∀ a, (k0_off690 i v17 k0_t1 k0_t14) a + S1x16.size a ≤ S128x512.size a := fun i v17 k0_hw8 k0_t1 k0_t14 k0_h3 => k0_hw8.2.2.1.2.2.2.2.2.2.2.2.2.2.2.2.2.2.2.2.2.2.2.2.2.2.2.2.2.2.2.1 k0_t1 k0_t14 k0_h3
theorem k0_off691_inb : ∀ (i : grid0.Coords) (v17 : BitVec 32) (k0_hw8 : k0_chk8 i v17) (k0_t1 : Fin k0_t1_loop.trips) (k0_t14 : Fin (k0_t14_loop i v17 k0_t1).trips), ∀ (k0_h3 : k0_cond3 i v17 k0_t1 = 1#1), ∀ a, (k0_off691 i v17 k0_t1 k0_t14) a + S1x16.size a ≤ S128x512.size a := fun i v17 k0_hw8 k0_t1 k0_t14 k0_h3 => k0_hw8.2.2.1.2.2.2.2.2.2.2.2.2.2.2.2.2.2.2.2.2.2.2.2.2.2.2.2.2.2.2.2.1 k0_t1 k0_t14 k0_h3
theorem k0_off692_inb : ∀ (i : grid0.Coords) (v17 : BitVec 32) (k0_hw8 : k0_chk8 i v17) (k0_t1 : Fin k0_t1_loop.trips) (k0_t14 : Fin (k0_t14_loop i v17 k0_t1).trips), ∀ (k0_h3 : k0_cond3 i v17 k0_t1 = 1#1), ∀ a, (k0_off692 i v17 k0_t1 k0_t14) a + S1x16.size a ≤ S128x512.size a := fun i v17 k0_hw8 k0_t1 k0_t14 k0_h3 => k0_hw8.2.2.1.2.2.2.2.2.2.2.2.2.2.2.2.2.2.2.2.2.2.2.2.2.2.2.2.2.2.2.2.2.1 k0_t1 k0_t14 k0_h3
theorem k0_off693_inb : ∀ (i : grid0.Coords) (v17 : BitVec 32) (k0_hw8 : k0_chk8 i v17) (k0_t1 : Fin k0_t1_loop.trips) (k0_t14 : Fin (k0_t14_loop i v17 k0_t1).trips), ∀ (k0_h3 : k0_cond3 i v17 k0_t1 = 1#1), ∀ a, (k0_off693 i v17 k0_t1 k0_t14) a + S1x16.size a ≤ S128x512.size a := fun i v17 k0_hw8 k0_t1 k0_t14 k0_h3 => k0_hw8.2.2.1.2.2.2.2.2.2.2.2.2.2.2.2.2.2.2.2.2.2.2.2.2.2.2.2.2.2.2.2.2.2.1 k0_t1 k0_t14 k0_h3
theorem k0_off694_inb : ∀ (i : grid0.Coords) (v17 : BitVec 32) (k0_hw8 : k0_chk8 i v17) (k0_t1 : Fin k0_t1_loop.trips) (k0_t14 : Fin (k0_t14_loop i v17 k0_t1).trips), ∀ (k0_h3 : k0_cond3 i v17 k0_t1 = 1#1), ∀ a, (k0_off694 i v17 k0_t1 k0_t14) a + S1x16.size a ≤ S128x512.size a := fun i v17 k0_hw8 k0_t1 k0_t14 k0_h3 => k0_hw8.2.2.1.2.2.2.2.2.2.2.2.2.2.2.2.2.2.2.2.2.2.2.2.2.2.2.2.2.2.2.2.2.2.2 k0_t1 k0_t14 k0_h3
theorem k0_off695_inb : ∀ (i : grid0.Coords) (v17 : BitVec 32) (k0_hw8 : k0_chk8 i v17) (k0_t1 : Fin k0_t1_loop.trips) (k0_t14 : Fin (k0_t14_loop i v17 k0_t1).trips), ∀ (k0_h3 : k0_cond3 i v17 k0_t1 = 1#1), ∀ a, (k0_off695 i v17 k0_t1 k0_t14) a + S1x16.size a ≤ S128x512.size a := fun i v17 k0_hw8 k0_t1 k0_t14 k0_h3 => k0_hw8.2.2.2.1.1 k0_t1 k0_t14 k0_h3
theorem k0_off696_inb : ∀ (i : grid0.Coords) (v17 : BitVec 32) (k0_hw8 : k0_chk8 i v17) (k0_t1 : Fin k0_t1_loop.trips) (k0_t14 : Fin (k0_t14_loop i v17 k0_t1).trips), ∀ (k0_h3 : k0_cond3 i v17 k0_t1 = 1#1), ∀ a, (k0_off696 i v17 k0_t1 k0_t14) a + S1x16.size a ≤ S128x512.size a := fun i v17 k0_hw8 k0_t1 k0_t14 k0_h3 => k0_hw8.2.2.2.1.2.1 k0_t1 k0_t14 k0_h3
theorem k0_off697_inb : ∀ (i : grid0.Coords) (v17 : BitVec 32) (k0_hw8 : k0_chk8 i v17) (k0_t1 : Fin k0_t1_loop.trips) (k0_t14 : Fin (k0_t14_loop i v17 k0_t1).trips), ∀ (k0_h3 : k0_cond3 i v17 k0_t1 = 1#1), ∀ a, (k0_off697 i v17 k0_t1 k0_t14) a + S1x16.size a ≤ S128x512.size a := fun i v17 k0_hw8 k0_t1 k0_t14 k0_h3 => k0_hw8.2.2.2.1.2.2.1 k0_t1 k0_t14 k0_h3
theorem k0_off698_inb : ∀ (i : grid0.Coords) (v17 : BitVec 32) (k0_hw8 : k0_chk8 i v17) (k0_t1 : Fin k0_t1_loop.trips) (k0_t14 : Fin (k0_t14_loop i v17 k0_t1).trips), ∀ (k0_h3 : k0_cond3 i v17 k0_t1 = 1#1), ∀ a, (k0_off698 i v17 k0_t1 k0_t14) a + S1x16.size a ≤ S128x512.size a := fun i v17 k0_hw8 k0_t1 k0_t14 k0_h3 => k0_hw8.2.2.2.1.2.2.2.1 k0_t1 k0_t14 k0_h3
theorem k0_off699_inb : ∀ (i : grid0.Coords) (v17 : BitVec 32) (k0_hw8 : k0_chk8 i v17) (k0_t1 : Fin k0_t1_loop.trips) (k0_t14 : Fin (k0_t14_loop i v17 k0_t1).trips), ∀ (k0_h3 : k0_cond3 i v17 k0_t1 = 1#1), ∀ a, (k0_off699 i v17 k0_t1 k0_t14) a + S1x16.size a ≤ S128x512.size a := fun i v17 k0_hw8 k0_t1 k0_t14 k0_h3 => k0_hw8.2.2.2.1.2.2.2.2.1 k0_t1 k0_t14 k0_h3
theorem k0_t15_ok : ∀ (i : grid0.Coords) (v17 : BitVec 32) (k0_hw8 : k0_chk8 i v17) (k0_t1 : Fin k0_t1_loop.trips), ∀ (k0_h3 : k0_cond3 i v17 k0_t1 = 1#1), (k0_t15_loop i v17 k0_t1).OK := fun i v17 k0_hw8 k0_t1 k0_h3 => k0_hw8.2.2.2.1.2.2.2.2.2.1 k0_t1 k0_h3
theorem k0_off700_inb : ∀ (i : grid0.Coords) (v17 : BitVec 32) (k0_hw8 : k0_chk8 i v17) (k0_t1 : Fin k0_t1_loop.trips) (k0_t15 : Fin (k0_t15_loop i v17 k0_t1).trips), ∀ (k0_h3 : k0_cond3 i v17 k0_t1 = 1#1), ∀ a, (k0_off700 i v17 k0_t1 k0_t15) a + S1x16.size a ≤ S128x512.size a := fun i v17 k0_hw8 k0_t1 k0_t15 k0_h3 => k0_hw8.2.2.2.1.2.2.2.2.2.2.1 k0_t1 k0_t15 k0_h3
theorem k0_off701_inb : ∀ (i : grid0.Coords) (v17 : BitVec 32) (k0_hw8 : k0_chk8 i v17) (k0_t1 : Fin k0_t1_loop.trips) (k0_t15 : Fin (k0_t15_loop i v17 k0_t1).trips), ∀ (k0_h3 : k0_cond3 i v17 k0_t1 = 1#1), ∀ a, (k0_off701 i v17 k0_t1 k0_t15) a + S1x16.size a ≤ S128x512.size a := fun i v17 k0_hw8 k0_t1 k0_t15 k0_h3 => k0_hw8.2.2.2.1.2.2.2.2.2.2.2.1 k0_t1 k0_t15 k0_h3
theorem k0_off702_inb : ∀ (i : grid0.Coords) (v17 : BitVec 32) (k0_hw8 : k0_chk8 i v17) (k0_t1 : Fin k0_t1_loop.trips) (k0_t15 : Fin (k0_t15_loop i v17 k0_t1).trips), ∀ (k0_h3 : k0_cond3 i v17 k0_t1 = 1#1), ∀ a, (k0_off702 i v17 k0_t1 k0_t15) a + S1x16.size a ≤ S128x512.size a := fun i v17 k0_hw8 k0_t1 k0_t15 k0_h3 => k0_hw8.2.2.2.1.2.2.2.2.2.2.2.2.1 k0_t1 k0_t15 k0_h3
theorem k0_off703_inb : ∀ (i : grid0.Coords) (v17 : BitVec 32) (k0_hw8 : k0_chk8 i v17) (k0_t1 : Fin k0_t1_loop.trips) (k0_t15 : Fin (k0_t15_loop i v17 k0_t1).trips), ∀ (k0_h3 : k0_cond3 i v17 k0_t1 = 1#1), ∀ a, (k0_off703 i v17 k0_t1 k0_t15) a + S1x16.size a ≤ S128x512.size a := fun i v17 k0_hw8 k0_t1 k0_t15 k0_h3 => k0_hw8.2.2.2.1.2.2.2.2.2.2.2.2.2.1 k0_t1 k0_t15 k0_h3
theorem k0_off704_inb : ∀ (i : grid0.Coords) (v17 : BitVec 32) (k0_hw8 : k0_chk8 i v17) (k0_t1 : Fin k0_t1_loop.trips) (k0_t15 : Fin (k0_t15_loop i v17 k0_t1).trips), ∀ (k0_h3 : k0_cond3 i v17 k0_t1 = 1#1), ∀ a, (k0_off704 i v17 k0_t1 k0_t15) a + S1x16.size a ≤ S128x512.size a := fun i v17 k0_hw8 k0_t1 k0_t15 k0_h3 => k0_hw8.2.2.2.1.2.2.2.2.2.2.2.2.2.2.1 k0_t1 k0_t15 k0_h3
theorem k0_off705_inb : ∀ (i : grid0.Coords) (v17 : BitVec 32) (k0_hw8 : k0_chk8 i v17) (k0_t1 : Fin k0_t1_loop.trips) (k0_t15 : Fin (k0_t15_loop i v17 k0_t1).trips), ∀ (k0_h3 : k0_cond3 i v17 k0_t1 = 1#1), ∀ a, (k0_off705 i v17 k0_t1 k0_t15) a + S1x16.size a ≤ S128x512.size a := fun i v17 k0_hw8 k0_t1 k0_t15 k0_h3 => k0_hw8.2.2.2.1.2.2.2.2.2.2.2.2.2.2.2.1 k0_t1 k0_t15 k0_h3
theorem k0_off706_inb : ∀ (i : grid0.Coords) (v17 : BitVec 32) (k0_hw8 : k0_chk8 i v17) (k0_t1 : Fin k0_t1_loop.trips) (k0_t15 : Fin (k0_t15_loop i v17 k0_t1).trips), ∀ (k0_h3 : k0_cond3 i v17 k0_t1 = 1#1), ∀ a, (k0_off706 i v17 k0_t1 k0_t15) a + S1x16.size a ≤ S128x512.size a := fun i v17 k0_hw8 k0_t1 k0_t15 k0_h3 => k0_hw8.2.2.2.1.2.2.2.2.2.2.2.2.2.2.2.2.1 k0_t1 k0_t15 k0_h3
theorem k0_off707_inb : ∀ (i : grid0.Coords) (v17 : BitVec 32) (k0_hw8 : k0_chk8 i v17) (k0_t1 : Fin k0_t1_loop.trips) (k0_t15 : Fin (k0_t15_loop i v17 k0_t1).trips), ∀ (k0_h3 : k0_cond3 i v17 k0_t1 = 1#1), ∀ a, (k0_off707 i v17 k0_t1 k0_t15) a + S1x16.size a ≤ S128x512.size a := fun i v17 k0_hw8 k0_t1 k0_t15 k0_h3 => k0_hw8.2.2.2.1.2.2.2.2.2.2.2.2.2.2.2.2.2.1 k0_t1 k0_t15 k0_h3
theorem k0_off708_inb : ∀ (i : grid0.Coords) (v17 : BitVec 32) (k0_hw8 : k0_chk8 i v17) (k0_t1 : Fin k0_t1_loop.trips) (k0_t15 : Fin (k0_t15_loop i v17 k0_t1).trips), ∀ (k0_h3 : k0_cond3 i v17 k0_t1 = 1#1), ∀ a, (k0_off708 i v17 k0_t1 k0_t15) a + S1x16.size a ≤ S128x512.size a := fun i v17 k0_hw8 k0_t1 k0_t15 k0_h3 => k0_hw8.2.2.2.1.2.2.2.2.2.2.2.2.2.2.2.2.2.2.1 k0_t1 k0_t15 k0_h3
theorem k0_off709_inb : ∀ (i : grid0.Coords) (v17 : BitVec 32) (k0_hw8 : k0_chk8 i v17) (k0_t1 : Fin k0_t1_loop.trips) (k0_t15 : Fin (k0_t15_loop i v17 k0_t1).trips), ∀ (k0_h3 : k0_cond3 i v17 k0_t1 = 1#1), ∀ a, (k0_off709 i v17 k0_t1 k0_t15) a + S1x16.size a ≤ S128x512.size a := fun i v17 k0_hw8 k0_t1 k0_t15 k0_h3 => k0_hw8.2.2.2.1.2.2.2.2.2.2.2.2.2.2.2.2.2.2.2.1 k0_t1 k0_t15 k0_h3
theorem k0_off710_inb : ∀ (i : grid0.Coords) (v17 : BitVec 32) (k0_hw8 : k0_chk8 i v17) (k0_t1 : Fin k0_t1_loop.trips) (k0_t15 : Fin (k0_t15_loop i v17 k0_t1).trips), ∀ (k0_h3 : k0_cond3 i v17 k0_t1 = 1#1), ∀ a, (k0_off710 i v17 k0_t1 k0_t15) a + S1x16.size a ≤ S128x512.size a := fun i v17 k0_hw8 k0_t1 k0_t15 k0_h3 => k0_hw8.2.2.2.1.2.2.2.2.2.2.2.2.2.2.2.2.2.2.2.2.1 k0_t1 k0_t15 k0_h3
theorem k0_off711_inb : ∀ (i : grid0.Coords) (v17 : BitVec 32) (k0_hw8 : k0_chk8 i v17) (k0_t1 : Fin k0_t1_loop.trips) (k0_t15 : Fin (k0_t15_loop i v17 k0_t1).trips), ∀ (k0_h3 : k0_cond3 i v17 k0_t1 = 1#1), ∀ a, (k0_off711 i v17 k0_t1 k0_t15) a + S1x16.size a ≤ S128x512.size a := fun i v17 k0_hw8 k0_t1 k0_t15 k0_h3 => k0_hw8.2.2.2.1.2.2.2.2.2.2.2.2.2.2.2.2.2.2.2.2.2.1 k0_t1 k0_t15 k0_h3
theorem k0_off712_inb : ∀ (i : grid0.Coords) (v17 : BitVec 32) (k0_hw8 : k0_chk8 i v17) (k0_t1 : Fin k0_t1_loop.trips) (k0_t15 : Fin (k0_t15_loop i v17 k0_t1).trips), ∀ (k0_h3 : k0_cond3 i v17 k0_t1 = 1#1), ∀ a, (k0_off712 i v17 k0_t1 k0_t15) a + S1x16.size a ≤ S128x512.size a := fun i v17 k0_hw8 k0_t1 k0_t15 k0_h3 => k0_hw8.2.2.2.1.2.2.2.2.2.2.2.2.2.2.2.2.2.2.2.2.2.2.1 k0_t1 k0_t15 k0_h3
theorem k0_off713_inb : ∀ (i : grid0.Coords) (v17 : BitVec 32) (k0_hw8 : k0_chk8 i v17) (k0_t1 : Fin k0_t1_loop.trips) (k0_t15 : Fin (k0_t15_loop i v17 k0_t1).trips), ∀ (k0_h3 : k0_cond3 i v17 k0_t1 = 1#1), ∀ a, (k0_off713 i v17 k0_t1 k0_t15) a + S1x16.size a ≤ S128x512.size a := fun i v17 k0_hw8 k0_t1 k0_t15 k0_h3 => k0_hw8.2.2.2.1.2.2.2.2.2.2.2.2.2.2.2.2.2.2.2.2.2.2.2.1 k0_t1 k0_t15 k0_h3
theorem k0_off714_inb : ∀ (i : grid0.Coords) (v17 : BitVec 32) (k0_hw8 : k0_chk8 i v17) (k0_t1 : Fin k0_t1_loop.trips) (k0_t15 : Fin (k0_t15_loop i v17 k0_t1).trips), ∀ (k0_h3 : k0_cond3 i v17 k0_t1 = 1#1), ∀ a, (k0_off714 i v17 k0_t1 k0_t15) a + S1x16.size a ≤ S128x512.size a := fun i v17 k0_hw8 k0_t1 k0_t15 k0_h3 => k0_hw8.2.2.2.1.2.2.2.2.2.2.2.2.2.2.2.2.2.2.2.2.2.2.2.2.1 k0_t1 k0_t15 k0_h3
theorem k0_off715_inb : ∀ (i : grid0.Coords) (v17 : BitVec 32) (k0_hw8 : k0_chk8 i v17) (k0_t1 : Fin k0_t1_loop.trips) (k0_t15 : Fin (k0_t15_loop i v17 k0_t1).trips), ∀ (k0_h3 : k0_cond3 i v17 k0_t1 = 1#1), ∀ a, (k0_off715 i v17 k0_t1 k0_t15) a + S1x16.size a ≤ S128x512.size a := fun i v17 k0_hw8 k0_t1 k0_t15 k0_h3 => k0_hw8.2.2.2.1.2.2.2.2.2.2.2.2.2.2.2.2.2.2.2.2.2.2.2.2.2.1 k0_t1 k0_t15 k0_h3
theorem k0_off716_inb : ∀ (i : grid0.Coords) (v17 : BitVec 32) (k0_hw8 : k0_chk8 i v17) (k0_t1 : Fin k0_t1_loop.trips) (k0_t15 : Fin (k0_t15_loop i v17 k0_t1).trips), ∀ (k0_h3 : k0_cond3 i v17 k0_t1 = 1#1), ∀ a, (k0_off716 i v17 k0_t1 k0_t15) a + S1x16.size a ≤ S128x512.size a := fun i v17 k0_hw8 k0_t1 k0_t15 k0_h3 => k0_hw8.2.2.2.1.2.2.2.2.2.2.2.2.2.2.2.2.2.2.2.2.2.2.2.2.2.2.1 k0_t1 k0_t15 k0_h3
theorem k0_off717_inb : ∀ (i : grid0.Coords) (v17 : BitVec 32) (k0_hw8 : k0_chk8 i v17) (k0_t1 : Fin k0_t1_loop.trips) (k0_t15 : Fin (k0_t15_loop i v17 k0_t1).trips), ∀ (k0_h3 : k0_cond3 i v17 k0_t1 = 1#1), ∀ a, (k0_off717 i v17 k0_t1 k0_t15) a + S1x16.size a ≤ S128x512.size a := fun i v17 k0_hw8 k0_t1 k0_t15 k0_h3 => k0_hw8.2.2.2.1.2.2.2.2.2.2.2.2.2.2.2.2.2.2.2.2.2.2.2.2.2.2.2.1 k0_t1 k0_t15 k0_h3
theorem k0_off718_inb : ∀ (i : grid0.Coords) (v17 : BitVec 32) (k0_hw8 : k0_chk8 i v17) (k0_t1 : Fin k0_t1_loop.trips) (k0_t15 : Fin (k0_t15_loop i v17 k0_t1).trips), ∀ (k0_h3 : k0_cond3 i v17 k0_t1 = 1#1), ∀ a, (k0_off718 i v17 k0_t1 k0_t15) a + S1x16.size a ≤ S128x512.size a := fun i v17 k0_hw8 k0_t1 k0_t15 k0_h3 => k0_hw8.2.2.2.1.2.2.2.2.2.2.2.2.2.2.2.2.2.2.2.2.2.2.2.2.2.2.2.2.1 k0_t1 k0_t15 k0_h3
theorem k0_off719_inb : ∀ (i : grid0.Coords) (v17 : BitVec 32) (k0_hw8 : k0_chk8 i v17) (k0_t1 : Fin k0_t1_loop.trips) (k0_t15 : Fin (k0_t15_loop i v17 k0_t1).trips), ∀ (k0_h3 : k0_cond3 i v17 k0_t1 = 1#1), ∀ a, (k0_off719 i v17 k0_t1 k0_t15) a + S1x16.size a ≤ S128x512.size a := fun i v17 k0_hw8 k0_t1 k0_t15 k0_h3 => k0_hw8.2.2.2.1.2.2.2.2.2.2.2.2.2.2.2.2.2.2.2.2.2.2.2.2.2.2.2.2.2.1 k0_t1 k0_t15 k0_h3
theorem k0_off720_inb : ∀ (i : grid0.Coords) (v17 : BitVec 32) (k0_hw8 : k0_chk8 i v17) (k0_t1 : Fin k0_t1_loop.trips) (k0_t15 : Fin (k0_t15_loop i v17 k0_t1).trips), ∀ (k0_h3 : k0_cond3 i v17 k0_t1 = 1#1), ∀ a, (k0_off720 i v17 k0_t1 k0_t15) a + S1x16.size a ≤ S128x512.size a := fun i v17 k0_hw8 k0_t1 k0_t15 k0_h3 => k0_hw8.2.2.2.1.2.2.2.2.2.2.2.2.2.2.2.2.2.2.2.2.2.2.2.2.2.2.2.2.2.2.1 k0_t1 k0_t15 k0_h3
theorem k0_off721_inb : ∀ (i : grid0.Coords) (v17 : BitVec 32) (k0_hw8 : k0_chk8 i v17) (k0_t1 : Fin k0_t1_loop.trips) (k0_t15 : Fin (k0_t15_loop i v17 k0_t1).trips), ∀ (k0_h3 : k0_cond3 i v17 k0_t1 = 1#1), ∀ a, (k0_off721 i v17 k0_t1 k0_t15) a + S1x16.size a ≤ S128x512.size a := fun i v17 k0_hw8 k0_t1 k0_t15 k0_h3 => k0_hw8.2.2.2.1.2.2.2.2.2.2.2.2.2.2.2.2.2.2.2.2.2.2.2.2.2.2.2.2.2.2.2.1 k0_t1 k0_t15 k0_h3
theorem k0_off722_inb : ∀ (i : grid0.Coords) (v17 : BitVec 32) (k0_hw8 : k0_chk8 i v17) (k0_t1 : Fin k0_t1_loop.trips) (k0_t15 : Fin (k0_t15_loop i v17 k0_t1).trips), ∀ (k0_h3 : k0_cond3 i v17 k0_t1 = 1#1), ∀ a, (k0_off722 i v17 k0_t1 k0_t15) a + S1x16.size a ≤ S128x512.size a := fun i v17 k0_hw8 k0_t1 k0_t15 k0_h3 => k0_hw8.2.2.2.1.2.2.2.2.2.2.2.2.2.2.2.2.2.2.2.2.2.2.2.2.2.2.2.2.2.2.2.2.1 k0_t1 k0_t15 k0_h3
theorem k0_off723_inb : ∀ (i : grid0.Coords) (v17 : BitVec 32) (k0_hw8 : k0_chk8 i v17) (k0_t1 : Fin k0_t1_loop.trips) (k0_t15 : Fin (k0_t15_loop i v17 k0_t1).trips), ∀ (k0_h3 : k0_cond3 i v17 k0_t1 = 1#1), ∀ a, (k0_off723 i v17 k0_t1 k0_t15) a + S1x16.size a ≤ S128x512.size a := fun i v17 k0_hw8 k0_t1 k0_t15 k0_h3 => k0_hw8.2.2.2.1.2.2.2.2.2.2.2.2.2.2.2.2.2.2.2.2.2.2.2.2.2.2.2.2.2.2.2.2.2.1 k0_t1 k0_t15 k0_h3
theorem k0_off724_inb : ∀ (i : grid0.Coords) (v17 : BitVec 32) (k0_hw8 : k0_chk8 i v17) (k0_t1 : Fin k0_t1_loop.trips) (k0_t15 : Fin (k0_t15_loop i v17 k0_t1).trips), ∀ (k0_h3 : k0_cond3 i v17 k0_t1 = 1#1), ∀ a, (k0_off724 i v17 k0_t1 k0_t15) a + S1x16.size a ≤ S128x512.size a := fun i v17 k0_hw8 k0_t1 k0_t15 k0_h3 => k0_hw8.2.2.2.1.2.2.2.2.2.2.2.2.2.2.2.2.2.2.2.2.2.2.2.2.2.2.2.2.2.2.2.2.2.2.1 k0_t1 k0_t15 k0_h3
theorem k0_off725_inb : ∀ (i : grid0.Coords) (v17 : BitVec 32) (k0_hw8 : k0_chk8 i v17) (k0_t1 : Fin k0_t1_loop.trips) (k0_t15 : Fin (k0_t15_loop i v17 k0_t1).trips), ∀ (k0_h3 : k0_cond3 i v17 k0_t1 = 1#1), ∀ a, (k0_off725 i v17 k0_t1 k0_t15) a + S1x16.size a ≤ S128x512.size a := fun i v17 k0_hw8 k0_t1 k0_t15 k0_h3 => k0_hw8.2.2.2.1.2.2.2.2.2.2.2.2.2.2.2.2.2.2.2.2.2.2.2.2.2.2.2.2.2.2.2.2.2.2.2 k0_t1 k0_t15 k0_h3
theorem k0_off726_inb : ∀ (i : grid0.Coords) (v17 : BitVec 32) (k0_hw8 : k0_chk8 i v17) (k0_t1 : Fin k0_t1_loop.trips) (k0_t15 : Fin (k0_t15_loop i v17 k0_t1).trips), ∀ (k0_h3 : k0_cond3 i v17 k0_t1 = 1#1), ∀ a, (k0_off726 i v17 k0_t1 k0_t15) a + S1x16.size a ≤ S128x512.size a := fun i v17 k0_hw8 k0_t1 k0_t15 k0_h3 => k0_hw8.2.2.2.2.1 k0_t1 k0_t15 k0_h3
theorem k0_off727_inb : ∀ (i : grid0.Coords) (v17 : BitVec 32) (k0_hw8 : k0_chk8 i v17) (k0_t1 : Fin k0_t1_loop.trips) (k0_t15 : Fin (k0_t15_loop i v17 k0_t1).trips), ∀ (k0_h3 : k0_cond3 i v17 k0_t1 = 1#1), ∀ a, (k0_off727 i v17 k0_t1 k0_t15) a + S1x16.size a ≤ S128x512.size a := fun i v17 k0_hw8 k0_t1 k0_t15 k0_h3 => k0_hw8.2.2.2.2.2.1 k0_t1 k0_t15 k0_h3
theorem k0_off728_inb : ∀ (i : grid0.Coords) (v17 : BitVec 32) (k0_hw8 : k0_chk8 i v17) (k0_t1 : Fin k0_t1_loop.trips) (k0_t15 : Fin (k0_t15_loop i v17 k0_t1).trips), ∀ (k0_h3 : k0_cond3 i v17 k0_t1 = 1#1), ∀ a, (k0_off728 i v17 k0_t1 k0_t15) a + S1x16.size a ≤ S128x512.size a := fun i v17 k0_hw8 k0_t1 k0_t15 k0_h3 => k0_hw8.2.2.2.2.2.2.1 k0_t1 k0_t15 k0_h3
theorem k0_off729_inb : ∀ (i : grid0.Coords) (v17 : BitVec 32) (k0_hw8 : k0_chk8 i v17) (k0_t1 : Fin k0_t1_loop.trips) (k0_t15 : Fin (k0_t15_loop i v17 k0_t1).trips), ∀ (k0_h3 : k0_cond3 i v17 k0_t1 = 1#1), ∀ a, (k0_off729 i v17 k0_t1 k0_t15) a + S1x16.size a ≤ S128x512.size a := fun i v17 k0_hw8 k0_t1 k0_t15 k0_h3 => k0_hw8.2.2.2.2.2.2.2.1 k0_t1 k0_t15 k0_h3
theorem k0_off730_inb : ∀ (i : grid0.Coords) (v17 : BitVec 32) (k0_hw8 : k0_chk8 i v17) (k0_t1 : Fin k0_t1_loop.trips) (k0_t15 : Fin (k0_t15_loop i v17 k0_t1).trips), ∀ (k0_h3 : k0_cond3 i v17 k0_t1 = 1#1), ∀ a, (k0_off730 i v17 k0_t1 k0_t15) a + S1x16.size a ≤ S128x512.size a := fun i v17 k0_hw8 k0_t1 k0_t15 k0_h3 => k0_hw8.2.2.2.2.2.2.2.2.1 k0_t1 k0_t15 k0_h3
theorem k0_off731_inb : ∀ (i : grid0.Coords) (v17 : BitVec 32) (k0_hw8 : k0_chk8 i v17) (k0_t1 : Fin k0_t1_loop.trips) (k0_t15 : Fin (k0_t15_loop i v17 k0_t1).trips), ∀ (k0_h3 : k0_cond3 i v17 k0_t1 = 1#1), ∀ a, (k0_off731 i v17 k0_t1 k0_t15) a + S1x16.size a ≤ S128x512.size a := fun i v17 k0_hw8 k0_t1 k0_t15 k0_h3 => k0_hw8.2.2.2.2.2.2.2.2.2 k0_t1 k0_t15 k0_h3

def k0_off732 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c2048_i32_70 : BitVec 32 := 2048#32
  let v125 : BitVec 32 := Scalar.muli v11 c2048_i32_70
  let c32_i32 : BitVec 32 := 32#32
  let c0_i32_4 : BitVec 32 := 0#32
  let c1_i32_5 : BitVec 32 := 1#32
  let arg11 : BitVec 32 := Scf.iv c0_i32_4 c1_i32_5 k0_t1
  let v21 : BitVec 32 := Scalar.muli c32_i32 arg11
  let v22 : BitVec 32 := Scalar.addi v1 v21
  let c0_i32_8 : BitVec 32 := 0#32
  let v24 : BitVec 1 := Scalar.cmpi .sgt v22 c0_i32_8
  let v25 : BitVec 32 := Scalar.extui v24
  let c0_i32_9 : BitVec 32 := 0#32
  let v26 : BitVec 1 := Scalar.cmpi .slt v22 c0_i32_9
  let v27 : BitVec 32 := Scalar.extui v26
  let v28 : BitVec 32 := Scalar.subi v25 v27
  let c8_i32_7 : BitVec 32 := 8#32
  let c0_i32_10 : BitVec 32 := 0#32
  let v29 : BitVec 1 := Scalar.cmpi .sgt c8_i32_7 c0_i32_10
  let v30 : BitVec 32 := Scalar.extui v29
  let c0_i32_11 : BitVec 32 := 0#32
  let v31 : BitVec 1 := Scalar.cmpi .slt c8_i32_7 c0_i32_11
  let v32 : BitVec 32 := Scalar.extui v31
  let v33 : BitVec 32 := Scalar.subi v30 v32
  let v34 : BitVec 1 := Scalar.cmpi .ne v28 v33
  let v35 : BitVec 32 := Scalar.remsi v22 c8_i32_7
  let c0_i32_12 : BitVec 32 := 0#32
  let v36 : BitVec 1 := Scalar.cmpi .ne v35 c0_i32_12
  let v37 : BitVec 1 := Scalar.andi v34 v36
  let v23 : BitVec 32 := Scalar.divsi v22 c8_i32_7
  let c1_i32_13 : BitVec 32 := 1#32
  let v38 : BitVec 32 := Scalar.subi v23 c1_i32_13
  let v39 : BitVec 32 := Scalar.select v37 v38 v23
  let c128_i32 : BitVec 32 := 128#32
  let v40 : BitVec 32 := Scalar.muli v39 c128_i32
  let v126 : BitVec 32 := Scalar.addi v125 v40
  let c0_i32_71_r2 : BitVec 32 := 0#32
  ![v126.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x2048x512 : Shape := ⟨3, ![8, 2048, 512]⟩
abbrev S8x2048 : Shape := ⟨2, ![8, 2048]⟩
abbrev S2048 : Shape := ⟨1, ![2048]⟩
abbrev S1x1x2048 : Shape := ⟨3, ![1, 1, 2048]⟩
abbrev S8x2048x1 : Shape := ⟨3, ![8, 2048, 1]⟩
abbrev S8x2048x2048 : Shape := ⟨3, ![8, 2048, 2048]⟩
abbrev S_ : Shape := ⟨0, ![]⟩
abbrev S8x1x2048 : Shape := ⟨3, ![8, 1, 2048]⟩
abbrev S2048x8x512 : Shape := ⟨3, ![2048, 8, 512]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048, .i32⟩
  | .hbm, ⟨2, _⟩ => ⟨S8x2048, .f32⟩
  | .hbm, ⟨3, _⟩ => ⟨S2048, .i32⟩
  | .hbm, ⟨4, _⟩ => ⟨S2048, .f32⟩
  | .hbm, ⟨5, _⟩ => ⟨S1x1x2048, .f32⟩
  | .hbm, ⟨6, _⟩ => ⟨S8x2048x1, .f32⟩
  | .hbm, ⟨7, _⟩ => ⟨S8x2048x2048, .f32⟩
  | .hbm, ⟨8, _⟩ => ⟨S8x2048x2048, .f32⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .i1⟩
  | .hbm, ⟨13, _⟩ => ⟨S_, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048, .f32⟩
  | .hbm, ⟨21, _⟩ => ⟨S8x1x2048, .f32⟩
  | .hbm, ⟨22, _⟩ => ⟨S_, .f32⟩
  | .hbm, ⟨23, _⟩ => ⟨S8x1x2048, .f32⟩
  | .hbm, ⟨24, _⟩ => ⟨S8x1x2048, .f32⟩
  | .hbm, ⟨25, _⟩ => ⟨S8x2048x2048, .f32⟩
  | .hbm, ⟨26, _⟩ => ⟨S8x2048x2048, .f32⟩
  | .hbm, ⟨27, _⟩ => ⟨S8x2048x512, .f32⟩
  | .hbm, ⟨28, _⟩ => ⟨S2048x8x512, .f32⟩
  | .hbm, ⟨29, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Boundaries.lean ====
abbrev S8x2048x512 : Shape := ⟨3, ![8, 2048, 512]⟩
abbrev S8x2048 : Shape := ⟨2, ![8, 2048]⟩
abbrev S512x512 : Shape := ⟨2, ![512, 512]⟩
abbrev S512 : Shape := ⟨1, ![512]⟩
abbrev S512x1 : Shape := ⟨2, ![512, 1]⟩
abbrev S1 : Shape := ⟨1, ![1]⟩
abbrev S8x2x1024x1 : Shape := ⟨4, ![8, 2, 1024, 1]⟩
abbrev S1x512 : Shape := ⟨2, ![1, 512]⟩
abbrev S1x1 : Shape := ⟨2, ![1, 1]⟩
abbrev S1x128 : Shape := ⟨2, ![1, 128]⟩
abbrev S8x2x1x1024 : Shape := ⟨4, ![8, 2, 1, 1024]⟩
abbrev S8x1x128 : Shape := ⟨3, ![8, 1, 128]⟩
abbrev S1x1024x512 : Shape := ⟨3, ![1, 1024, 512]⟩
abbrev S1x1x1024x1 : Shape := ⟨4, ![1, 1, 1024, 1]⟩
abbrev S1x1x1x1024 : Shape := ⟨4, ![1, 1, 1, 1024]⟩
abbrev S1x1x128 : Shape := ⟨3, ![1, 1, 128]⟩
abbrev S1024x1024 : Shape := ⟨2, ![1024, 1024]⟩
abbrev S1024x512 : Shape := ⟨2, ![1024, 512]⟩
abbrev S1024x1 : Shape := ⟨2, ![1024, 1]⟩
abbrev S1x1024 : Shape := ⟨2, ![1, 1024]⟩
abbrev S1x1024x1 : Shape := ⟨3, ![1, 1024, 1]⟩
abbrev S1x1x1 : Shape := ⟨3, ![1, 1, 1]⟩

abbrev nBuf : Space → Nat
  | .hbm => 14
  | .vmem => 16
  | .smem => 1
  | _ => 0

abbrev bufTy : (tb : Table) → Fin (tcTables nBuf tb) → BufTy
  | .hbm, ⟨0, _⟩ => ⟨S8x2048x512, .f32⟩
  | .hbm, ⟨1, _⟩ => ⟨S8x2048, .f32⟩
  | .hbm, ⟨2, _⟩ => ⟨S512x512, .f32⟩
  | .hbm, ⟨3, _⟩ => ⟨S512, .f32⟩
  | .hbm, ⟨4, _⟩ => ⟨S512x1, .f32⟩
  | .hbm, ⟨5, _⟩ => ⟨S1, .f32⟩
  | .hbm, ⟨6, _⟩ => ⟨S8x2048, .f32⟩
  | .hbm, ⟨7, _⟩ => ⟨S8x2x1024x1, .f32⟩
  | .hbm, ⟨8, _⟩ => ⟨S8x2x1024x1, .f32⟩
  | .hbm, ⟨9, _⟩ => ⟨S1x512, .f32⟩
  | .hbm, ⟨10, _⟩ => ⟨S1x1, .f32⟩
  | .hbm, ⟨11, _⟩ => ⟨S1x128, .f32⟩
  | .hbm, ⟨12, _⟩ => ⟨S8x2x1x1024, .i32⟩
  | .hbm, ⟨13, _⟩ => ⟨S8x1x128, .f32⟩
  | .local _ .vmem, ⟨0, _⟩ => ⟨S1x1024x512, .f32⟩
  | .local _ .vmem, ⟨1, _⟩ => ⟨S1x1024x512, .f32⟩
  | .local _ .vmem, ⟨2, _⟩ => ⟨S1x1x1024x1, .f32⟩
  | .local _ .vmem, ⟨3, _⟩ => ⟨S1x1x1024x1, .f32⟩
  | .local _ .vmem, ⟨4, _⟩ => ⟨S1x1x1024x1, .f32⟩
  | .local _ .vmem, ⟨5, _⟩ => ⟨S1x1x1024x1, .f32⟩
  | .local _ .vmem, ⟨6, _⟩ => ⟨S512x512, .f32⟩
  | .local _ .vmem, ⟨7, _⟩ => ⟨S1x512, .f32⟩
  | .local _ .vmem, ⟨8, _⟩ => ⟨S512x1, .f32⟩
  | .local _ .vmem, ⟨9, _⟩ => ⟨S1x128, .f32⟩
  | .local _ .vmem, ⟨10, _⟩ => ⟨S1x1x1x1024, .i32⟩
  | .local _ .vmem, ⟨11, _⟩ => ⟨S1x1x1x1024, .i32⟩
  | .local _ .vmem, ⟨12, _⟩ => ⟨S1x1x128, .f32⟩
  | .local _ .vmem, ⟨13, _⟩ => ⟨S1x1x128, .f32⟩
  | .local _ .vmem, ⟨14, _⟩ => ⟨S1024x1024, .bf16⟩
  | .local _ .vmem, ⟨15, _⟩ => ⟨S1024x1024, .bf16⟩
  | .local _ .smem, ⟨0, _⟩ => ⟨S1x1, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1x1024 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== BoundariesReferenceIdeal.lean ====
abbrev S8x2048x512 : Shape := ⟨3, ![8, 2048, 512]⟩
abbrev S8x2048 : Shape := ⟨2, ![8, 2048]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x1x512 : Shape := ⟨3, ![1, 1, 512]⟩
abbrev S_ : Shape := ⟨0, ![]⟩
abbrev S8x2048x1 : Shape := ⟨3, ![8, 2048, 1]⟩
abbrev S1x1x1 : Shape := ⟨3, ![1, 1, 1]⟩
abbrev S8 : Shape := ⟨1, ![8]⟩
abbrev S8x2x1x1024 : Shape := ⟨4, ![8, 2, 1, 1024]⟩
abbrev S8x1x1 : Shape := ⟨3, ![8, 1, 1]⟩
abbrev S8x1x128 : Shape := ⟨3, ![8, 1, 128]⟩

abbrev nBuf : Space → Nat
  | .hbm => 52
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048, .f32⟩
  | .hbm, ⟨2, _⟩ => ⟨S512x512, .f32⟩
  | .hbm, ⟨3, _⟩ => ⟨S512, .f32⟩
  | .hbm, ⟨4, _⟩ => ⟨S512x1, .f32⟩
  | .hbm, ⟨5, _⟩ => ⟨S1, .f32⟩
  | .hbm, ⟨6, _⟩ => ⟨S8x2048, .f32⟩
  | .hbm, ⟨7, _⟩ => ⟨S8x2048x512, .f32⟩
  | .hbm, ⟨8, _⟩ => ⟨S1x1x512, .f32⟩
  | .hbm, ⟨9, _⟩ => ⟨S8x2048x512, .f32⟩
  | .hbm, ⟨10, _⟩ => ⟨S8x2048x512, .f32⟩
  | .hbm, ⟨11, _⟩ => ⟨S_, .f32⟩
  | .hbm, ⟨12, _⟩ => ⟨S8x2048x512, .f32⟩
  | .hbm, ⟨13, _⟩ => ⟨S8x2048x512, .f32⟩
  | .hbm, ⟨14, _⟩ => ⟨S8x2048x1, .f32⟩
  | .hbm, ⟨15, _⟩ => ⟨S1x1x1, .f32⟩
  | .hbm, ⟨16, _⟩ => ⟨S8x2048x1, .f32⟩
  | .hbm, ⟨17, _⟩ => ⟨S8x2048x1, .f32⟩
  | .hbm, ⟨18, _⟩ => ⟨S8x2048, .f32⟩
  | .hbm, ⟨19, _⟩ => ⟨S8x2048, .f32⟩
  | .hbm, ⟨20, _⟩ => ⟨S8x2048, .f32⟩
  | .hbm, ⟨21, _⟩ => ⟨S8x2048, .f32⟩
  | .hbm, ⟨22, _⟩ => ⟨S8x2048, .f32⟩
  | .hbm, ⟨23, _⟩ => ⟨S8x2048, .f32⟩
  | .hbm, ⟨24, _⟩ => ⟨S_, .f32⟩
  | .hbm, ⟨25, _⟩ => ⟨S8x2048, .f32⟩
  | .hbm, ⟨26, _⟩ => ⟨S8x2048, .f32⟩
  | .hbm, ⟨27, _⟩ => ⟨S8x2048, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S_, .f32⟩
  | .hbm, ⟨33, _⟩ => ⟨S8x2048, .f32⟩
  | .hbm, ⟨34, _⟩ => ⟨S8x2048, .f32⟩
  | .hbm, ⟨35, _⟩ => ⟨S_, .f32⟩
  | .hbm, ⟨36, _⟩ => ⟨S8x2048, .f32⟩
  | .hbm, ⟨37, _⟩ => ⟨S8x2048, .i1⟩
  | .hbm, ⟨38, _⟩ => ⟨S8x2048, .f32⟩
  | .hbm, ⟨39, _⟩ => ⟨S8x2048, .f32⟩
  | .hbm, ⟨40, _⟩ => ⟨S8x2048, .f32⟩
  | .hbm, ⟨41, _⟩ => ⟨S8x2048, .f32⟩
  | .hbm, ⟨42, _⟩ => ⟨S_, .f32⟩
  | .hbm, ⟨43, _⟩ => ⟨S_, .f32⟩
  | .hbm, ⟨44, _⟩ => ⟨S8x2048, .f32⟩
  | .hbm, ⟨45, _⟩ => ⟨S8x2048, .f32⟩
  | .hbm, ⟨46, _⟩ => ⟨S_, .f32⟩
  | .hbm, ⟨47, _⟩ => ⟨S8, .f32⟩
  | .hbm, ⟨48, _⟩ => ⟨S8x2048, .i32⟩
  | .hbm, ⟨49, _⟩ => ⟨S8x2x1x1024, .i32⟩
  | .hbm, ⟨50, _⟩ => ⟨S8x1x1, .f32⟩
  | .hbm, ⟨51, _⟩ => ⟨S8x1x128, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call1_call0_cst : Ref sig .tc := ⟨.hbm, 42, rfl⟩
abbrev main_call1_call0_v0 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== Counts.lean ====
abbrev S8x1 : Shape := ⟨2, ![8, 1]⟩
abbrev S8x2048 : Shape := ⟨2, ![8, 2048]⟩
abbrev S8 : Shape := ⟨1, ![8]⟩
abbrev S1x1 : Shape := ⟨2, ![1, 1]⟩
abbrev S1x8x1 : Shape := ⟨3, ![1, 8, 1]⟩
abbrev S1 : Shape := ⟨1, ![1]⟩
abbrev S1x1x1 : Shape := ⟨3, ![1, 1, 1]⟩
abbrev S1x8x2048 : Shape := ⟨3, ![1, 8, 2048]⟩

abbrev nBuf : Space → Nat
  | .hbm => 9
  | .vmem => 7
  | .smem => 0
  | _ => 0

abbrev bufTy : (tb : Table) → Fin (tcTables nBuf tb) → BufTy
  | .hbm, ⟨0, _⟩ => ⟨S8x1, .f32⟩
  | .hbm, ⟨1, _⟩ => ⟨S8x2048, .f32⟩
  | .hbm, ⟨2, _⟩ => ⟨S8, .i32⟩
  | .hbm, ⟨3, _⟩ => ⟨S8, .f32⟩
  | .hbm, ⟨4, _⟩ => ⟨S8x1, .f32⟩
  | .hbm, ⟨5, _⟩ => ⟨S1x1, .f32⟩
  | .hbm, ⟨6, _⟩ => ⟨S1x1, .f32⟩
  | .hbm, ⟨7, _⟩ => ⟨S1x1, .f32⟩
  | .hbm, ⟨8, _⟩ => ⟨S8x2048, .f32⟩
  | .local _ .vmem, ⟨0, _⟩ => ⟨S8x1, .f32⟩
  | .local _ .vmem, ⟨1, _⟩ => ⟨S8x1, .f32⟩
  | .local _ .vmem, ⟨2, _⟩ => ⟨S8x2048, .f32⟩
  | .local _ .vmem, ⟨3, _⟩ => ⟨S1x1, .f32⟩
  | .local _ .vmem, ⟨4, _⟩ => ⟨S1x1, .f32⟩
  | .local _ .vmem, ⟨5, _⟩ => ⟨S1x1, .f32⟩
  | .local _ .vmem, ⟨6, _⟩ => ⟨S8x2048, .f32⟩
  | _, _ => ⟨S8x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== CountsReferenceIdeal.lean ====
abbrev S8x1 : Shape := ⟨2, ![8, 1]⟩
abbrev S8x2048 : Shape := ⟨2, ![8, 2048]⟩
abbrev S8 : Shape := ⟨1, ![8]⟩
abbrev S2048 : Shape := ⟨1, ![2048]⟩
abbrev S1x2048 : Shape := ⟨2, ![1, 2048]⟩
abbrev S_ : Shape := ⟨0, ![]⟩
abbrev S1x1 : Shape := ⟨2, ![1, 1]⟩

abbrev nBuf : Space → Nat
  | .hbm => 18
  | .vmem => 0
  | .smem => 0
  | _ => 0

abbrev bufTy : (tb : Table) → Fin (tcTables nBuf tb) → BufTy
  | .hbm, ⟨0, _⟩ => ⟨S8x1, .f32⟩
  | .hbm, ⟨1, _⟩ => ⟨S8x2048, .f32⟩
  | .hbm, ⟨2, _⟩ => ⟨S8, .i32⟩
  | .hbm, ⟨3, _⟩ => ⟨S8, .f32⟩
  | .hbm, ⟨4, _⟩ => ⟨S2048, .i32⟩
  | .hbm, ⟨5, _⟩ => ⟨S1x2048, .i32⟩
  | .hbm, ⟨6, _⟩ => ⟨S8x1, .f32⟩
  | .hbm, ⟨7, _⟩ => ⟨S1x2048, .f32⟩
  | .hbm, ⟨8, _⟩ => ⟨S8x2048, .f32⟩
  | .hbm, ⟨9, _⟩ => ⟨S8x2048, .f32⟩
  | .hbm, ⟨10, _⟩ => ⟨S8x2048, .i1⟩
  | .hbm, ⟨11, _⟩ => ⟨S8x2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x1, .f32⟩
  | .hbm, ⟨17, _⟩ => ⟨S1x1, .f32⟩
  | _, _ => ⟨S8x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Words.lean ====
/-
The index arithmetic of the pooling kernel, in closed form: every index word is an integer in
range, every condition is a relation of such integers, and every bound the kernel checks holds.
-/
module

public import proofs.«01_k».proof.KernelIdeal
public import Idealize.ShloMosaic.Lib.Affine
public import Idealize.ShloMosaic.Lib.LoopRemainder

@[expose] public section

set_option maxRecDepth 16384

namespace Cert.Proof

open Idealize.ShloMosaic Idealize.ShloMosaic.Affine
open Cert.KernelIdeal

/-! ## Division and remainder rounding down -/

/-- The sign of a word: 1, 0 or −1. -/
abbrev sgnW (x : BitVec 32) : BitVec 32 :=
  Scalar.subi (Scalar.extui (Scalar.cmpi .sgt x 0#32)) (Scalar.extui (Scalar.cmpi .slt x 0#32))

/-- The quotient rounded down, as it is computed from the one rounded to zero. -/
abbrev fdivW (x d : BitVec 32) : BitVec 32 :=
  Scalar.select (Scalar.andi (Scalar.cmpi .ne (sgnW x) (sgnW d)) (Scalar.cmpi .ne (Scalar.remsi x d) 0#32))
    (Scalar.subi (Scalar.divsi x d) 1#32) (Scalar.divsi x d)

/-- The divisor with zero replaced by one. -/
abbrev posW (d : BitVec 32) : BitVec 32 := Scalar.select (Scalar.cmpi .eq d 0#32) 1#32 d

/-- The remainder with the sign of the divisor. -/
abbrev fmodW (x d : BitVec 32) : BitVec 32 :=
  Scalar.select
    (Scalar.andi (Scalar.xori (Scalar.cmpi .slt (Scalar.remsi x (posW d)) 0#32) (Scalar.cmpi .slt (posW d) 0#32))
      (Scalar.cmpi .ne (Scalar.remsi x (posW d)) 0#32))
    (Scalar.addi (Scalar.remsi x (posW d)) (posW d)) (Scalar.remsi x (posW d))

theorem isInt_zero : IsInt 0#32 0 := Affine.ofNat 0 (by omega)

theorem sgnW_pos {x : BitVec 32} {n : Int} (hx : IsInt x n) (hn : 0 < n) : IsInt (sgnW x) 1 :=
  Affine.subi (Affine.extui_holds (Affine.sgt_holds hx isInt_zero hn) rfl)
    (Affine.extui_fails (Affine.slt_fails hx isInt_zero (by omega)) rfl) (by omega)

/-- Of a nonnegative word by a positive one the quotient rounded down is the quotient. -/
theorem fdivW_isInt {x d : BitVec 32} {n e q : Int} (hx : IsInt x n) (hd : IsInt d e) (hn : 0 ≤ n) (he : 0 < e)
    (hq : q = n / e) : IsInt (fdivW x d) q := by
  have hlt : n < 2 ^ 31 := by
    have := (Affine.word_range x).2; unfold IsInt at hx; omega
  have hdiv : IsInt (Scalar.divsi x d) q := Affine.divsi hx hd ⟨hq, hn, he⟩
  have hq0 : 0 ≤ q := hq ▸ Int.ediv_nonneg hn he.le
  have hqn : q ≤ n := hq ▸ Int.ediv_le_self _ hn
  refine Affine.select_fails ?_ (Affine.subi (e := q - 1) hdiv (Affine.ofNat 1 (by constructor <;> [rfl; omega])) (by omega)) hdiv rfl
  by_cases h0 : n = 0
  · exact Affine.andi_fails_right trivial (Affine.ne_fails (Affine.remsi hx hd ⟨rfl, hn, he⟩) isInt_zero (by subst h0; simp))
  · exact Affine.andi_fails_left (Affine.ne_fails (sgnW_pos hx (by omega)) (sgnW_pos hd he) rfl) trivial

/-- Of a nonnegative word by a positive one the remainder with the divisor's sign is the remainder. -/
theorem fmodW_isInt {x d : BitVec 32} {n e q : Int} (hx : IsInt x n) (hd : IsInt d e) (hn : 0 ≤ n) (he : 0 < e)
    (hq : q = n % e) : IsInt (fmodW x d) q := by
  have he31 : e < 2 ^ 31 := by
    have := (Affine.word_range d).2; unfold IsInt at hd; omega
  have hp : IsInt (posW d) e := Affine.select_fails (Affine.eq_fails hd isInt_zero (by omega))
    (Affine.ofNat (e := 1) 1 (by constructor <;> [rfl; omega])) hd rfl
  have hr : IsInt (Scalar.remsi x (posW d)) q := Affine.remsi hx hp ⟨hq, hn, he⟩
  have hq0 : 0 ≤ q := hq ▸ Int.emod_nonneg _ (by omega)
  have hqn : q < e := hq ▸ Int.emod_lt_of_pos _ he
  by_cases ho : q + e < 2 ^ 31
  · refine Affine.select_fails (Affine.andi_fails_left ?_ trivial) (Affine.addi (e := q + e) hr hp (by omega)) hr rfl
    exact Affine.xori_ff (Affine.slt_fails hr isInt_zero (by omega)) (Affine.slt_fails hp isInt_zero (by omega))
  · refine Affine.select_fails (Affine.andi_fails_left ?_ trivial) (Affine.word _) hr rfl
    exact Affine.xori_ff (Affine.slt_fails hr isInt_zero (by omega)) (Affine.slt_fails hp isInt_zero (by omega))

theorem isInt_nat {n : ℕ} (h : n < 2 ^ 31) : IsInt (BitVec.ofNat 32 n) n := Affine.ofNat n ⟨rfl, h⟩

/-- A word that is a natural number, read signed, is that number's word. -/
theorem eq_ofNat {x : BitVec 32} {n : ℕ} (h : IsInt x n) : x = BitVec.ofNat 32 n := by
  have h2 := (Affine.word_range x).2
  unfold IsInt at h
  have hn := isInt_nat (n := n) (by omega)
  unfold IsInt at hn
  rw [← BitVec.toInt_inj, h, hn]

theorem toNat_nat {n : ℕ} (h : n < 2 ^ 31) : (BitVec.ofNat 32 n).toNat = n := by
  simp only [BitVec.toNat_ofNat]; omega

/-- The words of small naturals differ when the numbers do. -/
theorem nat_inj {m n : ℕ} (hm : m < 2 ^ 31) (hn : n < 2 ^ 31) : BitVec.ofNat 32 m = BitVec.ofNat 32 n ↔ m = n := by
  constructor
  · intro h; have := congrArg BitVec.toNat h; rwa [toNat_nat hm, toNat_nat hn] at this
  · rintro rfl; rfl

/-- A condition kept as an integer and compared with zero is the condition. -/
theorem flag_iff (c : BitVec 1) : Scalar.cmpi .ne (Scalar.extui c : BitVec 32) 0#32 = 1#1 ↔ c = 1#1 := by
  revert c; decide

theorem not_iff (c : BitVec 1) : Scalar.xori c 1#1 = 1#1 ↔ ¬ c = 1#1 := by
  revert c; decide

theorem and_iff (c d : BitVec 1) : Scalar.andi c d = 1#1 ↔ c = 1#1 ∧ d = 1#1 := by
  revert c d; decide

theorem sgt_iff {a b : BitVec 32} {m n : Int} (ha : IsInt a m) (hb : IsInt b n) :
    Scalar.cmpi .sgt a b = 1#1 ↔ n < m :=
  ⟨fun h => by by_contra hc; exact Affine.sgt_fails ha hb hc h, fun h => Affine.sgt_holds ha hb h⟩

theorem slt_iff {a b : BitVec 32} {m n : Int} (ha : IsInt a m) (hb : IsInt b n) :
    Scalar.cmpi .slt a b = 1#1 ↔ m < n :=
  ⟨fun h => by by_contra hc; exact Affine.slt_fails ha hb hc h, fun h => Affine.slt_holds ha hb h⟩

theorem eq_iff {a b : BitVec 32} {m n : Int} (ha : IsInt a m) (hb : IsInt b n) :
    Scalar.cmpi .eq a b = 1#1 ↔ m = n :=
  ⟨fun h => by by_contra hc; exact Affine.eq_fails ha hb hc h, fun h => Affine.eq_holds ha hb h⟩

theorem ne_word_iff (a b : BitVec 32) : Scalar.cmpi .ne a b = 1#1 ↔ a ≠ b := by
  show BitVec.ofBool (a != b) = 1#1 ↔ a ≠ b
  rw [← bne_iff_ne]
  cases a != b <;> decide

/-! ## A tile and its tasks -/

/-- The tile's number among the 32. -/
abbrev widW (i : grid0.Coords) : BitVec 32 :=
  Scalar.addi (Scalar.muli (BitVec.ofNat 32 (i 1).val) 2#32) (BitVec.ofNat 32 (i 0).val)
def wid (i : grid0.Coords) : ℕ := 2 * (i 1).val + (i 0).val

theorem wid_lt (i : grid0.Coords) : wid i < 32 := by
  have h0 : (i 0).val < 2 := (i 0).isLt
  have h1 : (i 1).val < 16 := (i 1).isLt
  unfold wid; omega

theorem widW_isInt (i : grid0.Coords) : IsInt (widW i) (wid i) := by
  have h0 : (i 0).val < 2 := (i 0).isLt
  have h1 : (i 1).val < 16 := (i 1).isLt
  refine Affine.addi (ea := 2 * (i 1).val) (eb := (i 0).val) (Affine.muli (isInt_nat (n := (i 1).val) (by omega)) (isInt_nat (n := 2) (by omega)) (by omega)) (isInt_nat (by omega)) ?_
  unfold wid; omega

/-- The batch row the tile works on. -/
abbrev batW (i : grid0.Coords) : BitVec 32 := fmodW (widW i) 8#32
def bat (i : grid0.Coords) : ℕ := wid i % 8

theorem bat_lt (i : grid0.Coords) : bat i < 8 := Nat.mod_lt _ (by omega)

theorem batW_eq (i : grid0.Coords) : batW i = BitVec.ofNat 32 (bat i) :=
  eq_ofNat (fmodW_isInt (widW_isInt i) (isInt_nat (n := 8) (by omega)) (by omega) (by omega) (by unfold bat; omega))

/-- The first segment number of the tile's task `t`. -/
abbrev baseW (i : grid0.Coords) (t : ℕ) : BitVec 32 :=
  Scalar.muli (fdivW (Scalar.addi (widW i) (Scalar.muli 32#32 (Scf.iv 0#32 1#32 t))) 8#32) 128#32
def base (i : grid0.Coords) (t : ℕ) : ℕ := 128 * (wid i / 8 + 4 * t)

theorem base_le (i : grid0.Coords) {t : ℕ} (ht : t < 4) : base i t + 128 ≤ 2048 := by
  have := wid_lt i; unfold base; omega

theorem iv01 {t : ℕ} (ht : t < 2 ^ 31) : IsInt (Scf.iv 0#32 1#32 t) t :=
  Affine.iv isInt_zero (isInt_nat (n := 1) (by omega)) t (by omega)

theorem baseW_eq (i : grid0.Coords) {t : ℕ} (ht : t < 4) : baseW i t = BitVec.ofNat 32 (base i t) := by
  have hw := wid_lt i
  refine eq_ofNat (Affine.muli (ea := ((wid i / 8 + 4 * t : ℕ) : Int)) (fdivW_isInt (n := ((wid i + 32 * t : ℕ) : Int)) ?_ (isInt_nat (n := 8) (by omega)) (by omega) (by omega) (by omega)) (isInt_nat (n := 128) (by omega)) ?_)
  · exact Affine.addi (widW_isInt i) (Affine.muli (isInt_nat (n := 32) (by omega)) (iv01 (by omega)) (e := ((32 * t : ℕ) : Int)) (by omega)) (by omega)
  · unfold base; omega

/-- How many of the task's 128 segments the row has, from its last segment number. -/
abbrev usedW (i : grid0.Coords) (v17 : BitVec 32) (t : ℕ) : BitVec 32 :=
  Scalar.minsi 128#32 (Scalar.maxsi 0#32 (Scalar.subi (Scalar.addi v17 1#32) (baseW i t)))
def used (i : grid0.Coords) (mx t : ℕ) : ℕ := min 128 (mx + 1 - base i t)

theorem used_le (i : grid0.Coords) (mx t : ℕ) : used i mx t ≤ 128 := by unfold used; omega

theorem usedW_eq (i : grid0.Coords) {mx t : ℕ} (hm : mx < 2048) (ht : t < 4) :
    usedW i (BitVec.ofNat 32 mx) t = BitVec.ofNat 32 (used i mx t) := by
  have hb := base_le i ht
  show Scalar.minsi 128#32 (Scalar.maxsi 0#32 (Scalar.subi (Scalar.addi (BitVec.ofNat 32 mx) 1#32) (baseW i t))) = _
  rw [baseW_eq i ht]
  refine eq_ofNat (Affine.minsi (isInt_nat (n := 128) (by omega)) (Affine.maxsi isInt_zero
    (Affine.subi (ea := ((mx + 1 : ℕ) : Int)) (e := (mx : Int) + 1 - base i t) (Affine.addi (isInt_nat (by omega)) (isInt_nat (n := 1) (by omega)) (by omega)) (isInt_nat (by omega)) (by omega)) rfl) ?_)
  unfold used; omega

/-! ## The task's tokens, in chunks of 32 -/

/-- The first token of the first chunk. -/
abbrev a0W (v59 : BitVec 32) : BitVec 32 := Scalar.muli (fdivW v59 8#32) 8#32
def a0 (t0 : ℕ) : ℕ := t0 / 8 * 8

theorem a0W_eq {t0 : ℕ} (h : t0 ≤ 2048) : a0W (BitVec.ofNat 32 t0) = BitVec.ofNat 32 (a0 t0) :=
  eq_ofNat (Affine.muli (ea := ((t0 / 8 : ℕ) : Int)) (fdivW_isInt (isInt_nat (by omega)) (isInt_nat (n := 8) (by omega)) (by omega) (by omega) (by omega))
    (isInt_nat (n := 8) (by omega)) (by unfold a0; omega))

/-- How many chunks there are. -/
abbrev nkW (v59 v62 : BitVec 32) : BitVec 32 :=
  fdivW (Scalar.subi (Scalar.addi (Scalar.subi v62 (a0W v59)) 32#32) 1#32) 32#32
def nk (t0 t1 : ℕ) : ℕ := (t1 - a0 t0 + 31) / 32

theorem nkW_eq {t0 t1 : ℕ} (h : t0 ≤ t1) (h1 : t1 ≤ 2048) :
    nkW (BitVec.ofNat 32 t0) (BitVec.ofNat 32 t1) = BitVec.ofNat 32 (nk t0 t1) := by
  show fdivW (Scalar.subi (Scalar.addi (Scalar.subi _ (a0W _)) 32#32) 1#32) 32#32 = _
  rw [a0W_eq (by omega)]
  have ha : a0 t0 ≤ t0 := by unfold a0; omega
  refine eq_ofNat (fdivW_isInt (n := ((t1 - a0 t0 + 31 : ℕ) : Int)) ?_ (isInt_nat (n := 32) (by omega)) (by omega) (by omega) (by unfold nk; omega))
  exact Affine.subi (Affine.addi (Affine.subi (e := ((t1 - a0 t0 : ℕ) : Int)) (isInt_nat (by omega)) (isInt_nat (by omega)) (by omega)) (isInt_nat (n := 32) (by omega)) (e := ((t1 - a0 t0 + 32 : ℕ) : Int)) (by omega))
    (isInt_nat (n := 1) (by omega)) (by omega)

/-- The token at which chunk `k` starts, before it is moved to lie inside the row. -/
abbrev akW (v59 : BitVec 32) (k : ℕ) : BitVec 32 := Scalar.addi (a0W v59) (Scalar.muli 32#32 (Scf.iv 0#32 1#32 k))
def ak (t0 k : ℕ) : ℕ := a0 t0 + 32 * k

theorem akW_eq {t0 k : ℕ} (h : t0 ≤ 2048) (hk : k ≤ 64) : akW (BitVec.ofNat 32 t0) k = BitVec.ofNat 32 (ak t0 k) := by
  show Scalar.addi (a0W _) _ = _
  rw [a0W_eq h]
  have ha : a0 t0 ≤ t0 := by unfold a0; omega
  exact eq_ofNat (Affine.addi (isInt_nat (by omega)) (Affine.muli (isInt_nat (n := 32) (by omega)) (iv01 (by omega)) (e := ((32 * k : ℕ) : Int)) (by omega)) (by unfold ak; omega))

/-- The token at which the copy of chunk `k` starts. -/
def ck (t0 k : ℕ) : ℕ := min (ak t0 k) 2016

theorem ckW_eq {t0 k : ℕ} (h : t0 ≤ 2048) (hk : k ≤ 64) :
    Scalar.minsi (akW (BitVec.ofNat 32 t0) k) 2016#32 = BitVec.ofNat 32 (ck t0 k) := by
  rw [akW_eq h hk]
  have ha : a0 t0 ≤ t0 := by unfold a0; omega
  exact eq_ofNat (Affine.minsi (isInt_nat (by unfold ak; omega)) (isInt_nat (n := 2016) (by omega)) (by unfold ck; omega))

/-- The first token chunk `k` adds up. -/
def lo (t0 k : ℕ) : ℕ := max (ak t0 k) t0
/-- The first token after those chunk `k` adds up. -/
def hi (t0 t1 k : ℕ) : ℕ := min (ak t0 (k + 1)) t1

abbrev loW (v59 : BitVec 32) (k : ℕ) : BitVec 32 := Scalar.maxsi (akW v59 k) v59

theorem loW_eq {t0 k : ℕ} (h : t0 ≤ 2048) (hk : k ≤ 64) : loW (BitVec.ofNat 32 t0) k = BitVec.ofNat 32 (lo t0 k) := by
  show Scalar.maxsi (akW _ k) _ = _
  rw [akW_eq h hk]
  have ha : a0 t0 ≤ t0 := by unfold a0; omega
  exact eq_ofNat (Affine.maxsi (isInt_nat (by unfold ak; omega)) (isInt_nat (by omega)) (by unfold lo; omega))

theorem hiW_eq {t0 t1 k : ℕ} (h : t0 ≤ t1) (h1 : t1 ≤ 2048) (hk : k ≤ 64) :
    Scalar.minsi (Scalar.addi (akW (BitVec.ofNat 32 t0) k) 32#32) (BitVec.ofNat 32 t1) = BitVec.ofNat 32 (hi t0 t1 k) := by
  rw [akW_eq (by omega) hk]
  have ha : a0 t0 ≤ t0 := by unfold a0; omega
  exact eq_ofNat (Affine.minsi (Affine.addi (e := ((ak t0 (k + 1) : ℕ) : Int)) (isInt_nat (by unfold ak; omega)) (isInt_nat (n := 32) (by omega)) (by unfold ak; omega)) (isInt_nat (by omega)) (by unfold hi; omega))

theorem nk_le {t0 t1 : ℕ} (h1 : t1 ≤ 2048) : nk t0 t1 ≤ 64 := by unfold nk; omega

theorem nk_pos {t0 t1 : ℕ} (h : t0 < t1) : 0 < nk t0 t1 := by unfold nk a0; omega

/-- A chunk has a token to add, and its tokens lie in its copy. -/
theorem chunk_facts {t0 t1 k : ℕ} (h : t0 < t1) (h1 : t1 ≤ 2048) (hk : k < nk t0 t1) :
    lo t0 k < hi t0 t1 k ∧ ck t0 k ≤ lo t0 k ∧ hi t0 t1 k ≤ ck t0 k + 32 ∧ t0 ≤ lo t0 k ∧ hi t0 t1 k ≤ t1 := by
  unfold lo hi ck; unfold nk at hk; unfold ak a0 at *; omega

theorem lo_zero {t0 : ℕ} : lo t0 0 = t0 := by unfold lo ak a0; omega

/-- The chunks follow one another. -/
theorem lo_succ {t0 t1 k : ℕ} (h : t0 < t1) (hk : k + 1 < nk t0 t1) : lo t0 (k + 1) = hi t0 t1 k := by
  unfold lo hi; unfold nk at hk; unfold ak a0 at *; omega

/-- The last chunk ends at the last token. -/
theorem hi_last {t0 t1 k : ℕ} (h : t0 < t1) (hk : k + 1 = nk t0 t1) : hi t0 t1 k = t1 := by
  unfold hi; unfold nk at hk; unfold ak a0 at *; omega

/-! ## The loops' trips -/

theorem trips_t1 : k0_t1_loop.trips = 4 := by decide

theorem whole_ub (lb ub : BitVec 32) :
    Scalar.addi lb (Scalar.muli (Scalar.divsi (Scalar.subi ub lb) 1#32) 1#32) = ub := by
  rw [Scalar.muli_divsi_one]
  show lb + (ub - lb) = ub
  rw [BitVec.add_comm, BitVec.sub_add_cancel]

theorem trips_span {a b : ℕ} (hb : b < 2 ^ 31) (hab : a ≤ b) :
    Scf.trips (BitVec.ofNat 32 a) (BitVec.ofNat 32 b) 1#32 = b - a :=
  Affine.trips_eq (isInt_nat (by omega)) (isInt_nat hb) (isInt_nat (n := 1) (by omega)) _ (by omega)

theorem trips_t12 (i : grid0.Coords) {mx : ℕ} (hm : mx < 2048) (t : Fin k0_t1_loop.trips) :
    (k0_t12_loop i (BitVec.ofNat 32 mx) t).trips = used i mx t := by
  have ht : t.val < 4 := trips_t1 ▸ t.isLt
  show Scf.trips 0#32 (Scalar.addi 0#32 (Scalar.muli (Scalar.divsi (Scalar.subi (usedW i (BitVec.ofNat 32 mx) t) 0#32) 1#32) 1#32)) 1#32 = _
  rw [whole_ub, usedW_eq i hm ht]
  exact trips_span (a := 0) (by have := used_le i mx t; omega) (by omega)

theorem trips_t14 (i : grid0.Coords) {mx : ℕ} (hm : mx < 2048) (t : Fin k0_t1_loop.trips) :
    (k0_t14_loop i (BitVec.ofNat 32 mx) t).trips = 128 - used i mx t := by
  have ht : t.val < 4 := trips_t1 ▸ t.isLt
  show Scf.trips (usedW i (BitVec.ofNat 32 mx) t) (Scalar.addi (usedW i (BitVec.ofNat 32 mx) t) (Scalar.muli (Scalar.divsi (Scalar.subi 128#32 (usedW i (BitVec.ofNat 32 mx) t)) 1#32) 1#32)) 1#32 = _
  rw [whole_ub, usedW_eq i hm ht]
  exact trips_span (b := 128) (by omega) (used_le i mx t)

theorem trips_t6 {t0 t1 : ℕ} (h : t0 ≤ t1) (h1 : t1 ≤ 2048) :
    (k0_t6_loop (BitVec.ofNat 32 t0) (BitVec.ofNat 32 t1)).trips = nk t0 t1 := by
  show Scf.trips 0#32 (Scalar.addi 0#32 (Scalar.muli (Scalar.divsi (Scalar.subi (nkW (BitVec.ofNat 32 t0) (BitVec.ofNat 32 t1)) 0#32) 1#32) 1#32)) 1#32 = _
  rw [whole_ub, nkW_eq h h1]
  exact trips_span (a := 0) (by have := nk_le (t0 := t0) h1; omega) (by omega)

theorem trips_t7 {t0 t1 : ℕ} (h : t0 < t1) (h1 : t1 ≤ 2048)
    (k : Fin (k0_t6_loop (BitVec.ofNat 32 t0) (BitVec.ofNat 32 t1)).trips) :
    (k0_t7_loop (BitVec.ofNat 32 t0) (BitVec.ofNat 32 t1) k).trips = hi t0 t1 k - lo t0 k := by
  have hk : k.val < nk t0 t1 := trips_t6 h.le h1 ▸ k.isLt
  have hn := nk_le (t0 := t0) h1
  obtain ⟨hlh, -, -, -, hh⟩ := chunk_facts h h1 hk
  show Scf.trips (loW (BitVec.ofNat 32 t0) k) (Scalar.addi (loW (BitVec.ofNat 32 t0) k) (Scalar.muli (Scalar.divsi (Scalar.subi (Scalar.minsi (Scalar.addi (akW (BitVec.ofNat 32 t0) k) 32#32) (BitVec.ofNat 32 t1)) (loW (BitVec.ofNat 32 t0) k)) 1#32) 1#32)) 1#32 = _
  rw [whole_ub, loW_eq (by omega) (by omega), hiW_eq h.le h1 (by omega)]
  exact trips_span (by omega) hlh.le

/-! ## The remainder loops run nothing -/

theorem trips_self (w : BitVec 32) : Scf.trips w w 1#32 = 0 := by
  unfold Scf.trips
  show ((w.toInt - w.toInt + 1 - 1) / 1).toNat = 0
  simp

theorem trips_rest (lb x : BitVec 32) :
    Scf.trips (Scalar.addi lb (Scalar.muli (Scalar.divsi x 1#32) 1#32)) (Scalar.addi lb x) 1#32 = 0 := by
  rw [Scalar.muli_divsi_one]; exact trips_self _

theorem trips_t3 : k0_t3_loop.trips = 0 := trips_rest _ _
theorem trips_t13 (i : grid0.Coords) (v17 : BitVec 32) (t : Fin k0_t1_loop.trips) : (k0_t13_loop i v17 t).trips = 0 :=
  trips_rest _ _
theorem trips_t15 (i : grid0.Coords) (v17 : BitVec 32) (t : Fin k0_t1_loop.trips) : (k0_t15_loop i v17 t).trips = 0 :=
  trips_rest _ _
theorem trips_t8 (v59 v62 : BitVec 32) (k : Fin (k0_t6_loop v59 v62).trips) : (k0_t8_loop v59 v62 k).trips = 0 :=
  trips_rest _ _
theorem trips_t9 (v59 v62 : BitVec 32) : (k0_t9_loop v59 v62).trips = 0 := trips_rest _ _

/-! ## The conditions -/

theorem cond3_iff (i : grid0.Coords) {mx : ℕ} (hm : mx < 2048) (t : Fin k0_t1_loop.trips) :
    k0_cond3 i (BitVec.ofNat 32 mx) t = 1#1 ↔ 0 < used i mx t := by
  have ht : t.val < 4 := trips_t1 ▸ t.isLt
  have hu := used_le i mx t
  refine (flag_iff (Scalar.cmpi .sgt (usedW i (BitVec.ofNat 32 mx) t) 0#32)).trans ?_
  rw [usedW_eq i hm ht, sgt_iff (isInt_nat (by omega)) isInt_zero]
  omega

theorem cond4_holds {t0 t1 : ℕ} (h : t0 < t1) (h1 : t1 ≤ 2048) :
    k0_cond4 (BitVec.ofNat 32 t0) (BitVec.ofNat 32 t1) = 1#1 := by
  have hn := nk_le (t0 := t0) h1
  refine (flag_iff (Scalar.cmpi .sgt (nkW (BitVec.ofNat 32 t0) (BitVec.ofNat 32 t1)) 0#32)).mpr ?_
  rw [nkW_eq h.le h1, sgt_iff (isInt_nat (by omega)) isInt_zero]
  have := nk_pos h; omega

/-- The slot of a chunk's copy. -/
theorem slotW_isInt {k : ℕ} (hk : k ≤ 64) : IsInt (fmodW (Scf.iv 0#32 1#32 k) 2#32) ((k % 2 : ℕ) : Int) :=
  fmodW_isInt (iv01 (by omega)) (isInt_nat (n := 2) (by omega)) (by omega) (by omega) (by omega)

theorem even_iff {k : ℕ} (hk : k ≤ 64) : Scalar.cmpi .eq (fmodW (Scf.iv 0#32 1#32 k) 2#32) 0#32 = 1#1 ↔ k % 2 = 0 := by
  rw [eq_iff (slotW_isInt hk) isInt_zero]; omega

theorem next_iff {t0 t1 k : ℕ} (h : t0 < t1) (h1 : t1 ≤ 2048) (hk : k ≤ 64) :
    Scalar.cmpi .slt (Scalar.addi (Scf.iv 0#32 1#32 k) 1#32) (nkW (BitVec.ofNat 32 t0) (BitVec.ofNat 32 t1)) = 1#1
      ↔ k + 1 < nk t0 t1 := by
  have hn := nk_le (t0 := t0) h1
  rw [nkW_eq h.le h1, slt_iff (Affine.addi (e := ((k + 1 : ℕ) : Int)) (iv01 (by omega)) (isInt_nat (n := 1) (by omega)) (by omega)) (isInt_nat (by omega))]
  omega

section Chunk
variable {t0 t1 : ℕ} (h : t0 < t1) (h1 : t1 ≤ 2048) (k : Fin (k0_t6_loop (BitVec.ofNat 32 t0) (BitVec.ofNat 32 t1)).trips)
include h h1

theorem chunk_lt : k.val < nk t0 t1 := trips_t6 h.le h1 ▸ k.isLt

theorem chunk_le : k.val ≤ 64 := by
  have := chunk_lt h h1 k; have := nk_le (t0 := t0) h1; omega

/-- The next chunk is fetched into slot 1 at an even chunk that is not the last. -/
theorem cond5_iff : k0_cond5 (BitVec.ofNat 32 t0) (BitVec.ofNat 32 t1) k = 1#1 ↔ k.val + 1 < nk t0 t1 ∧ k.val % 2 = 0 :=
  (flag_iff (Scalar.andi (Scalar.cmpi .slt (Scalar.addi (Scf.iv 0#32 1#32 k) 1#32) (nkW (BitVec.ofNat 32 t0) (BitVec.ofNat 32 t1)))
    (Scalar.cmpi .eq (fmodW (Scf.iv 0#32 1#32 k) 2#32) 0#32))).trans
    ((and_iff _ _).trans (and_congr (next_iff h h1 (chunk_le h h1 k)) (even_iff (chunk_le h h1 k))))

/-- The next chunk is fetched into slot 0 at an odd chunk that is not the last. -/
theorem cond6_iff : k0_cond6 (BitVec.ofNat 32 t0) (BitVec.ofNat 32 t1) k = 1#1 ↔ k.val + 1 < nk t0 t1 ∧ ¬ k.val % 2 = 0 :=
  (flag_iff (Scalar.andi (Scalar.cmpi .slt (Scalar.addi (Scf.iv 0#32 1#32 k) 1#32) (nkW (BitVec.ofNat 32 t0) (BitVec.ofNat 32 t1)))
    (Scalar.xori (Scalar.cmpi .eq (fmodW (Scf.iv 0#32 1#32 k) 2#32) 0#32) 1#1))).trans
    ((and_iff _ _).trans (and_congr (next_iff h h1 (chunk_le h h1 k)) ((not_iff _).trans (not_congr (even_iff (chunk_le h h1 k))))))

/-- An even chunk is waited for in slot 0. -/
theorem cond7_iff : k0_cond7 (BitVec.ofNat 32 t0) (BitVec.ofNat 32 t1) k = 1#1 ↔ k.val % 2 = 0 :=
  (flag_iff (Scalar.cmpi .eq (fmodW (Scf.iv 0#32 1#32 k) 2#32) 0#32)).trans (even_iff (chunk_le h h1 k))

/-- An odd chunk is waited for in slot 1. -/
theorem cond8_iff : k0_cond8 (BitVec.ofNat 32 t0) (BitVec.ofNat 32 t1) k = 1#1 ↔ ¬ k.val % 2 = 0 :=
  (flag_iff (Scalar.xori (Scalar.cmpi .eq (fmodW (Scf.iv 0#32 1#32 k) 2#32) 0#32) 1#1)).trans
    ((not_iff _).trans (not_congr (even_iff (chunk_le h h1 k))))

end Chunk

/-- A token opens its segment's row when the token before it has another number. -/
theorem cond9_iff (a b : BitVec 32) : k0_cond9 a b = 1#1 ↔ b ≠ a :=
  (flag_iff (Scalar.cmpi .ne b a)).trans (ne_word_iff b a)

/-- A token adds to its segment's row when the token before it has the same number. -/
theorem cond10_iff (a b : BitVec 32) : k0_cond10 a b = 1#1 ↔ b = a :=
  (flag_iff (Scalar.xori (Scalar.cmpi .ne b a) 1#1)).trans ((not_iff _).trans ((not_congr (ne_word_iff b a)).trans not_not))

/-! ## The copies' places in their arrays -/

/-- The first row of the tile's batch row. -/
theorem rowW_eq (i : grid0.Coords) : Scalar.muli (batW i) 2048#32 = BitVec.ofNat 32 (bat i * 2048) := by
  rw [batW_eq]
  have := bat_lt i
  exact eq_ofNat (Affine.muli (isInt_nat (by omega)) (isInt_nat (n := 2048) (by omega)) (by omega))

theorem off1_eq (i : grid0.Coords) : k0_off1 i = ![bat i * 2048] := by
  have := bat_lt i
  show ![(Scalar.muli (batW i) 2048#32).toNat] = _
  rw [rowW_eq, toNat_nat (by omega)]

theorem off_task (i : grid0.Coords) {t : ℕ} (ht : t < 4) :
    (Scalar.addi (Scalar.muli (batW i) 2048#32) (baseW i t)).toNat = bat i * 2048 + base i t := by
  have := bat_lt i; have := base_le i ht
  rw [rowW_eq, baseW_eq i ht, eq_ofNat (Affine.addi (e := ((bat i * 2048 + base i t : ℕ) : Int)) (isInt_nat (by omega)) (isInt_nat (by omega)) (by omega)),
    toNat_nat (by omega)]

theorem off66_eq (i : grid0.Coords) (t : Fin k0_t1_loop.trips) : k0_off66 i t = ![bat i * 2048 + base i t, 0] := by
  show ![(Scalar.addi (Scalar.muli (batW i) 2048#32) (baseW i t)).toNat, 0] = _
  rw [off_task i (trips_t1 ▸ t.isLt)]

theorem off732_eq (i : grid0.Coords) (t : Fin k0_t1_loop.trips) : k0_off732 i t = ![bat i * 2048 + base i t, 0] := by
  show ![(Scalar.addi (Scalar.muli (batW i) 2048#32) (baseW i t)).toNat, 0] = _
  rw [off_task i (trips_t1 ▸ t.isLt)]

theorem off72_eq (i : grid0.Coords) : k0_off72 i = ![bat i * 2048, 0] := by
  have := bat_lt i
  show ![(Scalar.muli (batW i) 2048#32).toNat, 0] = _
  rw [rowW_eq, toNat_nat (by omega)]

theorem off73_eq (i : grid0.Coords) : k0_off73 i = ![bat i * 2048, 0] := off72_eq i

theorem ck_le {t0 k : ℕ} : ck t0 k ≤ 2016 := by unfold ck; omega

theorem off69_eq (i : grid0.Coords) {t0 : ℕ} (h : t0 ≤ 2048) :
    k0_off69 i (BitVec.ofNat 32 t0) = ![bat i * 2048 + ck t0 0, 0] := by
  have := bat_lt i; have := ck_le (t0 := t0) (k := 0)
  have ha : a0 t0 ≤ t0 := by unfold a0; omega
  show ![(Scalar.addi (Scalar.muli (batW i) 2048#32) (Scalar.minsi (Scalar.addi (a0W (BitVec.ofNat 32 t0)) 0#32) 2016#32)).toNat, 0] = _
  rw [rowW_eq, a0W_eq h, eq_ofNat (Affine.minsi (e := ((ck t0 0 : ℕ) : Int)) (Affine.addi (e := ((a0 t0 : ℕ) : Int)) (isInt_nat (by omega)) isInt_zero (by omega)) (isInt_nat (n := 2016) (by omega)) (by unfold ck ak; omega)),
    eq_ofNat (Affine.addi (e := ((bat i * 2048 + ck t0 0 : ℕ) : Int)) (isInt_nat (by omega)) (isInt_nat (by omega)) (by omega)),
    toNat_nat (by omega)]

theorem off70_eq (i : grid0.Coords) {t0 t1 : ℕ} (h : t0 < t1) (h1 : t1 ≤ 2048)
    (k : Fin (k0_t6_loop (BitVec.ofNat 32 t0) (BitVec.ofNat 32 t1)).trips) :
    k0_off70 i (BitVec.ofNat 32 t0) (BitVec.ofNat 32 t1) k = ![bat i * 2048 + ck t0 (k + 1), 0] := by
  have := bat_lt i; have := ck_le (t0 := t0) (k := k.val + 1); have hk := chunk_le h h1 k
  have ha : a0 t0 ≤ t0 := by unfold a0; omega
  show ![(Scalar.addi (Scalar.muli (batW i) 2048#32) (Scalar.minsi (Scalar.addi (a0W (BitVec.ofNat 32 t0))
    (Scalar.muli 32#32 (Scalar.addi (Scf.iv 0#32 1#32 k) 1#32))) 2016#32)).toNat, 0] = _
  rw [rowW_eq, a0W_eq (by omega), eq_ofNat (Affine.minsi (e := ((ck t0 (k + 1) : ℕ) : Int))
      (Affine.addi (e := ((ak t0 (k + 1) : ℕ) : Int)) (isInt_nat (by omega))
        (Affine.muli (e := ((32 * (k.val + 1) : ℕ) : Int)) (isInt_nat (n := 32) (by omega))
          (Affine.addi (e := ((k.val + 1 : ℕ) : Int)) (iv01 (by omega)) (isInt_nat (n := 1) (by omega)) (by omega)) (by omega)) (by unfold ak; omega))
      (isInt_nat (n := 2016) (by omega)) (by unfold ck; omega)),
    eq_ofNat (Affine.addi (e := ((bat i * 2048 + ck t0 (k + 1) : ℕ) : Int)) (isInt_nat (by omega)) (isInt_nat (by omega)) (by omega)),
    toNat_nat (by omega)]

theorem off71_eq (i : grid0.Coords) {t0 t1 : ℕ} (h : t0 < t1) (h1 : t1 ≤ 2048)
    (k : Fin (k0_t6_loop (BitVec.ofNat 32 t0) (BitVec.ofNat 32 t1)).trips) :
    k0_off71 i (BitVec.ofNat 32 t0) (BitVec.ofNat 32 t1) k = ![bat i * 2048 + ck t0 (k + 1), 0] := off70_eq i h h1 k

/-! ## A token's number, row and place in its copy -/

/-- The number of the token at trip `j` of chunk `k`. -/
abbrev tokW (v59 : BitVec 32) (k j : ℕ) : BitVec 32 := Scf.iv (loW v59 k) 1#32 j

theorem tokW_eq {t0 k j : ℕ} (h : t0 ≤ 2048) (hk : k ≤ 64) (hj : j ≤ 32) :
    tokW (BitVec.ofNat 32 t0) k j = BitVec.ofNat 32 (lo t0 k + j) := by
  show Scf.iv (loW (BitVec.ofNat 32 t0) k) 1#32 j = _
  have hlo : lo t0 k ≤ 5000 := by unfold lo ak a0; omega
  rw [loW_eq h hk]
  exact eq_ofNat (Affine.iv (isInt_nat (by omega)) (isInt_nat (n := 1) (by omega)) j (by omega))

section Token
variable {t0 t1 : ℕ} (h : t0 < t1) (h1 : t1 ≤ 2048) (k : Fin (k0_t6_loop (BitVec.ofNat 32 t0) (BitVec.ofNat 32 t1)).trips)
  (j : Fin (k0_t7_loop (BitVec.ofNat 32 t0) (BitVec.ofNat 32 t1) k).trips)
include h h1

theorem tok_lt : lo t0 k + j < hi t0 t1 k := by
  have := trips_t7 h h1 k; have := j.isLt; omega

theorem tok_le : j.val ≤ 32 := by
  obtain ⟨-, a, b, -, -⟩ := chunk_facts h h1 (chunk_lt h h1 k)
  have := tok_lt h h1 k j; omega

theorem off74_eq : k0_off74 (BitVec.ofNat 32 t0) (BitVec.ofNat 32 t1) k j = ![lo t0 k + j] := by
  show ![(tokW (BitVec.ofNat 32 t0) k j).toNat] = _
  have hk := chunk_le h h1 k
  have hj := tok_le h h1 k j
  have hlo : lo t0 k ≤ 5000 := by unfold lo ak a0; omega
  rw [tokW_eq (by omega) hk hj, toNat_nat (by omega)]

/-- The slot the token's row was copied to. -/
theorem slot_toNat : (fmodW (Scf.iv 0#32 1#32 k.val) 2#32).toNat = k.val % 2 := by
  rw [eq_ofNat (slotW_isInt (chunk_le h h1 k)), toNat_nat (by omega)]

/-- Where in its slot the token's row was copied to. -/
theorem place_toNat :
    (Scalar.subi (tokW (BitVec.ofNat 32 t0) k j) (Scalar.minsi (akW (BitVec.ofNat 32 t0) k) 2016#32)).toNat
      = lo t0 k + j - ck t0 k := by
  have hk := chunk_le h h1 k
  have hj := tok_le h h1 k j
  have hlo : lo t0 k ≤ 5000 := by unfold lo ak a0; omega
  have := ck_le (t0 := t0) (k := k.val)
  obtain ⟨-, a, b, -, -⟩ := chunk_facts h h1 (chunk_lt h h1 k)
  rw [tokW_eq (by omega) hk hj, ckW_eq (by omega) hk,
    eq_ofNat (Affine.subi (e := ((lo t0 k + j - ck t0 k : ℕ) : Int)) (isInt_nat (by omega)) (isInt_nat (by omega)) (by omega)),
    toNat_nat (by omega)]

end Token

/-- The row of the accumulator that belongs to segment `s`. -/
theorem acc_toNat (i : grid0.Coords) {t s : ℕ} (ht : t < 4) (hs : base i t ≤ s) (hs1 : s < base i t + 128) :
    (Scalar.subi (BitVec.ofNat 32 s) (baseW i t)).toNat = s - base i t := by
  have := base_le i ht
  rw [baseW_eq i ht, eq_ofNat (Affine.subi (e := ((s - base i t : ℕ) : Int)) (isInt_nat (by omega)) (isInt_nat (by omega)) (by omega)),
    toNat_nat (by omega)]

/-- The trip's row of the scaling loop, and of the loops that clear rows. -/
theorem iv_toNat {a t : ℕ} (h : a + t < 2 ^ 31) : (Scf.iv (BitVec.ofNat 32 a) 1#32 t).toNat = a + t := by
  rw [eq_ofNat (Affine.iv (e := ((a + t : ℕ) : Int)) (isInt_nat (by omega)) (isInt_nat (n := 1) (by omega)) t (by omega)), toNat_nat h]

/-- The middle of a search's range. -/
theorem mid_eq {a b : ℕ} (ha : a ≤ 4096) (hb : b ≤ 4096) :
    fdivW (Scalar.addi (BitVec.ofNat 32 a) (BitVec.ofNat 32 b)) 2#32 = BitVec.ofNat 32 ((a + b) / 2) :=
  eq_ofNat (fdivW_isInt (n := ((a + b : ℕ) : Int)) (Affine.addi (isInt_nat (by omega)) (isInt_nat (by omega)) (by omega)) (isInt_nat (n := 2) (by omega)) (by omega) (by omega) (by omega))

theorem off67_eq {a b : ℕ} (ha : a ≤ 4096) (hb : b ≤ 4096) :
    k0_off67 (BitVec.ofNat 32 a) (BitVec.ofNat 32 b) = ![(a + b) / 2] := by
  show ![(fdivW (Scalar.addi (BitVec.ofNat 32 a) (BitVec.ofNat 32 b)) 2#32).toNat] = _
  rw [mid_eq ha hb, toNat_nat (by omega)]

theorem off68_eq {a b : ℕ} (ha : a ≤ 4096) (hb : b ≤ 4096) :
    k0_off68 (BitVec.ofNat 32 a) (BitVec.ofNat 32 b) = ![(a + b) / 2] := off67_eq ha hb

theorem slt_nat_iff {a b : ℕ} (ha : a < 2 ^ 31) (hb : b < 2 ^ 31) :
    Scalar.cmpi .slt (BitVec.ofNat 32 a) (BitVec.ofNat 32 b) = 1#1 ↔ a < b := by
  rw [slt_iff (isInt_nat ha) (isInt_nat hb)]; omega

end Cert.Proof
-- ==== Proof.Checks.lean ====
/-
The bounds the pooling kernel checks before it uses an index: every one of them holds.
-/
module

public import proofs.«01_k».proof.Proof.Words

@[expose] public section

set_option maxRecDepth 16384

namespace Cert.Proof

open Idealize.ShloMosaic Idealize.ShloMosaic.Affine
open Cert.KernelIdeal

/-! ## Bounds of a piece of a row -/

theorem inb_acc {w : BitVec 32} {c : ℕ} (hw : w.toNat < 128) (hc : c + 16 ≤ 512) :
    ∀ a, (![w.toNat, c] : Fin 2 → ℕ) a + S1x16.size a ≤ S128x512.size a := by
  intro a
  fin_cases a
  · show w.toNat + 1 ≤ 128; omega
  · show c + 16 ≤ 512; omega

theorem inb_cnt {w : BitVec 32} (hw : w.toNat < 128) :
    ∀ a, (![w.toNat, 0] : Fin 2 → ℕ) a + S1x16.size a ≤ S128x16.size a := by
  intro a
  fin_cases a
  · show w.toNat + 1 ≤ 128; omega
  · show 0 + 16 ≤ 16; omega

theorem inb_buf {u w : BitVec 32} {c : ℕ} (hu : u.toNat < 2) (hw : w.toNat < 32) (hc : c + 16 ≤ 512) :
    ∀ a, (![u.toNat, w.toNat, c] : Fin 3 → ℕ) a + S1x1x16.size a ≤ S2x32x512.size a := by
  intro a
  fin_cases a
  · show u.toNat + 1 ≤ 2; omega
  · show w.toNat + 1 ≤ 32; omega
  · show c + 16 ≤ 512; omega

theorem inb_hid {n : ℕ} (h : n + 32 ≤ 16384) : ∀ a, (![n, 0] : Fin 2 → ℕ) a + S32x512.size a ≤ S16384x512.size a := by
  intro a
  fin_cases a
  · show n + 32 ≤ 16384; omega
  · show 0 + 512 ≤ 512; omega

theorem inb_seg {n : ℕ} (h : n ≤ 2048) : ∀ a, (![n] : Fin 1 → ℕ) a + S16.size a ≤ S2064.size a := by
  intro a
  fin_cases a
  show n + 16 ≤ 2064; omega

theorem ok_span {a b : ℕ} (hb : b < 2 ^ 30) (hab : a ≤ b) : Scf.OK (BitVec.ofNat 32 a) (BitVec.ofNat 32 b) 1#32 :=
  Affine.ok (isInt_nat (by omega)) (isInt_nat (by omega)) (isInt_nat (n := 1) (by omega)) (by omega)

theorem ok_rest (lb x : BitVec 32) :
    Scf.OK (Scalar.addi lb (Scalar.muli (Scalar.divsi x 1#32) 1#32)) (Scalar.addi lb x) 1#32 := by
  rw [Scalar.muli_divsi_one]
  refine ⟨by decide, ?_⟩
  rw [trips_self]
  have := (Affine.word_range (Scalar.addi lb x)).2
  simpa using this

theorem no_trip {n : ℕ} (h : n = 0) (j : Fin n) : False := by have := j.isLt; omega

theorem ok_t12 (i : grid0.Coords) {mx : ℕ} (hm : mx < 2048) (t : Fin k0_t1_loop.trips) :
    (k0_t12_loop i (BitVec.ofNat 32 mx) t).OK := by
  show Scf.OK 0#32 (Scalar.addi 0#32 (Scalar.muli (Scalar.divsi (Scalar.subi (usedW i (BitVec.ofNat 32 mx) t) 0#32) 1#32) 1#32)) 1#32
  rw [whole_ub, usedW_eq i hm (trips_t1 ▸ t.isLt)]
  exact ok_span (a := 0) (by have := used_le i mx t; omega) (by omega)

theorem ok_t14 (i : grid0.Coords) {mx : ℕ} (hm : mx < 2048) (t : Fin k0_t1_loop.trips) :
    (k0_t14_loop i (BitVec.ofNat 32 mx) t).OK := by
  show Scf.OK (usedW i (BitVec.ofNat 32 mx) t) (Scalar.addi (usedW i (BitVec.ofNat 32 mx) t) (Scalar.muli (Scalar.divsi (Scalar.subi 128#32 (usedW i (BitVec.ofNat 32 mx) t)) 1#32) 1#32)) 1#32
  rw [whole_ub, usedW_eq i hm (trips_t1 ▸ t.isLt)]
  exact ok_span (b := 128) (by omega) (used_le i mx t)

theorem ok_t6 {t0 t1 : ℕ} (h : t0 ≤ t1) (h1 : t1 ≤ 2048) : (k0_t6_loop (BitVec.ofNat 32 t0) (BitVec.ofNat 32 t1)).OK := by
  show Scf.OK 0#32 (Scalar.addi 0#32 (Scalar.muli (Scalar.divsi (Scalar.subi (nkW (BitVec.ofNat 32 t0) (BitVec.ofNat 32 t1)) 0#32) 1#32) 1#32)) 1#32
  rw [whole_ub, nkW_eq h h1]
  exact ok_span (a := 0) (by have := nk_le (t0 := t0) h1; omega) (by omega)

theorem ok_t7 {t0 t1 : ℕ} (h : t0 < t1) (h1 : t1 ≤ 2048)
    (k : Fin (k0_t6_loop (BitVec.ofNat 32 t0) (BitVec.ofNat 32 t1)).trips) :
    (k0_t7_loop (BitVec.ofNat 32 t0) (BitVec.ofNat 32 t1) k).OK := by
  have hk := chunk_lt h h1 k
  have hn := nk_le (t0 := t0) h1
  obtain ⟨hlh, -, -, -, hh⟩ := chunk_facts h h1 hk
  show Scf.OK (loW (BitVec.ofNat 32 t0) k) (Scalar.addi (loW (BitVec.ofNat 32 t0) k) (Scalar.muli (Scalar.divsi (Scalar.subi (Scalar.minsi (Scalar.addi (akW (BitVec.ofNat 32 t0) k) 32#32) (BitVec.ofNat 32 t1)) (loW (BitVec.ofNat 32 t0) k)) 1#32) 1#32)) 1#32
  rw [whole_ub, loW_eq (by omega) (by omega), hiW_eq h.le h1 (by omega)]
  exact ok_span (by omega) hlh.le

/-! ## The rows the scaling loop and the clearing loops walk -/

section Walk
variable (i : grid0.Coords) {mx : ℕ} (hm : mx < 2048) (t : Fin k0_t1_loop.trips)
include hm

theorem scale_row (j : Fin (k0_t12_loop i (BitVec.ofNat 32 mx) t).trips) :
    (Scf.iv 0#32 1#32 j.val).toNat = j.val ∧ j.val < used i mx t := by
  have hj : j.val < used i mx t := j.isLt.trans_eq (trips_t12 i hm t)
  have := used_le i mx t
  exact ⟨(iv_toNat (a := 0) (by omega)).trans (Nat.zero_add _), hj⟩

theorem clear_row (j : Fin (k0_t14_loop i (BitVec.ofNat 32 mx) t).trips) :
    (Scf.iv (usedW i (BitVec.ofNat 32 mx) t) 1#32 j.val).toNat = used i mx t + j.val ∧ used i mx t + j.val < 128 := by
  have hj : j.val < 128 - used i mx t := j.isLt.trans_eq (trips_t14 i hm t)
  have := used_le i mx t
  rw [usedW_eq i hm (trips_t1 ▸ t.isLt)]
  exact ⟨iv_toNat (by omega), by omega⟩

theorem scale_lt (j : Fin (k0_t12_loop i (BitVec.ofNat 32 mx) t).trips) : (Scf.iv 0#32 1#32 j.val).toNat < 128 := by
  obtain ⟨a, b⟩ := scale_row i hm t j
  have := used_le i mx t; omega

theorem clear_lt (j : Fin (k0_t14_loop i (BitVec.ofNat 32 mx) t).trips) :
    (Scf.iv (usedW i (BitVec.ofNat 32 mx) t) 1#32 j.val).toNat < 128 := by
  obtain ⟨a, b⟩ := clear_row i hm t j
  omega

end Walk

section Groups
variable (i : grid0.Coords) {mx : ℕ} (hm : mx < 2048)
include hm

theorem chk8_0_holds : k0_chk8_0 i (BitVec.ofNat 32 mx) := by
  refine ⟨fun t _ => ok_t12 i hm t, fun t j _ => inb_cnt (scale_lt i hm t j), ?_⟩
  iterate 29 refine ⟨fun t j _ => inb_acc (scale_lt i hm t j) (by decide), ?_⟩
  exact fun t j _ => inb_acc (scale_lt i hm t j) (by decide)

theorem chk8_1_holds : k0_chk8_1 i (BitVec.ofNat 32 mx) := by
  iterate 2 refine ⟨fun t j _ => inb_acc (scale_lt i hm t j) (by decide), ?_⟩
  refine ⟨fun t _ => ok_rest _ _, ?_⟩
  iterate 28 refine ⟨fun t j _ => (no_trip (trips_t13 _ _ t) j).elim, ?_⟩
  exact fun t j _ => (no_trip (trips_t13 _ _ t) j).elim

theorem chk8_2_holds : k0_chk8_2 i (BitVec.ofNat 32 mx) := by
  iterate 4 refine ⟨fun t j _ => (no_trip (trips_t13 _ _ t) j).elim, ?_⟩
  refine ⟨fun t _ => ok_t14 i hm t, ?_⟩
  iterate 26 refine ⟨fun t j _ => inb_acc (clear_lt i hm t j) (by decide), ?_⟩
  exact fun t j _ => inb_acc (clear_lt i hm t j) (by decide)

theorem chk8_3_holds : k0_chk8_3 i (BitVec.ofNat 32 mx) := by
  iterate 5 refine ⟨fun t j _ => inb_acc (clear_lt i hm t j) (by decide), ?_⟩
  refine ⟨fun t _ => ok_rest _ _, ?_⟩
  iterate 25 refine ⟨fun t j _ => (no_trip (trips_t15 _ _ t) j).elim, ?_⟩
  exact fun t j _ => (no_trip (trips_t15 _ _ t) j).elim

omit hm in
theorem chk8_4_holds (mx : ℕ) : k0_chk8_4 i (BitVec.ofNat 32 mx) := by
  iterate 5 refine ⟨fun t j _ => (no_trip (trips_t15 _ _ t) j).elim, ?_⟩
  exact fun t j _ => (no_trip (trips_t15 _ _ t) j).elim

/-- The bounds of the scaling and clearing loops. -/
theorem chk8_holds : k0_chk8 i (BitVec.ofNat 32 mx) :=
  ⟨chk8_0_holds i hm, chk8_1_holds i hm, chk8_2_holds i hm, chk8_3_holds i hm, chk8_4_holds i mx⟩

end Groups

/-- The bounds of a search's read. -/
theorem chk1_holds (i : grid0.Coords) (v17 : BitVec 32) (t : Fin k0_t1_loop.trips) {a b : ℕ} (h : a + b ≤ 4096) :
    k0_chk1 i v17 t (BitVec.ofNat 32 a) (BitVec.ofNat 32 b) := by
  intro _
  rw [off67_eq (by omega) (by omega)]
  exact inb_seg (by omega)

theorem chk2_holds (i : grid0.Coords) (v17 : BitVec 32) (t : Fin k0_t1_loop.trips) {a b : ℕ} (h : a + b ≤ 4096) :
    k0_chk2 i v17 t (BitVec.ofNat 32 a) (BitVec.ofNat 32 b) := by
  intro _
  rw [off68_eq (by omega) (by omega)]
  exact inb_seg (by omega)

/-- The bounds of the chunks' copies and of the tokens. -/
theorem chk3_holds (i : grid0.Coords) (v17 : BitVec 32) (t : Fin k0_t1_loop.trips) {t0 t1 : ℕ} (h : t0 < t1) (h1 : t1 ≤ 2048) :
    k0_chk3 i v17 t (BitVec.ofNat 32 t0) (BitVec.ofNat 32 t1) := by
  have hb := bat_lt i
  have hc : ∀ k, ck t0 k ≤ 2016 := fun k => ck_le
  refine ⟨fun _ _ => ?_, fun _ => ok_t6 h.le h1, fun k _ _ => ?_, fun k _ _ => ?_, fun k _ _ => ?_, fun k _ _ => ?_,
    fun k _ => ok_t7 h h1 k, fun k j _ => ?_, fun k _ => ok_rest _ _, fun k j _ => (no_trip (trips_t8 _ _ k) j).elim,
    fun _ => ok_rest _ _, fun k => (no_trip (trips_t9 _ _) k).elim, fun k => (no_trip (trips_t9 _ _) k).elim,
    fun k => (no_trip (trips_t9 _ _) k).elim, fun k => (no_trip (trips_t9 _ _) k).elim,
    fun k => (no_trip (trips_t9 _ _) k).elim, fun k => (no_trip (trips_t9 _ _) k).elim⟩
  · rw [off69_eq i (by omega)]; have := hc 0; exact inb_hid (by omega)
  · rw [off70_eq i h h1 k]; have := hc (k + 1); exact inb_hid (by omega)
  · rw [off71_eq i h h1 k]; have := hc (k + 1); exact inb_hid (by omega)
  · rw [off72_eq i]; exact inb_hid (by omega)
  · rw [off73_eq i]; exact inb_hid (by omega)
  · rw [off74_eq h h1 k j]
    have := tok_lt h h1 k j
    have := (chunk_facts h h1 (chunk_lt h h1 k)).2.2.2.2
    exact inb_seg (by omega)

section Token
variable (i : grid0.Coords) (v17 : BitVec 32) (t : Fin k0_t1_loop.trips) {t0 t1 : ℕ} (h : t0 < t1) (h1 : t1 ≤ 2048)
  (k : Fin (k0_t6_loop (BitVec.ofNat 32 t0) (BitVec.ofNat 32 t1)).trips)
  (j : Fin (k0_t7_loop (BitVec.ofNat 32 t0) (BitVec.ofNat 32 t1) k).trips)
  (prev : BitVec 32) {s : ℕ} (hs : base i t ≤ s) (hs1 : s < base i t + 128)

include h h1 in
theorem slot_lt : (fmodW (Scf.iv 0#32 1#32 k.val) 2#32).toNat < 2 := by
  rw [slot_toNat h h1 k]; omega

include h h1 in
theorem place_lt :
    (Scalar.subi (tokW (BitVec.ofNat 32 t0) k j) (Scalar.minsi (akW (BitVec.ofNat 32 t0) k) 2016#32)).toNat < 32 := by
  rw [place_toNat h h1 k j]
  obtain ⟨-, a, b, -, -⟩ := chunk_facts h h1 (chunk_lt h h1 k)
  have := tok_lt h h1 k j; omega

include hs hs1 in
theorem accrow_lt : (Scalar.subi (BitVec.ofNat 32 s) (baseW i t)).toNat < 128 := by
  rw [acc_toNat i (trips_t1 ▸ t.isLt) hs hs1]; omega

include h h1 hs hs1

theorem chk4_0_holds : k0_chk4_0 i v17 t (BitVec.ofNat 32 t0) (BitVec.ofNat 32 t1) k j prev (BitVec.ofNat 32 s) := by
  iterate 15 refine ⟨fun _ _ => inb_buf (slot_lt h h1 k) (place_lt h h1 k j) (by decide),
    fun _ _ => inb_acc (accrow_lt i t hs hs1) (by decide), ?_⟩
  exact ⟨fun _ _ => inb_buf (slot_lt h h1 k) (place_lt h h1 k j) (by decide),
    fun _ _ => inb_acc (accrow_lt i t hs hs1) (by decide)⟩

theorem chk4_1_holds : k0_chk4_1 i v17 t (BitVec.ofNat 32 t0) (BitVec.ofNat 32 t1) k j prev (BitVec.ofNat 32 s) := by
  iterate 15 refine ⟨fun _ _ => inb_buf (slot_lt h h1 k) (place_lt h h1 k j) (by decide),
    fun _ _ => inb_acc (accrow_lt i t hs hs1) (by decide), ?_⟩
  exact ⟨fun _ _ => inb_buf (slot_lt h h1 k) (place_lt h h1 k j) (by decide),
    fun _ _ => inb_acc (accrow_lt i t hs hs1) (by decide)⟩

theorem chk4_2_holds : k0_chk4_2 i v17 t (BitVec.ofNat 32 t0) (BitVec.ofNat 32 t1) k j prev (BitVec.ofNat 32 s) := by
  refine ⟨fun _ _ => inb_cnt (accrow_lt i t hs hs1), ?_⟩
  iterate 15 refine ⟨fun _ _ => inb_acc (accrow_lt i t hs hs1) (by decide),
    fun _ _ => inb_buf (slot_lt h h1 k) (place_lt h h1 k j) (by decide), ?_⟩
  exact fun _ _ => inb_acc (accrow_lt i t hs hs1) (by decide)

theorem chk4_3_holds : k0_chk4_3 i v17 t (BitVec.ofNat 32 t0) (BitVec.ofNat 32 t1) k j prev (BitVec.ofNat 32 s) := by
  iterate 15 refine ⟨fun _ _ => inb_buf (slot_lt h h1 k) (place_lt h h1 k j) (by decide),
    fun _ _ => inb_acc (accrow_lt i t hs hs1) (by decide), ?_⟩
  exact ⟨fun _ _ => inb_buf (slot_lt h h1 k) (place_lt h h1 k j) (by decide),
    fun _ _ => inb_acc (accrow_lt i t hs hs1) (by decide)⟩

theorem chk4_4_holds : k0_chk4_4 i v17 t (BitVec.ofNat 32 t0) (BitVec.ofNat 32 t1) k j prev (BitVec.ofNat 32 s) :=
  ⟨fun _ _ => inb_buf (slot_lt h h1 k) (place_lt h h1 k j) (by decide), fun _ _ => inb_cnt (accrow_lt i t hs hs1)⟩

/-- The bounds of a token's additions. -/
theorem chk4_holds : k0_chk4 i v17 t (BitVec.ofNat 32 t0) (BitVec.ofNat 32 t1) k j prev (BitVec.ofNat 32 s) :=
  ⟨chk4_0_holds i v17 t h h1 k j prev hs hs1, chk4_1_holds i v17 t h h1 k j prev hs hs1,
    chk4_2_holds i v17 t h h1 k j prev hs hs1, chk4_3_holds i v17 t h h1 k j prev hs hs1,
    chk4_4_holds i v17 t h h1 k j prev hs hs1⟩

end Token

end Cert.Proof
-- ==== Proof.Rows.lean ====
/-
The tile's buffers by natural-number coordinates, and the steps that read and write sixteen
columns of one row of them.
-/
module

public import proofs.«01_k».proof.Proof.Checks
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Writes
public import Idealize.ShloMosaic.Lib.Tactic

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters
abbrev EH : Emb UH (MT nD τ sig (HIx 1) (Elt F) ℕ UU ℕ) := embL

local notation "𝕄" => MT nD τ sig (HIx 1) (Elt F) ℕ UU ℕ

/-! ## The buffers -/

abbrev hidM : Memref sig .scVector .hbm S16384x512 .f32 := Memref.whole main_v0_scv
abbrev segM : Memref sig .scVector .hbm S16384 .i32 := Memref.whole main_v1_scv
abbrev outM : Memref sig .scVector .hbm S16384x512 .f32 := Memref.whole main_v2_scv
abbrev rowM : Memref sig .scVector .vmem S2064 .i32 := Memref.whole cc0_scratch0
abbrev bufM : Memref sig .scVector .vmem S2x32x512 .f32 := Memref.whole cc0_scratch1
abbrev accM : Memref sig .scVector .vmem S128x512 .f32 := Memref.whole cc0_scratch2
abbrev cntM : Memref sig .scVector .vmem S128x16 .f32 := Memref.whole cc0_scratch3

abbrev cV (L : grid0.Coords) : Fin τ.nSC := (L 0).castLE hcore0
abbrev jV (L : grid0.Coords) : Fin τ.nSub := (L 1).castLE hsub0
/-- The tile's thread. -/
abbrev tile (d : Dev nD) (L : grid0.Coords) : Thread nD τ := V d (cV L) (jV L)

/-- An array of 128 rows of 512, by its coordinates. -/
def arr2 (X : ℕ → ℕ → F .f32) : S128x512.Idx → F .f32 := fun y => X (y 0).val (y 1).val
/-- An array of 128 rows of 16, by its coordinates. -/
def arrC (Y : ℕ → ℕ → F .f32) : S128x16.Idx → F .f32 := fun y => Y (y 0).val (y 1).val
/-- An array of 2 blocks of 32 rows of 512, by its coordinates. -/
def arr3 (B : ℕ → ℕ → ℕ → F .f32) : S2x32x512.Idx → F .f32 := fun y => B (y 0).val (y 1).val (y 2).val
/-- A row of 2064 words, by its coordinate. -/
def arr1 (s : ℕ → BitVec 32) : S2064.Idx → BitVec 32 := fun y => s (y 0).val

/-- Row `r` with its first `16 n` columns replaced by `g`. -/
def setRow (X : ℕ → ℕ → F .f32) (r n : ℕ) (g : ℕ → F .f32) : ℕ → ℕ → F .f32 :=
  fun r' c => if r' = r ∧ c < 16 * n then g c else X r' c

theorem setRow_zero (X : ℕ → ℕ → F .f32) (r : ℕ) (g : ℕ → F .f32) : setRow X r 0 g = X := by
  funext r' c; unfold setRow; rw [if_neg (by omega)]

theorem setRow_row {X : ℕ → ℕ → F .f32} {r n : ℕ} {g : ℕ → F .f32} {c : ℕ} (hc : c < 16 * n) : setRow X r n g r c = g c :=
  if_pos ⟨rfl, hc⟩

theorem setRow_other {X : ℕ → ℕ → F .f32} {r n : ℕ} {g : ℕ → F .f32} {r' c : ℕ} (h : r' ≠ r) : setRow X r n g r' c = X r' c :=
  if_neg fun h' => h h'.1

variable [FloatOps F] (d : Dev nD) (L : grid0.Coords)

abbrev accPt (X : ℕ → ℕ → F .f32) : sProp 𝕄 := accM.view.loc (tile d L) ↦{fullShare} (arr2 X : Buf (Elt F) (accM.view.loc (tile d L)))
abbrev cntPt (Y : ℕ → ℕ → F .f32) : sProp 𝕄 := cntM.view.loc (tile d L) ↦{fullShare} (arrC Y : Buf (Elt F) (cntM.view.loc (tile d L)))
abbrev bufPt (S : Finset S2x32x512.Idx) (B : ℕ → ℕ → ℕ → F .f32) : sProp 𝕄 :=
  bufM.view.loc (tile d L) ↦[(S : Finset (Idx (bufM.view.loc (tile d L))))]{fullShare} (arr3 B : Buf (Elt F) (bufM.view.loc (tile d L)))
abbrev rowPt (s : ℕ → BitVec 32) : sProp 𝕄 := rowM.view.loc (tile d L) ↦{fullShare} (arr1 s : Buf (Elt F) (rowM.view.loc (tile d L)))

/-- The tile's program. -/
abbrev TProg (α : Type) := Prog (TpuEff nD τ sig (Elt F) Λ₀ (.scVector (cV L) (jV L))) α
/-- What the tile's program does, from here to its end. -/
abbrev run' {α : Type} (p : TProg (F := F) L α) (Q : α → sProp 𝕄) : sProp 𝕄 :=
  wp frame (wpE (defs₀ (F := F)) 𝒱₀ (tile d L) none) Set.univ p Q

variable {d L}

/-! ## Steps -/

theorem step_bind {α β : Type} {Q : α → sProp 𝕄} {P : sProp 𝕄} {p : TProg (F := F) L β} {k : β → TProg (F := F) L α} (h : P ⊢ run' d L p fun v => run' d L (k v) Q) :
    P ⊢ run' d L (p >>= k) Q := by
  unfold run'; rw [wp_bind]; exact h

theorem step_ret {α : Type} {Q : α → sProp 𝕄} {P : sProp 𝕄} {a : α} (h : P ⊢ Q a) : P ⊢ run' d L (.ret a) Q :=
  h.trans (le_wp_ret frame (wpE (defs₀ (F := F)) 𝒱₀ (tile d L) none) Set.univ a Q)

/-- An assumption that holds. -/
theorem step_assume {α : Type} {Q : α → sProp 𝕄} {P : sProp 𝕄} {φ : Prop} {dec : Decidable φ} {k : PLift φ → TProg (F := F) L α} (hφ : φ)
    (h : P ⊢ run' d L (k ⟨hφ⟩) Q) : P ⊢ run' d L (Prog.lift (.assume φ dec) >>= k) Q :=
  step_bind ((step_ret (Q := fun v => run' d L (k v) Q) h).trans (wp_assume 𝒱₀ (tile d L) none Set.univ hφ))

/-- The first branch. -/
theorem step_then {α : Type} {Q : α → sProp 𝕄} {P : sProp 𝕄} {c : Prop} {dec : Decidable c} {A : c → TProg (F := F) L α}
    {B : ¬ c → TProg (F := F) L α} (hc : c) (h : P ⊢ run' d L (A hc) Q) : P ⊢ run' d L (dite c A B) Q := by
  rwa [dif_pos hc]

/-- The second branch. -/
theorem step_else {α : Type} {Q : α → sProp 𝕄} {P : sProp 𝕄} {c : Prop} {dec : Decidable c} {A : c → TProg (F := F) L α}
    {B : ¬ c → TProg (F := F) L α} (hc : ¬ c) (h : P ⊢ run' d L (B hc) Q) : P ⊢ run' d L (dite c A B) Q := by
  rwa [dif_neg hc]

/-- What holds, beside what is held. -/
theorem with_fact {P : sProp 𝕄} {φ : Prop} (hφ : φ) : P ⊢ iprop(⌜φ⌝ ∗ P) := by
  iintro H
  isplitr [H]; · ipureintro; exact hφ
  iexact H

theorem sub_univ {ι : Type} [Fintype ι] (s : Finset ι) : s ⊆ Finset.univ := Finset.subset_univ s

section Acc
variable {X : ℕ → ℕ → F .f32} {Y : ℕ → ℕ → F .f32} {off : Fin 2 → ℕ} {inb : ∀ a, off a + S1x16.size a ≤ S128x512.size a}

/-- Sixteen columns of a row of the accumulator are read. -/
theorem step_loadAcc {α : Type} {Q : α → sProp 𝕄} {P : sProp 𝕄} {hl : accM.view.LoadsAt (Rect.unit (s := S128x512) off S1x16.size inb).toLoadRect}
    {k : (S1x16.Idx → Elt F .f32) → TProg (F := F) L α} (r c : ℕ) (hoff : off = ![r, c])
    (h : iprop(P ∗ accPt d L X ∗ cntPt d L Y) ⊢ run' d L (k fun x => X r (c + (x 1).val)) Q) :
    iprop(P ∗ accPt d L X ∗ cntPt d L Y)
      ⊢ run' d L (Prog.lift (.load accM (Rect.unit (s := S128x512) off S1x16.size inb).toLoadRect hl) >>= k) Q := by
  subst hoff
  refine step_bind ?_
  have hr : (accM.access (Rect.unit (s := S128x512) ![r, c] S1x16.size inb)).read (Elt F) (arr2 X) = fun x => X r (c + (x 1).val) := by
    funext x
    have h0 : (x 0).val = 0 := by have : (x 0).val < 1 := (x 0).isLt; omega
    show X (r + 1 * (x 0).val) (c + 1 * (x 1).val) = _
    rw [h0]; simp only [Nat.one_mul, Nat.mul_zero, Nat.add_zero]
  iintro ⟨HP, Hx, Hy⟩
  iapply (wp_load_rect (m := accM) (r := Rect.unit (s := S128x512) ![r, c] S1x16.size inb) 𝒱₀ (tile d L) none Set.univ (sub_univ _)) $$ Hx
  iintro Hx
  rw [hr]
  iapply (step_ret (d := d) (L := L) (Q := fun v => run' d L (k v) Q) h)
  isplitl [HP]; · iexact HP
  isplitl [Hx]; · iexact Hx
  iexact Hy

/-- A row of which nothing is replaced yet is the row. -/
theorem start_row {G P : sProp 𝕄} (r : ℕ) (g : ℕ → F .f32) (h : iprop(P ∗ accPt d L (setRow X r 0 g) ∗ cntPt d L Y) ⊢ G) :
    iprop(P ∗ accPt d L X ∗ cntPt d L Y) ⊢ G := by
  rwa [setRow_zero] at h

/-- The next sixteen columns of a row that is being replaced still hold the old values. -/
theorem step_loadNext {α : Type} {Q : α → sProp 𝕄} {P : sProp 𝕄} {r n : ℕ} {g : ℕ → F .f32}
    {hl : accM.view.LoadsAt (Rect.unit (s := S128x512) off S1x16.size inb).toLoadRect}
    {k : (S1x16.Idx → Elt F .f32) → TProg (F := F) L α} (hoff : off = ![r, 16 * n])
    (h : iprop(P ∗ accPt d L (setRow X r n g) ∗ cntPt d L Y) ⊢ run' d L (k fun x => X r (16 * n + (x 1).val)) Q) :
    iprop(P ∗ accPt d L (setRow X r n g) ∗ cntPt d L Y)
      ⊢ run' d L (Prog.lift (.load accM (Rect.unit (s := S128x512) off S1x16.size inb).toLoadRect hl) >>= k) Q := by
  refine step_loadAcc r (16 * n) hoff ?_
  have hr : (fun x : S1x16.Idx => setRow X r n g r (16 * n + (x 1).val)) = fun x => X r (16 * n + (x 1).val) := by
    funext x
    exact if_neg (by omega)
  rw [hr]; exact h

/-- Sixteen columns of a row of the accumulator are written, the next of a row that is being replaced. -/
theorem step_storeAcc {α : Type} {Q : α → sProp 𝕄} {P : sProp 𝕄} {w : S1x16.Idx → Elt F .f32}
    {hx : (accM.access (Rect.unit (s := S128x512) off S1x16.size inb)).Stores Finset.univ}
    {hm : (Finset.univ : Finset S1x16.Idx) = Finset.univ ∨ ∀ a, (Rect.unit (s := S128x512) off S1x16.size inb).stride a = 1}
    {k : PUnit → TProg (F := F) L α} (r n : ℕ) (g : ℕ → F .f32) (hoff : off = ![r, 16 * n])
    (hw : ∀ x, w x = g (16 * n + (x 1).val))
    (h : iprop(P ∗ accPt d L (setRow X r (n + 1) g) ∗ cntPt d L Y) ⊢ run' d L (k ⟨⟩) Q) :
    iprop(P ∗ accPt d L (setRow X r n g) ∗ cntPt d L Y)
      ⊢ run' d L (Prog.lift (.store accM (Rect.unit (s := S128x512) off S1x16.size inb) w Finset.univ hx hm) >>= k) Q := by
  subst hoff
  refine step_bind ?_
  have hr : (accM.access (Rect.unit (s := S128x512) ![r, 16 * n] S1x16.size inb)).write (Elt F) (arr2 (setRow X r n g)) w Finset.univ
      = arr2 (setRow X r (n + 1) g) := by
    funext y
    by_cases hy : (y 0).val = r ∧ 16 * n ≤ (y 1).val ∧ (y 1).val < 16 * n + 16
    · obtain ⟨x, hxe, hx1⟩ : ∃ x : S1x16.Idx, (accM.access (Rect.unit (s := S128x512) ![r, 16 * n] S1x16.size inb)).emb x = y ∧ (x 1).val = (y 1).val - 16 * n := by
        refine ⟨fun | 0 => ⟨0, by decide⟩ | 1 => ⟨(y 1).val - 16 * n, by show _ < 16; omega⟩, ?_, rfl⟩
        funext a
        refine Fin.ext ?_
        fin_cases a
        · show r + 1 * 0 = (y 0).val; omega
        · show 16 * n + 1 * ((y 1).val - 16 * n) = (y 1).val; omega
      subst hxe
      rw [View.write_emb_of_mem _ _ (Finset.mem_univ _)]
      show w x = _
      rw [hw x]
      show _ = setRow X r (n + 1) g _ _
      unfold setRow
      rw [if_pos ⟨hy.1, by omega⟩]
      congr 1; omega
    · rw [View.write_of_not_mem]
      · show setRow X r n g _ _ = setRow X r (n + 1) g _ _
        unfold setRow
        by_cases h1 : (y 0).val = r
        · by_cases h2 : (y 1).val < 16 * n
          · rw [if_pos ⟨h1, h2⟩, if_pos ⟨h1, by omega⟩]
          · rw [if_neg (by omega), if_neg (by omega)]
        · rw [if_neg (by omega), if_neg (by omega)]
      · intro hmem
        obtain ⟨x, -, rfl⟩ := Finset.mem_map.mp hmem
        refine hy ⟨?_, ?_⟩
        · show r + 1 * (x 0).val = r
          have : (x 0).val < 1 := (x 0).isLt
          omega
        · have : (x 1).val < 16 := (x 1).isLt
          show 16 * n ≤ 16 * n + 1 * (x 1).val ∧ 16 * n + 1 * (x 1).val < 16 * n + 16
          omega
  iintro ⟨HP, Hx, Hy⟩
  iapply (wp_store (m := accM) (r := Rect.unit (s := S128x512) ![r, 16 * n] S1x16.size inb) 𝒱₀ (tile d L) none Set.univ (sub_univ _)) $$ Hx
  iintro Hx
  rw [hr]
  iapply (step_ret (d := d) (L := L) (Q := fun v => run' d L (k v) Q) h)
  isplitl [HP]; · iexact HP
  isplitl [Hx]; · iexact Hx
  iexact Hy

end Acc

section Cnt
variable {X : ℕ → ℕ → F .f32} {Y : ℕ → ℕ → F .f32} {off : Fin 2 → ℕ} {inb : ∀ a, off a + S1x16.size a ≤ S128x16.size a}

/-- A row of the counts is read. -/
theorem step_loadCnt {α : Type} {Q : α → sProp 𝕄} {P : sProp 𝕄} {hl : cntM.view.LoadsAt (Rect.unit (s := S128x16) off S1x16.size inb).toLoadRect}
    {k : (S1x16.Idx → Elt F .f32) → TProg (F := F) L α} (r : ℕ) (hoff : off = ![r, 0])
    (h : iprop(P ∗ accPt d L X ∗ cntPt d L Y) ⊢ run' d L (k fun x => Y r (x 1).val) Q) :
    iprop(P ∗ accPt d L X ∗ cntPt d L Y)
      ⊢ run' d L (Prog.lift (.load cntM (Rect.unit (s := S128x16) off S1x16.size inb).toLoadRect hl) >>= k) Q := by
  subst hoff
  refine step_bind ?_
  have hr : (cntM.access (Rect.unit (s := S128x16) ![r, 0] S1x16.size inb)).read (Elt F) (arrC Y) = fun x => Y r (x 1).val := by
    funext x
    have h0 : (x 0).val = 0 := by have : (x 0).val < 1 := (x 0).isLt; omega
    show Y (r + 1 * (x 0).val) (0 + 1 * (x 1).val) = _
    rw [h0]; simp only [Nat.one_mul, Nat.mul_zero, Nat.add_zero, Nat.zero_add]
  iintro ⟨HP, Hx, Hy⟩
  iapply (wp_load_rect (m := cntM) (r := Rect.unit (s := S128x16) ![r, 0] S1x16.size inb) 𝒱₀ (tile d L) none Set.univ (sub_univ _)) $$ Hy
  iintro Hy
  rw [hr]
  iapply (step_ret (d := d) (L := L) (Q := fun v => run' d L (k v) Q) h)
  isplitl [HP]; · iexact HP
  isplitl [Hx]; · iexact Hx
  iexact Hy

/-- A row of the counts is written. -/
theorem step_storeCnt {α : Type} {Q : α → sProp 𝕄} {P : sProp 𝕄} {w : S1x16.Idx → Elt F .f32}
    {hx : (cntM.access (Rect.unit (s := S128x16) off S1x16.size inb)).Stores Finset.univ}
    {hm : (Finset.univ : Finset S1x16.Idx) = Finset.univ ∨ ∀ a, (Rect.unit (s := S128x16) off S1x16.size inb).stride a = 1}
    {k : PUnit → TProg (F := F) L α} (r : ℕ) (g : ℕ → F .f32) (hoff : off = ![r, 0])
    (hw : ∀ x, w x = g (x 1).val)
    (h : iprop(P ∗ accPt d L X ∗ cntPt d L (setRow Y r 1 g)) ⊢ run' d L (k ⟨⟩) Q) :
    iprop(P ∗ accPt d L X ∗ cntPt d L Y)
      ⊢ run' d L (Prog.lift (.store cntM (Rect.unit (s := S128x16) off S1x16.size inb) w Finset.univ hx hm) >>= k) Q := by
  subst hoff
  refine step_bind ?_
  have hr : (cntM.access (Rect.unit (s := S128x16) ![r, 0] S1x16.size inb)).write (Elt F) (arrC Y) w Finset.univ
      = arrC (setRow Y r 1 g) := by
    funext y
    have hy1 : (y 1).val < 16 := (y 1).isLt
    by_cases hy : (y 0).val = r
    · obtain ⟨x, hxe, hx1⟩ : ∃ x : S1x16.Idx, (cntM.access (Rect.unit (s := S128x16) ![r, 0] S1x16.size inb)).emb x = y ∧ (x 1).val = (y 1).val := by
        refine ⟨fun | 0 => ⟨0, by decide⟩ | 1 => ⟨(y 1).val, hy1⟩, ?_, rfl⟩
        funext a
        refine Fin.ext ?_
        fin_cases a
        · show r + 1 * 0 = (y 0).val; omega
        · show 0 + 1 * (y 1).val = (y 1).val; omega
      subst hxe
      rw [View.write_emb_of_mem _ _ (Finset.mem_univ _)]
      show w x = _
      rw [hw x, hx1]
      exact (if_pos ⟨hy, by omega⟩).symm
    · rw [View.write_of_not_mem]
      · exact (if_neg (fun h' => hy h'.1)).symm
      · intro hmem
        obtain ⟨x, -, rfl⟩ := Finset.mem_map.mp hmem
        refine hy ?_
        show r + 1 * (x 0).val = r
        have : (x 0).val < 1 := (x 0).isLt
        omega
  iintro ⟨HP, Hx, Hy⟩
  iapply (wp_store (m := cntM) (r := Rect.unit (s := S128x16) ![r, 0] S1x16.size inb) 𝒱₀ (tile d L) none Set.univ (sub_univ _)) $$ Hy
  iintro Hy
  rw [hr]
  iapply (step_ret (d := d) (L := L) (Q := fun v => run' d L (k v) Q) h)
  isplitl [HP]; · iexact HP
  isplitl [Hx]; · iexact Hx
  iexact Hy

/-- A row of the counts whose lanes agree is read. -/
theorem step_loadCntConst {α : Type} {Q : α → sProp 𝕄} {P : sProp 𝕄}
    {hl : cntM.view.LoadsAt (Rect.unit (s := S128x16) off S1x16.size inb).toLoadRect}
    {k : (S1x16.Idx → Elt F .f32) → TProg (F := F) L α} (r : ℕ) (y : F .f32) (hoff : off = ![r, 0]) (hy : ∀ l < 16, Y r l = y)
    (h : iprop(P ∗ accPt d L X ∗ cntPt d L Y) ⊢ run' d L (k fun _ => y) Q) :
    iprop(P ∗ accPt d L X ∗ cntPt d L Y)
      ⊢ run' d L (Prog.lift (.load cntM (Rect.unit (s := S128x16) off S1x16.size inb).toLoadRect hl) >>= k) Q := by
  refine step_loadCnt r hoff ?_
  have hr : (fun x : S1x16.Idx => Y r (x 1).val) = fun _ => y := by
    funext x
    exact hy _ (x 1).isLt
  rw [hr]; exact h

end Cnt

/-- The elements of one block of the row buffer. -/
def slotSet (u : ℕ) : Finset S2x32x512.Idx := Finset.univ.filter fun y => (y 0).val = u

/-- Sixteen columns of a row of one block of the row buffer are read. -/
theorem step_loadBuf {α : Type} {Q : α → sProp 𝕄} {P : sProp 𝕄} {B : ℕ → ℕ → ℕ → F .f32} {R : sProp 𝕄} {off : Fin 3 → ℕ} {inb : ∀ a, off a + S1x1x16.size a ≤ S2x32x512.size a}
    {hl : bufM.view.LoadsAt (Rect.unit (s := S2x32x512) off S1x1x16.size inb).toLoadRect}
    {k : (S1x1x16.Idx → Elt F .f32) → TProg (F := F) L α} (u r c : ℕ) (hoff : off = ![u, r, c])
    (h : iprop((bufPt d L (slotSet u) B ∗ P) ∗ R) ⊢ run' d L (k fun x => B u r (c + (x 2).val)) Q) :
    iprop((bufPt d L (slotSet u) B ∗ P) ∗ R)
      ⊢ run' d L (Prog.lift (.load bufM (Rect.unit (s := S2x32x512) off S1x1x16.size inb).toLoadRect hl) >>= k) Q := by
  subst hoff
  refine step_bind ?_
  have hr : (bufM.access (Rect.unit (s := S2x32x512) ![u, r, c] S1x1x16.size inb)).read (Elt F) (arr3 B) = fun x => B u r (c + (x 2).val) := by
    funext x
    have h0 : (x 0).val = 0 := by have : (x 0).val < 1 := (x 0).isLt; omega
    have h1 : (x 1).val = 0 := by have : (x 1).val < 1 := (x 1).isLt; omega
    show B (u + 1 * (x 0).val) (r + 1 * (x 1).val) (c + 1 * (x 2).val) = _
    rw [h0, h1]; simp only [Nat.one_mul, Nat.mul_zero, Nat.add_zero]
  have hs : (bufM.access (Rect.unit (s := S2x32x512) ![u, r, c] S1x1x16.size inb)).set ⊆ slotSet u := by
    intro y hy
    obtain ⟨x, -, rfl⟩ := Finset.mem_map.mp hy
    refine Finset.mem_filter.mpr ⟨Finset.mem_univ _, ?_⟩
    show u + 1 * (x 0).val = u
    have : (x 0).val < 1 := (x 0).isLt
    omega
  iintro ⟨⟨Hb, HP⟩, HR⟩
  iapply (wp_load_rect (m := bufM) (r := Rect.unit (s := S2x32x512) ![u, r, c] S1x1x16.size inb) 𝒱₀ (tile d L) none Set.univ hs) $$ Hb
  iintro Hb
  rw [hr]
  iapply (step_ret (d := d) (L := L) (Q := fun v => run' d L (k v) Q) h)
  isplitr [HR]
  · isplitl [Hb]; · iexact Hb
    iexact HP
  iexact HR

/-- Sixteen of the row's segment numbers are read. -/
theorem step_loadRow {α : Type} {Q : α → sProp 𝕄} {A P R : sProp 𝕄} {s : ℕ → BitVec 32} {off : Fin 1 → ℕ} {inb : ∀ a, off a + S16.size a ≤ S2064.size a}
    {hl : rowM.view.LoadsAt (Rect.unit (s := S2064) off S16.size inb).toLoadRect}
    {k : (S16.Idx → Elt F .i32) → TProg (F := F) L α} (r : ℕ) (hoff : off = ![r])
    (h : iprop((A ∗ rowPt d L s ∗ P) ∗ R) ⊢ run' d L (k fun x => s (r + (x 0).val)) Q) :
    iprop((A ∗ rowPt d L s ∗ P) ∗ R)
      ⊢ run' d L (Prog.lift (.load rowM (Rect.unit (s := S2064) off S16.size inb).toLoadRect hl) >>= k) Q := by
  subst hoff
  refine step_bind ?_
  have hr : (rowM.access (Rect.unit (s := S2064) ![r] S16.size inb)).read (Elt F) (arr1 s) = fun x => s (r + (x 0).val) := by
    funext x
    show s (r + 1 * (x 0).val) = _
    rw [one_mul]
  iintro ⟨⟨HA, Hb, HP⟩, HR⟩
  iapply (wp_load_rect (m := rowM) (r := Rect.unit (s := S2064) ![r] S16.size inb) 𝒱₀ (tile d L) none Set.univ (sub_univ _)) $$ Hb
  iintro Hb
  rw [hr]
  iapply (step_ret (d := d) (L := L) (Q := fun v => run' d L (k v) Q) h)
  isplitr [HR]
  · isplitl [HA]; · iexact HA
    isplitl [Hb]; · iexact Hb
    iexact HP
  iexact HR

/-! ## The values stored -/

/-- Sixteen values, laid out as a row, at a lane. -/
theorem lane {v : S16.Idx → F .f32} {h : S16.ShapeCasts S1x16} (x : S1x16.Idx) :
    shapeCast S1x16 v h x = v (fun | 0 => x 1) := by
  refine shapeCast_apply v h x _ ?_
  rw [Shape.rowMajor_val_one, Shape.rowMajor_val_two]
  have : (x 0).val < 1 := (x 0).isLt
  show (x 1).val = (x 0).val * 16 + (x 1).val
  omega

theorem flat {v : S1x16.Idx → F .f32} {h : S1x16.ShapeCasts S16} (y : S16.Idx) :
    shapeCast S16 v h y = v (fun | 0 => ⟨0, by decide⟩ | 1 => y 0) := by
  refine shapeCast_apply v h y _ ?_
  rw [Shape.rowMajor_val_one, Shape.rowMajor_val_two]
  show 0 * 16 + (y 0).val = (y 0).val
  omega

theorem flat3 {v : S1x1x16.Idx → F .f32} {h : S1x1x16.ShapeCasts S16} (y : S16.Idx) :
    shapeCast S16 v h y = v (fun | 0 => ⟨0, by decide⟩ | 1 => ⟨0, by decide⟩ | 2 => y 0) := by
  refine shapeCast_apply v h y _ ?_
  rw [Shape.rowMajor_val_one, Shape.rowMajor_val_three]
  show (0 * 1 + 0) * 16 + (y 0).val = (y 0).val
  omega

variable {f g : ℕ → F .f32} {c : ℕ}

/-- Sixteen columns times one factor. -/
theorem scale_pay {v : S16.Idx → F .f32} {s : F .f32} {h : S1x16.ShapeCasts S16} {h' : S16.ShapeCasts S1x16} (hv : v = fun _ => s) (x : S1x16.Idx) :
    shapeCast S1x16 (mulf (shapeCast S16 (fun x : S1x16.Idx => f (c + (x 1).val)) h : FVec F S16 .f32) v) h' x
      = FloatOps.mulf (f (c + (x 1).val)) s := by
  rw [lane]
  show FloatOps.mulf (shapeCast S16 _ h _) (v _) = _
  rw [flat, hv]

/-- Sixteen columns of a row plus sixteen of a token's. -/
theorem add_pay {h : S1x16.ShapeCasts S16} {h3 : S1x1x16.ShapeCasts S16} {h' : S16.ShapeCasts S1x16} (x : S1x16.Idx) :
    shapeCast S1x16 (addf (shapeCast S16 (fun x : S1x16.Idx => f (c + (x 1).val)) h : FVec F S16 .f32)
        (shapeCast S16 (fun x : S1x1x16.Idx => g (c + (x 2).val)) h3)) h' x
      = FloatOps.addf (f (c + (x 1).val)) (g (c + (x 1).val)) := by
  rw [lane]
  show FloatOps.addf (shapeCast S16 _ h _) (shapeCast S16 _ h3 _) = _
  rw [flat, flat3]

/-- Sixteen columns of a token's. -/
theorem copy_pay {h3 : S1x1x16.ShapeCasts S16} {h' : S16.ShapeCasts S1x16} (x : S1x16.Idx) :
    shapeCast S1x16 (shapeCast S16 (fun x : S1x1x16.Idx => g (c + (x 2).val)) h3 : FVec F S16 .f32) h' x = g (c + (x 1).val) := by
  rw [lane, flat3]

/-- A count plus a constant. -/
theorem count_pay {v : S16.Idx → F .f32} {s : F .f32} {h : S1x16.ShapeCasts S16} {h' : S16.ShapeCasts S1x16} (hv : v = fun _ => s) (x : S1x16.Idx) :
    shapeCast S1x16 (addf (shapeCast S16 (fun x : S1x16.Idx => f (x 1).val) h : FVec F S16 .f32) v) h' x
      = FloatOps.addf (f (x 1).val) s := by
  rw [lane]
  show FloatOps.addf (shapeCast S16 _ h _) (v _) = _
  rw [flat, hv]

end Cert.Proof
-- ==== Proof.Token.lean ====
module

public import proofs.«01_k».proof.Proof.Rows

/-! # One token: its row of the block is stored into, or added to, the row of its segment -/

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] {d : Dev nD} {L : grid0.Coords}
variable {X : ℕ → ℕ → F .f32} {Y : ℕ → ℕ → F .f32} {B : ℕ → ℕ → ℕ → F .f32}

/-- One. -/
abbrev oneF : F .f32 := Scalar.ofBits .f32 0x3f800000#32

/-- The first of sixteen lanes. -/
def lane0 : S16.Idx := fun | 0 => ⟨0, by decide⟩

/-- The first of sixteen words. -/
theorem first_lane {v : S16.Idx → BitVec 32} {h : S16.ShapeCasts S16} {h' : S16.Slices ![0] S1} {h'' : ∀ a, (![0] : Fin 1 → Nat) a < S1.size a} :
    extractAt ![0] (extractStridedSlice S1 ![0] (shapeCast S16 v h) h') h'' = v lane0 := by
  rw [shapeCast_self]
  exact congrArg v (funext fun a => by fin_cases a; rfl)

/-- Where the count of a segment lies. -/
theorem count_off (t1 : Fin k0_t1_loop.trips) (w : BitVec 32) : k0_off204 L t1 w = ![(Scalar.subi w (baseW L t1)).toNat, 0] := rfl

/-- Where the count of a new segment lies. -/
theorem first_off (t1 : Fin k0_t1_loop.trips) (w : BitVec 32) : k0_off139 L t1 w = ![(Scalar.subi w (baseW L t1)).toNat, 0] := rfl

/-- One more is counted. -/
theorem one_more (f : ℕ → F .f32) (x : S1x16.Idx) :
    k0_pay489 (F := F) (fun _ => oneF) (fun x : S1x16.Idx => f (x 1).val) x = FloatOps.addf (f (x 1).val) oneF := count_pay rfl x

/-- The count of a segment goes up by one. -/
theorem step_more {α : Type} {Q : α → sProp 𝕄} {P : sProp 𝕄} (t1 : Fin k0_t1_loop.trips) (w : BitVec 32)
    {inb : ∀ a, k0_off204 L t1 w a + S1x16.size a ≤ S128x16.size a}
    {hx : (cntM.access (Rect.unit (s := S128x16) (k0_off204 L t1 w) S1x16.size inb)).Stores Finset.univ}
    {hm : (Finset.univ : Finset S1x16.Idx) = Finset.univ ∨ ∀ a, (Rect.unit (s := S128x16) (k0_off204 L t1 w) S1x16.size inb).stride a = 1}
    {k : PUnit → TProg (F := F) L α}
    (h : iprop(P ∗ accPt d L X ∗ cntPt d L (setRow Y (Scalar.subi w (baseW L t1)).toNat 1
      fun l => FloatOps.addf (Y (Scalar.subi w (baseW L t1)).toNat l) oneF)) ⊢ run' d L (k ⟨⟩) Q) :
    iprop(P ∗ accPt d L X ∗ cntPt d L Y)
      ⊢ run' d L (Prog.lift (.store cntM (Rect.unit (s := S128x16) (k0_off204 L t1 w) S1x16.size inb)
          (k0_pay489 (F := F) (fun _ => oneF) fun x : S1x16.Idx => Y (Scalar.subi w (baseW L t1)).toNat (x 1).val) Finset.univ hx hm) >>= k) Q :=
  step_storeCnt (Scalar.subi w (baseW L t1)).toNat (fun l => FloatOps.addf (Y (Scalar.subi w (baseW L t1)).toNat l) oneF)
    (count_off t1 w) (one_more _) h

/-- The count of a new segment starts at one. -/
theorem step_one {α : Type} {Q : α → sProp 𝕄} {P : sProp 𝕄} (t1 : Fin k0_t1_loop.trips) (w : BitVec 32)
    {inb : ∀ a, k0_off139 L t1 w a + S1x16.size a ≤ S128x16.size a}
    {hx : (cntM.access (Rect.unit (s := S128x16) (k0_off139 L t1 w) S1x16.size inb)).Stores Finset.univ}
    {hm : (Finset.univ : Finset S1x16.Idx) = Finset.univ ∨ ∀ a, (Rect.unit (s := S128x16) (k0_off139 L t1 w) S1x16.size inb).stride a = 1}
    {k : PUnit → TProg (F := F) L α}
    (h : iprop(P ∗ accPt d L X ∗ cntPt d L (setRow Y (Scalar.subi w (baseW L t1)).toNat 1 fun _ => oneF)) ⊢ run' d L (k ⟨⟩) Q) :
    iprop(P ∗ accPt d L X ∗ cntPt d L Y)
      ⊢ run' d L (Prog.lift (.store cntM (Rect.unit (s := S128x16) (k0_off139 L t1 w) S1x16.size inb)
          (k0_pay486 (F := F) fun _ => oneF) Finset.univ hx hm) >>= k) Q :=
  step_storeCnt (Scalar.subi w (baseW L t1)).toNat (fun _ => oneF) (first_off t1 w) (fun _ => rfl) h

/-- The word at a place of the row is read. -/
theorem step_loadTok {α : Type} {Q : α → sProp 𝕄} {A P R : sProp 𝕄} {s : ℕ → BitVec 32} {off : Fin 1 → ℕ} {inb : ∀ a, off a + S16.size a ≤ S2064.size a}
    {hl : rowM.view.LoadsAt (Rect.unit (s := S2064) off S16.size inb).toLoadRect}
    {k : (S16.Idx → Elt F .i32) → TProg (F := F) L α} (r : ℕ) (hoff : off = ![r])
    (h : ∀ v : S16.Idx → BitVec 32, v lane0 = s r → iprop((A ∗ rowPt d L s ∗ P) ∗ R) ⊢ run' d L (k v) Q) :
    iprop((A ∗ rowPt d L s ∗ P) ∗ R)
      ⊢ run' d L (Prog.lift (.load rowM (Rect.unit (s := S2064) off S16.size inb).toLoadRect hl) >>= k) Q :=
  step_loadRow r hoff (h _ rfl)

/-- Row `g` of the accumulator after a token of the row's segment: the token's row, added to what was there when the token
    before it was of the same segment (`more`). -/
def putTok (more : Prop) [Decidable more] (X : ℕ → F .f32) (g : ℕ → F .f32) : ℕ → F .f32 := fun c =>
  if more then FloatOps.addf (X c) (g c) else g c

set_option maxHeartbeats 1000000 in
/-- One step of the loop over a chunk's tokens. -/
theorem token_body {P : sProp 𝕄} (v11 v17 : BitVec 32) (hw8 : k0_chk8 L v17)
    (t1 : Fin k0_t1_loop.trips) (v40 v44 : BitVec 32) (h3 : k0_cond3 L v17 t1 = 1#1) (v59 v62 : BitVec 32) (hw3 : k0_chk3 L v17 t1 v59 v62)
    (v80 v83 c32 v84 v89 c0 : BitVec 32) (k : Fin (k0_t6_loop v59 v62).trips) (v129 v166 v167 : BitVec 32)
    (j : Fin (k0_t7_loop v59 v62 k).trips) (prev : BitVec 32) (s : ℕ → BitVec 32)
    (hchk : k0_chk4 L v17 t1 v59 v62 k j prev (s (tokW v59 k j).toNat)) :
    iprop((bufPt d L (slotSet (fmodW (Scf.iv 0#32 1#32 k.val) 2#32).toNat) B ∗ rowPt d L s ∗ P) ∗ accPt d L X ∗ cntPt d L Y)
      ⊢ run' d L (k0_t7_body L hidM (Memref.isWhole_whole _) segM (Memref.isWhole_whole _) outM (Memref.isWhole_whole _) rowM (Memref.isWhole_whole _) bufM (Memref.isWhole_whole _) accM (Memref.isWhole_whole _) cntM (Memref.isWhole_whole _) cc0_scratch4 cc0_scratch5 cc0_scoped0 cc0_scoped1 cc0_scoped2 v11 v17 hw8 (fun _ => oneF) t1 v40 v44 h3 v59 v62 hw3 v80 v83 c32 v84 v89 c0 k v129 v166 v167 j prev)
          fun v => iprop(⌜v = s (tokW v59 k j).toNat⌝
            ∗ (bufPt d L (slotSet (fmodW (Scf.iv 0#32 1#32 k.val) 2#32).toNat) B ∗ rowPt d L s ∗ P)
            ∗ accPt d L (setRow X (Scalar.subi (s (tokW v59 k j).toNat) (baseW L t1)).toNat 32
                (putTok (s (tokW v59 k j).toNat = prev) (X (Scalar.subi (s (tokW v59 k j).toNat) (baseW L t1)).toNat)
                  (B (fmodW (Scf.iv 0#32 1#32 k.val) 2#32).toNat (Scalar.subi (tokW v59 k j) (Scalar.minsi (akW v59 k) 2016#32)).toNat)))
            ∗ cntPt d L (setRow Y (Scalar.subi (s (tokW v59 k j).toNat) (baseW L t1)).toNat 1
                (putTok (s (tokW v59 k j).toNat = prev) (Y (Scalar.subi (s (tokW v59 k j).toNat) (baseW L t1)).toNat) fun _ => oneF))) := by
  unfold k0_t7_body
  refine step_loadTok (tokW v59 k j).toNat rfl fun v hv => ?_
  have hw : extractAt ![0] (k0_pay485 (F := F) v) inpos_S1_p0 = s (tokW v59 k j).toNat := (first_lane (h' := slices_S16_o0_S1)).trans hv
  rw [← hw] at hchk ⊢
  refine step_assume hchk ?_
  by_cases he : (extractAt ![0] (k0_pay485 (F := F) v) inpos_S1_p0) = prev
  · refine step_else (fun h => (cond9_iff _ _).1 h he) ?_
    refine step_then ((cond10_iff _ _).2 he) ?_
    refine start_row (Scalar.subi (extractAt ![0] (k0_pay485 (F := F) v) inpos_S1_p0) (baseW L t1)).toNat (putTok ((extractAt ![0] (k0_pay485 (F := F) v) inpos_S1_p0) = prev) (X (Scalar.subi (extractAt ![0] (k0_pay485 (F := F) v) inpos_S1_p0) (baseW L t1)).toNat)
      (B (fmodW (Scf.iv 0#32 1#32 k.val) 2#32).toNat (Scalar.subi (tokW v59 k j) (Scalar.minsi (akW v59 k) 2016#32)).toNat)) ?_
    unfold putTok; simp only [if_pos he]
    refine step_bind ?_
    rw [k0_part15_eq_skeleton]; unfold k0_part15_skel
    iterate 3
      refine step_loadNext rfl ?_
      refine step_loadBuf _ _ _ rfl ?_
      refine step_loadAcc _ _ rfl ?_
      refine step_storeAcc _ _ _ rfl add_pay ?_
    refine step_loadNext rfl ?_
    refine step_loadBuf _ _ _ rfl ?_
    refine step_ret ?_
    refine step_bind ?_
    rw [k0_part16_eq_skeleton]; unfold k0_part16_skel
    refine step_loadAcc _ _ rfl ?_
    refine step_storeAcc _ _ _ rfl add_pay ?_
    iterate 3
      refine step_loadNext rfl ?_
      refine step_loadBuf _ _ _ rfl ?_
      refine step_loadAcc _ _ rfl ?_
      refine step_storeAcc _ _ _ rfl add_pay ?_
    refine step_loadNext rfl ?_
    refine step_loadBuf _ _ _ rfl ?_
    refine step_ret ?_
    refine step_bind ?_
    rw [k0_part17_eq_skeleton]; unfold k0_part17_skel
    refine step_loadAcc _ _ rfl ?_
    refine step_storeAcc _ _ _ rfl add_pay ?_
    iterate 3
      refine step_loadNext rfl ?_
      refine step_loadBuf _ _ _ rfl ?_
      refine step_loadAcc _ _ rfl ?_
      refine step_storeAcc _ _ _ rfl add_pay ?_
    refine step_loadNext rfl ?_
    refine step_ret ?_
    refine step_bind ?_
    rw [k0_part18_eq_skeleton]; unfold k0_part18_skel
    refine step_loadBuf _ _ _ rfl ?_
    refine step_loadAcc _ _ rfl ?_
    refine step_storeAcc _ _ _ rfl add_pay ?_
    iterate 3
      refine step_loadNext rfl ?_
      refine step_loadBuf _ _ _ rfl ?_
      refine step_loadAcc _ _ rfl ?_
      refine step_storeAcc _ _ _ rfl add_pay ?_
    refine step_ret ?_
    refine step_bind ?_
    rw [k0_part19_eq_skeleton]; unfold k0_part19_skel
    iterate 3
      refine step_loadNext rfl ?_
      refine step_loadBuf _ _ _ rfl ?_
      refine step_loadAcc _ _ rfl ?_
      refine step_storeAcc _ _ _ rfl add_pay ?_
    refine step_loadNext rfl ?_
    refine step_loadBuf _ _ _ rfl ?_
    refine step_ret ?_
    refine step_bind ?_
    rw [k0_part20_eq_skeleton]; unfold k0_part20_skel
    refine step_loadAcc _ _ rfl ?_
    refine step_storeAcc _ _ _ rfl add_pay ?_
    iterate 3
      refine step_loadNext rfl ?_
      refine step_loadBuf _ _ _ rfl ?_
      refine step_loadAcc _ _ rfl ?_
      refine step_storeAcc _ _ _ rfl add_pay ?_
    refine step_loadNext rfl ?_
    refine step_loadBuf _ _ _ rfl ?_
    refine step_ret ?_
    refine step_bind ?_
    rw [k0_part21_eq_skeleton]; unfold k0_part21_skel
    refine step_loadAcc _ _ rfl ?_
    refine step_storeAcc _ _ _ rfl add_pay ?_
    iterate 3
      refine step_loadNext rfl ?_
      refine step_loadBuf _ _ _ rfl ?_
      refine step_loadAcc _ _ rfl ?_
      refine step_storeAcc _ _ _ rfl add_pay ?_
    refine step_loadNext rfl ?_
    refine step_ret ?_
    refine step_bind ?_
    rw [k0_part22_eq_skeleton]; unfold k0_part22_skel
    refine step_loadBuf _ _ _ rfl ?_
    refine step_loadAcc _ _ rfl ?_
    refine step_storeAcc _ _ _ rfl add_pay ?_
    iterate 3
      refine step_loadNext rfl ?_
      refine step_loadBuf _ _ _ rfl ?_
      refine step_loadAcc _ _ rfl ?_
      refine step_storeAcc _ _ _ rfl add_pay ?_
    refine step_ret ?_
    iterate 2
      refine step_loadNext rfl ?_
      refine step_loadBuf _ _ _ rfl ?_
      refine step_loadAcc _ _ rfl ?_
      refine step_storeAcc _ _ _ rfl add_pay ?_
    refine step_loadCnt _ (count_off _ _) ?_
    refine step_loadCnt _ (count_off _ _) ?_
    refine step_more t1 _ ?_
    exact step_ret (with_fact rfl)
  · refine step_then ((cond9_iff _ _).2 he) ?_
    refine start_row (Scalar.subi (extractAt ![0] (k0_pay485 (F := F) v) inpos_S1_p0) (baseW L t1)).toNat (putTok ((extractAt ![0] (k0_pay485 (F := F) v) inpos_S1_p0) = prev) (X (Scalar.subi (extractAt ![0] (k0_pay485 (F := F) v) inpos_S1_p0) (baseW L t1)).toNat)
      (B (fmodW (Scf.iv 0#32 1#32 k.val) 2#32).toNat (Scalar.subi (tokW v59 k j) (Scalar.minsi (akW v59 k) 2016#32)).toNat)) ?_
    unfold putTok; simp only [if_neg he]
    refine step_bind ?_
    rw [k0_part14_eq_skeleton]; unfold k0_part14_skel
    refine step_bind ?_
    rw [k0_part9_eq_skeleton]; unfold k0_part9_skel
    iterate 5
      refine step_loadBuf _ _ _ rfl ?_
      refine step_loadAcc _ _ rfl ?_
      refine step_storeAcc _ _ _ rfl copy_pay ?_
    refine step_loadBuf _ _ _ rfl ?_
    refine step_ret ?_
    refine step_bind ?_
    rw [k0_part10_eq_skeleton]; unfold k0_part10_skel
    refine step_loadAcc _ _ rfl ?_
    refine step_storeAcc _ _ _ rfl copy_pay ?_
    iterate 4
      refine step_loadBuf _ _ _ rfl ?_
      refine step_loadAcc _ _ rfl ?_
      refine step_storeAcc _ _ _ rfl copy_pay ?_
    refine step_loadBuf _ _ _ rfl ?_
    refine step_loadAcc _ _ rfl ?_
    refine step_ret ?_
    refine step_bind ?_
    rw [k0_part11_eq_skeleton]; unfold k0_part11_skel
    refine step_storeAcc _ _ _ rfl copy_pay ?_
    iterate 5
      refine step_loadBuf _ _ _ rfl ?_
      refine step_loadAcc _ _ rfl ?_
      refine step_storeAcc _ _ _ rfl copy_pay ?_
    refine step_loadBuf _ _ _ rfl ?_
    refine step_ret ?_
    refine step_bind ?_
    rw [k0_part12_eq_skeleton]; unfold k0_part12_skel
    refine step_loadAcc _ _ rfl ?_
    refine step_storeAcc _ _ _ rfl copy_pay ?_
    iterate 4
      refine step_loadBuf _ _ _ rfl ?_
      refine step_loadAcc _ _ rfl ?_
      refine step_storeAcc _ _ _ rfl copy_pay ?_
    refine step_loadBuf _ _ _ rfl ?_
    refine step_loadAcc _ _ rfl ?_
    refine step_ret ?_
    refine step_bind ?_
    rw [k0_part13_eq_skeleton]; unfold k0_part13_skel
    refine step_storeAcc _ _ _ rfl copy_pay ?_
    iterate 5
      refine step_loadBuf _ _ _ rfl ?_
      refine step_loadAcc _ _ rfl ?_
      refine step_storeAcc _ _ _ rfl copy_pay ?_
    refine step_ret ?_
    iterate 5
      refine step_loadBuf _ _ _ rfl ?_
      refine step_loadAcc _ _ rfl ?_
      refine step_storeAcc _ _ _ rfl copy_pay ?_
    refine step_loadCnt _ (first_off _ _) ?_
    refine step_ret ?_
    refine step_one t1 _ ?_
    refine step_else (fun h => he ((cond10_iff _ _).1 h)) ?_
    exact step_ret (with_fact rfl)

end Cert.Proof
-- ==== Proof.Seg.lean ====
/-
  The arithmetic of one row's segment numbers: they start at 0 and each is the one before it or one more. What the
  kernel's binary search finds among them, and the sum it runs up a segment one position at a time.
-/
module

public import Mathlib.Data.Nat.Basic
public import Mathlib.Data.Fintype.Basic
public import Mathlib.Algebra.BigOperators.Group.Finset.Basic

@[expose] public section

namespace Cert.Proof

/-- A row of 2048 segment numbers: it starts at 0 and each is the one before it or one more. -/
structure Steps (seg : ℕ → ℕ) : Prop where
  zero : seg 0 = 0
  step : ∀ t, t < 2047 → seg (t + 1) = seg t ∨ seg (t + 1) = seg t + 1

namespace Steps

variable {seg : ℕ → ℕ} (h : Steps seg)
include h

/-- Such numbers do not decrease, -/
theorem mono {s t : ℕ} (hst : s ≤ t) (ht : t ≤ 2047) : seg s ≤ seg t := by
  induction t with
  | zero => obtain rfl : s = 0 := by omega
            exact Nat.le_refl _
  | succ t ih =>
    rcases Nat.lt_or_ge s (t + 1) with hs | hs
    · have := ih (by omega) (by omega)
      rcases h.step t (by omega) with e | e <;> omega
    · obtain rfl : s = t + 1 := by omega
      exact Nat.le_refl _

/-- are at most their position, -/
theorem le_self {t : ℕ} (ht : t ≤ 2047) : seg t ≤ t := by
  induction t with
  | zero => exact Nat.le_of_eq h.zero
  | succ t ih =>
    have := ih (by omega)
    rcases h.step t (by omega) with e | e <;> omega

/-- and take every value up to the last. -/
theorem hit {n : ℕ} : ∀ {t : ℕ}, t ≤ 2047 → n ≤ seg t → ∃ u, u ≤ t ∧ seg u = n
  | 0, _, hn => ⟨0, Nat.le_refl _, by have := h.zero; omega⟩
  | t + 1, ht, hn => by
    rcases Nat.lt_or_ge (seg t) n with hs | hs
    · exact ⟨t + 1, Nat.le_refl _, by rcases h.step t (by omega) with e | e <;> omega⟩
    · obtain ⟨u, hu, e⟩ := hit (by omega) hs
      exact ⟨u, by omega, e⟩

end Steps

/-! ## The binary search -/

/-- What the search for the first position whose number reaches `target` knows with `m` halvings to go. -/
structure Search (seg : ℕ → ℕ) (target m lo hi : ℕ) : Prop where
  hi_le : hi ≤ 2048
  below : ∀ t, t < lo → seg t < target
  above : ∀ t, hi ≤ t → t < 2048 → target ≤ seg t
  width : lo = 0 ∧ hi = 2 ^ m ∨ hi + 1 = lo + 2 ^ m

/-- The position the search answers: every number before it is below `target`, none from it on is. -/
structure Cut (seg : ℕ → ℕ) (target p : ℕ) : Prop where
  le : p ≤ 2048
  below : ∀ t, t < p → seg t < target
  above : ∀ t, p ≤ t → t < 2048 → target ≤ seg t

theorem Search.start (seg : ℕ → ℕ) (target : ℕ) : Search seg target 11 0 2048 :=
  ⟨Nat.le_refl _, fun _ h => absurd h (Nat.not_lt_zero _), fun _ h h' => absurd h' (Nat.not_lt.2 h), .inl ⟨rfl, rfl⟩⟩

section
variable {seg : ℕ → ℕ} {target m lo hi : ℕ}

/-- The middle lies in the row, -/
theorem Search.mid_lt (s : Search seg target (m + 1) lo hi) : (lo + hi) / 2 < hi := by
  have : 0 < 2 ^ m := Nat.two_pow_pos m
  rcases s.width with ⟨_, _⟩ | _ <;> rw [Nat.pow_succ] at * <;> omega

/-- the search goes right of it when its number is below `target`, -/
theorem Search.right (h : Steps seg) (s : Search seg target (m + 1) lo hi) (hm : seg ((lo + hi) / 2) < target) :
    Search seg target m ((lo + hi) / 2 + 1) hi := by
  have h0 : 0 < 2 ^ m := Nat.two_pow_pos m
  have hl := s.mid_lt
  have hh := s.hi_le
  refine ⟨s.hi_le, fun t ht => Nat.lt_of_le_of_lt (h.mono (by omega) (by omega)) hm, s.above, .inr ?_⟩
  rcases s.width with ⟨_, _⟩ | _ <;> rw [Nat.pow_succ] at * <;> omega

/-- and left of it otherwise. -/
theorem Search.left (h : Steps seg) (s : Search seg target (m + 1) lo hi) (hm : target ≤ seg ((lo + hi) / 2)) :
    Search seg target m lo ((lo + hi) / 2) := by
  have h0 : 0 < 2 ^ m := Nat.two_pow_pos m
  have hl := s.mid_lt
  have hh := s.hi_le
  refine ⟨by omega, s.below, fun t ht ht' => Nat.le_trans hm (h.mono ht (by omega)), ?_⟩
  rcases s.width with ⟨_, _⟩ | _ <;> rw [Nat.pow_succ] at * <;> omega

/-- With no halving to go the lower end is the answer, for every `target` other than 1. -/
theorem Search.cut (h : Steps seg) (s : Search seg target 0 lo hi) (ht : target ≠ 1) : Cut seg target lo := by
  have hh := s.hi_le
  rcases s.width with ⟨e0, e1⟩ | e
  · have e1 : hi = 1 := by simpa using e1
    refine ⟨by omega, s.below, fun t _ ht' => ?_⟩
    rcases Nat.eq_zero_or_pos t with rfl | hp
    · have := s.above 1 (by omega) (by omega)
      have := h.le_self (t := 1) (by omega)
      omega
    · exact s.above t (by omega) ht'
  · have e : hi = lo := by simpa using e
    exact ⟨by omega, s.below, fun t ha => s.above t (by omega)⟩

end

/-! ## The sum of a segment, run up position by position -/

section
variable {α : Type} (add : α → α → α) (seg : ℕ → ℕ) (h : ℕ → α) (s : ℕ)

/-- The sum over segment `s` of what the positions before `t` hold, in the order the kernel takes it: the segment's first
    position starts the sum and each later one adds to it. -/
def run : ℕ → α
  | 0 => h 0
  | t + 1 => if seg t = s then (if 0 < t ∧ seg (t - 1) = s then add (run t) (h t) else h t) else run t

theorem run_first {t : ℕ} (e : seg t = s) (hn : ¬(0 < t ∧ seg (t - 1) = s)) : run add seg h s (t + 1) = h t := by
  rw [run, if_pos e, if_neg hn]
theorem run_more {t : ℕ} (e : seg t = s) (hn : 0 < t ∧ seg (t - 1) = s) : run add seg h s (t + 1) = add (run add seg h s t) (h t) := by
  rw [run, if_pos e, if_pos hn]
theorem run_other {t : ℕ} (e : seg t ≠ s) : run add seg h s (t + 1) = run add seg h s t := by
  rw [run, if_neg e]

/-- Past the segment's positions the sum stands. -/
theorem run_stop {t u : ℕ} (htu : t ≤ u) (hn : ∀ v, t ≤ v → v < u → seg v ≠ s) : run add seg h s u = run add seg h s t := by
  induction u with
  | zero => obtain rfl : t = 0 := by omega
            rfl
  | succ u ih =>
    rcases Nat.lt_or_ge t (u + 1) with hl | hl
    · rw [run_other add seg h s (hn u (by omega) (by omega)), ih (by omega) fun v hv hv' => hn v hv (by omega)]
    · obtain rfl : t = u + 1 := by omega
      rfl

end

/-- In a commutative monoid the sum so run up is the sum over the segment's positions, once it has one. -/
theorem run_eq_sum {α : Type} [AddCommMonoid α] {seg : ℕ → ℕ} (hs : Steps seg) (h : ℕ → α) (s : ℕ) :
    ∀ t, t ≤ 2048 → (∃ u, u < t ∧ seg u = s) → run (· + ·) seg h s t = ∑ u ∈ Finset.range t, if seg u = s then h u else 0
  | 0, _, hu => by obtain ⟨_, hu, _⟩ := hu; exact absurd hu (Nat.not_lt_zero _)
  | t + 1, ht, hu => by
    rw [Finset.sum_range_succ]
    by_cases e : seg t = s
    · rw [if_pos e]
      by_cases hp : 0 < t ∧ seg (t - 1) = s
      · rw [run_more _ _ _ _ e hp, run_eq_sum hs h s t (by omega) ⟨t - 1, by omega, hp.2⟩]
      · rw [run_first _ _ _ _ e hp, Finset.sum_eq_zero, zero_add]
        intro u hu
        have hu := Finset.mem_range.mp hu
        refine if_neg fun e' => hp ⟨by omega, ?_⟩
        have h1 := hs.mono (s := u) (t := t - 1) (by omega) (by omega)
        have h2 := hs.mono (s := t - 1) (t := t) (by omega) (by omega)
        omega
    · rw [if_neg e, add_zero, run_other _ _ _ _ e]
      obtain ⟨u, hu, e'⟩ := hu
      refine run_eq_sum hs h s t (by omega) ⟨u, ?_, e'⟩
      rcases Nat.lt_or_ge u t with hl | hl
      · exact hl
      · obtain rfl : u = t := by omega
        exact absurd e' e

end Cert.Proof
-- ==== Proof.Sum.lean ====
module

public import proofs.«01_k».proof.Proof.Token
public import proofs.«01_k».proof.Proof.Seg

/-! # What the accumulator and the counts hold as the tokens are added; loops as steps -/

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] {d : Dev nD} {L : grid0.Coords}

/-! ## Loops -/

/-- A loop, by an invariant of its trips. -/
theorem step_loop {σ α : Type} {Q : α → sProp 𝕄} {P : sProp 𝕄} {l : Scf.Loop 32} {hok : l.OK} {init : σ} {body : Fin l.trips → σ → TProg (F := F) L σ}
    {kk : σ → TProg (F := F) L α} (I : ℕ → σ → sProp 𝕄) (hP : P ⊢ I 0 init)
    (hbody : ∀ (k : Fin l.trips) (acc : σ), I k.val acc ⊢ run' d L (body k acc) (I (k.val + 1)))
    (hk : ∀ acc, I l.trips acc ⊢ run' d L (kk acc) Q) : P ⊢ run' d L (l.for hok init body >>= kk) Q := by
  refine hP.trans ?_
  iintro HI
  iapply (Scf.wp_for_bind frame (wpE (defs₀ (F := F)) 𝒱₀ (tile d L) none) Set.univ l.lb l.ub l.st hok init body I hbody) $$ HI
  iintro %acc HI
  iapply (hk acc) $$ HI

/-- A loop of no trips. -/
theorem step_noLoop {σ α : Type} {Q : α → sProp 𝕄} {P : sProp 𝕄} {l : Scf.Loop 32} {hok : l.OK} {init : σ} {body : Fin l.trips → σ → TProg (F := F) L σ}
    {kk : σ → TProg (F := F) L α} (hn : l.trips = 0) (h : P ⊢ run' d L (kk init) Q) : P ⊢ run' d L (l.for hok init body >>= kk) Q := by
  refine step_loop (fun _ acc => iprop(⌜acc = init⌝ ∗ P)) (with_fact rfl) (fun k => absurd k.isLt (by omega)) fun acc => ?_
  iintro ⟨%e, HP⟩
  subst e
  iapply h $$ HP

/-- A loop that ends a program. -/
theorem last_loop {σ : Type} {Q : σ → sProp 𝕄} {P : sProp 𝕄} {l : Scf.Loop 32} {hok : l.OK} {init : σ} {body : Fin l.trips → σ → TProg (F := F) L σ}
    (I : ℕ → σ → sProp 𝕄) (hP : P ⊢ I 0 init)
    (hbody : ∀ (k : Fin l.trips) (acc : σ), I k.val acc ⊢ run' d L (body k acc) (I (k.val + 1)))
    (hk : ∀ acc, I l.trips acc ⊢ Q acc) : P ⊢ run' d L (l.for hok init body) Q := by
  refine hP.trans ?_
  iintro HI
  iapply (Scf.wp_for frame (wpE (defs₀ (F := F)) 𝒱₀ (tile d L) none) Set.univ l.lb l.ub l.st hok init body I hbody)
  isplitl [HI]; · iexact HI
  iintro %acc HI
  iapply (hk acc) $$ HI

/-- A loop of no trips that ends a program. -/
theorem last_noLoop {σ : Type} {Q : σ → sProp 𝕄} {P : sProp 𝕄} {l : Scf.Loop 32} {hok : l.OK} {init : σ} {body : Fin l.trips → σ → TProg (F := F) L σ}
    (hn : l.trips = 0) (h : P ⊢ Q init) : P ⊢ run' d L (l.for hok init body) Q := by
  refine last_loop (fun _ acc => iprop(⌜acc = init⌝ ∗ P)) (with_fact rfl) (fun k => absurd k.isLt (by omega)) fun acc => ?_
  iintro ⟨%e, HP⟩
  subst e
  iapply h $$ HP

/-! ## The sums -/

/-- A task of 128 segments from `base` on, with the positions `a` to `b` of its tokens. -/
structure Task (seg : ℕ → ℕ) (base a b : ℕ) : Prop where
  steps : Steps seg
  lt : a < b
  le : b ≤ 2048
  first : Cut seg base a
  last : Cut seg (base + 128) b

theorem Task.ge {seg : ℕ → ℕ} {base a b t : ℕ} (T : Task seg base a b) (ha : a ≤ t) (hb : t < b) : base ≤ seg t :=
  T.first.above t ha (by have := T.le; omega)
theorem Task.below {seg : ℕ → ℕ} {base a b t : ℕ} (T : Task seg base a b) (hb : t < b) : seg t < base + 128 := T.last.below t hb

/-- The number of the token before: none (−1) at the task's first. -/
def prevW (s : ℕ → BitVec 32) (a t : ℕ) : BitVec 32 := if t = a then 4294967295#32 else s (t - 1)

/-- After the tokens before `t`, the row of each segment met so far holds its sum, and its count. -/
def Summed (h : ℕ → ℕ → F .f32) (seg : ℕ → ℕ) (base : ℕ) (X Y : ℕ → ℕ → F .f32) (t : ℕ) : Prop :=
  ∀ r, r < 128 → (∃ u, u < t ∧ seg u = base + r) →
    (∀ c, c < 512 → X r c = run FloatOps.addf seg (fun u => h u c) (base + r) t)
      ∧ ∀ l, l < 16 → Y r l = run FloatOps.addf seg (fun _ => oneF) (base + r) t

variable {seg : ℕ → ℕ} {base a b : ℕ} {s : ℕ → BitVec 32} {h : ℕ → ℕ → F .f32} {X Y : ℕ → ℕ → F .f32} {t : ℕ}

theorem Summed.start (T : Task seg base a b) : Summed h seg base X Y a := by
  rintro r - ⟨u, hu, e⟩
  have := T.first.below u hu
  omega

omit [FloatOps F] in
/-- A token is of the segment of the one before it just when it does not open its segment. -/
theorem same_iff (T : Task seg base a b) (hs : ∀ t, t < 2048 → s t = BitVec.ofNat 32 (seg t)) (ha : a ≤ t) (hb : t < b) :
    s t = prevW s a t ↔ 0 < t ∧ seg (t - 1) = seg t := by
  have hle := T.le
  have h2 := fun u (hu : u < 2048) => T.steps.le_self (t := u) (by omega)
  unfold prevW
  by_cases e : t = a
  · subst e
    rw [if_pos rfl, hs t (by omega)]
    constructor
    · intro e
      have := congrArg BitVec.toNat e
      rw [toNat_nat (by have := h2 t (by omega); omega)] at this
      have := h2 t (by omega)
      simp at *
      omega
    · rintro ⟨h0, e⟩
      have := T.first.below (t - 1) (by omega)
      have := T.ge (le_refl _) hb
      omega
  · rw [if_neg e, hs t (by omega), hs (t - 1) (by omega), nat_inj (by have := h2 t (by omega); omega) (by have := h2 (t - 1) (by omega); omega)]
    constructor
    · intro e'; exact ⟨by omega, e'.symm⟩
    · rintro ⟨-, e'⟩; exact e'.symm

/-- One more token. -/
theorem Summed.step (T : Task seg base a b) (hs : ∀ t, t < 2048 → s t = BitVec.ofNat 32 (seg t)) (ha : a ≤ t) (hb : t < b)
    (H : Summed h seg base X Y t) {g : ℕ → F .f32} (hg : ∀ c, c < 512 → g c = h t c) :
    Summed h seg base (setRow X (seg t - base) 32 (putTok (s t = prevW s a t) (X (seg t - base)) g))
      (setRow Y (seg t - base) 1 (putTok (s t = prevW s a t) (Y (seg t - base)) fun _ => oneF)) (t + 1) := by
  have hge := T.ge ha hb
  have hlt := T.below hb
  rintro r hr ⟨u, hu, e⟩
  by_cases er : r = seg t - base
  · subst er
    have eb : base + (seg t - base) = seg t := by omega
    rw [eb]
    by_cases hm : 0 < t ∧ seg (t - 1) = seg t
    · have hp := (same_iff T hs ha hb).2 hm
      obtain ⟨H1, H2⟩ := H (seg t - base) hr ⟨t - 1, by omega, by omega⟩
      rw [eb] at H1 H2
      refine ⟨fun c hc => ?_, fun l hl => ?_⟩
      · rw [setRow_row (by omega), run_more _ _ _ _ rfl hm, ← H1 c hc, ← hg c hc]; exact if_pos hp
      · rw [setRow_row (by omega), run_more _ _ _ _ rfl hm, ← H2 l hl]; exact if_pos hp
    · have hp := fun e => hm ((same_iff T hs ha hb).1 e)
      refine ⟨fun c hc => ?_, fun l hl => ?_⟩
      · rw [setRow_row (by omega), run_first _ _ _ _ rfl hm, ← hg c hc]; exact if_neg hp
      · rw [setRow_row (by omega), run_first _ _ _ _ rfl hm]; exact if_neg hp
  · have hne : seg t ≠ base + r := by omega
    have hu' : u < t := by
      rcases Nat.lt_or_ge u t with h | h
      · exact h
      · have : u = t := by omega
        subst this; exact absurd e hne
    obtain ⟨H1, H2⟩ := H r hr ⟨u, hu', e⟩
    refine ⟨fun c hc => ?_, fun l hl => ?_⟩
    · rw [setRow_other er, run_other _ _ _ _ hne]; exact H1 c hc
    · rw [setRow_other er, run_other _ _ _ _ hne]; exact H2 l hl

/-- After the task's last token the sums are those of the whole row. -/
theorem Summed.all (T : Task seg base a b) (H : Summed h seg base X Y b) {r : ℕ} (hr : r < 128) (hu : ∃ u, u < 2048 ∧ seg u = base + r) :
    (∀ c, c < 512 → X r c = run FloatOps.addf seg (fun u => h u c) (base + r) 2048)
      ∧ ∀ l, l < 16 → Y r l = run FloatOps.addf seg (fun _ => oneF) (base + r) 2048 := by
  have hstop : ∀ v, b ≤ v → v < 2048 → seg v ≠ base + r := fun v hv hv' => by have := T.last.above v hv hv'; omega
  obtain ⟨u, hu, e⟩ := hu
  have hub : u < b := by
    rcases Nat.lt_or_ge u b with h | h
    · exact h
    · exact absurd e (hstop u h hu)
  obtain ⟨H1, H2⟩ := H r hr ⟨u, hub, e⟩
  exact ⟨fun c hc => (H1 c hc).trans (run_stop _ _ _ _ T.le hstop).symm, fun l hl => (H2 l hl).trans (run_stop _ _ _ _ T.le hstop).symm⟩

end Cert.Proof
-- ==== Proof.Copy.lean ====
module

public import proofs.«01_k».proof.Proof.Rows
public import Idealize.ShloMosaic.Lib.Transfers
public import Idealize.ShloMosaic.Lib.SparseCore.Threads

/-! # The copies of a tile: a chunk of the array into a block of the row buffer, a block of results out, the segment row in -/

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- An array of 16384 rows of 512, by its coordinates. -/
def arrH (h : ℕ → ℕ → F .f32) : S16384x512.Idx → F .f32 := fun y => h (y 0).val (y 1).val
/-- A row of 16384 words, by its coordinate. -/
def arrS (s : ℕ → BitVec 32) : S16384.Idx → BitVec 32 := fun y => s (y 0).val

variable [FloatOps F] (d : Dev nD) (L : grid0.Coords)

abbrev hidPt (q : PosShare TreeShare) (h : ℕ → ℕ → F .f32) : sProp 𝕄 := hidM.view.loc (tile d L) ↦{q} (arrH h : Buf (Elt F) (hidM.view.loc (tile d L)))
abbrev segPt (q : PosShare TreeShare) (s : ℕ → BitVec 32) : sProp 𝕄 := segM.view.loc (tile d L) ↦{q} (arrS s : Buf (Elt F) (segM.view.loc (tile d L)))
abbrev outPt (S : Finset S16384x512.Idx) (g : ℕ → ℕ → F .f32) : sProp 𝕄 :=
  outM.view.loc (tile d L) ↦[(S : Finset (Idx (outM.view.loc (tile d L))))]{fullShare} (arrH g : Buf (Elt F) (outM.view.loc (tile d L)))

/-- What a tile shows at a wait: that it may wait, and what it owes, the waits of the copies noted. -/
abbrev waitKit (O : CellTallies nD τ sig (HIx 1)) (W : Waits sig (HIx 1)) : sProp 𝕄 :=
  iprop(Transfers.MayWaits (tile d L) (default : HIx 1) O ∗ ∃ W', ⌜∀ p ∈ W', p ∈ W ∨ p.2 = none⌝ ∗ owes (tile d L) O W')

abbrev slotM (u : ℕ) (inb : ∀ a, (![u, 0, 0] : Fin 3 → ℕ) a + S1x32x512.size a ≤ S2x32x512.size a) : Memref sig .scVector .vmem S32x512 .f32 :=
  (bufM.slice (Rect.unit (s := S2x32x512) ![u, 0, 0] S1x32x512.size inb) (fun _ => rfl)).squeeze S32x512 squeezes_S1x32x512_S32x512

/-- The credit of a chunk's copy. -/
abbrev chunkN : ℕ := (slotM 0 inb_S2x32x512_S1x32x512_0_0_0).view.dmaCredit

variable {d L}

/-- A copy in flight keeps what is put beside it until its wait. -/
theorem flight_frame {c : Thread nD τ} {sm : SemLoc sig} {ι : HIx 1} {N : ℕ} {A E A' : sProp 𝕄} (h : iprop(A ∗ E) ⊢ A') :
    iprop(Transfers.Flight countersEmb c sm ι N A ∗ E) ⊢ (Transfers.Flight countersEmb c sm ι N A' : sProp 𝕄) := by
  refine BIBase.Entails.trans ?_ (Transfers.Flight_mono countersEmb c h)
  unfold Transfers.Flight
  iintro ⟨⟨⟨%R, HR, %hcap, %hpeek⟩, Hcred⟩, HE⟩
  isplitr [Hcred]
  · iexists iprop(R ∗ E)
    isplitl [HR HE]
    · isplitl [HR] <;> iassumption
    isplitr
    · ipureintro
      intro Q
      iintro ⟨⟨HR, HE⟩, HK⟩
      iapply (hcap Q)
      isplitl [HR]; · iexact HR
      iintro ⟨Hs, HA⟩
      iapply HK
      isplitl [Hs]; · iexact Hs
      isplitl [HA] <;> iassumption
    · ipureintro
      intro Q
      iintro ⟨⟨HR, HE⟩, HK⟩
      iapply (hpeek Q)
      isplitl [HR]; · iexact HR
      iintro HR
      iapply HK
      isplitl [HR] <;> iassumption
  · iexact Hcred

/-- A wait for a copy in flight. -/
theorem step_wait {α : Type} {Q : α → sProp 𝕄} {P A : sProp 𝕄} {O : CellTallies nD τ sig (HIx 1)} {W : Waits sig (HIx 1)}
    {s s' : Shape} {e e' : EltTy} {sp sp' : Space} {sem : DmaSem sig} {srcw : Memref sig .scVector sp' s' e'} {dstw : Memref sig .scVector sp s e}
    {hsrc : srcw.view.WordExact} {hdst : dstw.view.WordExact} {k : PUnit → TProg (F := F) L α} {N : ℕ} (hN : dstw.view.dmaCredit = N)
    (h : iprop(P ∗ (A ∗ semVal (tile d L, .dma sem) 0) ∗ waitKit d L O W) ⊢ run' d L (k ⟨⟩) Q) :
    iprop(P ∗ Transfers.Flight countersEmb (tile d L) (.dma sem) (default : HIx 1) N A ∗ waitKit d L O W)
      ⊢ run' d L (Prog.lift (.waitDma2 sem srcw dstw hsrc hdst) >>= k) Q := by
  refine step_bind ?_
  iintro ⟨HP, Hfl, #Hmw, %W', %hW', HO⟩
  iapply (Transfers.wp_waitLocalO countersEmb 𝒱₀ (tile d L) none (default : HIx 1) hN) $$ [Hfl HO]
  · isplitl [Hfl]; · iexact Hfl
    isplitl [HO]; · iexact HO
    iapply (Transfers.MayWaits.elim (SemLoc.dma sem)) $$ Hmw
  iintro ⟨HA, Hs, HO⟩
  iapply (step_ret (d := d) (L := L) (Q := fun v => run' d L (k v) Q) h)
  isplitl [HP]; · iexact HP
  isplitl [HA Hs]
  · isplitl [HA] <;> iassumption
  isplitr [HO]; · iexact Hmw
  iexists _
  isplitr
  swap; · iexact HO
  ipureintro
  intro p hp
  rcases Finset.mem_insert.mp hp with hp | hp
  · exact .inr (hp ▸ rfl)
  · exact hW' p hp

/-- The elements a chunk's copy writes are those of its block. -/
theorem set_slotM {u : ℕ} {inb : ∀ a, (![u, 0, 0] : Fin 3 → ℕ) a + S1x32x512.size a ≤ S2x32x512.size a} : (slotM u inb).view.set = slotSet u := by
  show ((bufM.view.slice (Rect.unit (s := S2x32x512) ![u, 0, 0] S1x32x512.size inb)).reshape S32x512 squeezes_S1x32x512_S32x512.numel_eq).set = _
  rw [View.set_reshape]
  ext y
  constructor
  · intro hy
    obtain ⟨x, -, rfl⟩ := Finset.mem_map.mp hy
    refine Finset.mem_filter.mpr ⟨Finset.mem_univ _, ?_⟩
    show u + 1 * (x 0).val = u
    have : (x 0).val < 1 := (x 0).isLt
    omega
  · intro hy
    have hu := (Finset.mem_filter.mp hy).2
    refine Finset.mem_map.mpr ⟨fun | 0 => ⟨0, (by decide : 0 < 1)⟩ | 1 => y 1 | 2 => y 2, Finset.mem_univ _, ?_⟩
    funext a
    refine Fin.ext ?_
    fin_cases a
    · show u + 1 * 0 = (y 0).val; omega
    · show 0 + 1 * (y 1).val = (y 1).val; omega
    · show 0 + 1 * (y 2).val = (y 2).val; omega

/-- Where a place of a chunk lies in its block. -/
theorem emb_slotM {u : ℕ} {inb : ∀ a, (![u, 0, 0] : Fin 3 → ℕ) a + S1x32x512.size a ≤ S2x32x512.size a} (x : S32x512.Idx) :
    (((slotM u inb).view.emb x : S2x32x512.Idx) 0).val = u ∧ (((slotM u inb).view.emb x : S2x32x512.Idx) 1).val = (x 0).val
      ∧ (((slotM u inb).view.emb x : S2x32x512.Idx) 2).val = (x 1).val := by
  have e : Shape.reshapeEquiv squeezes_S1x32x512_S32x512.numel_eq x = (fun | 0 => ⟨0, (by decide : 0 < 1)⟩ | 1 => x 0 | 2 => x 1 : S1x32x512.Idx) := by
    refine Shape.reshapeEquiv_eq_of_rowMajor _ ?_
    rw [Shape.rowMajor_val_two, Shape.rowMajor_val_three]
    show (0 * 32 + (x 0).val) * 512 + (x 1).val = (x 0).val * 512 + (x 1).val
    omega
  have e' : (slotM u inb).view.emb x = (Rect.unit (s := S2x32x512) ![u, 0, 0] S1x32x512.size inb).emb (Shape.reshapeEquiv squeezes_S1x32x512_S32x512.numel_eq x) := rfl
  rw [e', e]
  refine ⟨?_, ?_, ?_⟩
  · show u + 1 * 0 = u; omega
  · show 0 + 1 * (x 0).val = (x 0).val; omega
  · show 0 + 1 * (x 1).val = (x 1).val; omega

/-- What a chunk's copy leaves in its block. -/
theorem chunk_write {u r : ℕ} {inb : ∀ a, (![u, 0, 0] : Fin 3 → ℕ) a + S1x32x512.size a ≤ S2x32x512.size a}
    {inb' : ∀ a, (![r, 0] : Fin 2 → ℕ) a + S32x512.size a ≤ S16384x512.size a} {h : ℕ → ℕ → F .f32} {f : S2x32x512.Idx → F .f32}
    (y : S2x32x512.Idx) (hy : y ∈ slotSet u) :
    (slotM u inb).view.write (Elt F) f ((hidM.slice (Rect.unit (s := S16384x512) ![r, 0] S32x512.size inb') (fun _ => rfl)).view.read (Elt F) (arrH h)) Finset.univ y
      = arr3 (fun _ p c => h (r + p) c) y := by
  rw [← set_slotM (inb := inb)] at hy
  obtain ⟨x, -, rfl⟩ := Finset.mem_map.mp hy
  refine (View.write_emb_of_mem _ _ (Finset.mem_univ _)).trans ?_
  obtain ⟨-, e1, e2⟩ := emb_slotM (inb := inb) x
  show h (r + 1 * (x 0).val) (0 + 1 * (x 1).val) = h (r + _) _
  rw [e1, e2, Nat.one_mul, Nat.one_mul, Nat.zero_add]

/-- What the copy of a chunk brings back: the block filled, the array whole. -/
theorem chunk_back {u r : ℕ} {inb : ∀ a, (![u, 0, 0] : Fin 3 → ℕ) a + S1x32x512.size a ≤ S2x32x512.size a}
    {inb' : ∀ a, (![r, 0] : Fin 2 → ℕ) a + S32x512.size a ≤ S16384x512.size a} {h : ℕ → ℕ → F .f32} {B : ℕ → ℕ → ℕ → F .f32} {q : PosShare TreeShare} :
    iprop((((slotM u inb).view.loc (tile d L) ↦[slotSet u]{fullShare} ((slotM u inb).view.write (Elt F) (arr3 B)
          ((ReadAs.same (Val := Elt F)).apply ((hidM.slice (Rect.unit (s := S16384x512) ![r, 0] S32x512.size inb') (fun _ => rfl)).view.read (Elt F) (arrH h))) Finset.univ))
        ∗ ((hidM.slice (Rect.unit (s := S16384x512) ![r, 0] S32x512.size inb') (fun _ => rfl)).view.loc (tile d L)
            ↦[(hidM.slice (Rect.unit (s := S16384x512) ![r, 0] S32x512.size inb') (fun _ => rfl)).view.set]{q} (arrH h : Buf (Elt F) (hidM.view.loc (tile d L)))))
        ∗ (hidM.view.loc (tile d L) ↦[Finset.univ \ (hidM.slice (Rect.unit (s := S16384x512) ![r, 0] S32x512.size inb') (fun _ => rfl)).view.set]{q}
            (arrH h : Buf (Elt F) (hidM.view.loc (tile d L)))))
      ⊢ iprop(bufPt d L (slotSet u) (fun _ p c => h (r + p) c) ∗ hidPt d L q h) := by
  iintro ⟨⟨Hb, Hh⟩, Hrest⟩
  isplitl [Hb]
  · iapply (Entails.of_eq (pointsTo_congr fun y hy => chunk_write y hy)) $$ Hb
  · iapply (pointsTo_split_subset (q := q) (f := (arrH h : Buf (Elt F) (hidM.view.loc (tile d L)))) (S := Finset.univ)
      (Finset.subset_univ (hidM.slice (Rect.unit (s := S16384x512) ![r, 0] S32x512.size inb') (fun _ => rfl)).view.set)).2
    isplitl [Hh] <;> iassumption

/-- The copy of a chunk into a block starts. -/
theorem step_start {α : Type} {Q : α → sProp 𝕄} {P : sProp 𝕄} {sem : DmaSem sig} {off : Fin 2 → ℕ} {inb' : ∀ a, off a + S32x512.size a ≤ S16384x512.size a} {u : ℕ}
    {inb : ∀ a, (![u, 0, 0] : Fin 3 → ℕ) a + S1x32x512.size a ≤ S2x32x512.size a} {B : ℕ → ℕ → ℕ → F .f32} {q : PosShare TreeShare} {h : ℕ → ℕ → F .f32}
    {hsrc : (hidM.slice (Rect.unit (s := S16384x512) off S32x512.size inb') (fun _ => rfl)).view.WordExact} {hdst : (slotM u inb).view.WordExact}
    {hsem : DmaTarget.Typed (nD := nD) (p := .scVector (cV L) (jV L)) Space.hbm (.dma sem) (.here (slotM u inb))}
    {k : PUnit → TProg (F := F) L α} (r : ℕ) (hoff : off = ![r, 0])
    (hk : iprop(P ∗ Transfers.Flight countersEmb (tile d L) (.dma sem) (default : HIx 1) chunkN
      iprop(bufPt d L (slotSet u) (fun _ p c => h (r + p) c) ∗ hidPt d L q h)) ⊢ run' d L (k ⟨⟩) Q) :
    iprop(P ∗ (bufPt d L (slotSet u) B ∗ hidPt d L q h) ∗ semVal (tile d L, .dma sem) 0)
      ⊢ run' d L (Prog.lift (.enqueueDma (hidM.slice (Rect.unit (s := S16384x512) off S32x512.size inb') (fun _ => rfl)) (.here (slotM u inb)) (.dma sem) hsrc hdst hsem) >>= k) Q := by
  subst hoff
  refine step_bind ?_
  iintro ⟨HP, ⟨Hb, Hh⟩, Hs⟩
  ihave Hsp := (pointsTo_split_subset (q := q) (f := (arrH h : Buf (Elt F) (hidM.view.loc (tile d L)))) (S := Finset.univ)
    (Finset.subset_univ (hidM.slice (Rect.unit (s := S16384x512) ![r, 0] S32x512.size inb') (fun _ => rfl)).view.set)).1 $$ Hh
  icases Hsp with ⟨Hh, Hrest⟩
  iapply (Transfers.wp_dmaLocal countersEmb 𝒱₀ (tile d L) none (src := hidM.slice (Rect.unit (s := S16384x512) ![r, 0] S32x512.size inb') (fun _ => rfl))
    (dst := slotM u inb) (Sd := slotSet u) (fd := (arr3 B : Buf (Elt F) (bufM.view.loc (tile d L)))) (fs := (arrH h : Buf (Elt F) (hidM.view.loc (tile d L)))) (q := q)
    (default : HIx 1) chunkN rfl (by decide) (set_slotM (inb := inb)).subset) $$ [Hh Hb Hs]
  · isplitl [Hh]; · iexact Hh
    isplitl [Hb] <;> iassumption
  iintro Hfl
  iapply (step_ret (d := d) (L := L) (Q := fun v => run' d L (k v) Q) hk)
  isplitl [HP]; · iexact HP
  iapply (flight_frame chunk_back)
  isplitl [Hfl] <;> iassumption

/-- The rows of a block of results. -/
def blockSet (r : ℕ) : Finset S16384x512.Idx := Finset.univ.filter fun y => r ≤ (y 0).val ∧ (y 0).val < r + 128

/-- A block of the results. -/
abbrev blockM (r : ℕ) (inb : ∀ a, (![r, 0] : Fin 2 → ℕ) a + S128x512.size a ≤ S16384x512.size a) : Memref sig .scVector .hbm S128x512 .f32 :=
  outM.slice (Rect.unit (s := S16384x512) ![r, 0] S128x512.size inb) (fun _ => rfl)

/-- The credit of the copy of a block of results. -/
abbrev blockN : ℕ := (blockM 0 (by decide)).view.dmaCredit

theorem set_blockM {r : ℕ} {inb : ∀ a, (![r, 0] : Fin 2 → ℕ) a + S128x512.size a ≤ S16384x512.size a} : (blockM r inb).view.set = blockSet r := by
  ext y
  constructor
  · intro hy
    obtain ⟨x, -, rfl⟩ := Finset.mem_map.mp hy
    refine Finset.mem_filter.mpr ⟨Finset.mem_univ _, ?_⟩
    show r ≤ r + 1 * (x 0).val ∧ r + 1 * (x 0).val < r + 128
    have : (x 0).val < 128 := (x 0).isLt
    omega
  · intro hy
    obtain ⟨h1, h2⟩ := (Finset.mem_filter.mp hy).2
    refine Finset.mem_map.mpr ⟨fun | 0 => ⟨(y 0).val - r, (by omega : (y 0).val - r < 128)⟩ | 1 => y 1, Finset.mem_univ _, ?_⟩
    funext a
    refine Fin.ext ?_
    fin_cases a
    · show r + 1 * ((y 0).val - r) = (y 0).val; omega
    · show 0 + 1 * (y 1).val = (y 1).val; omega

/-- What the copy of a block leaves in the array. -/
theorem block_write {r : ℕ} {inb : ∀ a, (![r, 0] : Fin 2 → ℕ) a + S128x512.size a ≤ S16384x512.size a} {X G : ℕ → ℕ → F .f32}
    (y : S16384x512.Idx) (hy : y ∈ blockSet r) :
    (blockM r inb).view.write (Elt F) (arrH G) (accM.view.read (Elt F) (arr2 X)) Finset.univ y = arrH (fun r' c => X (r' - r) c) y := by
  rw [← set_blockM (inb := inb)] at hy
  obtain ⟨x, -, rfl⟩ := Finset.mem_map.mp hy
  refine (View.write_emb_of_mem _ _ (Finset.mem_univ _)).trans ?_
  show X (x 0).val (x 1).val = X (r + 1 * (x 0).val - r) (0 + 1 * (x 1).val)
  congr 1 <;> omega

/-- The accumulator's copy into a block of the results starts. -/
theorem step_put {α : Type} {Q : α → sProp 𝕄} {P : sProp 𝕄} {sem : DmaSem sig} {off : Fin 2 → ℕ} {inb : ∀ a, off a + S128x512.size a ≤ S16384x512.size a}
    {X G : ℕ → ℕ → F .f32}
    {hsrc : accM.view.WordExact} {hdst : (outM.slice (Rect.unit (s := S16384x512) off S128x512.size inb) (fun _ => rfl)).view.WordExact}
    {hsem : DmaTarget.Typed (nD := nD) (p := .scVector (cV L) (jV L)) Space.vmem (.dma sem)
      (.here (outM.slice (Rect.unit (s := S16384x512) off S128x512.size inb) (fun _ => rfl)))}
    {k : PUnit → TProg (F := F) L α} (r : ℕ) (hoff : off = ![r, 0])
    (hk : iprop(P ∗ Transfers.Flight countersEmb (tile d L) (.dma sem) (default : HIx 1) blockN
      iprop(outPt d L (blockSet r) (fun r' c => X (r' - r) c) ∗ accPt d L X)) ⊢ run' d L (k ⟨⟩) Q) :
    iprop(P ∗ (outPt d L (blockSet r) G ∗ accPt d L X) ∗ semVal (tile d L, .dma sem) 0)
      ⊢ run' d L (Prog.lift (.enqueueDma accM (.here (outM.slice (Rect.unit (s := S16384x512) off S128x512.size inb) (fun _ => rfl))) (.dma sem) hsrc hdst hsem) >>= k) Q := by
  subst hoff
  refine step_bind ?_
  iintro ⟨HP, ⟨Ho, Ha⟩, Hs⟩
  have hset : accM.view.set = Finset.univ := View.set_whole _
  ihave Ha := (Entails.of_eq (show accPt d L X = (accM.view.loc (tile d L) ↦[accM.view.set]{fullShare} (arr2 X : Buf (Elt F) (accM.view.loc (tile d L)))) by rw [hset])) $$ Ha
  iapply (Transfers.wp_dmaLocal countersEmb 𝒱₀ (tile d L) none (src := accM)
    (dst := blockM r inb) (Sd := blockSet r) (fd := (arrH G : Buf (Elt F) (outM.view.loc (tile d L)))) (fs := (arr2 X : Buf (Elt F) (accM.view.loc (tile d L)))) (q := fullShare)
    (default : HIx 1) blockN rfl (by decide) (set_blockM (inb := inb)).subset) $$ [Ho Ha Hs]
  · isplitl [Ha]; · iexact Ha
    isplitl [Ho] <;> iassumption
  iintro Hfl
  iapply (step_ret (d := d) (L := L) (Q := fun v => run' d L (k v) Q) hk)
  isplitl [HP]; · iexact HP
  iapply (Transfers.Flight_mono countersEmb (tile d L) ?_) $$ Hfl
  rw [hset]
  exact BIClass.sep_mono (Entails.of_eq (pointsTo_congr fun y hy => block_write y hy)) (Entails.refl _)

abbrev rowPartM : Memref sig .scVector .vmem S2048 .i32 := rowM.slice (Rect.unit (s := S2064) ![0] S2048.size inb_S2064_S2048_0) (fun _ => rfl)

/-- What the copy of a segment row leaves. -/
theorem row_write {r : ℕ} {inb : ∀ a, (![r] : Fin 1 → ℕ) a + S2048.size a ≤ S16384.size a} {s sw : ℕ → BitVec 32} :
    rowPartM.view.write (Elt F) (arr1 sw) ((segM.slice (Rect.unit (s := S16384) ![r] S2048.size inb) (fun _ => rfl)).view.read (Elt F) (arrS s)) Finset.univ
      = arr1 (fun t => if t < 2048 then s (r + t) else sw t) := by
  funext y
  by_cases hy : (y 0).val < 2048
  · obtain ⟨x, hx, hx0⟩ : ∃ x : S2048.Idx, rowPartM.view.emb x = y ∧ (x 0).val = (y 0).val := by
      refine ⟨fun | 0 => ⟨(y 0).val, hy⟩, ?_, rfl⟩
      funext a
      refine Fin.ext ?_
      fin_cases a
      show 0 + 1 * (y 0).val = (y 0).val; omega
    subst hx
    refine (View.write_emb_of_mem _ _ (Finset.mem_univ _)).trans ?_
    show s (r + 1 * (x 0).val) = if _ then s (r + _) else _
    rw [if_pos hy, ← hx0, Nat.one_mul]
  · rw [View.write_of_not_mem]
    · exact (if_neg hy).symm
    · intro hm
      obtain ⟨x, -, rfl⟩ := Finset.mem_map.mp hm
      refine hy ?_
      show 0 + 1 * (x 0).val < 2048
      have : (x 0).val < 2048 := (x 0).isLt
      omega

/-- The copy of the tile's segment row starts. -/
theorem step_fetchRow {α : Type} {Q : α → sProp 𝕄} {P : sProp 𝕄} {sem : DmaSem sig} {off : Fin 1 → ℕ} {inb : ∀ a, off a + S2048.size a ≤ S16384.size a}
    {s sw : ℕ → BitVec 32} {q : PosShare TreeShare}
    {hsrc : (segM.slice (Rect.unit (s := S16384) off S2048.size inb) (fun _ => rfl)).view.WordExact} {hdst : rowPartM.view.WordExact}
    {hsem : DmaTarget.Typed (nD := nD) (p := .scVector (cV L) (jV L)) Space.hbm (.dma sem) (.here rowPartM)}
    {k : PUnit → TProg (F := F) L α} (r : ℕ) (hoff : off = ![r])
    (hk : iprop(P ∗ Transfers.Flight countersEmb (tile d L) (.dma sem) (default : HIx 1) rowPartM.view.dmaCredit
      iprop(rowPt d L (fun t => if t < 2048 then s (r + t) else sw t) ∗ segPt d L q s)) ⊢ run' d L (k ⟨⟩) Q) :
    iprop(P ∗ (rowPt d L sw ∗ segPt d L q s) ∗ semVal (tile d L, .dma sem) 0)
      ⊢ run' d L (Prog.lift (.enqueueDma (segM.slice (Rect.unit (s := S16384) off S2048.size inb) (fun _ => rfl)) (.here rowPartM) (.dma sem) hsrc hdst hsem) >>= k) Q := by
  subst hoff
  refine step_bind ?_
  iintro ⟨HP, ⟨Hb, Hh⟩, Hs⟩
  ihave Hsp := (pointsTo_split_subset (q := q) (f := (arrS s : Buf (Elt F) (segM.view.loc (tile d L)))) (S := Finset.univ)
    (Finset.subset_univ (segM.slice (Rect.unit (s := S16384) ![r] S2048.size inb) (fun _ => rfl)).view.set)).1 $$ Hh
  icases Hsp with ⟨Hh, Hrest⟩
  iapply (Transfers.wp_dmaLocal countersEmb 𝒱₀ (tile d L) none (src := segM.slice (Rect.unit (s := S16384) ![r] S2048.size inb) (fun _ => rfl))
    (dst := rowPartM) (Sd := Finset.univ) (fd := (arr1 sw : Buf (Elt F) (rowM.view.loc (tile d L)))) (fs := (arrS s : Buf (Elt F) (segM.view.loc (tile d L)))) (q := q)
    (default : HIx 1) rowPartM.view.dmaCredit rfl (by decide) (Finset.subset_univ _)) $$ [Hh Hb Hs]
  · isplitl [Hh]; · iexact Hh
    isplitl [Hb] <;> iassumption
  iintro Hfl
  iapply (step_ret (d := d) (L := L) (Q := fun v => run' d L (k v) Q) hk)
  isplitl [HP]; · iexact HP
  have hback : iprop((((rowPartM.view.loc (tile d L)) ↦[Finset.univ]{fullShare} (rowPartM.view.write (Elt F) (arr1 sw)
          ((ReadAs.same (Val := Elt F)).apply ((segM.slice (Rect.unit (s := S16384) ![r] S2048.size inb) (fun _ => rfl)).view.read (Elt F) (arrS s))) Finset.univ))
        ∗ ((segM.slice (Rect.unit (s := S16384) ![r] S2048.size inb) (fun _ => rfl)).view.loc (tile d L)
            ↦[(segM.slice (Rect.unit (s := S16384) ![r] S2048.size inb) (fun _ => rfl)).view.set]{q} (arrS s : Buf (Elt F) (segM.view.loc (tile d L)))))
        ∗ (segM.view.loc (tile d L) ↦[Finset.univ \ (segM.slice (Rect.unit (s := S16384) ![r] S2048.size inb) (fun _ => rfl)).view.set]{q}
            (arrS s : Buf (Elt F) (segM.view.loc (tile d L)))))
      ⊢ iprop(rowPt d L (fun t => if t < 2048 then s (r + t) else sw t) ∗ segPt d L q s) := by
    iintro ⟨⟨Hb, Hh⟩, Hrest⟩
    isplitl [Hb]
    · iapply (Entails.of_eq (pointsTo_congr fun y _ => congrFun (row_write (inb := inb)) y)) $$ Hb
    · iapply (pointsTo_split_subset (q := q) (f := (arrS s : Buf (Elt F) (segM.view.loc (tile d L)))) (S := Finset.univ)
        (Finset.subset_univ (segM.slice (Rect.unit (s := S16384) ![r] S2048.size inb) (fun _ => rfl)).view.set)).2
      isplitl [Hh] <;> iassumption
  iapply (flight_frame hback)
  isplitl [Hfl] <;> iassumption

end Cert.Proof
-- ==== Proof.Chunk.lean ====
module

public import proofs.«01_k».proof.Proof.Sum
public import proofs.«01_k».proof.Proof.Copy

/-! # The chunks of a task: each copied into one block of the row buffer while the tokens of the one before are added -/

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

theorem perm1 {A B C E : sProp 𝕄} : iprop(A ∗ B ∗ C ∗ E) ⊢ iprop((A ∗ B ∗ E) ∗ C) := by
  iintro ⟨HA, HB, HC, HE⟩
  isplitr [HC]
  · isplitl [HA]; · iexact HA
    isplitl [HB] <;> iassumption
  · iexact HC

theorem perm2 {A B C E : sProp 𝕄} : iprop((A ∗ B ∗ E) ∗ C) ⊢ iprop((A ∗ C) ∗ B ∗ E) := by
  iintro ⟨⟨HA, HB, HE⟩, HC⟩
  isplitl [HA HC]
  · isplitl [HA] <;> iassumption
  · isplitl [HB] <;> iassumption

theorem perm3 {A B C E : sProp 𝕄} : iprop(A ∗ B ∗ C ∗ E) ⊢ iprop((A ∗ C) ∗ B ∗ E) := perm1.trans perm2

variable (d : Dev nD) (L : grid0.Coords) (q : PosShare TreeShare) (hid : ℕ → ℕ → F .f32) (s : ℕ → BitVec 32) (seg : ℕ → ℕ) (base a b : ℕ)

/-- A block's semaphore, and its share of the array. -/
abbrev semOf : ℕ → DmaSem sig
  | 0 => cc0_scratch4.sem
  | _ => cc0_scratch5.sem
abbrev shareOf : ℕ → PosShare TreeShare
  | 0 => q.left
  | _ => q.right

/-- The first row of the tile's batch row in the array. -/
abbrev row0 : ℕ := bat L * 2048
/-- The tile's batch row. -/
abbrev ownRow : ℕ → ℕ → F .f32 := fun t c => hid (row0 L + t) c

/-- Chunk `k`, as it lies in its block. -/
abbrev chunkB (k : ℕ) : ℕ → ℕ → ℕ → F .f32 := fun _ p c => hid (row0 L + ck a k + p) c
/-- Block `u` with no copy in flight. -/
abbrev idle (u : ℕ) : sProp 𝕄 := iprop((∃ B, bufPt d L (slotSet u) B ∗ hidPt d L (shareOf q u) hid) ∗ semVal (tile d L, .dma (semOf u)) 0)
/-- Block `u` with chunk `k` on its way into it. -/
abbrev flying (u k : ℕ) : sProp 𝕄 :=
  Transfers.Flight countersEmb (tile d L) (.dma (semOf u)) (default : HIx 1) chunkN
    iprop(bufPt d L (slotSet u) (chunkB L hid a k) ∗ hidPt d L (shareOf q u) hid)
/-- Block `u` with chunk `k` in it. -/
abbrev ready (u k : ℕ) : sProp 𝕄 :=
  iprop((bufPt d L (slotSet u) (chunkB L hid a k) ∗ hidPt d L (shareOf q u) hid) ∗ semVal (tile d L, .dma (semOf u)) 0)
/-- The block of chunk `k`: the chunk on its way, if there is one. -/
abbrev coming (k : ℕ) : sProp 𝕄 := if k < nk a b then flying d L q hid a (k % 2) k else idle d L q hid (k % 2)

/-- The accumulator and the counts after the tokens before `t`, `prev` the number of the last. -/
abbrev sums (prev : BitVec 32) (t : ℕ) : sProp 𝕄 :=
  iprop(∃ X Y, ⌜prev = prevW s a t ∧ Summed (ownRow L hid) seg base X Y t⌝ ∗ accPt d L X ∗ cntPt d L Y)

variable {d L q hid s seg base a b}

theorem ready_idle {u k : ℕ} : ready d L q hid a u k ⊢ idle d L q hid u := by
  iintro ⟨H, Hs⟩
  isplitl [H]
  · iexists _; iexact H
  · iexact Hs

/-- Chunk `k` sets off into block `u`. -/
theorem start_chunk {α : Type} {Q : α → sProp 𝕄} {P : sProp 𝕄} {off : Fin 2 → ℕ} {inb' : ∀ a, off a + S32x512.size a ≤ S16384x512.size a} (u k : ℕ)
    {inb : ∀ a, (![u, 0, 0] : Fin 3 → ℕ) a + S1x32x512.size a ≤ S2x32x512.size a}
    {hsrc : (hidM.slice (Rect.unit (s := S16384x512) off S32x512.size inb') (fun _ => rfl)).view.WordExact} {hdst : (slotM u inb).view.WordExact}
    {hsem : DmaTarget.Typed (nD := nD) (p := .scVector (cV L) (jV L)) Space.hbm (.dma (semOf u)) (.here (slotM u inb))}
    {kk : PUnit → TProg (F := F) L α} (hoff : off = ![row0 L + ck a k, 0])
    (hk : iprop(P ∗ flying d L q hid a u k) ⊢ run' d L (kk ⟨⟩) Q) :
    iprop(P ∗ idle d L q hid u)
      ⊢ run' d L (Prog.lift (.enqueueDma (hidM.slice (Rect.unit (s := S16384x512) off S32x512.size inb') (fun _ => rfl)) (.here (slotM u inb)) (.dma (semOf u)) hsrc hdst hsem) >>= kk) Q := by
  iintro ⟨HP, ⟨%B, Hb⟩, Hs⟩
  iapply (step_start (F := F) (P := P) (B := B) (q := shareOf q u) (h := hid) (inb := inb) (row0 L + ck a k) hoff hk)
  isplitl [HP]; · iexact HP
  isplitl [Hb] <;> iassumption

/-- The sums, opened. -/
theorem with_sums {A G : sProp 𝕄} {prev : BitVec 32} {t : ℕ}
    (H : ∀ X Y, prev = prevW s a t ∧ Summed (ownRow L hid) seg base X Y t → iprop(A ∗ accPt d L X ∗ cntPt d L Y) ⊢ G) :
    iprop(A ∗ sums d L hid s seg base a prev t) ⊢ G := by
  iintro ⟨HA, %X, %Y, %hp, Ha, Hc⟩
  iapply (H X Y hp)
  isplitl [HA]; · iexact HA
  isplitl [Ha] <;> iassumption

variable (T : Task seg base a b) (hs : ∀ t, t < 2048 → s t = BitVec.ofNat 32 (seg t))

section Trip
variable (k : Fin (k0_t6_loop (BitVec.ofNat 32 a) (BitVec.ofNat 32 b)).trips)
include T

/-- The copies of a trip: the next chunk sets off, this one arrives. -/
theorem copies {P : sProp 𝕄} {O : CellTallies nD τ sig (HIx 1)} {W : Waits sig (HIx 1)} (v11 v17 : BitVec 32) (t1 : Fin k0_t1_loop.trips) (h3 : k0_cond3 L v17 t1 = 1#1)
    (hw3 : k0_chk3 L v17 t1 (BitVec.ofNat 32 a) (BitVec.ofNat 32 b)) (v80 v100 : BitVec 32) :
    iprop(P ∗ flying d L q hid a (k.val % 2) k ∗ idle d L q hid ((k.val + 1) % 2) ∗ waitKit d L O W)
      ⊢ run' d L (k0_part37 L hidM (Memref.isWhole_whole _) segM (Memref.isWhole_whole _) outM (Memref.isWhole_whole _) rowM (Memref.isWhole_whole _) bufM (Memref.isWhole_whole _) accM (Memref.isWhole_whole _) cntM (Memref.isWhole_whole _) cc0_scratch4 cc0_scratch5 cc0_scoped0 cc0_scoped1 cc0_scoped2 v11 v17 t1 h3 (BitVec.ofNat 32 a) (BitVec.ofNat 32 b) hw3 v80 v100 0#32 1#32 k)
          fun _ => iprop((P ∗ coming d L q hid a b (k.val + 1)) ∗ ready d L q hid a (k.val % 2) k ∗ waitKit d L O W) := by
  have c5 := cond5_iff T.lt T.le k
  have c6 := cond6_iff T.lt T.le k
  have c7 := cond7_iff T.lt T.le k
  have c8 := cond8_iff T.lt T.le k
  rw [k0_part37_eq_skeleton]; unfold k0_part37_skel
  unfold coming
  rcases Nat.mod_two_eq_zero_or_one k.val with e | e
  · have e' : (k.val + 1) % 2 = 1 := by omega
    rw [e, e']
    by_cases hn : k.val + 1 < nk a b
    · rw [if_pos hn]
      refine step_then (c5.2 ⟨hn, e⟩) ?_
      refine perm1.trans (start_chunk (F := F) 1 (k.val + 1) (off70_eq L T.lt T.le k) ?_)
      refine step_else (fun h => (c6.1 h).2 e) ?_
      refine step_then (c7.2 e) ?_
      refine perm2.trans (step_wait rfl ?_)
      refine step_else (fun h => c8.1 h e) ?_
      exact step_ret (Entails.refl _)
    · rw [if_neg hn]
      refine step_else (fun h => hn (c5.1 h).1) ?_
      refine step_else (fun h => hn (c6.1 h).1) ?_
      refine step_then (c7.2 e) ?_
      refine perm3.trans (step_wait rfl ?_)
      refine step_else (fun h => c8.1 h e) ?_
      exact step_ret (Entails.refl _)
  · have e' : (k.val + 1) % 2 = 0 := by omega
    have ne : ¬ k.val % 2 = 0 := by omega
    rw [e, e']
    by_cases hn : k.val + 1 < nk a b
    · rw [if_pos hn]
      refine step_else (fun h => ne (c5.1 h).2) ?_
      refine step_then (c6.2 ⟨hn, ne⟩) ?_
      refine perm1.trans (start_chunk (F := F) 0 (k.val + 1) (off71_eq L T.lt T.le k) ?_)
      refine step_else (fun h => ne (c7.1 h)) ?_
      refine step_then (c8.2 ne) ?_
      refine perm2.trans (step_wait rfl ?_)
      exact step_ret (Entails.refl _)
    · rw [if_neg hn]
      refine step_else (fun h => hn (c5.1 h).1) ?_
      refine step_else (fun h => hn (c6.1 h).1) ?_
      refine step_else (fun h => ne (c7.1 h)) ?_
      refine step_then (c8.2 ne) ?_
      refine perm3.trans (step_wait rfl ?_)
      exact step_ret (Entails.refl _)

include hs

/-- One token of a chunk. -/
theorem token {P : sProp 𝕄} (v11 v17 : BitVec 32) (hw8 : k0_chk8 L v17) (t1 : Fin k0_t1_loop.trips) (hbase : base = Cert.Proof.base L t1) (v40 v44 : BitVec 32)
    (h3 : k0_cond3 L v17 t1 = 1#1) (hw3 : k0_chk3 L v17 t1 (BitVec.ofNat 32 a) (BitVec.ofNat 32 b)) (v80 v83 c32 v84 v89 c0 v129 v166 v167 : BitVec 32)
    (j : Fin (k0_t7_loop (BitVec.ofNat 32 a) (BitVec.ofNat 32 b) k).trips) (prev : BitVec 32) :
    iprop((bufPt d L (slotSet (k.val % 2)) (chunkB L hid a k) ∗ rowPt d L s ∗ P) ∗ sums d L hid s seg base a prev (lo a k + j.val))
      ⊢ run' d L (k0_t7_body L hidM (Memref.isWhole_whole _) segM (Memref.isWhole_whole _) outM (Memref.isWhole_whole _) rowM (Memref.isWhole_whole _) bufM (Memref.isWhole_whole _) accM (Memref.isWhole_whole _) cntM (Memref.isWhole_whole _) cc0_scratch4 cc0_scratch5 cc0_scoped0 cc0_scoped1 cc0_scoped2 v11 v17 hw8 (fun _ => oneF) t1 v40 v44 h3 (BitVec.ofNat 32 a) (BitVec.ofNat 32 b) hw3 v80 v83 c32 v84 v89 c0 k v129 v166 v167 j prev)
          fun v => iprop((bufPt d L (slotSet (k.val % 2)) (chunkB L hid a k) ∗ rowPt d L s ∗ P) ∗ sums d L hid s seg base a v (lo a k + (j.val + 1))) := by
  have hle := T.le
  have hlt := T.lt
  obtain ⟨-, hck, -, hlo, hhi⟩ := chunk_facts T.lt T.le (chunk_lt T.lt T.le k)
  have hj := tok_lt T.lt T.le k j
  have ht : (tokW (BitVec.ofNat 32 a) k j).toNat = lo a k + j.val := by
    rw [tokW_eq (by omega) (chunk_le T.lt T.le k) (tok_le T.lt T.le k j), toNat_nat (by omega)]
  have hsg := hs (lo a k + j.val) (by omega)
  have hge := T.ge (t := lo a k + j.val) (by omega) (by omega)
  have hbl := T.below (t := lo a k + j.val) (by omega)
  have hrow : (Scalar.subi (s (tokW (BitVec.ofNat 32 a) k j).toNat) (baseW L t1)).toNat = seg (lo a k + j.val) - base := by
    rw [ht, hsg, acc_toNat L (trips_t1 ▸ t1.isLt) (hbase ▸ hge) (hbase ▸ hbl), hbase]
  refine with_sums fun X Y hp => ?_
  obtain ⟨rfl, hsum⟩ := hp
  have hchk : k0_chk4 L v17 t1 (BitVec.ofNat 32 a) (BitVec.ofNat 32 b) k j (prevW s a (lo a k + j.val)) (s (tokW (BitVec.ofNat 32 a) k j).toNat) := by
    rw [ht, hsg]
    exact chk4_holds L v17 t1 T.lt T.le k j _ (hbase ▸ hge) (hbase ▸ hbl)
  have hstep := hsum.step T hs (by omega) (by omega) (g := chunkB L hid a k (k.val % 2) (lo a k + j.val - ck a k))
    (fun c _ => by show hid _ c = hid _ c; congr 1; omega)
  have hbody := token_body (F := F) (d := d) (L := L) (X := X) (Y := Y) (B := chunkB L hid a k) (P := P) v11 v17 hw8 t1 v40 v44 h3 (BitVec.ofNat 32 a) (BitVec.ofNat 32 b) hw3
    v80 v83 c32 v84 v89 c0 k v129 v166 v167 j (prevW s a (lo a k + j.val)) s hchk
  rw [hrow, ht, place_toNat T.lt T.le k j, slot_toNat T.lt T.le k] at hbody
  refine BIBase.Entails.trans ?_ (hbody.trans (wp_mono frame _ _ fun v => ?_))
  · iintro ⟨H, Ha, Hc⟩
    isplitl [H]; · iexact H
    isplitl [Ha] <;> iassumption
  iintro ⟨%hv, H, Ha, Hc⟩
  isplitl [H]; · iexact H
  iexists _, _
  isplitr
  swap
  · isplitl [Ha]; · iexact Ha
    iexact Hc
  ipureintro
  refine ⟨?_, hstep⟩
  rw [hv]
  unfold prevW
  rw [if_neg (by omega)]
  rfl

/-- The tokens of a chunk. -/
theorem tokens {α : Type} {Q : α → sProp 𝕄} {P : sProp 𝕄} (v11 v17 : BitVec 32) (hw8 : k0_chk8 L v17) (t1 : Fin k0_t1_loop.trips) (hbase : base = Cert.Proof.base L t1)
    (v40 v44 : BitVec 32)
    (h3 : k0_cond3 L v17 t1 = 1#1) (hw3 : k0_chk3 L v17 t1 (BitVec.ofNat 32 a) (BitVec.ofNat 32 b)) (v80 v83 c32 v84 v89 c0 v129 v166 v167 : BitVec 32)
    {hok : (k0_t7_loop (BitVec.ofNat 32 a) (BitVec.ofNat 32 b) k).OK} (prev : BitVec 32) {kk : BitVec 32 → TProg (F := F) L α}
    (hk : ∀ v, iprop((bufPt d L (slotSet (k.val % 2)) (chunkB L hid a k) ∗ rowPt d L s ∗ P) ∗ sums d L hid s seg base a v (hi a b k)) ⊢ run' d L (kk v) Q) :
    iprop((bufPt d L (slotSet (k.val % 2)) (chunkB L hid a k) ∗ rowPt d L s ∗ P) ∗ sums d L hid s seg base a prev (lo a k))
      ⊢ run' d L ((k0_t7_loop (BitVec.ofNat 32 a) (BitVec.ofNat 32 b) k).for hok prev
          (k0_t7_body L hidM (Memref.isWhole_whole _) segM (Memref.isWhole_whole _) outM (Memref.isWhole_whole _) rowM (Memref.isWhole_whole _) bufM (Memref.isWhole_whole _) accM (Memref.isWhole_whole _) cntM (Memref.isWhole_whole _) cc0_scratch4 cc0_scratch5 cc0_scoped0 cc0_scoped1 cc0_scoped2 v11 v17 hw8 (fun _ => oneF) t1 v40 v44 h3 (BitVec.ofNat 32 a) (BitVec.ofNat 32 b) hw3 v80 v83 c32 v84 v89 c0 k v129 v166 v167) >>= kk) Q := by
  refine step_loop (fun j v => iprop((bufPt d L (slotSet (k.val % 2)) (chunkB L hid a k) ∗ rowPt d L s ∗ P) ∗ sums d L hid s seg base a v (lo a k + j)))
    (Entails.refl _) (fun j v => token T hs k v11 v17 hw8 t1 hbase v40 v44 h3 hw3 v80 v83 c32 v84 v89 c0 v129 v166 v167 j v) fun v => ?_
  have e : lo a k + (k0_t7_loop (BitVec.ofNat 32 a) (BitVec.ofNat 32 b) k).trips = hi a b k := by
    rw [trips_t7 T.lt T.le k]
    have := (chunk_facts T.lt T.le (chunk_lt T.lt T.le k)).1
    omega
  rw [e]
  exact hk v

/-- The tokens added before chunk `k`. -/
def before (a b k : ℕ) : ℕ := if k < nk a b then lo a k else b

/-- What the loop over the chunks holds at trip `k`. -/
abbrev chunkInv (P : sProp 𝕄) (O : CellTallies nD τ sig (HIx 1)) (W : Waits sig (HIx 1)) (n : ℕ) (prev : BitVec 32) : sProp 𝕄 :=
  iprop((P ∗ rowPt d L s ∗ sums d L hid s seg base a prev (before a b n)) ∗ coming d L q hid a b n ∗ idle d L q hid ((n + 1) % 2) ∗ waitKit d L O W)

/-- One chunk. -/
theorem chunk {P : sProp 𝕄} {O : CellTallies nD τ sig (HIx 1)} {W : Waits sig (HIx 1)} (v11 v17 : BitVec 32) (hw8 : k0_chk8 L v17) (t1 : Fin k0_t1_loop.trips)
    (hbase : base = Cert.Proof.base L t1) (v40 v44 : BitVec 32)
    (h3 : k0_cond3 L v17 t1 = 1#1) (hw3 : k0_chk3 L v17 t1 (BitVec.ofNat 32 a) (BitVec.ofNat 32 b)) (v80 v83 c32 v84 v89 c0 v100 : BitVec 32)
    (prev : BitVec 32) :
    chunkInv (d := d) (L := L) (q := q) (hid := hid) (s := s) (seg := seg) (base := base) (a := a) (b := b) P O W k.val prev
      ⊢ run' d L (k0_t6_body L hidM (Memref.isWhole_whole _) segM (Memref.isWhole_whole _) outM (Memref.isWhole_whole _) rowM (Memref.isWhole_whole _) bufM (Memref.isWhole_whole _) accM (Memref.isWhole_whole _) cntM (Memref.isWhole_whole _) cc0_scratch4 cc0_scratch5 cc0_scoped0 cc0_scoped1 cc0_scoped2 v11 v17 hw8 (fun _ => oneF) t1 v40 v44 h3 (BitVec.ofNat 32 a) (BitVec.ofNat 32 b) hw3 v80 v83 c32 v84 v89 c0 v100 k prev)
          (chunkInv (d := d) (L := L) (q := q) (hid := hid) (s := s) (seg := seg) (base := base) (a := a) (b := b) P O W (k.val + 1)) := by
  have hk := chunk_lt T.lt T.le k
  have e0 : before a b k.val = lo a k := if_pos hk
  have e1 : before a b (k.val + 1) = hi a b k := by
    unfold before
    by_cases hn : k.val + 1 < nk a b
    · rw [if_pos hn]; exact lo_succ T.lt hn
    · rw [if_neg hn]; exact (hi_last T.lt (by omega)).symm
  have e2 : (k.val + 1 + 1) % 2 = k.val % 2 := by omega
  have e3 : coming d L q hid a b k.val = flying d L q hid a (k.val % 2) k.val := if_pos hk
  unfold chunkInv
  rw [e0, e1, e2, e3]
  unfold k0_t6_body
  refine step_bind ((copies (P := iprop(P ∗ rowPt d L s ∗ sums d L hid s seg base a prev (lo a k))) T k v11 v17 t1 h3 hw3 v80 v100).trans (wp_mono frame _ _ fun r => ?_))
  rcases r with ⟨v128, v129, v158, v159, v160⟩
  have hin : iprop(((P ∗ rowPt d L s ∗ sums d L hid s seg base a prev (lo a k)) ∗ coming d L q hid a b (k.val + 1)) ∗ ready d L q hid a (k.val % 2) k ∗ waitKit d L O W)
      ⊢ iprop((bufPt d L (slotSet (k.val % 2)) (chunkB L hid a k) ∗ rowPt d L s
          ∗ (P ∗ coming d L q hid a b (k.val + 1) ∗ (hidPt d L (shareOf q (k.val % 2)) hid ∗ semVal (tile d L, .dma (semOf (k.val % 2))) 0) ∗ waitKit d L O W))
        ∗ sums d L hid s seg base a prev (lo a k)) := by
    iintro ⟨⟨⟨HP, Hr, Hs⟩, Hc⟩, ⟨⟨Hb, Hh⟩, Hsem⟩, Hk⟩
    isplitr [Hs]
    swap; · iexact Hs
    isplitl [Hb]; · iexact Hb
    isplitl [Hr]; · iexact Hr
    isplitl [HP]; · iexact HP
    isplitl [Hc]; · iexact Hc
    isplitl [Hh Hsem]
    · isplitl [Hh] <;> iassumption
    iexact Hk
  refine hin.trans ?_
  refine tokens T hs k v11 v17 hw8 t1 hbase v40 v44 h3 hw3 v80 v83 c32 v84 v89 c0 _ _ _ prev fun v => ?_
  refine last_noLoop (trips_t8 _ _ k) ?_
  iintro ⟨⟨Hb, Hr, HP, Hc, ⟨Hh, Hsem⟩, Hk⟩, Hs⟩
  isplitl [HP Hr Hs]
  · isplitl [HP]; · iexact HP
    isplitl [Hr] <;> iassumption
  isplitl [Hc]; · iexact Hc
  isplitl [Hb Hh Hsem]
  · isplitr [Hsem]
    · iexists _
      isplitl [Hb] <;> iassumption
    · iexact Hsem
  iexact Hk

end Trip

include T hs

/-- All the chunks of a task. -/
theorem chunks {α : Type} {Q : α → sProp 𝕄} {P : sProp 𝕄} {O : CellTallies nD τ sig (HIx 1)} {W : Waits sig (HIx 1)} (v11 v17 : BitVec 32) (hw8 : k0_chk8 L v17) (t1 : Fin k0_t1_loop.trips)
    (hbase : base = Cert.Proof.base L t1) (v40 v44 : BitVec 32)
    (h3 : k0_cond3 L v17 t1 = 1#1) (hw3 : k0_chk3 L v17 t1 (BitVec.ofNat 32 a) (BitVec.ofNat 32 b)) (v80 v83 c32 v84 v89 c0 v100 : BitVec 32)
    {hok : (k0_t6_loop (BitVec.ofNat 32 a) (BitVec.ofNat 32 b)).OK} {kk : BitVec 32 → TProg (F := F) L α}
    (hk : ∀ v, iprop((P ∗ rowPt d L s ∗ sums d L hid s seg base a v b) ∗ (idle d L q hid 0 ∗ idle d L q hid 1) ∗ waitKit d L O W) ⊢ run' d L (kk v) Q) :
    iprop((P ∗ rowPt d L s ∗ sums d L hid s seg base a 4294967295#32 a) ∗ flying d L q hid a 0 0 ∗ idle d L q hid 1 ∗ waitKit d L O W)
      ⊢ run' d L ((k0_t6_loop (BitVec.ofNat 32 a) (BitVec.ofNat 32 b)).for hok 4294967295#32
          (k0_t6_body L hidM (Memref.isWhole_whole _) segM (Memref.isWhole_whole _) outM (Memref.isWhole_whole _) rowM (Memref.isWhole_whole _) bufM (Memref.isWhole_whole _) accM (Memref.isWhole_whole _) cntM (Memref.isWhole_whole _) cc0_scratch4 cc0_scratch5 cc0_scoped0 cc0_scoped1 cc0_scoped2 v11 v17 hw8 (fun _ => oneF) t1 v40 v44 h3 (BitVec.ofNat 32 a) (BitVec.ofNat 32 b) hw3 v80 v83 c32 v84 v89 c0 v100) >>= kk) Q := by
  have hn := nk_pos T.lt
  refine step_loop (chunkInv (d := d) (L := L) (q := q) (hid := hid) (s := s) (seg := seg) (base := base) (a := a) (b := b) P O W) ?_
    (fun k v => chunk T hs k v11 v17 hw8 t1 hbase v40 v44 h3 hw3 v80 v83 c32 v84 v89 c0 v100 v) fun v => ?_
  · have e0 : before a b 0 = a := (if_pos hn).trans lo_zero
    have e3 : coming d L q hid a b 0 = flying d L q hid a 0 0 := if_pos hn
    unfold chunkInv
    rw [e0, e3]
  · rw [trips_t6 T.lt.le T.le]
    have e0 : before a b (nk a b) = b := if_neg (Nat.lt_irrefl _)
    have e3 : coming d L q hid a b (nk a b) = idle d L q hid (nk a b % 2) := if_neg (Nat.lt_irrefl _)
    unfold chunkInv
    rw [e0, e3]
    refine BIBase.Entails.trans ?_ (hk v)
    rcases Nat.mod_two_eq_zero_or_one (nk a b) with e | e
    · have e' : (nk a b + 1) % 2 = 1 := by omega
      rw [e, e']
      iintro ⟨HP, H0, H1, Hk⟩
      isplitl [HP]; · iexact HP
      isplitl [H0 H1]
      · isplitl [H0] <;> iassumption
      iexact Hk
    · have e' : (nk a b + 1) % 2 = 0 := by omega
      rw [e, e']
      iintro ⟨HP, H1, H0, Hk⟩
      isplitl [HP]; · iexact HP
      isplitl [H0 H1]
      · isplitl [H0] <;> iassumption
      iexact Hk

end Cert.Proof
-- ==== Proof.Search.lean ====
module

public import proofs.«01_k».proof.Proof.Sum

/-! The two searches of a task: for the first token of the task's first segment, and for the first token after its last one.
Each halves the span of the positions it still considers eleven times. -/

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] {d : Dev nD} {L : grid0.Coords} {s : ℕ → BitVec 32} {seg : ℕ → ℕ} {target : ℕ}

/-- To use a fact held beside something else. -/
theorem of_fact {P Q : sProp 𝕄} {φ : Prop} (h : φ → P ⊢ Q) : iprop(⌜φ⌝ ∗ P) ⊢ Q := by
  iintro ⟨%H, HP⟩
  iapply (h H) $$ HP

omit [FloatOps F] in
/-- One halving, on words. -/
theorem half (hst : Steps seg) (hs : ∀ t, t < 2048 → s t = BitVec.ofNat 32 (seg t)) (htar : target < 2 ^ 31) {m x y : ℕ} (S : Search seg target (m + 1) x y)
    {v mw : BitVec 32} (hv : v = s ((x + y) / 2)) (hm : mw = BitVec.ofNat 32 ((x + y) / 2)) :
    ∃ x' y', (Scalar.select (Scalar.cmpi .slt v (BitVec.ofNat 32 target)) (Scalar.addi mw 1#32) (BitVec.ofNat 32 x),
        Scalar.select (Scalar.cmpi .slt v (BitVec.ofNat 32 target)) (BitVec.ofNat 32 y) mw) = (BitVec.ofNat 32 x', BitVec.ofNat 32 y') ∧ Search seg target m x' y' := by
  have hlt := S.mid_lt
  have hle := S.hi_le
  have hsl := hst.le_self (t := (x + y) / 2) (by omega)
  subst hm
  rw [hv, hs _ (by omega)]
  have e : Scalar.addi (BitVec.ofNat 32 ((x + y) / 2)) 1#32 = BitVec.ofNat 32 ((x + y) / 2 + 1) :=
    eq_ofNat (Affine.addi (isInt_nat (by omega)) (isInt_nat (n := 1) (by omega)) (by omega))
  by_cases h : seg ((x + y) / 2) < target
  · have hc := (slt_nat_iff (a := seg ((x + y) / 2)) (b := target) (by omega) htar).2 h
    refine ⟨_, _, ?_, S.right hst h⟩
    rw [hc, e]; rfl
  · have hc : Scalar.cmpi .slt (BitVec.ofNat 32 (seg ((x + y) / 2))) (BitVec.ofNat 32 target) = 0#1 :=
      (BitVec.eq_zero_or_eq_one _).resolve_right fun h' => h ((slt_nat_iff (by omega) htar).1 h')
    refine ⟨_, _, ?_, S.left hst (by omega)⟩
    rw [hc]; rfl

/-- What a search holds after `n` halvings. -/
abbrev searchInv (d : Dev nD) (L : grid0.Coords) (s : ℕ → BitVec 32) (seg : ℕ → ℕ) (target : ℕ) (A P R : sProp 𝕄) (n : ℕ) (p : BitVec 32 × BitVec 32) : sProp 𝕄 :=
  iprop(⌜∃ x y, p = (BitVec.ofNat 32 x, BitVec.ofNat 32 y) ∧ Search seg target (11 - n) x y⌝ ∗ ((A ∗ rowPt (F := F) d L s ∗ P) ∗ R))

theorem trips_t4 : k0_t4_loop.trips = 11 := by decide
theorem trips_t5 : k0_t5_loop.trips = 11 := by decide

variable (hst : Steps seg) (hs : ∀ t, t < 2048 → s t = BitVec.ofNat 32 (seg t))
include hst hs

/-- A halving of the search for the first token. -/
theorem first_half {A P R : sProp 𝕄} (htar : target < 2 ^ 31) (v17 : BitVec 32) (t1 : Fin k0_t1_loop.trips) (h3 : k0_cond3 L v17 t1 = 1#1)
    (k : Fin k0_t4_loop.trips) (p : BitVec 32 × BitVec 32) :
    searchInv d L s seg target A P R k.val p
      ⊢ run' d L (k0_t4_body L hidM (Memref.isWhole_whole _) segM (Memref.isWhole_whole _) outM (Memref.isWhole_whole _) rowM (Memref.isWhole_whole _) bufM (Memref.isWhole_whole _) accM (Memref.isWhole_whole _) cntM (Memref.isWhole_whole _) cc0_scratch4 cc0_scratch5 cc0_scoped0 cc0_scoped1 cc0_scoped2 v17 t1 (BitVec.ofNat 32 target) h3 k p) (searchInv (F := F) d L s seg target A P R (k.val + 1)) := by
  have hk : k.val < 11 := k.isLt.trans_eq trips_t4
  rcases p with ⟨w, w'⟩
  refine of_fact ?_
  rintro ⟨x, y, e, S⟩
  obtain ⟨rfl, rfl⟩ := Prod.mk.inj e
  rw [show 11 - k.val = (11 - (k.val + 1)) + 1 by omega] at S
  have hlt := S.mid_lt
  have hle := S.hi_le
  unfold k0_t4_body
  refine step_assume (chk1_holds L v17 t1 (by omega)) ?_
  refine step_loadTok ((x + y) / 2) (off67_eq (by omega) (by omega)) fun v hv => ?_
  refine step_ret (with_fact ?_)
  have hw : extractAt ![0] (k0_pay483 (F := F) v) inpos_S1_p0 = s ((x + y) / 2) := (first_lane (h' := slices_S16_o0_S1)).trans hv
  have hm := mid_eq (a := x) (b := y) (by omega) (by omega)
  exact half hst hs htar S hw hm

/-- A halving of the search for the first token past the task. -/
theorem last_half {A P R : sProp 𝕄} (htar : target < 2 ^ 31) (v17 : BitVec 32) (t1 : Fin k0_t1_loop.trips) (h3 : k0_cond3 L v17 t1 = 1#1) (v40 : BitVec 32)
    (k : Fin k0_t5_loop.trips) (p : BitVec 32 × BitVec 32) :
    searchInv d L s seg target A P R k.val p
      ⊢ run' d L (k0_t5_body L hidM (Memref.isWhole_whole _) segM (Memref.isWhole_whole _) outM (Memref.isWhole_whole _) rowM (Memref.isWhole_whole _) bufM (Memref.isWhole_whole _) accM (Memref.isWhole_whole _) cntM (Memref.isWhole_whole _) cc0_scratch4 cc0_scratch5 cc0_scoped0 cc0_scoped1 cc0_scoped2 v17 t1 v40 h3 (BitVec.ofNat 32 target) k p) (searchInv (F := F) d L s seg target A P R (k.val + 1)) := by
  have hk : k.val < 11 := k.isLt.trans_eq trips_t5
  rcases p with ⟨w, w'⟩
  refine of_fact ?_
  rintro ⟨x, y, e, S⟩
  obtain ⟨rfl, rfl⟩ := Prod.mk.inj e
  rw [show 11 - k.val = (11 - (k.val + 1)) + 1 by omega] at S
  have hlt := S.mid_lt
  have hle := S.hi_le
  unfold k0_t5_body
  refine step_assume (chk2_holds L v17 t1 (by omega)) ?_
  refine step_loadTok ((x + y) / 2) (off68_eq (by omega) (by omega)) fun v hv => ?_
  refine step_ret (with_fact ?_)
  have hw : extractAt ![0] (k0_pay484 (F := F) v) inpos_S1_p0 = s ((x + y) / 2) := (first_lane (h' := slices_S16_o0_S1)).trans hv
  have hm := mid_eq (a := x) (b := y) (by omega) (by omega)
  exact half hst hs htar S hw hm

/-- The searches find the tokens of the task. -/
theorem searches {A P R : sProp 𝕄} {mx : ℕ} (hmx : mx = seg 2047) (v17 : BitVec 32) (hv17 : v17 = BitVec.ofNat 32 mx) (t1 : Fin k0_t1_loop.trips) {v40 : BitVec 32} (hv40 : v40 = BitVec.ofNat 32 (base L t1)) (h3 : k0_cond3 L v17 t1 = 1#1)
    {α : Type} {Q : α → sProp 𝕄}
    {kk : (Σ' (v59_0 : BitVec 32) (v62_0 : BitVec 32) (k0_hw3 : k0_chk3 L v17 t1 v59_0 v62_0) (v80 : BitVec 32) (v83 : BitVec 32) (c32_i32_47 : BitVec 32) (v84 : BitVec 32) (v89 : BitVec 32), BitVec 32) → TProg (F := F) L α}
    (hk : ∀ a b, Task seg (base L t1) a b → ∀ (hw3 : k0_chk3 L v17 t1 (BitVec.ofNat 32 a) (BitVec.ofNat 32 b)) (v80 v83 c32 v84 v89 c0 : BitVec 32),
      iprop((A ∗ rowPt (F := F) d L s ∗ P) ∗ R) ⊢ run' d L (kk ⟨BitVec.ofNat 32 a, BitVec.ofNat 32 b, hw3, v80, v83, c32, v84, v89, c0⟩) Q) :
    iprop((A ∗ rowPt (F := F) d L s ∗ P) ∗ R) ⊢ run' d L (k0_part87 L hidM (Memref.isWhole_whole _) segM (Memref.isWhole_whole _) outM (Memref.isWhole_whole _) rowM (Memref.isWhole_whole _) bufM (Memref.isWhole_whole _) accM (Memref.isWhole_whole _) cntM (Memref.isWhole_whole _) cc0_scratch4 cc0_scratch5 cc0_scoped0 cc0_scoped1 cc0_scoped2 v17 t1 v40 h3 >>= kk) Q := by
  have ht : t1.val < 4 := trips_t1 ▸ t1.isLt
  have hb := base_le L ht
  have hm : mx < 2048 := by have := hst.le_self (t := 2047) (by omega); omega
  have hused : 0 < used L mx t1 := (cond3_iff L hm t1).1 (hv17 ▸ h3)
  have hbm : base L t1 ≤ seg 2047 := by unfold used at hused; omega
  subst hv40
  obtain ⟨u, hu, hue⟩ := hst.hit (t := 2047) (by omega) hbm
  refine step_bind ?_
  rw [k0_part87_eq_skeleton]; unfold k0_part87_skel
  refine step_loop (searchInv d L s seg (base L t1) A P R) (with_fact ⟨0, 2048, rfl, Search.start seg _⟩)
    (fun k p => first_half hst hs (by omega) v17 t1 h3 k p) fun p => ?_
  refine of_fact ?_
  rintro ⟨a, a', rfl, Sa⟩
  rw [trips_t4] at Sa
  have Ca := Sa.cut hst (by unfold base; omega)
  have e60 : Scalar.addi (BitVec.ofNat 32 (base L t1)) 128#32 = BitVec.ofNat 32 (base L t1 + 128) :=
    eq_ofNat (Affine.addi (isInt_nat (by omega)) (isInt_nat (n := 128) (by omega)) (by omega))
  dsimp only
  rw [e60]
  refine step_loop (searchInv d L s seg (base L t1 + 128) A P R) (with_fact ⟨0, 2048, rfl, Search.start seg _⟩)
    (fun k p => last_half hst hs (by omega) v17 t1 h3 _ k p) fun p => ?_
  refine of_fact ?_
  rintro ⟨b, b', rfl, Sb⟩
  rw [trips_t5] at Sb
  have Cb := Sb.cut hst (by unfold base; omega)
  have hau : a ≤ u := by
    by_contra h
    have := Ca.below u (by omega); omega
  have hub : u < b := by
    by_contra h
    have := Cb.above u (by omega) (by omega); omega
  have T : Task seg (base L t1) a b := ⟨hst, by omega, Cb.le, Ca, Cb⟩
  dsimp only
  refine step_assume (chk3_holds L v17 t1 T.lt T.le) ?_
  exact step_ret (hk a b T _ _ _ _ _ _ _)

end Cert.Proof
-- ==== Proof.Zero.lean ====
module

public import proofs.«01_k».proof.Proof.Rows

/-! # A row of the accumulator is set to zero: the loop that empties a block and the loop that clears what is left of it -/

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] {d : Dev nD} {L : grid0.Coords}
variable {X : ℕ → ℕ → F .f32} {Y : ℕ → ℕ → F .f32}

/-- Zero. -/
abbrev zeroF : F .f32 := Scalar.ofBits .f32 0x00000000#32

/-- One step of the loop that empties a block sets one row to zero. -/
theorem zero_body {P : sProp 𝕄} (v1 v11 v17 : BitVec 32) (hw8 : k0_chk8 L v17) (v18 : FVec F S16 .f32) (c0 c1 : BitVec 32)
    (t1 : Fin k0_t1_loop.trips) (arg12 : BitVec 32) (k : Fin k0_t2_loop.trips) (acc : BitVec 32) :
    iprop(P ∗ accPt d L X ∗ cntPt d L Y)
      ⊢ run' d L (k0_t2_body L hidM (Memref.isWhole_whole _) segM (Memref.isWhole_whole _) outM (Memref.isWhole_whole _) rowM (Memref.isWhole_whole _) bufM (Memref.isWhole_whole _) accM (Memref.isWhole_whole _) cntM (Memref.isWhole_whole _) cc0_scratch4 cc0_scratch5 cc0_scoped0 cc0_scoped1 cc0_scoped2 v1 v11 v17 hw8 v18 c0 c1 t1 arg12 k acc)
          fun _ => iprop(P ∗ accPt d L (setRow X (Scf.iv 0#32 1#32 k.val).toNat 32 fun _ => zeroF) ∗ cntPt d L Y) := by
  refine start_row (Scf.iv 0#32 1#32 k.val).toNat (fun _ => zeroF) ?_
  unfold k0_t2_body
  refine step_bind ?_
  rw [k0_part1_eq_skeleton]; unfold k0_part1_skel
  iterate 7
    refine step_loadAcc _ _ rfl ?_
    refine step_storeAcc _ _ _ rfl (fun _ => rfl) ?_
  refine step_ret ?_
  refine step_bind ?_
  rw [k0_part2_eq_skeleton]; unfold k0_part2_skel
  iterate 7
    refine step_loadAcc _ _ rfl ?_
    refine step_storeAcc _ _ _ rfl (fun _ => rfl) ?_
  refine step_loadAcc _ _ rfl ?_
  refine step_ret ?_
  refine step_bind ?_
  rw [k0_part3_eq_skeleton]; unfold k0_part3_skel
  refine step_storeAcc _ _ _ rfl (fun _ => rfl) ?_
  iterate 7
    refine step_loadAcc _ _ rfl ?_
    refine step_storeAcc _ _ _ rfl (fun _ => rfl) ?_
  refine step_ret ?_
  refine step_bind ?_
  rw [k0_part4_eq_skeleton]; unfold k0_part4_skel
  iterate 7
    refine step_loadAcc _ _ rfl ?_
    refine step_storeAcc _ _ _ rfl (fun _ => rfl) ?_
  refine step_loadAcc _ _ rfl ?_
  refine step_ret ?_
  refine step_storeAcc _ _ _ rfl (fun _ => rfl) ?_
  iterate 2
    refine step_loadAcc _ _ rfl ?_
    refine step_storeAcc _ _ _ rfl (fun _ => rfl) ?_
  exact step_ret (Entails.refl _)

/-- One step of the loop that clears what is left of a block sets one row to zero. -/
theorem clear_body {P : sProp 𝕄} (v11 v17 : BitVec 32) (hw8 : k0_chk8 L v17) (v18 : FVec F S16 .f32)
    (t1 : Fin k0_t1_loop.trips) (v40 : BitVec 32) (h3 : k0_cond3 L v17 t1 = 1#1) (v59 v62 : BitVec 32) (hw3 : k0_chk3 L v17 t1 v59 v62)
    (v80 v83 c32 v84 v89 c0 : BitVec 32) (k : Fin (k0_t14_loop L v17 t1).trips) (acc : BitVec 32) :
    iprop(P ∗ accPt d L X ∗ cntPt d L Y)
      ⊢ run' d L (k0_t14_body L hidM (Memref.isWhole_whole _) segM (Memref.isWhole_whole _) outM (Memref.isWhole_whole _) rowM (Memref.isWhole_whole _) bufM (Memref.isWhole_whole _) accM (Memref.isWhole_whole _) cntM (Memref.isWhole_whole _) cc0_scratch4 cc0_scratch5 cc0_scoped0 cc0_scoped1 cc0_scoped2 v11 v17 hw8 v18 t1 v40 (usedW L v17 t1) h3 v59 v62 hw3 v80 v83 c32 v84 v89 c0 k acc)
          fun _ => iprop(P ∗ accPt d L (setRow X (Scf.iv (usedW L v17 t1) 1#32 k.val).toNat 32 fun _ => zeroF) ∗ cntPt d L Y) := by
  refine start_row (Scf.iv (usedW L v17 t1) 1#32 k.val).toNat (fun _ => zeroF) ?_
  unfold k0_t14_body
  refine step_bind ?_
  rw [k0_part79_eq_skeleton]; unfold k0_part79_skel
  iterate 7
    refine step_loadAcc _ _ rfl ?_
    refine step_storeAcc _ _ _ rfl (fun _ => rfl) ?_
  refine step_ret ?_
  refine step_bind ?_
  rw [k0_part80_eq_skeleton]; unfold k0_part80_skel
  iterate 7
    refine step_loadAcc _ _ rfl ?_
    refine step_storeAcc _ _ _ rfl (fun _ => rfl) ?_
  refine step_loadAcc _ _ rfl ?_
  refine step_ret ?_
  refine step_bind ?_
  rw [k0_part81_eq_skeleton]; unfold k0_part81_skel
  refine step_storeAcc _ _ _ rfl (fun _ => rfl) ?_
  iterate 7
    refine step_loadAcc _ _ rfl ?_
    refine step_storeAcc _ _ _ rfl (fun _ => rfl) ?_
  refine step_ret ?_
  refine step_bind ?_
  rw [k0_part82_eq_skeleton]; unfold k0_part82_skel
  iterate 7
    refine step_loadAcc _ _ rfl ?_
    refine step_storeAcc _ _ _ rfl (fun _ => rfl) ?_
  refine step_loadAcc _ _ rfl ?_
  refine step_ret ?_
  refine step_storeAcc _ _ _ rfl (fun _ => rfl) ?_
  iterate 2
    refine step_loadAcc _ _ rfl ?_
    refine step_storeAcc _ _ _ rfl (fun _ => rfl) ?_
  exact step_ret (Entails.refl _)

end Cert.Proof
-- ==== Proof.Scale.lean ====
module

public import proofs.«01_k».proof.Proof.Rows

/-! # A row of the accumulator is divided by its count -/

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] {d : Dev nD} {L : grid0.Coords}
variable {X : ℕ → ℕ → F .f32} {Y : ℕ → ℕ → F .f32}

/-- The factor a row with count `y` is multiplied by. -/
def recip (y : F .f32) : F .f32 :=
  FloatOps.divf (Scalar.ofBits .f32 0x3f800000#32) (FloatOps.addf y (Scalar.ofBits .f32 0x3089705f#32))

/-- One step of the loop that scales a block multiplies one row by the factor of its count. -/
theorem scale_body {P : sProp 𝕄} (v11 v17 : BitVec 32) (hw8 : k0_chk8 L v17) (v18 : FVec F S16 .f32)
    (t1 : Fin k0_t1_loop.trips) (v40 v44 : BitVec 32) (h3 : k0_cond3 L v17 t1 = 1#1) (v59 v62 : BitVec 32) (hw3 : k0_chk3 L v17 t1 v59 v62)
    (v80 v83 c32 v84 v89 c0 : BitVec 32) (k : Fin (k0_t12_loop L v17 t1).trips) (acc : BitVec 32) (y : F .f32)
    (hy : ∀ l < 16, Y (Scf.iv 0#32 1#32 k.val).toNat l = y) :
    iprop(P ∗ accPt d L X ∗ cntPt d L Y)
      ⊢ run' d L (k0_t12_body L hidM (Memref.isWhole_whole _) segM (Memref.isWhole_whole _) outM (Memref.isWhole_whole _) rowM (Memref.isWhole_whole _) bufM (Memref.isWhole_whole _) accM (Memref.isWhole_whole _) cntM (Memref.isWhole_whole _) cc0_scratch4 cc0_scratch5 cc0_scoped0 cc0_scoped1 cc0_scoped2 v11 v17 hw8 v18 t1 v40 v44 h3 v59 v62 hw3 v80 v83 c32 v84 v89 c0 k acc)
          fun _ => iprop(P ∗ accPt d L (setRow X (Scf.iv 0#32 1#32 k.val).toNat 32
            fun c => FloatOps.mulf (X (Scf.iv 0#32 1#32 k.val).toNat c) (recip y)) ∗ cntPt d L Y) := by
  refine start_row (Scf.iv 0#32 1#32 k.val).toNat (fun c => FloatOps.mulf (X (Scf.iv 0#32 1#32 k.val).toNat c) (recip y)) ?_
  unfold k0_t12_body
  refine step_bind ?_
  rw [k0_part67_eq_skeleton]; unfold k0_part67_skel
  refine step_loadCntConst _ y rfl hy ?_
  iterate 4
    refine step_loadNext rfl ?_
    refine step_loadNext rfl ?_
    refine step_storeAcc _ _ _ rfl (scale_pay rfl) ?_
  refine step_loadNext rfl ?_
  refine step_ret ?_
  refine step_bind ?_
  rw [k0_part68_eq_skeleton]; unfold k0_part68_skel
  refine step_loadNext rfl ?_
  refine step_storeAcc _ _ _ rfl (scale_pay rfl) ?_
  iterate 4
    refine step_loadNext rfl ?_
    refine step_loadNext rfl ?_
    refine step_storeAcc _ _ _ rfl (scale_pay rfl) ?_
  refine step_loadNext rfl ?_
  refine step_loadNext rfl ?_
  refine step_ret ?_
  refine step_bind ?_
  rw [k0_part69_eq_skeleton]; unfold k0_part69_skel
  refine step_storeAcc _ _ _ rfl (scale_pay rfl) ?_
  iterate 5
    refine step_loadNext rfl ?_
    refine step_loadNext rfl ?_
    refine step_storeAcc _ _ _ rfl (scale_pay rfl) ?_
  refine step_loadNext rfl ?_
  refine step_ret ?_
  refine step_bind ?_
  rw [k0_part70_eq_skeleton]; unfold k0_part70_skel
  refine step_loadNext rfl ?_
  refine step_storeAcc _ _ _ rfl (scale_pay rfl) ?_
  iterate 4
    refine step_loadNext rfl ?_
    refine step_loadNext rfl ?_
    refine step_storeAcc _ _ _ rfl (scale_pay rfl) ?_
  refine step_loadNext rfl ?_
  refine step_loadNext rfl ?_
  refine step_ret ?_
  refine step_bind ?_
  rw [k0_part71_eq_skeleton]; unfold k0_part71_skel
  refine step_storeAcc _ _ _ rfl (scale_pay rfl) ?_
  iterate 5
    refine step_loadNext rfl ?_
    refine step_loadNext rfl ?_
    refine step_storeAcc _ _ _ rfl (scale_pay rfl) ?_
  refine step_loadNext rfl ?_
  refine step_ret ?_
  refine step_bind ?_
  rw [k0_part72_eq_skeleton]; unfold k0_part72_skel
  refine step_loadNext rfl ?_
  refine step_storeAcc _ _ _ rfl (scale_pay rfl) ?_
  iterate 4
    refine step_loadNext rfl ?_
    refine step_loadNext rfl ?_
    refine step_storeAcc _ _ _ rfl (scale_pay rfl) ?_
  refine step_loadNext rfl ?_
  refine step_loadNext rfl ?_
  refine step_ret ?_
  refine step_storeAcc _ _ _ rfl (scale_pay rfl) ?_
  exact step_ret (Entails.refl _)

end Cert.Proof
-- ==== Proof.Block.lean ====
module

public import proofs.«01_k».proof.Proof.Chunk
public import proofs.«01_k».proof.Proof.Search
public import proofs.«01_k».proof.Proof.Zero
public import proofs.«01_k».proof.Proof.Scale

/-! A task of at least one segment: its tokens are found and added up, the rows of its segments scaled and the other rows
cleared, so that the accumulator holds the task's block of the results. -/

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The mean of segment `n` of a row of 2048 tokens: the sum of the segment's tokens times the factor of their count, and zero
    for a number past the row's last segment. -/
def mean (row : ℕ → ℕ → F .f32) (seg : ℕ → ℕ) (n c : ℕ) : F .f32 :=
  if n ≤ seg 2047 then FloatOps.mulf (run FloatOps.addf seg (fun u => row u c) n 2048) (recip (run FloatOps.addf seg (fun _ => oneF) n 2048)) else zeroF

/-- The accumulator with the first `n` rows of a block done, and the sums of the other segments. -/
structure Part (row : ℕ → ℕ → F .f32) (seg : ℕ → ℕ) (base u : ℕ) (n : ℕ) (X Y : ℕ → ℕ → F .f32) : Prop where
  done : ∀ r c, r < n → c < 512 → X r c = mean row seg (base + r) c
  sum : ∀ r, n ≤ r → r < u → ∀ c, c < 512 → X r c = run FloatOps.addf seg (fun t => row t c) (base + r) 2048
  cnt : ∀ r, n ≤ r → r < u → ∀ l, l < 16 → Y r l = run FloatOps.addf seg (fun _ => oneF) (base + r) 2048

theorem Part.next {row : ℕ → ℕ → F .f32} {seg : ℕ → ℕ} {base u n : ℕ} {X Y : ℕ → ℕ → F .f32} (H : Part row seg base u n X Y) {g : ℕ → F .f32}
    (hg : ∀ c, c < 512 → g c = mean row seg (base + n) c) : Part row seg base u (n + 1) (setRow X n 32 g) Y := by
  refine ⟨fun r c hr hc => ?_, fun r hr hu c hc => ?_, fun r hr hu => H.cnt r (by omega) hu⟩
  · by_cases e : r = n
    · subst e; rw [setRow_row (by omega), hg c hc]
    · rw [setRow_other e]; exact H.done r c (by omega) hc
  · rw [setRow_other (by omega)]; exact H.sum r (by omega) hu c hc

variable {d : Dev nD} {L : grid0.Coords} {q : PosShare TreeShare} {hid : ℕ → ℕ → F .f32} {s : ℕ → BitVec 32} {seg : ℕ → ℕ}

/-- The accumulator and the counts with `n` rows of task `t` done. -/
abbrev partly (d : Dev nD) (L : grid0.Coords) (hid : ℕ → ℕ → F .f32) (seg : ℕ → ℕ) (t : ℕ) (P : sProp 𝕄) (n : ℕ) : sProp 𝕄 :=
  iprop(∃ X Y, ⌜Part (ownRow L hid) seg (base L t) (used L (seg 2047) t) n X Y⌝ ∗ (P ∗ accPt d L X ∗ cntPt d L Y))

theorem partly_elim {A Q : sProp 𝕄} {t n : ℕ} (h : ∀ X Y, Part (ownRow L hid) seg (base L t) (used L (seg 2047) t) n X Y → iprop(A ∗ accPt d L X ∗ cntPt d L Y) ⊢ Q) :
    partly d L hid seg t A n ⊢ Q := by
  iintro ⟨%X, %Y, %H, HA⟩
  iapply (h X Y H) $$ HA

theorem partly_intro {A : sProp 𝕄} {t n : ℕ} {X Y : ℕ → ℕ → F .f32} (H : Part (ownRow L hid) seg (base L t) (used L (seg 2047) t) n X Y) :
    iprop(A ∗ accPt d L X ∗ cntPt d L Y) ⊢ partly d L hid seg t A n := by
  iintro HA
  iexists X; iexists Y
  isplitr [HA]; · ipureintro; exact H
  iexact HA

variable (hst : Steps seg) (hs : ∀ t, t < 2048 → s t = BitVec.ofNat 32 (seg t))
include hst

/-- The sums of a task are the sums of its segments. -/
theorem sums_partly {P : sProp 𝕄} {t1 : Fin k0_t1_loop.trips} {a b : ℕ} {v : BitVec 32} (T : Task seg (base L t1) a b) :
    iprop(P ∗ sums d L hid s seg (base L t1) a v b) ⊢ partly d L hid seg t1 P 0 := by
  iintro ⟨HP, %X, %Y, %H, Ha, Hc⟩
  have hall : ∀ r, r < used L (seg 2047) t1 → _ := fun r hr =>
    H.2.all T (r := r) (by unfold used at hr; omega)
      (by obtain ⟨u, hu, e⟩ := hst.hit (t := 2047) (n := base L t1 + r) (by omega) (by unfold used at hr; omega); exact ⟨u, by omega, e⟩)
  iexists X; iexists Y
  isplitr [HP Ha Hc]
  · ipureintro
    exact ⟨fun r c hr => absurd hr (by omega), fun r _ hr => (hall r hr).1, fun r _ hr => (hall r hr).2⟩
  isplitl [HP]; · iexact HP
  isplitl [Ha] <;> iassumption

include hs

/-- The tokens of a task, added up and divided by their counts. -/
theorem add_up {P : sProp 𝕄} {O : CellTallies nD τ sig (HIx 1)} {W : Waits sig (HIx 1)} (v11 v17 : BitVec 32) (hv17 : v17 = BitVec.ofNat 32 (seg 2047))
    (hw8 : k0_chk8 L v17) (t1 : Fin k0_t1_loop.trips) {a b : ℕ} (T : Task seg (base L t1) a b) (v40 : BitVec 32)
    (h3 : k0_cond3 L v17 t1 = 1#1) (hw3 : k0_chk3 L v17 t1 (BitVec.ofNat 32 a) (BitVec.ofNat 32 b)) (v80 v83 c32 v84 v89 c0 : BitVec 32) {X Y : ℕ → ℕ → F .f32} :
    iprop((P ∗ rowPt d L s) ∗ (accPt d L X ∗ cntPt d L Y) ∗ (idle d L q hid 0 ∗ idle d L q hid 1) ∗ waitKit d L O W)
      ⊢ run' d L (k0_part88 L hidM (Memref.isWhole_whole _) segM (Memref.isWhole_whole _) outM (Memref.isWhole_whole _) rowM (Memref.isWhole_whole _) bufM (Memref.isWhole_whole _) accM (Memref.isWhole_whole _) cntM (Memref.isWhole_whole _) cc0_scratch4 cc0_scratch5 cc0_scoped0 cc0_scoped1 cc0_scoped2 v11 v17 hw8 (fun _ => oneF) t1 v40 (usedW L v17 t1) h3 (BitVec.ofNat 32 a) (BitVec.ofNat 32 b) hw3 v80 v83 c32 v84 v89 c0)
          fun _ => partly d L hid seg t1 iprop((P ∗ rowPt d L s) ∗ (idle d L q hid 0 ∗ idle d L q hid 1) ∗ waitKit d L O W) 128 := by
  have hm : seg 2047 < 2048 := by have := hst.le_self (t := 2047) (by omega); omega
  have ht : t1.val < 4 := trips_t1 ▸ t1.isLt
  have hul := used_le L (seg 2047) t1
  rw [k0_part88_eq_skeleton]; unfold k0_part88_skel
  refine step_then (cond4_holds T.lt T.le) ?_
  have hin : iprop((P ∗ rowPt d L s) ∗ (accPt d L X ∗ cntPt d L Y) ∗ (idle d L q hid 0 ∗ idle d L q hid 1) ∗ waitKit d L O W)
      ⊢ iprop(((P ∗ rowPt d L s ∗ sums d L hid s seg (base L t1) a 4294967295#32 a) ∗ idle d L q hid 1 ∗ waitKit d L O W) ∗ idle d L q hid 0) := by
    iintro ⟨⟨HP, Hr⟩, ⟨Ha, Hc⟩, ⟨H0, H1⟩, Hk⟩
    isplitr [H0]
    swap; · iexact H0
    isplitr [H1 Hk]
    swap
    · isplitl [H1] <;> iassumption
    isplitl [HP]; · iexact HP
    isplitl [Hr]; · iexact Hr
    iexists X; iexists Y
    isplitr [Ha Hc]
    · ipureintro
      exact ⟨by unfold prevW; rw [if_pos rfl], Summed.start T⟩
    isplitl [Ha] <;> iassumption
  refine hin.trans (start_chunk (F := F) 0 0 (off69_eq L (by have := T.lt; have := T.le; omega)) ?_)
  have hmid : ∀ A B C E : sProp 𝕄, iprop((A ∗ B ∗ C) ∗ E) ⊢ iprop(A ∗ E ∗ B ∗ C) := by
    intro A B C E
    iintro ⟨⟨HA, HB, HC⟩, HE⟩
    isplitl [HA]; · iexact HA
    isplitl [HE]; · iexact HE
    isplitl [HB] <;> iassumption
  refine (hmid _ _ _ _).trans ?_
  refine chunks T hs v11 v17 hw8 t1 rfl v40 _ h3 hw3 v80 v83 c32 v84 v89 c0 _ fun v => ?_
  refine step_noLoop (trips_t9 _ _) ?_
  have hout : iprop((P ∗ rowPt d L s ∗ sums d L hid s seg (base L t1) a v b) ∗ (idle d L q hid 0 ∗ idle d L q hid 1) ∗ waitKit d L O W)
      ⊢ iprop(((P ∗ rowPt d L s) ∗ (idle d L q hid 0 ∗ idle d L q hid 1) ∗ waitKit d L O W) ∗ sums d L hid s seg (base L t1) a v b) := by
    iintro ⟨⟨HP, Hr, Hs⟩, Hi, Hk⟩
    isplitr [Hs]
    swap; · iexact Hs
    isplitl [HP Hr]
    · isplitl [HP] <;> iassumption
    isplitl [Hi] <;> iassumption
  refine (hout.trans (sums_partly hst T)).trans ?_
  subst hv17
  refine step_loop (fun n _ => partly d L hid seg t1 iprop((P ∗ rowPt d L s) ∗ (idle d L q hid 0 ∗ idle d L q hid 1) ∗ waitKit d L O W) n) (Entails.refl _)
    (fun k w => partly_elim fun X Y H => ?_) fun w => ?_
  · obtain ⟨e, hk⟩ := scale_row L hm t1 k
    refine (scale_body v11 _ hw8 _ t1 v40 _ h3 _ _ hw3 v80 v83 c32 v84 v89 c0 k w _ (fun l hl => by rw [e]; exact H.cnt k le_rfl hk l hl)).trans
      (wp_mono frame _ _ fun _ => ?_)
    rw [e]
    refine partly_intro (H.next fun c hc => ?_)
    rw [H.sum k le_rfl hk c hc, mean, if_pos (by unfold used at hk; omega)]
  rw [trips_t12 L hm t1]
  refine step_noLoop (trips_t13 _ _ _) ?_
  refine step_loop (fun n _ => partly d L hid seg t1 iprop((P ∗ rowPt d L s) ∗ (idle d L q hid 0 ∗ idle d L q hid 1) ∗ waitKit d L O W) (used L (seg 2047) t1 + n)) (Entails.refl _)
    (fun k w => partly_elim fun X Y H => ?_) fun w => ?_
  · obtain ⟨e, hk⟩ := clear_row L hm t1 k
    refine (clear_body v11 _ hw8 _ t1 v40 h3 _ _ hw3 v80 v83 c32 v84 v89 c0 k w).trans (wp_mono frame _ _ fun _ => ?_)
    rw [e]
    refine partly_intro (H.next fun c hc => ?_)
    rw [mean, if_neg (by unfold used at hk ⊢; omega)]
  rw [trips_t14 L hm t1, Nat.add_sub_cancel' hul]
  refine step_noLoop (trips_t15 _ _ _) ?_
  exact step_ret (Entails.refl _)

end Cert.Proof
-- ==== Proof.Task.lean ====
module

public import proofs.«01_k».proof.Proof.Block
public import proofs.«01_k».proof.Proof.Copy

/-! A task: the 128 segments of one block of the results. Its block is zero when the row has no such segment, and the means of
its segments otherwise. -/

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The results, by flat row and column: row `2048 * b + n` is the mean of segment `n` of batch row `b`. -/
def outV (hid : ℕ → ℕ → F .f32) (segs : ℕ → ℕ → ℕ) (r c : ℕ) : F .f32 :=
  mean (fun t c => hid (r / 2048 * 2048 + t) c) (segs (r / 2048)) (r % 2048) c

variable {d : Dev nD} {L : grid0.Coords} {q : PosShare TreeShare} {hid : ℕ → ℕ → F .f32} {s : ℕ → BitVec 32} {segs : ℕ → ℕ → ℕ}
  {O : CellTallies nD τ sig (HIx 1)} {W : Waits sig (HIx 1)}

/-- The first row of task `t`'s block of results. -/
abbrev blockRow (L : grid0.Coords) (t : ℕ) : ℕ := bat L * 2048 + base L t

/-- A block is right when the accumulator is. -/
theorem outV_block {t r c : ℕ} (ht : t < 4) (hr : r < 128) : outV hid segs (blockRow L t + r) c = mean (ownRow L hid) (segs (bat L)) (base L t + r) c := by
  have hb := base_le L ht
  have e1 : (blockRow L t + r) / 2048 = bat L := by unfold blockRow; omega
  have e2 : (blockRow L t + r) % 2048 = base L t + r := by unfold blockRow; omega
  unfold outV
  rw [e1, e2]

/-- The first branch. -/
theorem step_true {α : Type} {Q : α → sProp 𝕄} {P : sProp 𝕄} {c : Prop} {dec : Decidable c} {A B : TProg (F := F) L α}
    (hc : c) (h : P ⊢ run' d L A Q) : P ⊢ run' d L (ite c A B) Q := by
  rwa [if_pos hc]

/-- The second branch. -/
theorem step_false {α : Type} {Q : α → sProp 𝕄} {P : sProp 𝕄} {c : Prop} {dec : Decidable c} {A B : TProg (F := F) L α}
    (hc : ¬ c) (h : P ⊢ run' d L B Q) : P ⊢ run' d L (ite c A B) Q := by
  rwa [if_neg hc]

/-- What a task holds beside the accumulator and the counts, its block holding `G`. -/
abbrev around (d : Dev nD) (L : grid0.Coords) (q : PosShare TreeShare) (hid : ℕ → ℕ → F .f32) (s : ℕ → BitVec 32) (O : CellTallies nD τ sig (HIx 1))
    (W : Waits sig (HIx 1)) (t : ℕ) (P : sProp 𝕄) (G : ℕ → ℕ → F .f32) : sProp 𝕄 :=
  iprop(((P ∗ outPt d L (blockSet (blockRow L t)) G ∗ semVal (tile d L, .dma cc0_scoped1.sem) 0 ∗ semVal (tile d L, .dma cc0_scoped2.sem) 0) ∗ rowPt d L s)
    ∗ (idle d L q hid 0 ∗ idle d L q hid 1) ∗ waitKit d L O W)

/-- The accumulator is zero. -/
def Clear (X : ℕ → ℕ → F .f32) : Prop := ∀ r c, r < 128 → c < 512 → X r c = zeroF

theorem ex_elim {ι : Type} {Φ : ι → Prop} {R : ι → sProp 𝕄} {Q : sProp 𝕄} (h : ∀ X, Φ X → R X ⊢ Q) : iprop(∃ X, ⌜Φ X⌝ ∗ R X) ⊢ Q := by
  iintro ⟨%X, %H, HA⟩
  iapply (h X H) $$ HA

theorem ex_intro {ι : Type} {Φ : ι → Prop} {R : ι → sProp 𝕄} (X : ι) (h : Φ X) : R X ⊢ iprop(∃ X, ⌜Φ X⌝ ∗ R X) := by
  iintro HA
  iexists X
  isplitr [HA]; · ipureintro; exact h
  iexact HA

/-- Clearing the accumulator where a flag says so. -/
theorem clear_if {α : Type} {Q : α → sProp 𝕄} {A : sProp 𝕄} (v1 v11 v17 : BitVec 32) (hw8 : k0_chk8 L v17) (v18 : FVec F S16 .f32) (c0 c1 : BitVec 32)
    (t1 : Fin k0_t1_loop.trips) (arg12 v62 : BitVec 32) {c : Prop} {dec : Decidable c} {J : TProg (F := F) L α} {X Y : ℕ → ℕ → F .f32} (hX : ¬ c → Clear X)
    (hk : ∀ X, Clear X → iprop(A ∗ accPt d L X ∗ cntPt d L Y) ⊢ run' d L J Q) :
    iprop(A ∗ accPt d L X ∗ cntPt d L Y)
      ⊢ run' d L (if c then
          (Scf.Loop.for k0_t2_loop k0_t2_ok 0#32 (k0_t2_body L hidM (Memref.isWhole_whole _) segM (Memref.isWhole_whole _) outM (Memref.isWhole_whole _) rowM (Memref.isWhole_whole _) bufM (Memref.isWhole_whole _) accM (Memref.isWhole_whole _) cntM (Memref.isWhole_whole _) cc0_scratch4 cc0_scratch5 cc0_scoped0 cc0_scoped1 cc0_scoped2 v1 v11 v17 hw8 v18 c0 c1 t1 arg12) >>= fun v63 =>
            Scf.Loop.for k0_t3_loop k0_t3_ok v63 (k0_t3_body L hidM (Memref.isWhole_whole _) segM (Memref.isWhole_whole _) outM (Memref.isWhole_whole _) rowM (Memref.isWhole_whole _) bufM (Memref.isWhole_whole _) accM (Memref.isWhole_whole _) cntM (Memref.isWhole_whole _) cc0_scratch4 cc0_scratch5 cc0_scoped0 cc0_scoped1 cc0_scoped2 v1 v11 v17 hw8 v18 c0 c1 t1 arg12 v62) >>= fun _ => J)
        else J) Q := by
  by_cases hc : c
  · refine step_true hc ?_
    refine step_loop (fun n _ => iprop(∃ X, ⌜∀ r c, r < n → c < 512 → X r c = zeroF⌝ ∗ (A ∗ accPt d L X ∗ cntPt d L Y))) ?_ (fun k w => ?_) fun w => ?_
    · iintro H
      iexists X
      isplitr [H]
      · ipureintro
        exact fun r c hr => absurd hr (by omega)
      iexact H
    · refine ex_elim fun X H => ?_
      have hk' : k.val < 128 := k.isLt.trans_eq (by decide)
      have e : (Scf.iv 0#32 1#32 k.val).toNat = k.val := by
        rw [eq_ofNat (iv01 (t := k.val) (by omega)), toNat_nat (by omega)]
      refine (zero_body v1 v11 v17 hw8 v18 c0 c1 t1 arg12 k w).trans (wp_mono frame _ _ fun _ => ?_)
      rw [e]
      refine ex_intro (Φ := fun X => ∀ r c, r < k.val + 1 → c < 512 → X r c = zeroF) (R := fun X => iprop(A ∗ accPt d L X ∗ cntPt d L Y)) _ ?_
      intro r c hr hc
      by_cases er : r = k.val
      · subst er; rw [setRow_row (by omega)]
      · rw [setRow_other er]; exact H r c (by omega) hc
    · rw [show k0_t2_loop.trips = 128 by decide]
      refine step_noLoop trips_t3 ?_
      exact ex_elim hk
  · exact step_false hc (hk X (hX hc))

/-- Copying a block out, and waiting for the copy. -/
theorem put_block {α : Type} {Q : α → sProp 𝕄} {P : sProp 𝕄} {sem : DmaSem sig} {off : Fin 2 → ℕ} {inb inb' : ∀ a, off a + S128x512.size a ≤ S16384x512.size a}
    {X G : ℕ → ℕ → F .f32}
    {hsrc : accM.view.WordExact} {hdst : (outM.slice (Rect.unit (s := S16384x512) off S128x512.size inb) (fun _ => rfl)).view.WordExact}
    {hsem : DmaTarget.Typed (nD := nD) (p := .scVector (cV L) (jV L)) Space.vmem (.dma sem)
      (.here (outM.slice (Rect.unit (s := S16384x512) off S128x512.size inb) (fun _ => rfl)))}
    {hsrc' : accM.view.WordExact} {hdst' : (outM.slice (Rect.unit (s := S16384x512) off S128x512.size inb') (fun _ => rfl)).view.WordExact}
    {k : PUnit → TProg (F := F) L α} {t : ℕ} (ht : t < 4) (hoff : off = ![blockRow L t, 0])
    (hX : ∀ r c, r < 128 → c < 512 → X r c = mean (ownRow L hid) (segs (bat L)) (base L t + r) c)
    (hk : iprop(P ∗ ((outPt d L (blockSet (blockRow L t)) (outV hid segs) ∗ accPt d L X) ∗ semVal (tile d L, .dma sem) 0) ∗ waitKit d L O W) ⊢ run' d L (k ⟨⟩) Q) :
    iprop((P ∗ waitKit d L O W) ∗ (outPt d L (blockSet (blockRow L t)) G ∗ accPt d L X) ∗ semVal (tile d L, .dma sem) 0)
      ⊢ run' d L (Prog.lift (.enqueueDma accM (.here (outM.slice (Rect.unit (s := S16384x512) off S128x512.size inb) (fun _ => rfl))) (.dma sem) hsrc hdst hsem) >>= fun _ =>
          Prog.lift (.waitDma2 sem accM (outM.slice (Rect.unit (s := S16384x512) off S128x512.size inb') (fun _ => rfl)) hsrc' hdst') >>= k) Q := by
  refine step_put (blockRow L t) hoff ?_
  refine BIBase.Entails.trans ?_ (step_wait (P := P) (N := blockN) (O := O) (W := W) (A := iprop(outPt d L (blockSet (blockRow L t)) (fun r' c => X (r' - blockRow L t) c) ∗ accPt d L X)) rfl ?_)
  · iintro ⟨⟨HP, Hk⟩, HF⟩
    isplitl [HP]; · iexact HP
    isplitl [HF] <;> iassumption
  refine BIBase.Entails.trans ?_ hk
  refine BIClass.sep_mono (Entails.refl _) (BIClass.sep_mono (BIClass.sep_mono (BIClass.sep_mono ?_ (Entails.refl _)) (Entails.refl _)) (Entails.refl _))
  refine Entails.of_eq (pointsTo_congr fun y hy => ?_)
  obtain ⟨-, h0, h1⟩ := Finset.mem_filter.mp hy
  show X ((y 0).val - blockRow L t) (y 1).val = outV hid segs (y 0).val (y 1).val
  rw [hX _ _ (by omega) (y 1).isLt, ← outV_block (segs := segs) ht (by omega)]
  congr 1
  omega

theorem permA {P O1 S1 S2 R I K A C : sProp 𝕄} :
    iprop((((P ∗ O1 ∗ S1 ∗ S2) ∗ R) ∗ I ∗ K) ∗ A ∗ C) ⊢ iprop(((P ∗ S2 ∗ R ∗ I ∗ C) ∗ K) ∗ (O1 ∗ A) ∗ S1) := by
  iintro ⟨⟨⟨⟨HP, HO, H1, H2⟩, HR⟩, HI, HK⟩, HA, HC⟩
  isplitr [HO HA H1]
  · isplitr [HK]
    swap; · iexact HK
    isplitl [HP]; · iexact HP
    isplitl [H2]; · iexact H2
    isplitl [HR]; · iexact HR
    isplitl [HI] <;> iassumption
  isplitr [H1]
  swap; · iexact H1
  isplitl [HO] <;> iassumption

theorem permA' {P O1 S1 S2 R I K A C : sProp 𝕄} :
    iprop((P ∗ S2 ∗ R ∗ I ∗ C) ∗ ((O1 ∗ A) ∗ S1) ∗ K) ⊢ iprop((((P ∗ O1 ∗ S1 ∗ S2) ∗ R) ∗ I ∗ K) ∗ A ∗ C) := by
  iintro ⟨⟨HP, H2, HR, HI, HC⟩, ⟨⟨HO, HA⟩, H1⟩, HK⟩
  isplitr [HA HC]
  swap
  · isplitl [HA] <;> iassumption
  isplitr [HI HK]
  swap
  · isplitl [HI] <;> iassumption
  isplitr [HR]
  swap; · iexact HR
  isplitl [HP]; · iexact HP
  isplitl [HO]; · iexact HO
  isplitl [H1] <;> iassumption

theorem permB {P O1 S1 S2 : sProp 𝕄} : iprop(P ∗ O1 ∗ S1 ∗ S2) ⊢ iprop(P ∗ O1 ∗ S2 ∗ S1) := by
  iintro ⟨HP, HO, H1, H2⟩
  isplitl [HP]; · iexact HP
  isplitl [HO]; · iexact HO
  isplitl [H2] <;> iassumption

theorem permC {PO R A C I K : sProp 𝕄} : iprop(((PO ∗ R) ∗ I ∗ K) ∗ A ∗ C) ⊢ iprop((PO ∗ R ∗ I ∗ K) ∗ A ∗ C) := by
  iintro ⟨⟨⟨HP, HR⟩, HI, HK⟩, HA⟩
  isplitr [HA]
  swap; · iexact HA
  isplitl [HP]; · iexact HP
  isplitl [HR]; · iexact HR
  isplitl [HI] <;> iassumption

theorem permD {PO R A C I K : sProp 𝕄} : iprop((PO ∗ R ∗ I ∗ K) ∗ A ∗ C) ⊢ iprop((PO ∗ R) ∗ (A ∗ C) ∗ I ∗ K) := by
  iintro ⟨⟨HP, HR, HI, HK⟩, HA⟩
  isplitl [HP HR]
  · isplitl [HP] <;> iassumption
  isplitl [HA]; · iexact HA
  isplitl [HI] <;> iassumption

variable (hst : Steps (segs (bat L))) (hs : ∀ t, t < 2048 → s t = BitVec.ofNat 32 (segs (bat L) t))
include hst hs

/-- One task. -/
theorem task {P : sProp 𝕄} {G : ℕ → ℕ → F .f32} (v17 : BitVec 32) (hv17 : v17 = BitVec.ofNat 32 (segs (bat L) 2047)) (hw8 : k0_chk8 L v17)
    (t1 : Fin k0_t1_loop.trips) (c : BitVec 1) {X Y : ℕ → ℕ → F .f32} (hX : c = 0#1 → Clear X) :
    iprop(around d L q hid s O W t1 P G ∗ accPt d L X ∗ cntPt d L Y)
      ⊢ run' d L (k0_part89 L hidM (Memref.isWhole_whole _) segM (Memref.isWhole_whole _) outM (Memref.isWhole_whole _) rowM (Memref.isWhole_whole _) bufM (Memref.isWhole_whole _) accM (Memref.isWhole_whole _) cntM (Memref.isWhole_whole _) cc0_scratch4 cc0_scratch5 cc0_scoped0 cc0_scoped1 cc0_scoped2 (widW L) (batW L) v17 hw8 (fun _ => oneF) 0#32 1#32 t1 (Scalar.extui c))
          fun c' => iprop(∃ X Y, ⌜c' = 0#1 → Clear X⌝ ∗ (around d L q hid s O W t1 P (outV hid segs) ∗ accPt d L X ∗ cntPt d L Y)) := by
  have ht : t1.val < 4 := trips_t1 ▸ t1.isLt
  have hm : segs (bat L) 2047 < 2048 := by have := hst.le_self (t := 2047) (by omega); omega
  have hul := used_le L (segs (bat L) 2047) t1
  have hU : usedW L v17 t1 = BitVec.ofNat 32 (used L (segs (bat L) 2047) t1) := hv17 ▸ usedW_eq L hm ht
  have hc3 : k0_cond3 L v17 t1 = 1#1 ↔ 0 < used L (segs (bat L) 2047) t1 := hv17 ▸ cond3_iff L hm t1
  have hz : Scalar.cmpi .eq (usedW L v17 t1) 0#32 = 1#1 ↔ used L (segs (bat L) 2047) t1 = 0 := by
    rw [hU, eq_iff (isInt_nat (by omega)) isInt_zero]; omega
  have hg : Scalar.cmpi .sgt (usedW L v17 t1) 0#32 = 1#1 ↔ 0 < used L (segs (bat L) 2047) t1 := by
    rw [hU, sgt_iff (isInt_nat (by omega)) isInt_zero]; omega
  have hc : ∀ c : BitVec 1, Scalar.cmpi .sgt (Scalar.extui c : BitVec 32) 0#32 = 1#1 ↔ c = 1#1 := by decide
  rw [k0_part89_eq_skeleton]; unfold k0_part89_skel
  by_cases hu : used L (segs (bat L) 2047) t1 = 0
  · refine clear_if (widW L) (batW L) v17 hw8 (fun _ => oneF) 0#32 1#32 t1 (Scalar.extui c) _ ?_ fun X hX => ?_
    · exact fun h => hX ((BitVec.eq_zero_or_eq_one c).resolve_right fun e => h ((flag_iff _).2 ((and_iff _ _).2 ⟨hz.2 hu, (hc c).2 e⟩)))
    dsimp only
    rw [if_pos ((flag_iff (Scalar.cmpi .eq (usedW L v17 t1) 0#32)).2 (hz.2 hu)), dif_neg (fun h => by have := hc3.1 h; omega : ¬ k0_cond3 L v17 t1 = 1#1)]
    refine permA.trans ?_
    refine put_block ht (off66_eq L t1) (segs := segs) (hid := hid) (fun r c hr hc => ?_) ?_
    · rw [hX r c hr hc, mean, if_neg (by unfold used at hu; omega)]
    refine permA'.trans ?_
    refine step_ret ?_
    iintro H
    iexists X; iexists Y
    isplitr [H]
    · ipureintro; exact fun _ => hX
    iexact H
  · dsimp only
    rw [if_neg (fun h => hu (hz.1 ((and_iff (Scalar.cmpi .eq (usedW L v17 t1) 0#32) (Scalar.cmpi .sgt (Scalar.extui c : BitVec 32) 0#32)).1 ((flag_iff _).1 h)).1)),
      if_neg (fun h => hu (hz.1 ((flag_iff (Scalar.cmpi .eq (usedW L v17 t1) 0#32)).1 h)))]
    rw [dif_pos (hc3.2 (by omega))]
    refine permC.trans ?_
    refine searches hst hs rfl v17 hv17 t1 (baseW_eq L ht) _ fun a b T hw3 v80 v83 c32 v84 v89 c0 => ?_
    refine permD.trans ?_
    refine step_bind ((add_up hst hs (batW L) v17 hv17 hw8 t1 T _ _ hw3 v80 v83 c32 v84 v89 c0).trans (wp_mono frame _ _ fun _ => ?_))
    refine partly_elim fun X Y H => ?_
    refine (BIClass.sep_mono (BIClass.sep_mono (BIClass.sep_mono permB (Entails.refl _)) (Entails.refl _)) (Entails.refl _)).trans ?_
    refine permA.trans ?_
    refine put_block ht (off732_eq L t1) (segs := segs) (hid := hid) H.done ?_
    refine permA'.trans ?_
    refine (BIClass.sep_mono (BIClass.sep_mono (BIClass.sep_mono permB (Entails.refl _)) (Entails.refl _)) (Entails.refl _)).trans ?_
    refine step_ret ?_
    iintro H
    iexists X; iexists Y
    isplitr [H]
    · ipureintro; intro h; exact absurd (hg.2 (by omega)) (by rw [h]; decide)
    iexact H

end Cert.Proof
-- ==== Proof.Tile.lean ====
module

public import proofs.«01_k».proof.Proof.Task

/-! A tile: it copies its batch row of segment numbers in and runs its four tasks. -/

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The rows of the results the tile writes: of its batch row, the blocks `wid / 8`, `wid / 8 + 4`, and so on. -/
def tileSet (L : grid0.Coords) : Finset S16384x512.Idx :=
  Finset.univ.filter fun y => (y 0).val / 2048 = bat L ∧ (y 0).val % 512 / 128 = wid L / 8

theorem block_sub {L : grid0.Coords} {t : ℕ} (ht : t < 4) : blockSet (blockRow L t) ⊆ tileSet L := by
  intro y hy
  obtain ⟨-, h0, h1⟩ := Finset.mem_filter.mp hy
  have hw := wid_lt L
  have hb := base_le L ht
  refine Finset.mem_filter.mpr ⟨Finset.mem_univ _, ?_⟩
  unfold blockRow at h0 h1
  unfold base at *
  omega

/-- The results with the blocks of the first `n` tasks written. -/
def upTo (hid : ℕ → ℕ → F .f32) (segs : ℕ → ℕ → ℕ) (G : ℕ → ℕ → F .f32) (n : ℕ) (r c : ℕ) : F .f32 :=
  if r % 2048 / 512 < n then outV hid segs r c else G r c

variable {d : Dev nD} {L : grid0.Coords} {q : PosShare TreeShare} {hid : ℕ → ℕ → F .f32} {s : ℕ → BitVec 32} {segs : ℕ → ℕ → ℕ}
  {O : CellTallies nD τ sig (HIx 1)} {W : Waits sig (HIx 1)} {G : ℕ → ℕ → F .f32}

/-- A block of the tile's rows apart from the others, -/
theorem take_block {t : ℕ} (ht : t < 4) :
    outPt d L (tileSet L) (upTo hid segs G t) ⊢ iprop(outPt d L (blockSet (blockRow L t)) (upTo hid segs G t) ∗ outPt d L (tileSet L \ blockSet (blockRow L t)) (upTo hid segs G t)) :=
  (pointsTo_split_subset (block_sub ht)).1

/-- and back among them, written. -/
theorem give_block {t : ℕ} (ht : t < 4) :
    iprop(outPt d L (blockSet (blockRow L t)) (outV hid segs) ∗ outPt d L (tileSet L \ blockSet (blockRow L t)) (upTo hid segs G t)) ⊢ outPt d L (tileSet L) (upTo hid segs G (t + 1)) := by
  have hw := wid_lt L
  have hb := base_le L ht
  refine BIBase.Entails.trans (BIClass.sep_mono (Entails.of_eq (pointsTo_congr fun y hy => ?_)) (Entails.of_eq (pointsTo_congr fun y hy => ?_))) (pointsTo_split_subset (block_sub ht)).2
  · obtain ⟨-, h0, h1⟩ := Finset.mem_filter.mp hy
    show outV hid segs _ _ = upTo hid segs G (t + 1) _ _
    unfold upTo
    rw [if_pos]
    unfold blockRow at h0 h1
    unfold base at *
    omega
  · obtain ⟨h, h'⟩ := Finset.mem_sdiff.mp hy
    obtain ⟨-, h0, h1⟩ := Finset.mem_filter.mp h
    have h' : ¬(blockRow L t ≤ (y 0).val ∧ (y 0).val < blockRow L t + 128) := fun e => h' (Finset.mem_filter.mpr ⟨Finset.mem_univ _, e⟩)
    have hy0 : (y 0).val < 16384 := (y 0).isLt
    have : (y 0).val % 2048 / 512 ≠ t := by
      intro e
      apply h'
      unfold blockRow base
      have := bat_lt L
      omega
    show upTo hid segs G t _ _ = upTo hid segs G (t + 1) _ _
    unfold upTo
    by_cases e : (y 0).val % 2048 / 512 < t
    · rw [if_pos e, if_pos (by omega)]
    · rw [if_neg e, if_neg (by omega)]

/-- What the tasks hold, `n` of them run. -/
abbrev tasksInv (d : Dev nD) (L : grid0.Coords) (q : PosShare TreeShare) (hid : ℕ → ℕ → F .f32) (s : ℕ → BitVec 32) (segs : ℕ → ℕ → ℕ)
    (O : CellTallies nD τ sig (HIx 1)) (W : Waits sig (HIx 1)) (G : ℕ → ℕ → F .f32) (P : sProp 𝕄) (n : ℕ) (w : BitVec 32) : sProp 𝕄 :=
  iprop(∃ X Y, ⌜∃ c : BitVec 1, w = Scalar.extui c ∧ (c = 0#1 → Clear X)⌝
    ∗ ((P ∗ outPt d L (tileSet L) (upTo hid segs G n) ∗ semVal (tile d L, .dma cc0_scoped1.sem) 0 ∗ semVal (tile d L, .dma cc0_scoped2.sem) 0)
      ∗ rowPt d L s ∗ (idle d L q hid 0 ∗ idle d L q hid 1) ∗ waitKit d L O W) ∗ accPt d L X ∗ cntPt d L Y)

theorem permE {P A B S R I K C : sProp 𝕄} : iprop(((P ∗ (A ∗ B) ∗ S) ∗ R ∗ I ∗ K) ∗ C) ⊢ iprop(((((P ∗ B) ∗ A ∗ S) ∗ R) ∗ I ∗ K) ∗ C) := by
  iintro ⟨⟨⟨HP, ⟨HA, HB⟩, HS⟩, HR, HI, HK⟩, HC⟩
  isplitr [HC]
  swap; · iexact HC
  isplitr [HI HK]
  swap
  · isplitl [HI] <;> iassumption
  isplitr [HR]
  swap; · iexact HR
  isplitl [HP HB]
  · isplitl [HP] <;> iassumption
  isplitl [HA] <;> iassumption

theorem permE' {P A B S R I K C : sProp 𝕄} : iprop(((((P ∗ B) ∗ A ∗ S) ∗ R) ∗ I ∗ K) ∗ C) ⊢ iprop(((P ∗ (A ∗ B) ∗ S) ∗ R ∗ I ∗ K) ∗ C) := by
  iintro ⟨⟨⟨⟨⟨HP, HB⟩, HA, HS⟩, HR⟩, HI, HK⟩, HC⟩
  isplitr [HC]
  swap; · iexact HC
  isplitr [HR HI HK]
  swap
  · isplitl [HR]; · iexact HR
    isplitl [HI] <;> iassumption
  isplitl [HP]; · iexact HP
  isplitr [HS]
  swap; · iexact HS
  isplitl [HA] <;> iassumption

variable (hst : Steps (segs (bat L)))
include hst

/-- One task, among the tile's four. -/
theorem one_task {P : sProp 𝕄} (hs : ∀ t, t < 2048 → s t = BitVec.ofNat 32 (segs (bat L) t)) (v17 : BitVec 32) (hv17 : v17 = BitVec.ofNat 32 (segs (bat L) 2047)) (hw8 : k0_chk8 L v17)
    (t1 : Fin k0_t1_loop.trips) (w : BitVec 32) :
    tasksInv d L q hid s segs O W G P t1.val w
      ⊢ run' d L (k0_t1_body L hidM (Memref.isWhole_whole _) segM (Memref.isWhole_whole _) outM (Memref.isWhole_whole _) rowM (Memref.isWhole_whole _) bufM (Memref.isWhole_whole _) accM (Memref.isWhole_whole _) cntM (Memref.isWhole_whole _) cc0_scratch4 cc0_scratch5 cc0_scoped0 cc0_scoped1 cc0_scoped2 (widW L) (batW L) v17 hw8 t1 w) (tasksInv d L q hid s segs O W G P (t1.val + 1)) := by
  have ht : t1.val < 4 := trips_t1 ▸ t1.isLt
  iintro ⟨%X, %Y, %H, HA⟩
  obtain ⟨c, rfl, hX⟩ := H
  have hgo : iprop(((P ∗ outPt d L (tileSet L) (upTo hid segs G t1.val) ∗ semVal (tile d L, .dma cc0_scoped1.sem) 0 ∗ semVal (tile d L, .dma cc0_scoped2.sem) 0)
      ∗ rowPt d L s ∗ (idle d L q hid 0 ∗ idle d L q hid 1) ∗ waitKit d L O W) ∗ accPt d L X ∗ cntPt d L Y)
      ⊢ run' d L (k0_t1_body L hidM (Memref.isWhole_whole _) segM (Memref.isWhole_whole _) outM (Memref.isWhole_whole _) rowM (Memref.isWhole_whole _) bufM (Memref.isWhole_whole _) accM (Memref.isWhole_whole _) cntM (Memref.isWhole_whole _) cc0_scratch4 cc0_scratch5 cc0_scoped0 cc0_scoped1 cc0_scoped2 (widW L) (batW L) v17 hw8 t1 (Scalar.extui c)) (tasksInv d L q hid s segs O W G P (t1.val + 1)) := by
    refine (BIClass.sep_mono (BIClass.sep_mono (BIClass.sep_mono (Entails.refl _) (BIClass.sep_mono (take_block ht) (Entails.refl _))) (Entails.refl _)) (Entails.refl _)).trans ?_
    refine permE.trans ?_
    unfold k0_t1_body
    refine step_bind ((task hst hs v17 hv17 hw8 t1 c hX).trans (wp_mono frame _ _ fun c' => ?_))
    refine step_ret ?_
    iintro ⟨%X, %Y, %H, HA⟩
    iexists X; iexists Y
    isplitr [HA]; · ipureintro; exact ⟨c', rfl, H⟩
    iapply (permE'.trans (BIClass.sep_mono (BIClass.sep_mono (BIClass.sep_mono (Entails.refl _) (BIClass.sep_mono (give_block ht) (Entails.refl _))) (Entails.refl _)) (Entails.refl _))) $$ HA
  iapply hgo $$ HA

/-- The whole of a tile. -/
theorem tile_run {P : sProp 𝕄} {sf sw : ℕ → BitVec 32} {X Y : ℕ → ℕ → F .f32} (hs : ∀ t, t < 2048 → sf (bat L * 2048 + t) = BitVec.ofNat 32 (segs (bat L) t)) :
    iprop((P ∗ (idle d L q hid 0 ∗ idle d L q hid 1) ∗ (accPt d L X ∗ cntPt d L Y) ∗ outPt d L (tileSet L) G
        ∗ semVal (tile d L, .dma cc0_scoped1.sem) 0 ∗ semVal (tile d L, .dma cc0_scoped2.sem) 0)
      ∗ ((rowPt d L sw ∗ segPt d L q sf) ∗ semVal (tile d L, .dma cc0_scoped0.sem) 0) ∗ waitKit d L O W)
      ⊢ run' d L (cc0_sc_pool L hidM (Memref.isWhole_whole _) segM (Memref.isWhole_whole _) outM (Memref.isWhole_whole _) rowM (Memref.isWhole_whole _) bufM (Memref.isWhole_whole _) accM (Memref.isWhole_whole _) cntM (Memref.isWhole_whole _) cc0_scratch4 cc0_scratch5 cc0_scoped0 cc0_scoped1 cc0_scoped2) fun _ => iprop(∃ X Y s,
          (P ∗ (idle d L q hid 0 ∗ idle d L q hid 1) ∗ (accPt d L X ∗ cntPt d L Y) ∗ outPt d L (tileSet L) (outV hid segs)
            ∗ semVal (tile d L, .dma cc0_scoped1.sem) 0 ∗ semVal (tile d L, .dma cc0_scoped2.sem) 0)
          ∗ ((rowPt d L s ∗ segPt d L q sf) ∗ semVal (tile d L, .dma cc0_scoped0.sem) 0) ∗ waitKit d L O W) := by
  have hm : segs (bat L) 2047 < 2048 := by have := hst.le_self (t := 2047) (by omega); omega
  rw [cc0_sc_pool_eq_skeleton]; unfold cc0_sc_pool_skel
  generalize hR : iprop(P ∗ (idle d L q hid 0 ∗ idle d L q hid 1) ∗ (accPt d L X ∗ cntPt d L Y) ∗ outPt d L (tileSet L) G
    ∗ semVal (tile d L, .dma cc0_scoped1.sem) 0 ∗ semVal (tile d L, .dma cc0_scoped2.sem) 0) = R
  refine BIBase.Entails.trans ?_ (step_fetchRow (P := iprop(R ∗ waitKit d L O W)) (s := sf) (sw := sw) (q := q) (bat L * 2048) (off1_eq L) ?_)
  · iintro ⟨HR, ⟨HA, HS⟩, HK⟩
    isplitl [HR HK]
    · isplitl [HR] <;> iassumption
    isplitl [HA] <;> iassumption
  refine BIBase.Entails.trans ?_ (step_wait (P := R) (O := O) (W := W) (N := rowPartM.view.dmaCredit)
    (A := iprop(rowPt d L (fun t => if t < 2048 then sf (bat L * 2048 + t) else sw t) ∗ segPt d L q sf)) rfl ?_)
  · iintro ⟨⟨HR, HK⟩, HF⟩
    isplitl [HR]; · iexact HR
    isplitl [HF] <;> iassumption
  refine BIBase.Entails.trans ?_ (step_loadTok (A := R) (s := fun t => if t < 2048 then sf (bat L * 2048 + t) else sw t) (P := iprop(segPt d L q sf ∗ semVal (tile d L, .dma cc0_scoped0.sem) 0)) (R := waitKit d L O W) 2047 rfl ?_)
  · iintro ⟨HR, ⟨⟨HA, HS⟩, H0⟩, HK⟩
    isplitr [HK]
    swap; · iexact HK
    isplitl [HR]; · iexact HR
    isplitl [HA]; · iexact HA
    isplitl [HS] <;> iassumption
  intro v hv
  have hs' : ∀ t, t < 2048 → (fun t => if t < 2048 then sf (bat L * 2048 + t) else sw t) t = BitVec.ofNat 32 (segs (bat L) t) := by
    intro t ht
    show (if t < 2048 then sf (bat L * 2048 + t) else sw t) = _
    rw [if_pos ht, hs t ht]
  have hw : extractAt ![0] (k0_pay1 (F := F) v) inpos_S1_p0 = BitVec.ofNat 32 (segs (bat L) 2047) :=
    ((first_lane (h' := slices_S16_o0_S1)).trans hv).trans (hs' 2047 (by omega))
  clear hv
  generalize hrow : (fun t => if t < 2048 then sf (bat L * 2048 + t) else sw t) = row at hs' ⊢
  have h8 : k0_chk8 L (extractAt ![0] (k0_pay1 (F := F) v) inpos_S1_p0) := hw ▸ chk8_holds L hm
  refine step_assume h8 ?_
  refine step_loop (tasksInv d L q hid row segs O W G iprop(P ∗ segPt d L q sf ∗ semVal (tile d L, .dma cc0_scoped0.sem) 0)) ?_
    (fun t1 w => one_task hst hs' _ hw h8 t1 w) (fun _ => ?_)
  · subst hR
    iintro ⟨⟨⟨HP, HI, ⟨HX, HY⟩, HG, H1, H2⟩, HA, HS, H0⟩, HK⟩
    iexists X; iexists Y
    isplitr
    · ipureintro; exact ⟨1#1, by decide, fun h => absurd h (by decide)⟩
    isplitr [HX HY]
    swap
    · isplitl [HX] <;> iassumption
    isplitl [HP HS H0 HG H1 H2]
    · isplitl [HP HS H0]
      · isplitl [HP]; · iexact HP
        isplitl [HS] <;> iassumption
      isplitl [HG]; · iexact HG
      isplitl [H1] <;> iassumption
    isplitl [HA]; · iexact HA
    isplitl [HI] <;> iassumption
  · refine step_ret ?_
    have he : outPt d L (tileSet L) (upTo hid segs G k0_t1_loop.trips) = outPt d L (tileSet L) (outV hid segs) := by
      refine pointsTo_congr fun y _ => ?_
      show upTo hid segs G k0_t1_loop.trips _ _ = outV hid segs _ _
      unfold upTo
      rw [trips_t1, if_pos (by omega)]
    rw [← he]
    iintro ⟨%X, %Y, %_, ⟨⟨⟨HP, HS, H0⟩, HG, H1, H2⟩, HA, HI, HK⟩, HX, HY⟩
    iexists X; iexists Y; iexists row
    isplitl [HP HI HX HY HG H1 H2]
    · isplitl [HP]; · iexact HP
      isplitl [HI]; · iexact HI
      isplitl [HX HY]
      · isplitl [HX] <;> iassumption
      isplitl [HG]; · iexact HG
      isplitl [H1] <;> iassumption
    isplitl [HA HS H0]
    · isplitr [H0]
      swap; · iexact H0
      isplitl [HA] <;> iassumption
    iexact HK

end Cert.Proof
-- ==== Proof.Own.lean ====
module

public import proofs.«01_k».proof.Proof.Tile
public import Idealize.ShloMosaic.Lib.SparseCore.Quiescent

/-! A tile, from what its thread owns at the call: its scratch arrays at whatever contents, its semaphores at zero. -/

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Any contents, by coordinates -/

theorem any1 (f : S2064.Idx → BitVec 32) : ∃ s, f = arr1 s :=
  ⟨fun t => f fun a => ⟨t % S2064.size a, Nat.mod_lt _ (by fin_cases a; decide)⟩, funext fun y => congrArg f (funext fun a => Fin.ext (by
    fin_cases a; exact (Nat.mod_eq_of_lt (y 0).isLt).symm))⟩

theorem any2 (f : S128x512.Idx → F .f32) : ∃ X, f = arr2 X :=
  ⟨fun r c => f fun a => ⟨(![r, c] : Fin 2 → ℕ) a % S128x512.size a, Nat.mod_lt _ (by fin_cases a <;> decide)⟩, funext fun y => congrArg f (funext fun a => Fin.ext (by
    fin_cases a
    · exact (Nat.mod_eq_of_lt (y 0).isLt).symm
    · exact (Nat.mod_eq_of_lt (y 1).isLt).symm))⟩

theorem anyC (f : S128x16.Idx → F .f32) : ∃ X, f = arrC X :=
  ⟨fun r c => f fun a => ⟨(![r, c] : Fin 2 → ℕ) a % S128x16.size a, Nat.mod_lt _ (by fin_cases a <;> decide)⟩, funext fun y => congrArg f (funext fun a => Fin.ext (by
    fin_cases a
    · exact (Nat.mod_eq_of_lt (y 0).isLt).symm
    · exact (Nat.mod_eq_of_lt (y 1).isLt).symm))⟩

theorem any3 (f : S2x32x512.Idx → F .f32) : ∃ B, f = arr3 B :=
  ⟨fun u r c => f fun a => ⟨(![u, r, c] : Fin 3 → ℕ) a % S2x32x512.size a, Nat.mod_lt _ (by fin_cases a <;> decide)⟩, funext fun y => congrArg f (funext fun a => Fin.ext (by
    fin_cases a
    · exact (Nat.mod_eq_of_lt (y 0).isLt).symm
    · exact (Nat.mod_eq_of_lt (y 1).isLt).symm
    · exact (Nat.mod_eq_of_lt (y 2).isLt).symm))⟩

/-! ## The thread's own semaphores and arrays -/

variable (d : Dev nD) (L : grid0.Coords)

abbrev cell4 : GSem nD τ sig := (tile d L, .dma cc0_scratch4.sem)
abbrev cell5 : GSem nD τ sig := (tile d L, .dma cc0_scratch5.sem)
abbrev cell0 : GSem nD τ sig := (tile d L, .dma cc0_scoped0.sem)
abbrev cell1 : GSem nD τ sig := (tile d L, .dma cc0_scoped1.sem)
abbrev cell2 : GSem nD τ sig := (tile d L, .dma cc0_scoped2.sem)

theorem cell_ne {a b : SemLoc sig} (h : a ≠ b) : ((tile d L, a) : GSem nD τ sig) ≠ (tile d L, b) := fun e => h (congrArg Prod.snd e)

/-- The five semaphores the tile waits on are among its own. -/
theorem ownSems0_V : ∃ R : sProp 𝕄,
    (SparseCore.Cfg.ownSems0 (tile d L) : sProp 𝕄)
      = iprop(semVal (cell4 d L) 0 ∗ semVal (cell5 d L) 0 ∗ semVal (cell0 d L) 0 ∗ semVal (cell1 d L) 0 ∗ semVal (cell2 d L) 0 ∗ R) := by
  have own : ∀ s : SemLoc sig, s.isScoped .scVector = true → ((tile d L, s) : GSem nD τ sig) ∈ SparseCore.Cfg.ownCells (tile d L) :=
    fun s h => SparseCore.Cfg.mem_ownCells.mpr ⟨rfl, h⟩
  unfold SparseCore.Cfg.ownSems0
  rw [SparseCore.bigSep_erase' (own (.dma cc0_scratch4.sem) (by decide)),
    SparseCore.bigSep_erase' (i := cell5 d L) (Finset.mem_erase.mpr ⟨cell_ne d L (by decide), own _ (by decide)⟩),
    SparseCore.bigSep_erase' (i := cell0 d L) (Finset.mem_erase.mpr ⟨cell_ne d L (by decide), Finset.mem_erase.mpr ⟨cell_ne d L (by decide), own _ (by decide)⟩⟩),
    SparseCore.bigSep_erase' (i := cell1 d L) (Finset.mem_erase.mpr ⟨cell_ne d L (by decide), Finset.mem_erase.mpr ⟨cell_ne d L (by decide),
      Finset.mem_erase.mpr ⟨cell_ne d L (by decide), own _ (by decide)⟩⟩⟩),
    SparseCore.bigSep_erase' (i := cell2 d L) (Finset.mem_erase.mpr ⟨cell_ne d L (by decide), Finset.mem_erase.mpr ⟨cell_ne d L (by decide),
      Finset.mem_erase.mpr ⟨cell_ne d L (by decide), Finset.mem_erase.mpr ⟨cell_ne d L (by decide), own _ (by decide)⟩⟩⟩⟩)]
  exact ⟨_, rfl⟩

/-- The four scratch arrays are among the tile's own. -/
theorem ownBufs_V : ∃ R : sProp 𝕄,
    (SparseCore.Cfg.ownBufs (tile d L) : sProp 𝕄)
      = iprop((∃ f, (tile d L).loc cc0_scratch0 ↦{fullShare} f) ∗ (∃ f, (tile d L).loc cc0_scratch1 ↦{fullShare} f)
          ∗ (∃ f, (tile d L).loc cc0_scratch2 ↦{fullShare} f) ∗ (∃ f, (tile d L).loc cc0_scratch3 ↦{fullShare} f) ∗ R) := by
  have own : ∀ b : Ref sig .scVector, _ → (Proc.scVector (cV L) (jV L)).devRef b ∈ SparseCore.Cfg.ownRefs (τ := τ) (.scVector (cV L) (jV L)) :=
    fun b h => SparseCore.Cfg.mem_ownRefs_of_owner (p := Proc.scVector (cV L) (jV L)) (b := (Proc.scVector (cV L) (jV L)).devRef b) h
  have ne : ∀ {a b : Ref sig .scVector}, a ≠ b → (Proc.scVector (cV L) (jV L)).devRef a ≠ (Proc.scVector (cV L) (jV L)).devRef b :=
    fun h e => h (Proc.devRef_injective _ e)
  unfold SparseCore.Cfg.ownBufs
  rw [SparseCore.bigSep_erase' (own cc0_scratch0 rfl),
    SparseCore.bigSep_erase' (Finset.mem_erase.mpr ⟨ne (show (cc0_scratch1 : Ref sig .scVector) ≠ cc0_scratch0 by decide), own cc0_scratch1 rfl⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide), own cc0_scratch2 rfl⟩⟩),
    SparseCore.bigSep_erase' (Finset.mem_erase.mpr ⟨ne (show (cc0_scratch3 : Ref sig .scVector) ≠ cc0_scratch2 by decide),
      Finset.mem_erase.mpr ⟨ne (show (cc0_scratch3 : Ref sig .scVector) ≠ cc0_scratch1 by decide),
        Finset.mem_erase.mpr ⟨ne (show (cc0_scratch3 : Ref sig .scVector) ≠ cc0_scratch0 by decide), own cc0_scratch3 rfl⟩⟩⟩)]
  exact ⟨_, rfl⟩

/-! ## The row buffer's two blocks, and the two halves of a share -/

variable [FloatOps F]

theorem slots_split {f : Buf (Elt F) (bufM.view.loc (tile d L))} :
    (bufM.view.loc (tile d L) ↦{fullShare} f : sProp 𝕄) ⊢ iprop(∃ B, bufPt d L (slotSet 0) B ∗ bufPt d L (slotSet 1) B) := by
  obtain ⟨B, rfl⟩ := any3 f
  refine (pointsTo_split_subset (Finset.subset_univ (slotSet 0))).1.trans ?_
  have hs : (Finset.univ \ slotSet 0 : Finset S2x32x512.Idx) = slotSet 1 := by
    ext y
    have := (y 0).isLt
    have h2 : S2x32x512.size 0 = 2 := rfl
    simp only [slotSet, Finset.mem_sdiff, Finset.mem_univ, true_and, Finset.mem_filter]
    omega
  iintro ⟨H0, H1⟩
  iexists B
  isplitl [H0]; · iexact H0
  iapply (Entails.of_eq (show (bufM.view.loc (tile d L) ↦[(Finset.univ \ slotSet 0 : Finset S2x32x512.Idx)]{fullShare} arr3 B : sProp 𝕄) = bufPt d L (slotSet 1) B by rw [hs]))
  iexact H1

theorem slots_join {B B' : ℕ → ℕ → ℕ → F .f32} :
    iprop(bufPt d L (slotSet 0) B ∗ bufPt d L (slotSet 1) B') ⊢ iprop(∃ f, bufM.view.loc (tile d L) ↦{fullShare} f) := by
  have hs : (Finset.univ \ slotSet 0 : Finset S2x32x512.Idx) = slotSet 1 := by
    ext y
    have := (y 0).isLt
    have h2 : S2x32x512.size 0 = 2 := rfl
    simp only [slotSet, Finset.mem_sdiff, Finset.mem_univ, true_and, Finset.mem_filter]
    omega
  let C : ℕ → ℕ → ℕ → F .f32 := fun u => if u = 0 then B u else B' u
  have h : iprop(bufPt d L (slotSet 0) B ∗ bufPt d L (slotSet 1) B') ⊢ (bufM.view.loc (tile d L) ↦{fullShare} (arr3 C : Buf (Elt F) (bufM.view.loc (tile d L))) : sProp 𝕄) := by
    refine BIBase.Entails.trans ?_ (pointsTo_split_subset (S := Finset.univ) (Finset.subset_univ (slotSet 0))).2
    refine BIClass.sep_mono (Entails.of_eq (pointsTo_congr fun y hy => ?_)) (Entails.of_eq ?_)
    · have h0 := (Finset.mem_filter.mp hy).2
      show B _ _ _ = C _ _ _
      simp only [C]; rw [if_pos h0]
    · show bufPt d L (slotSet 1) B' = (bufM.view.loc (tile d L) ↦[(Finset.univ \ slotSet 0 : Finset S2x32x512.Idx)]{fullShare} (arr3 C : Buf (Elt F) (bufM.view.loc (tile d L))) : sProp 𝕄)
      rw [hs]
      refine pointsTo_congr fun y hy => ?_
      have h0 := (Finset.mem_filter.mp hy).2
      show B' _ _ _ = C _ _ _
      simp only [C]; rw [if_neg (by omega)]
  iintro H
  iexists _
  iapply h $$ H

variable {q : PosShare TreeShare} {hid : ℕ → ℕ → F .f32}

/-- The two blocks of the row buffer, each with half of the tile's share of the rows and its semaphore. -/
theorem idle_intro {f : Buf (Elt F) (bufM.view.loc (tile d L))} :
    iprop((bufM.view.loc (tile d L) ↦{fullShare} f) ∗ hidPt d L q hid ∗ semVal (cell4 d L) 0 ∗ semVal (cell5 d L) 0)
      ⊢ iprop(idle d L q hid 0 ∗ idle d L q hid 1) := by
  refine (BIClass.sep_mono (slots_split d L) (BIClass.sep_mono (pointsTo_share (PosShare.mem_left_op_right q)).1 (Entails.refl _))).trans ?_
  iintro ⟨⟨%B, H0, H1⟩, ⟨Hl, Hr⟩, H4, H5⟩
  isplitl [H0 Hl H4]
  · isplitr [H4]
    swap; · iexact H4
    iexists B
    isplitl [H0]; · iexact H0
    iexact Hl
  · isplitr [H5]
    swap; · iexact H5
    iexists B
    isplitl [H1]; · iexact H1
    iexact Hr

theorem idle_elim :
    iprop(idle d L q hid 0 ∗ idle d L q hid 1)
      ⊢ iprop((∃ f, bufM.view.loc (tile d L) ↦{fullShare} f) ∗ hidPt d L q hid ∗ semVal (cell4 d L) 0 ∗ semVal (cell5 d L) 0) := by
  iintro ⟨⟨⟨%B, H0, Hl⟩, H4⟩, ⟨%B', H1, Hr⟩, H5⟩
  isplitl [H0 H1]
  · iapply (slots_join d L)
    isplitl [H0] <;> iassumption
  isplitl [Hl Hr]
  · iapply (pointsTo_share (PosShare.mem_left_op_right q)).2
    isplitl [Hl]; · iexact Hl
    iexact Hr
  isplitl [H4] <;> iassumption

/-! ## The tile -/

variable {sf : ℕ → BitVec 32} {segs : ℕ → ℕ → ℕ} {G : ℕ → ℕ → F .f32}

/-- The tile on vector subcore `(L 0, L 1)` of device `d`: from shares of the rows and of the segment numbers, and from its blocks of
    the results, it leaves there the means of its batch row's segments. -/
theorem tile_body (hF : (K (F := F)).Facts) (hst : Steps (segs (bat L))) (hs : ∀ t, t < 2048 → sf (bat L * 2048 + t) = BitVec.ofNat 32 (segs (bat L) t))
    (O : CellTallies nD τ sig (HIx 1)) (W : Waits sig (HIx 1)) (hO : ∀ g, O g none = 0) :
    iprop(levAts (K (F := F)).L (K (F := F)).lev ∗ emp ∗ (hidPt d L q hid ∗ segPt d L q sf ∗ outPt d L (tileSet L) G)
        ∗ scopedBufs (tile d L) ∗ scopedSems0 (tile d L) ∗ owes (tile d L) O W)
      ⊢ run' d L (cc0_sc_pool L hidM (Memref.isWhole_whole _) segM (Memref.isWhole_whole _) outM (Memref.isWhole_whole _) rowM (Memref.isWhole_whole _) bufM (Memref.isWhole_whole _) accM (Memref.isWhole_whole _) cntM (Memref.isWhole_whole _) cc0_scratch4 cc0_scratch5 cc0_scoped0 cc0_scoped1 cc0_scoped2) fun _ => iprop((hidPt d L q hid ∗ segPt d L q sf ∗ outPt d L (tileSet L) (outV hid segs))
          ∗ scopedBufs (tile d L) ∗ scopedSems0 (tile d L) ∗ ∃ W', ⌜∀ p ∈ W', p ∈ W ∨ p.2 = none⌝ ∗ owes (tile d L) O W') := by
  obtain ⟨RS, hRS⟩ := ownSems0_V (F := F) d L
  obtain ⟨RB, hRB⟩ := ownBufs_V (F := F) d L
  rw [(K (F := F)).scopedBufs_V hF d (cV L) (jV L), SparseCore.Cfg.scopedSems0_V (Val := Elt F) d (cV L) (jV L), hRS, hRB]
  iintro ⟨#Hlv, -, ⟨Hh, Hs, Ho⟩, ⟨⟨%f0, B0⟩, ⟨%f1, B1⟩, ⟨%f2, B2⟩, ⟨%f3, B3⟩, HRB⟩, ⟨H4, H5, H0, H1, H2, HRS⟩, HO⟩
  obtain ⟨sw, rfl⟩ := any1 f0
  obtain ⟨X, rfl⟩ := any2 f2
  obtain ⟨Y, rfl⟩ := anyC f3
  ihave Hmw := (show levAts (K (F := F)).L (K (F := F)).lev ⊢ Transfers.MayWaits (tile d L) (default : HIx 1) O from
    (K (F := F)).mayWaits_none (thr := tile d L) hO) $$ Hlv
  ihave HI := (idle_intro d L (f := f1) (q := q) (hid := hid)) $$ [B1 Hh H4 H5]
  · isplitl [B1]; · iexact B1
    isplitl [Hh]; · iexact Hh
    isplitl [H4] <;> iassumption
  have hrun := (tile_run (d := d) (L := L) (q := q) (hid := hid) (segs := segs) (O := O) (W := W) (G := G) hst (P := iprop(RB ∗ RS)) (sf := sf) (sw := sw) (X := X) (Y := Y) hs)
  iapply (hrun.trans (wp_mono frame _ _ fun _ => ?_))
  swap
  · isplitl [HI B2 B3 Ho H1 H2 HRB HRS]
    · isplitl [HRB HRS]
      · isplitl [HRB] <;> iassumption
      isplitl [HI]; · iexact HI
      isplitl [B2 B3]
      · isplitl [B2] <;> iassumption
      isplitl [Ho]; · iexact Ho
      isplitl [H1] <;> iassumption
    isplitl [B0 Hs H0]
    · isplitr [H0]
      swap; · iexact H0
      isplitl [B0]; · iexact B0
      iexact Hs
    isplitr; · iexact Hmw
    iexists W
    isplitr
    · ipureintro; exact fun p hp => Or.inl hp
    iexact HO
  have hpost := idle_elim (F := F) d L (q := q) (hid := hid)
  iintro ⟨%X, %Y, %s, ⟨⟨HRB, HRS⟩, HI, ⟨B2, B3⟩, Ho, H1, H2⟩, ⟨⟨B0, Hs⟩, H0⟩, -, HO⟩
  ihave HI' := hpost $$ HI
  icases HI' with ⟨B1, Hh, H4, H5⟩
  isplitl [Hh Hs Ho]
  · isplitl [Hh]; · iexact Hh
    isplitl [Hs]; · iexact Hs
    iexact Ho
  isplitl [B0 B1 B2 B3 HRB]
  · isplitl [B0]; · iexists _; iexact B0
    isplitl [B1]; · iexact B1
    isplitl [B2]; · iexists _; iexact B2
    isplitl [B3]; · iexists _; iexact B3
    iexact HRB
  isplitr [HO]
  swap; · iexact HO
  isplitl [H4]; · iexact H4
  isplitl [H5]; · iexact H5
  isplitl [H0]; · iexact H0
  isplitl [H1]; · iexact H1
  isplitl [H2]; · iexact H2
  iexact HRS

end Cert.Proof
-- ==== Proof.Launch.lean ====
module

public import proofs.«01_k».proof.Proof.Own
public import Idealize.ShloMosaic.Lib.ShareLeaves
public import Idealize.ShloMosaic.Lib.StableHlo.Run
public import Idealize.ShloMosaic.Lib.Pipeline.Kit
public import Idealize.ShloMosaic.Lib.Pipeline.Value

/-! The launch: what the call hands its two SparseCores and their sixteen tiles each, and the program's run: the host's reshapes, the call,
    the last reshape. -/

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.SparseCore.Cfg (Pay)
open Idealize.ShloMosaic.StableHlo (held wp_hlo_within)
open Idealize.ShloMosaic.ShareLeaves (leaf pointsTo_leaves)

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arguments and the results, by coordinates -/

variable (m : (ℓ : Loc nD τ sig) → Buf (Elt F) ℓ) (ρ : Dev nD → PrngReg)

abbrev aLoc (d : Dev nD) : Loc nD τ sig := (SparseCore.T d).loc main_arg0
abbrev bLoc (d : Dev nD) : Loc nD τ sig := (SparseCore.T d).loc main_arg1
abbrev hLoc (d : Dev nD) : Loc nD τ sig := (SparseCore.T d).loc main_v0
abbrev sLoc (d : Dev nD) : Loc nD τ sig := (SparseCore.T d).loc main_v1
abbrev oLoc (d : Dev nD) : Loc nD τ sig := (SparseCore.T d).loc main_v2
abbrev rLoc (d : Dev nD) : Loc nD τ sig := (SparseCore.T d).loc main_v3

/-- Position `t` of batch row `b`, column `c`. -/
def at3 (b t c : ℕ) : S8x2048x512.Idx := fun
  | 0 => ⟨b % 8, Nat.mod_lt _ (by decide)⟩
  | 1 => ⟨t % 2048, Nat.mod_lt _ (by decide)⟩
  | 2 => ⟨c % 512, Nat.mod_lt _ (by decide)⟩

/-- Position `t` of batch row `b`. -/
def at2 (b t : ℕ) : S8x2048.Idx := fun
  | 0 => ⟨b % 8, Nat.mod_lt _ (by decide)⟩
  | 1 => ⟨t % 2048, Nat.mod_lt _ (by decide)⟩

/-- The rows the kernel is given, the batch rows one after the other. -/
def hidN (d : Dev nD) (r c : ℕ) : F .f32 := (m (aLoc d) : S8x2048x512.Idx → F .f32) (at3 (r / 2048) r c)
/-- The segment numbers, likewise. -/
def segF (d : Dev nD) (r : ℕ) : BitVec 32 := (m (bLoc d) : S8x2048.Idx → BitVec 32) (at2 (r / 2048) r)
/-- The segment of position `t` of batch row `b`. -/
def segN (d : Dev nD) (b t : ℕ) : ℕ := ((m (bLoc d) : S8x2048.Idx → BitVec 32) (at2 b t)).toNat
/-- What the proof asks of the launch memory: along each batch row the segment numbers start at zero and rise by at most one. -/
def PreOK : Prop := ∀ (d : Dev nD) (b : ℕ), Steps (segN m d b)

theorem segF_eq (d : Dev nD) {b t : ℕ} (ht : t < 2048) : segF m d (b * 2048 + t) = BitVec.ofNat 32 (segN m d b t) := by
  have hi : at2 ((b * 2048 + t) / 2048) (b * 2048 + t) = at2 b t := by
    funext a
    fin_cases a
    · exact Fin.ext (show (b * 2048 + t) / 2048 % 8 = b % 8 by omega)
    · exact Fin.ext (show (b * 2048 + t) % 2048 = t % 2048 by omega)
  unfold segF segN
  rw [hi, BitVec.ofNat_toNat, BitVec.setWidth_eq]

/-- The reshape of the rows. -/
theorem rows_flat (d : Dev nD) : shapeCast S16384x512 (m (aLoc d) : S8x2048x512.Idx → F .f32) shapeCasts_S8x2048x512_S16384x512 = arrH (hidN m d) := by
  funext j
  refine shapeCast_apply _ _ j (at3 ((j 0).val / 2048) (j 0).val (j 1).val) ?_
  have h0 : (j 0).val < 16384 := (j 0).isLt
  have h1 : (j 1).val < 512 := (j 1).isLt
  rw [Shape.rowMajor_val_three, Shape.rowMajor_val_two]
  show ((j 0).val / 2048 % 8 * 2048 + (j 0).val % 2048) * 512 + (j 1).val % 512 = (j 0).val * 512 + (j 1).val
  rw [Nat.mod_eq_of_lt h1, show (j 0).val / 2048 % 8 * 2048 + (j 0).val % 2048 = (j 0).val by omega]

/-- The reshape of the segment numbers. -/
theorem segs_flat (d : Dev nD) : shapeCast S16384 (m (bLoc d) : S8x2048.Idx → BitVec 32) shapeCasts_S8x2048_S16384 = arrS (segF m d) := by
  funext j
  refine shapeCast_apply _ _ j (at2 ((j 0).val / 2048) (j 0).val) ?_
  have h0 : (j 0).val < 16384 := (j 0).isLt
  rw [Shape.rowMajor_val_two, Shape.rowMajor_val_one]
  show (j 0).val / 2048 % 8 * 2048 + (j 0).val % 2048 = (j 0).val
  omega

theorem anyH (f : S16384x512.Idx → F .f32) : ∃ X, f = arrH X :=
  ⟨fun r c => f fun a => ⟨(![r, c] : Fin 2 → ℕ) a % S16384x512.size a, Nat.mod_lt _ (by fin_cases a <;> decide)⟩, funext fun y => congrArg f (funext fun a => Fin.ext (by
    fin_cases a
    · exact (Nat.mod_eq_of_lt (y 0).isLt).symm
    · exact (Nat.mod_eq_of_lt (y 1).isLt).symm))⟩

variable [FloatOps F]

/-- The result: batch row `b`, segment `n`, column `c` holds the mean of the segment's rows. -/
def pooled (d : Dev nD) : S8x2048x512.Idx → F .f32 := fun y => mean (fun t c => hidN m d ((y 0).val * 2048 + t) c) (segN m d (y 0).val) (y 1).val (y 2).val

/-- The reshape of the results. -/
theorem results_flat (d : Dev nD) : shapeCast S8x2048x512 (arrH (outV (hidN m d) (segN m d))) shapeCasts_S16384x512_S8x2048x512 = pooled m d := by
  funext y
  have h0 : (y 0).val < 8 := (y 0).isLt
  have h1 : (y 1).val < 2048 := (y 1).isLt
  have h2 : (y 2).val < 512 := (y 2).isLt
  let k : S16384x512.Idx := fun
    | 0 => ⟨(y 0).val * 2048 + (y 1).val, show (y 0).val * 2048 + (y 1).val < 16384 by omega⟩
    | 1 => ⟨(y 2).val, h2⟩
  refine (shapeCast_apply _ _ y k ?_).trans ?_
  · rw [Shape.rowMajor_val_three, Shape.rowMajor_val_two]; rfl
  · show outV (hidN m d) (segN m d) ((y 0).val * 2048 + (y 1).val) (y 2).val = _
    unfold outV pooled
    rw [show ((y 0).val * 2048 + (y 1).val) / 2048 = (y 0).val by omega, show ((y 0).val * 2048 + (y 1).val) % 2048 = (y 1).val by omega]

/-! ## Shares and blocks -/

def coordsV (c : Fin (grid0.bound 0)) (s : Fin (grid0.bound 1)) : grid0.Coords :=
  fun | 0 => c | 1 => s | ⟨_ + 2, h⟩ => absurd h (Nat.not_lt.2 (Nat.le_add_left _ _))

/-- A SparseCore's share of what every tile reads: half of it; -/
abbrev coreShare (c : Fin 2) : PosShare TreeShare := leaf 1 fullShare c
/-- a tile's: a sixteenth of that. -/
abbrev tileShare (c : Fin 2) (i : Fin 16) : PosShare TreeShare := leaf 4 (coreShare c) i
abbrev atTile (c : Fin 2) (i : Fin 16) : grid0.Coords := coordsV c i

/-- The rows of the results a SparseCore's tiles write: the batch rows of its parity. -/
def coreSet (c : Fin 2) : Finset S16384x512.Idx := Finset.univ.filter fun y => (y 0).val / 2048 % 2 = c.val

omit [FloatOps F] in
theorem wid_at (c : Fin 2) (i : Fin 16) : wid (atTile c i) = 2 * i.val + c.val := rfl

omit [FloatOps F] in
theorem tiles_disjoint (c : Fin 2) : ∀ i ∈ (Finset.univ : Finset (Fin 16)), ∀ j ∈ (Finset.univ : Finset (Fin 16)), i ≠ j → Disjoint (tileSet (atTile c i)) (tileSet (atTile c j)) := by
  intro i _ j _ hij
  refine Finset.disjoint_left.mpr fun y hi hj => hij (Fin.ext ?_)
  obtain ⟨-, h0, h1⟩ := Finset.mem_filter.mp hi
  obtain ⟨-, h2, h3⟩ := Finset.mem_filter.mp hj
  unfold bat at h0 h2
  rw [wid_at] at h0 h1 h2 h3
  omega

omit [FloatOps F] in
theorem tiles_cover (c : Fin 2) : (Finset.univ : Finset (Fin 16)).biUnion (fun i => tileSet (atTile c i)) = coreSet c := by
  ext y
  have hy : (y 0).val < 16384 := (y 0).isLt
  have hc := c.isLt
  rw [Finset.mem_biUnion, coreSet, Finset.mem_filter]
  constructor
  · rintro ⟨i, -, hi⟩
    obtain ⟨-, h0, h1⟩ := Finset.mem_filter.mp hi
    unfold bat at h0
    rw [wid_at] at h0 h1
    exact ⟨Finset.mem_univ _, by omega⟩
  · rintro ⟨-, h⟩
    refine ⟨⟨4 * ((y 0).val % 512 / 128) + (y 0).val / 2048 / 2, by omega⟩, Finset.mem_univ _, Finset.mem_filter.mpr ⟨Finset.mem_univ _, ?_⟩⟩
    unfold bat
    rw [wid_at]
    show (y 0).val / 2048 = (2 * (4 * ((y 0).val % 512 / 128) + (y 0).val / 2048 / 2) + c.val) % 8
      ∧ (y 0).val % 512 / 128 = (2 * (4 * ((y 0).val % 512 / 128) + (y 0).val / 2048 / 2) + c.val) / 8
    omega

omit [FloatOps F] in
theorem cores_disjoint : ∀ i ∈ (Finset.univ : Finset (Fin 2)), ∀ j ∈ (Finset.univ : Finset (Fin 2)), i ≠ j → Disjoint (coreSet i) (coreSet j) := by
  intro i _ j _ hij
  refine Finset.disjoint_left.mpr fun y hi hj => hij (Fin.ext ?_)
  exact (Finset.mem_filter.mp hi).2.symm.trans (Finset.mem_filter.mp hj).2

omit [FloatOps F] in
theorem cores_cover : (Finset.univ : Finset (Fin 2)).biUnion coreSet = Finset.univ := by
  ext y
  simp only [Finset.mem_biUnion, Finset.mem_univ, true_and, iff_true]
  exact ⟨⟨(y 0).val / 2048 % 2, Nat.mod_lt _ (by decide)⟩, Finset.mem_filter.mpr ⟨Finset.mem_univ _, rfl⟩⟩

/-! ## What the handshakes carry -/

/-- The operands and the results, at the share `q` and the rows `S`. -/
abbrev held3 (d : Dev nD) (q : PosShare TreeShare) (S : Finset S16384x512.Idx) (f : Buf (Elt F) (oLoc d)) : sProp 𝕄 :=
  iprop((hLoc d ↦{q} (arrH (hidN m d) : Buf (Elt F) (hLoc d))) ∗ (sLoc d ↦{q} (arrS (segF m d) : Buf (Elt F) (sLoc d)))
    ∗ oLoc d ↦[(S : Finset (Idx (oLoc d)))]{fullShare} f)

/-- What the results hold when the call has run. -/
abbrev after (d : Dev nD) : Buf (Elt F) (oLoc d) := arrH (outV (hidN m d) (segN m d))

/-- Each SparseCore is handed its share of the rows and of the segment numbers and its batch rows of the results; each tile its
    share and its blocks; and they bring them back, the results at the means. -/
def P : (K (F := F)).Pay (nD := nD) (Val := Elt F) (Name := ℕ) (U := UU) where
  st := fun q d c => match q with | 0 => held3 m d (coreShare (Fin.cast nCore_zero c)) (coreSet (Fin.cast nCore_zero c)) (m (oLoc d))
  dn := fun q d c => match q with | 0 => held3 m d (coreShare (Fin.cast nCore_zero c)) (coreSet (Fin.cast nCore_zero c)) (after m d)
  go := fun q d c i => match q with
    | 0 => held3 m d (tileShare (Fin.cast nCore_zero c) (Fin.cast nSub_zero i)) (tileSet (atTile (Fin.cast nCore_zero c) (Fin.cast nSub_zero i))) (m (oLoc d))
  td := fun q d c i => match q with
    | 0 => held3 m d (tileShare (Fin.cast nCore_zero c) (Fin.cast nSub_zero i)) (tileSet (atTile (Fin.cast nCore_zero c) (Fin.cast nSub_zero i))) (after m d)
  x := fun _ _ => iprop(emp)

instance P_storable : (P (F := F) m).IsStorable where
  st q d c := match q with
    | 0 => (inferInstance : BI.Storable (upEmb : UEmb _ 𝕄) (held3 m d (coreShare (Fin.cast nCore_zero c)) (coreSet (Fin.cast nCore_zero c)) (m (oLoc d))))
  dn q d c := match q with
    | 0 => (inferInstance : BI.Storable (upEmb : UEmb _ 𝕄) (held3 m d (coreShare (Fin.cast nCore_zero c)) (coreSet (Fin.cast nCore_zero c)) (after m d)))
  go q d c i := match q with
    | 0 => (inferInstance : BI.Storable (upEmb : UEmb _ 𝕄)
      (held3 m d (tileShare (Fin.cast nCore_zero c) (Fin.cast nSub_zero i)) (tileSet (atTile (Fin.cast nCore_zero c) (Fin.cast nSub_zero i))) (m (oLoc d))))
  td q d c i := match q with
    | 0 => (inferInstance : BI.Storable (upEmb : UEmb _ 𝕄)
      (held3 m d (tileShare (Fin.cast nCore_zero c) (Fin.cast nSub_zero i)) (tileSet (atTile (Fin.cast nCore_zero c) (Fin.cast nSub_zero i))) (after m d)))

/-- A SparseCore's operands and results are its tiles'. -/
theorem core_tiles (d : Dev nD) (c : Fin 2) (f : Buf (Elt F) (oLoc d)) :
    held3 m d (coreShare c) (coreSet c) f = bigSep Finset.univ fun i : Fin 16 => held3 m d (tileShare c i) (tileSet (atTile c i)) f := by
  unfold held3
  rw [bigSep_sep', bigSep_sep']
  refine congrArg₂ _ (pointsTo_leaves Finset.univ _ 4 (coreShare c)) (congrArg₂ _ (pointsTo_leaves Finset.univ _ 4 (coreShare c)) ?_)
  rw [← pointsTo_biUnion Finset.univ (ℓ := oLoc d) (fun i => tileSet (atTile c i)) (tiles_disjoint c), tiles_cover]

/-- The whole operands and results are the two SparseCores'. -/
theorem all_cores (d : Dev nD) (f : Buf (Elt F) (oLoc d)) :
    held3 m d fullShare Finset.univ f = bigSep Finset.univ fun c : Fin 2 => held3 m d (coreShare c) (coreSet c) f := by
  unfold held3
  rw [bigSep_sep', bigSep_sep']
  refine congrArg₂ _ (pointsTo_leaves Finset.univ _ 1 fullShare) (congrArg₂ _ (pointsTo_leaves Finset.univ _ 1 fullShare) ?_)
  rw [← pointsTo_biUnion Finset.univ (ℓ := oLoc d) coreSet cores_disjoint, cores_cover]

theorem vecSplit : (K (F := F)).VecSplit' (P m) 0 := by
  intro d c
  have hsub : ∀ Φ : Fin 16 → sProp 𝕄, (bigSep Finset.univ fun i : Fin ((K (F := F)).nSub 0) => Φ (Fin.cast nSub_zero i)) = bigSep Finset.univ Φ :=
    fun Φ => bigSep_congr fun _ _ => congrArg Φ (Fin.ext rfl)
  show held3 m d (coreShare (Fin.cast nCore_zero c)) (coreSet (Fin.cast nCore_zero c)) (m (oLoc d)) ⊢ |={Set.univ}=> iprop(
      (bigSep Finset.univ fun i : Fin ((K (F := F)).nSub 0) =>
        held3 m d (tileShare (Fin.cast nCore_zero c) (Fin.cast nSub_zero i)) (tileSet (atTile (Fin.cast nCore_zero c) (Fin.cast nSub_zero i))) (m (oLoc d)))
      ∗ ((bigSep Finset.univ fun i : Fin ((K (F := F)).nSub 0) =>
          held3 m d (tileShare (Fin.cast nCore_zero c) (Fin.cast nSub_zero i)) (tileSet (atTile (Fin.cast nCore_zero c) (Fin.cast nSub_zero i))) (after m d))
          -∗ held3 m d (coreShare (Fin.cast nCore_zero c)) (coreSet (Fin.cast nCore_zero c)) (after m d)))
  rw [hsub fun i => held3 m d (tileShare (Fin.cast nCore_zero c) i) (tileSet (atTile (Fin.cast nCore_zero c) i)) (m (oLoc d)),
    hsub fun i => held3 m d (tileShare (Fin.cast nCore_zero c) i) (tileSet (atTile (Fin.cast nCore_zero c) i)) (after m d),
    ← core_tiles, ← core_tiles]
  iintro H; imodintro
  isplitl [H]; · iexact H
  iintro H
  iexact H

/-! ## The tiles' obligation -/

theorem defs₀_vector (c : Fin τ.nSC) (s : Fin τ.nSub) :
    defs₀ (F := F) (.scVector c s) 0 () = SparseCore.onTile hcore0 hsub0 (fun c s => cc0_sc_pool (coordsV c s) hidM (Memref.isWhole_whole _) segM (Memref.isWhole_whole _) outM (Memref.isWhole_whole _) rowM (Memref.isWhole_whole _) bufM (Memref.isWhole_whole _) accM (Memref.isWhole_whole _) cntM (Memref.isWhole_whole _) cc0_scratch4 cc0_scratch5 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  obtain ⟨G, hG⟩ := anyH (m (oLoc d) : S16384x512.Idx → F .f32)
  have hbody := tile_body d (coordsV ⟨_, hci.1⟩ ⟨_, hci.2⟩) (q := tileShare (Fin.cast nCore_zero c) (Fin.cast nSub_zero i)) (hid := hidN m d) (sf := segF m d) (segs := segN m d) (G := G)
    hF (hpre d _) (fun t ht => segF_eq m d ht) O W hO
  unfold outPt at hbody
  rw [← hG] at hbody
  exact hbody.trans (wp_mono frame _ _ fun _ => obl_post)

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

end Cert.Proof
-- ==== Proof.Run.lean ====
module

public import proofs.«01_k».proof.Proof.Launch

/-! The program's run: the host's two reshapes, the call, the reshape of the results; the arguments kept, the result the means, every
    semaphore at zero. -/

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.SparseCore.Cfg (Pay)
open Idealize.ShloMosaic.StableHlo (held wp_hlo_within)

variable (m : (ℓ : Loc nD τ sig) → Buf (Elt F) ℓ) (ρ : Dev nD → PrngReg)

abbrev a' : DevRef τ sig := Proc.devRef .tc (main_arg0 : Ref sig .tc)
abbrev b' : DevRef τ sig := Proc.devRef .tc (main_arg1 : Ref sig .tc)
abbrev h' : DevRef τ sig := Proc.devRef .tc (main_v0 : Ref sig .tc)
abbrev s' : DevRef τ sig := Proc.devRef .tc (main_v1 : Ref sig .tc)
abbrev o' : DevRef τ sig := Proc.devRef .tc (main_v2 : Ref sig .tc)
abbrev r' : DevRef τ sig := Proc.devRef .tc (main_v3 : Ref sig .tc)

abbrev opRows : HloOp τ sig (Elt F) := StableHlo.reshape main_arg0 main_v0 (rfl : (.f32 : EltTy) = .f32) shapeCasts_S8x2048x512_S16384x512
abbrev opSegs : HloOp τ sig (Elt F) := StableHlo.reshape main_arg1 main_v1 (rfl : (.i32 : EltTy) = .i32) shapeCasts_S8x2048_S16384
abbrev opBack : HloOp τ sig (Elt F) := StableHlo.reshape main_v2 main_v3 (rfl : (.f32 : EltTy) = .f32) shapeCasts_S16384x512_S8x2048x512

/-- The TensorCore's arrays. -/
abbrev S6 : Finset (DevRef τ sig) := {a', b', h', s', o', r'}

theorem held_S6 (d : Dev nD) (W : Valuation τ sig (Elt F)) :
    (held (T d) S6 W : sProp 𝕄)
      = iprop((aLoc d ↦{fullShare} W a') ∗ (bLoc d ↦{fullShare} W b') ∗ (hLoc d ↦{fullShare} W h') ∗ (sLoc d ↦{fullShare} W s')
          ∗ (oLoc d ↦{fullShare} W o') ∗ rLoc d ↦{fullShare} W r') := by
  unfold held S6
  rw [SparseCore.bigSep_insert' (by decide), SparseCore.bigSep_insert' (by decide), SparseCore.bigSep_insert' (by decide),
    SparseCore.bigSep_insert' (by decide), SparseCore.bigSep_insert' (by decide), bigSep_singleton]

/-- The launch memory; after the two reshapes; after the call. -/
def V0 (d : Dev nD) : Valuation τ sig (Elt F) := fun b => m (d, b)
def V2 (d : Dev nD) : Valuation τ sig (Elt F) := (opSegs (F := F)).result ((opRows (F := F)).result (V0 m d))

theorem unscoped_held (d : Dev nD) : (unscopedBufs d (fun b => m ((SparseCore.T d).loc b)) : sProp 𝕄) = held (T d) S6 (V0 m d) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton, held_S6]
  rfl

theorem V2_of {d : Dev nD} {b : DevRef τ sig} (h1 : b ∉ ({s'} : Finset (DevRef τ sig))) (h2 : b ∉ ({h'} : Finset (DevRef τ sig))) : V2 m d b = m (d, b) := by
  unfold V2
  rw [(opSegs (F := F)).result_of_not_mem _ h1, (opRows (F := F)).result_of_not_mem _ h2]
  rfl

theorem V2_h (d : Dev nD) : V2 m d h' = arrH (hidN m d) := by
  unfold V2
  rw [(opSegs (F := F)).result_of_not_mem _ (show h' ∉ ({s'} : Finset (DevRef τ sig)) by decide)]
  exact (StableHlo.reshape_result _ _ _ _ _ _ _).trans (rows_flat m d)

theorem V2_s (d : Dev nD) : V2 m d s' = arrS (segF m d) := by
  unfold V2
  refine (StableHlo.reshape_result _ _ _ _ _ _ _).trans ?_
  rw [(opRows (F := F)).result_of_not_mem _ (show b' ∉ ({h'} : Finset (DevRef τ sig)) by decide)]
  exact segs_flat m d

variable [FloatOps F]

def V3 (d : Dev nD) : Valuation τ sig (Elt F) := Function.update (V2 m d) o' (after m d)

theorem V3_of {d : Dev nD} {b : DevRef τ sig} (h : b ≠ o') : V3 m d b = V2 m d b := Function.update_of_ne h _ _
theorem V3_o (d : Dev nD) : V3 m d o' = after m d := Function.update_self _ _ _

/-- The arrays before the call, -/
theorem held_V2 (d : Dev nD) :
    (held (T d) S6 ((opSegs (F := F)).result ((opRows (F := F)).result (V0 m d))) : sProp 𝕄)
      = iprop((aLoc d ↦{fullShare} m (aLoc d)) ∗ (bLoc d ↦{fullShare} m (bLoc d)) ∗ (hLoc d ↦{fullShare} (arrH (hidN m d) : Buf (Elt F) (hLoc d)))
          ∗ (sLoc d ↦{fullShare} (arrS (segF m d) : Buf (Elt F) (sLoc d))) ∗ (oLoc d ↦{fullShare} m (oLoc d)) ∗ rLoc d ↦{fullShare} m (rLoc d)) := by
  show held (SparseCore.T d) S6 (V2 m d) = _
  rw [held_S6, V2_h, V2_s, V2_of m (b := a') (by decide) (by decide), V2_of m (b := b') (by decide) (by decide), V2_of m (b := o') (by decide) (by decide),
    V2_of m (b := r') (by decide) (by decide)]

/-- after the call, -/
theorem held_V3 (d : Dev nD) :
    (held (T d) S6 (V3 m d) : sProp 𝕄)
      = iprop((aLoc d ↦{fullShare} m (aLoc d)) ∗ (bLoc d ↦{fullShare} m (bLoc d)) ∗ (hLoc d ↦{fullShare} (arrH (hidN m d) : Buf (Elt F) (hLoc d)))
          ∗ (sLoc d ↦{fullShare} (arrS (segF m d) : Buf (Elt F) (sLoc d))) ∗ (oLoc d ↦{fullShare} after m d) ∗ rLoc d ↦{fullShare} m (rLoc d)) := by
  rw [held_S6, V3_o, V3_of m (b := a') (by decide), V3_of m (b := b') (by decide), V3_of m (b := h') (by decide), V3_of m (b := s') (by decide), V3_of m (b := r') (by decide),
    V2_h, V2_s, V2_of m (b := a') (by decide) (by decide), V2_of m (b := b') (by decide) (by decide), V2_of m (b := r') (by decide) (by decide)]

/-- and after the last reshape, what the claims read. -/
theorem held_V4 (d : Dev nD) :
    (held (T d) S6 ((opBack (F := F)).result (V3 m d)) : sProp 𝕄)
      = iprop((aLoc d ↦{fullShare} m (aLoc d)) ∗ (bLoc d ↦{fullShare} m (bLoc d)) ∗ (hLoc d ↦{fullShare} (opBack (F := F)).result (V3 m d) h')
          ∗ (sLoc d ↦{fullShare} (opBack (F := F)).result (V3 m d) s') ∗ (oLoc d ↦{fullShare} (opBack (F := F)).result (V3 m d) o')
          ∗ rLoc d ↦{fullShare} (pooled m d : Buf (Elt F) (rLoc d))) := by
  have hr : (opBack (F := F)).result (V3 m d) r' = pooled m d := by
    refine (StableHlo.reshape_result _ _ _ _ _ _ _).trans ?_
    rw [V3_o]
    exact results_flat m d
  have hk : ∀ b : DevRef τ sig, b ≠ o' → b ∉ ({r'} : Finset (DevRef τ sig)) → b ∉ ({s'} : Finset (DevRef τ sig)) → b ∉ ({h'} : Finset (DevRef τ sig)) →
      (opBack (F := F)).result (V3 m d) b = m (d, b) := fun b h0 h1 h2 h3 => by
    rw [(opBack (F := F)).result_of_not_mem _ h1, V3_of m h0, V2_of m h2 h3]
  rw [held_S6, hr, hk a' (by decide) (by decide) (by decide) (by decide), hk b' (by decide) (by decide) (by decide) (by decide)]

theorem hRows : (opRows (F := F)).bufs ⊆ S6 := show ({a', h'} : Finset (DevRef τ sig)) ⊆ S6 by decide
theorem hSegs : (opSegs (F := F)).bufs ⊆ S6 := show ({b', s'} : Finset (DevRef τ sig)) ⊆ S6 by decide
theorem hBack : (opBack (F := F)).bufs ⊆ S6 := show ({o', r'} : Finset (DevRef τ sig)) ⊆ S6 by decide

theorem st0_eq (d : Dev nD) : (bigSep Finset.univ fun c : Fin ((K (F := F)).nCore 0) => (P m).st 0 d c) = held3 m d fullShare Finset.univ (m (oLoc d)) :=
  (all_cores m d _).symm
theorem dn0_eq (d : Dev nD) : (bigSep Finset.univ fun c : Fin ((K (F := F)).nCore 0) => (P m).dn 0 d c) = held3 m d fullShare Finset.univ (after m d) :=
  (all_cores m d _).symm

/-- What @main leaves the claims. -/
abbrev FIN (d : Dev nD) : sProp 𝕄 := iprop((aLoc d ↦{fullShare} m (aLoc d)) ∗ (bLoc d ↦{fullShare} m (bLoc d)) ∗ rLoc d ↦{fullShare} (pooled m d : Buf (Elt F) (rLoc d)))

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opRows) (S := S6) hRows (V := V0 m d)) $$ [Hb Hheld]
  · isplitl [Hb] <;> iassumption
  iintro ⟨Hb, Hheld⟩
  rw [wp_ret]; imodintro
  iapply (wp_hlo_within 𝒱 (SparseCore.T d) none Set.univ (op := opSegs) (S := S6) hSegs (V := (opRows (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨Ha, Hs0, Hh, Hs, Ho, Hr⟩
  iapply ((K (F := F)).wp_run (D (F := F)) 𝒱 (EH := EH) (P := P m) κ d 0) $$ [Hst Ha Hs0 Hh Hs Ho Hr Hb Hts]
  isplitr; · iexact Hctx
  isplitl [Hst]; · iexact Hst
  isplitl [Hh Hs Ho]
  · rw [st0_eq]
    isplitl [Hh]; · iexact Hh
    isplitl [Hs]; · iexact Hs
    iexact Ho
  iintro ⟨Hst, Hdn⟩
  ihave Hdn' := (Entails.of_eq (dn0_eq m d)) $$ Hdn
  icases Hdn' with ⟨Hh, Hs, Ho⟩
  iapply (wp_hlo_within 𝒱 (SparseCore.T d) none Set.univ (op := opBack) (S := S6) hBack (V := V3 m d)) $$ [Hb Ha Hs0 Hh Hs Ho Hr]
  · isplitl [Hb]; · iexact Hb
    rw [held_V3]
    isplitl [Ha]; · iexact Ha
    isplitl [Hs0]; · iexact Hs0
    isplitl [Hh]; · iexact Hh
    isplitl [Hs]; · iexact Hs
    isplitl [Ho]; · iexact Ho
    iexact Hr
  iintro ⟨Hb, Hheld⟩
  ihave Hh := (Entails.of_eq (held_V4 (F := F) m d)) $$ Hheld
  icases Hh with ⟨Ha, Hs0, -, -, -, Hr⟩
  rw [wp_ret]; imodintro; imodintro
  isplitl [Hst]; · iexact Hst
  isplitr [Hb Hts]
  · isplitl [Ha]; · iexact Ha
    isplitl [Hs0]; · iexact Hs0
    iexact Hr
  isplitl [Hb] <;> iassumption

/-- What the claims read of device `d`'s final state. -/
def fq (d : Dev nD) (s : Phys nD τ sig (Elt F)) : Prop :=
  s.mem.mem (aLoc d) = m (aLoc d) ∧ s.mem.mem (bLoc d) = m (bLoc d) ∧ s.mem.mem (rLoc d) = pooled m d

theorem hfin (d : Dev nD) (s : Phys nD τ sig (Elt F)) : iprop(FIN m d ∗ SI s) ⊢ (⌜fq m d s⌝ : sProp 𝕄) := by
  iintro ⟨⟨Ha, Hb, Hr⟩, HSI⟩
  ihave H := (persistent_entails_right (SI_pointsTo_agree (st := s) (ℓ := aLoc d) (I := Finset.univ) (q := fullShare) (f := m (aLoc d)))) $$ [HSI Ha]
  · isplitl [HSI] <;> iassumption
  icases H with ⟨%ha, HSI, -⟩
  ihave H := (persistent_entails_right (SI_pointsTo_agree (st := s) (ℓ := bLoc d) (I := Finset.univ) (q := fullShare) (f := m (bLoc d)))) $$ [HSI Hb]
  · isplitl [HSI] <;> iassumption
  icases H with ⟨%hb, HSI, -⟩
  ihave H := (SI_pointsTo_agree (st := s) (ℓ := rLoc d) (I := Finset.univ) (q := fullShare) (f := (pooled m d : Buf (Elt F) (rLoc d)))) $$ [HSI Hr]
  · isplitl [HSI] <;> iassumption
  icases H with %hr
  ipureintro
  exact ⟨funext fun i => ha i (Finset.mem_univ i), funext fun i => hb i (Finset.mem_univ i), funext fun i => hr i (Finset.mem_univ i)⟩

/-- The final state: the arguments as they were, the result the segments' means, every semaphore at zero. -/
def QC : PUnit × MemSt nD τ sig (Elt F) → Prop := fun r =>
  (∀ c : Dev nD, r.2.mem (aLoc c) = m (aLoc c) ∧ r.2.mem (bLoc c) = m (bLoc c) ∧ r.2.mem (rLoc c) = pooled m c) ∧ r.2.sem = fun _ => 0

/-- Every weakly fair execution of the program ends there, from a launch memory whose segment numbers are as `PreOK` says. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof
-- ==== Proof.Pre.lean ====
module

public import proofs.«01_k».proof.Proof.Run
public import proofs.«01_k».proof.Defs
public import proofs.«01_k».proof.Proof.Gen.Pre_segment_numbers
public import Idealize.ShloMosaic.Lib.ReduceAll
public import Idealize.ShloMosaic.Lib.StableHlo.Predicate
public import Idealize.ShloMosaic.Lib.Pipeline.Value

/-! The precondition, read: every batch row's segment numbers start at zero and rise by at most one. -/

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- Words that start at zero and rise by at most one at each of the first 2047 places, read as numbers, do the same. -/
theorem steps_of_words (w : ℕ → BitVec 32) (h0 : w 0 = 0#32) (h1 : ∀ t < 2047, w (t + 1) - w t = 0#32 ∨ w (t + 1) - w t = 1#32) :
    Steps fun t => (w t).toNat := by
  have next : ∀ t < 2047, (w t).toNat ≤ t → (w (t + 1)).toNat = (w t).toNat ∨ (w (t + 1)).toNat = (w t).toNat + 1 := by
    intro t ht hle
    rcases h1 t ht with h | h
    · left
      rw [show w (t + 1) = w t by rw [← BitVec.sub_add_cancel (w (t + 1)) (w t), h, BitVec.zero_add]]
    · right
      rw [show w (t + 1) = 1#32 + w t by rw [← BitVec.sub_add_cancel (w (t + 1)) (w t), h], BitVec.toNat_add]
      have : (1#32).toNat = 1 := rfl
      omega
  have bound : ∀ t ≤ 2047, (w t).toNat ≤ t := by
    intro t
    induction t with
    | zero => intro _; rw [h0]; exact Nat.le_refl 0
    | succ t ih =>
      intro ht
      have := ih (by omega)
      rcases next t (by omega) this with h | h <;> omega
  exact ⟨by show (w 0).toNat = 0; rw [h0]; rfl, fun t ht => next t ht (bound t (by omega))⟩

section

open Cert.Pre_segment_numbers.Gen (slices_S8x2048_S8x2047_0_1 slices_S8x2048_S8x2047_0_0 slices_S8x2048_S8x1_0_0 shapeCasts_S8x1_S8 bcast_S_S8 reducesTo_S8_S_d0 h_S_ bcast_S_S8x2047 reducesTo_S8x2047_S_d0_1)

instance : Subsingleton Cert.Pre_segment_numbers.S_.Idx := ⟨fun a b => funext fun x => x.elim0⟩

/-- The row's place of an array of one number per batch row. -/
def atB (b : ℕ) : Cert.Pre_segment_numbers.S8.Idx := fun
  | 0 => ⟨b % 8, Nat.mod_lt _ (by decide)⟩
/-- The place of a difference: batch row `b`, the step from `t` to `t + 1`. -/
def atStep (b t : ℕ) : Cert.Pre_segment_numbers.S8x2047.Idx := fun
  | 0 => ⟨b % 8, Nat.mod_lt _ (by decide)⟩
  | 1 => ⟨t % 2047, Nat.mod_lt _ (by decide)⟩

variable [FloatOps F]

/-- The precondition's two halves, per batch row, on the words. -/
theorem words_of_pre (x : S8x2048x512.Idx → F .f32) (w : S8x2048.Idx → BitVec 32) (h : Cert.Pre_segment_numbers.fn (F := F) x w = fun _ => 1#1) (b : ℕ) :
    w (at2 b 0) = 0#32 ∧ ∀ t < 2047, w (at2 b (t + 1)) - w (at2 b t) = 0#32 ∨ w (at2 b (t + 1)) - w (at2 b t) = 1#32 := by
  have e := congrFun h (fun a => a.elim0)
  unfold Cert.Pre_segment_numbers.fn at e
  obtain ⟨e0, e1⟩ := IntOp.andi_eq_one.1 e
  constructor
  · have e2 : shapeCast Cert.Pre_segment_numbers.S8 (extractStridedSlice Cert.Pre_segment_numbers.S8x1 ![0, 0] w slices_S8x2048_S8x1_0_0) shapeCasts_S8x1_S8 (atB b) = 0#32 :=
      IntOp.cmpi_eq.1 (Host.reduce_andi_all _ _ _ _ _ e0 (atB b))
    let k : Cert.Pre_segment_numbers.S8x1.Idx := fun | 0 => ⟨b % 8, Nat.mod_lt _ (by decide)⟩ | 1 => ⟨0, by decide⟩
    rw [shapeCast_apply _ _ (atB b) k (by rw [Shape.rowMajor_val_two, Shape.rowMajor_val_one]; show b % 8 * 1 + 0 = b % 8; omega),
      extractStridedSlice_apply _ _ _ k (at2 b 0) (by
        intro a
        fin_cases a
        · show b % 8 = 0 + b % 8; omega
        · rfl)] at e2
    exact e2
  · intro t ht
    have e2 := IntOp.ori_eq_one.1 (Host.reduce_andi_all _ _ _ _ _ e1 (atStep b t))
    have e3 : extractStridedSlice Cert.Pre_segment_numbers.S8x2047 ![0, 1] w slices_S8x2048_S8x2047_0_1 (atStep b t) = w (at2 b (t + 1)) :=
      extractStridedSlice_apply _ _ _ _ _ (by
        intro a
        fin_cases a
        · show b % 8 = 0 + b % 8; omega
        · show (t + 1) % 2048 = 1 + t % 2047; omega)
    have e4 : extractStridedSlice Cert.Pre_segment_numbers.S8x2047 ![0, 0] w slices_S8x2048_S8x2047_0_0 (atStep b t) = w (at2 b t) :=
      extractStridedSlice_apply _ _ _ _ _ (by
        intro a
        fin_cases a
        · show b % 8 = 0 + b % 8; omega
        · show t % 2048 = 0 + t % 2047; omega)
    rw [← e3, ← e4]
    exact e2.imp IntOp.cmpi_eq.1 IntOp.cmpi_eq.1

end

variable (m : (ℓ : Loc nD τ sig) → Buf (Elt F) ℓ)

/-- The precondition gives what the proof asks of the launch memory. -/
theorem ok_of_pre [FloatOps F] (h : ∀ c : Dev nD, Cert.Pre_segment_numbers.fn (F := F) (m (aLoc c)) (m (bLoc c)) = fun _ => 1#1) : PreOK m := fun d b =>
  steps_of_words (fun t => (m (bLoc d) : S8x2048.Idx → BitVec 32) (at2 b t)) (words_of_pre _ _ (h d) b).1 (words_of_pre _ _ (h d) b).2

end Cert.Proof
-- ==== Proof.Same.lean ====
module

public import proofs.«01_k».proof.Proof.Pre
public import proofs.«01_k».proof.Proof.Gen.Kernel

/-! The compiled kernel and the idealized one are one program: the same body, so the same body table. -/

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

set_option maxHeartbeats 4000000 in
/-- The two programs' bodies are the same. -/
theorem body_same : @Cert.Kernel.cc0_sc_pool F _ _ = @Cert.KernelIdeal.cc0_sc_pool F _ _ := rfl

attribute [local irreducible] Cert.Kernel.cc0_sc_pool Cert.KernelIdeal.cc0_sc_pool

/-- The body table of a body. -/
def tableOf (body : (i : grid0.Coords) → Prog (TpuEff nD τ sig (Elt F) Λ₀ (.scVector ((i 0).castLE hcore0) ((i 1).castLE hsub0))) PUnit) : Defs nD τ sig (Elt F) Λ₀
  | .scVector c s, 0, _ => SparseCore.onTile hcore0 hsub0 (fun c s => body (fun | 0 => c | 1 => s | ⟨_ + 2, h⟩ => absurd h (Nat.not_lt.2 (Nat.le_add_left _ _)))) ⟨⟩ c s
  | _, ℓ, a => .op (.call ℓ a) .ret

/-- The idealized program's body table, -/
theorem table_ideal : @Cert.KernelIdeal.defs₀ F _ _ = tableOf fun i => Cert.KernelIdeal.cc0_sc_pool i (Memref.whole main_v0_scv) (Memref.isWhole_whole _) (Memref.whole main_v1_scv) (Memref.isWhole_whole _) (Memref.whole main_v2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1 cc0_scoped2 := rfl

/-- and the compiled one's, are of that form. -/
theorem table_kernel : @Cert.Kernel.defs₀ F _ _ = tableOf fun i => Cert.Kernel.cc0_sc_pool i (Memref.whole main_v0_scv) (Memref.isWhole_whole _) (Memref.whole main_v1_scv) (Memref.isWhole_whole _) (Memref.whole main_v2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1 cc0_scoped2 := rfl

/-- So their body tables are. -/
theorem table_same : @Cert.Kernel.defs₀ F _ _ = @Cert.KernelIdeal.defs₀ F _ _ :=
  table_kernel.trans ((congrArg (fun b : type_of% (@Cert.KernelIdeal.cc0_sc_pool F _ _) => tableOf fun i => b i (Memref.whole main_v0_scv) (Memref.isWhole_whole _) (Memref.whole main_v1_scv) (Memref.isWhole_whole _) (Memref.whole main_v2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scoped0 cc0_scoped1 cc0_scoped2) body_same).trans table_ideal.symm)

attribute [local irreducible] Cert.Kernel.defs₀ Cert.KernelIdeal.defs₀

/-- The tables with the launch's own bodies are the same, -/
theorem defs_same : Cert.Kernel.defs (F := F) = Cert.KernelIdeal.defs (F := F) :=
  congrArg (fun d : Defs nD τ sig (Elt F) Λ₀ => (Cert.KernelIdeal.sc (F := F)).defs (Pipeline.defs Cert.KernelIdeal.pcfgs d)) table_same

/-- and so are the threads. -/
theorem threads_same : Cert.Kernel.threads (F := F) = Cert.KernelIdeal.threads (F := F) := rfl

end Cert.Proof
-- ==== Proof.Frames.lean ====
module

public import proofs.«01_k».proof.Proof.Same
public import proofs.«01_k».proof.Proof.Gen.ReferenceIdeal
public import proofs.«01_k».proof.Proof.Gen.ReferenceIdeal.Run

/-! The frames: the kernel, as compiled and as idealized, and the reference terminate, keep their arguments and leave every semaphore at
    zero. -/

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The idealized kernel, of the given segment numbers: it terminates, keeps its arguments, and every semaphore ends at zero. -/
theorem frame_kernelIdeal : Cert.quiescent_KernelIdeal := fun m ρ h =>
  (θ_run Cert.KernelIdeal.defs _ _).mono (fun _ q => ⟨fun c => ⟨(q.1 c).1, (q.1 c).2.1⟩, q.2⟩) (run_main (F := Ideal) m ρ (ok_of_pre m h))

attribute [local irreducible] Cert.Kernel.defs Cert.KernelIdeal.defs

/-- The kernel on words likewise: the program is the same one. -/
theorem frame_kernel : Cert.quiescent_Kernel := fun m ρ h => by
  show θ_run (Cert.Kernel.defs (F := Bits)) (Cert.KernelIdeal.threads (F := Bits)) ⟨m, fun _ => 0, ρ⟩ _
  rw [defs_same (F := Bits)]
  exact (θ_run Cert.KernelIdeal.defs _ _).mono (fun _ q => ⟨fun c => ⟨(q.1 c).1, (q.1 c).2.1⟩, q.2⟩) (run_main (F := Bits) m ρ (ok_of_pre m h))

/-- The reference terminates, keeps its arguments and touches no semaphore. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- The same of the segment numbers alone. -/
theorem frame_reference_pre : Cert.quiescent_ReferenceIdeal_pre_segment_numbers := fun m ρ _ => frame_reference m ρ trivial

end Cert.Proof
-- ==== Proof.Arith.lean ====
module

public import proofs.«01_k».proof.Proof.Block
public import Idealize.ShloMosaic.PureOps.Ideal
public import Idealize.ShloMosaic.PureOps.Ideal.Laws
public import Idealize.ShloMosaic.Lib.IdealHost

/-! The means over the extended reals. Of a segment that the row holds, the sum of its rows, times the reciprocal of their number and a
    small constant, is the sum over all the row's positions of each one's weight times its row, the weight being one in the segment and
    zero outside, divided by the same number and constant. Of a segment that the row does not hold both are zero. -/

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open scoped BigOperators

/-- The constant added to a count is a positive real. -/
theorem eps_pos : ∃ e : ℝ, 0 < e ∧ Ideal.ofBits .f32 0x3089705F#32 = (e : EReal) := by
  refine ⟨_, ?_, by simp [Ideal.ofBits, Ideal.ieee]; rfl⟩
  positivity

theorem oneF_eq : (oneF : Ideal .f32) = (1 : EReal) := by
  simp [oneF, Ideal.ofBits, Ideal.ieee, -EReal.coe_mul]; norm_num

theorem zeroF_eq : (zeroF : Ideal .f32) = (0 : EReal) := by
  simp [zeroF]

/-- A nonnegative real factor comes out of a finite sum. -/
theorem sum_scale {ι : Type} (k : ℝ) (hk : 0 ≤ k) (s : Finset ι) (f : ι → EReal) : ∑ i ∈ s, (k : EReal) * f i = (k : EReal) * ∑ i ∈ s, f i := by
  classical
  induction s using Finset.induction_on with
  | empty => simp
  | insert a s ha ih =>
    rw [Finset.sum_insert ha, Finset.sum_insert ha, ih, EReal.left_distrib_of_nonneg_of_ne_top (EReal.coe_nonneg.2 hk) (EReal.coe_ne_top k)]

/-- The weight of a position in segment `n`. -/
def weight (seg : ℕ → ℕ) (n t : ℕ) : EReal := if seg t = n then 1 else 0

/-- The number of positions in segment `n`, as a sum of weights, is a nonnegative real. -/
theorem count_real (seg : ℕ → ℕ) (n N : ℕ) : ∃ k : ℝ, 0 ≤ k ∧ ∑ t ∈ Finset.range N, weight seg n t = (k : EReal) := by
  induction N with
  | zero => exact ⟨0, le_refl 0, by simp⟩
  | succ N ih =>
    obtain ⟨k, hk, e⟩ := ih
    rw [Finset.sum_range_succ, e]
    unfold weight
    split
    · exact ⟨k + 1, by positivity, by rw [EReal.coe_add, EReal.coe_one]⟩
    · exact ⟨k, hk, by rw [add_zero]⟩

/-- The mean a segment has in the specification. -/
def specMean (x : ℕ → EReal) (seg : ℕ → ℕ) (n : ℕ) : EReal :=
  ∑ t ∈ Finset.range 2048, Ideal.div (weight seg n t) ((∑ u ∈ Finset.range 2048, weight seg n u) + Ideal.ofBits .f32 0x3089705F#32) * x t

/-- The kernel's mean is the specification's. -/
theorem mean_eq (row : ℕ → ℕ → Ideal .f32) (seg : ℕ → ℕ) (hs : Steps seg) (n c : ℕ) : mean row seg n c = specMean (fun t => row t c) seg n := by
  obtain ⟨e, he, eqe⟩ := eps_pos
  obtain ⟨k, hk, eqk⟩ := count_real seg n 2048
  have hpos : 0 < k + e := by linarith
  have hd : ((k + e : ℝ) : EReal) ≠ 0 := by rw [Ne, EReal.coe_eq_zero]; exact hpos.ne'
  have hinv : ((k + e : ℝ) : EReal)⁻¹ = (((k + e)⁻¹ : ℝ) : EReal) := (EReal.coe_inv _).symm
  have hspec : specMean (fun t => row t c) seg n = (((k + e)⁻¹ : ℝ) : EReal) * ∑ t ∈ Finset.range 2048, if seg t = n then row t c else 0 := by
    unfold specMean
    rw [eqk, eqe, ← EReal.coe_add, ← sum_scale _ (inv_nonneg.2 hpos.le)]
    refine Finset.sum_congr rfl fun t _ => ?_
    unfold Ideal.div weight
    rw [if_neg hd, hinv]
    split
    · rw [one_mul]
    · rw [zero_mul, zero_mul, mul_zero]
  rw [hspec]
  unfold mean
  split
  · rename_i hn
    obtain ⟨u, hu, hun⟩ := hs.hit (le_refl 2047) hn
    have hr : ∀ h : ℕ → EReal, run (α := EReal) (· + ·) seg h n 2048 = ∑ t ∈ Finset.range 2048, if seg t = n then h t else 0 := fun h =>
      run_eq_sum hs h n 2048 (le_refl _) ⟨u, by omega, hun⟩
    have h1 : run (FloatOps.addf (F := Ideal)) seg (fun u => row u c) n 2048 = ∑ t ∈ Finset.range 2048, if seg t = n then row t c else 0 := hr _
    have h2 : run (FloatOps.addf (F := Ideal) (φ := .f32)) seg (fun _ => oneF) n 2048 = (k : EReal) := by
      rw [← eqk]; exact (hr _).trans (Finset.sum_congr rfl fun t _ => by unfold weight; rw [oneF_eq])
    rw [h1, h2]
    show _ * Ideal.div (Ideal.ofBits .f32 0x3f800000#32) ((k : EReal) + Ideal.ofBits .f32 0x3089705f#32) = _
    rw [eqe, ← EReal.coe_add, mul_comm]
    congr 1
    unfold Ideal.div
    rw [if_neg hd, hinv]
    exact (congrArg (· * _) oneF_eq).trans (one_mul _)
  · rename_i hn
    rw [zeroF_eq, Finset.sum_eq_zero, mul_zero]
    intro t ht
    rw [if_neg]
    intro ht'
    have := hs.mono (s := t) (t := 2047) (by have := Finset.mem_range.1 ht; omega) (le_refl _)
    omega

end Cert.Proof
-- ==== Proof.RefValue.lean ====
module

public import proofs.«01_k».proof.Proof.Pre
public import proofs.«01_k».proof.Proof.Arith
public import proofs.«01_k».proof.Proof.Gen.ReferenceIdeal
public import proofs.«01_k».proof.Proof.Gen.ReferenceIdeal.Run
public import Idealize.ShloMosaic.Lib.Pointwise.Contract
public import Idealize.ShloMosaic.Lib.ValueIdx
public import Idealize.ShloMosaic.PureOps.Ideal.Laws

/-! The reference's result over the extended reals, entry by entry: the specification's mean of each segment. -/

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open scoped BigOperators

section

open Cert.ReferenceIdeal (S1x1x2048 S8x2048x1 S8x2048x2048 S8x1x2048 S2048x8x512)
open Cert.ReferenceIdeal.Gen (bcast_S2048_S1x1x2048_2 bcast_S8x2048_S8x2048x1_0_1 bcast_S1x1x2048_S8x2048x2048_0_1_2 bcast_S8x2048x1_S8x2048x2048_0_1_2 bcast_S_S8x2048x2048 reducesTo_S8x2048x2048_S8x2048_d1 bcast_S8x2048_S8x1x2048_0_2 bcast_S_S8x1x2048 bcast_S8x1x2048_S8x2048x2048_0_1_2 transposes_S8x2048x512_S2048x8x512_1_0_2 transposes_S2048x8x512_S8x2048x512_1_0_2)
open Cert.ReferenceIdeal (dot_S8x2048x2048_S8x2048x512_S8x2048x512_1_1_2_2_0_0)

/-- A place of the table of weights: batch row `b`, position `t`, segment `n`. -/
def atW (b t n : ℕ) : S8x2048x2048.Idx := fun
  | 0 => ⟨b % 8, Nat.mod_lt _ (by decide)⟩
  | 1 => ⟨t % 2048, Nat.mod_lt _ (by decide)⟩
  | 2 => ⟨n % 2048, Nat.mod_lt _ (by decide)⟩

variable (x : S8x2048x512.Idx → Ideal .f32) (w : S8x2048.Idx → BitVec 32)

/-- Segment `n` less the segment of a position. -/
def offs : FVec Ideal S8x2048x2048 .f32 :=
  subf (broadcastInDim S8x2048x2048 ![0, 1, 2] bcast_S1x1x2048_S8x2048x2048_0_1_2 (broadcastInDim S1x1x2048 ![2] bcast_S2048_S1x1x2048_2 (sitofp .f32 (iotaInDim S2048 32 0))))
    (broadcastInDim S8x2048x2048 ![0, 1, 2] bcast_S8x2048x1_S8x2048x2048_0_1_2 (broadcastInDim S8x2048x1 ![0, 1] bcast_S8x2048_S8x2048x1_0_1 (sitofp .f32 w)))
/-- The weights. -/
def bars : FVec Ideal S8x2048x2048 .f32 :=
  select (cmpf .oeq (offs w) (broadcastInDim S8x2048x2048 ![] bcast_S_S8x2048x2048 (constant S_ .f32 0x00000000#32)))
    (subf (broadcastInDim S8x2048x2048 ![] bcast_S_S8x2048x2048 (constant S_ .f32 0x3F800000#32)) (offs w)) (broadcastInDim S8x2048x2048 ![] bcast_S_S8x2048x2048 (constant S_ .f32 0x00000000#32))
/-- The weights, each divided by its segment's number of positions and the small constant. -/
def scaled : FVec Ideal S8x2048x2048 .f32 :=
  Host.divf (bars w) (broadcastInDim S8x2048x2048 ![0, 1, 2] bcast_S8x1x2048_S8x2048x2048_0_1_2 (addf (broadcastInDim S8x1x2048 ![0, 2] bcast_S8x2048_S8x1x2048_0_2
    (Host.reduceAdd (bars w) (constant S_ .f32 0x00000000#32) reducesTo_S8x2048x2048_S8x2048_d1 Cert.ReferenceIdeal.Gen.h_S_)) (broadcastInDim S8x1x2048 ![] bcast_S_S8x1x2048 (constant S_ .f32 0x3089705F#32))))
/-- The reference's result. -/
def refVal : FVec Ideal S8x2048x512 .f32 :=
  transpose S8x2048x512 [1, 0, 2] (transpose S2048x8x512 [1, 0, 2] (Host.dotGeneral dot_S8x2048x2048_S8x2048x512_S8x2048x512_1_1_2_2_0_0 none (scaled w) x)
    transposes_S8x2048x512_S2048x8x512_1_0_2) transposes_S2048x8x512_S8x2048x512_1_0_2

variable {w} (b : ℕ)

theorem offs_apply (t n : ℕ) (ht : t < 2048) (hn : n < 2048) (hw : (w (at2 b t)).toNat < 2048) :
    offs w (atW b t n) = (((n : ℝ) - ((w (at2 b t)).toNat : ℝ) : ℝ) : EReal) := by
  unfold offs
  let k1 : S1x1x2048.Idx := fun | 0 => ⟨0, by decide⟩ | 1 => ⟨0, by decide⟩ | 2 => ⟨n % 2048, Nat.mod_lt _ (by decide)⟩
  let k2 : S2048.Idx := fun | 0 => ⟨n % 2048, Nat.mod_lt _ (by decide)⟩
  let k3 : S8x2048x1.Idx := fun | 0 => ⟨b % 8, Nat.mod_lt _ (by decide)⟩ | 1 => ⟨t % 2048, Nat.mod_lt _ (by decide)⟩ | 2 => ⟨0, by decide⟩
  have e1 : (BitVec.ofNat 32 (n % 2048)).toInt = (n : ℤ) := by
    rw [BitVec.toInt_eq_toNat_of_lt (by rw [BitVec.toNat_ofNat]; omega), BitVec.toNat_ofNat]; omega
  have e2 : (w (at2 b t)).toInt = ((w (at2 b t)).toNat : ℤ) := BitVec.toInt_eq_toNat_of_lt (by omega)
  have e3 : broadcastInDim S8x2048x2048 ![0, 1, 2] bcast_S1x1x2048_S8x2048x2048_0_1_2 (broadcastInDim S1x1x2048 ![2] bcast_S2048_S1x1x2048_2 (sitofp (F := Ideal) .f32 (iotaInDim S2048 32 0))) (atW b t n) = (((n : ℝ)) : EReal) := by
    rw [broadcastInDim_apply _ bcast_S1x1x2048_S8x2048x2048_0_1_2 _ _ k1 (by intro a; fin_cases a <;> simp [k1, atW]),
      broadcastInDim_apply _ bcast_S2048_S1x1x2048_2 _ _ k2 (by intro a; fin_cases a; simp [k1, k2])]
    refine (show _ = (((BitVec.ofNat 32 (n % 2048)).toInt : ℝ) : EReal) from rfl).trans ?_
    rw [e1]; rfl
  have e4 : broadcastInDim S8x2048x2048 ![0, 1, 2] bcast_S8x2048x1_S8x2048x2048_0_1_2 (broadcastInDim S8x2048x1 ![0, 1] bcast_S8x2048_S8x2048x1_0_1 (sitofp (F := Ideal) .f32 w)) (atW b t n) = (((w (at2 b t)).toNat : ℝ) : EReal) := by
    rw [broadcastInDim_apply _ bcast_S8x2048x1_S8x2048x2048_0_1_2 _ _ k3 (by intro a; fin_cases a <;> simp [k3, atW]),
      broadcastInDim_apply _ bcast_S8x2048_S8x2048x1_0_1 _ _ (at2 b t) (by intro a; fin_cases a <;> simp [k3, at2])]
    refine (show _ = (((w (at2 b t)).toInt : ℝ) : EReal) from rfl).trans ?_
    rw [e2]; rfl
  rw [ValueIdx.subf_apply, e3, e4, EReal.coe_sub]

/-- The table's weight is one where the position is in the segment and zero elsewhere. -/
theorem bars_apply (t n : ℕ) (ht : t < 2048) (hn : n < 2048) (hw : (w (at2 b t)).toNat < 2048) :
    bars w (atW b t n) = weight (fun t => (w (at2 b t)).toNat) n t := by
  unfold bars
  have e := offs_apply b t n ht hn hw
  rw [ValueIdx.select_apply, ValueIdx.cmpf_apply, ValueIdx.subf_apply, e, ValueIdx.broadcastInDim_scalar_apply, ValueIdx.broadcastInDim_scalar_apply]
  unfold weight
  have hz : (constant (F := Ideal) S_ .f32 0x00000000#32 ValueIdx.ix0 : EReal) = 0 := zeroF_eq
  have ho : (constant (F := Ideal) S_ .f32 0x3F800000#32 ValueIdx.ix0 : EReal) = 1 := oneF_eq
  rw [hz, ho]
  show Scalar.select (Ideal.cmp .oeq _ 0) _ _ = _
  unfold Scalar.select Ideal.cmp
  by_cases h : (w (at2 b t)).toNat = n
  · rw [if_pos h, h, sub_self, EReal.coe_zero, if_pos (by simp), sub_zero]
  · have hne : (((n : ℝ) - ((w (at2 b t)).toNat : ℝ) : ℝ) : EReal) ≠ 0 := by
      rw [Ne, EReal.coe_eq_zero, sub_eq_zero, Nat.cast_inj]
      exact fun h' => h h'.symm
    rw [if_neg h, if_neg (by simp only [decide_eq_false hne]; decide)]

/-- The number of positions of a segment, as the table's sum down a column. -/
theorem counts_apply (hw : ∀ t, (w (at2 b t)).toNat < 2048) (n : ℕ) (hn : n < 2048) :
    Host.reduceAdd (bars w) (constant S_ .f32 0x00000000#32) reducesTo_S8x2048x2048_S8x2048_d1 Cert.ReferenceIdeal.Gen.h_S_ (at2 b n)
      = ∑ u ∈ Finset.range 2048, weight (fun t => (w (at2 b t)).toNat) n u := by
  have hr : S8x2048x2048.Reduces [1] S8x2048 := by decide
  rw [ValueIdx.hostReduceAdd_apply, Ideal.hostReduceAdd_single _ hr]
  have hz : (constant (F := Ideal) S_ .f32 0x00000000#32 (Shape.Idx.first Cert.ReferenceIdeal.Gen.h_S_) : EReal) = 0 := zeroF_eq
  rw [hz, zero_add, Finset.sum_range]
  refine Finset.sum_congr rfl fun u _ => ?_
  have hi : hr.lift (at2 b n) u = atW b u.val n := by
    funext a
    apply Fin.ext
    rw [Shape.Reduces.lift_val]
    fin_cases a
    · rfl
    · exact (Nat.mod_eq_of_lt u.isLt).symm
    · rfl
  rw [hi]
  exact bars_apply b u.val n u.isLt hn (hw u.val)

/-- The scaled weights. -/
theorem scaled_apply (hw : ∀ t, (w (at2 b t)).toNat < 2048) (t n : ℕ) (ht : t < 2048) (hn : n < 2048) :
    scaled w (atW b t n) = Ideal.div (weight (fun t => (w (at2 b t)).toNat) n t)
      ((∑ u ∈ Finset.range 2048, weight (fun t => (w (at2 b t)).toNat) n u) + Ideal.ofBits .f32 0x3089705F#32) := by
  let k : S8x1x2048.Idx := fun | 0 => ⟨b % 8, Nat.mod_lt _ (by decide)⟩ | 1 => ⟨0, by decide⟩ | 2 => ⟨n % 2048, Nat.mod_lt _ (by decide)⟩
  unfold scaled
  rw [ValueIdx.hostDivf_apply, bars_apply b t n ht hn (hw t),
    broadcastInDim_apply _ bcast_S8x1x2048_S8x2048x2048_0_1_2 _ _ k (by intro a; fin_cases a <;> simp [k, atW]), ValueIdx.addf_apply,
    broadcastInDim_apply _ bcast_S8x2048_S8x1x2048_0_2 _ _ (at2 b n) (by intro a; fin_cases a <;> simp [k, at2]),
    counts_apply b hw n hn, ValueIdx.broadcastInDim_scalar_apply]
  rfl

/-- The specification's mean, as the reference computes it. -/
theorem refVal_apply (hw : ∀ t, (w (at2 b t)).toNat < 2048) (n c : ℕ) (hn : n < 2048) :
    refVal x w (at3 b n c) = specMean (fun t => x (at3 b t c)) (fun t => (w (at2 b t)).toNat) n := by
  let k1 : S2048x8x512.Idx := fun | 0 => ⟨n % 2048, Nat.mod_lt _ (by decide)⟩ | 1 => ⟨b % 8, Nat.mod_lt _ (by decide)⟩ | 2 => ⟨c % 512, Nat.mod_lt _ (by decide)⟩
  unfold refVal
  rw [transpose_apply _ _ _ _ k1 (by intro a; fin_cases a <;> simp [k1, at3]), transpose_apply _ _ _ k1 (at3 b n c) (by intro a; fin_cases a <;> rfl)]
  show FloatOps.dotGeneral _ none _ (scaled w) x (at3 b n c) = _
  rw [Ideal.dotGeneral_apply, DotDims.sum_contr₁ (a := (1 : Fin S8x2048x2048.rank)) _ rfl (K := 2048) rfl]
  unfold specMean
  rw [Finset.sum_range]
  refine Finset.sum_congr rfl fun t _ => ?_
  have hl : dot_S8x2048x2048_S8x2048x512_S8x2048x512_1_1_2_2_0_0.lhsIdx (at3 b n c) (DotDims.contrIdx₁ (a := (1 : Fin S8x2048x2048.rank)) _ rfl (K := 2048) rfl t) = atW b t.val n := by
    funext a
    apply Fin.ext
    fin_cases a
    · rfl
    · exact (Nat.mod_eq_of_lt t.isLt).symm
    · rfl
  have hr : dot_S8x2048x2048_S8x2048x512_S8x2048x512_1_1_2_2_0_0.rhsIdx (at3 b n c) (DotDims.contrIdx₁ (a := (1 : Fin S8x2048x2048.rank)) _ rfl (K := 2048) rfl t) = at3 b t.val c := by
    funext a
    apply Fin.ext
    fin_cases a
    · rfl
    · exact (Nat.mod_eq_of_lt t.isLt).symm
    · rfl
  rw [hl, hr, scaled_apply b hw t.val n t.isLt hn]

end

end Cert.Proof
-- ==== Proof.Equal.lean ====
module

public import proofs.«01_k».proof.Proof.RefValue

/-! The kernel's result and the reference's over the extended reals, from memories that agree on the arguments: both programs end with the
    means of the segments. -/

@[expose] public section

set_option maxRecDepth 16384

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt Ideal) ℓ)

/-- The kernel's result is the reference's value of the same arguments. -/
theorem pooled_eq (hpre : PreOK m) (d : Dev nD) : pooled m d = refVal (m (aLoc d)) (m (bLoc d)) := by
  funext y
  have hb : (y 0).val < 8 := (y 0).isLt
  have hn : (y 1).val < 2048 := (y 1).isLt
  have hc : (y 2).val < 512 := (y 2).isLt
  have hy : y = at3 (y 0).val (y 1).val (y 2).val := by
    funext a
    apply Fin.ext
    fin_cases a
    · exact (Nat.mod_eq_of_lt hb).symm
    · exact (Nat.mod_eq_of_lt hn).symm
    · exact (Nat.mod_eq_of_lt hc).symm
  have hs := hpre d (y 0).val
  have hw : ∀ t, segN m d (y 0).val t < 2048 := fun t => by
    have h1 : segN m d (y 0).val t = segN m d (y 0).val (t % 2048) := by
      unfold segN
      exact congrArg (fun i => ((m (bLoc d) : S8x2048.Idx → BitVec 32) i).toNat) (by
        funext a
        apply Fin.ext
        fin_cases a
        · rfl
        · exact (Nat.mod_mod t 2048).symm)
    have h2 := hs.le_self (t := t % 2048) (by omega)
    omega
  conv_rhs => rw [hy]
  refine Eq.trans ?_ (refVal_apply (m (aLoc d)) (y 0).val hw (y 1).val (y 2).val hn).symm
  refine (mean_eq _ _ hs _ _).trans ?_
  unfold specMean
  refine Finset.sum_congr rfl fun t ht => ?_
  have ht' : t < 2048 := Finset.mem_range.1 ht
  have hx : hidN m d ((y 0).val * 2048 + t) (y 2).val = (m (aLoc d) : S8x2048x512.Idx → EReal) (at3 (y 0).val t (y 2).val) := by
    unfold hidN
    exact congrArg (m (aLoc d) : S8x2048x512.Idx → EReal) (by
      funext a
      apply Fin.ext
      fin_cases a
      · show ((y 0).val * 2048 + t) / 2048 % 8 = (y 0).val % 8; omega
      · show ((y 0).val * 2048 + t) % 2048 = t % 2048; omega
      · rfl)
  exact congrArg (fun z : EReal => _ * z) hx

/-- The kernel's result over the extended reals is the reference's. -/
theorem algebraic : Cert.algebraic_KernelIdeal_ReferenceIdeal := fun m g m' g' h hag =>
  ⟨fun c => pooled m c,
    (θ_run Cert.KernelIdeal.defs _ _).mono (fun _ q c => ⟨(q.1 c).2.2, (q.1 c).1, (q.1 c).2.1⟩) (run_main (F := Ideal) m g (ok_of_pre m h)),
    (θ_run Cert.ReferenceIdeal.defs _ _).mono (fun _ q c => ⟨(q c).1.trans (by
      rw [(hag c).1, (hag c).2]
      exact (pooled_eq m (ok_of_pre m h) c).symm), (q c).2⟩) (Cert.ReferenceIdeal.Value.run (F := Ideal) m' g')⟩

end Cert.Proof
-- ==== Proof.Totals.lean ====
module

public import proofs.«01_k».proof.Defs
public import proofs.«01_k».proof.Proof.Gen.CountsIdeal.Value
public import proofs.«01_k».proof.Proof.Gen.CountsReferenceIdeal.Run
public import proofs.«01_k».proof.Proof.Gen.CountsReferenceIdeal.Read
public import proofs.«01_k».proof.Proof.Gen.Counts.Frame
public import Idealize.ShloMosaic.Lib.Pipeline.ValueKit
public import Idealize.ShloMosaic.Lib.Claim
public import Idealize.ShloMosaic.Lib.IdealHost
public import Idealize.ShloMosaic.Lib.KernelVsHost
public import Idealize.ShloMosaic.Lib.Pointwise

/-! The totals: from the boundary counts of the batch rows, the call that closes the kernel returns their sum, the number of kept
    positions, and for every row the positions below its count. Each of the three is the reference's over the extended reals. -/

@[expose] public section

noncomputable section

namespace Cert.Totals

open Cert.CountsIdeal Cert.CountsIdeal.Gen
open Idealize.ShloMosaic Idealize.ShloMosaic.TcCoe Idealize.SL.Sem
open scoped BigOperators

variable (m : (ℓ : Loc nD τ sig) → Buf (Elt Ideal) ℓ) (ρ : Dev nD → PrngReg)

/-- Every window's block is at the origin. -/
theorem idx : ∀ t : Fin cfg0.N, win0_0.index t = ![0, 0] ∧ win0_2.index t = ![0, 0] ∧ win0_4.index t = ![0, 0] ∧ win0_5.index t = ![0, 0]
    ∧ win0_6.index t = ![0, 0] :=
  (by decide +kernel : ∀ t : Fin grid0.N, _)

/-- The block of the counts is the whole argument. -/
theorem iblk0 (c : Dev nD) : iblk m c 0 t0_0 = m ((c : Thread nD τ).loc main_arg0) := by
  rw [← V_main_arg0 m c]
  blk_ext! [iblk, idx t0_0]

/-- The block of the mask is the whole argument. -/
theorem iblk2 (c : Dev nD) : iblk m c 2 t0_0 = m ((c : Thread nD τ).loc main_arg1) := by
  rw [← V_main_arg1 m c]
  blk_ext! [iblk, idx t0_0]

/-- The sum of all the numbers of a table laid in other shapes is the sum of the table. -/
theorem sum_shapeCast {s t : Shape} (x : s.Idx → EReal) (h : s.ShapeCasts t) : ∑ i, shapeCast t x h i = ∑ i, x i :=
  Fintype.sum_equiv (Shape.reshapeEquiv h) _ x fun _ => rfl

/-- The sum of a table, as an array of one place. -/
def total {s : Shape} (x : s.Idx → EReal) : S1x1.Idx → EReal := fun _ => ∑ i, x i

/-- The kernel's total of the counts is their sum. -/
theorem total_counts (x : Vec Ideal S8x1 .f32) : k0_pay17 (F := Ideal) x = total (s := S8x1) x := by
  funext j
  exact (Ideal.multiReduction_add_total (φ := .f32) _ 0x00000000#32 reduces_S1x8x1_S1 (by decide) (.inl rfl) rfl _).trans (sum_shapeCast (s := S8x1) x _)

/-- The kernel's total of the mask is its sum. -/
theorem total_mask (x : Vec Ideal S8x2048 .f32) : k0_pay1 (F := Ideal) x = total (s := S8x2048) x := by
  funext j
  exact (Ideal.multiReduction_add_total (φ := .f32) _ 0x00000000#32 reduces_S1x8x2048_S1 (by decide) (.inl rfl) rfl _).trans (sum_shapeCast (s := S8x2048) x _)

/-- The table of the kernel tells, as the reference's, the positions below the row's count. -/
theorem below (x : Vec Ideal S8x1 .f32) : k0_pay2 (F := Ideal) x = Cert.CountsReferenceIdeal.Read.val_main_v8 (F := Ideal) x := by
  funext j
  unfold k0_pay2
  dsimp only
  rw [sitofp_extui_eq_uitofp]
  have e1 : broadcastTo S8x2048 x broadcasts_S8x1_S8x2048 j = Cert.CountsReferenceIdeal.Read.val_main_v6 (F := Ideal) x j := by
    rw [Cert.CountsReferenceIdeal.Read.val_main_v6_apply, Cert.CountsReferenceIdeal.Read.val_main_v3_apply, Cert.CountsReferenceIdeal.Read.val_main_v0_apply]
    refine broadcastTo_apply _ _ _ _ fun a => ?_
    fin_cases a <;> simp
  have e2 : iota .tc S8x2048 32 [1] iota_S8x2048_d1_w32 j = BitVec.ofNat 32 (j 1).val := iota_single_apply ..
  show FloatOps.uitofp .f32 (FloatOps.cmpf (F := Ideal) (φ := .f32) .olt (FloatOps.sitofp .f32 (iota .tc S8x2048 32 [1] iota_S8x2048_d1_w32 j)) (broadcastTo S8x2048 x broadcasts_S8x1_S8x2048 j)) = _
  rw [e1, e2]
  rfl

/-- After the call the total of the counts is their sum. -/
theorem final4 (c : Dev nD) : (dats m 0 c).arrAt 4 cfg0.N = total (s := S8x1) (m ((c : Thread nD τ).loc main_arg0)) := by
  refine (dats m 0 c).arrAt_eq_of_after_last 4 t0_0 (by decide +kernel) _ fun j => ?_
  blk_simp
  rw [after0_4]
  unfold out0_4
  frame_out
  rw [iblk0, total_counts]

/-- After the call the total of the mask is its sum. -/
theorem final5 (c : Dev nD) : (dats m 0 c).arrAt 5 cfg0.N = total (s := S8x2048) (m ((c : Thread nD τ).loc main_arg1)) := by
  refine (dats m 0 c).arrAt_eq_of_after_last 5 t0_0 (by decide +kernel) _ fun j => ?_
  blk_simp
  rw [after0_5]
  unfold out0_5
  frame_out
  rw [iblk2, total_mask]

/-- After the call the third array tells the positions below the row's count. -/
theorem final6 (c : Dev nD) : (dats m 0 c).arrAt 6 cfg0.N = Cert.CountsReferenceIdeal.Read.val_main_v8 (F := Ideal) (m ((c : Thread nD τ).loc main_arg0)) := by
  rw [← below]
  refine (dats m 0 c).arrAt_eq_of_after_last 6 t0_0 (by decide +kernel) _ fun j => ?_
  blk_simp
  rw [after0_6]
  unfold out0_6
  frame_out
  rw [iblk0]

/-- The reference's total of the counts. -/
theorem ref_counts (x : Vec Ideal S8x1 .f32) : Cert.CountsReferenceIdeal.Read.val_main_v11 (F := Ideal) x = total (s := S8x1) x := by
  funext j
  refine (Cert.CountsReferenceIdeal.Read.val_main_v9_apply x _).trans ?_
  rw [Cert.CountsReferenceIdeal.Read.val_main_cst_apply]
  refine (congrArg₂ (· + ·) Ideal.ofBits_zero_f32 rfl).trans ((zero_add _).trans ?_)
  exact sum_shapeCast (s := S8x1) x _

/-- The reference's total of the mask. -/
theorem ref_mask (x : Vec Ideal S8x2048 .f32) : Cert.CountsReferenceIdeal.Read.val_main_v12 (F := Ideal) x = total (s := S8x2048) x := by
  funext j
  refine (Cert.CountsReferenceIdeal.Read.val_main_v10_apply x _).trans ?_
  rw [Cert.CountsReferenceIdeal.Read.val_main_cst_0_apply]
  exact (congrArg₂ (· + ·) Ideal.ofBits_zero_f32 rfl).trans (zero_add _)

/-- The three results of the call are the reference's over the extended reals. -/
theorem algebraic : Cert.algebraic_CountsIdeal_CountsReferenceIdeal := fun m g m' g' _ hag =>
  ⟨fun c => total (s := S8x1) (m ((c.tc : Thread nD τ).loc main_arg0)), fun c => total (s := S8x2048) (m ((c.tc : Thread nD τ).loc main_arg1)),
    fun c => Cert.CountsReferenceIdeal.Read.val_main_v8 (F := Ideal) (m ((c.tc : Thread nD τ).loc main_arg0)),
    (θ_run Cert.CountsIdeal.defs _ _).mono
      (fun _ h c => ⟨(h c).2.1.trans (final4 m c), (h c).2.2.1.trans (final5 m c), (h c).2.2.2.1.trans (final6 m c), (h c).2.2.2.2⟩)
      (Cert.CountsIdeal.Value.run_blocks m g),
    (θ_run Cert.CountsReferenceIdeal.defs _ _).mono
      (fun _ h c => ⟨(h c).1.trans (((Cert.CountsReferenceIdeal.Read.val_main_v11_eq (F := Ideal) _).trans (ref_counts _)).trans (congrArg (total (s := S8x1)) (hag c).1)),
        (h c).2.1.trans (((Cert.CountsReferenceIdeal.Read.val_main_v12_eq (F := Ideal) _).trans (ref_mask _)).trans (congrArg (total (s := S8x2048)) (hag c).2.1)),
        (h c).2.2.1.trans ((Cert.CountsReferenceIdeal.Read.val_main_v8_eq (F := Ideal) _).trans (congrArg (Cert.CountsReferenceIdeal.Read.val_main_v8 (F := Ideal)) (hag c).1)),
        (h c).2.2.2⟩)
      (Cert.CountsReferenceIdeal.Value.run (F := Ideal) m' g')⟩

/-- The call as compiled terminates and keeps its arguments. -/
theorem frame : Cert.quiescent_Counts := fun m ρ _ => Cert.Counts.Gen.frame m ρ

/-- The call as idealized terminates and keeps its arguments. -/
theorem frame_ideal : Cert.quiescent_CountsIdeal := fun m ρ _ => Cert.CountsIdeal.Gen.frame m ρ

/-- The reference of the totals terminates and keeps its arguments. -/
theorem frame_reference : Cert.quiescent_CountsReferenceIdeal := fun m ρ _ =>
  (θ_run Cert.CountsReferenceIdeal.defs _ _).mono (fun r h => ⟨fun c => (h c).2.2.2, sem_eq_zero_of_no_sems (by decide) r.2⟩) (Cert.CountsReferenceIdeal.Value.run (F := Ideal) m ρ)

end Cert.Totals
-- ==== Proof.Score.lean ====
module

public import proofs.«01_k».proof.Defs
public import proofs.«01_k».proof.Proof.Gen.BoundariesIdeal.Value
public import proofs.«01_k».proof.Proof.Gen.BoundariesReferenceIdeal.Run
public import proofs.«01_k».proof.Proof.Gen.BoundariesReferenceIdeal.Read
public import Idealize.ShloMosaic.Lib.Pipeline.ValueKit
public import Idealize.ShloMosaic.Lib.Claim
public import Idealize.ShloMosaic.Lib.IdealHost
public import Idealize.ShloMosaic.Lib.KernelVsHost
public import Idealize.ShloMosaic.Lib.Pointwise

@[expose] public section

noncomputable section

namespace Cert.Boundary

open Cert.BoundariesIdeal Cert.BoundariesIdeal.Gen Cert.BoundariesIdeal.Value
open Idealize.ShloMosaic Idealize.ShloMosaic.TcCoe Idealize.SL.Sem
open scoped BigOperators

variable (m : (ℓ : Loc nD τ sig) → Buf (Elt Ideal) ℓ)

/-- Where each window's block lies at a point of the grid. -/
theorem idx : ∀ t : Fin cfg0.N, win0_0.index t = ![t.val / 2, t.val % 2, 0] ∧ win0_1.index t = ![t.val / 2, t.val % 2, 0, 0]
    ∧ win0_2.index t = ![t.val / 2, t.val % 2, 0, 0] ∧ win0_3.index t = ![0, 0] ∧ win0_4.index t = ![0, 0] ∧ win0_5.index t = ![0, 0]
    ∧ win0_6.index t = ![0, 0] ∧ t.val / 2 < 8 :=
  (by decide +kernel : ∀ t : Fin grid0.N, _)

/-- The scores of a block: the predictor's outputs plus the noise, before the sigmoid. -/
abbrev score (c : Dev nD) (t : Fin cfg0.N) : FVec Ideal S1024x1 .f32 :=
  k0_pay7 (F := Ideal) (iblk m c 0 t) (iblk m c 3 t) (iblk m c 4 t) (iblk m c 5 t) (View.ld (iblk m c 6 t) (Rect.unit (s := S1x128) ![0, 0] S1x1.size inb_S1x128_S1x1_0_0)) (iblk m c 1 t)

/-- The place in the table of all positions of a block's row. -/
abbrev at_ (t : Fin cfg0.N) (k : Fin 1024) : S8x2048.Idx :=
  ix2 (⟨t.val / 2, (idx t).2.2.2.2.2.2.2⟩ : Fin 8) (⟨1024 * (t.val % 2) + k.val, by omega⟩ : Fin 2048)

/-- The scores of a block are the reference's at the block's place. -/
theorem score_apply (c : Dev nD) (t : Fin cfg0.N) (k : Fin 1024) :
    score m c t (ix2 k 0) = Cert.BoundariesReferenceIdeal.Read.val_main_v14 (F := Ideal) (m ((c : Thread nD τ).loc main_arg0)) (m ((c : Thread nD τ).loc main_arg2))
      (m ((c : Thread nD τ).loc main_arg3)) (m ((c : Thread nD τ).loc main_arg4)) (m ((c : Thread nD τ).loc main_arg5)) (m ((c : Thread nD τ).loc main_arg6)) (at_ t k) := by
  unfold score
  pointwise [k0_pay7, Cert.BoundariesReferenceIdeal.Read.val_main_v14, Cert.BoundariesReferenceIdeal.Read.val_main_v13, Cert.BoundariesReferenceIdeal.Read.val_main_v12,
    Cert.BoundariesReferenceIdeal.Read.val_main_v11, Cert.BoundariesReferenceIdeal.Read.val_main_v10, Cert.BoundariesReferenceIdeal.Read.val_main_v9,
    Cert.BoundariesReferenceIdeal.Read.val_main_v8, Cert.BoundariesReferenceIdeal.Read.val_main_v7, Cert.BoundariesReferenceIdeal.Read.val_main_v6,
    Cert.BoundariesReferenceIdeal.Read.val_main_v5, Cert.BoundariesReferenceIdeal.Read.val_main_v4, Cert.BoundariesReferenceIdeal.Read.val_main_v3,
    Cert.BoundariesReferenceIdeal.Read.val_main_v2, Cert.BoundariesReferenceIdeal.Read.val_main_v1, Cert.BoundariesReferenceIdeal.Read.val_main_v0,
    Cert.BoundariesReferenceIdeal.Read.val_main_call0_v0, Cert.BoundariesReferenceIdeal.Read.val_main_call0_cst]
  simp only [at_, zero_sub]
  blk_point [iblk, V, idx t]

/-- The reference's boundaries, after the mask. -/
abbrev marks (c : Dev nD) : FVec Ideal S8x2048 .f32 :=
  Cert.BoundariesReferenceIdeal.Read.val_main_v28 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- The block of the mask is the mask's at the block's place. -/
theorem mask_apply (c : Dev nD) (t : Fin cfg0.N) (k : Fin 1024) :
    iblk m c 2 t (ix4 0 0 k 0) = m ((c : Thread nD τ).loc main_arg1) (at_ t k) := by
  simp only [at_]
  blk_point [iblk, V, idx t]

/-- A sigmoid is a real number. -/
theorem logistic_real (s : EReal) : ∃ r : ℝ, Ideal.logistic s = r := by
  induction s using EReal.rec with
  | bot => exact ⟨0, Ideal.logistic_bot⟩
  | coe x => exact ⟨_, Ideal.logistic_coe x⟩
  | top => exact ⟨1, Ideal.logistic_top⟩

/-- A bit as a number is a real number, the same one whether widened first or not. -/
theorem bit_real (b : Bool) : ∃ r : ℝ, FloatOps.sitofp (F := Ideal) .f32 (BitVec.setWidth 32 (BitVec.ofBool b)) = ((r : EReal) : Ideal .f32)
    ∧ FloatOps.uitofp (F := Ideal) .f32 (BitVec.ofBool b) = ((r : EReal) : Ideal .f32) := by
  refine ⟨(((BitVec.ofBool b).toNat : ℕ) : ℝ), ?_, rfl⟩
  change (((((BitVec.ofBool b).setWidth 32).toInt : ℤ) : ℝ) : EReal) = _
  rw [toInt_setWidth_bit]
  norm_cast

/-- A number divided by one. -/
theorem div_one' (s : EReal) : Ideal.div s 1 = s := by
  rw [Ideal.div, if_neg one_ne_zero, inv_one, mul_one]

/-- Where the score's sigmoid passes one half the boundary is one, elsewhere zero: adding and taking away the sigmoid, a real number, changes nothing. -/
theorem marks_apply (c : Dev nD) (t : Fin cfg0.N) (k : Fin 1024) :
    k0_pay1 (F := Ideal) (score m c t) (iblk m c 2 t) (ix2 k 0) = marks m c (at_ t k) := by
  unfold marks
  pointwise [k0_pay1, Cert.BoundariesReferenceIdeal.Read.val_main_v28, Cert.BoundariesReferenceIdeal.Read.val_main_v27, Cert.BoundariesReferenceIdeal.Read.val_main_v26,
    Cert.BoundariesReferenceIdeal.Read.val_main_v25, Cert.BoundariesReferenceIdeal.Read.val_main_v24, Cert.BoundariesReferenceIdeal.Read.val_main_v23,
    Cert.BoundariesReferenceIdeal.Read.val_main_v22, Cert.BoundariesReferenceIdeal.Read.val_main_v21, Cert.BoundariesReferenceIdeal.Read.val_main_v20,
    Cert.BoundariesReferenceIdeal.Read.val_main_v19, Cert.BoundariesReferenceIdeal.Read.val_main_v18, Cert.BoundariesReferenceIdeal.Read.val_main_v17,
    Cert.BoundariesReferenceIdeal.Read.val_main_v16, Cert.BoundariesReferenceIdeal.Read.val_main_v15, Cert.BoundariesReferenceIdeal.Read.val_main_cst,
    Cert.BoundariesReferenceIdeal.Read.val_main_cst_0, Cert.BoundariesReferenceIdeal.Read.val_main_cst_1, Cert.BoundariesReferenceIdeal.Read.val_main_cst_2]
  rw [score_apply, mask_apply, div_one']
  generalize Cert.BoundariesReferenceIdeal.Read.val_main_v14 (F := Ideal) _ _ _ _ _ _ _ = s
  change _ = (_ - Ideal.logistic s + Ideal.logistic s) * _
  obtain ⟨r, hr⟩ := logistic_real s
  obtain ⟨x, hx, hy⟩ := bit_real (decide (Ideal.ofBits FTy.f32 1056964608#32 < Ideal.logistic s))
  rw [hx]
  refine congrArg (· * _) ?_
  change _ = FloatOps.uitofp (F := Ideal) .f32 (BitVec.ofBool (decide (Ideal.ofBits FTy.f32 1056964608#32 < Ideal.logistic s))) - _ + _
  rw [hy, hr]
  change ((x : ℝ) : EReal) = ((x : ℝ) : EReal) - ((r : ℝ) : EReal) + ((r : ℝ) : EReal)
  rw [← EReal.coe_sub, ← EReal.coe_add, sub_add_cancel]

end Cert.Boundary
-- ==== Proof.Prefix.lean ====
module

public import proofs.«01_k».proof.Defs
public import proofs.«01_k».proof.Proof.Score
public import proofs.«01_k».proof.Proof.Gen.BoundariesIdeal.Value
public import proofs.«01_k».proof.Proof.Gen.BoundariesReferenceIdeal.Run
public import proofs.«01_k».proof.Proof.Gen.BoundariesReferenceIdeal.Read
public import Idealize.ShloMosaic.Lib.Pipeline.ValueKit
public import Idealize.ShloMosaic.Lib.Claim
public import Idealize.ShloMosaic.Lib.IdealHost
public import Idealize.ShloMosaic.Lib.KernelVsHost
public import Idealize.ShloMosaic.Lib.Pointwise

@[expose] public section

noncomputable section

namespace Cert.Boundary

open Cert.BoundariesIdeal Cert.BoundariesIdeal.Gen Cert.BoundariesIdeal.Value
open Idealize.ShloMosaic Idealize.ShloMosaic.TcCoe Idealize.SL.Sem
open scoped BigOperators

/-- Small numbers as words compare as themselves for equality; the word of the answer is one or zero. -/
theorem eq_word (x y : Fin 1024) :
    FloatOps.sitofp (F := Ideal) .f32 (BitVec.setWidth 32 (IntOp.cmpi .eq (BitVec.ofNat 32 x.val) (BitVec.ofNat 32 y.val))) = ((if x = y then (1 : EReal) else 0) : EReal) := by
  have h : (BitVec.ofNat 32 x.val == BitVec.ofNat 32 y.val) = decide (x = y) := by
    rw [Bool.eq_iff_iff, beq_iff_eq, decide_eq_true_iff, ← BitVec.toNat_inj, BitVec.toNat_ofNat, BitVec.toNat_ofNat, Fin.ext_iff]
    have := x.isLt; have := y.isLt
    omega
  change (((((BitVec.ofBool (BitVec.ofNat 32 x.val == BitVec.ofNat 32 y.val)).setWidth 32).toInt : ℤ) : ℝ) : EReal) = _
  rw [toInt_setWidth_bit, h]
  by_cases e : x = y <;> simp [e]

/-- Small numbers as words compare as themselves for order. -/
theorem le_word (x y : Fin 1024) :
    FloatOps.sitofp (F := Ideal) .f32 (BitVec.setWidth 32 (IntOp.cmpi .sle (BitVec.ofNat 32 x.val) (BitVec.ofNat 32 y.val))) = ((if x.val ≤ y.val then (1 : EReal) else 0) : EReal) := by
  have hx : ∀ z : Fin 1024, (BitVec.ofNat 32 z.val).toInt = (z.val : ℤ) := fun z => by
    have := z.isLt
    rw [BitVec.toInt_eq_toNat_of_lt (by rw [BitVec.toNat_ofNat]; omega), BitVec.toNat_ofNat, Nat.mod_eq_of_lt (by omega)]
  have h : (BitVec.ofNat 32 x.val).sle (BitVec.ofNat 32 y.val) = decide (x.val ≤ y.val) := by
    rw [BitVec.sle, hx, hx]
    simp
  change (((((BitVec.ofBool ((BitVec.ofNat 32 x.val).sle (BitVec.ofNat 32 y.val))).setWidth 32).toInt : ℤ) : ℝ) : EReal) = _
  rw [toInt_setWidth_bit, h]
  by_cases e : x.val ≤ y.val <;> simp [e]

/-- What a block stores as segment ids, with the two constant matrices in place: the carry, plus the boundaries up to the position, less the boundary at it. -/
theorem pay2_apply (s : FVec Ideal S1024x1 .f32) (x : Vec Ideal S1x1x1024x1 .f32) (a : Elt Ideal .f32) (j : Fin 1024) :
    k0_pay2 (F := Ideal) s x (k0_pay5 (F := Ideal)) (k0_pay6 (F := Ideal)) a (ix4 0 0 0 j)
      = FloatOps.fptosi (F := Ideal) (φ := .f32) 32
          (((a : EReal) + ∑ k : Fin 1024, (if k.val ≤ j.val then (k0_pay1 (F := Ideal) s x (ix2 k 0) : EReal) else 0)) - (k0_pay1 (F := Ideal) s x (ix2 j 0) : EReal) : EReal) := by
  pointwise [k0_pay2, k0_pay5, k0_pay6]
  have h1 : ∀ y : Fin 1024, (∑ z : Fin 1024, (k0_pay1 (F := Ideal) s x (ix2 z 0) : EReal)
      * FloatOps.sitofp (F := Ideal) .f32 (BitVec.setWidth 32 (IntOp.cmpi .eq (BitVec.ofNat 32 z.val) (BitVec.ofNat 32 y.val)))) = k0_pay1 (F := Ideal) s x (ix2 y 0) := fun y => by
    refine (Finset.sum_congr rfl fun z _ => congrArg (_ * ·) (eq_word z y)).trans ?_
    simp only [mul_ite, mul_one, mul_zero, Finset.sum_ite_eq', Finset.mem_univ, if_true]
  refine congrArg (FloatOps.fptosi (F := Ideal) (φ := .f32) 32) (congrArg₂ (fun u v : EReal => ((a : EReal) + u) - v) (Finset.sum_congr rfl fun y _ => ?_) (h1 j))
  refine (congrArg₂ (fun u v : EReal => u * v) (h1 y) (le_word y j)).trans ?_
  rw [mul_ite, mul_one, mul_zero]

/-- The carry a block leaves: the one it found, plus all its boundaries. -/
theorem pay3_apply (s : FVec Ideal S1024x1 .f32) (x : Vec Ideal S1x1x1024x1 .f32) (a : Elt Ideal .f32) :
    k0_pay3 (F := Ideal) s x a = ((a : EReal) + ∑ k : Fin 1024, (k0_pay1 (F := Ideal) s x (ix2 k 0) : EReal) : EReal) := by
  pointwise [k0_pay3]
  refine congrArg (fun u : EReal => (a : EReal) + u) (Finset.sum_congr rfl fun y _ => ?_)
  rw [Fin.sum_univ_one]

/-- A row's boundaries are those of its first half and those of its second. -/
theorem sum_halves (M : Fin 2048 → EReal) :
    (∑ n : Fin 2048, M n) = (∑ k : Fin 1024, M ⟨k.val, by omega⟩) + ∑ k : Fin 1024, M ⟨1024 + k.val, by omega⟩ :=
  Fin.sum_univ_add (a := 1024) (b := 1024) M

/-- The boundaries of a row up to a position, by the half the position lies in. -/
theorem sum_upto (M : Fin 2048 → EReal) (q : ℕ) (hq : q < 2) (j : Fin 1024) :
    (∑ n : Fin 2048, if n.val ≤ 1024 * q + j.val then M n else 0)
      = (if q = 0 then 0 else ∑ k : Fin 1024, M ⟨k.val, by omega⟩) + ∑ k : Fin 1024, (if k.val ≤ j.val then M ⟨1024 * q + k.val, by omega⟩ else 0) := by
  rw [sum_halves]
  obtain rfl | rfl : q = 0 ∨ q = 1 := by omega
  · rw [if_pos rfl, zero_add]
    refine (congrArg₂ (· + ·) (Finset.sum_congr rfl fun k _ => ?_) (Finset.sum_eq_zero fun k _ => ?_)).trans (add_zero _)
    · simp only [Nat.mul_zero, Nat.zero_add]
    · exact if_neg (by have := j.isLt; dsimp only; omega)
  · rw [if_neg one_ne_zero]
    refine congrArg₂ (· + ·) (Finset.sum_congr rfl fun k _ => ?_) (Finset.sum_congr rfl fun k _ => ?_)
    · exact if_pos (by have := k.isLt; dsimp only; omega)
    · simp only [Nat.mul_one, Nat.add_le_add_iff_left]

/-- Folding additions over a list adds up the terms. -/
theorem foldl_sum {α : Type} (f : α → EReal) (l : List α) (v : EReal) : l.foldl (fun r n => r + f n) v = v + (l.map f).sum := by
  induction l generalizing v with
  | nil => simp
  | cons a l ih => rw [List.foldl_cons, ih, List.map_cons, List.sum_cons, add_assoc]

/-- The window's positions, 2048 of them, in one row. -/
def lane : Fin 2048 ≃ (⟨2, ![1, 2048]⟩ : Shape).Idx where
  toFun k := ix2 0 k
  invFun w := w 1
  left_inv _ := rfl
  right_inv w := by
    funext a
    refine Fin.cases ?_ (fun b => ?_) a
    · exact Subsingleton.elim (α := Fin 1) _ _
    · obtain rfl := Subsingleton.elim b 0
      rfl

/-- A windowed sum as a sum over the window's positions, a position outside the operand counting as the initial value. -/
theorem window_sum {s t : Shape} (window strides lo hi : Fin s.rank → Nat) (h : s.ReduceWindows window strides lo hi t) (x : s.Idx → EReal) (v : EReal) (j : t.Idx) :
    Ideal.hostReduceWindowAdd window strides lo hi h x v j
      = v + ∑ w : (⟨s.rank, window⟩ : Shape).Idx, (if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else v) := by
  unfold Ideal.hostReduceWindowAdd Host.reduceWindow
  refine (foldl_sum _ _ _).trans (congrArg (v + ·) ?_)
  rw [← Fin.sum_univ_def]
  refine (Finset.sum_congr rfl fun n _ => ?_).trans (Equiv.sum_comp (⟨s.rank, window⟩ : Shape).rowMajor.symm (fun w : (⟨s.rank, window⟩ : Shape).Idx =>
    if hin : ∀ a, lo a ≤ (j (a.cast h.1.symm)).val * strides a + (w a).val ∧ (j (a.cast h.1.symm)).val * strides a + (w a).val - lo a < s.size a
      then x (fun a => ⟨(j (a.cast h.1.symm)).val * strides a + (w a).val - lo a, (hin a).2⟩) else v))
  by_cases hin : ∀ a, lo a ≤ (j (a.cast h.1.symm)).val * strides a + ((⟨s.rank, window⟩ : Shape).rowMajor.symm n a).val
      ∧ (j (a.cast h.1.symm)).val * strides a + ((⟨s.rank, window⟩ : Shape).rowMajor.symm n a).val - lo a < s.size a
  · refine (dif_pos hin).trans (Eq.symm ?_)
    exact dif_pos hin
  · refine (dif_neg hin).trans (Eq.symm ?_)
    exact dif_neg hin

/-- Sums over a window of 2048 that ends at a position are the row's sums up to it. -/
theorem running (h : S8x2048.ReduceWindows (![1, 2048] : Fin 2 → Nat) ![1, 1] ![0, 2047] ![0, 0] S8x2048) (x : S8x2048.Idx → EReal) (b : Fin 8) (j : Fin 2048) :
    Ideal.hostReduceWindowAdd ![1, 2048] ![1, 1] ![0, 2047] ![0, 0] h x 0 (ix2 b j) = ∑ n : Fin 2048, if n.val ≤ j.val then x (ix2 b n) else 0 := by
  rw [window_sum, zero_add]
  refine Fintype.sum_equiv (lane.symm.trans (Equiv.addRight (j + 1))) _ _ fun w => ?_
  obtain ⟨k, rfl⟩ := lane.surjective w
  rw [Equiv.trans_apply, Equiv.symm_apply_apply, Equiv.coe_addRight]
  have hk := k.isLt
  have hj := j.isLt
  have e : (k + (j + 1) : Fin 2048).val = (k.val + j.val + 1) % 2048 := by
    rw [Fin.val_add, Fin.val_add]
    change (k.val + (j.val + 1) % 2048) % 2048 = _
    omega
  by_cases hi : 2047 ≤ j.val + k.val
  · rw [dif_pos (fun a => ?_), if_pos (by rw [e]; omega)]
    · refine congrArg x (funext fun a => Fin.ext ?_)
      refine Fin.cases ?_ (fun a => ?_) a
      · change b.val * 1 + 0 - 0 = b.val
        omega
      · obtain rfl := Subsingleton.elim a 0
        change j.val * 1 + k.val - 2047 = (k + (j + 1) : Fin 2048).val
        rw [e]
        omega
    · refine Fin.cases ?_ (fun a => ?_) a
      · change 0 ≤ b.val * 1 + 0 ∧ b.val * 1 + 0 - 0 < 8
        have := b.isLt
        omega
      · obtain rfl := Subsingleton.elim a 0
        change 2047 ≤ j.val * 1 + k.val ∧ j.val * 1 + k.val - 2047 < 2048
        omega
  · rw [dif_neg (fun hin => hi ?_), if_neg (by rw [e]; omega)]
    have := (hin 1).1
    change 2047 ≤ j.val * 1 + k.val at this
    omega

end Cert.Boundary
-- ==== Proof.State.lean ====
module

public import proofs.«01_k».proof.Defs
public import proofs.«01_k».proof.Proof.Score
public import proofs.«01_k».proof.Proof.Prefix
public import proofs.«01_k».proof.Proof.Gen.BoundariesIdeal.Value
public import proofs.«01_k».proof.Proof.Gen.BoundariesReferenceIdeal.Run
public import proofs.«01_k».proof.Proof.Gen.BoundariesReferenceIdeal.Read
public import Idealize.ShloMosaic.Lib.Pipeline.ValueKit
public import Idealize.ShloMosaic.Lib.Pipeline.ReadBack
public import Idealize.ShloMosaic.Lib.Claim
public import Idealize.ShloMosaic.Lib.IdealHost
public import Idealize.ShloMosaic.Lib.KernelVsHost
public import Idealize.ShloMosaic.Lib.Pointwise

@[expose] public section

noncomputable section

namespace Cert.Boundary

open Cert.BoundariesIdeal Cert.BoundariesIdeal.Gen Cert.BoundariesIdeal.Value
open Idealize.ShloMosaic Idealize.ShloMosaic.TcCoe Idealize.SL.Sem
open scoped BigOperators

variable (m : (ℓ : Loc nD τ sig) → Buf (Elt Ideal) ℓ)

/-- What a point leaves when it found the carry `a`: its two results, the two constant matrices, the next carry. -/
abbrev row (c : Dev nD) (t : Fin cfg0.N) (a : Elt Ideal .f32) :
    Vec Ideal S1x1x1x1024 .i32 × Vec Ideal S1x1x128 .f32 × Vec Ideal S1024x1024 .bf16 × Vec Ideal S1024x1024 .bf16 × Vec Ideal S1x1 .f32 :=
  (k0_pay2 (F := Ideal) (score m c t) (iblk m c 2 t) (k0_pay5 (F := Ideal)) (k0_pay6 (F := Ideal)) a, k0_pay4 (F := Ideal) (score m c t) (iblk m c 2 t) a,
    k0_pay5 (F := Ideal), k0_pay6 (F := Ideal), fun _ => k0_pay3 (F := Ideal) (score m c t) (iblk m c 2 t) a)

/-- The first point builds the constant matrices and starts the carry at zero. -/
theorem step_first (c : Dev nD) (t : Fin cfg0.N) (acc) (h0 : t.val % 16 = 0) (h1 : t.val % 2 = 0) :
    stAt0 m c t.val t.isLt acc = row m c t (FloatOps.ofBits (F := Ideal) .f32 0#32) := by
  rw [stAt0_A m c t acc h0 h1]
  frame_out
  rfl

/-- The first point of a later row keeps the matrices and starts the carry at zero. -/
theorem step_even (c : Dev nD) (t : Fin cfg0.N) (acc) (h0 : ¬t.val % 16 = 0) (h1 : t.val % 2 = 0)
    (he : acc.2.2.1 = k0_pay5 (F := Ideal)) (ht : acc.2.2.2.1 = k0_pay6 (F := Ideal)) :
    stAt0 m c t.val t.isLt acc = row m c t (FloatOps.ofBits (F := Ideal) .f32 0#32) := by
  rw [stAt0_C m c t acc h0 h1]
  unfold sout0_C_0 sout0_C_1
  frame_out
  rw [read_unread_whole, read_unread_whole, he, ht]
  rfl

/-- The second point of a row keeps the matrices and takes the carry the first left. -/
theorem step_odd (c : Dev nD) (t : Fin cfg0.N) (acc) (a : Elt Ideal .f32) (h0 : ¬t.val % 16 = 0) (h1 : ¬t.val % 2 = 0)
    (he : acc.2.2.1 = k0_pay5 (F := Ideal)) (ht : acc.2.2.2.1 = k0_pay6 (F := Ideal)) (ha : acc.2.2.2.2 = fun _ => a) :
    stAt0 m c t.val t.isLt acc = row m c t a := by
  rw [stAt0_B m c t acc h0 h1]
  unfold sout0_B_0 sout0_B_1
  frame_out
  rw [read_unread_whole, read_unread_whole, read_unread_whole, he, ht, ha]
  rfl

/-- The boundaries of the positions before a block in its row. -/
abbrev carry (c : Dev nD) (t : Fin cfg0.N) : EReal :=
  if t.val % 2 = 0 then 0 else ∑ k : Fin 1024, (marks m c (ix2 (⟨t.val / 2, (idx t).2.2.2.2.2.2.2⟩ : Fin 8) (⟨k.val, by omega⟩ : Fin 2048)) : EReal)

/-- The carry a row's first point leaves is the number of boundaries of its block. -/
theorem carry_next (c : Dev nD) (n : ℕ) (hn : n + 1 < cfg0.N) (h1 : ¬(n + 1) % 2 = 0) :
    k0_pay3 (F := Ideal) (score m c ⟨n, Nat.lt_of_succ_lt hn⟩) (iblk m c 2 ⟨n, Nat.lt_of_succ_lt hn⟩) (carry m c ⟨n, Nat.lt_of_succ_lt hn⟩ : EReal) = carry m c ⟨n + 1, hn⟩ := by
  rw [pay3_apply]
  unfold carry
  rw [if_pos (show (⟨n, Nat.lt_of_succ_lt hn⟩ : Fin cfg0.N).val % 2 = 0 by dsimp only; omega), if_neg (show ¬(⟨n + 1, hn⟩ : Fin cfg0.N).val % 2 = 0 from h1), zero_add]
  refine Finset.sum_congr rfl fun k _ => (marks_apply m c ⟨n, Nat.lt_of_succ_lt hn⟩ k).trans (congrArg (marks m c) ?_)
  refine congrArg₂ (fun (u : Fin 8) (v : Fin 2048) => (ix2 u v : S8x2048.Idx)) (Fin.ext ?_) (Fin.ext ?_)
  · dsimp only
    omega
  · dsimp only
    omega

/-- The zero a row starts from. -/
theorem carry_start (c : Dev nD) (t : Fin cfg0.N) (h1 : t.val % 2 = 0) : FloatOps.ofBits (F := Ideal) .f32 0#32 = (carry m c t : EReal) :=
  Ideal.ofBits_zero_f32.trans (if_pos h1).symm

/-- What every point leaves: its results from the carry of its row, and the matrices. -/
theorem outs (c : Dev nD) : ∀ (n : ℕ) (hn : n < cfg0.N), outsAt0 m c n hn = row m c ⟨n, hn⟩ (carry m c ⟨n, hn⟩ : EReal)
  | 0, hn => by
    rw [outsAt0_zero]
    refine (step_first m c ⟨0, hn⟩ _ (Nat.zero_mod _) (Nat.zero_mod _)).trans ?_
    rw [carry_start m c ⟨0, hn⟩ (Nat.zero_mod _)]
  | n + 1, hn => by
    have h16 := lt_of_lt_of_eq hn (show cfg0.N = 16 from N_0)
    have h0 : ¬(n + 1) % 16 = 0 := by omega
    rw [outsAt0_succ, outs c n (Nat.lt_of_succ_lt hn)]
    by_cases h1 : (n + 1) % 2 = 0
    · refine (step_even m c ⟨n + 1, hn⟩ _ h0 h1 rfl rfl).trans ?_
      rw [carry_start m c ⟨n + 1, hn⟩ h1]
    · exact step_odd m c ⟨n + 1, hn⟩ _ _ h0 h1 rfl rfl (funext fun _ => carry_next m c n hn h1)

end Cert.Boundary
-- ==== Proof.Segments.lean ====
module

public import proofs.«01_k».proof.Defs
public import proofs.«01_k».proof.Proof.Score
public import proofs.«01_k».proof.Proof.Prefix
public import proofs.«01_k».proof.Proof.State
public import proofs.«01_k».proof.Proof.Gen.Boundaries.Frame
public import proofs.«01_k».proof.Proof.Gen.BoundariesIdeal.Frame
public import proofs.«01_k».proof.Proof.Gen.BoundariesIdeal.Value
public import proofs.«01_k».proof.Proof.Gen.BoundariesReferenceIdeal.Run
public import proofs.«01_k».proof.Proof.Gen.BoundariesReferenceIdeal.Read
public import Idealize.ShloMosaic.Lib.Pipeline.ValueKit
public import Idealize.ShloMosaic.Lib.Pipeline.ReadBack
public import Idealize.ShloMosaic.Lib.Claim
public import Idealize.ShloMosaic.Lib.IdealHost
public import Idealize.ShloMosaic.Lib.KernelVsHost
public import Idealize.ShloMosaic.Lib.Pointwise

@[expose] public section

noncomputable section

namespace Cert.Boundary

open Cert.BoundariesIdeal Cert.BoundariesIdeal.Gen Cert.BoundariesIdeal.Value
open Idealize.ShloMosaic Idealize.ShloMosaic.TcCoe Idealize.SL.Sem
open scoped BigOperators

variable (m : (ℓ : Loc nD τ sig) → Buf (Elt Ideal) ℓ)

/-- The reference's segment ids of a device's seven arguments. -/
abbrev segments (c : Dev nD) : Vec Ideal S8x2x1x1024 .i32 :=
  Cert.BoundariesReferenceIdeal.Read.val_main_v33 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- The reference's boundary counts of the rows, repeated along 128 lanes. -/
abbrev rowCounts (c : Dev nD) : Vec Ideal S8x1x128 .f32 :=
  Cert.BoundariesReferenceIdeal.Read.val_main_v35 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- Where the result windows' blocks lie. -/
theorem idx_out : ∀ t : Fin cfg0.N, win0_7.index t = ![t.val / 2, t.val % 2, 0, 0] ∧ win0_8.index t = ![t.val / 2, 0, 0] :=
  (by decide +kernel : ∀ t : Fin grid0.N, _)

/-- The reference's segment id at a position: the row's boundaries up to it, less the one at it. -/
theorem segments_apply (c : Dev nD) (i : S8x2x1x1024.Idx) (b : Fin 8) (j : Fin 2048) (hb : (i 0).val = b.val) (hj : 1024 * (i 1).val + (i 3).val = j.val) :
    segments m c i = FloatOps.fptosi (F := Ideal) (φ := .f32) 32
      ((∑ n : Fin 2048, if n.val ≤ j.val then (marks m c (ix2 b n) : EReal) else 0) - (marks m c (ix2 b j) : EReal) : EReal) := by
  have e : Cert.BoundariesReferenceIdeal.Read.idx_main_v33 i = ix2 b j := by
    have h2 : (i 2).val < 1 := (i 2).isLt
    have h3 : (i 3).val < 1024 := (i 3).isLt
    have h1 : (i 1).val < 2 := (i 1).isLt
    funext a
    refine Fin.ext (Fin.cases ?_ (fun a => ?_) a)
    · change ((((i 0).val * 2 + (i 1).val) * 1 + (i 2).val) * 1024 + (i 3).val) / 2048 = b.val
      omega
    · obtain rfl := Subsingleton.elim a 0
      change ((((i 0).val * 2 + (i 1).val) * 1 + (i 2).val) * 1024 + (i 3).val) % 2048 = j.val
      omega
  refine (Cert.BoundariesReferenceIdeal.Read.val_main_v33_apply ..).trans ?_
  rw [e, Cert.BoundariesReferenceIdeal.Read.val_main_v32_apply, Cert.BoundariesReferenceIdeal.Read.val_main_v30_apply]
  refine congrArg (FloatOps.fptosi (F := Ideal) (φ := .f32) 32) (congrArg (fun u : EReal => u - (marks m c (ix2 b j) : EReal)) ?_)
  unfold Cert.BoundariesReferenceIdeal.Read.val_main_v29 Host.reduceWindowAdd
  rw [Ideal.hostReduceWindowAdd_def, Cert.BoundariesReferenceIdeal.Read.val_main_call1_call0_v0_apply]
  refine (congrArg (fun v : EReal => Ideal.hostReduceWindowAdd _ _ _ _ _ _ v (ix2 b j)) Ideal.ofBits_zero_f32).trans ?_
  exact running _ (marks m c) b j

/-- The reference's count of a row. -/
theorem rowCounts_apply (c : Dev nD) (i : S8x1x128.Idx) (b : Fin 8) (hb : (i 0).val = b.val) :
    rowCounts m c i = ((∑ n : Fin 2048, (marks m c (ix2 b n) : EReal)) : EReal) := by
  refine (Cert.BoundariesReferenceIdeal.Read.val_main_v35_apply ..).trans ?_
  rw [Cert.BoundariesReferenceIdeal.Read.val_main_v34_apply, Cert.BoundariesReferenceIdeal.Read.val_main_v31_apply]
  refine (congrArg₂ (· + ·) Ideal.ofBits_zero_f32 rfl).trans ((zero_add _).trans (Finset.sum_congr rfl fun n _ => congrArg (marks m c) ?_))
  funext a
  refine Fin.ext (Fin.cases ?_ (fun a => ?_) a)
  · exact hb
  · obtain rfl := Subsingleton.elim a 0
    rfl

/-- What a point stores as segment ids is the reference's at its place. -/
theorem block_segments (c : Dev nD) (t : Fin cfg0.N) (j : Fin 1024) (i : S8x2x1x1024.Idx) (h0 : (i 0).val = t.val / 2) (h1 : (i 1).val = t.val % 2) (h3 : (i 3).val = j.val) :
    k0_pay2 (F := Ideal) (score m c t) (iblk m c 2 t) (k0_pay5 (F := Ideal)) (k0_pay6 (F := Ideal)) (carry m c t : EReal) (ix4 0 0 0 j) = segments m c i := by
  rw [pay2_apply, segments_apply m c i ⟨t.val / 2, (idx t).2.2.2.2.2.2.2⟩ ⟨1024 * (t.val % 2) + j.val, by omega⟩ h0 (by rw [h1, h3])]
  refine congrArg (FloatOps.fptosi (F := Ideal) (φ := .f32) 32) (congrArg₂ (fun u v : EReal => u - v) ?_ (marks_apply m c t j))
  rw [sum_upto (fun n => marks m c (ix2 (⟨t.val / 2, (idx t).2.2.2.2.2.2.2⟩ : Fin 8) n)) (t.val % 2) (by omega) j]
  refine congrArg (fun u : EReal => carry m c t + u) (Finset.sum_congr rfl fun k _ => ?_)
  rw [marks_apply]

/-- What a row's second point stores as its count is the reference's. -/
theorem block_counts (c : Dev nD) (t : Fin cfg0.N) (ht : t.val % 2 = 1) (y : S1x1x128.Idx) (i : S8x1x128.Idx) (h0 : (i 0).val = t.val / 2) :
    k0_pay4 (F := Ideal) (score m c t) (iblk m c 2 t) (carry m c t : EReal) y = rowCounts m c i := by
  refine (show _ = k0_pay3 (F := Ideal) (score m c t) (iblk m c 2 t) (carry m c t : EReal) from rfl).trans ?_
  rw [pay3_apply, rowCounts_apply m c i ⟨t.val / 2, (idx t).2.2.2.2.2.2.2⟩ h0, sum_halves]
  refine congrArg₂ (fun u v : EReal => u + v) (if_neg (by omega)) (Finset.sum_congr rfl fun k _ => ?_)
  rw [marks_apply]
  refine congrArg (marks m c) (congrArg (fun v : Fin 2048 => (ix2 (⟨t.val / 2, (idx t).2.2.2.2.2.2.2⟩ : Fin 8) v : S8x2048.Idx)) (Fin.ext ?_))
  dsimp only
  omega

/-- A position of a block is its lane. -/
theorem lane_idx (y : S1x1x1x1024.Idx) : y = ix4 0 0 0 (y 3) := by
  funext a
  match a with
  | ⟨0, _⟩ => exact Subsingleton.elim (α := Fin 1) _ _
  | ⟨1, _⟩ => exact Subsingleton.elim (α := Fin 1) _ _
  | ⟨2, _⟩ => exact Subsingleton.elim (α := Fin 1) _ _
  | ⟨3, _⟩ => rfl

/-- After the call the segment ids are the reference's. -/
theorem final7 (c : Dev nD) : (dats m 0 c).arrAt 7 cfg0.N = segments m c := by
  refine (dats m 0 c).arrAt_eq_of_covers 7 _ (by decide +kernel) fun t _ y => ?_
  have hi0 : (((win0_7.blk t).view.emb y : S8x2x1x1024.Idx) 0).val = t.val / 2 := by
    blk_simp [idx_out t]
  have hi1 : (((win0_7.blk t).view.emb y : S8x2x1x1024.Idx) 1).val = t.val % 2 := by
    blk_simp [idx_out t]
  have hi3 : (((win0_7.blk t).view.emb y : S8x2x1x1024.Idx) 3).val = (y 3).val := by
    blk_simp [idx_out t]
  blk_simp
  rw [after0_7, outs]
  exact (congrArg (k0_pay2 (F := Ideal) (score m c t) (iblk m c 2 t) (k0_pay5 (F := Ideal)) (k0_pay6 (F := Ideal)) (carry m c t : EReal)) (lane_idx y)).trans
    (block_segments m c t ((y : S1x1x1x1024.Idx) 3) _ hi0 hi1 hi3)

/-- After the call the counts are the reference's. -/
theorem final8 (c : Dev nD) : (dats m 0 c).arrAt 8 cfg0.N = rowCounts m c := by
  refine (dats m 0 c).arrAt_eq_of_covers 8 _ (by decide +kernel) fun t hf y => ?_
  have hi0 : (((win0_8.blk t).view.emb y : S8x1x128.Idx) 0).val = t.val / 2 := by
    blk_simp [idx_out t]
  blk_simp
  rw [after0_8, outs]
  exact block_counts m c t ((flush0_8 t).mp hf) y _ hi0

/-- The segment ids and the counts of the call are the reference's over the extended reals. -/
theorem algebraic : Cert.algebraic_BoundariesIdeal_BoundariesReferenceIdeal := fun m g m' g' _ hag =>
  ⟨fun c => segments m c, fun c => rowCounts m c,
    (θ_run Cert.BoundariesIdeal.defs _ _).mono
      (fun _ h c => ⟨(h c).1.trans (final7 m c), (h c).2.1.trans (final8 m c), (h c).2.2⟩)
      (Cert.BoundariesIdeal.Value.run_blocks m g),
    (θ_run Cert.BoundariesReferenceIdeal.defs _ _).mono
      (fun _ h c => by
        obtain ⟨e0, e1, e2, e3, e4, e5, e6⟩ := hag c
        refine ⟨(h c).1.trans ((Cert.BoundariesReferenceIdeal.Read.val_main_v33_eq m' c).trans ?_), (h c).2.1.trans ((Cert.BoundariesReferenceIdeal.Read.val_main_v35_eq ..).trans ?_), (h c).2.2⟩
        · rw [e0, e1, e2, e3, e4, e5, e6]
        · rw [e0, e1, e2, e3, e4, e5, e6])
      (Cert.BoundariesReferenceIdeal.Value.run (F := Ideal) m' g')⟩

/-- The call as compiled terminates and keeps its arguments. -/
theorem frame : Cert.quiescent_Boundaries := fun m ρ _ => Cert.Boundaries.Gen.frame m ρ

/-- The call as idealized terminates and keeps its arguments. -/
theorem frame_ideal : Cert.quiescent_BoundariesIdeal := fun m ρ _ => Cert.BoundariesIdeal.Gen.frame m ρ

/-- The reference of the boundaries terminates and keeps its arguments. -/
theorem frame_reference : Cert.quiescent_BoundariesReferenceIdeal := fun m ρ _ =>
  (θ_run Cert.BoundariesReferenceIdeal.defs _ _).mono (fun r h => ⟨fun c => (h c).2.2, sem_eq_zero_of_no_sems (by decide) r.2⟩) (Cert.BoundariesReferenceIdeal.Value.run (F := Ideal) m ρ)

end Cert.Boundary
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_segment_numbers
public import proofs.«01_k».proof.Proof.Gen.Boundaries
public import proofs.«01_k».proof.Proof.Gen.Boundaries.Skeleton
public import proofs.«01_k».proof.Proof.Gen.BoundariesIdeal
public import proofs.«01_k».proof.Proof.Gen.BoundariesIdeal.Skeleton
public import proofs.«01_k».proof.Proof.Gen.BoundariesIdeal.Frame
public import proofs.«01_k».proof.Proof.Gen.Boundaries.Frame
public import proofs.«01_k».proof.Proof.Gen.BoundariesIdeal.Value
public import proofs.«01_k».proof.Proof.Gen.BoundariesReferenceIdeal
public import proofs.«01_k».proof.Proof.Gen.BoundariesReferenceIdeal.Run
public import proofs.«01_k».proof.Proof.Gen.BoundariesReferenceIdeal.Read
public import proofs.«01_k».proof.Proof.Gen.Counts
public import proofs.«01_k».proof.Proof.Gen.Counts.Skeleton
public import proofs.«01_k».proof.Proof.Gen.CountsIdeal
public import proofs.«01_k».proof.Proof.Gen.CountsIdeal.Skeleton
public import proofs.«01_k».proof.Proof.Gen.CountsIdeal.Frame
public import proofs.«01_k».proof.Proof.Gen.Counts.Frame
public import proofs.«01_k».proof.Proof.Gen.CountsIdeal.Value
public import proofs.«01_k».proof.Proof.Gen.CountsReferenceIdeal
public import proofs.«01_k».proof.Proof.Gen.CountsReferenceIdeal.Run
public import proofs.«01_k».proof.Proof.Gen.CountsReferenceIdeal.Read
public import proofs.«01_k».proof.Proof.Frames
public import proofs.«01_k».proof.Proof.Equal
public import proofs.«01_k».proof.Proof.Totals
public import proofs.«01_k».proof.Proof.Segments
public import Idealize.ShloMosaic.Adequacy
public import Idealize.ShloMosaic.Init

@[expose] public section

noncomputable section

namespace Cert.Proof

open Idealize.ShloMosaic Idealize.SL.Sem Cert.Kernel

/-- Every claim. Of the SparseCore call: the frames of the compiled kernel, of the idealized one and of the reference, the idealization
    without a rewrite, and the equality of the results over the extended reals. Of the call that makes the segment ids and of the call that
    makes the totals: the same. -/
theorem claim : Cert.Claim := ⟨Cert.Kernel.Gen.facts, Cert.KernelIdeal.Gen.facts, Cert.ReferenceIdeal.Gen.facts,
  Cert.Boundaries.Gen.facts, Cert.BoundariesIdeal.Gen.facts, Cert.BoundariesReferenceIdeal.Gen.facts,
  Cert.Counts.Gen.facts, Cert.CountsIdeal.Gen.facts, Cert.CountsReferenceIdeal.Gen.facts, Cert.Pre_segment_numbers.Gen.facts,
  frame_kernel, frame_kernelIdeal, frame_reference, frame_reference_pre,
  Cert.Boundary.frame, Cert.Boundary.frame_ideal, Cert.Boundary.frame_reference,
  Cert.Totals.frame, Cert.Totals.frame_ideal, Cert.Totals.frame_reference,
  trivial, algebraic, trivial, Cert.Boundary.algebraic, trivial, Cert.Totals.algebraic⟩

end Cert.Proof

end
